-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_KernelFfnIdeal_finite_ffn [hPre_finite_ffn : Cert.Pre_finite_ffn.Facts] (m : (ℓ : Loc Cert.KernelFfnIdeal.nD Cert.KernelFfnIdeal.τ Cert.KernelFfnIdeal.sig) → Buf (Elt Ideal) ℓ) : Prop :=
  ∀ c : Dev Cert.KernelFfnIdeal.nD,
    (Cert.Pre_finite_ffn.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3))).1 = (fun _ => 1#1)
    ∧ (Cert.Pre_finite_ffn.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3))).2.1 = (fun _ => 1#1)
    ∧ (Cert.Pre_finite_ffn.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3))).2.2.1 = (fun _ => 1#1)
    ∧ (Cert.Pre_finite_ffn.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3))).2.2.2 = (fun _ => 1#1)

def Pre_ReferenceFfnIdeal (m : (ℓ : Loc Cert.ReferenceFfnIdeal.nD Cert.ReferenceFfnIdeal.τ Cert.ReferenceFfnIdeal.sig) → Buf (Elt Ideal) ℓ) : Prop :=
  True

def Pre_ReferenceFfnIdeal_finite_ffn [hPre_finite_ffn : Cert.Pre_finite_ffn.Facts] (m : (ℓ : Loc Cert.ReferenceFfnIdeal.nD Cert.ReferenceFfnIdeal.τ Cert.ReferenceFfnIdeal.sig) → Buf (Elt Ideal) ℓ) : Prop :=
  ∀ c : Dev Cert.ReferenceFfnIdeal.nD,
    (Cert.Pre_finite_ffn.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3))).1 = (fun _ => 1#1)
    ∧ (Cert.Pre_finite_ffn.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3))).2.1 = (fun _ => 1#1)
    ∧ (Cert.Pre_finite_ffn.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3))).2.2.1 = (fun _ => 1#1)
    ∧ (Cert.Pre_finite_ffn.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3))).2.2.2 = (fun _ => 1#1)

def Pre_KernelFfnX (m : (ℓ : Loc Cert.KernelFfnX.nD Cert.KernelFfnX.τ Cert.KernelFfnX.sig) → Buf (Elt Bits) ℓ) : Prop :=
  True

def Pre_KernelFfnXIdeal (m : (ℓ : Loc Cert.KernelFfnXIdeal.nD Cert.KernelFfnXIdeal.τ Cert.KernelFfnXIdeal.sig) → Buf (Elt Ideal) ℓ) : Prop :=
  True

def Pre_ReferenceFfnXIdeal (m : (ℓ : Loc Cert.ReferenceFfnXIdeal.nD Cert.ReferenceFfnXIdeal.τ Cert.ReferenceFfnXIdeal.sig) → Buf (Elt Ideal) ℓ) : Prop :=
  True

def Pre_KernelFfnDown (m : (ℓ : Loc Cert.KernelFfnDown.nD Cert.KernelFfnDown.τ Cert.KernelFfnDown.sig) → Buf (Elt Bits) ℓ) : Prop :=
  True

def Pre_KernelFfnDownIdeal (m : (ℓ : Loc Cert.KernelFfnDownIdeal.nD Cert.KernelFfnDownIdeal.τ Cert.KernelFfnDownIdeal.sig) → Buf (Elt Ideal) ℓ) : Prop :=
  True

def Pre_ReferenceFfnDownIdeal (m : (ℓ : Loc Cert.ReferenceFfnDownIdeal.nD Cert.ReferenceFfnDownIdeal.τ Cert.ReferenceFfnDownIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelInX (m : (ℓ : Loc Cert.KernelInX.nD Cert.KernelInX.τ Cert.KernelInX.sig) → Buf (Elt Bits) ℓ) : Prop :=
  True

def Pre_KernelInXIdeal (m : (ℓ : Loc Cert.KernelInXIdeal.nD Cert.KernelInXIdeal.τ Cert.KernelInXIdeal.sig) → Buf (Elt Ideal) ℓ) : Prop :=
  True

def Pre_ReferenceInXIdeal (m : (ℓ : Loc Cert.ReferenceInXIdeal.nD Cert.ReferenceInXIdeal.τ Cert.ReferenceInXIdeal.sig) → Buf (Elt Ideal) ℓ) : Prop :=
  True

def Pre_KernelMix (m : (ℓ : Loc Cert.KernelMix.nD Cert.KernelMix.τ Cert.KernelMix.sig) → Buf (Elt Bits) ℓ) : Prop :=
  True

def Pre_KernelMixIdeal (m : (ℓ : Loc Cert.KernelMixIdeal.nD Cert.KernelMixIdeal.τ Cert.KernelMixIdeal.sig) → Buf (Elt Ideal) ℓ) : Prop :=
  True

def Pre_ReferenceMixIdeal (m : (ℓ : Loc Cert.ReferenceMixIdeal.nD Cert.ReferenceMixIdeal.τ Cert.ReferenceMixIdeal.sig) → Buf (Elt Ideal) ℓ) : Prop :=
  True

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelConv (m : (ℓ : Loc Cert.KernelConv.nD Cert.KernelConv.τ Cert.KernelConv.sig) → Buf (Elt Bits) ℓ) : Prop :=
  True

def Pre_KernelConvIdeal (m : (ℓ : Loc Cert.KernelConvIdeal.nD Cert.KernelConvIdeal.τ Cert.KernelConvIdeal.sig) → Buf (Elt Ideal) ℓ) : Prop :=
  True

def Pre_KernelConvIdeal_finite_conv [hPre_finite_conv : Cert.Pre_finite_conv.Facts] (m : (ℓ : Loc Cert.KernelConvIdeal.nD Cert.KernelConvIdeal.τ Cert.KernelConvIdeal.sig) → Buf (Elt Ideal) ℓ) : Prop :=
  ∀ c : Dev Cert.KernelConvIdeal.nD,
    (Cert.Pre_finite_conv.fn (F := Ideal) (m ((c.tc : Thread Cert.KernelConvIdeal.nD Cert.KernelConvIdeal.τ).loc Cert.KernelConvIdeal.main_arg0)) (m ((c.tc : Thread Cert.KernelConvIdeal.nD Cert.KernelConvIdeal.τ).loc Cert.KernelConvIdeal.main_arg1)) (m ((c.tc : Thread Cert.KernelConvIdeal.nD Cert.KernelConvIdeal.τ).loc Cert.KernelConvIdeal.main_arg2))) = (fun _ => 1#1)

def Pre_ReferenceConvIdeal (m : (ℓ : Loc Cert.ReferenceConvIdeal.nD Cert.ReferenceConvIdeal.τ Cert.ReferenceConvIdeal.sig) → Buf (Elt Ideal) ℓ) : Prop :=
  True

def Pre_ReferenceConvIdeal_finite_conv [hPre_finite_conv : Cert.Pre_finite_conv.Facts] (m : (ℓ : Loc Cert.ReferenceConvIdeal.nD Cert.ReferenceConvIdeal.τ Cert.ReferenceConvIdeal.sig) → Buf (Elt Ideal) ℓ) : Prop :=
  ∀ c : Dev Cert.ReferenceConvIdeal.nD,
    (Cert.Pre_finite_conv.fn (F := Ideal) (m ((c.tc : Thread Cert.ReferenceConvIdeal.nD Cert.ReferenceConvIdeal.τ).loc Cert.ReferenceConvIdeal.main_arg0)) (m ((c.tc : Thread Cert.ReferenceConvIdeal.nD Cert.ReferenceConvIdeal.τ).loc Cert.ReferenceConvIdeal.main_arg1)) (m ((c.tc : Thread Cert.ReferenceConvIdeal.nD Cert.ReferenceConvIdeal.τ).loc Cert.ReferenceConvIdeal.main_arg2))) = (fun _ => 1#1)

def Pre_KernelNorm (m : (ℓ : Loc Cert.KernelNorm.nD Cert.KernelNorm.τ Cert.KernelNorm.sig) → Buf (Elt Bits) ℓ) : Prop :=
  True

def Pre_KernelNormIdeal (m : (ℓ : Loc Cert.KernelNormIdeal.nD Cert.KernelNormIdeal.τ Cert.KernelNormIdeal.sig) → Buf (Elt Ideal) ℓ) : Prop :=
  True

def Pre_ReferenceNormIdeal (m : (ℓ : Loc Cert.ReferenceNormIdeal.nD Cert.ReferenceNormIdeal.τ Cert.ReferenceNormIdeal.sig) → Buf (Elt Ideal) ℓ) : Prop :=
  True

def Pre_KernelRope (m : (ℓ : Loc Cert.KernelRope.nD Cert.KernelRope.τ Cert.KernelRope.sig) → Buf (Elt Bits) ℓ) : Prop :=
  True

def Pre_KernelRopeIdeal (m : (ℓ : Loc Cert.KernelRopeIdeal.nD Cert.KernelRopeIdeal.τ Cert.KernelRopeIdeal.sig) → Buf (Elt Ideal) ℓ) : Prop :=
  True

def Pre_ReferenceRopeIdeal (m : (ℓ : Loc Cert.ReferenceRopeIdeal.nD Cert.ReferenceRopeIdeal.τ Cert.ReferenceRopeIdeal.sig) → Buf (Elt Ideal) ℓ) : Prop :=
  True

def Pre_KernelGates (m : (ℓ : Loc Cert.KernelGates.nD Cert.KernelGates.τ Cert.KernelGates.sig) → Buf (Elt Bits) ℓ) : Prop :=
  True

def Pre_KernelGatesIdeal (m : (ℓ : Loc Cert.KernelGatesIdeal.nD Cert.KernelGatesIdeal.τ Cert.KernelGatesIdeal.sig) → Buf (Elt Ideal) ℓ) : Prop :=
  True

def Pre_KernelGatesIdeal_finite_gates [hPre_finite_gates : Cert.Pre_finite_gates.Facts] (m : (ℓ : Loc Cert.KernelGatesIdeal.nD Cert.KernelGatesIdeal.τ Cert.KernelGatesIdeal.sig) → Buf (Elt Ideal) ℓ) : Prop :=
  ∀ c : Dev Cert.KernelGatesIdeal.nD,
    (Cert.Pre_finite_gates.fn (F := Ideal) (m ((c.tc : Thread Cert.KernelGatesIdeal.nD Cert.KernelGatesIdeal.τ).loc Cert.KernelGatesIdeal.main_arg0)) (m ((c.tc : Thread Cert.KernelGatesIdeal.nD Cert.KernelGatesIdeal.τ).loc Cert.KernelGatesIdeal.main_arg1)) (m ((c.tc : Thread Cert.KernelGatesIdeal.nD Cert.KernelGatesIdeal.τ).loc Cert.KernelGatesIdeal.main_arg2)) (m ((c.tc : Thread Cert.KernelGatesIdeal.nD Cert.KernelGatesIdeal.τ).loc Cert.KernelGatesIdeal.main_arg3)) (m ((c.tc : Thread Cert.KernelGatesIdeal.nD Cert.KernelGatesIdeal.τ).loc Cert.KernelGatesIdeal.main_arg4))).1 = (fun _ => 1#1)
    ∧ (Cert.Pre_finite_gates.fn (F := Ideal) (m ((c.tc : Thread Cert.KernelGatesIdeal.nD Cert.KernelGatesIdeal.τ).loc Cert.KernelGatesIdeal.main_arg0)) (m ((c.tc : Thread Cert.KernelGatesIdeal.nD Cert.KernelGatesIdeal.τ).loc Cert.KernelGatesIdeal.main_arg1)) (m ((c.tc : Thread Cert.KernelGatesIdeal.nD Cert.KernelGatesIdeal.τ).loc Cert.KernelGatesIdeal.main_arg2)) (m ((c.tc : Thread Cert.KernelGatesIdeal.nD Cert.KernelGatesIdeal.τ).loc Cert.KernelGatesIdeal.main_arg3)) (m ((c.tc : Thread Cert.KernelGatesIdeal.nD Cert.KernelGatesIdeal.τ).loc Cert.KernelGatesIdeal.main_arg4))).2.1 = (fun _ => 1#1)
    ∧ (Cert.Pre_finite_gates.fn (F := Ideal) (m ((c.tc : Thread Cert.KernelGatesIdeal.nD Cert.KernelGatesIdeal.τ).loc Cert.KernelGatesIdeal.main_arg0)) (m ((c.tc : Thread Cert.KernelGatesIdeal.nD Cert.KernelGatesIdeal.τ).loc Cert.KernelGatesIdeal.main_arg1)) (m ((c.tc : Thread Cert.KernelGatesIdeal.nD Cert.KernelGatesIdeal.τ).loc Cert.KernelGatesIdeal.main_arg2)) (m ((c.tc : Thread Cert.KernelGatesIdeal.nD Cert.KernelGatesIdeal.τ).loc Cert.KernelGatesIdeal.main_arg3)) (m ((c.tc : Thread Cert.KernelGatesIdeal.nD Cert.KernelGatesIdeal.τ).loc Cert.KernelGatesIdeal.main_arg4))).2.2.1 = (fun _ => 1#1)
    ∧ (Cert.Pre_finite_gates.fn (F := Ideal) (m ((c.tc : Thread Cert.KernelGatesIdeal.nD Cert.KernelGatesIdeal.τ).loc Cert.KernelGatesIdeal.main_arg0)) (m ((c.tc : Thread Cert.KernelGatesIdeal.nD Cert.KernelGatesIdeal.τ).loc Cert.KernelGatesIdeal.main_arg1)) (m ((c.tc : Thread Cert.KernelGatesIdeal.nD Cert.KernelGatesIdeal.τ).loc Cert.KernelGatesIdeal.main_arg2)) (m ((c.tc : Thread Cert.KernelGatesIdeal.nD Cert.KernelGatesIdeal.τ).loc Cert.KernelGatesIdeal.main_arg3)) (m ((c.tc : Thread Cert.KernelGatesIdeal.nD Cert.KernelGatesIdeal.τ).loc Cert.KernelGatesIdeal.main_arg4))).2.2.2 = (fun _ => 1#1)

def Pre_ReferenceGatesIdeal (m : (ℓ : Loc Cert.ReferenceGatesIdeal.nD Cert.ReferenceGatesIdeal.τ Cert.ReferenceGatesIdeal.sig) → Buf (Elt Ideal) ℓ) : Prop :=
  True

def Pre_ReferenceGatesIdeal_finite_gates [hPre_finite_gates : Cert.Pre_finite_gates.Facts] (m : (ℓ : Loc Cert.ReferenceGatesIdeal.nD Cert.ReferenceGatesIdeal.τ Cert.ReferenceGatesIdeal.sig) → Buf (Elt Ideal) ℓ) : Prop :=
  ∀ c : Dev Cert.ReferenceGatesIdeal.nD,
    (Cert.Pre_finite_gates.fn (F := Ideal) (m ((c.tc : Thread Cert.ReferenceGatesIdeal.nD Cert.ReferenceGatesIdeal.τ).loc Cert.ReferenceGatesIdeal.main_arg0)) (m ((c.tc : Thread Cert.ReferenceGatesIdeal.nD Cert.ReferenceGatesIdeal.τ).loc Cert.ReferenceGatesIdeal.main_arg1)) (m ((c.tc : Thread Cert.ReferenceGatesIdeal.nD Cert.ReferenceGatesIdeal.τ).loc Cert.ReferenceGatesIdeal.main_arg2)) (m ((c.tc : Thread Cert.ReferenceGatesIdeal.nD Cert.ReferenceGatesIdeal.τ).loc Cert.ReferenceGatesIdeal.main_arg3)) (m ((c.tc : Thread Cert.ReferenceGatesIdeal.nD Cert.ReferenceGatesIdeal.τ).loc Cert.ReferenceGatesIdeal.main_arg4))).1 = (fun _ => 1#1)
    ∧ (Cert.Pre_finite_gates.fn (F := Ideal) (m ((c.tc : Thread Cert.ReferenceGatesIdeal.nD Cert.ReferenceGatesIdeal.τ).loc Cert.ReferenceGatesIdeal.main_arg0)) (m ((c.tc : Thread Cert.ReferenceGatesIdeal.nD Cert.ReferenceGatesIdeal.τ).loc Cert.ReferenceGatesIdeal.main_arg1)) (m ((c.tc : Thread Cert.ReferenceGatesIdeal.nD Cert.ReferenceGatesIdeal.τ).loc Cert.ReferenceGatesIdeal.main_arg2)) (m ((c.tc : Thread Cert.ReferenceGatesIdeal.nD Cert.ReferenceGatesIdeal.τ).loc Cert.ReferenceGatesIdeal.main_arg3)) (m ((c.tc : Thread Cert.ReferenceGatesIdeal.nD Cert.ReferenceGatesIdeal.τ).loc Cert.ReferenceGatesIdeal.main_arg4))).2.1 = (fun _ => 1#1)
    ∧ (Cert.Pre_finite_gates.fn (F := Ideal) (m ((c.tc : Thread Cert.ReferenceGatesIdeal.nD Cert.ReferenceGatesIdeal.τ).loc Cert.ReferenceGatesIdeal.main_arg0)) (m ((c.tc : Thread Cert.ReferenceGatesIdeal.nD Cert.ReferenceGatesIdeal.τ).loc Cert.ReferenceGatesIdeal.main_arg1)) (m ((c.tc : Thread Cert.ReferenceGatesIdeal.nD Cert.ReferenceGatesIdeal.τ).loc Cert.ReferenceGatesIdeal.main_arg2)) (m ((c.tc : Thread Cert.ReferenceGatesIdeal.nD Cert.ReferenceGatesIdeal.τ).loc Cert.ReferenceGatesIdeal.main_arg3)) (m ((c.tc : Thread Cert.ReferenceGatesIdeal.nD Cert.ReferenceGatesIdeal.τ).loc Cert.ReferenceGatesIdeal.main_arg4))).2.2.1 = (fun _ => 1#1)
    ∧ (Cert.Pre_finite_gates.fn (F := Ideal) (m ((c.tc : Thread Cert.ReferenceGatesIdeal.nD Cert.ReferenceGatesIdeal.τ).loc Cert.ReferenceGatesIdeal.main_arg0)) (m ((c.tc : Thread Cert.ReferenceGatesIdeal.nD Cert.ReferenceGatesIdeal.τ).loc Cert.ReferenceGatesIdeal.main_arg1)) (m ((c.tc : Thread Cert.ReferenceGatesIdeal.nD Cert.ReferenceGatesIdeal.τ).loc Cert.ReferenceGatesIdeal.main_arg2)) (m ((c.tc : Thread Cert.ReferenceGatesIdeal.nD Cert.ReferenceGatesIdeal.τ).loc Cert.ReferenceGatesIdeal.main_arg3)) (m ((c.tc : Thread Cert.ReferenceGatesIdeal.nD Cert.ReferenceGatesIdeal.τ).loc Cert.ReferenceGatesIdeal.main_arg4))).2.2.2 = (fun _ => 1#1)

def Pre_KernelRes (m : (ℓ : Loc Cert.KernelRes.nD Cert.KernelRes.τ Cert.KernelRes.sig) → Buf (Elt Bits) ℓ) : Prop :=
  True

def Pre_KernelResIdeal (m : (ℓ : Loc Cert.KernelResIdeal.nD Cert.KernelResIdeal.τ Cert.KernelResIdeal.sig) → Buf (Elt Ideal) ℓ) : Prop :=
  True

def Pre_ReferenceResIdeal (m : (ℓ : Loc Cert.ReferenceResIdeal.nD Cert.ReferenceResIdeal.τ Cert.ReferenceResIdeal.sig) → Buf (Elt Ideal) ℓ) : Prop :=
  True

def Pre_KernelResB (m : (ℓ : Loc Cert.KernelResB.nD Cert.KernelResB.τ Cert.KernelResB.sig) → Buf (Elt Bits) ℓ) : Prop :=
  True

def Pre_KernelResBIdeal (m : (ℓ : Loc Cert.KernelResBIdeal.nD Cert.KernelResBIdeal.τ Cert.KernelResBIdeal.sig) → Buf (Elt Ideal) ℓ) : Prop :=
  True

def Pre_ReferenceResBIdeal (m : (ℓ : Loc Cert.ReferenceResBIdeal.nD Cert.ReferenceResBIdeal.τ Cert.ReferenceResBIdeal.sig) → Buf (Elt Ideal) ℓ) : Prop :=
  True

def Pre_KernelLoss (m : (ℓ : Loc Cert.KernelLoss.nD Cert.KernelLoss.τ Cert.KernelLoss.sig) → Buf (Elt Bits) ℓ) : Prop :=
  True

def Pre_KernelLossIdeal (m : (ℓ : Loc Cert.KernelLossIdeal.nD Cert.KernelLossIdeal.τ Cert.KernelLossIdeal.sig) → Buf (Elt Ideal) ℓ) : Prop :=
  True

def Pre_ReferenceLossIdeal (m : (ℓ : Loc Cert.ReferenceLossIdeal.nD Cert.ReferenceLossIdeal.τ Cert.ReferenceLossIdeal.sig) → Buf (Elt Ideal) ℓ) : Prop :=
  True

def Pre_KernelAda (m : (ℓ : Loc Cert.KernelAda.nD Cert.KernelAda.τ Cert.KernelAda.sig) → Buf (Elt Bits) ℓ) : Prop :=
  True

def Pre_KernelAdaIdeal (m : (ℓ : Loc Cert.KernelAdaIdeal.nD Cert.KernelAdaIdeal.τ Cert.KernelAdaIdeal.sig) → Buf (Elt Ideal) ℓ) : Prop :=
  True

def Pre_ReferenceAdaIdeal (m : (ℓ : Loc Cert.ReferenceAdaIdeal.nD Cert.ReferenceAdaIdeal.τ Cert.ReferenceAdaIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3))
      ∧ r.2.sem = fun _ => 0)

def quiescent_KernelFfnIdeal_pre_finite_ffn [hKernelFfnIdeal : Cert.KernelFfnIdeal.Facts] [hPre_finite_ffn : Cert.Pre_finite_ffn.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal_finite_ffn m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3))
      ∧ r.2.sem = fun _ => 0)

def quiescent_ReferenceFfnIdeal_pre_finite_ffn [hReferenceFfnIdeal : Cert.ReferenceFfnIdeal.Facts] [hPre_finite_ffn : Cert.Pre_finite_ffn.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal_finite_ffn m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3))
      ∧ r.2.sem = fun _ => 0)

def quiescent_KernelFfnX [hKernelFfnX : Cert.KernelFfnX.Facts] : Prop :=
  ∀ (m : (ℓ : Loc Cert.KernelFfnX.nD Cert.KernelFfnX.τ Cert.KernelFfnX.sig) → Buf (Elt Bits) ℓ) (g : Dev Cert.KernelFfnX.nD → PrngReg), Pre_KernelFfnX m →
    θ_run (Cert.KernelFfnX.defs (F := Bits)) (onTc (τ := Cert.KernelFfnX.τ) (Cert.KernelFfnX.main (F := Bits))) ⟨m, fun _ => 0, g⟩ (fun r => (∀ c : Dev Cert.KernelFfnX.nD,
      r.2.mem ((c.tc : Thread Cert.KernelFfnX.nD Cert.KernelFfnX.τ).loc Cert.KernelFfnX.main_arg0) = m ((c.tc : Thread Cert.KernelFfnX.nD Cert.KernelFfnX.τ).loc Cert.KernelFfnX.main_arg0)
      ∧ r.2.mem ((c.tc : Thread Cert.KernelFfnX.nD Cert.KernelFfnX.τ).loc Cert.KernelFfnX.main_arg1) = m ((c.tc : Thread Cert.KernelFfnX.nD Cert.KernelFfnX.τ).loc Cert.KernelFfnX.main_arg1))
      ∧ r.2.sem = fun _ => 0)

def quiescent_KernelFfnXIdeal [hKernelFfnXIdeal : Cert.KernelFfnXIdeal.Facts] : Prop :=
  ∀ (m : (ℓ : Loc Cert.KernelFfnXIdeal.nD Cert.KernelFfnXIdeal.τ Cert.KernelFfnXIdeal.sig) → Buf (Elt Ideal) ℓ) (g : Dev Cert.KernelFfnXIdeal.nD → PrngReg), Pre_KernelFfnXIdeal m →
    θ_run (Cert.KernelFfnXIdeal.defs (F := Ideal)) (onTc (τ := Cert.KernelFfnXIdeal.τ) (Cert.KernelFfnXIdeal.main (F := Ideal))) ⟨m, fun _ => 0, g⟩ (fun r => (∀ c : Dev Cert.KernelFfnXIdeal.nD,
      r.2.mem ((c.tc : Thread Cert.KernelFfnXIdeal.nD Cert.KernelFfnXIdeal.τ).loc Cert.KernelFfnXIdeal.main_arg0) = m ((c.tc : Thread Cert.KernelFfnXIdeal.nD Cert.KernelFfnXIdeal.τ).loc Cert.KernelFfnXIdeal.main_arg0)
      ∧ r.2.mem ((c.tc : Thread Cert.KernelFfnXIdeal.nD Cert.KernelFfnXIdeal.τ).loc Cert.KernelFfnXIdeal.main_arg1) = m ((c.tc : Thread Cert.KernelFfnXIdeal.nD Cert.KernelFfnXIdeal.τ).loc Cert.KernelFfnXIdeal.main_arg1))
      ∧ r.2.sem = fun _ => 0)

def quiescent_ReferenceFfnXIdeal [hReferenceFfnXIdeal : Cert.ReferenceFfnXIdeal.Facts] : Prop :=
  ∀ (m : (ℓ : Loc Cert.ReferenceFfnXIdeal.nD Cert.ReferenceFfnXIdeal.τ Cert.ReferenceFfnXIdeal.sig) → Buf (Elt Ideal) ℓ) (g : Dev Cert.ReferenceFfnXIdeal.nD → PrngReg), Pre_ReferenceFfnXIdeal m →
    θ_run (Cert.ReferenceFfnXIdeal.defs (F := Ideal)) (onTc (τ := Cert.ReferenceFfnXIdeal.τ) (Cert.ReferenceFfnXIdeal.main (F := Ideal))) ⟨m, fun _ => 0, g⟩ (fun r => (∀ c : Dev Cert.ReferenceFfnXIdeal.nD,
      r.2.mem ((c.tc : Thread Cert.ReferenceFfnXIdeal.nD Cert.ReferenceFfnXIdeal.τ).loc Cert.ReferenceFfnXIdeal.main_arg0) = m ((c.tc : Thread Cert.ReferenceFfnXIdeal.nD Cert.ReferenceFfnXIdeal.τ).loc Cert.ReferenceFfnXIdeal.main_arg0)
      ∧ r.2.mem ((c.tc : Thread Cert.ReferenceFfnXIdeal.nD Cert.ReferenceFfnXIdeal.τ).loc Cert.ReferenceFfnXIdeal.main_arg1) = m ((c.tc : Thread Cert.ReferenceFfnXIdeal.nD Cert.ReferenceFfnXIdeal.τ).loc Cert.ReferenceFfnXIdeal.main_arg1))
      ∧ r.2.sem = fun _ => 0)

def quiescent_KernelFfnDown [hKernelFfnDown : Cert.KernelFfnDown.Facts] : Prop :=
  ∀ (m : (ℓ : Loc Cert.KernelFfnDown.nD Cert.KernelFfnDown.τ Cert.KernelFfnDown.sig) → Buf (Elt Bits) ℓ) (g : Dev Cert.KernelFfnDown.nD → PrngReg), Pre_KernelFfnDown m →
    θ_run (Cert.KernelFfnDown.defs (F := Bits)) (onTc (τ := Cert.KernelFfnDown.τ) (Cert.KernelFfnDown.main (F := Bits))) ⟨m, fun _ => 0, g⟩ (fun r => (∀ c : Dev Cert.KernelFfnDown.nD,
      r.2.mem ((c.tc : Thread Cert.KernelFfnDown.nD Cert.KernelFfnDown.τ).loc Cert.KernelFfnDown.main_arg0) = m ((c.tc : Thread Cert.KernelFfnDown.nD Cert.KernelFfnDown.τ).loc Cert.KernelFfnDown.main_arg0)
      ∧ r.2.mem ((c.tc : Thread Cert.KernelFfnDown.nD Cert.KernelFfnDown.τ).loc Cert.KernelFfnDown.main_arg1) = m ((c.tc : Thread Cert.KernelFfnDown.nD Cert.KernelFfnDown.τ).loc Cert.KernelFfnDown.main_arg1))
      ∧ r.2.sem = fun _ => 0)

def quiescent_KernelFfnDownIdeal [hKernelFfnDownIdeal : Cert.KernelFfnDownIdeal.Facts] : Prop :=
  ∀ (m : (ℓ : Loc Cert.KernelFfnDownIdeal.nD Cert.KernelFfnDownIdeal.τ Cert.KernelFfnDownIdeal.sig) → Buf (Elt Ideal) ℓ) (g : Dev Cert.KernelFfnDownIdeal.nD → PrngReg), Pre_KernelFfnDownIdeal m →
    θ_run (Cert.KernelFfnDownIdeal.defs (F := Ideal)) (onTc (τ := Cert.KernelFfnDownIdeal.τ) (Cert.KernelFfnDownIdeal.main (F := Ideal))) ⟨m, fun _ => 0, g⟩ (fun r => (∀ c : Dev Cert.KernelFfnDownIdeal.nD,
      r.2.mem ((c.tc : Thread Cert.KernelFfnDownIdeal.nD Cert.KernelFfnDownIdeal.τ).loc Cert.KernelFfnDownIdeal.main_arg0) = m ((c.tc : Thread Cert.KernelFfnDownIdeal.nD Cert.KernelFfnDownIdeal.τ).loc Cert.KernelFfnDownIdeal.main_arg0)
      ∧ r.2.mem ((c.tc : Thread Cert.KernelFfnDownIdeal.nD Cert.KernelFfnDownIdeal.τ).loc Cert.KernelFfnDownIdeal.main_arg1) = m ((c.tc : Thread Cert.KernelFfnDownIdeal.nD Cert.KernelFfnDownIdeal.τ).loc Cert.KernelFfnDownIdeal.main_arg1))
      ∧ r.2.sem = fun _ => 0)

def quiescent_ReferenceFfnDownIdeal [hReferenceFfnDownIdeal : Cert.ReferenceFfnDownIdeal.Facts] : Prop :=
  ∀ (m : (ℓ : Loc Cert.ReferenceFfnDownIdeal.nD Cert.ReferenceFfnDownIdeal.τ Cert.ReferenceFfnDownIdeal.sig) → Buf (Elt Ideal) ℓ) (g : Dev Cert.ReferenceFfnDownIdeal.nD → PrngReg), Pre_ReferenceFfnDownIdeal m →
    θ_run (Cert.ReferenceFfnDownIdeal.defs (F := Ideal)) (onTc (τ := Cert.ReferenceFfnDownIdeal.τ) (Cert.ReferenceFfnDownIdeal.main (F := Ideal))) ⟨m, fun _ => 0, g⟩ (fun r => (∀ c : Dev Cert.ReferenceFfnDownIdeal.nD,
      r.2.mem ((c.tc : Thread Cert.ReferenceFfnDownIdeal.nD Cert.ReferenceFfnDownIdeal.τ).loc Cert.ReferenceFfnDownIdeal.main_arg0) = m ((c.tc : Thread Cert.ReferenceFfnDownIdeal.nD Cert.ReferenceFfnDownIdeal.τ).loc Cert.ReferenceFfnDownIdeal.main_arg0)
      ∧ r.2.mem ((c.tc : Thread Cert.ReferenceFfnDownIdeal.nD Cert.ReferenceFfnDownIdeal.τ).loc Cert.ReferenceFfnDownIdeal.main_arg1) = m ((c.tc : Thread Cert.ReferenceFfnDownIdeal.nD Cert.ReferenceFfnDownIdeal.τ).loc Cert.ReferenceFfnDownIdeal.main_arg1))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2))
      ∧ r.2.sem = fun _ => 0)

def quiescent_KernelInX [hKernelInX : Cert.KernelInX.Facts] : Prop :=
  ∀ (m : (ℓ : Loc Cert.KernelInX.nD Cert.KernelInX.τ Cert.KernelInX.sig) → Buf (Elt Bits) ℓ) (g : Dev Cert.KernelInX.nD → PrngReg), Pre_KernelInX m →
    θ_run (Cert.KernelInX.defs (F := Bits)) (onTc (τ := Cert.KernelInX.τ) (Cert.KernelInX.main (F := Bits))) ⟨m, fun _ => 0, g⟩ (fun r => (∀ c : Dev Cert.KernelInX.nD,
      r.2.mem ((c.tc : Thread Cert.KernelInX.nD Cert.KernelInX.τ).loc Cert.KernelInX.main_arg0) = m ((c.tc : Thread Cert.KernelInX.nD Cert.KernelInX.τ).loc Cert.KernelInX.main_arg0)
      ∧ r.2.mem ((c.tc : Thread Cert.KernelInX.nD Cert.KernelInX.τ).loc Cert.KernelInX.main_arg1) = m ((c.tc : Thread Cert.KernelInX.nD Cert.KernelInX.τ).loc Cert.KernelInX.main_arg1)
      ∧ r.2.mem ((c.tc : Thread Cert.KernelInX.nD Cert.KernelInX.τ).loc Cert.KernelInX.main_arg2) = m ((c.tc : Thread Cert.KernelInX.nD Cert.KernelInX.τ).loc Cert.KernelInX.main_arg2))
      ∧ r.2.sem = fun _ => 0)

def quiescent_KernelInXIdeal [hKernelInXIdeal : Cert.KernelInXIdeal.Facts] : Prop :=
  ∀ (m : (ℓ : Loc Cert.KernelInXIdeal.nD Cert.KernelInXIdeal.τ Cert.KernelInXIdeal.sig) → Buf (Elt Ideal) ℓ) (g : Dev Cert.KernelInXIdeal.nD → PrngReg), Pre_KernelInXIdeal m →
    θ_run (Cert.KernelInXIdeal.defs (F := Ideal)) (onTc (τ := Cert.KernelInXIdeal.τ) (Cert.KernelInXIdeal.main (F := Ideal))) ⟨m, fun _ => 0, g⟩ (fun r => (∀ c : Dev Cert.KernelInXIdeal.nD,
      r.2.mem ((c.tc : Thread Cert.KernelInXIdeal.nD Cert.KernelInXIdeal.τ).loc Cert.KernelInXIdeal.main_arg0) = m ((c.tc : Thread Cert.KernelInXIdeal.nD Cert.KernelInXIdeal.τ).loc Cert.KernelInXIdeal.main_arg0)
      ∧ r.2.mem ((c.tc : Thread Cert.KernelInXIdeal.nD Cert.KernelInXIdeal.τ).loc Cert.KernelInXIdeal.main_arg1) = m ((c.tc : Thread Cert.KernelInXIdeal.nD Cert.KernelInXIdeal.τ).loc Cert.KernelInXIdeal.main_arg1)
      ∧ r.2.mem ((c.tc : Thread Cert.KernelInXIdeal.nD Cert.KernelInXIdeal.τ).loc Cert.KernelInXIdeal.main_arg2) = m ((c.tc : Thread Cert.KernelInXIdeal.nD Cert.KernelInXIdeal.τ).loc Cert.KernelInXIdeal.main_arg2))
      ∧ r.2.sem = fun _ => 0)

def quiescent_ReferenceInXIdeal [hReferenceInXIdeal : Cert.ReferenceInXIdeal.Facts] : Prop :=
  ∀ (m : (ℓ : Loc Cert.ReferenceInXIdeal.nD Cert.ReferenceInXIdeal.τ Cert.ReferenceInXIdeal.sig) → Buf (Elt Ideal) ℓ) (g : Dev Cert.ReferenceInXIdeal.nD → PrngReg), Pre_ReferenceInXIdeal m →
    θ_run (Cert.ReferenceInXIdeal.defs (F := Ideal)) (onTc (τ := Cert.ReferenceInXIdeal.τ) (Cert.ReferenceInXIdeal.main (F := Ideal))) ⟨m, fun _ => 0, g⟩ (fun r => (∀ c : Dev Cert.ReferenceInXIdeal.nD,
      r.2.mem ((c.tc : Thread Cert.ReferenceInXIdeal.nD Cert.ReferenceInXIdeal.τ).loc Cert.ReferenceInXIdeal.main_arg0) = m ((c.tc : Thread Cert.ReferenceInXIdeal.nD Cert.ReferenceInXIdeal.τ).loc Cert.ReferenceInXIdeal.main_arg0)
      ∧ r.2.mem ((c.tc : Thread Cert.ReferenceInXIdeal.nD Cert.ReferenceInXIdeal.τ).loc Cert.ReferenceInXIdeal.main_arg1) = m ((c.tc : Thread Cert.ReferenceInXIdeal.nD Cert.ReferenceInXIdeal.τ).loc Cert.ReferenceInXIdeal.main_arg1)
      ∧ r.2.mem ((c.tc : Thread Cert.ReferenceInXIdeal.nD Cert.ReferenceInXIdeal.τ).loc Cert.ReferenceInXIdeal.main_arg2) = m ((c.tc : Thread Cert.ReferenceInXIdeal.nD Cert.ReferenceInXIdeal.τ).loc Cert.ReferenceInXIdeal.main_arg2))
      ∧ r.2.sem = fun _ => 0)

def quiescent_KernelMix [hKernelMix : Cert.KernelMix.Facts] : Prop :=
  ∀ (m : (ℓ : Loc Cert.KernelMix.nD Cert.KernelMix.τ Cert.KernelMix.sig) → Buf (Elt Bits) ℓ) (g : Dev Cert.KernelMix.nD → PrngReg), Pre_KernelMix m →
    θ_run (Cert.KernelMix.defs (F := Bits)) (onTc (τ := Cert.KernelMix.τ) (Cert.KernelMix.main (F := Bits))) ⟨m, fun _ => 0, g⟩ (fun r => (∀ c : Dev Cert.KernelMix.nD,
      r.2.mem ((c.tc : Thread Cert.KernelMix.nD Cert.KernelMix.τ).loc Cert.KernelMix.main_arg0) = m ((c.tc : Thread Cert.KernelMix.nD Cert.KernelMix.τ).loc Cert.KernelMix.main_arg0)
      ∧ r.2.mem ((c.tc : Thread Cert.KernelMix.nD Cert.KernelMix.τ).loc Cert.KernelMix.main_arg1) = m ((c.tc : Thread Cert.KernelMix.nD Cert.KernelMix.τ).loc Cert.KernelMix.main_arg1)
      ∧ r.2.mem ((c.tc : Thread Cert.KernelMix.nD Cert.KernelMix.τ).loc Cert.KernelMix.main_arg2) = m ((c.tc : Thread Cert.KernelMix.nD Cert.KernelMix.τ).loc Cert.KernelMix.main_arg2)
      ∧ r.2.mem ((c.tc : Thread Cert.KernelMix.nD Cert.KernelMix.τ).loc Cert.KernelMix.main_arg3) = m ((c.tc : Thread Cert.KernelMix.nD Cert.KernelMix.τ).loc Cert.KernelMix.main_arg3)
      ∧ r.2.mem ((c.tc : Thread Cert.KernelMix.nD Cert.KernelMix.τ).loc Cert.KernelMix.main_arg4) = m ((c.tc : Thread Cert.KernelMix.nD Cert.KernelMix.τ).loc Cert.KernelMix.main_arg4)
      ∧ r.2.mem ((c.tc : Thread Cert.KernelMix.nD Cert.KernelMix.τ).loc Cert.KernelMix.main_arg5) = m ((c.tc : Thread Cert.KernelMix.nD Cert.KernelMix.τ).loc Cert.KernelMix.main_arg5)
      ∧ r.2.mem ((c.tc : Thread Cert.KernelMix.nD Cert.KernelMix.τ).loc Cert.KernelMix.main_arg6) = m ((c.tc : Thread Cert.KernelMix.nD Cert.KernelMix.τ).loc Cert.KernelMix.main_arg6))
      ∧ r.2.sem = fun _ => 0)

def quiescent_KernelMixIdeal [hKernelMixIdeal : Cert.KernelMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
      ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
      ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
      ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
      ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5)
      ∧ r.2.mem ((c.tc : Thread Cert.KernelMixIdeal.nD Cert.KernelMixIdeal.τ).loc Cert.KernelMixIdeal.main_arg6) = m ((c.tc : Thread Cert.KernelMixIdeal.nD Cert.KernelMixIdeal.τ).loc Cert.KernelMixIdeal.main_arg6))
      ∧ r.2.sem = fun _ => 0)

def quiescent_ReferenceMixIdeal [hReferenceMixIdeal : Cert.ReferenceMixIdeal.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1)
      ∧ r.2.mem ((c.tc : Thread Cert.ReferenceMixIdeal.nD Cert.ReferenceMixIdeal.τ).loc Cert.ReferenceMixIdeal.main_arg2) = m ((c.tc : Thread Cert.ReferenceMixIdeal.nD Cert.ReferenceMixIdeal.τ).loc Cert.ReferenceMixIdeal.main_arg2)
      ∧ r.2.mem ((c.tc : Thread Cert.ReferenceMixIdeal.nD Cert.ReferenceMixIdeal.τ).loc Cert.ReferenceMixIdeal.main_arg3) = m ((c.tc : Thread Cert.ReferenceMixIdeal.nD Cert.ReferenceMixIdeal.τ).loc Cert.ReferenceMixIdeal.main_arg3)
      ∧ r.2.mem ((c.tc : Thread Cert.ReferenceMixIdeal.nD Cert.ReferenceMixIdeal.τ).loc Cert.ReferenceMixIdeal.main_arg4) = m ((c.tc : Thread Cert.ReferenceMixIdeal.nD Cert.ReferenceMixIdeal.τ).loc Cert.ReferenceMixIdeal.main_arg4)
      ∧ r.2.mem ((c.tc : Thread Cert.ReferenceMixIdeal.nD Cert.ReferenceMixIdeal.τ).loc Cert.ReferenceMixIdeal.main_arg5) = m ((c.tc : Thread Cert.ReferenceMixIdeal.nD Cert.ReferenceMixIdeal.τ).loc Cert.ReferenceMixIdeal.main_arg5)
      ∧ r.2.mem ((c.tc : Thread Cert.ReferenceMixIdeal.nD Cert.ReferenceMixIdeal.τ).loc Cert.ReferenceMixIdeal.main_arg6) = m ((c.tc : Thread Cert.ReferenceMixIdeal.nD Cert.ReferenceMixIdeal.τ).loc Cert.ReferenceMixIdeal.main_arg6))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1)
      ∧ r.2.mem ((c.tc : Thread Cert.KernelUp.nD Cert.KernelUp.τ).loc Cert.KernelUp.main_arg2) = m ((c.tc : Thread Cert.KernelUp.nD Cert.KernelUp.τ).loc Cert.KernelUp.main_arg2)
      ∧ r.2.mem ((c.tc : Thread Cert.KernelUp.nD Cert.KernelUp.τ).loc Cert.KernelUp.main_arg3) = m ((c.tc : Thread Cert.KernelUp.nD Cert.KernelUp.τ).loc Cert.KernelUp.main_arg3)
      ∧ r.2.mem ((c.tc : Thread Cert.KernelUp.nD Cert.KernelUp.τ).loc Cert.KernelUp.main_arg4) = m ((c.tc : Thread Cert.KernelUp.nD Cert.KernelUp.τ).loc Cert.KernelUp.main_arg4)
      ∧ r.2.mem ((c.tc : Thread Cert.KernelUp.nD Cert.KernelUp.τ).loc Cert.KernelUp.main_arg5) = m ((c.tc : Thread Cert.KernelUp.nD Cert.KernelUp.τ).loc Cert.KernelUp.main_arg5))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
      ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2)
      ∧ r.2.mem ((c.tc : Thread Cert.KernelUpIdeal.nD Cert.KernelUpIdeal.τ).loc Cert.KernelUpIdeal.main_arg3) = m ((c.tc : Thread Cert.KernelUpIdeal.nD Cert.KernelUpIdeal.τ).loc Cert.KernelUpIdeal.main_arg3)
      ∧ r.2.mem ((c.tc : Thread Cert.KernelUpIdeal.nD Cert.KernelUpIdeal.τ).loc Cert.KernelUpIdeal.main_arg4) = m ((c.tc : Thread Cert.KernelUpIdeal.nD Cert.KernelUpIdeal.τ).loc Cert.KernelUpIdeal.main_arg4)
      ∧ r.2.mem ((c.tc : Thread Cert.KernelUpIdeal.nD Cert.KernelUpIdeal.τ).loc Cert.KernelUpIdeal.main_arg5) = m ((c.tc : Thread Cert.KernelUpIdeal.nD Cert.KernelUpIdeal.τ).loc Cert.KernelUpIdeal.main_arg5))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1)
      ∧ r.2.mem ((c.tc : Thread Cert.ReferenceUpIdeal.nD Cert.ReferenceUpIdeal.τ).loc Cert.ReferenceUpIdeal.main_arg2) = m ((c.tc : Thread Cert.ReferenceUpIdeal.nD Cert.ReferenceUpIdeal.τ).loc Cert.ReferenceUpIdeal.main_arg2)
      ∧ r.2.mem ((c.tc : Thread Cert.ReferenceUpIdeal.nD Cert.ReferenceUpIdeal.τ).loc Cert.ReferenceUpIdeal.main_arg3) = m ((c.tc : Thread Cert.ReferenceUpIdeal.nD Cert.ReferenceUpIdeal.τ).loc Cert.ReferenceUpIdeal.main_arg3)
      ∧ r.2.mem ((c.tc : Thread Cert.ReferenceUpIdeal.nD Cert.ReferenceUpIdeal.τ).loc Cert.ReferenceUpIdeal.main_arg4) = m ((c.tc : Thread Cert.ReferenceUpIdeal.nD Cert.ReferenceUpIdeal.τ).loc Cert.ReferenceUpIdeal.main_arg4)
      ∧ r.2.mem ((c.tc : Thread Cert.ReferenceUpIdeal.nD Cert.ReferenceUpIdeal.τ).loc Cert.ReferenceUpIdeal.main_arg5) = m ((c.tc : Thread Cert.ReferenceUpIdeal.nD Cert.ReferenceUpIdeal.τ).loc Cert.ReferenceUpIdeal.main_arg5))
      ∧ r.2.sem = fun _ => 0)

def quiescent_KernelConv [hKernelConv : Cert.KernelConv.Facts] : Prop :=
  ∀ (m : (ℓ : Loc Cert.KernelConv.nD Cert.KernelConv.τ Cert.KernelConv.sig) → Buf (Elt Bits) ℓ) (g : Dev Cert.KernelConv.nD → PrngReg), Pre_KernelConv m →
    θ_run (Cert.KernelConv.defs (F := Bits)) (onTc (τ := Cert.KernelConv.τ) (Cert.KernelConv.main (F := Bits))) ⟨m, fun _ => 0, g⟩ (fun r => (∀ c : Dev Cert.KernelConv.nD,
      r.2.mem ((c.tc : Thread Cert.KernelConv.nD Cert.KernelConv.τ).loc Cert.KernelConv.main_arg0) = m ((c.tc : Thread Cert.KernelConv.nD Cert.KernelConv.τ).loc Cert.KernelConv.main_arg0)
      ∧ r.2.mem ((c.tc : Thread Cert.KernelConv.nD Cert.KernelConv.τ).loc Cert.KernelConv.main_arg1) = m ((c.tc : Thread Cert.KernelConv.nD Cert.KernelConv.τ).loc Cert.KernelConv.main_arg1)
      ∧ r.2.mem ((c.tc : Thread Cert.KernelConv.nD Cert.KernelConv.τ).loc Cert.KernelConv.main_arg2) = m ((c.tc : Thread Cert.KernelConv.nD Cert.KernelConv.τ).loc Cert.KernelConv.main_arg2))
      ∧ r.2.sem = fun _ => 0)

def quiescent_KernelConvIdeal [hKernelConvIdeal : Cert.KernelConvIdeal.Facts] : Prop :=
  ∀ (m : (ℓ : Loc Cert.KernelConvIdeal.nD Cert.KernelConvIdeal.τ Cert.KernelConvIdeal.sig) → Buf (Elt Ideal) ℓ) (g : Dev Cert.KernelConvIdeal.nD → PrngReg), Pre_KernelConvIdeal m →
    θ_run (Cert.KernelConvIdeal.defs (F := Ideal)) (onTc (τ := Cert.KernelConvIdeal.τ) (Cert.KernelConvIdeal.main (F := Ideal))) ⟨m, fun _ => 0, g⟩ (fun r => (∀ c : Dev Cert.KernelConvIdeal.nD,
      r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
      ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1)
      ∧ r.2.mem ((c.tc : Thread Cert.KernelConvIdeal.nD Cert.KernelConvIdeal.τ).loc Cert.KernelConvIdeal.main_arg2) = m ((c.tc : Thread Cert.KernelConvIdeal.nD Cert.KernelConvIdeal.τ).loc Cert.KernelConvIdeal.main_arg2))
      ∧ r.2.sem = fun _ => 0)

def quiescent_KernelConvIdeal_pre_finite_conv [hKernelConvIdeal : Cert.KernelConvIdeal.Facts] [hPre_finite_conv : Cert.Pre_finite_conv.Facts] : Prop :=
  ∀ (m : (ℓ : Loc Cert.KernelConvIdeal.nD Cert.KernelConvIdeal.τ Cert.KernelConvIdeal.sig) → Buf (Elt Ideal) ℓ) (g : Dev Cert.KernelConvIdeal.nD → PrngReg), Pre_KernelConvIdeal_finite_conv m →
    θ_run (Cert.KernelConvIdeal.defs (F := Ideal)) (onTc (τ := Cert.KernelConvIdeal.τ) (Cert.KernelConvIdeal.main (F := Ideal))) ⟨m, fun _ => 0, g⟩ (fun r => (∀ c : Dev Cert.KernelConvIdeal.nD,
      r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
      ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1)
      ∧ r.2.mem ((c.tc : Thread Cert.KernelConvIdeal.nD Cert.KernelConvIdeal.τ).loc Cert.KernelConvIdeal.main_arg2) = m ((c.tc : Thread Cert.KernelConvIdeal.nD Cert.KernelConvIdeal.τ).loc Cert.KernelConvIdeal.main_arg2))
      ∧ r.2.sem = fun _ => 0)

def quiescent_ReferenceConvIdeal [hReferenceConvIdeal : Cert.ReferenceConvIdeal.Facts] : Prop :=
  ∀ (m : (ℓ : Loc Cert.ReferenceConvIdeal.nD Cert.ReferenceConvIdeal.τ Cert.ReferenceConvIdeal.sig) → Buf (Elt Ideal) ℓ) (g : Dev Cert.ReferenceConvIdeal.nD → PrngReg), Pre_ReferenceConvIdeal m →
    θ_run (Cert.ReferenceConvIdeal.defs (F := Ideal)) (onTc (τ := Cert.ReferenceConvIdeal.τ) (Cert.ReferenceConvIdeal.main (F := Ideal))) ⟨m, fun _ => 0, g⟩ (fun r => (∀ c : Dev Cert.ReferenceConvIdeal.nD,
      r.2.mem ((c.tc : Thread Cert.ReferenceConvIdeal.nD Cert.ReferenceConvIdeal.τ).loc Cert.ReferenceConvIdeal.main_arg0) = m ((c.tc : Thread Cert.ReferenceConvIdeal.nD Cert.ReferenceConvIdeal.τ).loc Cert.ReferenceConvIdeal.main_arg0)
      ∧ r.2.mem ((c.tc : Thread Cert.ReferenceConvIdeal.nD Cert.ReferenceConvIdeal.τ).loc Cert.ReferenceConvIdeal.main_arg1) = m ((c.tc : Thread Cert.ReferenceConvIdeal.nD Cert.ReferenceConvIdeal.τ).loc Cert.ReferenceConvIdeal.main_arg1)
      ∧ r.2.mem ((c.tc : Thread Cert.ReferenceConvIdeal.nD Cert.ReferenceConvIdeal.τ).loc Cert.ReferenceConvIdeal.main_arg2) = m ((c.tc : Thread Cert.ReferenceConvIdeal.nD Cert.ReferenceConvIdeal.τ).loc Cert.ReferenceConvIdeal.main_arg2))
      ∧ r.2.sem = fun _ => 0)

def quiescent_ReferenceConvIdeal_pre_finite_conv [hReferenceConvIdeal : Cert.ReferenceConvIdeal.Facts] [hPre_finite_conv : Cert.Pre_finite_conv.Facts] : Prop :=
  ∀ (m : (ℓ : Loc Cert.ReferenceConvIdeal.nD Cert.ReferenceConvIdeal.τ Cert.ReferenceConvIdeal.sig) → Buf (Elt Ideal) ℓ) (g : Dev Cert.ReferenceConvIdeal.nD → PrngReg), Pre_ReferenceConvIdeal_finite_conv m →
    θ_run (Cert.ReferenceConvIdeal.defs (F := Ideal)) (onTc (τ := Cert.ReferenceConvIdeal.τ) (Cert.ReferenceConvIdeal.main (F := Ideal))) ⟨m, fun _ => 0, g⟩ (fun r => (∀ c : Dev Cert.ReferenceConvIdeal.nD,
      r.2.mem ((c.tc : Thread Cert.ReferenceConvIdeal.nD Cert.ReferenceConvIdeal.τ).loc Cert.ReferenceConvIdeal.main_arg0) = m ((c.tc : Thread Cert.ReferenceConvIdeal.nD Cert.ReferenceConvIdeal.τ).loc Cert.ReferenceConvIdeal.main_arg0)
      ∧ r.2.mem ((c.tc : Thread Cert.ReferenceConvIdeal.nD Cert.ReferenceConvIdeal.τ).loc Cert.ReferenceConvIdeal.main_arg1) = m ((c.tc : Thread Cert.ReferenceConvIdeal.nD Cert.ReferenceConvIdeal.τ).loc Cert.ReferenceConvIdeal.main_arg1)
      ∧ r.2.mem ((c.tc : Thread Cert.ReferenceConvIdeal.nD Cert.ReferenceConvIdeal.τ).loc Cert.ReferenceConvIdeal.main_arg2) = m ((c.tc : Thread Cert.ReferenceConvIdeal.nD Cert.ReferenceConvIdeal.τ).loc Cert.ReferenceConvIdeal.main_arg2))
      ∧ r.2.sem = fun _ => 0)

def quiescent_KernelNorm [hKernelNorm : Cert.KernelNorm.Facts] : Prop :=
  ∀ (m : (ℓ : Loc Cert.KernelNorm.nD Cert.KernelNorm.τ Cert.KernelNorm.sig) → Buf (Elt Bits) ℓ) (g : Dev Cert.KernelNorm.nD → PrngReg), Pre_KernelNorm m →
    θ_run (Cert.KernelNorm.defs (F := Bits)) (onTc (τ := Cert.KernelNorm.τ) (Cert.KernelNorm.main (F := Bits))) ⟨m, fun _ => 0, g⟩ (fun r => (∀ c : Dev Cert.KernelNorm.nD,
      r.2.mem ((c.tc : Thread Cert.KernelNorm.nD Cert.KernelNorm.τ).loc Cert.KernelNorm.main_arg0) = m ((c.tc : Thread Cert.KernelNorm.nD Cert.KernelNorm.τ).loc Cert.KernelNorm.main_arg0)
      ∧ r.2.mem ((c.tc : Thread Cert.KernelNorm.nD Cert.KernelNorm.τ).loc Cert.KernelNorm.main_arg1) = m ((c.tc : Thread Cert.KernelNorm.nD Cert.KernelNorm.τ).loc Cert.KernelNorm.main_arg1)
      ∧ r.2.mem ((c.tc : Thread Cert.KernelNorm.nD Cert.KernelNorm.τ).loc Cert.KernelNorm.main_arg2) = m ((c.tc : Thread Cert.KernelNorm.nD Cert.KernelNorm.τ).loc Cert.KernelNorm.main_arg2)
      ∧ r.2.mem ((c.tc : Thread Cert.KernelNorm.nD Cert.KernelNorm.τ).loc Cert.KernelNorm.main_arg3) = m ((c.tc : Thread Cert.KernelNorm.nD Cert.KernelNorm.τ).loc Cert.KernelNorm.main_arg3)
      ∧ r.2.mem ((c.tc : Thread Cert.KernelNorm.nD Cert.KernelNorm.τ).loc Cert.KernelNorm.main_arg4) = m ((c.tc : Thread Cert.KernelNorm.nD Cert.KernelNorm.τ).loc Cert.KernelNorm.main_arg4))
      ∧ r.2.sem = fun _ => 0)

def quiescent_KernelNormIdeal [hKernelNormIdeal : Cert.KernelNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
      ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
      ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3)
      ∧ r.2.mem ((c.tc : Thread Cert.KernelNormIdeal.nD Cert.KernelNormIdeal.τ).loc Cert.KernelNormIdeal.main_arg4) = m ((c.tc : Thread Cert.KernelNormIdeal.nD Cert.KernelNormIdeal.τ).loc Cert.KernelNormIdeal.main_arg4))
      ∧ r.2.sem = fun _ => 0)

def quiescent_ReferenceNormIdeal [hReferenceNormIdeal : Cert.ReferenceNormIdeal.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1)
      ∧ r.2.mem ((c.tc : Thread Cert.ReferenceNormIdeal.nD Cert.ReferenceNormIdeal.τ).loc Cert.ReferenceNormIdeal.main_arg2) = m ((c.tc : Thread Cert.ReferenceNormIdeal.nD Cert.ReferenceNormIdeal.τ).loc Cert.ReferenceNormIdeal.main_arg2)
      ∧ r.2.mem ((c.tc : Thread Cert.ReferenceNormIdeal.nD Cert.ReferenceNormIdeal.τ).loc Cert.ReferenceNormIdeal.main_arg3) = m ((c.tc : Thread Cert.ReferenceNormIdeal.nD Cert.ReferenceNormIdeal.τ).loc Cert.ReferenceNormIdeal.main_arg3)
      ∧ r.2.mem ((c.tc : Thread Cert.ReferenceNormIdeal.nD Cert.ReferenceNormIdeal.τ).loc Cert.ReferenceNormIdeal.main_arg4) = m ((c.tc : Thread Cert.ReferenceNormIdeal.nD Cert.ReferenceNormIdeal.τ).loc Cert.ReferenceNormIdeal.main_arg4))
      ∧ r.2.sem = fun _ => 0)

def quiescent_KernelRope [hKernelRope : Cert.KernelRope.Facts] : Prop :=
  ∀ (m : (ℓ : Loc Cert.KernelRope.nD Cert.KernelRope.τ Cert.KernelRope.sig) → Buf (Elt Bits) ℓ) (g : Dev Cert.KernelRope.nD → PrngReg), Pre_KernelRope m →
    θ_run (Cert.KernelRope.defs (F := Bits)) (onTc (τ := Cert.KernelRope.τ) (Cert.KernelRope.main (F := Bits))) ⟨m, fun _ => 0, g⟩ (fun r => (∀ c : Dev Cert.KernelRope.nD,
      r.2.mem ((c.tc : Thread Cert.KernelRope.nD Cert.KernelRope.τ).loc Cert.KernelRope.main_arg0) = m ((c.tc : Thread Cert.KernelRope.nD Cert.KernelRope.τ).loc Cert.KernelRope.main_arg0)
      ∧ r.2.mem ((c.tc : Thread Cert.KernelRope.nD Cert.KernelRope.τ).loc Cert.KernelRope.main_arg1) = m ((c.tc : Thread Cert.KernelRope.nD Cert.KernelRope.τ).loc Cert.KernelRope.main_arg1)
      ∧ r.2.mem ((c.tc : Thread Cert.KernelRope.nD Cert.KernelRope.τ).loc Cert.KernelRope.main_arg2) = m ((c.tc : Thread Cert.KernelRope.nD Cert.KernelRope.τ).loc Cert.KernelRope.main_arg2)
      ∧ r.2.mem ((c.tc : Thread Cert.KernelRope.nD Cert.KernelRope.τ).loc Cert.KernelRope.main_arg3) = m ((c.tc : Thread Cert.KernelRope.nD Cert.KernelRope.τ).loc Cert.KernelRope.main_arg3)
      ∧ r.2.mem ((c.tc : Thread Cert.KernelRope.nD Cert.KernelRope.τ).loc Cert.KernelRope.main_arg4) = m ((c.tc : Thread Cert.KernelRope.nD Cert.KernelRope.τ).loc Cert.KernelRope.main_arg4)
      ∧ r.2.mem ((c.tc : Thread Cert.KernelRope.nD Cert.KernelRope.τ).loc Cert.KernelRope.main_arg5) = m ((c.tc : Thread Cert.KernelRope.nD Cert.KernelRope.τ).loc Cert.KernelRope.main_arg5)
      ∧ r.2.mem ((c.tc : Thread Cert.KernelRope.nD Cert.KernelRope.τ).loc Cert.KernelRope.main_arg6) = m ((c.tc : Thread Cert.KernelRope.nD Cert.KernelRope.τ).loc Cert.KernelRope.main_arg6))
      ∧ r.2.sem = fun _ => 0)

def quiescent_KernelRopeIdeal [hKernelRopeIdeal : Cert.KernelRopeIdeal.Facts] : Prop :=
  ∀ (m : (ℓ : Loc Cert.KernelRopeIdeal.nD Cert.KernelRopeIdeal.τ Cert.KernelRopeIdeal.sig) → Buf (Elt Ideal) ℓ) (g : Dev Cert.KernelRopeIdeal.nD → PrngReg), Pre_KernelRopeIdeal m →
    θ_run (Cert.KernelRopeIdeal.defs (F := Ideal)) (onTc (τ := Cert.KernelRopeIdeal.τ) (Cert.KernelRopeIdeal.main (F := Ideal))) ⟨m, fun _ => 0, g⟩ (fun r => (∀ c : Dev Cert.KernelRopeIdeal.nD,
      r.2.mem ((c.tc : Thread Cert.KernelRopeIdeal.nD Cert.KernelRopeIdeal.τ).loc Cert.KernelRopeIdeal.main_arg0) = m ((c.tc : Thread Cert.KernelRopeIdeal.nD Cert.KernelRopeIdeal.τ).loc Cert.KernelRopeIdeal.main_arg0)
      ∧ r.2.mem ((c.tc : Thread Cert.KernelRopeIdeal.nD Cert.KernelRopeIdeal.τ).loc Cert.KernelRopeIdeal.main_arg1) = m ((c.tc : Thread Cert.KernelRopeIdeal.nD Cert.KernelRopeIdeal.τ).loc Cert.KernelRopeIdeal.main_arg1)
      ∧ r.2.mem ((c.tc : Thread Cert.KernelRopeIdeal.nD Cert.KernelRopeIdeal.τ).loc Cert.KernelRopeIdeal.main_arg2) = m ((c.tc : Thread Cert.KernelRopeIdeal.nD Cert.KernelRopeIdeal.τ).loc Cert.KernelRopeIdeal.main_arg2)
      ∧ r.2.mem ((c.tc : Thread Cert.KernelRopeIdeal.nD Cert.KernelRopeIdeal.τ).loc Cert.KernelRopeIdeal.main_arg3) = m ((c.tc : Thread Cert.KernelRopeIdeal.nD Cert.KernelRopeIdeal.τ).loc Cert.KernelRopeIdeal.main_arg3)
      ∧ r.2.mem ((c.tc : Thread Cert.KernelRopeIdeal.nD Cert.KernelRopeIdeal.τ).loc Cert.KernelRopeIdeal.main_arg4) = m ((c.tc : Thread Cert.KernelRopeIdeal.nD Cert.KernelRopeIdeal.τ).loc Cert.KernelRopeIdeal.main_arg4)
      ∧ r.2.mem ((c.tc : Thread Cert.KernelRopeIdeal.nD Cert.KernelRopeIdeal.τ).loc Cert.KernelRopeIdeal.main_arg5) = m ((c.tc : Thread Cert.KernelRopeIdeal.nD Cert.KernelRopeIdeal.τ).loc Cert.KernelRopeIdeal.main_arg5)
      ∧ r.2.mem ((c.tc : Thread Cert.KernelRopeIdeal.nD Cert.KernelRopeIdeal.τ).loc Cert.KernelRopeIdeal.main_arg6) = m ((c.tc : Thread Cert.KernelRopeIdeal.nD Cert.KernelRopeIdeal.τ).loc Cert.KernelRopeIdeal.main_arg6))
      ∧ r.2.sem = fun _ => 0)

def quiescent_ReferenceRopeIdeal [hReferenceRopeIdeal : Cert.ReferenceRopeIdeal.Facts] : Prop :=
  ∀ (m : (ℓ : Loc Cert.ReferenceRopeIdeal.nD Cert.ReferenceRopeIdeal.τ Cert.ReferenceRopeIdeal.sig) → Buf (Elt Ideal) ℓ) (g : Dev Cert.ReferenceRopeIdeal.nD → PrngReg), Pre_ReferenceRopeIdeal m →
    θ_run (Cert.ReferenceRopeIdeal.defs (F := Ideal)) (onTc (τ := Cert.ReferenceRopeIdeal.τ) (Cert.ReferenceRopeIdeal.main (F := Ideal))) ⟨m, fun _ => 0, g⟩ (fun r => (∀ c : Dev Cert.ReferenceRopeIdeal.nD,
      r.2.mem ((c.tc : Thread Cert.ReferenceRopeIdeal.nD Cert.ReferenceRopeIdeal.τ).loc Cert.ReferenceRopeIdeal.main_arg0) = m ((c.tc : Thread Cert.ReferenceRopeIdeal.nD Cert.ReferenceRopeIdeal.τ).loc Cert.ReferenceRopeIdeal.main_arg0)
      ∧ r.2.mem ((c.tc : Thread Cert.ReferenceRopeIdeal.nD Cert.ReferenceRopeIdeal.τ).loc Cert.ReferenceRopeIdeal.main_arg1) = m ((c.tc : Thread Cert.ReferenceRopeIdeal.nD Cert.ReferenceRopeIdeal.τ).loc Cert.ReferenceRopeIdeal.main_arg1)
      ∧ r.2.mem ((c.tc : Thread Cert.ReferenceRopeIdeal.nD Cert.ReferenceRopeIdeal.τ).loc Cert.ReferenceRopeIdeal.main_arg2) = m ((c.tc : Thread Cert.ReferenceRopeIdeal.nD Cert.ReferenceRopeIdeal.τ).loc Cert.ReferenceRopeIdeal.main_arg2)
      ∧ r.2.mem ((c.tc : Thread Cert.ReferenceRopeIdeal.nD Cert.ReferenceRopeIdeal.τ).loc Cert.ReferenceRopeIdeal.main_arg3) = m ((c.tc : Thread Cert.ReferenceRopeIdeal.nD Cert.ReferenceRopeIdeal.τ).loc Cert.ReferenceRopeIdeal.main_arg3)
      ∧ r.2.mem ((c.tc : Thread Cert.ReferenceRopeIdeal.nD Cert.ReferenceRopeIdeal.τ).loc Cert.ReferenceRopeIdeal.main_arg4) = m ((c.tc : Thread Cert.ReferenceRopeIdeal.nD Cert.ReferenceRopeIdeal.τ).loc Cert.ReferenceRopeIdeal.main_arg4)
      ∧ r.2.mem ((c.tc : Thread Cert.ReferenceRopeIdeal.nD Cert.ReferenceRopeIdeal.τ).loc Cert.ReferenceRopeIdeal.main_arg5) = m ((c.tc : Thread Cert.ReferenceRopeIdeal.nD Cert.ReferenceRopeIdeal.τ).loc Cert.ReferenceRopeIdeal.main_arg5)
      ∧ r.2.mem ((c.tc : Thread Cert.ReferenceRopeIdeal.nD Cert.ReferenceRopeIdeal.τ).loc Cert.ReferenceRopeIdeal.main_arg6) = m ((c.tc : Thread Cert.ReferenceRopeIdeal.nD Cert.ReferenceRopeIdeal.τ).loc Cert.ReferenceRopeIdeal.main_arg6))
      ∧ r.2.sem = fun _ => 0)

def quiescent_KernelGates [hKernelGates : Cert.KernelGates.Facts] : Prop :=
  ∀ (m : (ℓ : Loc Cert.KernelGates.nD Cert.KernelGates.τ Cert.KernelGates.sig) → Buf (Elt Bits) ℓ) (g : Dev Cert.KernelGates.nD → PrngReg), Pre_KernelGates m →
    θ_run (Cert.KernelGates.defs (F := Bits)) (onTc (τ := Cert.KernelGates.τ) (Cert.KernelGates.main (F := Bits))) ⟨m, fun _ => 0, g⟩ (fun r => (∀ c : Dev Cert.KernelGates.nD,
      r.2.mem ((c.tc : Thread Cert.KernelGates.nD Cert.KernelGates.τ).loc Cert.KernelGates.main_arg0) = m ((c.tc : Thread Cert.KernelGates.nD Cert.KernelGates.τ).loc Cert.KernelGates.main_arg0)
      ∧ r.2.mem ((c.tc : Thread Cert.KernelGates.nD Cert.KernelGates.τ).loc Cert.KernelGates.main_arg1) = m ((c.tc : Thread Cert.KernelGates.nD Cert.KernelGates.τ).loc Cert.KernelGates.main_arg1)
      ∧ r.2.mem ((c.tc : Thread Cert.KernelGates.nD Cert.KernelGates.τ).loc Cert.KernelGates.main_arg2) = m ((c.tc : Thread Cert.KernelGates.nD Cert.KernelGates.τ).loc Cert.KernelGates.main_arg2)
      ∧ r.2.mem ((c.tc : Thread Cert.KernelGates.nD Cert.KernelGates.τ).loc Cert.KernelGates.main_arg3) = m ((c.tc : Thread Cert.KernelGates.nD Cert.KernelGates.τ).loc Cert.KernelGates.main_arg3)
      ∧ r.2.mem ((c.tc : Thread Cert.KernelGates.nD Cert.KernelGates.τ).loc Cert.KernelGates.main_arg4) = m ((c.tc : Thread Cert.KernelGates.nD Cert.KernelGates.τ).loc Cert.KernelGates.main_arg4))
      ∧ r.2.sem = fun _ => 0)

def quiescent_KernelGatesIdeal [hKernelGatesIdeal : Cert.KernelGatesIdeal.Facts] : Prop :=
  ∀ (m : (ℓ : Loc Cert.KernelGatesIdeal.nD Cert.KernelGatesIdeal.τ Cert.KernelGatesIdeal.sig) → Buf (Elt Ideal) ℓ) (g : Dev Cert.KernelGatesIdeal.nD → PrngReg), Pre_KernelGatesIdeal m →
    θ_run (Cert.KernelGatesIdeal.defs (F := Ideal)) (onTc (τ := Cert.KernelGatesIdeal.τ) (Cert.KernelGatesIdeal.main (F := Ideal))) ⟨m, fun _ => 0, g⟩ (fun r => (∀ c : Dev Cert.KernelGatesIdeal.nD,
      r.2.mem ((c.tc : Thread Cert.KernelGatesIdeal.nD Cert.KernelGatesIdeal.τ).loc Cert.KernelGatesIdeal.main_arg0) = m ((c.tc : Thread Cert.KernelGatesIdeal.nD Cert.KernelGatesIdeal.τ).loc Cert.KernelGatesIdeal.main_arg0)
      ∧ r.2.mem ((c.tc : Thread Cert.KernelGatesIdeal.nD Cert.KernelGatesIdeal.τ).loc Cert.KernelGatesIdeal.main_arg1) = m ((c.tc : Thread Cert.KernelGatesIdeal.nD Cert.KernelGatesIdeal.τ).loc Cert.KernelGatesIdeal.main_arg1)
      ∧ r.2.mem ((c.tc : Thread Cert.KernelGatesIdeal.nD Cert.KernelGatesIdeal.τ).loc Cert.KernelGatesIdeal.main_arg2) = m ((c.tc : Thread Cert.KernelGatesIdeal.nD Cert.KernelGatesIdeal.τ).loc Cert.KernelGatesIdeal.main_arg2)
      ∧ r.2.mem ((c.tc : Thread Cert.KernelGatesIdeal.nD Cert.KernelGatesIdeal.τ).loc Cert.KernelGatesIdeal.main_arg3) = m ((c.tc : Thread Cert.KernelGatesIdeal.nD Cert.KernelGatesIdeal.τ).loc Cert.KernelGatesIdeal.main_arg3)
      ∧ r.2.mem ((c.tc : Thread Cert.KernelGatesIdeal.nD Cert.KernelGatesIdeal.τ).loc Cert.KernelGatesIdeal.main_arg4) = m ((c.tc : Thread Cert.KernelGatesIdeal.nD Cert.KernelGatesIdeal.τ).loc Cert.KernelGatesIdeal.main_arg4))
      ∧ r.2.sem = fun _ => 0)

def quiescent_KernelGatesIdeal_pre_finite_gates [hKernelGatesIdeal : Cert.KernelGatesIdeal.Facts] [hPre_finite_gates : Cert.Pre_finite_gates.Facts] : Prop :=
  ∀ (m : (ℓ : Loc Cert.KernelGatesIdeal.nD Cert.KernelGatesIdeal.τ Cert.KernelGatesIdeal.sig) → Buf (Elt Ideal) ℓ) (g : Dev Cert.KernelGatesIdeal.nD → PrngReg), Pre_KernelGatesIdeal_finite_gates m →
    θ_run (Cert.KernelGatesIdeal.defs (F := Ideal)) (onTc (τ := Cert.KernelGatesIdeal.τ) (Cert.KernelGatesIdeal.main (F := Ideal))) ⟨m, fun _ => 0, g⟩ (fun r => (∀ c : Dev Cert.KernelGatesIdeal.nD,
      r.2.mem ((c.tc : Thread Cert.KernelGatesIdeal.nD Cert.KernelGatesIdeal.τ).loc Cert.KernelGatesIdeal.main_arg0) = m ((c.tc : Thread Cert.KernelGatesIdeal.nD Cert.KernelGatesIdeal.τ).loc Cert.KernelGatesIdeal.main_arg0)
      ∧ r.2.mem ((c.tc : Thread Cert.KernelGatesIdeal.nD Cert.KernelGatesIdeal.τ).loc Cert.KernelGatesIdeal.main_arg1) = m ((c.tc : Thread Cert.KernelGatesIdeal.nD Cert.KernelGatesIdeal.τ).loc Cert.KernelGatesIdeal.main_arg1)
      ∧ r.2.mem ((c.tc : Thread Cert.KernelGatesIdeal.nD Cert.KernelGatesIdeal.τ).loc Cert.KernelGatesIdeal.main_arg2) = m ((c.tc : Thread Cert.KernelGatesIdeal.nD Cert.KernelGatesIdeal.τ).loc Cert.KernelGatesIdeal.main_arg2)
      ∧ r.2.mem ((c.tc : Thread Cert.KernelGatesIdeal.nD Cert.KernelGatesIdeal.τ).loc Cert.KernelGatesIdeal.main_arg3) = m ((c.tc : Thread Cert.KernelGatesIdeal.nD Cert.KernelGatesIdeal.τ).loc Cert.KernelGatesIdeal.main_arg3)
      ∧ r.2.mem ((c.tc : Thread Cert.KernelGatesIdeal.nD Cert.KernelGatesIdeal.τ).loc Cert.KernelGatesIdeal.main_arg4) = m ((c.tc : Thread Cert.KernelGatesIdeal.nD Cert.KernelGatesIdeal.τ).loc Cert.KernelGatesIdeal.main_arg4))
      ∧ r.2.sem = fun _ => 0)

def quiescent_ReferenceGatesIdeal [hReferenceGatesIdeal : Cert.ReferenceGatesIdeal.Facts] : Prop :=
  ∀ (m : (ℓ : Loc Cert.ReferenceGatesIdeal.nD Cert.ReferenceGatesIdeal.τ Cert.ReferenceGatesIdeal.sig) → Buf (Elt Ideal) ℓ) (g : Dev Cert.ReferenceGatesIdeal.nD → PrngReg), Pre_ReferenceGatesIdeal m →
    θ_run (Cert.ReferenceGatesIdeal.defs (F := Ideal)) (onTc (τ := Cert.ReferenceGatesIdeal.τ) (Cert.ReferenceGatesIdeal.main (F := Ideal))) ⟨m, fun _ => 0, g⟩ (fun r => (∀ c : Dev Cert.ReferenceGatesIdeal.nD,
      r.2.mem ((c.tc : Thread Cert.ReferenceGatesIdeal.nD Cert.ReferenceGatesIdeal.τ).loc Cert.ReferenceGatesIdeal.main_arg0) = m ((c.tc : Thread Cert.ReferenceGatesIdeal.nD Cert.ReferenceGatesIdeal.τ).loc Cert.ReferenceGatesIdeal.main_arg0)
      ∧ r.2.mem ((c.tc : Thread Cert.ReferenceGatesIdeal.nD Cert.ReferenceGatesIdeal.τ).loc Cert.ReferenceGatesIdeal.main_arg1) = m ((c.tc : Thread Cert.ReferenceGatesIdeal.nD Cert.ReferenceGatesIdeal.τ).loc Cert.ReferenceGatesIdeal.main_arg1)
      ∧ r.2.mem ((c.tc : Thread Cert.ReferenceGatesIdeal.nD Cert.ReferenceGatesIdeal.τ).loc Cert.ReferenceGatesIdeal.main_arg2) = m ((c.tc : Thread Cert.ReferenceGatesIdeal.nD Cert.ReferenceGatesIdeal.τ).loc Cert.ReferenceGatesIdeal.main_arg2)
      ∧ r.2.mem ((c.tc : Thread Cert.ReferenceGatesIdeal.nD Cert.ReferenceGatesIdeal.τ).loc Cert.ReferenceGatesIdeal.main_arg3) = m ((c.tc : Thread Cert.ReferenceGatesIdeal.nD Cert.ReferenceGatesIdeal.τ).loc Cert.ReferenceGatesIdeal.main_arg3)
      ∧ r.2.mem ((c.tc : Thread Cert.ReferenceGatesIdeal.nD Cert.ReferenceGatesIdeal.τ).loc Cert.ReferenceGatesIdeal.main_arg4) = m ((c.tc : Thread Cert.ReferenceGatesIdeal.nD Cert.ReferenceGatesIdeal.τ).loc Cert.ReferenceGatesIdeal.main_arg4))
      ∧ r.2.sem = fun _ => 0)

def quiescent_ReferenceGatesIdeal_pre_finite_gates [hReferenceGatesIdeal : Cert.ReferenceGatesIdeal.Facts] [hPre_finite_gates : Cert.Pre_finite_gates.Facts] : Prop :=
  ∀ (m : (ℓ : Loc Cert.ReferenceGatesIdeal.nD Cert.ReferenceGatesIdeal.τ Cert.ReferenceGatesIdeal.sig) → Buf (Elt Ideal) ℓ) (g : Dev Cert.ReferenceGatesIdeal.nD → PrngReg), Pre_ReferenceGatesIdeal_finite_gates m →
    θ_run (Cert.ReferenceGatesIdeal.defs (F := Ideal)) (onTc (τ := Cert.ReferenceGatesIdeal.τ) (Cert.ReferenceGatesIdeal.main (F := Ideal))) ⟨m, fun _ => 0, g⟩ (fun r => (∀ c : Dev Cert.ReferenceGatesIdeal.nD,
      r.2.mem ((c.tc : Thread Cert.ReferenceGatesIdeal.nD Cert.ReferenceGatesIdeal.τ).loc Cert.ReferenceGatesIdeal.main_arg0) = m ((c.tc : Thread Cert.ReferenceGatesIdeal.nD Cert.ReferenceGatesIdeal.τ).loc Cert.ReferenceGatesIdeal.main_arg0)
      ∧ r.2.mem ((c.tc : Thread Cert.ReferenceGatesIdeal.nD Cert.ReferenceGatesIdeal.τ).loc Cert.ReferenceGatesIdeal.main_arg1) = m ((c.tc : Thread Cert.ReferenceGatesIdeal.nD Cert.ReferenceGatesIdeal.τ).loc Cert.ReferenceGatesIdeal.main_arg1)
      ∧ r.2.mem ((c.tc : Thread Cert.ReferenceGatesIdeal.nD Cert.ReferenceGatesIdeal.τ).loc Cert.ReferenceGatesIdeal.main_arg2) = m ((c.tc : Thread Cert.ReferenceGatesIdeal.nD Cert.ReferenceGatesIdeal.τ).loc Cert.ReferenceGatesIdeal.main_arg2)
      ∧ r.2.mem ((c.tc : Thread Cert.ReferenceGatesIdeal.nD Cert.ReferenceGatesIdeal.τ).loc Cert.ReferenceGatesIdeal.main_arg3) = m ((c.tc : Thread Cert.ReferenceGatesIdeal.nD Cert.ReferenceGatesIdeal.τ).loc Cert.ReferenceGatesIdeal.main_arg3)
      ∧ r.2.mem ((c.tc : Thread Cert.ReferenceGatesIdeal.nD Cert.ReferenceGatesIdeal.τ).loc Cert.ReferenceGatesIdeal.main_arg4) = m ((c.tc : Thread Cert.ReferenceGatesIdeal.nD Cert.ReferenceGatesIdeal.τ).loc Cert.ReferenceGatesIdeal.main_arg4))
      ∧ r.2.sem = fun _ => 0)

def quiescent_KernelRes [hKernelRes : Cert.KernelRes.Facts] : Prop :=
  ∀ (m : (ℓ : Loc Cert.KernelRes.nD Cert.KernelRes.τ Cert.KernelRes.sig) → Buf (Elt Bits) ℓ) (g : Dev Cert.KernelRes.nD → PrngReg), Pre_KernelRes m →
    θ_run (Cert.KernelRes.defs (F := Bits)) (onTc (τ := Cert.KernelRes.τ) (Cert.KernelRes.main (F := Bits))) ⟨m, fun _ => 0, g⟩ (fun r => (∀ c : Dev Cert.KernelRes.nD,
      r.2.mem ((c.tc : Thread Cert.KernelRes.nD Cert.KernelRes.τ).loc Cert.KernelRes.main_arg0) = m ((c.tc : Thread Cert.KernelRes.nD Cert.KernelRes.τ).loc Cert.KernelRes.main_arg0)
      ∧ r.2.mem ((c.tc : Thread Cert.KernelRes.nD Cert.KernelRes.τ).loc Cert.KernelRes.main_arg1) = m ((c.tc : Thread Cert.KernelRes.nD Cert.KernelRes.τ).loc Cert.KernelRes.main_arg1)
      ∧ r.2.mem ((c.tc : Thread Cert.KernelRes.nD Cert.KernelRes.τ).loc Cert.KernelRes.main_arg2) = m ((c.tc : Thread Cert.KernelRes.nD Cert.KernelRes.τ).loc Cert.KernelRes.main_arg2)
      ∧ r.2.mem ((c.tc : Thread Cert.KernelRes.nD Cert.KernelRes.τ).loc Cert.KernelRes.main_arg3) = m ((c.tc : Thread Cert.KernelRes.nD Cert.KernelRes.τ).loc Cert.KernelRes.main_arg3)
      ∧ r.2.mem ((c.tc : Thread Cert.KernelRes.nD Cert.KernelRes.τ).loc Cert.KernelRes.main_arg4) = m ((c.tc : Thread Cert.KernelRes.nD Cert.KernelRes.τ).loc Cert.KernelRes.main_arg4)
      ∧ r.2.mem ((c.tc : Thread Cert.KernelRes.nD Cert.KernelRes.τ).loc Cert.KernelRes.main_arg5) = m ((c.tc : Thread Cert.KernelRes.nD Cert.KernelRes.τ).loc Cert.KernelRes.main_arg5))
      ∧ r.2.sem = fun _ => 0)

def quiescent_KernelResIdeal [hKernelResIdeal : Cert.KernelResIdeal.Facts] : Prop :=
  ∀ (m : (ℓ : Loc Cert.KernelResIdeal.nD Cert.KernelResIdeal.τ Cert.KernelResIdeal.sig) → Buf (Elt Ideal) ℓ) (g : Dev Cert.KernelResIdeal.nD → PrngReg), Pre_KernelResIdeal m →
    θ_run (Cert.KernelResIdeal.defs (F := Ideal)) (onTc (τ := Cert.KernelResIdeal.τ) (Cert.KernelResIdeal.main (F := Ideal))) ⟨m, fun _ => 0, g⟩ (fun r => (∀ c : Dev Cert.KernelResIdeal.nD,
      r.2.mem ((c.tc : Thread Cert.KernelResIdeal.nD Cert.KernelResIdeal.τ).loc Cert.KernelResIdeal.main_arg0) = m ((c.tc : Thread Cert.KernelResIdeal.nD Cert.KernelResIdeal.τ).loc Cert.KernelResIdeal.main_arg0)
      ∧ r.2.mem ((c.tc : Thread Cert.KernelResIdeal.nD Cert.KernelResIdeal.τ).loc Cert.KernelResIdeal.main_arg1) = m ((c.tc : Thread Cert.KernelResIdeal.nD Cert.KernelResIdeal.τ).loc Cert.KernelResIdeal.main_arg1)
      ∧ r.2.mem ((c.tc : Thread Cert.KernelResIdeal.nD Cert.KernelResIdeal.τ).loc Cert.KernelResIdeal.main_arg2) = m ((c.tc : Thread Cert.KernelResIdeal.nD Cert.KernelResIdeal.τ).loc Cert.KernelResIdeal.main_arg2)
      ∧ r.2.mem ((c.tc : Thread Cert.KernelResIdeal.nD Cert.KernelResIdeal.τ).loc Cert.KernelResIdeal.main_arg3) = m ((c.tc : Thread Cert.KernelResIdeal.nD Cert.KernelResIdeal.τ).loc Cert.KernelResIdeal.main_arg3)
      ∧ r.2.mem ((c.tc : Thread Cert.KernelResIdeal.nD Cert.KernelResIdeal.τ).loc Cert.KernelResIdeal.main_arg4) = m ((c.tc : Thread Cert.KernelResIdeal.nD Cert.KernelResIdeal.τ).loc Cert.KernelResIdeal.main_arg4)
      ∧ r.2.mem ((c.tc : Thread Cert.KernelResIdeal.nD Cert.KernelResIdeal.τ).loc Cert.KernelResIdeal.main_arg5) = m ((c.tc : Thread Cert.KernelResIdeal.nD Cert.KernelResIdeal.τ).loc Cert.KernelResIdeal.main_arg5))
      ∧ r.2.sem = fun _ => 0)

def quiescent_ReferenceResIdeal [hReferenceResIdeal : Cert.ReferenceResIdeal.Facts] : Prop :=
  ∀ (m : (ℓ : Loc Cert.ReferenceResIdeal.nD Cert.ReferenceResIdeal.τ Cert.ReferenceResIdeal.sig) → Buf (Elt Ideal) ℓ) (g : Dev Cert.ReferenceResIdeal.nD → PrngReg), Pre_ReferenceResIdeal m →
    θ_run (Cert.ReferenceResIdeal.defs (F := Ideal)) (onTc (τ := Cert.ReferenceResIdeal.τ) (Cert.ReferenceResIdeal.main (F := Ideal))) ⟨m, fun _ => 0, g⟩ (fun r => (∀ c : Dev Cert.ReferenceResIdeal.nD,
      r.2.mem ((c.tc : Thread Cert.ReferenceResIdeal.nD Cert.ReferenceResIdeal.τ).loc Cert.ReferenceResIdeal.main_arg0) = m ((c.tc : Thread Cert.ReferenceResIdeal.nD Cert.ReferenceResIdeal.τ).loc Cert.ReferenceResIdeal.main_arg0)
      ∧ r.2.mem ((c.tc : Thread Cert.ReferenceResIdeal.nD Cert.ReferenceResIdeal.τ).loc Cert.ReferenceResIdeal.main_arg1) = m ((c.tc : Thread Cert.ReferenceResIdeal.nD Cert.ReferenceResIdeal.τ).loc Cert.ReferenceResIdeal.main_arg1)
      ∧ r.2.mem ((c.tc : Thread Cert.ReferenceResIdeal.nD Cert.ReferenceResIdeal.τ).loc Cert.ReferenceResIdeal.main_arg2) = m ((c.tc : Thread Cert.ReferenceResIdeal.nD Cert.ReferenceResIdeal.τ).loc Cert.ReferenceResIdeal.main_arg2)
      ∧ r.2.mem ((c.tc : Thread Cert.ReferenceResIdeal.nD Cert.ReferenceResIdeal.τ).loc Cert.ReferenceResIdeal.main_arg3) = m ((c.tc : Thread Cert.ReferenceResIdeal.nD Cert.ReferenceResIdeal.τ).loc Cert.ReferenceResIdeal.main_arg3)
      ∧ r.2.mem ((c.tc : Thread Cert.ReferenceResIdeal.nD Cert.ReferenceResIdeal.τ).loc Cert.ReferenceResIdeal.main_arg4) = m ((c.tc : Thread Cert.ReferenceResIdeal.nD Cert.ReferenceResIdeal.τ).loc Cert.ReferenceResIdeal.main_arg4)
      ∧ r.2.mem ((c.tc : Thread Cert.ReferenceResIdeal.nD Cert.ReferenceResIdeal.τ).loc Cert.ReferenceResIdeal.main_arg5) = m ((c.tc : Thread Cert.ReferenceResIdeal.nD Cert.ReferenceResIdeal.τ).loc Cert.ReferenceResIdeal.main_arg5))
      ∧ r.2.sem = fun _ => 0)

def quiescent_KernelResB [hKernelResB : Cert.KernelResB.Facts] : Prop :=
  ∀ (m : (ℓ : Loc Cert.KernelResB.nD Cert.KernelResB.τ Cert.KernelResB.sig) → Buf (Elt Bits) ℓ) (g : Dev Cert.KernelResB.nD → PrngReg), Pre_KernelResB m →
    θ_run (Cert.KernelResB.defs (F := Bits)) (onTc (τ := Cert.KernelResB.τ) (Cert.KernelResB.main (F := Bits))) ⟨m, fun _ => 0, g⟩ (fun r => (∀ c : Dev Cert.KernelResB.nD,
      r.2.mem ((c.tc : Thread Cert.KernelResB.nD Cert.KernelResB.τ).loc Cert.KernelResB.main_arg0) = m ((c.tc : Thread Cert.KernelResB.nD Cert.KernelResB.τ).loc Cert.KernelResB.main_arg0)
      ∧ r.2.mem ((c.tc : Thread Cert.KernelResB.nD Cert.KernelResB.τ).loc Cert.KernelResB.main_arg1) = m ((c.tc : Thread Cert.KernelResB.nD Cert.KernelResB.τ).loc Cert.KernelResB.main_arg1)
      ∧ r.2.mem ((c.tc : Thread Cert.KernelResB.nD Cert.KernelResB.τ).loc Cert.KernelResB.main_arg2) = m ((c.tc : Thread Cert.KernelResB.nD Cert.KernelResB.τ).loc Cert.KernelResB.main_arg2))
      ∧ r.2.sem = fun _ => 0)

def quiescent_KernelResBIdeal [hKernelResBIdeal : Cert.KernelResBIdeal.Facts] : Prop :=
  ∀ (m : (ℓ : Loc Cert.KernelResBIdeal.nD Cert.KernelResBIdeal.τ Cert.KernelResBIdeal.sig) → Buf (Elt Ideal) ℓ) (g : Dev Cert.KernelResBIdeal.nD → PrngReg), Pre_KernelResBIdeal m →
    θ_run (Cert.KernelResBIdeal.defs (F := Ideal)) (onTc (τ := Cert.KernelResBIdeal.τ) (Cert.KernelResBIdeal.main (F := Ideal))) ⟨m, fun _ => 0, g⟩ (fun r => (∀ c : Dev Cert.KernelResBIdeal.nD,
      r.2.mem ((c.tc : Thread Cert.KernelResBIdeal.nD Cert.KernelResBIdeal.τ).loc Cert.KernelResBIdeal.main_arg0) = m ((c.tc : Thread Cert.KernelResBIdeal.nD Cert.KernelResBIdeal.τ).loc Cert.KernelResBIdeal.main_arg0)
      ∧ r.2.mem ((c.tc : Thread Cert.KernelResBIdeal.nD Cert.KernelResBIdeal.τ).loc Cert.KernelResBIdeal.main_arg1) = m ((c.tc : Thread Cert.KernelResBIdeal.nD Cert.KernelResBIdeal.τ).loc Cert.KernelResBIdeal.main_arg1)
      ∧ r.2.mem ((c.tc : Thread Cert.KernelResBIdeal.nD Cert.KernelResBIdeal.τ).loc Cert.KernelResBIdeal.main_arg2) = m ((c.tc : Thread Cert.KernelResBIdeal.nD Cert.KernelResBIdeal.τ).loc Cert.KernelResBIdeal.main_arg2))
      ∧ r.2.sem = fun _ => 0)

def quiescent_ReferenceResBIdeal [hReferenceResBIdeal : Cert.ReferenceResBIdeal.Facts] : Prop :=
  ∀ (m : (ℓ : Loc Cert.ReferenceResBIdeal.nD Cert.ReferenceResBIdeal.τ Cert.ReferenceResBIdeal.sig) → Buf (Elt Ideal) ℓ) (g : Dev Cert.ReferenceResBIdeal.nD → PrngReg), Pre_ReferenceResBIdeal m →
    θ_run (Cert.ReferenceResBIdeal.defs (F := Ideal)) (onTc (τ := Cert.ReferenceResBIdeal.τ) (Cert.ReferenceResBIdeal.main (F := Ideal))) ⟨m, fun _ => 0, g⟩ (fun r => (∀ c : Dev Cert.ReferenceResBIdeal.nD,
      r.2.mem ((c.tc : Thread Cert.ReferenceResBIdeal.nD Cert.ReferenceResBIdeal.τ).loc Cert.ReferenceResBIdeal.main_arg0) = m ((c.tc : Thread Cert.ReferenceResBIdeal.nD Cert.ReferenceResBIdeal.τ).loc Cert.ReferenceResBIdeal.main_arg0)
      ∧ r.2.mem ((c.tc : Thread Cert.ReferenceResBIdeal.nD Cert.ReferenceResBIdeal.τ).loc Cert.ReferenceResBIdeal.main_arg1) = m ((c.tc : Thread Cert.ReferenceResBIdeal.nD Cert.ReferenceResBIdeal.τ).loc Cert.ReferenceResBIdeal.main_arg1)
      ∧ r.2.mem ((c.tc : Thread Cert.ReferenceResBIdeal.nD Cert.ReferenceResBIdeal.τ).loc Cert.ReferenceResBIdeal.main_arg2) = m ((c.tc : Thread Cert.ReferenceResBIdeal.nD Cert.ReferenceResBIdeal.τ).loc Cert.ReferenceResBIdeal.main_arg2))
      ∧ r.2.sem = fun _ => 0)

def quiescent_KernelLoss [hKernelLoss : Cert.KernelLoss.Facts] : Prop :=
  ∀ (m : (ℓ : Loc Cert.KernelLoss.nD Cert.KernelLoss.τ Cert.KernelLoss.sig) → Buf (Elt Bits) ℓ) (g : Dev Cert.KernelLoss.nD → PrngReg), Pre_KernelLoss m →
    θ_run (Cert.KernelLoss.defs (F := Bits)) (onTc (τ := Cert.KernelLoss.τ) (Cert.KernelLoss.main (F := Bits))) ⟨m, fun _ => 0, g⟩ (fun r => (∀ c : Dev Cert.KernelLoss.nD,
      r.2.mem ((c.tc : Thread Cert.KernelLoss.nD Cert.KernelLoss.τ).loc Cert.KernelLoss.main_arg0) = m ((c.tc : Thread Cert.KernelLoss.nD Cert.KernelLoss.τ).loc Cert.KernelLoss.main_arg0)
      ∧ r.2.mem ((c.tc : Thread Cert.KernelLoss.nD Cert.KernelLoss.τ).loc Cert.KernelLoss.main_arg1) = m ((c.tc : Thread Cert.KernelLoss.nD Cert.KernelLoss.τ).loc Cert.KernelLoss.main_arg1)
      ∧ r.2.mem ((c.tc : Thread Cert.KernelLoss.nD Cert.KernelLoss.τ).loc Cert.KernelLoss.main_arg2) = m ((c.tc : Thread Cert.KernelLoss.nD Cert.KernelLoss.τ).loc Cert.KernelLoss.main_arg2))
      ∧ r.2.sem = fun _ => 0)

def quiescent_KernelLossIdeal [hKernelLossIdeal : Cert.KernelLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
      ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2))
      ∧ r.2.sem = fun _ => 0)

def quiescent_ReferenceLossIdeal [hReferenceLossIdeal : Cert.ReferenceLossIdeal.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1)
      ∧ r.2.mem ((c.tc : Thread Cert.ReferenceLossIdeal.nD Cert.ReferenceLossIdeal.τ).loc Cert.ReferenceLossIdeal.main_arg2) = m ((c.tc : Thread Cert.ReferenceLossIdeal.nD Cert.ReferenceLossIdeal.τ).loc Cert.ReferenceLossIdeal.main_arg2))
      ∧ r.2.sem = fun _ => 0)

def quiescent_KernelAda [hKernelAda : Cert.KernelAda.Facts] : Prop :=
  ∀ (m : (ℓ : Loc Cert.KernelAda.nD Cert.KernelAda.τ Cert.KernelAda.sig) → Buf (Elt Bits) ℓ) (g : Dev Cert.KernelAda.nD → PrngReg), Pre_KernelAda m →
    θ_run (Cert.KernelAda.defs (F := Bits)) (onTc (τ := Cert.KernelAda.τ) (Cert.KernelAda.main (F := Bits))) ⟨m, fun _ => 0, g⟩ (fun r => (∀ c : Dev Cert.KernelAda.nD,
      r.2.mem ((c.tc : Thread Cert.KernelAda.nD Cert.KernelAda.τ).loc Cert.KernelAda.main_arg0) = m ((c.tc : Thread Cert.KernelAda.nD Cert.KernelAda.τ).loc Cert.KernelAda.main_arg0)
      ∧ r.2.mem ((c.tc : Thread Cert.KernelAda.nD Cert.KernelAda.τ).loc Cert.KernelAda.main_arg1) = m ((c.tc : Thread Cert.KernelAda.nD Cert.KernelAda.τ).loc Cert.KernelAda.main_arg1)
      ∧ r.2.mem ((c.tc : Thread Cert.KernelAda.nD Cert.KernelAda.τ).loc Cert.KernelAda.main_arg2) = m ((c.tc : Thread Cert.KernelAda.nD Cert.KernelAda.τ).loc Cert.KernelAda.main_arg2)
      ∧ r.2.mem ((c.tc : Thread Cert.KernelAda.nD Cert.KernelAda.τ).loc Cert.KernelAda.main_arg3) = m ((c.tc : Thread Cert.KernelAda.nD Cert.KernelAda.τ).loc Cert.KernelAda.main_arg3))
      ∧ r.2.sem = fun _ => 0)

def quiescent_KernelAdaIdeal [hKernelAdaIdeal : Cert.KernelAdaIdeal.Facts] : Prop :=
  ∀ (m : (ℓ : Loc Cert.KernelAdaIdeal.nD Cert.KernelAdaIdeal.τ Cert.KernelAdaIdeal.sig) → Buf (Elt Ideal) ℓ) (g : Dev Cert.KernelAdaIdeal.nD → PrngReg), Pre_KernelAdaIdeal m →
    θ_run (Cert.KernelAdaIdeal.defs (F := Ideal)) (onTc (τ := Cert.KernelAdaIdeal.τ) (Cert.KernelAdaIdeal.main (F := Ideal))) ⟨m, fun _ => 0, g⟩ (fun r => (∀ c : Dev Cert.KernelAdaIdeal.nD,
      r.2.mem ((c.tc : Thread Cert.KernelAdaIdeal.nD Cert.KernelAdaIdeal.τ).loc Cert.KernelAdaIdeal.main_arg0) = m ((c.tc : Thread Cert.KernelAdaIdeal.nD Cert.KernelAdaIdeal.τ).loc Cert.KernelAdaIdeal.main_arg0)
      ∧ r.2.mem ((c.tc : Thread Cert.KernelAdaIdeal.nD Cert.KernelAdaIdeal.τ).loc Cert.KernelAdaIdeal.main_arg1) = m ((c.tc : Thread Cert.KernelAdaIdeal.nD Cert.KernelAdaIdeal.τ).loc Cert.KernelAdaIdeal.main_arg1)
      ∧ r.2.mem ((c.tc : Thread Cert.KernelAdaIdeal.nD Cert.KernelAdaIdeal.τ).loc Cert.KernelAdaIdeal.main_arg2) = m ((c.tc : Thread Cert.KernelAdaIdeal.nD Cert.KernelAdaIdeal.τ).loc Cert.KernelAdaIdeal.main_arg2)
      ∧ r.2.mem ((c.tc : Thread Cert.KernelAdaIdeal.nD Cert.KernelAdaIdeal.τ).loc Cert.KernelAdaIdeal.main_arg3) = m ((c.tc : Thread Cert.KernelAdaIdeal.nD Cert.KernelAdaIdeal.τ).loc Cert.KernelAdaIdeal.main_arg3))
      ∧ r.2.sem = fun _ => 0)

def quiescent_ReferenceAdaIdeal [hReferenceAdaIdeal : Cert.ReferenceAdaIdeal.Facts] : Prop :=
  ∀ (m : (ℓ : Loc Cert.ReferenceAdaIdeal.nD Cert.ReferenceAdaIdeal.τ Cert.ReferenceAdaIdeal.sig) → Buf (Elt Ideal) ℓ) (g : Dev Cert.ReferenceAdaIdeal.nD → PrngReg), Pre_ReferenceAdaIdeal m →
    θ_run (Cert.ReferenceAdaIdeal.defs (F := Ideal)) (onTc (τ := Cert.ReferenceAdaIdeal.τ) (Cert.ReferenceAdaIdeal.main (F := Ideal))) ⟨m, fun _ => 0, g⟩ (fun r => (∀ c : Dev Cert.ReferenceAdaIdeal.nD,
      r.2.mem ((c.tc : Thread Cert.ReferenceAdaIdeal.nD Cert.ReferenceAdaIdeal.τ).loc Cert.ReferenceAdaIdeal.main_arg0) = m ((c.tc : Thread Cert.ReferenceAdaIdeal.nD Cert.ReferenceAdaIdeal.τ).loc Cert.ReferenceAdaIdeal.main_arg0)
      ∧ r.2.mem ((c.tc : Thread Cert.ReferenceAdaIdeal.nD Cert.ReferenceAdaIdeal.τ).loc Cert.ReferenceAdaIdeal.main_arg1) = m ((c.tc : Thread Cert.ReferenceAdaIdeal.nD Cert.ReferenceAdaIdeal.τ).loc Cert.ReferenceAdaIdeal.main_arg1)
      ∧ r.2.mem ((c.tc : Thread Cert.ReferenceAdaIdeal.nD Cert.ReferenceAdaIdeal.τ).loc Cert.ReferenceAdaIdeal.main_arg2) = m ((c.tc : Thread Cert.ReferenceAdaIdeal.nD Cert.ReferenceAdaIdeal.τ).loc Cert.ReferenceAdaIdeal.main_arg2)
      ∧ r.2.mem ((c.tc : Thread Cert.ReferenceAdaIdeal.nD Cert.ReferenceAdaIdeal.τ).loc Cert.ReferenceAdaIdeal.main_arg3) = m ((c.tc : Thread Cert.ReferenceAdaIdeal.nD Cert.ReferenceAdaIdeal.τ).loc Cert.ReferenceAdaIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v1_1)) (v3 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_v1_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_v74) = v2 c
          ∧ r.2.mem ((c.tc : Thread Cert.ReferenceIdeal.nD Cert.ReferenceIdeal.τ).loc Cert.ReferenceIdeal.main_v75) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KernelFfn_KernelFfnIdeal : Prop :=
  True

def algebraic_KernelFfnIdeal_ReferenceFfnIdeal_pre_finite_ffn [hKernelFfnIdeal : Cert.KernelFfnIdeal.Facts] [hReferenceFfnIdeal : Cert.ReferenceFfnIdeal.Facts] [hPre_finite_ffn : Cert.Pre_finite_ffn.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal_finite_ffn m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)) →
    ∃ (v0 : (c : Dev Cert.KernelFfnIdeal.nD) → Buf (Elt Ideal) ((c.tc : Thread Cert.KernelFfnIdeal.nD Cert.KernelFfnIdeal.τ).loc Cert.KernelFfnIdeal.main_v1)) (v1 : (c : Dev Cert.KernelFfnIdeal.nD) → Buf (Elt Ideal) ((c.tc : Thread Cert.KernelFfnIdeal.nD Cert.KernelFfnIdeal.τ).loc Cert.KernelFfnIdeal.main_v6)) (v2 : (c : Dev Cert.KernelFfnIdeal.nD) → Buf (Elt Ideal) ((c.tc : Thread Cert.KernelFfnIdeal.nD Cert.KernelFfnIdeal.τ).loc Cert.KernelFfnIdeal.main_v8)) (v3 : (c : Dev Cert.KernelFfnIdeal.nD) → Buf (Elt Ideal) ((c.tc : Thread Cert.KernelFfnIdeal.nD Cert.KernelFfnIdeal.τ).loc Cert.KernelFfnIdeal.main_v4)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v1) = v0 c
          ∧ r.2.mem ((c.tc : Thread Cert.KernelFfnIdeal.nD Cert.KernelFfnIdeal.τ).loc Cert.KernelFfnIdeal.main_v6) = v1 c
          ∧ r.2.mem ((c.tc : Thread Cert.KernelFfnIdeal.nD Cert.KernelFfnIdeal.τ).loc Cert.KernelFfnIdeal.main_v8) = v2 c
          ∧ r.2.mem ((c.tc : Thread Cert.KernelFfnIdeal.nD Cert.KernelFfnIdeal.τ).loc Cert.KernelFfnIdeal.main_v4) = v3 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v19) = v0 c
          ∧ r.2.mem ((c.tc : Thread Cert.ReferenceFfnIdeal.nD Cert.ReferenceFfnIdeal.τ).loc Cert.ReferenceFfnIdeal.main_v20) = v1 c
          ∧ r.2.mem ((c.tc : Thread Cert.ReferenceFfnIdeal.nD Cert.ReferenceFfnIdeal.τ).loc Cert.ReferenceFfnIdeal.main_v21) = v2 c
          ∧ r.2.mem ((c.tc : Thread Cert.ReferenceFfnIdeal.nD Cert.ReferenceFfnIdeal.τ).loc Cert.ReferenceFfnIdeal.main_v22) = v3 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3))

def preserves_KernelFfnX_KernelFfnXIdeal : Prop :=
  True

def algebraic_KernelFfnXIdeal_ReferenceFfnXIdeal [hKernelFfnXIdeal : Cert.KernelFfnXIdeal.Facts] [hReferenceFfnXIdeal : Cert.ReferenceFfnXIdeal.Facts] : Prop :=
  ∀ (m : (ℓ : Loc Cert.KernelFfnXIdeal.nD Cert.KernelFfnXIdeal.τ Cert.KernelFfnXIdeal.sig) → Buf (Elt Ideal) ℓ) (g : Dev Cert.KernelFfnXIdeal.nD → PrngReg)
    (m' : (ℓ : Loc Cert.ReferenceFfnXIdeal.nD Cert.ReferenceFfnXIdeal.τ Cert.ReferenceFfnXIdeal.sig) → Buf (Elt Ideal) ℓ) (g' : Dev Cert.ReferenceFfnXIdeal.nD → PrngReg), Pre_KernelFfnXIdeal m →
    (∀ c : Dev Cert.KernelFfnXIdeal.nD,
      m' ((c.tc : Thread Cert.ReferenceFfnXIdeal.nD Cert.ReferenceFfnXIdeal.τ).loc Cert.ReferenceFfnXIdeal.main_arg0) = m ((c.tc : Thread Cert.KernelFfnXIdeal.nD Cert.KernelFfnXIdeal.τ).loc Cert.KernelFfnXIdeal.main_arg0)
      ∧ m' ((c.tc : Thread Cert.ReferenceFfnXIdeal.nD Cert.ReferenceFfnXIdeal.τ).loc Cert.ReferenceFfnXIdeal.main_arg1) = m ((c.tc : Thread Cert.KernelFfnXIdeal.nD Cert.KernelFfnXIdeal.τ).loc Cert.KernelFfnXIdeal.main_arg1)) →
    ∃ (v0 : (c : Dev Cert.KernelFfnXIdeal.nD) → Buf (Elt Ideal) ((c.tc : Thread Cert.KernelFfnXIdeal.nD Cert.KernelFfnXIdeal.τ).loc Cert.KernelFfnXIdeal.main_v0)),
      θ_run (Cert.KernelFfnXIdeal.defs (F := Ideal)) (onTc (τ := Cert.KernelFfnXIdeal.τ) (Cert.KernelFfnXIdeal.main (F := Ideal))) ⟨m, fun _ => 0, g⟩ (fun r => ∀ c : Dev Cert.KernelFfnXIdeal.nD,
          r.2.mem ((c.tc : Thread Cert.KernelFfnXIdeal.nD Cert.KernelFfnXIdeal.τ).loc Cert.KernelFfnXIdeal.main_v0) = v0 c
          ∧ r.2.mem ((c.tc : Thread Cert.KernelFfnXIdeal.nD Cert.KernelFfnXIdeal.τ).loc Cert.KernelFfnXIdeal.main_arg0) = m ((c.tc : Thread Cert.KernelFfnXIdeal.nD Cert.KernelFfnXIdeal.τ).loc Cert.KernelFfnXIdeal.main_arg0)
          ∧ r.2.mem ((c.tc : Thread Cert.KernelFfnXIdeal.nD Cert.KernelFfnXIdeal.τ).loc Cert.KernelFfnXIdeal.main_arg1) = m ((c.tc : Thread Cert.KernelFfnXIdeal.nD Cert.KernelFfnXIdeal.τ).loc Cert.KernelFfnXIdeal.main_arg1))
      ∧ θ_run (Cert.ReferenceFfnXIdeal.defs (F := Ideal)) (onTc (τ := Cert.ReferenceFfnXIdeal.τ) (Cert.ReferenceFfnXIdeal.main (F := Ideal))) ⟨m', fun _ => 0, g'⟩ (fun r => ∀ c : Dev Cert.ReferenceFfnXIdeal.nD,
          r.2.mem ((c.tc : Thread Cert.ReferenceFfnXIdeal.nD Cert.ReferenceFfnXIdeal.τ).loc Cert.ReferenceFfnXIdeal.main_v4) = v0 c
          ∧ r.2.mem ((c.tc : Thread Cert.ReferenceFfnXIdeal.nD Cert.ReferenceFfnXIdeal.τ).loc Cert.ReferenceFfnXIdeal.main_arg0) = m' ((c.tc : Thread Cert.ReferenceFfnXIdeal.nD Cert.ReferenceFfnXIdeal.τ).loc Cert.ReferenceFfnXIdeal.main_arg0)
          ∧ r.2.mem ((c.tc : Thread Cert.ReferenceFfnXIdeal.nD Cert.ReferenceFfnXIdeal.τ).loc Cert.ReferenceFfnXIdeal.main_arg1) = m' ((c.tc : Thread Cert.ReferenceFfnXIdeal.nD Cert.ReferenceFfnXIdeal.τ).loc Cert.ReferenceFfnXIdeal.main_arg1))

def preserves_KernelFfnDown_KernelFfnDownIdeal : Prop :=
  True

def algebraic_KernelFfnDownIdeal_ReferenceFfnDownIdeal [hKernelFfnDownIdeal : Cert.KernelFfnDownIdeal.Facts] [hReferenceFfnDownIdeal : Cert.ReferenceFfnDownIdeal.Facts] : Prop :=
  ∀ (m : (ℓ : Loc Cert.KernelFfnDownIdeal.nD Cert.KernelFfnDownIdeal.τ Cert.KernelFfnDownIdeal.sig) → Buf (Elt Ideal) ℓ) (g : Dev Cert.KernelFfnDownIdeal.nD → PrngReg)
    (m' : (ℓ : Loc Cert.ReferenceFfnDownIdeal.nD Cert.ReferenceFfnDownIdeal.τ Cert.ReferenceFfnDownIdeal.sig) → Buf (Elt Ideal) ℓ) (g' : Dev Cert.ReferenceFfnDownIdeal.nD → PrngReg), Pre_KernelFfnDownIdeal m →
    (∀ c : Dev Cert.KernelFfnDownIdeal.nD,
      m' ((c.tc : Thread Cert.ReferenceFfnDownIdeal.nD Cert.ReferenceFfnDownIdeal.τ).loc Cert.ReferenceFfnDownIdeal.main_arg0) = m ((c.tc : Thread Cert.KernelFfnDownIdeal.nD Cert.KernelFfnDownIdeal.τ).loc Cert.KernelFfnDownIdeal.main_arg0)
      ∧ m' ((c.tc : Thread Cert.ReferenceFfnDownIdeal.nD Cert.ReferenceFfnDownIdeal.τ).loc Cert.ReferenceFfnDownIdeal.main_arg1) = m ((c.tc : Thread Cert.KernelFfnDownIdeal.nD Cert.KernelFfnDownIdeal.τ).loc Cert.KernelFfnDownIdeal.main_arg1)) →
    ∃ (v0 : (c : Dev Cert.KernelFfnDownIdeal.nD) → Buf (Elt Ideal) ((c.tc : Thread Cert.KernelFfnDownIdeal.nD Cert.KernelFfnDownIdeal.τ).loc Cert.KernelFfnDownIdeal.main_v0)),
      θ_run (Cert.KernelFfnDownIdeal.defs (F := Ideal)) (onTc (τ := Cert.KernelFfnDownIdeal.τ) (Cert.KernelFfnDownIdeal.main (F := Ideal))) ⟨m, fun _ => 0, g⟩ (fun r => ∀ c : Dev Cert.KernelFfnDownIdeal.nD,
          r.2.mem ((c.tc : Thread Cert.KernelFfnDownIdeal.nD Cert.KernelFfnDownIdeal.τ).loc Cert.KernelFfnDownIdeal.main_v0) = v0 c
          ∧ r.2.mem ((c.tc : Thread Cert.KernelFfnDownIdeal.nD Cert.KernelFfnDownIdeal.τ).loc Cert.KernelFfnDownIdeal.main_arg0) = m ((c.tc : Thread Cert.KernelFfnDownIdeal.nD Cert.KernelFfnDownIdeal.τ).loc Cert.KernelFfnDownIdeal.main_arg0)
          ∧ r.2.mem ((c.tc : Thread Cert.KernelFfnDownIdeal.nD Cert.KernelFfnDownIdeal.τ).loc Cert.KernelFfnDownIdeal.main_arg1) = m ((c.tc : Thread Cert.KernelFfnDownIdeal.nD Cert.KernelFfnDownIdeal.τ).loc Cert.KernelFfnDownIdeal.main_arg1))
      ∧ θ_run (Cert.ReferenceFfnDownIdeal.defs (F := Ideal)) (onTc (τ := Cert.ReferenceFfnDownIdeal.τ) (Cert.ReferenceFfnDownIdeal.main (F := Ideal))) ⟨m', fun _ => 0, g'⟩ (fun r => ∀ c : Dev Cert.ReferenceFfnDownIdeal.nD,
          r.2.mem ((c.tc : Thread Cert.ReferenceFfnDownIdeal.nD Cert.ReferenceFfnDownIdeal.τ).loc Cert.ReferenceFfnDownIdeal.main_v2) = v0 c
          ∧ r.2.mem ((c.tc : Thread Cert.ReferenceFfnDownIdeal.nD Cert.ReferenceFfnDownIdeal.τ).loc Cert.ReferenceFfnDownIdeal.main_arg0) = m' ((c.tc : Thread Cert.ReferenceFfnDownIdeal.nD Cert.ReferenceFfnDownIdeal.τ).loc Cert.ReferenceFfnDownIdeal.main_arg0)
          ∧ r.2.mem ((c.tc : Thread Cert.ReferenceFfnDownIdeal.nD Cert.ReferenceFfnDownIdeal.τ).loc Cert.ReferenceFfnDownIdeal.main_arg1) = m' ((c.tc : Thread Cert.ReferenceFfnDownIdeal.nD Cert.ReferenceFfnDownIdeal.τ).loc Cert.ReferenceFfnDownIdeal.main_arg1))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)) →
    ∃ (v0 : (c : Dev Cert.KernelInIdeal.nD) → Buf (Elt Ideal) ((c.tc : Thread Cert.KernelInIdeal.nD Cert.KernelInIdeal.τ).loc Cert.KernelInIdeal.main_v27)) (v1 : (c : Dev Cert.KernelInIdeal.nD) → Buf (Elt Ideal) ((c.tc : Thread Cert.KernelInIdeal.nD Cert.KernelInIdeal.τ).loc Cert.KernelInIdeal.main_v33)) (v2 : (c : Dev Cert.KernelInIdeal.nD) → Buf (Elt Ideal) ((c.tc : Thread Cert.KernelInIdeal.nD Cert.KernelInIdeal.τ).loc Cert.KernelInIdeal.main_v19)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v27) = v0 c
          ∧ r.2.mem ((c.tc : Thread Cert.KernelInIdeal.nD Cert.KernelInIdeal.τ).loc Cert.KernelInIdeal.main_v33) = v1 c
          ∧ r.2.mem ((c.tc : Thread Cert.KernelInIdeal.nD Cert.KernelInIdeal.τ).loc Cert.KernelInIdeal.main_v19) = v2 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v3) = v0 c
          ∧ r.2.mem ((c.tc : Thread Cert.ReferenceInIdeal.nD Cert.ReferenceInIdeal.τ).loc Cert.ReferenceInIdeal.main_v15) = v1 c
          ∧ r.2.mem ((c.tc : Thread Cert.ReferenceInIdeal.nD Cert.ReferenceInIdeal.τ).loc Cert.ReferenceInIdeal.main_v12) = v2 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2))

def preserves_KernelInX_KernelInXIdeal : Prop :=
  True

def algebraic_KernelInXIdeal_ReferenceInXIdeal [hKernelInXIdeal : Cert.KernelInXIdeal.Facts] [hReferenceInXIdeal : Cert.ReferenceInXIdeal.Facts] : Prop :=
  ∀ (m : (ℓ : Loc Cert.KernelInXIdeal.nD Cert.KernelInXIdeal.τ Cert.KernelInXIdeal.sig) → Buf (Elt Ideal) ℓ) (g : Dev Cert.KernelInXIdeal.nD → PrngReg)
    (m' : (ℓ : Loc Cert.ReferenceInXIdeal.nD Cert.ReferenceInXIdeal.τ Cert.ReferenceInXIdeal.sig) → Buf (Elt Ideal) ℓ) (g' : Dev Cert.ReferenceInXIdeal.nD → PrngReg), Pre_KernelInXIdeal m →
    (∀ c : Dev Cert.KernelInXIdeal.nD,
      m' ((c.tc : Thread Cert.ReferenceInXIdeal.nD Cert.ReferenceInXIdeal.τ).loc Cert.ReferenceInXIdeal.main_arg0) = m ((c.tc : Thread Cert.KernelInXIdeal.nD Cert.KernelInXIdeal.τ).loc Cert.KernelInXIdeal.main_arg0)
      ∧ m' ((c.tc : Thread Cert.ReferenceInXIdeal.nD Cert.ReferenceInXIdeal.τ).loc Cert.ReferenceInXIdeal.main_arg1) = m ((c.tc : Thread Cert.KernelInXIdeal.nD Cert.KernelInXIdeal.τ).loc Cert.KernelInXIdeal.main_arg1)
      ∧ m' ((c.tc : Thread Cert.ReferenceInXIdeal.nD Cert.ReferenceInXIdeal.τ).loc Cert.ReferenceInXIdeal.main_arg2) = m ((c.tc : Thread Cert.KernelInXIdeal.nD Cert.KernelInXIdeal.τ).loc Cert.KernelInXIdeal.main_arg2)) →
    ∃ (v0 : (c : Dev Cert.KernelInXIdeal.nD) → Buf (Elt Ideal) ((c.tc : Thread Cert.KernelInXIdeal.nD Cert.KernelInXIdeal.τ).loc Cert.KernelInXIdeal.main_v0)),
      θ_run (Cert.KernelInXIdeal.defs (F := Ideal)) (onTc (τ := Cert.KernelInXIdeal.τ) (Cert.KernelInXIdeal.main (F := Ideal))) ⟨m, fun _ => 0, g⟩ (fun r => ∀ c : Dev Cert.KernelInXIdeal.nD,
          r.2.mem ((c.tc : Thread Cert.KernelInXIdeal.nD Cert.KernelInXIdeal.τ).loc Cert.KernelInXIdeal.main_v0) = v0 c
          ∧ r.2.mem ((c.tc : Thread Cert.KernelInXIdeal.nD Cert.KernelInXIdeal.τ).loc Cert.KernelInXIdeal.main_arg0) = m ((c.tc : Thread Cert.KernelInXIdeal.nD Cert.KernelInXIdeal.τ).loc Cert.KernelInXIdeal.main_arg0)
          ∧ r.2.mem ((c.tc : Thread Cert.KernelInXIdeal.nD Cert.KernelInXIdeal.τ).loc Cert.KernelInXIdeal.main_arg1) = m ((c.tc : Thread Cert.KernelInXIdeal.nD Cert.KernelInXIdeal.τ).loc Cert.KernelInXIdeal.main_arg1)
          ∧ r.2.mem ((c.tc : Thread Cert.KernelInXIdeal.nD Cert.KernelInXIdeal.τ).loc Cert.KernelInXIdeal.main_arg2) = m ((c.tc : Thread Cert.KernelInXIdeal.nD Cert.KernelInXIdeal.τ).loc Cert.KernelInXIdeal.main_arg2))
      ∧ θ_run (Cert.ReferenceInXIdeal.defs (F := Ideal)) (onTc (τ := Cert.ReferenceInXIdeal.τ) (Cert.ReferenceInXIdeal.main (F := Ideal))) ⟨m', fun _ => 0, g'⟩ (fun r => ∀ c : Dev Cert.ReferenceInXIdeal.nD,
          r.2.mem ((c.tc : Thread Cert.ReferenceInXIdeal.nD Cert.ReferenceInXIdeal.τ).loc Cert.ReferenceInXIdeal.main_v5) = v0 c
          ∧ r.2.mem ((c.tc : Thread Cert.ReferenceInXIdeal.nD Cert.ReferenceInXIdeal.τ).loc Cert.ReferenceInXIdeal.main_arg0) = m' ((c.tc : Thread Cert.ReferenceInXIdeal.nD Cert.ReferenceInXIdeal.τ).loc Cert.ReferenceInXIdeal.main_arg0)
          ∧ r.2.mem ((c.tc : Thread Cert.ReferenceInXIdeal.nD Cert.ReferenceInXIdeal.τ).loc Cert.ReferenceInXIdeal.main_arg1) = m' ((c.tc : Thread Cert.ReferenceInXIdeal.nD Cert.ReferenceInXIdeal.τ).loc Cert.ReferenceInXIdeal.main_arg1)
          ∧ r.2.mem ((c.tc : Thread Cert.ReferenceInXIdeal.nD Cert.ReferenceInXIdeal.τ).loc Cert.ReferenceInXIdeal.main_arg2) = m' ((c.tc : Thread Cert.ReferenceInXIdeal.nD Cert.ReferenceInXIdeal.τ).loc Cert.ReferenceInXIdeal.main_arg2))

def preserves_KernelMix_KernelMixIdeal : Prop :=
  True

def algebraic_KernelMixIdeal_ReferenceMixIdeal [hKernelMixIdeal : Cert.KernelMixIdeal.Facts] [hReferenceMixIdeal : Cert.ReferenceMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg)
    (m' : (ℓ : Loc Cert.ReferenceMixIdeal.nD Cert.ReferenceMixIdeal.τ Cert.ReferenceMixIdeal.sig) → Buf (Elt Ideal) ℓ) (g' : Dev Cert.ReferenceMixIdeal.nD → PrngReg), Pre_KernelMixIdeal m →
    (∀ c : Dev Cert.KernelMixIdeal.nD,
      m' ((c.tc : Thread Cert.ReferenceMixIdeal.nD Cert.ReferenceMixIdeal.τ).loc Cert.ReferenceMixIdeal.main_arg0) = m ((c.tc : Thread Cert.KernelMixIdeal.nD Cert.KernelMixIdeal.τ).loc Cert.KernelMixIdeal.main_arg0)
      ∧ m' ((c.tc : Thread Cert.ReferenceMixIdeal.nD Cert.ReferenceMixIdeal.τ).loc Cert.ReferenceMixIdeal.main_arg1) = m ((c.tc : Thread Cert.KernelMixIdeal.nD Cert.KernelMixIdeal.τ).loc Cert.KernelMixIdeal.main_arg1)
      ∧ m' ((c.tc : Thread Cert.ReferenceMixIdeal.nD Cert.ReferenceMixIdeal.τ).loc Cert.ReferenceMixIdeal.main_arg2) = m ((c.tc : Thread Cert.KernelMixIdeal.nD Cert.KernelMixIdeal.τ).loc Cert.KernelMixIdeal.main_arg2)
      ∧ m' ((c.tc : Thread Cert.ReferenceMixIdeal.nD Cert.ReferenceMixIdeal.τ).loc Cert.ReferenceMixIdeal.main_arg3) = m ((c.tc : Thread Cert.KernelMixIdeal.nD Cert.KernelMixIdeal.τ).loc Cert.KernelMixIdeal.main_arg3)
      ∧ m' ((c.tc : Thread Cert.ReferenceMixIdeal.nD Cert.ReferenceMixIdeal.τ).loc Cert.ReferenceMixIdeal.main_arg4) = m ((c.tc : Thread Cert.KernelMixIdeal.nD Cert.KernelMixIdeal.τ).loc Cert.KernelMixIdeal.main_arg4)
      ∧ m' ((c.tc : Thread Cert.ReferenceMixIdeal.nD Cert.ReferenceMixIdeal.τ).loc Cert.ReferenceMixIdeal.main_arg5) = m ((c.tc : Thread Cert.KernelMixIdeal.nD Cert.KernelMixIdeal.τ).loc Cert.KernelMixIdeal.main_arg5)
      ∧ m' ((c.tc : Thread Cert.ReferenceMixIdeal.nD Cert.ReferenceMixIdeal.τ).loc Cert.ReferenceMixIdeal.main_arg6) = m ((c.tc : Thread Cert.KernelMixIdeal.nD Cert.KernelMixIdeal.τ).loc Cert.KernelMixIdeal.main_arg6)) →
    ∃ (v0 : (c : Dev Cert.KernelMixIdeal.nD) → Buf (Elt Ideal) ((c.tc : Thread Cert.KernelMixIdeal.nD Cert.KernelMixIdeal.τ).loc Cert.KernelMixIdeal.main_v3)) (v1 : (c : Dev Cert.KernelMixIdeal.nD) → Buf (Elt Ideal) ((c.tc : Thread Cert.KernelMixIdeal.nD Cert.KernelMixIdeal.τ).loc Cert.KernelMixIdeal.main_v11)) (v2 : (c : Dev Cert.KernelMixIdeal.nD) → Buf (Elt Ideal) ((c.tc : Thread Cert.KernelMixIdeal.nD Cert.KernelMixIdeal.τ).loc Cert.KernelMixIdeal.main_v8)) (v3 : (c : Dev Cert.KernelMixIdeal.nD) → Buf (Elt Ideal) ((c.tc : Thread Cert.KernelMixIdeal.nD Cert.KernelMixIdeal.τ).loc Cert.KernelMixIdeal.main_v13)) (v4 : (c : Dev Cert.KernelMixIdeal.nD) → Buf (Elt Ideal) ((c.tc : Thread Cert.KernelMixIdeal.nD Cert.KernelMixIdeal.τ).loc Cert.KernelMixIdeal.main_v10)) (v5 : (c : Dev Cert.KernelMixIdeal.nD) → Buf (Elt Ideal) ((c.tc : Thread Cert.KernelMixIdeal.nD Cert.KernelMixIdeal.τ).loc Cert.KernelMixIdeal.main_v6)) (v6 : (c : Dev Cert.KernelMixIdeal.nD) → Buf (Elt Ideal) ((c.tc : Thread Cert.KernelMixIdeal.nD Cert.KernelMixIdeal.τ).loc Cert.KernelMixIdeal.main_v7_2)) (v7 : (c : Dev Cert.KernelMixIdeal.nD) → Buf (Elt Ideal) ((c.tc : Thread Cert.KernelMixIdeal.nD Cert.KernelMixIdeal.τ).loc Cert.KernelMixIdeal.main_v7_3)),
      θ_run (Cert.KernelMixIdeal.defs (F := Ideal)) (onTc (τ := Cert.KernelMixIdeal.τ) (Cert.KernelMixIdeal.main (F := Ideal))) ⟨m, fun _ => 0, g⟩ (fun r => ∀ c : Dev Cert.KernelMixIdeal.nD,
          r.2.mem ((c.tc : Thread Cert.KernelMixIdeal.nD Cert.KernelMixIdeal.τ).loc Cert.KernelMixIdeal.main_v3) = v0 c
          ∧ r.2.mem ((c.tc : Thread Cert.KernelMixIdeal.nD Cert.KernelMixIdeal.τ).loc Cert.KernelMixIdeal.main_v11) = v1 c
          ∧ r.2.mem ((c.tc : Thread Cert.KernelMixIdeal.nD Cert.KernelMixIdeal.τ).loc Cert.KernelMixIdeal.main_v8) = v2 c
          ∧ r.2.mem ((c.tc : Thread Cert.KernelMixIdeal.nD Cert.KernelMixIdeal.τ).loc Cert.KernelMixIdeal.main_v13) = v3 c
          ∧ r.2.mem ((c.tc : Thread Cert.KernelMixIdeal.nD Cert.KernelMixIdeal.τ).loc Cert.KernelMixIdeal.main_v10) = v4 c
          ∧ r.2.mem ((c.tc : Thread Cert.KernelMixIdeal.nD Cert.KernelMixIdeal.τ).loc Cert.KernelMixIdeal.main_v6) = v5 c
          ∧ r.2.mem ((c.tc : Thread Cert.KernelMixIdeal.nD Cert.KernelMixIdeal.τ).loc Cert.KernelMixIdeal.main_v7_2) = v6 c
          ∧ r.2.mem ((c.tc : Thread Cert.KernelMixIdeal.nD Cert.KernelMixIdeal.τ).loc Cert.KernelMixIdeal.main_v7_3) = v7 c
          ∧ r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
          ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
          ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
          ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
          ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
          ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5)
          ∧ r.2.mem ((c.tc : Thread Cert.KernelMixIdeal.nD Cert.KernelMixIdeal.τ).loc Cert.KernelMixIdeal.main_arg6) = m ((c.tc : Thread Cert.KernelMixIdeal.nD Cert.KernelMixIdeal.τ).loc Cert.KernelMixIdeal.main_arg6))
      ∧ θ_run (Cert.ReferenceMixIdeal.defs (F := Ideal)) (onTc (τ := Cert.ReferenceMixIdeal.τ) (Cert.ReferenceMixIdeal.main (F := Ideal))) ⟨m', fun _ => 0, g'⟩ (fun r => ∀ c : Dev Cert.ReferenceMixIdeal.nD,
          r.2.mem ((c.tc : Thread Cert.ReferenceMixIdeal.nD Cert.ReferenceMixIdeal.τ).loc Cert.ReferenceMixIdeal.main_v30) = v0 c
          ∧ r.2.mem ((c.tc : Thread Cert.ReferenceMixIdeal.nD Cert.ReferenceMixIdeal.τ).loc Cert.ReferenceMixIdeal.main_v43) = v1 c
          ∧ r.2.mem ((c.tc : Thread Cert.ReferenceMixIdeal.nD Cert.ReferenceMixIdeal.τ).loc Cert.ReferenceMixIdeal.main_v46) = v2 c
          ∧ r.2.mem ((c.tc : Thread Cert.ReferenceMixIdeal.nD Cert.ReferenceMixIdeal.τ).loc Cert.ReferenceMixIdeal.main_v47) = v3 c
          ∧ r.2.mem ((c.tc : Thread Cert.ReferenceMixIdeal.nD Cert.ReferenceMixIdeal.τ).loc Cert.ReferenceMixIdeal.main_v48) = v4 c
          ∧ r.2.mem ((c.tc : Thread Cert.ReferenceMixIdeal.nD Cert.ReferenceMixIdeal.τ).loc Cert.ReferenceMixIdeal.main_v49) = v5 c
          ∧ r.2.mem ((c.tc : Thread Cert.ReferenceMixIdeal.nD Cert.ReferenceMixIdeal.τ).loc Cert.ReferenceMixIdeal.main_v50) = v6 c
          ∧ r.2.mem ((c.tc : Thread Cert.ReferenceMixIdeal.nD Cert.ReferenceMixIdeal.τ).loc Cert.ReferenceMixIdeal.main_v51) = v7 c
          ∧ r.2.mem ((c.tc : Thread Cert.ReferenceMixIdeal.nD Cert.ReferenceMixIdeal.τ).loc Cert.ReferenceMixIdeal.main_arg0) = m' ((c.tc : Thread Cert.ReferenceMixIdeal.nD Cert.ReferenceMixIdeal.τ).loc Cert.ReferenceMixIdeal.main_arg0)
          ∧ r.2.mem ((c.tc : Thread Cert.ReferenceMixIdeal.nD Cert.ReferenceMixIdeal.τ).loc Cert.ReferenceMixIdeal.main_arg1) = m' ((c.tc : Thread Cert.ReferenceMixIdeal.nD Cert.ReferenceMixIdeal.τ).loc Cert.ReferenceMixIdeal.main_arg1)
          ∧ r.2.mem ((c.tc : Thread Cert.ReferenceMixIdeal.nD Cert.ReferenceMixIdeal.τ).loc Cert.ReferenceMixIdeal.main_arg2) = m' ((c.tc : Thread Cert.ReferenceMixIdeal.nD Cert.ReferenceMixIdeal.τ).loc Cert.ReferenceMixIdeal.main_arg2)
          ∧ r.2.mem ((c.tc : Thread Cert.ReferenceMixIdeal.nD Cert.ReferenceMixIdeal.τ).loc Cert.ReferenceMixIdeal.main_arg3) = m' ((c.tc : Thread Cert.ReferenceMixIdeal.nD Cert.ReferenceMixIdeal.τ).loc Cert.ReferenceMixIdeal.main_arg3)
          ∧ r.2.mem ((c.tc : Thread Cert.ReferenceMixIdeal.nD Cert.ReferenceMixIdeal.τ).loc Cert.ReferenceMixIdeal.main_arg4) = m' ((c.tc : Thread Cert.ReferenceMixIdeal.nD Cert.ReferenceMixIdeal.τ).loc Cert.ReferenceMixIdeal.main_arg4)
          ∧ r.2.mem ((c.tc : Thread Cert.ReferenceMixIdeal.nD Cert.ReferenceMixIdeal.τ).loc Cert.ReferenceMixIdeal.main_arg5) = m' ((c.tc : Thread Cert.ReferenceMixIdeal.nD Cert.ReferenceMixIdeal.τ).loc Cert.ReferenceMixIdeal.main_arg5)
          ∧ r.2.mem ((c.tc : Thread Cert.ReferenceMixIdeal.nD Cert.ReferenceMixIdeal.τ).loc Cert.ReferenceMixIdeal.main_arg6) = m' ((c.tc : Thread Cert.ReferenceMixIdeal.nD Cert.ReferenceMixIdeal.τ).loc Cert.ReferenceMixIdeal.main_arg6))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)
      ∧ m' ((c.tc : Thread Cert.ReferenceUpIdeal.nD Cert.ReferenceUpIdeal.τ).loc Cert.ReferenceUpIdeal.main_arg2) = m ((c.tc : Thread Cert.KernelUpIdeal.nD Cert.KernelUpIdeal.τ).loc Cert.KernelUpIdeal.main_arg2)
      ∧ m' ((c.tc : Thread Cert.ReferenceUpIdeal.nD Cert.ReferenceUpIdeal.τ).loc Cert.ReferenceUpIdeal.main_arg3) = m ((c.tc : Thread Cert.KernelUpIdeal.nD Cert.KernelUpIdeal.τ).loc Cert.KernelUpIdeal.main_arg3)
      ∧ m' ((c.tc : Thread Cert.ReferenceUpIdeal.nD Cert.ReferenceUpIdeal.τ).loc Cert.ReferenceUpIdeal.main_arg4) = m ((c.tc : Thread Cert.KernelUpIdeal.nD Cert.KernelUpIdeal.τ).loc Cert.KernelUpIdeal.main_arg4)
      ∧ m' ((c.tc : Thread Cert.ReferenceUpIdeal.nD Cert.ReferenceUpIdeal.τ).loc Cert.ReferenceUpIdeal.main_arg5) = m ((c.tc : Thread Cert.KernelUpIdeal.nD Cert.KernelUpIdeal.τ).loc Cert.KernelUpIdeal.main_arg5)) →
    ∃ (v0 : (c : Dev Cert.KernelUpIdeal.nD) → Buf (Elt Ideal) ((c.tc : Thread Cert.KernelUpIdeal.nD Cert.KernelUpIdeal.τ).loc Cert.KernelUpIdeal.main_v16)) (v1 : (c : Dev Cert.KernelUpIdeal.nD) → Buf (Elt Ideal) ((c.tc : Thread Cert.KernelUpIdeal.nD Cert.KernelUpIdeal.τ).loc Cert.KernelUpIdeal.main_v19)) (v2 : (c : Dev Cert.KernelUpIdeal.nD) → Buf (Elt Ideal) ((c.tc : Thread Cert.KernelUpIdeal.nD Cert.KernelUpIdeal.τ).loc Cert.KernelUpIdeal.main_v8)) (v3 : (c : Dev Cert.KernelUpIdeal.nD) → Buf (Elt Ideal) ((c.tc : Thread Cert.KernelUpIdeal.nD Cert.KernelUpIdeal.τ).loc Cert.KernelUpIdeal.main_v22)) (v4 : (c : Dev Cert.KernelUpIdeal.nD) → Buf (Elt Ideal) ((c.tc : Thread Cert.KernelUpIdeal.nD Cert.KernelUpIdeal.τ).loc Cert.KernelUpIdeal.main_v11)) (v5 : (c : Dev Cert.KernelUpIdeal.nD) → Buf (Elt Ideal) ((c.tc : Thread Cert.KernelUpIdeal.nD Cert.KernelUpIdeal.τ).loc Cert.KernelUpIdeal.main_v25)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v16) = v0 c
          ∧ r.2.mem ((c.tc : Thread Cert.KernelUpIdeal.nD Cert.KernelUpIdeal.τ).loc Cert.KernelUpIdeal.main_v19) = v1 c
          ∧ r.2.mem ((c.tc : Thread Cert.KernelUpIdeal.nD Cert.KernelUpIdeal.τ).loc Cert.KernelUpIdeal.main_v8) = v2 c
          ∧ r.2.mem ((c.tc : Thread Cert.KernelUpIdeal.nD Cert.KernelUpIdeal.τ).loc Cert.KernelUpIdeal.main_v22) = v3 c
          ∧ r.2.mem ((c.tc : Thread Cert.KernelUpIdeal.nD Cert.KernelUpIdeal.τ).loc Cert.KernelUpIdeal.main_v11) = v4 c
          ∧ r.2.mem ((c.tc : Thread Cert.KernelUpIdeal.nD Cert.KernelUpIdeal.τ).loc Cert.KernelUpIdeal.main_v25) = v5 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
          ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2)
          ∧ r.2.mem ((c.tc : Thread Cert.KernelUpIdeal.nD Cert.KernelUpIdeal.τ).loc Cert.KernelUpIdeal.main_arg3) = m ((c.tc : Thread Cert.KernelUpIdeal.nD Cert.KernelUpIdeal.τ).loc Cert.KernelUpIdeal.main_arg3)
          ∧ r.2.mem ((c.tc : Thread Cert.KernelUpIdeal.nD Cert.KernelUpIdeal.τ).loc Cert.KernelUpIdeal.main_arg4) = m ((c.tc : Thread Cert.KernelUpIdeal.nD Cert.KernelUpIdeal.τ).loc Cert.KernelUpIdeal.main_arg4)
          ∧ r.2.mem ((c.tc : Thread Cert.KernelUpIdeal.nD Cert.KernelUpIdeal.τ).loc Cert.KernelUpIdeal.main_arg5) = m ((c.tc : Thread Cert.KernelUpIdeal.nD Cert.KernelUpIdeal.τ).loc Cert.KernelUpIdeal.main_arg5))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v10) = v0 c
          ∧ r.2.mem ((c.tc : Thread Cert.ReferenceUpIdeal.nD Cert.ReferenceUpIdeal.τ).loc Cert.ReferenceUpIdeal.main_v13) = v1 c
          ∧ r.2.mem ((c.tc : Thread Cert.ReferenceUpIdeal.nD Cert.ReferenceUpIdeal.τ).loc Cert.ReferenceUpIdeal.main_v16) = v2 c
          ∧ r.2.mem ((c.tc : Thread Cert.ReferenceUpIdeal.nD Cert.ReferenceUpIdeal.τ).loc Cert.ReferenceUpIdeal.main_v20) = v3 c
          ∧ r.2.mem ((c.tc : Thread Cert.ReferenceUpIdeal.nD Cert.ReferenceUpIdeal.τ).loc Cert.ReferenceUpIdeal.main_v19) = v4 c
          ∧ r.2.mem ((c.tc : Thread Cert.ReferenceUpIdeal.nD Cert.ReferenceUpIdeal.τ).loc Cert.ReferenceUpIdeal.main_v21) = v5 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1)
          ∧ r.2.mem ((c.tc : Thread Cert.ReferenceUpIdeal.nD Cert.ReferenceUpIdeal.τ).loc Cert.ReferenceUpIdeal.main_arg2) = m' ((c.tc : Thread Cert.ReferenceUpIdeal.nD Cert.ReferenceUpIdeal.τ).loc Cert.ReferenceUpIdeal.main_arg2)
          ∧ r.2.mem ((c.tc : Thread Cert.ReferenceUpIdeal.nD Cert.ReferenceUpIdeal.τ).loc Cert.ReferenceUpIdeal.main_arg3) = m' ((c.tc : Thread Cert.ReferenceUpIdeal.nD Cert.ReferenceUpIdeal.τ).loc Cert.ReferenceUpIdeal.main_arg3)
          ∧ r.2.mem ((c.tc : Thread Cert.ReferenceUpIdeal.nD Cert.ReferenceUpIdeal.τ).loc Cert.ReferenceUpIdeal.main_arg4) = m' ((c.tc : Thread Cert.ReferenceUpIdeal.nD Cert.ReferenceUpIdeal.τ).loc Cert.ReferenceUpIdeal.main_arg4)
          ∧ r.2.mem ((c.tc : Thread Cert.ReferenceUpIdeal.nD Cert.ReferenceUpIdeal.τ).loc Cert.ReferenceUpIdeal.main_arg5) = m' ((c.tc : Thread Cert.ReferenceUpIdeal.nD Cert.ReferenceUpIdeal.τ).loc Cert.ReferenceUpIdeal.main_arg5))

def preserves_KernelConv_KernelConvIdeal : Prop :=
  True

def algebraic_KernelConvIdeal_ReferenceConvIdeal_pre_finite_conv [hKernelConvIdeal : Cert.KernelConvIdeal.Facts] [hReferenceConvIdeal : Cert.ReferenceConvIdeal.Facts] [hPre_finite_conv : Cert.Pre_finite_conv.Facts] : Prop :=
  ∀ (m : (ℓ : Loc Cert.KernelConvIdeal.nD Cert.KernelConvIdeal.τ Cert.KernelConvIdeal.sig) → Buf (Elt Ideal) ℓ) (g : Dev Cert.KernelConvIdeal.nD → PrngReg)
    (m' : (ℓ : Loc Cert.ReferenceConvIdeal.nD Cert.ReferenceConvIdeal.τ Cert.ReferenceConvIdeal.sig) → Buf (Elt Ideal) ℓ) (g' : Dev Cert.ReferenceConvIdeal.nD → PrngReg), Pre_KernelConvIdeal_finite_conv m →
    (∀ c : Dev Cert.KernelConvIdeal.nD,
      m' ((c.tc : Thread Cert.ReferenceConvIdeal.nD Cert.ReferenceConvIdeal.τ).loc Cert.ReferenceConvIdeal.main_arg0) = m ((c.tc : Thread Cert.KernelConvIdeal.nD Cert.KernelConvIdeal.τ).loc Cert.KernelConvIdeal.main_arg0)
      ∧ m' ((c.tc : Thread Cert.ReferenceConvIdeal.nD Cert.ReferenceConvIdeal.τ).loc Cert.ReferenceConvIdeal.main_arg1) = m ((c.tc : Thread Cert.KernelConvIdeal.nD Cert.KernelConvIdeal.τ).loc Cert.KernelConvIdeal.main_arg1)
      ∧ m' ((c.tc : Thread Cert.ReferenceConvIdeal.nD Cert.ReferenceConvIdeal.τ).loc Cert.ReferenceConvIdeal.main_arg2) = m ((c.tc : Thread Cert.KernelConvIdeal.nD Cert.KernelConvIdeal.τ).loc Cert.KernelConvIdeal.main_arg2)) →
    ∃ (v0 : (c : Dev Cert.KernelConvIdeal.nD) → Buf (Elt Ideal) ((c.tc : Thread Cert.KernelConvIdeal.nD Cert.KernelConvIdeal.τ).loc Cert.KernelConvIdeal.main_v0)) (v1 : (c : Dev Cert.KernelConvIdeal.nD) → Buf (Elt Ideal) ((c.tc : Thread Cert.KernelConvIdeal.nD Cert.KernelConvIdeal.τ).loc Cert.KernelConvIdeal.main_v1_0)) (v2 : (c : Dev Cert.KernelConvIdeal.nD) → Buf (Elt Ideal) ((c.tc : Thread Cert.KernelConvIdeal.nD Cert.KernelConvIdeal.τ).loc Cert.KernelConvIdeal.main_v1_1)),
      θ_run (Cert.KernelConvIdeal.defs (F := Ideal)) (onTc (τ := Cert.KernelConvIdeal.τ) (Cert.KernelConvIdeal.main (F := Ideal))) ⟨m, fun _ => 0, g⟩ (fun r => ∀ c : Dev Cert.KernelConvIdeal.nD,
          r.2.mem ((c.tc : Thread Cert.KernelConvIdeal.nD Cert.KernelConvIdeal.τ).loc Cert.KernelConvIdeal.main_v0) = v0 c
          ∧ r.2.mem ((c.tc : Thread Cert.KernelConvIdeal.nD Cert.KernelConvIdeal.τ).loc Cert.KernelConvIdeal.main_v1_0) = v1 c
          ∧ r.2.mem ((c.tc : Thread Cert.KernelConvIdeal.nD Cert.KernelConvIdeal.τ).loc Cert.KernelConvIdeal.main_v1_1) = v2 c
          ∧ r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
          ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1)
          ∧ r.2.mem ((c.tc : Thread Cert.KernelConvIdeal.nD Cert.KernelConvIdeal.τ).loc Cert.KernelConvIdeal.main_arg2) = m ((c.tc : Thread Cert.KernelConvIdeal.nD Cert.KernelConvIdeal.τ).loc Cert.KernelConvIdeal.main_arg2))
      ∧ θ_run (Cert.ReferenceConvIdeal.defs (F := Ideal)) (onTc (τ := Cert.ReferenceConvIdeal.τ) (Cert.ReferenceConvIdeal.main (F := Ideal))) ⟨m', fun _ => 0, g'⟩ (fun r => ∀ c : Dev Cert.ReferenceConvIdeal.nD,
          r.2.mem ((c.tc : Thread Cert.ReferenceConvIdeal.nD Cert.ReferenceConvIdeal.τ).loc Cert.ReferenceConvIdeal.main_v28_0) = v0 c
          ∧ r.2.mem ((c.tc : Thread Cert.ReferenceConvIdeal.nD Cert.ReferenceConvIdeal.τ).loc Cert.ReferenceConvIdeal.main_v69) = v1 c
          ∧ r.2.mem ((c.tc : Thread Cert.ReferenceConvIdeal.nD Cert.ReferenceConvIdeal.τ).loc Cert.ReferenceConvIdeal.main_v64) = v2 c
          ∧ r.2.mem ((c.tc : Thread Cert.ReferenceConvIdeal.nD Cert.ReferenceConvIdeal.τ).loc Cert.ReferenceConvIdeal.main_arg0) = m' ((c.tc : Thread Cert.ReferenceConvIdeal.nD Cert.ReferenceConvIdeal.τ).loc Cert.ReferenceConvIdeal.main_arg0)
          ∧ r.2.mem ((c.tc : Thread Cert.ReferenceConvIdeal.nD Cert.ReferenceConvIdeal.τ).loc Cert.ReferenceConvIdeal.main_arg1) = m' ((c.tc : Thread Cert.ReferenceConvIdeal.nD Cert.ReferenceConvIdeal.τ).loc Cert.ReferenceConvIdeal.main_arg1)
          ∧ r.2.mem ((c.tc : Thread Cert.ReferenceConvIdeal.nD Cert.ReferenceConvIdeal.τ).loc Cert.ReferenceConvIdeal.main_arg2) = m' ((c.tc : Thread Cert.ReferenceConvIdeal.nD Cert.ReferenceConvIdeal.τ).loc Cert.ReferenceConvIdeal.main_arg2))

def preserves_KernelNorm_KernelNormIdeal : Prop :=
  True

def algebraic_KernelNormIdeal_ReferenceNormIdeal [hKernelNormIdeal : Cert.KernelNormIdeal.Facts] [hReferenceNormIdeal : Cert.ReferenceNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg)
    (m' : (ℓ : Loc Cert.ReferenceNormIdeal.nD Cert.ReferenceNormIdeal.τ Cert.ReferenceNormIdeal.sig) → Buf (Elt Ideal) ℓ) (g' : Dev Cert.ReferenceNormIdeal.nD → PrngReg), Pre_KernelNormIdeal m →
    (∀ c : Dev Cert.KernelNormIdeal.nD,
      m' ((c.tc : Thread Cert.ReferenceNormIdeal.nD Cert.ReferenceNormIdeal.τ).loc Cert.ReferenceNormIdeal.main_arg0) = m ((c.tc : Thread Cert.KernelNormIdeal.nD Cert.KernelNormIdeal.τ).loc Cert.KernelNormIdeal.main_arg0)
      ∧ m' ((c.tc : Thread Cert.ReferenceNormIdeal.nD Cert.ReferenceNormIdeal.τ).loc Cert.ReferenceNormIdeal.main_arg1) = m ((c.tc : Thread Cert.KernelNormIdeal.nD Cert.KernelNormIdeal.τ).loc Cert.KernelNormIdeal.main_arg1)
      ∧ m' ((c.tc : Thread Cert.ReferenceNormIdeal.nD Cert.ReferenceNormIdeal.τ).loc Cert.ReferenceNormIdeal.main_arg2) = m ((c.tc : Thread Cert.KernelNormIdeal.nD Cert.KernelNormIdeal.τ).loc Cert.KernelNormIdeal.main_arg2)
      ∧ m' ((c.tc : Thread Cert.ReferenceNormIdeal.nD Cert.ReferenceNormIdeal.τ).loc Cert.ReferenceNormIdeal.main_arg3) = m ((c.tc : Thread Cert.KernelNormIdeal.nD Cert.KernelNormIdeal.τ).loc Cert.KernelNormIdeal.main_arg3)
      ∧ m' ((c.tc : Thread Cert.ReferenceNormIdeal.nD Cert.ReferenceNormIdeal.τ).loc Cert.ReferenceNormIdeal.main_arg4) = m ((c.tc : Thread Cert.KernelNormIdeal.nD Cert.KernelNormIdeal.τ).loc Cert.KernelNormIdeal.main_arg4)) →
    ∃ (v0 : (c : Dev Cert.KernelNormIdeal.nD) → Buf (Elt Ideal) ((c.tc : Thread Cert.KernelNormIdeal.nD Cert.KernelNormIdeal.τ).loc Cert.KernelNormIdeal.main_v0_0)) (v1 : (c : Dev Cert.KernelNormIdeal.nD) → Buf (Elt Ideal) ((c.tc : Thread Cert.KernelNormIdeal.nD Cert.KernelNormIdeal.τ).loc Cert.KernelNormIdeal.main_v0_1)) (v2 : (c : Dev Cert.KernelNormIdeal.nD) → Buf (Elt Ideal) ((c.tc : Thread Cert.KernelNormIdeal.nD Cert.KernelNormIdeal.τ).loc Cert.KernelNormIdeal.main_v0_2)) (v3 : (c : Dev Cert.KernelNormIdeal.nD) → Buf (Elt Ideal) ((c.tc : Thread Cert.KernelNormIdeal.nD Cert.KernelNormIdeal.τ).loc Cert.KernelNormIdeal.main_v0_3)),
      θ_run (Cert.KernelNormIdeal.defs (F := Ideal)) (onTc (τ := Cert.KernelNormIdeal.τ) (Cert.KernelNormIdeal.main (F := Ideal))) ⟨m, fun _ => 0, g⟩ (fun r => ∀ c : Dev Cert.KernelNormIdeal.nD,
          r.2.mem ((c.tc : Thread Cert.KernelNormIdeal.nD Cert.KernelNormIdeal.τ).loc Cert.KernelNormIdeal.main_v0_0) = v0 c
          ∧ r.2.mem ((c.tc : Thread Cert.KernelNormIdeal.nD Cert.KernelNormIdeal.τ).loc Cert.KernelNormIdeal.main_v0_1) = v1 c
          ∧ r.2.mem ((c.tc : Thread Cert.KernelNormIdeal.nD Cert.KernelNormIdeal.τ).loc Cert.KernelNormIdeal.main_v0_2) = v2 c
          ∧ r.2.mem ((c.tc : Thread Cert.KernelNormIdeal.nD Cert.KernelNormIdeal.τ).loc Cert.KernelNormIdeal.main_v0_3) = v3 c
          ∧ r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
          ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
          ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
          ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3)
          ∧ r.2.mem ((c.tc : Thread Cert.KernelNormIdeal.nD Cert.KernelNormIdeal.τ).loc Cert.KernelNormIdeal.main_arg4) = m ((c.tc : Thread Cert.KernelNormIdeal.nD Cert.KernelNormIdeal.τ).loc Cert.KernelNormIdeal.main_arg4))
      ∧ θ_run (Cert.ReferenceNormIdeal.defs (F := Ideal)) (onTc (τ := Cert.ReferenceNormIdeal.τ) (Cert.ReferenceNormIdeal.main (F := Ideal))) ⟨m', fun _ => 0, g'⟩ (fun r => ∀ c : Dev Cert.ReferenceNormIdeal.nD,
          r.2.mem ((c.tc : Thread Cert.ReferenceNormIdeal.nD Cert.ReferenceNormIdeal.τ).loc Cert.ReferenceNormIdeal.main_v49) = v0 c
          ∧ r.2.mem ((c.tc : Thread Cert.ReferenceNormIdeal.nD Cert.ReferenceNormIdeal.τ).loc Cert.ReferenceNormIdeal.main_v32) = v1 c
          ∧ r.2.mem ((c.tc : Thread Cert.ReferenceNormIdeal.nD Cert.ReferenceNormIdeal.τ).loc Cert.ReferenceNormIdeal.main_v27) = v2 c
          ∧ r.2.mem ((c.tc : Thread Cert.ReferenceNormIdeal.nD Cert.ReferenceNormIdeal.τ).loc Cert.ReferenceNormIdeal.main_v24) = v3 c
          ∧ r.2.mem ((c.tc : Thread Cert.ReferenceNormIdeal.nD Cert.ReferenceNormIdeal.τ).loc Cert.ReferenceNormIdeal.main_arg0) = m' ((c.tc : Thread Cert.ReferenceNormIdeal.nD Cert.ReferenceNormIdeal.τ).loc Cert.ReferenceNormIdeal.main_arg0)
          ∧ r.2.mem ((c.tc : Thread Cert.ReferenceNormIdeal.nD Cert.ReferenceNormIdeal.τ).loc Cert.ReferenceNormIdeal.main_arg1) = m' ((c.tc : Thread Cert.ReferenceNormIdeal.nD Cert.ReferenceNormIdeal.τ).loc Cert.ReferenceNormIdeal.main_arg1)
          ∧ r.2.mem ((c.tc : Thread Cert.ReferenceNormIdeal.nD Cert.ReferenceNormIdeal.τ).loc Cert.ReferenceNormIdeal.main_arg2) = m' ((c.tc : Thread Cert.ReferenceNormIdeal.nD Cert.ReferenceNormIdeal.τ).loc Cert.ReferenceNormIdeal.main_arg2)
          ∧ r.2.mem ((c.tc : Thread Cert.ReferenceNormIdeal.nD Cert.ReferenceNormIdeal.τ).loc Cert.ReferenceNormIdeal.main_arg3) = m' ((c.tc : Thread Cert.ReferenceNormIdeal.nD Cert.ReferenceNormIdeal.τ).loc Cert.ReferenceNormIdeal.main_arg3)
          ∧ r.2.mem ((c.tc : Thread Cert.ReferenceNormIdeal.nD Cert.ReferenceNormIdeal.τ).loc Cert.ReferenceNormIdeal.main_arg4) = m' ((c.tc : Thread Cert.ReferenceNormIdeal.nD Cert.ReferenceNormIdeal.τ).loc Cert.ReferenceNormIdeal.main_arg4))

def preserves_KernelRope_KernelRopeIdeal : Prop :=
  True

def algebraic_KernelRopeIdeal_ReferenceRopeIdeal [hKernelRopeIdeal : Cert.KernelRopeIdeal.Facts] [hReferenceRopeIdeal : Cert.ReferenceRopeIdeal.Facts] : Prop :=
  ∀ (m : (ℓ : Loc Cert.KernelRopeIdeal.nD Cert.KernelRopeIdeal.τ Cert.KernelRopeIdeal.sig) → Buf (Elt Ideal) ℓ) (g : Dev Cert.KernelRopeIdeal.nD → PrngReg)
    (m' : (ℓ : Loc Cert.ReferenceRopeIdeal.nD Cert.ReferenceRopeIdeal.τ Cert.ReferenceRopeIdeal.sig) → Buf (Elt Ideal) ℓ) (g' : Dev Cert.ReferenceRopeIdeal.nD → PrngReg), Pre_KernelRopeIdeal m →
    (∀ c : Dev Cert.KernelRopeIdeal.nD,
      m' ((c.tc : Thread Cert.ReferenceRopeIdeal.nD Cert.ReferenceRopeIdeal.τ).loc Cert.ReferenceRopeIdeal.main_arg0) = m ((c.tc : Thread Cert.KernelRopeIdeal.nD Cert.KernelRopeIdeal.τ).loc Cert.KernelRopeIdeal.main_arg0)
      ∧ m' ((c.tc : Thread Cert.ReferenceRopeIdeal.nD Cert.ReferenceRopeIdeal.τ).loc Cert.ReferenceRopeIdeal.main_arg1) = m ((c.tc : Thread Cert.KernelRopeIdeal.nD Cert.KernelRopeIdeal.τ).loc Cert.KernelRopeIdeal.main_arg1)
      ∧ m' ((c.tc : Thread Cert.ReferenceRopeIdeal.nD Cert.ReferenceRopeIdeal.τ).loc Cert.ReferenceRopeIdeal.main_arg2) = m ((c.tc : Thread Cert.KernelRopeIdeal.nD Cert.KernelRopeIdeal.τ).loc Cert.KernelRopeIdeal.main_arg2)
      ∧ m' ((c.tc : Thread Cert.ReferenceRopeIdeal.nD Cert.ReferenceRopeIdeal.τ).loc Cert.ReferenceRopeIdeal.main_arg3) = m ((c.tc : Thread Cert.KernelRopeIdeal.nD Cert.KernelRopeIdeal.τ).loc Cert.KernelRopeIdeal.main_arg3)
      ∧ m' ((c.tc : Thread Cert.ReferenceRopeIdeal.nD Cert.ReferenceRopeIdeal.τ).loc Cert.ReferenceRopeIdeal.main_arg4) = m ((c.tc : Thread Cert.KernelRopeIdeal.nD Cert.KernelRopeIdeal.τ).loc Cert.KernelRopeIdeal.main_arg4)
      ∧ m' ((c.tc : Thread Cert.ReferenceRopeIdeal.nD Cert.ReferenceRopeIdeal.τ).loc Cert.ReferenceRopeIdeal.main_arg5) = m ((c.tc : Thread Cert.KernelRopeIdeal.nD Cert.KernelRopeIdeal.τ).loc Cert.KernelRopeIdeal.main_arg5)
      ∧ m' ((c.tc : Thread Cert.ReferenceRopeIdeal.nD Cert.ReferenceRopeIdeal.τ).loc Cert.ReferenceRopeIdeal.main_arg6) = m ((c.tc : Thread Cert.KernelRopeIdeal.nD Cert.KernelRopeIdeal.τ).loc Cert.KernelRopeIdeal.main_arg6)) →
    ∃ (v0 : (c : Dev Cert.KernelRopeIdeal.nD) → Buf (Elt Ideal) ((c.tc : Thread Cert.KernelRopeIdeal.nD Cert.KernelRopeIdeal.τ).loc Cert.KernelRopeIdeal.main_v27)) (v1 : (c : Dev Cert.KernelRopeIdeal.nD) → Buf (Elt Ideal) ((c.tc : Thread Cert.KernelRopeIdeal.nD Cert.KernelRopeIdeal.τ).loc Cert.KernelRopeIdeal.main_v28)) (v2 : (c : Dev Cert.KernelRopeIdeal.nD) → Buf (Elt Ideal) ((c.tc : Thread Cert.KernelRopeIdeal.nD Cert.KernelRopeIdeal.τ).loc Cert.KernelRopeIdeal.main_v29)) (v3 : (c : Dev Cert.KernelRopeIdeal.nD) → Buf (Elt Ideal) ((c.tc : Thread Cert.KernelRopeIdeal.nD Cert.KernelRopeIdeal.τ).loc Cert.KernelRopeIdeal.main_v30_0)) (v4 : (c : Dev Cert.KernelRopeIdeal.nD) → Buf (Elt Ideal) ((c.tc : Thread Cert.KernelRopeIdeal.nD Cert.KernelRopeIdeal.τ).loc Cert.KernelRopeIdeal.main_v30_1)),
      θ_run (Cert.KernelRopeIdeal.defs (F := Ideal)) (onTc (τ := Cert.KernelRopeIdeal.τ) (Cert.KernelRopeIdeal.main (F := Ideal))) ⟨m, fun _ => 0, g⟩ (fun r => ∀ c : Dev Cert.KernelRopeIdeal.nD,
          r.2.mem ((c.tc : Thread Cert.KernelRopeIdeal.nD Cert.KernelRopeIdeal.τ).loc Cert.KernelRopeIdeal.main_v27) = v0 c
          ∧ r.2.mem ((c.tc : Thread Cert.KernelRopeIdeal.nD Cert.KernelRopeIdeal.τ).loc Cert.KernelRopeIdeal.main_v28) = v1 c
          ∧ r.2.mem ((c.tc : Thread Cert.KernelRopeIdeal.nD Cert.KernelRopeIdeal.τ).loc Cert.KernelRopeIdeal.main_v29) = v2 c
          ∧ r.2.mem ((c.tc : Thread Cert.KernelRopeIdeal.nD Cert.KernelRopeIdeal.τ).loc Cert.KernelRopeIdeal.main_v30_0) = v3 c
          ∧ r.2.mem ((c.tc : Thread Cert.KernelRopeIdeal.nD Cert.KernelRopeIdeal.τ).loc Cert.KernelRopeIdeal.main_v30_1) = v4 c
          ∧ r.2.mem ((c.tc : Thread Cert.KernelRopeIdeal.nD Cert.KernelRopeIdeal.τ).loc Cert.KernelRopeIdeal.main_arg0) = m ((c.tc : Thread Cert.KernelRopeIdeal.nD Cert.KernelRopeIdeal.τ).loc Cert.KernelRopeIdeal.main_arg0)
          ∧ r.2.mem ((c.tc : Thread Cert.KernelRopeIdeal.nD Cert.KernelRopeIdeal.τ).loc Cert.KernelRopeIdeal.main_arg1) = m ((c.tc : Thread Cert.KernelRopeIdeal.nD Cert.KernelRopeIdeal.τ).loc Cert.KernelRopeIdeal.main_arg1)
          ∧ r.2.mem ((c.tc : Thread Cert.KernelRopeIdeal.nD Cert.KernelRopeIdeal.τ).loc Cert.KernelRopeIdeal.main_arg2) = m ((c.tc : Thread Cert.KernelRopeIdeal.nD Cert.KernelRopeIdeal.τ).loc Cert.KernelRopeIdeal.main_arg2)
          ∧ r.2.mem ((c.tc : Thread Cert.KernelRopeIdeal.nD Cert.KernelRopeIdeal.τ).loc Cert.KernelRopeIdeal.main_arg3) = m ((c.tc : Thread Cert.KernelRopeIdeal.nD Cert.KernelRopeIdeal.τ).loc Cert.KernelRopeIdeal.main_arg3)
          ∧ r.2.mem ((c.tc : Thread Cert.KernelRopeIdeal.nD Cert.KernelRopeIdeal.τ).loc Cert.KernelRopeIdeal.main_arg4) = m ((c.tc : Thread Cert.KernelRopeIdeal.nD Cert.KernelRopeIdeal.τ).loc Cert.KernelRopeIdeal.main_arg4)
          ∧ r.2.mem ((c.tc : Thread Cert.KernelRopeIdeal.nD Cert.KernelRopeIdeal.τ).loc Cert.KernelRopeIdeal.main_arg5) = m ((c.tc : Thread Cert.KernelRopeIdeal.nD Cert.KernelRopeIdeal.τ).loc Cert.KernelRopeIdeal.main_arg5)
          ∧ r.2.mem ((c.tc : Thread Cert.KernelRopeIdeal.nD Cert.KernelRopeIdeal.τ).loc Cert.KernelRopeIdeal.main_arg6) = m ((c.tc : Thread Cert.KernelRopeIdeal.nD Cert.KernelRopeIdeal.τ).loc Cert.KernelRopeIdeal.main_arg6))
      ∧ θ_run (Cert.ReferenceRopeIdeal.defs (F := Ideal)) (onTc (τ := Cert.ReferenceRopeIdeal.τ) (Cert.ReferenceRopeIdeal.main (F := Ideal))) ⟨m', fun _ => 0, g'⟩ (fun r => ∀ c : Dev Cert.ReferenceRopeIdeal.nD,
          r.2.mem ((c.tc : Thread Cert.ReferenceRopeIdeal.nD Cert.ReferenceRopeIdeal.τ).loc Cert.ReferenceRopeIdeal.main_v84) = v0 c
          ∧ r.2.mem ((c.tc : Thread Cert.ReferenceRopeIdeal.nD Cert.ReferenceRopeIdeal.τ).loc Cert.ReferenceRopeIdeal.main_v85) = v1 c
          ∧ r.2.mem ((c.tc : Thread Cert.ReferenceRopeIdeal.nD Cert.ReferenceRopeIdeal.τ).loc Cert.ReferenceRopeIdeal.main_v110) = v2 c
          ∧ r.2.mem ((c.tc : Thread Cert.ReferenceRopeIdeal.nD Cert.ReferenceRopeIdeal.τ).loc Cert.ReferenceRopeIdeal.main_v111) = v3 c
          ∧ r.2.mem ((c.tc : Thread Cert.ReferenceRopeIdeal.nD Cert.ReferenceRopeIdeal.τ).loc Cert.ReferenceRopeIdeal.main_v83) = v4 c
          ∧ r.2.mem ((c.tc : Thread Cert.ReferenceRopeIdeal.nD Cert.ReferenceRopeIdeal.τ).loc Cert.ReferenceRopeIdeal.main_arg0) = m' ((c.tc : Thread Cert.ReferenceRopeIdeal.nD Cert.ReferenceRopeIdeal.τ).loc Cert.ReferenceRopeIdeal.main_arg0)
          ∧ r.2.mem ((c.tc : Thread Cert.ReferenceRopeIdeal.nD Cert.ReferenceRopeIdeal.τ).loc Cert.ReferenceRopeIdeal.main_arg1) = m' ((c.tc : Thread Cert.ReferenceRopeIdeal.nD Cert.ReferenceRopeIdeal.τ).loc Cert.ReferenceRopeIdeal.main_arg1)
          ∧ r.2.mem ((c.tc : Thread Cert.ReferenceRopeIdeal.nD Cert.ReferenceRopeIdeal.τ).loc Cert.ReferenceRopeIdeal.main_arg2) = m' ((c.tc : Thread Cert.ReferenceRopeIdeal.nD Cert.ReferenceRopeIdeal.τ).loc Cert.ReferenceRopeIdeal.main_arg2)
          ∧ r.2.mem ((c.tc : Thread Cert.ReferenceRopeIdeal.nD Cert.ReferenceRopeIdeal.τ).loc Cert.ReferenceRopeIdeal.main_arg3) = m' ((c.tc : Thread Cert.ReferenceRopeIdeal.nD Cert.ReferenceRopeIdeal.τ).loc Cert.ReferenceRopeIdeal.main_arg3)
          ∧ r.2.mem ((c.tc : Thread Cert.ReferenceRopeIdeal.nD Cert.ReferenceRopeIdeal.τ).loc Cert.ReferenceRopeIdeal.main_arg4) = m' ((c.tc : Thread Cert.ReferenceRopeIdeal.nD Cert.ReferenceRopeIdeal.τ).loc Cert.ReferenceRopeIdeal.main_arg4)
          ∧ r.2.mem ((c.tc : Thread Cert.ReferenceRopeIdeal.nD Cert.ReferenceRopeIdeal.τ).loc Cert.ReferenceRopeIdeal.main_arg5) = m' ((c.tc : Thread Cert.ReferenceRopeIdeal.nD Cert.ReferenceRopeIdeal.τ).loc Cert.ReferenceRopeIdeal.main_arg5)
          ∧ r.2.mem ((c.tc : Thread Cert.ReferenceRopeIdeal.nD Cert.ReferenceRopeIdeal.τ).loc Cert.ReferenceRopeIdeal.main_arg6) = m' ((c.tc : Thread Cert.ReferenceRopeIdeal.nD Cert.ReferenceRopeIdeal.τ).loc Cert.ReferenceRopeIdeal.main_arg6))

def preserves_KernelGates_KernelGatesIdeal : Prop :=
  True

def algebraic_KernelGatesIdeal_ReferenceGatesIdeal_pre_finite_gates [hKernelGatesIdeal : Cert.KernelGatesIdeal.Facts] [hReferenceGatesIdeal : Cert.ReferenceGatesIdeal.Facts] [hPre_finite_gates : Cert.Pre_finite_gates.Facts] : Prop :=
  ∀ (m : (ℓ : Loc Cert.KernelGatesIdeal.nD Cert.KernelGatesIdeal.τ Cert.KernelGatesIdeal.sig) → Buf (Elt Ideal) ℓ) (g : Dev Cert.KernelGatesIdeal.nD → PrngReg)
    (m' : (ℓ : Loc Cert.ReferenceGatesIdeal.nD Cert.ReferenceGatesIdeal.τ Cert.ReferenceGatesIdeal.sig) → Buf (Elt Ideal) ℓ) (g' : Dev Cert.ReferenceGatesIdeal.nD → PrngReg), Pre_KernelGatesIdeal_finite_gates m →
    (∀ c : Dev Cert.KernelGatesIdeal.nD,
      m' ((c.tc : Thread Cert.ReferenceGatesIdeal.nD Cert.ReferenceGatesIdeal.τ).loc Cert.ReferenceGatesIdeal.main_arg0) = m ((c.tc : Thread Cert.KernelGatesIdeal.nD Cert.KernelGatesIdeal.τ).loc Cert.KernelGatesIdeal.main_arg0)
      ∧ m' ((c.tc : Thread Cert.ReferenceGatesIdeal.nD Cert.ReferenceGatesIdeal.τ).loc Cert.ReferenceGatesIdeal.main_arg1) = m ((c.tc : Thread Cert.KernelGatesIdeal.nD Cert.KernelGatesIdeal.τ).loc Cert.KernelGatesIdeal.main_arg1)
      ∧ m' ((c.tc : Thread Cert.ReferenceGatesIdeal.nD Cert.ReferenceGatesIdeal.τ).loc Cert.ReferenceGatesIdeal.main_arg2) = m ((c.tc : Thread Cert.KernelGatesIdeal.nD Cert.KernelGatesIdeal.τ).loc Cert.KernelGatesIdeal.main_arg2)
      ∧ m' ((c.tc : Thread Cert.ReferenceGatesIdeal.nD Cert.ReferenceGatesIdeal.τ).loc Cert.ReferenceGatesIdeal.main_arg3) = m ((c.tc : Thread Cert.KernelGatesIdeal.nD Cert.KernelGatesIdeal.τ).loc Cert.KernelGatesIdeal.main_arg3)
      ∧ m' ((c.tc : Thread Cert.ReferenceGatesIdeal.nD Cert.ReferenceGatesIdeal.τ).loc Cert.ReferenceGatesIdeal.main_arg4) = m ((c.tc : Thread Cert.KernelGatesIdeal.nD Cert.KernelGatesIdeal.τ).loc Cert.KernelGatesIdeal.main_arg4)) →
    ∃ (v0 : (c : Dev Cert.KernelGatesIdeal.nD) → Buf (Elt Ideal) ((c.tc : Thread Cert.KernelGatesIdeal.nD Cert.KernelGatesIdeal.τ).loc Cert.KernelGatesIdeal.main_v24_0)) (v1 : (c : Dev Cert.KernelGatesIdeal.nD) → Buf (Elt Ideal) ((c.tc : Thread Cert.KernelGatesIdeal.nD Cert.KernelGatesIdeal.τ).loc Cert.KernelGatesIdeal.main_v24_1)) (v2 : (c : Dev Cert.KernelGatesIdeal.nD) → Buf (Elt Ideal) ((c.tc : Thread Cert.KernelGatesIdeal.nD Cert.KernelGatesIdeal.τ).loc Cert.KernelGatesIdeal.main_v24_2)),
      θ_run (Cert.KernelGatesIdeal.defs (F := Ideal)) (onTc (τ := Cert.KernelGatesIdeal.τ) (Cert.KernelGatesIdeal.main (F := Ideal))) ⟨m, fun _ => 0, g⟩ (fun r => ∀ c : Dev Cert.KernelGatesIdeal.nD,
          r.2.mem ((c.tc : Thread Cert.KernelGatesIdeal.nD Cert.KernelGatesIdeal.τ).loc Cert.KernelGatesIdeal.main_v24_0) = v0 c
          ∧ r.2.mem ((c.tc : Thread Cert.KernelGatesIdeal.nD Cert.KernelGatesIdeal.τ).loc Cert.KernelGatesIdeal.main_v24_1) = v1 c
          ∧ r.2.mem ((c.tc : Thread Cert.KernelGatesIdeal.nD Cert.KernelGatesIdeal.τ).loc Cert.KernelGatesIdeal.main_v24_2) = v2 c
          ∧ r.2.mem ((c.tc : Thread Cert.KernelGatesIdeal.nD Cert.KernelGatesIdeal.τ).loc Cert.KernelGatesIdeal.main_arg0) = m ((c.tc : Thread Cert.KernelGatesIdeal.nD Cert.KernelGatesIdeal.τ).loc Cert.KernelGatesIdeal.main_arg0)
          ∧ r.2.mem ((c.tc : Thread Cert.KernelGatesIdeal.nD Cert.KernelGatesIdeal.τ).loc Cert.KernelGatesIdeal.main_arg1) = m ((c.tc : Thread Cert.KernelGatesIdeal.nD Cert.KernelGatesIdeal.τ).loc Cert.KernelGatesIdeal.main_arg1)
          ∧ r.2.mem ((c.tc : Thread Cert.KernelGatesIdeal.nD Cert.KernelGatesIdeal.τ).loc Cert.KernelGatesIdeal.main_arg2) = m ((c.tc : Thread Cert.KernelGatesIdeal.nD Cert.KernelGatesIdeal.τ).loc Cert.KernelGatesIdeal.main_arg2)
          ∧ r.2.mem ((c.tc : Thread Cert.KernelGatesIdeal.nD Cert.KernelGatesIdeal.τ).loc Cert.KernelGatesIdeal.main_arg3) = m ((c.tc : Thread Cert.KernelGatesIdeal.nD Cert.KernelGatesIdeal.τ).loc Cert.KernelGatesIdeal.main_arg3)
          ∧ r.2.mem ((c.tc : Thread Cert.KernelGatesIdeal.nD Cert.KernelGatesIdeal.τ).loc Cert.KernelGatesIdeal.main_arg4) = m ((c.tc : Thread Cert.KernelGatesIdeal.nD Cert.KernelGatesIdeal.τ).loc Cert.KernelGatesIdeal.main_arg4))
      ∧ θ_run (Cert.ReferenceGatesIdeal.defs (F := Ideal)) (onTc (τ := Cert.ReferenceGatesIdeal.τ) (Cert.ReferenceGatesIdeal.main (F := Ideal))) ⟨m', fun _ => 0, g'⟩ (fun r => ∀ c : Dev Cert.ReferenceGatesIdeal.nD,
          r.2.mem ((c.tc : Thread Cert.ReferenceGatesIdeal.nD Cert.ReferenceGatesIdeal.τ).loc Cert.ReferenceGatesIdeal.main_v48) = v0 c
          ∧ r.2.mem ((c.tc : Thread Cert.ReferenceGatesIdeal.nD Cert.ReferenceGatesIdeal.τ).loc Cert.ReferenceGatesIdeal.main_v52) = v1 c
          ∧ r.2.mem ((c.tc : Thread Cert.ReferenceGatesIdeal.nD Cert.ReferenceGatesIdeal.τ).loc Cert.ReferenceGatesIdeal.main_v56) = v2 c
          ∧ r.2.mem ((c.tc : Thread Cert.ReferenceGatesIdeal.nD Cert.ReferenceGatesIdeal.τ).loc Cert.ReferenceGatesIdeal.main_arg0) = m' ((c.tc : Thread Cert.ReferenceGatesIdeal.nD Cert.ReferenceGatesIdeal.τ).loc Cert.ReferenceGatesIdeal.main_arg0)
          ∧ r.2.mem ((c.tc : Thread Cert.ReferenceGatesIdeal.nD Cert.ReferenceGatesIdeal.τ).loc Cert.ReferenceGatesIdeal.main_arg1) = m' ((c.tc : Thread Cert.ReferenceGatesIdeal.nD Cert.ReferenceGatesIdeal.τ).loc Cert.ReferenceGatesIdeal.main_arg1)
          ∧ r.2.mem ((c.tc : Thread Cert.ReferenceGatesIdeal.nD Cert.ReferenceGatesIdeal.τ).loc Cert.ReferenceGatesIdeal.main_arg2) = m' ((c.tc : Thread Cert.ReferenceGatesIdeal.nD Cert.ReferenceGatesIdeal.τ).loc Cert.ReferenceGatesIdeal.main_arg2)
          ∧ r.2.mem ((c.tc : Thread Cert.ReferenceGatesIdeal.nD Cert.ReferenceGatesIdeal.τ).loc Cert.ReferenceGatesIdeal.main_arg3) = m' ((c.tc : Thread Cert.ReferenceGatesIdeal.nD Cert.ReferenceGatesIdeal.τ).loc Cert.ReferenceGatesIdeal.main_arg3)
          ∧ r.2.mem ((c.tc : Thread Cert.ReferenceGatesIdeal.nD Cert.ReferenceGatesIdeal.τ).loc Cert.ReferenceGatesIdeal.main_arg4) = m' ((c.tc : Thread Cert.ReferenceGatesIdeal.nD Cert.ReferenceGatesIdeal.τ).loc Cert.ReferenceGatesIdeal.main_arg4))

def preserves_KernelRes_KernelResIdeal : Prop :=
  True

def algebraic_KernelResIdeal_ReferenceResIdeal [hKernelResIdeal : Cert.KernelResIdeal.Facts] [hReferenceResIdeal : Cert.ReferenceResIdeal.Facts] : Prop :=
  ∀ (m : (ℓ : Loc Cert.KernelResIdeal.nD Cert.KernelResIdeal.τ Cert.KernelResIdeal.sig) → Buf (Elt Ideal) ℓ) (g : Dev Cert.KernelResIdeal.nD → PrngReg)
    (m' : (ℓ : Loc Cert.ReferenceResIdeal.nD Cert.ReferenceResIdeal.τ Cert.ReferenceResIdeal.sig) → Buf (Elt Ideal) ℓ) (g' : Dev Cert.ReferenceResIdeal.nD → PrngReg), Pre_KernelResIdeal m →
    (∀ c : Dev Cert.KernelResIdeal.nD,
      m' ((c.tc : Thread Cert.ReferenceResIdeal.nD Cert.ReferenceResIdeal.τ).loc Cert.ReferenceResIdeal.main_arg0) = m ((c.tc : Thread Cert.KernelResIdeal.nD Cert.KernelResIdeal.τ).loc Cert.KernelResIdeal.main_arg0)
      ∧ m' ((c.tc : Thread Cert.ReferenceResIdeal.nD Cert.ReferenceResIdeal.τ).loc Cert.ReferenceResIdeal.main_arg1) = m ((c.tc : Thread Cert.KernelResIdeal.nD Cert.KernelResIdeal.τ).loc Cert.KernelResIdeal.main_arg1)
      ∧ m' ((c.tc : Thread Cert.ReferenceResIdeal.nD Cert.ReferenceResIdeal.τ).loc Cert.ReferenceResIdeal.main_arg2) = m ((c.tc : Thread Cert.KernelResIdeal.nD Cert.KernelResIdeal.τ).loc Cert.KernelResIdeal.main_arg2)
      ∧ m' ((c.tc : Thread Cert.ReferenceResIdeal.nD Cert.ReferenceResIdeal.τ).loc Cert.ReferenceResIdeal.main_arg3) = m ((c.tc : Thread Cert.KernelResIdeal.nD Cert.KernelResIdeal.τ).loc Cert.KernelResIdeal.main_arg3)
      ∧ m' ((c.tc : Thread Cert.ReferenceResIdeal.nD Cert.ReferenceResIdeal.τ).loc Cert.ReferenceResIdeal.main_arg4) = m ((c.tc : Thread Cert.KernelResIdeal.nD Cert.KernelResIdeal.τ).loc Cert.KernelResIdeal.main_arg4)
      ∧ m' ((c.tc : Thread Cert.ReferenceResIdeal.nD Cert.ReferenceResIdeal.τ).loc Cert.ReferenceResIdeal.main_arg5) = m ((c.tc : Thread Cert.KernelResIdeal.nD Cert.KernelResIdeal.τ).loc Cert.KernelResIdeal.main_arg5)) →
    ∃ (v0 : (c : Dev Cert.KernelResIdeal.nD) → Buf (Elt Ideal) ((c.tc : Thread Cert.KernelResIdeal.nD Cert.KernelResIdeal.τ).loc Cert.KernelResIdeal.main_v0)) (v1 : (c : Dev Cert.KernelResIdeal.nD) → Buf (Elt Ideal) ((c.tc : Thread Cert.KernelResIdeal.nD Cert.KernelResIdeal.τ).loc Cert.KernelResIdeal.main_v1)),
      θ_run (Cert.KernelResIdeal.defs (F := Ideal)) (onTc (τ := Cert.KernelResIdeal.τ) (Cert.KernelResIdeal.main (F := Ideal))) ⟨m, fun _ => 0, g⟩ (fun r => ∀ c : Dev Cert.KernelResIdeal.nD,
          r.2.mem ((c.tc : Thread Cert.KernelResIdeal.nD Cert.KernelResIdeal.τ).loc Cert.KernelResIdeal.main_v0) = v0 c
          ∧ r.2.mem ((c.tc : Thread Cert.KernelResIdeal.nD Cert.KernelResIdeal.τ).loc Cert.KernelResIdeal.main_v1) = v1 c
          ∧ r.2.mem ((c.tc : Thread Cert.KernelResIdeal.nD Cert.KernelResIdeal.τ).loc Cert.KernelResIdeal.main_arg0) = m ((c.tc : Thread Cert.KernelResIdeal.nD Cert.KernelResIdeal.τ).loc Cert.KernelResIdeal.main_arg0)
          ∧ r.2.mem ((c.tc : Thread Cert.KernelResIdeal.nD Cert.KernelResIdeal.τ).loc Cert.KernelResIdeal.main_arg1) = m ((c.tc : Thread Cert.KernelResIdeal.nD Cert.KernelResIdeal.τ).loc Cert.KernelResIdeal.main_arg1)
          ∧ r.2.mem ((c.tc : Thread Cert.KernelResIdeal.nD Cert.KernelResIdeal.τ).loc Cert.KernelResIdeal.main_arg2) = m ((c.tc : Thread Cert.KernelResIdeal.nD Cert.KernelResIdeal.τ).loc Cert.KernelResIdeal.main_arg2)
          ∧ r.2.mem ((c.tc : Thread Cert.KernelResIdeal.nD Cert.KernelResIdeal.τ).loc Cert.KernelResIdeal.main_arg3) = m ((c.tc : Thread Cert.KernelResIdeal.nD Cert.KernelResIdeal.τ).loc Cert.KernelResIdeal.main_arg3)
          ∧ r.2.mem ((c.tc : Thread Cert.KernelResIdeal.nD Cert.KernelResIdeal.τ).loc Cert.KernelResIdeal.main_arg4) = m ((c.tc : Thread Cert.KernelResIdeal.nD Cert.KernelResIdeal.τ).loc Cert.KernelResIdeal.main_arg4)
          ∧ r.2.mem ((c.tc : Thread Cert.KernelResIdeal.nD Cert.KernelResIdeal.τ).loc Cert.KernelResIdeal.main_arg5) = m ((c.tc : Thread Cert.KernelResIdeal.nD Cert.KernelResIdeal.τ).loc Cert.KernelResIdeal.main_arg5))
      ∧ θ_run (Cert.ReferenceResIdeal.defs (F := Ideal)) (onTc (τ := Cert.ReferenceResIdeal.τ) (Cert.ReferenceResIdeal.main (F := Ideal))) ⟨m', fun _ => 0, g'⟩ (fun r => ∀ c : Dev Cert.ReferenceResIdeal.nD,
          r.2.mem ((c.tc : Thread Cert.ReferenceResIdeal.nD Cert.ReferenceResIdeal.τ).loc Cert.ReferenceResIdeal.main_v2) = v0 c
          ∧ r.2.mem ((c.tc : Thread Cert.ReferenceResIdeal.nD Cert.ReferenceResIdeal.τ).loc Cert.ReferenceResIdeal.main_v21) = v1 c
          ∧ r.2.mem ((c.tc : Thread Cert.ReferenceResIdeal.nD Cert.ReferenceResIdeal.τ).loc Cert.ReferenceResIdeal.main_arg0) = m' ((c.tc : Thread Cert.ReferenceResIdeal.nD Cert.ReferenceResIdeal.τ).loc Cert.ReferenceResIdeal.main_arg0)
          ∧ r.2.mem ((c.tc : Thread Cert.ReferenceResIdeal.nD Cert.ReferenceResIdeal.τ).loc Cert.ReferenceResIdeal.main_arg1) = m' ((c.tc : Thread Cert.ReferenceResIdeal.nD Cert.ReferenceResIdeal.τ).loc Cert.ReferenceResIdeal.main_arg1)
          ∧ r.2.mem ((c.tc : Thread Cert.ReferenceResIdeal.nD Cert.ReferenceResIdeal.τ).loc Cert.ReferenceResIdeal.main_arg2) = m' ((c.tc : Thread Cert.ReferenceResIdeal.nD Cert.ReferenceResIdeal.τ).loc Cert.ReferenceResIdeal.main_arg2)
          ∧ r.2.mem ((c.tc : Thread Cert.ReferenceResIdeal.nD Cert.ReferenceResIdeal.τ).loc Cert.ReferenceResIdeal.main_arg3) = m' ((c.tc : Thread Cert.ReferenceResIdeal.nD Cert.ReferenceResIdeal.τ).loc Cert.ReferenceResIdeal.main_arg3)
          ∧ r.2.mem ((c.tc : Thread Cert.ReferenceResIdeal.nD Cert.ReferenceResIdeal.τ).loc Cert.ReferenceResIdeal.main_arg4) = m' ((c.tc : Thread Cert.ReferenceResIdeal.nD Cert.ReferenceResIdeal.τ).loc Cert.ReferenceResIdeal.main_arg4)
          ∧ r.2.mem ((c.tc : Thread Cert.ReferenceResIdeal.nD Cert.ReferenceResIdeal.τ).loc Cert.ReferenceResIdeal.main_arg5) = m' ((c.tc : Thread Cert.ReferenceResIdeal.nD Cert.ReferenceResIdeal.τ).loc Cert.ReferenceResIdeal.main_arg5))

def preserves_KernelResB_KernelResBIdeal : Prop :=
  True

def algebraic_KernelResBIdeal_ReferenceResBIdeal [hKernelResBIdeal : Cert.KernelResBIdeal.Facts] [hReferenceResBIdeal : Cert.ReferenceResBIdeal.Facts] : Prop :=
  ∀ (m : (ℓ : Loc Cert.KernelResBIdeal.nD Cert.KernelResBIdeal.τ Cert.KernelResBIdeal.sig) → Buf (Elt Ideal) ℓ) (g : Dev Cert.KernelResBIdeal.nD → PrngReg)
    (m' : (ℓ : Loc Cert.ReferenceResBIdeal.nD Cert.ReferenceResBIdeal.τ Cert.ReferenceResBIdeal.sig) → Buf (Elt Ideal) ℓ) (g' : Dev Cert.ReferenceResBIdeal.nD → PrngReg), Pre_KernelResBIdeal m →
    (∀ c : Dev Cert.KernelResBIdeal.nD,
      m' ((c.tc : Thread Cert.ReferenceResBIdeal.nD Cert.ReferenceResBIdeal.τ).loc Cert.ReferenceResBIdeal.main_arg0) = m ((c.tc : Thread Cert.KernelResBIdeal.nD Cert.KernelResBIdeal.τ).loc Cert.KernelResBIdeal.main_arg0)
      ∧ m' ((c.tc : Thread Cert.ReferenceResBIdeal.nD Cert.ReferenceResBIdeal.τ).loc Cert.ReferenceResBIdeal.main_arg1) = m ((c.tc : Thread Cert.KernelResBIdeal.nD Cert.KernelResBIdeal.τ).loc Cert.KernelResBIdeal.main_arg1)
      ∧ m' ((c.tc : Thread Cert.ReferenceResBIdeal.nD Cert.ReferenceResBIdeal.τ).loc Cert.ReferenceResBIdeal.main_arg2) = m ((c.tc : Thread Cert.KernelResBIdeal.nD Cert.KernelResBIdeal.τ).loc Cert.KernelResBIdeal.main_arg2)) →
    ∃ (v0 : (c : Dev Cert.KernelResBIdeal.nD) → Buf (Elt Ideal) ((c.tc : Thread Cert.KernelResBIdeal.nD Cert.KernelResBIdeal.τ).loc Cert.KernelResBIdeal.main_v0_0)) (v1 : (c : Dev Cert.KernelResBIdeal.nD) → Buf (Elt Ideal) ((c.tc : Thread Cert.KernelResBIdeal.nD Cert.KernelResBIdeal.τ).loc Cert.KernelResBIdeal.main_v0_1)),
      θ_run (Cert.KernelResBIdeal.defs (F := Ideal)) (onTc (τ := Cert.KernelResBIdeal.τ) (Cert.KernelResBIdeal.main (F := Ideal))) ⟨m, fun _ => 0, g⟩ (fun r => ∀ c : Dev Cert.KernelResBIdeal.nD,
          r.2.mem ((c.tc : Thread Cert.KernelResBIdeal.nD Cert.KernelResBIdeal.τ).loc Cert.KernelResBIdeal.main_v0_0) = v0 c
          ∧ r.2.mem ((c.tc : Thread Cert.KernelResBIdeal.nD Cert.KernelResBIdeal.τ).loc Cert.KernelResBIdeal.main_v0_1) = v1 c
          ∧ r.2.mem ((c.tc : Thread Cert.KernelResBIdeal.nD Cert.KernelResBIdeal.τ).loc Cert.KernelResBIdeal.main_arg0) = m ((c.tc : Thread Cert.KernelResBIdeal.nD Cert.KernelResBIdeal.τ).loc Cert.KernelResBIdeal.main_arg0)
          ∧ r.2.mem ((c.tc : Thread Cert.KernelResBIdeal.nD Cert.KernelResBIdeal.τ).loc Cert.KernelResBIdeal.main_arg1) = m ((c.tc : Thread Cert.KernelResBIdeal.nD Cert.KernelResBIdeal.τ).loc Cert.KernelResBIdeal.main_arg1)
          ∧ r.2.mem ((c.tc : Thread Cert.KernelResBIdeal.nD Cert.KernelResBIdeal.τ).loc Cert.KernelResBIdeal.main_arg2) = m ((c.tc : Thread Cert.KernelResBIdeal.nD Cert.KernelResBIdeal.τ).loc Cert.KernelResBIdeal.main_arg2))
      ∧ θ_run (Cert.ReferenceResBIdeal.defs (F := Ideal)) (onTc (τ := Cert.ReferenceResBIdeal.τ) (Cert.ReferenceResBIdeal.main (F := Ideal))) ⟨m', fun _ => 0, g'⟩ (fun r => ∀ c : Dev Cert.ReferenceResBIdeal.nD,
          r.2.mem ((c.tc : Thread Cert.ReferenceResBIdeal.nD Cert.ReferenceResBIdeal.τ).loc Cert.ReferenceResBIdeal.main_v6) = v0 c
          ∧ r.2.mem ((c.tc : Thread Cert.ReferenceResBIdeal.nD Cert.ReferenceResBIdeal.τ).loc Cert.ReferenceResBIdeal.main_v7) = v1 c
          ∧ r.2.mem ((c.tc : Thread Cert.ReferenceResBIdeal.nD Cert.ReferenceResBIdeal.τ).loc Cert.ReferenceResBIdeal.main_arg0) = m' ((c.tc : Thread Cert.ReferenceResBIdeal.nD Cert.ReferenceResBIdeal.τ).loc Cert.ReferenceResBIdeal.main_arg0)
          ∧ r.2.mem ((c.tc : Thread Cert.ReferenceResBIdeal.nD Cert.ReferenceResBIdeal.τ).loc Cert.ReferenceResBIdeal.main_arg1) = m' ((c.tc : Thread Cert.ReferenceResBIdeal.nD Cert.ReferenceResBIdeal.τ).loc Cert.ReferenceResBIdeal.main_arg1)
          ∧ r.2.mem ((c.tc : Thread Cert.ReferenceResBIdeal.nD Cert.ReferenceResBIdeal.τ).loc Cert.ReferenceResBIdeal.main_arg2) = m' ((c.tc : Thread Cert.ReferenceResBIdeal.nD Cert.ReferenceResBIdeal.τ).loc Cert.ReferenceResBIdeal.main_arg2))

def preserves_KernelLoss_KernelLossIdeal : Prop :=
  True

def algebraic_KernelLossIdeal_ReferenceLossIdeal [hKernelLossIdeal : Cert.KernelLossIdeal.Facts] [hReferenceLossIdeal : Cert.ReferenceLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg)
    (m' : (ℓ : Loc Cert.ReferenceLossIdeal.nD Cert.ReferenceLossIdeal.τ Cert.ReferenceLossIdeal.sig) → Buf (Elt Ideal) ℓ) (g' : Dev Cert.ReferenceLossIdeal.nD → PrngReg), Pre_KernelLossIdeal m →
    (∀ c : Dev Cert.KernelLossIdeal.nD,
      m' ((c.tc : Thread Cert.ReferenceLossIdeal.nD Cert.ReferenceLossIdeal.τ).loc Cert.ReferenceLossIdeal.main_arg0) = m ((c.tc : Thread Cert.KernelLossIdeal.nD Cert.KernelLossIdeal.τ).loc Cert.KernelLossIdeal.main_arg0)
      ∧ m' ((c.tc : Thread Cert.ReferenceLossIdeal.nD Cert.ReferenceLossIdeal.τ).loc Cert.ReferenceLossIdeal.main_arg1) = m ((c.tc : Thread Cert.KernelLossIdeal.nD Cert.KernelLossIdeal.τ).loc Cert.KernelLossIdeal.main_arg1)
      ∧ m' ((c.tc : Thread Cert.ReferenceLossIdeal.nD Cert.ReferenceLossIdeal.τ).loc Cert.ReferenceLossIdeal.main_arg2) = m ((c.tc : Thread Cert.KernelLossIdeal.nD Cert.KernelLossIdeal.τ).loc Cert.KernelLossIdeal.main_arg2)) →
    ∃ (v0 : (c : Dev Cert.KernelLossIdeal.nD) → Buf (Elt Ideal) ((c.tc : Thread Cert.KernelLossIdeal.nD Cert.KernelLossIdeal.τ).loc Cert.KernelLossIdeal.main_v0_0)) (v1 : (c : Dev Cert.KernelLossIdeal.nD) → Buf (Elt Ideal) ((c.tc : Thread Cert.KernelLossIdeal.nD Cert.KernelLossIdeal.τ).loc Cert.KernelLossIdeal.main_v0_1)) (v2 : (c : Dev Cert.KernelLossIdeal.nD) → Buf (Elt Ideal) ((c.tc : Thread Cert.KernelLossIdeal.nD Cert.KernelLossIdeal.τ).loc Cert.KernelLossIdeal.main_v0_2)),
      θ_run (Cert.KernelLossIdeal.defs (F := Ideal)) (onTc (τ := Cert.KernelLossIdeal.τ) (Cert.KernelLossIdeal.main (F := Ideal))) ⟨m, fun _ => 0, g⟩ (fun r => ∀ c : Dev Cert.KernelLossIdeal.nD,
          r.2.mem ((c.tc : Thread Cert.KernelLossIdeal.nD Cert.KernelLossIdeal.τ).loc Cert.KernelLossIdeal.main_v0_0) = v0 c
          ∧ r.2.mem ((c.tc : Thread Cert.KernelLossIdeal.nD Cert.KernelLossIdeal.τ).loc Cert.KernelLossIdeal.main_v0_1) = v1 c
          ∧ r.2.mem ((c.tc : Thread Cert.KernelLossIdeal.nD Cert.KernelLossIdeal.τ).loc Cert.KernelLossIdeal.main_v0_2) = v2 c
          ∧ r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
          ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
          ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2))
      ∧ θ_run (Cert.ReferenceLossIdeal.defs (F := Ideal)) (onTc (τ := Cert.ReferenceLossIdeal.τ) (Cert.ReferenceLossIdeal.main (F := Ideal))) ⟨m', fun _ => 0, g'⟩ (fun r => ∀ c : Dev Cert.ReferenceLossIdeal.nD,
          r.2.mem ((c.tc : Thread Cert.ReferenceLossIdeal.nD Cert.ReferenceLossIdeal.τ).loc Cert.ReferenceLossIdeal.main_v49) = v0 c
          ∧ r.2.mem ((c.tc : Thread Cert.ReferenceLossIdeal.nD Cert.ReferenceLossIdeal.τ).loc Cert.ReferenceLossIdeal.main_v48) = v1 c
          ∧ r.2.mem ((c.tc : Thread Cert.ReferenceLossIdeal.nD Cert.ReferenceLossIdeal.τ).loc Cert.ReferenceLossIdeal.main_v32) = v2 c
          ∧ r.2.mem ((c.tc : Thread Cert.ReferenceLossIdeal.nD Cert.ReferenceLossIdeal.τ).loc Cert.ReferenceLossIdeal.main_arg0) = m' ((c.tc : Thread Cert.ReferenceLossIdeal.nD Cert.ReferenceLossIdeal.τ).loc Cert.ReferenceLossIdeal.main_arg0)
          ∧ r.2.mem ((c.tc : Thread Cert.ReferenceLossIdeal.nD Cert.ReferenceLossIdeal.τ).loc Cert.ReferenceLossIdeal.main_arg1) = m' ((c.tc : Thread Cert.ReferenceLossIdeal.nD Cert.ReferenceLossIdeal.τ).loc Cert.ReferenceLossIdeal.main_arg1)
          ∧ r.2.mem ((c.tc : Thread Cert.ReferenceLossIdeal.nD Cert.ReferenceLossIdeal.τ).loc Cert.ReferenceLossIdeal.main_arg2) = m' ((c.tc : Thread Cert.ReferenceLossIdeal.nD Cert.ReferenceLossIdeal.τ).loc Cert.ReferenceLossIdeal.main_arg2))

def preserves_KernelAda_KernelAdaIdeal : Prop :=
  True

def algebraic_KernelAdaIdeal_ReferenceAdaIdeal [hKernelAdaIdeal : Cert.KernelAdaIdeal.Facts] [hReferenceAdaIdeal : Cert.ReferenceAdaIdeal.Facts] : Prop :=
  ∀ (m : (ℓ : Loc Cert.KernelAdaIdeal.nD Cert.KernelAdaIdeal.τ Cert.KernelAdaIdeal.sig) → Buf (Elt Ideal) ℓ) (g : Dev Cert.KernelAdaIdeal.nD → PrngReg)
    (m' : (ℓ : Loc Cert.ReferenceAdaIdeal.nD Cert.ReferenceAdaIdeal.τ Cert.ReferenceAdaIdeal.sig) → Buf (Elt Ideal) ℓ) (g' : Dev Cert.ReferenceAdaIdeal.nD → PrngReg), Pre_KernelAdaIdeal m →
    (∀ c : Dev Cert.KernelAdaIdeal.nD,
      m' ((c.tc : Thread Cert.ReferenceAdaIdeal.nD Cert.ReferenceAdaIdeal.τ).loc Cert.ReferenceAdaIdeal.main_arg0) = m ((c.tc : Thread Cert.KernelAdaIdeal.nD Cert.KernelAdaIdeal.τ).loc Cert.KernelAdaIdeal.main_arg0)
      ∧ m' ((c.tc : Thread Cert.ReferenceAdaIdeal.nD Cert.ReferenceAdaIdeal.τ).loc Cert.ReferenceAdaIdeal.main_arg1) = m ((c.tc : Thread Cert.KernelAdaIdeal.nD Cert.KernelAdaIdeal.τ).loc Cert.KernelAdaIdeal.main_arg1)
      ∧ m' ((c.tc : Thread Cert.ReferenceAdaIdeal.nD Cert.ReferenceAdaIdeal.τ).loc Cert.ReferenceAdaIdeal.main_arg2) = m ((c.tc : Thread Cert.KernelAdaIdeal.nD Cert.KernelAdaIdeal.τ).loc Cert.KernelAdaIdeal.main_arg2)
      ∧ m' ((c.tc : Thread Cert.ReferenceAdaIdeal.nD Cert.ReferenceAdaIdeal.τ).loc Cert.ReferenceAdaIdeal.main_arg3) = m ((c.tc : Thread Cert.KernelAdaIdeal.nD Cert.KernelAdaIdeal.τ).loc Cert.KernelAdaIdeal.main_arg3)) →
    ∃ (v0 : (c : Dev Cert.KernelAdaIdeal.nD) → Buf (Elt Ideal) ((c.tc : Thread Cert.KernelAdaIdeal.nD Cert.KernelAdaIdeal.τ).loc Cert.KernelAdaIdeal.main_v7)) (v1 : (c : Dev Cert.KernelAdaIdeal.nD) → Buf (Elt Ideal) ((c.tc : Thread Cert.KernelAdaIdeal.nD Cert.KernelAdaIdeal.τ).loc Cert.KernelAdaIdeal.main_v12)),
      θ_run (Cert.KernelAdaIdeal.defs (F := Ideal)) (onTc (τ := Cert.KernelAdaIdeal.τ) (Cert.KernelAdaIdeal.main (F := Ideal))) ⟨m, fun _ => 0, g⟩ (fun r => ∀ c : Dev Cert.KernelAdaIdeal.nD,
          r.2.mem ((c.tc : Thread Cert.KernelAdaIdeal.nD Cert.KernelAdaIdeal.τ).loc Cert.KernelAdaIdeal.main_v7) = v0 c
          ∧ r.2.mem ((c.tc : Thread Cert.KernelAdaIdeal.nD Cert.KernelAdaIdeal.τ).loc Cert.KernelAdaIdeal.main_v12) = v1 c
          ∧ r.2.mem ((c.tc : Thread Cert.KernelAdaIdeal.nD Cert.KernelAdaIdeal.τ).loc Cert.KernelAdaIdeal.main_arg0) = m ((c.tc : Thread Cert.KernelAdaIdeal.nD Cert.KernelAdaIdeal.τ).loc Cert.KernelAdaIdeal.main_arg0)
          ∧ r.2.mem ((c.tc : Thread Cert.KernelAdaIdeal.nD Cert.KernelAdaIdeal.τ).loc Cert.KernelAdaIdeal.main_arg1) = m ((c.tc : Thread Cert.KernelAdaIdeal.nD Cert.KernelAdaIdeal.τ).loc Cert.KernelAdaIdeal.main_arg1)
          ∧ r.2.mem ((c.tc : Thread Cert.KernelAdaIdeal.nD Cert.KernelAdaIdeal.τ).loc Cert.KernelAdaIdeal.main_arg2) = m ((c.tc : Thread Cert.KernelAdaIdeal.nD Cert.KernelAdaIdeal.τ).loc Cert.KernelAdaIdeal.main_arg2)
          ∧ r.2.mem ((c.tc : Thread Cert.KernelAdaIdeal.nD Cert.KernelAdaIdeal.τ).loc Cert.KernelAdaIdeal.main_arg3) = m ((c.tc : Thread Cert.KernelAdaIdeal.nD Cert.KernelAdaIdeal.τ).loc Cert.KernelAdaIdeal.main_arg3))
      ∧ θ_run (Cert.ReferenceAdaIdeal.defs (F := Ideal)) (onTc (τ := Cert.ReferenceAdaIdeal.τ) (Cert.ReferenceAdaIdeal.main (F := Ideal))) ⟨m', fun _ => 0, g'⟩ (fun r => ∀ c : Dev Cert.ReferenceAdaIdeal.nD,
          r.2.mem ((c.tc : Thread Cert.ReferenceAdaIdeal.nD Cert.ReferenceAdaIdeal.τ).loc Cert.ReferenceAdaIdeal.main_v8) = v0 c
          ∧ r.2.mem ((c.tc : Thread Cert.ReferenceAdaIdeal.nD Cert.ReferenceAdaIdeal.τ).loc Cert.ReferenceAdaIdeal.main_v10) = v1 c
          ∧ r.2.mem ((c.tc : Thread Cert.ReferenceAdaIdeal.nD Cert.ReferenceAdaIdeal.τ).loc Cert.ReferenceAdaIdeal.main_arg0) = m' ((c.tc : Thread Cert.ReferenceAdaIdeal.nD Cert.ReferenceAdaIdeal.τ).loc Cert.ReferenceAdaIdeal.main_arg0)
          ∧ r.2.mem ((c.tc : Thread Cert.ReferenceAdaIdeal.nD Cert.ReferenceAdaIdeal.τ).loc Cert.ReferenceAdaIdeal.main_arg1) = m' ((c.tc : Thread Cert.ReferenceAdaIdeal.nD Cert.ReferenceAdaIdeal.τ).loc Cert.ReferenceAdaIdeal.main_arg1)
          ∧ r.2.mem ((c.tc : Thread Cert.ReferenceAdaIdeal.nD Cert.ReferenceAdaIdeal.τ).loc Cert.ReferenceAdaIdeal.main_arg2) = m' ((c.tc : Thread Cert.ReferenceAdaIdeal.nD Cert.ReferenceAdaIdeal.τ).loc Cert.ReferenceAdaIdeal.main_arg2)
          ∧ r.2.mem ((c.tc : Thread Cert.ReferenceAdaIdeal.nD Cert.ReferenceAdaIdeal.τ).loc Cert.ReferenceAdaIdeal.main_arg3) = m' ((c.tc : Thread Cert.ReferenceAdaIdeal.nD Cert.ReferenceAdaIdeal.τ).loc Cert.ReferenceAdaIdeal.main_arg3))

def Claim : Prop :=
  ∃ (hKernel : Cert.Kernel.Facts) (hKernelIdeal : Cert.KernelIdeal.Facts) (hReferenceIdeal : Cert.ReferenceIdeal.Facts) (hKernelFfn : Cert.KernelFfn.Facts) (hKernelFfnIdeal : Cert.KernelFfnIdeal.Facts) (hReferenceFfnIdeal : Cert.ReferenceFfnIdeal.Facts) (hKernelFfnX : Cert.KernelFfnX.Facts) (hKernelFfnXIdeal : Cert.KernelFfnXIdeal.Facts) (hReferenceFfnXIdeal : Cert.ReferenceFfnXIdeal.Facts) (hKernelFfnDown : Cert.KernelFfnDown.Facts) (hKernelFfnDownIdeal : Cert.KernelFfnDownIdeal.Facts) (hReferenceFfnDownIdeal : Cert.ReferenceFfnDownIdeal.Facts) (hKernelIn : Cert.KernelIn.Facts) (hKernelInIdeal : Cert.KernelInIdeal.Facts) (hReferenceInIdeal : Cert.ReferenceInIdeal.Facts) (hKernelInX : Cert.KernelInX.Facts) (hKernelInXIdeal : Cert.KernelInXIdeal.Facts) (hReferenceInXIdeal : Cert.ReferenceInXIdeal.Facts) (hKernelMix : Cert.KernelMix.Facts) (hKernelMixIdeal : Cert.KernelMixIdeal.Facts) (hReferenceMixIdeal : Cert.ReferenceMixIdeal.Facts) (hKernelUp : Cert.KernelUp.Facts) (hKernelUpIdeal : Cert.KernelUpIdeal.Facts) (hReferenceUpIdeal : Cert.ReferenceUpIdeal.Facts) (hKernelConv : Cert.KernelConv.Facts) (hKernelConvIdeal : Cert.KernelConvIdeal.Facts) (hReferenceConvIdeal : Cert.ReferenceConvIdeal.Facts) (hKernelNorm : Cert.KernelNorm.Facts) (hKernelNormIdeal : Cert.KernelNormIdeal.Facts) (hReferenceNormIdeal : Cert.ReferenceNormIdeal.Facts) (hKernelRope : Cert.KernelRope.Facts) (hKernelRopeIdeal : Cert.KernelRopeIdeal.Facts) (hReferenceRopeIdeal : Cert.ReferenceRopeIdeal.Facts) (hKernelGates : Cert.KernelGates.Facts) (hKernelGatesIdeal : Cert.KernelGatesIdeal.Facts) (hReferenceGatesIdeal : Cert.ReferenceGatesIdeal.Facts) (hKernelRes : Cert.KernelRes.Facts) (hKernelResIdeal : Cert.KernelResIdeal.Facts) (hReferenceResIdeal : Cert.ReferenceResIdeal.Facts) (hKernelResB : Cert.KernelResB.Facts) (hKernelResBIdeal : Cert.KernelResBIdeal.Facts) (hReferenceResBIdeal : Cert.ReferenceResBIdeal.Facts) (hKernelLoss : Cert.KernelLoss.Facts) (hKernelLossIdeal : Cert.KernelLossIdeal.Facts) (hReferenceLossIdeal : Cert.ReferenceLossIdeal.Facts) (hKernelAda : Cert.KernelAda.Facts) (hKernelAdaIdeal : Cert.KernelAdaIdeal.Facts) (hReferenceAdaIdeal : Cert.ReferenceAdaIdeal.Facts) (hPre_finite : Cert.Pre_finite.Facts) (hPre_finite_ffn : Cert.Pre_finite_ffn.Facts) (hPre_finite_conv : Cert.Pre_finite_conv.Facts) (hPre_finite_gates : Cert.Pre_finite_gates.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelFfn (hKernelFfn := hKernelFfn)
    ∧ quiescent_KernelFfnIdeal (hKernelFfnIdeal := hKernelFfnIdeal)
    ∧ quiescent_KernelFfnIdeal_pre_finite_ffn (hKernelFfnIdeal := hKernelFfnIdeal) (hPre_finite_ffn := hPre_finite_ffn)
    ∧ quiescent_ReferenceFfnIdeal (hReferenceFfnIdeal := hReferenceFfnIdeal)
    ∧ quiescent_ReferenceFfnIdeal_pre_finite_ffn (hReferenceFfnIdeal := hReferenceFfnIdeal) (hPre_finite_ffn := hPre_finite_ffn)
    ∧ quiescent_KernelFfnX (hKernelFfnX := hKernelFfnX)
    ∧ quiescent_KernelFfnXIdeal (hKernelFfnXIdeal := hKernelFfnXIdeal)
    ∧ quiescent_ReferenceFfnXIdeal (hReferenceFfnXIdeal := hReferenceFfnXIdeal)
    ∧ quiescent_KernelFfnDown (hKernelFfnDown := hKernelFfnDown)
    ∧ quiescent_KernelFfnDownIdeal (hKernelFfnDownIdeal := hKernelFfnDownIdeal)
    ∧ quiescent_ReferenceFfnDownIdeal (hReferenceFfnDownIdeal := hReferenceFfnDownIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelInX (hKernelInX := hKernelInX)
    ∧ quiescent_KernelInXIdeal (hKernelInXIdeal := hKernelInXIdeal)
    ∧ quiescent_ReferenceInXIdeal (hReferenceInXIdeal := hReferenceInXIdeal)
    ∧ quiescent_KernelMix (hKernelMix := hKernelMix)
    ∧ quiescent_KernelMixIdeal (hKernelMixIdeal := hKernelMixIdeal)
    ∧ quiescent_ReferenceMixIdeal (hReferenceMixIdeal := hReferenceMixIdeal)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelConv (hKernelConv := hKernelConv)
    ∧ quiescent_KernelConvIdeal (hKernelConvIdeal := hKernelConvIdeal)
    ∧ quiescent_KernelConvIdeal_pre_finite_conv (hKernelConvIdeal := hKernelConvIdeal) (hPre_finite_conv := hPre_finite_conv)
    ∧ quiescent_ReferenceConvIdeal (hReferenceConvIdeal := hReferenceConvIdeal)
    ∧ quiescent_ReferenceConvIdeal_pre_finite_conv (hReferenceConvIdeal := hReferenceConvIdeal) (hPre_finite_conv := hPre_finite_conv)
    ∧ quiescent_KernelNorm (hKernelNorm := hKernelNorm)
    ∧ quiescent_KernelNormIdeal (hKernelNormIdeal := hKernelNormIdeal)
    ∧ quiescent_ReferenceNormIdeal (hReferenceNormIdeal := hReferenceNormIdeal)
    ∧ quiescent_KernelRope (hKernelRope := hKernelRope)
    ∧ quiescent_KernelRopeIdeal (hKernelRopeIdeal := hKernelRopeIdeal)
    ∧ quiescent_ReferenceRopeIdeal (hReferenceRopeIdeal := hReferenceRopeIdeal)
    ∧ quiescent_KernelGates (hKernelGates := hKernelGates)
    ∧ quiescent_KernelGatesIdeal (hKernelGatesIdeal := hKernelGatesIdeal)
    ∧ quiescent_KernelGatesIdeal_pre_finite_gates (hKernelGatesIdeal := hKernelGatesIdeal) (hPre_finite_gates := hPre_finite_gates)
    ∧ quiescent_ReferenceGatesIdeal (hReferenceGatesIdeal := hReferenceGatesIdeal)
    ∧ quiescent_ReferenceGatesIdeal_pre_finite_gates (hReferenceGatesIdeal := hReferenceGatesIdeal) (hPre_finite_gates := hPre_finite_gates)
    ∧ quiescent_KernelRes (hKernelRes := hKernelRes)
    ∧ quiescent_KernelResIdeal (hKernelResIdeal := hKernelResIdeal)
    ∧ quiescent_ReferenceResIdeal (hReferenceResIdeal := hReferenceResIdeal)
    ∧ quiescent_KernelResB (hKernelResB := hKernelResB)
    ∧ quiescent_KernelResBIdeal (hKernelResBIdeal := hKernelResBIdeal)
    ∧ quiescent_ReferenceResBIdeal (hReferenceResBIdeal := hReferenceResBIdeal)
    ∧ quiescent_KernelLoss (hKernelLoss := hKernelLoss)
    ∧ quiescent_KernelLossIdeal (hKernelLossIdeal := hKernelLossIdeal)
    ∧ quiescent_ReferenceLossIdeal (hReferenceLossIdeal := hReferenceLossIdeal)
    ∧ quiescent_KernelAda (hKernelAda := hKernelAda)
    ∧ quiescent_KernelAdaIdeal (hKernelAdaIdeal := hKernelAdaIdeal)
    ∧ quiescent_ReferenceAdaIdeal (hReferenceAdaIdeal := hReferenceAdaIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelFfn_KernelFfnIdeal
    ∧ algebraic_KernelFfnIdeal_ReferenceFfnIdeal_pre_finite_ffn (hKernelFfnIdeal := hKernelFfnIdeal) (hReferenceFfnIdeal := hReferenceFfnIdeal) (hPre_finite_ffn := hPre_finite_ffn)
    ∧ preserves_KernelFfnX_KernelFfnXIdeal
    ∧ algebraic_KernelFfnXIdeal_ReferenceFfnXIdeal (hKernelFfnXIdeal := hKernelFfnXIdeal) (hReferenceFfnXIdeal := hReferenceFfnXIdeal)
    ∧ preserves_KernelFfnDown_KernelFfnDownIdeal
    ∧ algebraic_KernelFfnDownIdeal_ReferenceFfnDownIdeal (hKernelFfnDownIdeal := hKernelFfnDownIdeal) (hReferenceFfnDownIdeal := hReferenceFfnDownIdeal)
    ∧ preserves_KernelIn_KernelInIdeal
    ∧ algebraic_KernelInIdeal_ReferenceInIdeal (hKernelInIdeal := hKernelInIdeal) (hReferenceInIdeal := hReferenceInIdeal)
    ∧ preserves_KernelInX_KernelInXIdeal
    ∧ algebraic_KernelInXIdeal_ReferenceInXIdeal (hKernelInXIdeal := hKernelInXIdeal) (hReferenceInXIdeal := hReferenceInXIdeal)
    ∧ preserves_KernelMix_KernelMixIdeal
    ∧ algebraic_KernelMixIdeal_ReferenceMixIdeal (hKernelMixIdeal := hKernelMixIdeal) (hReferenceMixIdeal := hReferenceMixIdeal)
    ∧ preserves_KernelUp_KernelUpIdeal
    ∧ algebraic_KernelUpIdeal_ReferenceUpIdeal (hKernelUpIdeal := hKernelUpIdeal) (hReferenceUpIdeal := hReferenceUpIdeal)
    ∧ preserves_KernelConv_KernelConvIdeal
    ∧ algebraic_KernelConvIdeal_ReferenceConvIdeal_pre_finite_conv (hKernelConvIdeal := hKernelConvIdeal) (hReferenceConvIdeal := hReferenceConvIdeal) (hPre_finite_conv := hPre_finite_conv)
    ∧ preserves_KernelNorm_KernelNormIdeal
    ∧ algebraic_KernelNormIdeal_ReferenceNormIdeal (hKernelNormIdeal := hKernelNormIdeal) (hReferenceNormIdeal := hReferenceNormIdeal)
    ∧ preserves_KernelRope_KernelRopeIdeal
    ∧ algebraic_KernelRopeIdeal_ReferenceRopeIdeal (hKernelRopeIdeal := hKernelRopeIdeal) (hReferenceRopeIdeal := hReferenceRopeIdeal)
    ∧ preserves_KernelGates_KernelGatesIdeal
    ∧ algebraic_KernelGatesIdeal_ReferenceGatesIdeal_pre_finite_gates (hKernelGatesIdeal := hKernelGatesIdeal) (hReferenceGatesIdeal := hReferenceGatesIdeal) (hPre_finite_gates := hPre_finite_gates)
    ∧ preserves_KernelRes_KernelResIdeal
    ∧ algebraic_KernelResIdeal_ReferenceResIdeal (hKernelResIdeal := hKernelResIdeal) (hReferenceResIdeal := hReferenceResIdeal)
    ∧ preserves_KernelResB_KernelResBIdeal
    ∧ algebraic_KernelResBIdeal_ReferenceResBIdeal (hKernelResBIdeal := hKernelResBIdeal) (hReferenceResBIdeal := hReferenceResBIdeal)
    ∧ preserves_KernelLoss_KernelLossIdeal
    ∧ algebraic_KernelLossIdeal_ReferenceLossIdeal (hKernelLossIdeal := hKernelLossIdeal) (hReferenceLossIdeal := hReferenceLossIdeal)
    ∧ preserves_KernelAda_KernelAdaIdeal
    ∧ algebraic_KernelAdaIdeal_ReferenceAdaIdeal (hKernelAdaIdeal := hKernelAdaIdeal) (hReferenceAdaIdeal := hReferenceAdaIdeal)
-- ==== Pre_finite.lean ====
abbrev S2048x2048 : Shape := ⟨2, ![2048, 2048]⟩
abbrev S2048x1024 : Shape := ⟨2, ![2048, 1024]⟩
abbrev S_ : Shape := ⟨0, ![]⟩

class Facts : Prop where
  bitsLt_bf16_f32 : FTy.bits .bf16 < FTy.bits .f32
  bcast_S_S2048x2048 : S_.BroadcastsInDim S2048x2048 (![] : Fin 0 → Fin S2048x2048.rank)
  bcast_S_S2048x1024 : S_.BroadcastsInDim S2048x1024 (![] : Fin 0 → Fin S2048x1024.rank)

variable [Facts]

def fn_part1 {F : FTy → Type} [FloatOps F] (main_arg3 : FVec F S2048x1024 .f32) (main_v6 : IVec S2048x2048 1) (main_v11 : IVec S2048x2048 1) (main_v16 : IVec S2048x2048 1) (main_cst_5 : FVec F S_ .f32) : IVec S2048x2048 1 × IVec S2048x2048 1 × IVec S2048x2048 1 × IVec S2048x1024 1 :=
  let main_v17 : FVec F S2048x1024 .f32 := broadcastInDim S2048x1024 ![] bcast_S_S2048x1024 main_cst_5
  let main_v18 : IVec S2048x1024 1 := cmpf .olt main_arg3 main_v17
  let main_cst_6 : FVec F S_ .f32 := constant S_ .f32 0xFF800000#32
  let main_v19 : FVec F S2048x1024 .f32 := broadcastInDim S2048x1024 ![] bcast_S_S2048x1024 main_cst_6
  let main_v20 : IVec S2048x1024 1 := cmpf .ogt main_arg3 main_v19
  let main_v21 : IVec S2048x1024 1 := andi main_v18 main_v20
  (main_v6, main_v11, main_v16, main_v21)

def fn {F : FTy → Type} [FloatOps F] (main_arg0 : FVec F S2048x2048 .bf16) (main_arg1 : FVec F S2048x2048 .bf16) (main_arg2 : FVec F S2048x2048 .f32) (main_arg3 : FVec F S2048x1024 .f32) : IVec S2048x2048 1 × IVec S2048x2048 1 × IVec S2048x2048 1 × IVec S2048x1024 1 :=
  let main_v0 : FVec F S2048x2048 .f32 := (extf .f32 · bitsLt_bf16_f32) main_arg0
  let main_v1 : FVec F S2048x2048 .f32 := (extf .f32 · bitsLt_bf16_f32) main_arg1
  let main_cst : FVec F S_ .f32 := constant S_ .f32 0x7F800000#32
  let main_v2 : FVec F S2048x2048 .f32 := broadcastInDim S2048x2048 ![] bcast_S_S2048x2048 main_cst
  let main_v3 : IVec S2048x2048 1 := cmpf .olt main_v0 main_v2
  let main_cst_0 : FVec F S_ .f32 := constant S_ .f32 0xFF800000#32
  let main_v4 : FVec F S2048x2048 .f32 := broadcastInDim S2048x2048 ![] bcast_S_S2048x2048 main_cst_0
  let main_v5 : IVec S2048x2048 1 := cmpf .ogt main_v0 main_v4
  let main_v6 : IVec S2048x2048 1 := andi main_v3 main_v5
  let main_cst_1 : FVec F S_ .f32 := constant S_ .f32 0x7F800000#32
  let main_v7 : FVec F S2048x2048 .f32 := broadcastInDim S2048x2048 ![] bcast_S_S2048x2048 main_cst_1
  let main_v8 : IVec S2048x2048 1 := cmpf .olt main_v1 main_v7
  let main_cst_2 : FVec F S_ .f32 := constant S_ .f32 0xFF800000#32
  let main_v9 : FVec F S2048x2048 .f32 := broadcastInDim S2048x2048 ![] bcast_S_S2048x2048 main_cst_2
  let main_v10 : IVec S2048x2048 1 := cmpf .ogt main_v1 main_v9
  let main_v11 : IVec S2048x2048 1 := andi main_v8 main_v10
  let main_cst_3 : FVec F S_ .f32 := constant S_ .f32 0x7F800000#32
  let main_v12 : FVec F S2048x2048 .f32 := broadcastInDim S2048x2048 ![] bcast_S_S2048x2048 main_cst_3
  let main_v13 : IVec S2048x2048 1 := cmpf .olt main_arg2 main_v12
  let main_cst_4 : FVec F S_ .f32 := constant S_ .f32 0xFF800000#32
  let main_v14 : FVec F S2048x2048 .f32 := broadcastInDim S2048x2048 ![] bcast_S_S2048x2048 main_cst_4
  let main_v15 : IVec S2048x2048 1 := cmpf .ogt main_arg2 main_v14
  let main_v16 : IVec S2048x2048 1 := andi main_v13 main_v15
  let main_cst_5 : FVec F S_ .f32 := constant S_ .f32 0x7F800000#32
  fn_part1 (F := F) main_arg3 main_v6 main_v11 main_v16 main_cst_5
-- ==== Pre_finite_conv.lean ====
abbrev S2048x9216 : Shape := ⟨2, ![2048, 9216]⟩
abbrev S4x3072 : Shape := ⟨2, ![4, 3072]⟩
abbrev S2048x3072 : Shape := ⟨2, ![2048, 3072]⟩
abbrev S_ : Shape := ⟨0, ![]⟩

class Facts : Prop where
  bcast_S_S2048x3072 : S_.BroadcastsInDim S2048x3072 (![] : Fin 0 → Fin S2048x3072.rank)

variable [Facts]

def fn {F : FTy → Type} [FloatOps F] (main_arg0 : FVec F S2048x9216 .f32) (main_arg1 : FVec F S4x3072 .f32) (main_arg2 : FVec F S2048x3072 .f32) : IVec S2048x3072 1 :=
  let main_cst : FVec F S_ .f32 := constant S_ .f32 0x7F800000#32
  let main_v0 : FVec F S2048x3072 .f32 := broadcastInDim S2048x3072 ![] bcast_S_S2048x3072 main_cst
  let main_v1 : IVec S2048x3072 1 := cmpf .olt main_arg2 main_v0
  let main_cst_0 : FVec F S_ .f32 := constant S_ .f32 0xFF800000#32
  let main_v2 : FVec F S2048x3072 .f32 := broadcastInDim S2048x3072 ![] bcast_S_S2048x3072 main_cst_0
  let main_v3 : IVec S2048x3072 1 := cmpf .ogt main_arg2 main_v2
  let main_v4 : IVec S2048x3072 1 := andi main_v1 main_v3
  main_v4
-- ==== Pre_finite_ffn.lean ====
abbrev S2048x2048 : Shape := ⟨2, ![2048, 2048]⟩
abbrev S2048x11264 : Shape := ⟨2, ![2048, 11264]⟩
abbrev S5632x2048 : Shape := ⟨2, ![5632, 2048]⟩
abbrev S_ : Shape := ⟨0, ![]⟩

class Facts : Prop where
  bitsLt_bf16_f32 : FTy.bits .bf16 < FTy.bits .f32
  bcast_S_S2048x2048 : S_.BroadcastsInDim S2048x2048 (![] : Fin 0 → Fin S2048x2048.rank)
  bcast_S_S2048x11264 : S_.BroadcastsInDim S2048x11264 (![] : Fin 0 → Fin S2048x11264.rank)
  bcast_S_S5632x2048 : S_.BroadcastsInDim S5632x2048 (![] : Fin 0 → Fin S5632x2048.rank)

variable [Facts]

def fn_part1 {F : FTy → Type} [FloatOps F] (main_v3 : FVec F S2048x2048 .f32) (main_v8 : IVec S2048x2048 1) (main_v13 : IVec S2048x11264 1) (main_v15 : IVec S5632x2048 1) (main_v17 : IVec S5632x2048 1) : IVec S2048x2048 1 × IVec S2048x11264 1 × IVec S5632x2048 1 × IVec S2048x2048 1 :=
  let main_v18 : IVec S5632x2048 1 := andi main_v15 main_v17
  let main_cst_5 : FVec F S_ .f32 := constant S_ .f32 0x7F800000#32
  let main_v19 : FVec F S2048x2048 .f32 := broadcastInDim S2048x2048 ![] bcast_S_S2048x2048 main_cst_5
  let main_v20 : IVec S2048x2048 1 := cmpf .olt main_v3 main_v19
  let main_cst_6 : FVec F S_ .f32 := constant S_ .f32 0xFF800000#32
  let main_v21 : FVec F S2048x2048 .f32 := broadcastInDim S2048x2048 ![] bcast_S_S2048x2048 main_cst_6
  let main_v22 : IVec S2048x2048 1 := cmpf .ogt main_v3 main_v21
  let main_v23 : IVec S2048x2048 1 := andi main_v20 main_v22
  (main_v8, main_v13, main_v18, main_v23)

def fn {F : FTy → Type} [FloatOps F] (main_arg0 : FVec F S2048x2048 .bf16) (main_arg1 : FVec F S2048x11264 .bf16) (main_arg2 : FVec F S5632x2048 .bf16) (main_arg3 : FVec F S2048x2048 .bf16) : IVec S2048x2048 1 × IVec S2048x11264 1 × IVec S5632x2048 1 × IVec S2048x2048 1 :=
  let main_v0 : FVec F S2048x2048 .f32 := (extf .f32 · bitsLt_bf16_f32) main_arg0
  let main_v1 : FVec F S2048x11264 .f32 := (extf .f32 · bitsLt_bf16_f32) main_arg1
  let main_v2 : FVec F S5632x2048 .f32 := (extf .f32 · bitsLt_bf16_f32) main_arg2
  let main_v3 : FVec F S2048x2048 .f32 := (extf .f32 · bitsLt_bf16_f32) main_arg3
  let main_cst : FVec F S_ .f32 := constant S_ .f32 0x7F800000#32
  let main_v4 : FVec F S2048x2048 .f32 := broadcastInDim S2048x2048 ![] bcast_S_S2048x2048 main_cst
  let main_v5 : IVec S2048x2048 1 := cmpf .olt main_v0 main_v4
  let main_cst_0 : FVec F S_ .f32 := constant S_ .f32 0xFF800000#32
  let main_v6 : FVec F S2048x2048 .f32 := broadcastInDim S2048x2048 ![] bcast_S_S2048x2048 main_cst_0
  let main_v7 : IVec S2048x2048 1 := cmpf .ogt main_v0 main_v6
  let main_v8 : IVec S2048x2048 1 := andi main_v5 main_v7
  let main_cst_1 : FVec F S_ .f32 := constant S_ .f32 0x7F800000#32
  let main_v9 : FVec F S2048x11264 .f32 := broadcastInDim S2048x11264 ![] bcast_S_S2048x11264 main_cst_1
  let main_v10 : IVec S2048x11264 1 := cmpf .olt main_v1 main_v9
  let main_cst_2 : FVec F S_ .f32 := constant S_ .f32 0xFF800000#32
  let main_v11 : FVec F S2048x11264 .f32 := broadcastInDim S2048x11264 ![] bcast_S_S2048x11264 main_cst_2
  let main_v12 : IVec S2048x11264 1 := cmpf .ogt main_v1 main_v11
  let main_v13 : IVec S2048x11264 1 := andi main_v10 main_v12
  let main_cst_3 : FVec F S_ .f32 := constant S_ .f32 0x7F800000#32
  let main_v14 : FVec F S5632x2048 .f32 := broadcastInDim S5632x2048 ![] bcast_S_S5632x2048 main_cst_3
  let main_v15 : IVec S5632x2048 1 := cmpf .olt main_v2 main_v14
  let main_cst_4 : FVec F S_ .f32 := constant S_ .f32 0xFF800000#32
  let main_v16 : FVec F S5632x2048 .f32 := broadcastInDim S5632x2048 ![] bcast_S_S5632x2048 main_cst_4
  let main_v17 : IVec S5632x2048 1 := cmpf .ogt main_v2 main_v16
  fn_part1 (F := F) main_v3 main_v8 main_v13 main_v15 main_v17
-- ==== Pre_finite_gates.lean ====
abbrev S2048x128 : Shape := ⟨2, ![2048, 128]⟩
abbrev S8 : Shape := ⟨1, ![8]⟩
abbrev S_ : Shape := ⟨0, ![]⟩

class Facts : Prop where
  bcast_S_S2048x128 : S_.BroadcastsInDim S2048x128 (![] : Fin 0 → Fin S2048x128.rank)
  bcast_S_S8 : S_.BroadcastsInDim S8 (![] : Fin 0 → Fin S8.rank)

variable [Facts]

def fn_part1 {F : FTy → Type} [FloatOps F] (main_arg3 : FVec F S2048x128 .f32) (main_v4 : IVec S2048x128 1) (main_v9 : IVec S8 1) (main_v14 : IVec S8 1) (main_v16 : IVec S2048x128 1) : IVec S2048x128 1 × IVec S8 1 × IVec S8 1 × IVec S2048x128 1 :=
  let main_cst_6 : FVec F S_ .f32 := constant S_ .f32 0xFF800000#32
  let main_v17 : FVec F S2048x128 .f32 := broadcastInDim S2048x128 ![] bcast_S_S2048x128 main_cst_6
  let main_v18 : IVec S2048x128 1 := cmpf .ogt main_arg3 main_v17
  let main_v19 : IVec S2048x128 1 := andi main_v16 main_v18
  (main_v4, main_v9, main_v14, main_v19)

def fn {F : FTy → Type} [FloatOps F] (main_arg0 : FVec F S2048x128 .f32) (main_arg1 : FVec F S8 .f32) (main_arg2 : FVec F S8 .f32) (main_arg3 : FVec F S2048x128 .f32) (main_arg4 : FVec F S2048x128 .f32) : IVec S2048x128 1 × IVec S8 1 × IVec S8 1 × IVec S2048x128 1 :=
  let main_cst : FVec F S_ .f32 := constant S_ .f32 0x7F800000#32
  let main_v0 : FVec F S2048x128 .f32 := broadcastInDim S2048x128 ![] bcast_S_S2048x128 main_cst
  let main_v1 : IVec S2048x128 1 := cmpf .olt main_arg0 main_v0
  let main_cst_0 : FVec F S_ .f32 := constant S_ .f32 0xFF800000#32
  let main_v2 : FVec F S2048x128 .f32 := broadcastInDim S2048x128 ![] bcast_S_S2048x128 main_cst_0
  let main_v3 : IVec S2048x128 1 := cmpf .ogt main_arg0 main_v2
  let main_v4 : IVec S2048x128 1 := andi main_v1 main_v3
  let main_cst_1 : FVec F S_ .f32 := constant S_ .f32 0x7F800000#32
  let main_v5 : FVec F S8 .f32 := broadcastInDim S8 ![] bcast_S_S8 main_cst_1
  let main_v6 : IVec S8 1 := cmpf .olt main_arg1 main_v5
  let main_cst_2 : FVec F S_ .f32 := constant S_ .f32 0xFF800000#32
  let main_v7 : FVec F S8 .f32 := broadcastInDim S8 ![] bcast_S_S8 main_cst_2
  let main_v8 : IVec S8 1 := cmpf .ogt main_arg1 main_v7
  let main_v9 : IVec S8 1 := andi main_v6 main_v8
  let main_cst_3 : FVec F S_ .f32 := constant S_ .f32 0x7F800000#32
  let main_v10 : FVec F S8 .f32 := broadcastInDim S8 ![] bcast_S_S8 main_cst_3
  let main_v11 : IVec S8 1 := cmpf .olt main_arg2 main_v10
  let main_cst_4 : FVec F S_ .f32 := constant S_ .f32 0xFF800000#32
  let main_v12 : FVec F S8 .f32 := broadcastInDim S8 ![] bcast_S_S8 main_cst_4
  let main_v13 : IVec S8 1 := cmpf .ogt main_arg2 main_v12
  let main_v14 : IVec S8 1 := andi main_v11 main_v13
  let main_cst_5 : FVec F S_ .f32 := constant S_ .f32 0x7F800000#32
  let main_v15 : FVec F S2048x128 .f32 := broadcastInDim S2048x128 ![] bcast_S_S2048x128 main_cst_5
  let main_v16 : IVec S2048x128 1 := cmpf .olt main_arg3 main_v15
  fn_part1 (F := F) main_arg3 main_v4 main_v9 main_v14 main_v16
-- ==== Kernel.lean ====
abbrev S2048x2048 : Shape := ⟨2, ![2048, 2048]⟩
abbrev S2048x1024 : Shape := ⟨2, ![2048, 1024]⟩
abbrev S8x2048x1 : Shape := ⟨3, ![8, 2048, 1]⟩
abbrev S2048x256 : Shape := ⟨2, ![2048, 256]⟩
abbrev S2048x128 : Shape := ⟨2, ![2048, 128]⟩
abbrev S1x2048x1 : Shape := ⟨3, ![1, 2048, 1]⟩
abbrev S256x256 : Shape := ⟨2, ![256, 256]⟩
abbrev S256 : Shape := ⟨1, ![256]⟩
abbrev S256x1 : Shape := ⟨2, ![256, 1]⟩
abbrev S256x128 : Shape := ⟨2, ![256, 128]⟩
abbrev S1x256x1 : Shape := ⟨3, ![1, 256, 1]⟩
abbrev S512x256 : Shape := ⟨2, ![512, 256]⟩
abbrev S256x512 : Shape := ⟨2, ![256, 512]⟩
abbrev S512x128 : Shape := ⟨2, ![512, 128]⟩
abbrev S768x256 : Shape := ⟨2, ![768, 256]⟩
abbrev S256x768 : Shape := ⟨2, ![256, 768]⟩
abbrev S768x128 : Shape := ⟨2, ![768, 128]⟩
abbrev S1024x256 : Shape := ⟨2, ![1024, 256]⟩
abbrev S256x1024 : Shape := ⟨2, ![256, 1024]⟩
abbrev S1024x128 : Shape := ⟨2, ![1024, 128]⟩
abbrev S1280x256 : Shape := ⟨2, ![1280, 256]⟩
abbrev S256x1280 : Shape := ⟨2, ![256, 1280]⟩
abbrev S1280x128 : Shape := ⟨2, ![1280, 128]⟩
abbrev S1536x256 : Shape := ⟨2, ![1536, 256]⟩
abbrev S256x1536 : Shape := ⟨2, ![256, 1536]⟩
abbrev S1536x128 : Shape := ⟨2, ![1536, 128]⟩
abbrev S1792x256 : Shape := ⟨2, ![1792, 256]⟩
abbrev S256x1792 : Shape := ⟨2, ![256, 1792]⟩
abbrev S1792x128 : Shape := ⟨2, ![1792, 128]⟩
abbrev S256x2048 : Shape := ⟨2, ![256, 2048]⟩

abbrev nBuf : Space → Nat
  | .hbm => 9
  | .vmem => 28
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x1024, .f32⟩
  | .hbm, ⟨4, _⟩ => ⟨S2048x1024, .bf16⟩
  | .hbm, ⟨5, _⟩ => ⟨S8x2048x1, .f32⟩
  | .hbm, ⟨6, _⟩ => ⟨S2048x2048, .f32⟩
  | .hbm, ⟨7, _⟩ => ⟨S2048x2048, .f32⟩
  | .hbm, ⟨8, _⟩ => ⟨S2048x1024, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x128, .f32⟩
  | .local _ .vmem, ⟨5, _⟩ => ⟨S2048x128, .f32⟩
  | .local _ .vmem, ⟨6, _⟩ => ⟨S2048x128, .bf16⟩
  | .local _ .vmem, ⟨7, _⟩ => ⟨S2048x128, .bf16⟩
  | .local _ .vmem, ⟨8, _⟩ => ⟨S1x2048x1, .f32⟩
  | .local _ .vmem, ⟨9, _⟩ => ⟨S1x2048x1, .f32⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S2048x128, .f32⟩
  | .local _ .vmem, ⟨15, _⟩ => ⟨S2048x128, .f32⟩
  | .local _ .vmem, ⟨16, _⟩ => ⟨S2048x128, .bf16⟩
  | .local _ .vmem, ⟨17, _⟩ => ⟨S2048x128, .bf16⟩
  | .local _ .vmem, ⟨18, _⟩ => ⟨S1x2048x1, .f32⟩
  | .local _ .vmem, ⟨19, _⟩ => ⟨S1x2048x1, .f32⟩
  | .local _ .vmem, ⟨20, _⟩ => ⟨S2048x128, .f32⟩
  | .local _ .vmem, ⟨21, _⟩ => ⟨S2048x128, .f32⟩
  | .local _ .vmem, ⟨22, _⟩ => ⟨S2048x256, .f32⟩
  | .local _ .vmem, ⟨23, _⟩ => ⟨S2048x256, .f32⟩
  | .local _ .vmem, ⟨24, _⟩ => ⟨S2048x256, .f32⟩
  | .local _ .vmem, ⟨25, _⟩ => ⟨S2048x256, .f32⟩
  | .local _ .vmem, ⟨26, _⟩ => ⟨S2048x128, .f32⟩
  | .local _ .vmem, ⟨27, _⟩ => ⟨S2048x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S2048x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x2048x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2048x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2048x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S2048x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S2048x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]
-- ==== ReferenceIdeal.lean ====
abbrev S2048x2048 : Shape := ⟨2, ![2048, 2048]⟩
abbrev S2048x1024 : Shape := ⟨2, ![2048, 1024]⟩
abbrev S2048x8x256 : Shape := ⟨3, ![2048, 8, 256]⟩
abbrev S2048x8x128 : Shape := ⟨3, ![2048, 8, 128]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S8x2048 : Shape := ⟨2, ![8, 2048]⟩
abbrev S8x2048x1 : Shape := ⟨3, ![8, 2048, 1]⟩
abbrev S8x128x2048 : Shape := ⟨3, ![8, 128, 2048]⟩
abbrev S8x2048x256 : Shape := ⟨3, ![8, 2048, 256]⟩

abbrev nBuf : Space → Nat
  | .hbm => 102
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x1024, .f32⟩
  | .hbm, ⟨4, _⟩ => ⟨S2048x2048, .f32⟩
  | .hbm, ⟨5, _⟩ => ⟨S2048x8x256, .f32⟩
  | .hbm, ⟨6, _⟩ => ⟨S2048x2048, .f32⟩
  | .hbm, ⟨7, _⟩ => ⟨S2048x8x256, .f32⟩
  | .hbm, ⟨8, _⟩ => ⟨S2048x1024, .f32⟩
  | .hbm, ⟨9, _⟩ => ⟨S2048x8x128, .f32⟩
  | .hbm, ⟨10, _⟩ => ⟨S8x2048x2048, .f32⟩
  | .hbm, ⟨11, _⟩ => ⟨S_, .f32⟩
  | .hbm, ⟨12, _⟩ => ⟨S8x2048x2048, .f32⟩
  | .hbm, ⟨13, _⟩ => ⟨S8x2048x2048, .f32⟩
  | .hbm, ⟨14, _⟩ => ⟨S2048, .i32⟩
  | .hbm, ⟨15, _⟩ => ⟨S1x2048, .i32⟩
  | .hbm, ⟨16, _⟩ => ⟨S2048, .i32⟩
  | .hbm, ⟨17, _⟩ => ⟨S2048x1, .i32⟩
  | .hbm, ⟨18, _⟩ => ⟨S2048x2048, .i32⟩
  | .hbm, ⟨19, _⟩ => ⟨S2048x2048, .i32⟩
  | .hbm, ⟨20, _⟩ => ⟨S2048x2048, .i1⟩
  | .hbm, ⟨21, _⟩ => ⟨S_, .f32⟩
  | .hbm, ⟨22, _⟩ => ⟨S_, .f32⟩
  | .hbm, ⟨23, _⟩ => ⟨S8x2048x2048, .i1⟩
  | .hbm, ⟨24, _⟩ => ⟨S8x2048x2048, .f32⟩
  | .hbm, ⟨25, _⟩ => ⟨S8x2048x2048, .f32⟩
  | .hbm, ⟨26, _⟩ => ⟨S_, .f32⟩
  | .hbm, ⟨27, _⟩ => ⟨S8x2048x2048, .f32⟩
  | .hbm, ⟨28, _⟩ => ⟨S_, .f32⟩
  | .hbm, ⟨29, _⟩ => ⟨S8x2048, .f32⟩
  | .hbm, ⟨30, _⟩ => ⟨S8x2048x1, .f32⟩
  | .hbm, ⟨31, _⟩ => ⟨S8x2048x2048, .f32⟩
  | .hbm, ⟨32, _⟩ => ⟨S8x2048x2048, .i1⟩
  | .hbm, ⟨33, _⟩ => ⟨S8x2048x2048, .f32⟩
  | .hbm, ⟨34, _⟩ => ⟨S_, .f32⟩
  | .hbm, ⟨35, _⟩ => ⟨S8x2048, .f32⟩
  | .hbm, ⟨36, _⟩ => ⟨S_, .f32⟩
  | .hbm, ⟨37, _⟩ => ⟨S8x2048, .f32⟩
  | .hbm, ⟨38, _⟩ => ⟨S8x2048, .f32⟩
  | .hbm, ⟨39, _⟩ => ⟨S_, .f32⟩
  | .hbm, ⟨40, _⟩ => ⟨S8x2048, .f32⟩
  | .hbm, ⟨41, _⟩ => ⟨S8x2048, .i1⟩
  | .hbm, ⟨42, _⟩ => ⟨S_, .f32⟩
  | .hbm, ⟨43, _⟩ => ⟨S8x2048, .f32⟩
  | .hbm, ⟨44, _⟩ => ⟨S8x2048, .i1⟩
  | .hbm, ⟨45, _⟩ => ⟨S_, .f32⟩
  | .hbm, ⟨46, _⟩ => ⟨S8x2048, .f32⟩
  | .hbm, ⟨47, _⟩ => ⟨S_, .f32⟩
  | .hbm, ⟨48, _⟩ => ⟨S8x2048, .f32⟩
  | .hbm, ⟨49, _⟩ => ⟨S_, .f32⟩
  | .hbm, ⟨50, _⟩ => ⟨S8x2048, .f32⟩
  | .hbm, ⟨51, _⟩ => ⟨S8x2048, .f32⟩
  | .hbm, ⟨52, _⟩ => ⟨S8x2048, .f32⟩
  | .hbm, ⟨53, _⟩ => ⟨S8x2048x1, .f32⟩
  | .hbm, ⟨54, _⟩ => ⟨S8x2048x2048, .f32⟩
  | .hbm, ⟨55, _⟩ => ⟨S8x2048x2048, .f32⟩
  | .hbm, ⟨56, _⟩ => ⟨S8x2048x2048, .f32⟩
  | .hbm, ⟨57, _⟩ => ⟨S_, .f32⟩
  | .hbm, ⟨58, _⟩ => ⟨S8x2048, .f32⟩
  | .hbm, ⟨59, _⟩ => ⟨S8x2048x1, .f32⟩
  | .hbm, ⟨60, _⟩ => ⟨S8x2048x2048, .f32⟩
  | .hbm, ⟨61, _⟩ => ⟨S8x2048x2048, .f32⟩
  | .hbm, ⟨62, _⟩ => ⟨S8x2048x1, .f32⟩
  | .hbm, ⟨63, _⟩ => ⟨S_, .f32⟩
  | .hbm, ⟨64, _⟩ => ⟨S8x2048x1, .f32⟩
  | .hbm, ⟨65, _⟩ => ⟨S8x2048x1, .f32⟩
  | .hbm, ⟨66, _⟩ => ⟨S8x128x2048, .f32⟩
  | .hbm, ⟨67, _⟩ => ⟨S2048x8x128, .f32⟩
  | .hbm, ⟨68, _⟩ => ⟨S2048x8x128, .f32⟩
  | .hbm, ⟨69, _⟩ => ⟨S8x128x2048, .f32⟩
  | .hbm, ⟨70, _⟩ => ⟨S8x2048x2048, .f32⟩
  | .hbm, ⟨71, _⟩ => ⟨S8x128x2048, .f32⟩
  | .hbm, ⟨72, _⟩ => ⟨S2048x8x128, .f32⟩
  | .hbm, ⟨73, _⟩ => ⟨S8x2048x2048, .f32⟩
  | .hbm, ⟨74, _⟩ => ⟨S8x2048x2048, .f32⟩
  | .hbm, ⟨75, _⟩ => ⟨S8x2048x2048, .f32⟩
  | .hbm, ⟨76, _⟩ => ⟨S_, .f32⟩
  | .hbm, ⟨77, _⟩ => ⟨S8x2048, .f32⟩
  | .hbm, ⟨78, _⟩ => ⟨S8x2048x1, .f32⟩
  | .hbm, ⟨79, _⟩ => ⟨S8x2048x1, .f32⟩
  | .hbm, ⟨80, _⟩ => ⟨S8x2048x2048, .f32⟩
  | .hbm, ⟨81, _⟩ => ⟨S8x2048x2048, .f32⟩
  | .hbm, ⟨82, _⟩ => ⟨S_, .f32⟩
  | .hbm, ⟨83, _⟩ => ⟨S8x2048, .f32⟩
  | .hbm, ⟨84, _⟩ => ⟨S8x2048x2048, .f32⟩
  | .hbm, ⟨85, _⟩ => ⟨S8x2048x2048, .f32⟩
  | .hbm, ⟨86, _⟩ => ⟨S8x2048x2048, .f32⟩
  | .hbm, ⟨87, _⟩ => ⟨S_, .f32⟩
  | .hbm, ⟨88, _⟩ => ⟨S8x2048x2048, .f32⟩
  | .hbm, ⟨89, _⟩ => ⟨S8x2048x2048, .f32⟩
  | .hbm, ⟨90, _⟩ => ⟨S_, .f32⟩
  | .hbm, ⟨91, _⟩ => ⟨S8x2048x2048, .f32⟩
  | .hbm, ⟨92, _⟩ => ⟨S8x2048x2048, .f32⟩
  | .hbm, ⟨93, _⟩ => ⟨S8x2048x256, .f32⟩
  | .hbm, ⟨94, _⟩ => ⟨S2048x8x256, .f32⟩
  | .hbm, ⟨95, _⟩ => ⟨S8x2048x256, .f32⟩
  | .hbm, ⟨96, _⟩ => ⟨S2048x8x256, .f32⟩
  | .hbm, ⟨97, _⟩ => ⟨S2048x1024, .f32⟩
  | .hbm, ⟨98, _⟩ => ⟨S2048x1024, .bf16⟩
  | .hbm, ⟨99, _⟩ => ⟨S2048x2048, .f32⟩
  | .hbm, ⟨100, _⟩ => ⟨S2048x2048, .f32⟩
  | .hbm, ⟨101, _⟩ => ⟨S2048x1024, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_call0_v0 : Ref sig .tc := ⟨.hbm, 22, rfl⟩
abbrev main_v16_1 : Ref sig .tc := ⟨.hbm, 23, rfl⟩
abbrev main_call0_v2 : Ref sig .tc := ⟨.hbm, 24, rfl⟩
abbrev main_v16_0 : Ref sig .tc := ⟨.hbm, 25, rfl⟩
abbrev main_call0_cst : Ref sig .tc := ⟨.hbm, 26, rfl⟩
abbrev main_v16_2 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_cst_8 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_10 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_11 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_12 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_call1_cst : Ref sig .tc := ⟨.hbm, 87, rfl⟩
abbrev main_call1_v0 : Ref sig .tc := ⟨.hbm, 88, rfl⟩
abbrev main_v64 : Ref sig .tc := ⟨.hbm, 89, rfl⟩
abbrev main_cst_13 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩

abbrev nD : Nat := 1
abbrev τ : Topo := Topo.v7x

variable {F : FTy → Type} [FloatOps F]
-- ==== KernelFfn.lean ====
abbrev S2048x2048 : Shape := ⟨2, ![2048, 2048]⟩
abbrev S2048x11264 : Shape := ⟨2, ![2048, 11264]⟩
abbrev S5632x2048 : Shape := ⟨2, ![5632, 2048]⟩
abbrev S1024x2048 : Shape := ⟨2, ![1024, 2048]⟩
abbrev S2048x1024 : Shape := ⟨2, ![2048, 1024]⟩
abbrev S1024x1024 : Shape := ⟨2, ![1024, 1024]⟩
abbrev S2048x5632 : Shape := ⟨2, ![2048, 5632]⟩
abbrev S256x512 : Shape := ⟨2, ![256, 512]⟩
abbrev S512x2048 : Shape := ⟨2, ![512, 2048]⟩
abbrev S1024x512 : Shape := ⟨2, ![1024, 512]⟩
abbrev S512x1024 : Shape := ⟨2, ![512, 1024]⟩

abbrev nBuf : Space → Nat
  | .hbm => 14
  | .vmem => 40
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S5632x2048, .bf16⟩
  | .hbm, ⟨3, _⟩ => ⟨S2048x2048, .bf16⟩
  | .hbm, ⟨4, _⟩ => ⟨S2048x11264, .f32⟩
  | .hbm, ⟨5, _⟩ => ⟨S2048x5632, .bf16⟩
  | .hbm, ⟨6, _⟩ => ⟨S2048x5632, .f32⟩
  | .hbm, ⟨7, _⟩ => ⟨S5632x2048, .bf16⟩
  | .hbm, ⟨8, _⟩ => ⟨S5632x2048, .bf16⟩
  | .hbm, ⟨9, _⟩ => ⟨S2048x5632, .bf16⟩
  | .hbm, ⟨10, _⟩ => ⟨S2048x5632, .bf16⟩
  | .hbm, ⟨11, _⟩ => ⟨S2048x11264, .bf16⟩
  | .hbm, ⟨12, _⟩ => ⟨S2048x2048, .bf16⟩
  | .hbm, ⟨13, _⟩ => ⟨S2048x11264, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .bf16⟩
  | .local _ .vmem, ⟨11, _⟩ => ⟨S256x512, .bf16⟩
  | .local _ .vmem, ⟨12, _⟩ => ⟨S1024x2048, .bf16⟩
  | .local _ .vmem, ⟨13, _⟩ => ⟨S1024x2048, .bf16⟩
  | .local _ .vmem, ⟨14, _⟩ => ⟨S512x2048, .bf16⟩
  | .local _ .vmem, ⟨15, _⟩ => ⟨S512x2048, .bf16⟩
  | .local _ .vmem, ⟨16, _⟩ => ⟨S1024x512, .f32⟩
  | .local _ .vmem, ⟨17, _⟩ => ⟨S1024x512, .f32⟩
  | .local _ .vmem, ⟨18, _⟩ => ⟨S512x2048, .bf16⟩
  | .local _ .vmem, ⟨19, _⟩ => ⟨S512x2048, .bf16⟩
  | .local _ .vmem, ⟨20, _⟩ => ⟨S2048x1024, .bf16⟩
  | .local _ .vmem, ⟨21, _⟩ => ⟨S2048x1024, .bf16⟩
  | .local _ .vmem, ⟨22, _⟩ => ⟨S512x1024, .bf16⟩
  | .local _ .vmem, ⟨23, _⟩ => ⟨S512x1024, .bf16⟩
  | .local _ .vmem, ⟨24, _⟩ => ⟨S256x512, .f32⟩
  | .local _ .vmem, ⟨25, _⟩ => ⟨S256x512, .f32⟩
  | .local _ .vmem, ⟨26, _⟩ => ⟨S256x512, .f32⟩
  | .local _ .vmem, ⟨27, _⟩ => ⟨S256x512, .f32⟩
  | .local _ .vmem, ⟨28, _⟩ => ⟨S256x512, .f32⟩
  | .local _ .vmem, ⟨29, _⟩ => ⟨S256x512, .f32⟩
  | .local _ .vmem, ⟨30, _⟩ => ⟨S256x512, .bf16⟩
  | .local _ .vmem, ⟨31, _⟩ => ⟨S256x512, .bf16⟩
  | .local _ .vmem, ⟨32, _⟩ => ⟨S256x512, .bf16⟩
  | .local _ .vmem, ⟨33, _⟩ => ⟨S256x512, .bf16⟩
  | .local _ .vmem, ⟨34, _⟩ => ⟨S1024x2048, .bf16⟩
  | .local _ .vmem, ⟨35, _⟩ => ⟨S1024x2048, .bf16⟩
  | .local _ .vmem, ⟨36, _⟩ => ⟨S2048x1024, .bf16⟩
  | .local _ .vmem, ⟨37, _⟩ => ⟨S2048x1024, .bf16⟩
  | .local _ .vmem, ⟨38, _⟩ => ⟨S1024x1024, .bf16⟩
  | .local _ .vmem, ⟨39, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc4_stg3_0 : Ref sig .tc := ⟨.vmem, 30, rfl⟩
abbrev cc4_stg3_1 : Ref sig .tc := ⟨.vmem, 31, rfl⟩
abbrev cc4_stg4_0 : Ref sig .tc := ⟨.vmem, 32, rfl⟩
abbrev cc4_stg4_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc5_stg2_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc4_sem3_0 : DmaSem sig := 30
abbrev cc4_sem3_1 : DmaSem sig := 31
abbrev cc4_sem4_0 : DmaSem sig := 32
abbrev cc4_sem4_1 : DmaSem sig := 33
abbrev cc5_sem0_0 : DmaSem sig := 34
abbrev cc5_sem0_1 : DmaSem sig := 35
abbrev cc5_sem1_0 : DmaSem sig := 36
abbrev cc5_sem1_1 : DmaSem sig := 37
abbrev cc5_sem2_0 : DmaSem sig := 38
abbrev cc5_sem2_1 : DmaSem sig := 39

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![8, 11], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  ![arg0.toNat, v0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S256x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S256x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![2, 11], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![11, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S512x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S2048x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S512x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![8, 11], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  ![arg0.toNat, v0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S256x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S256x512 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 2 → Memref sig .tc .vmem S256x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 2 → Memref sig .tc .vmem S256x512 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev stage4_4 : Fin 2 → Memref sig .tc .vmem S256x512 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true]

abbrev grid5 : Pipeline.Grid := ⟨2, ![2, 11], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S1024x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S2048x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1024x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]
-- ==== ReferenceFfnIdeal.lean ====
abbrev S2048x2048 : Shape := ⟨2, ![2048, 2048]⟩
abbrev S2048x11264 : Shape := ⟨2, ![2048, 11264]⟩
abbrev S5632x2048 : Shape := ⟨2, ![5632, 2048]⟩
abbrev S2048x5632 : Shape := ⟨2, ![2048, 5632]⟩
abbrev S_ : Shape := ⟨0, ![]⟩
abbrev S11264x2048 : Shape := ⟨2, ![11264, 2048]⟩

abbrev nBuf : Space → Nat
  | .hbm => 42
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S5632x2048, .bf16⟩
  | .hbm, ⟨3, _⟩ => ⟨S2048x2048, .bf16⟩
  | .hbm, ⟨4, _⟩ => ⟨S2048x11264, .f32⟩
  | .hbm, ⟨5, _⟩ => ⟨S2048x2048, .f32⟩
  | .hbm, ⟨6, _⟩ => ⟨S2048x11264, .f32⟩
  | .hbm, ⟨7, _⟩ => ⟨S2048x5632, .f32⟩
  | .hbm, ⟨8, _⟩ => ⟨S2048x5632, .f32⟩
  | .hbm, ⟨9, _⟩ => ⟨S2048x5632, .f32⟩
  | .hbm, ⟨10, _⟩ => ⟨S2048x5632, .f32⟩
  | .hbm, ⟨11, _⟩ => ⟨S_, .f32⟩
  | .hbm, ⟨12, _⟩ => ⟨S2048x5632, .f32⟩
  | .hbm, ⟨13, _⟩ => ⟨S2048x5632, .f32⟩
  | .hbm, ⟨14, _⟩ => ⟨S_, .f32⟩
  | .hbm, ⟨15, _⟩ => ⟨S2048x5632, .f32⟩
  | .hbm, ⟨16, _⟩ => ⟨S2048x5632, .f32⟩
  | .hbm, ⟨17, _⟩ => ⟨S_, .f32⟩
  | .hbm, ⟨18, _⟩ => ⟨S2048x5632, .f32⟩
  | .hbm, ⟨19, _⟩ => ⟨S2048x5632, .f32⟩
  | .hbm, ⟨20, _⟩ => ⟨S2048x5632, .f32⟩
  | .hbm, ⟨21, _⟩ => ⟨S2048x5632, .f32⟩
  | .hbm, ⟨22, _⟩ => ⟨S2048x5632, .f32⟩
  | .hbm, ⟨23, _⟩ => ⟨S5632x2048, .f32⟩
  | .hbm, ⟨24, _⟩ => ⟨S2048x2048, .f32⟩
  | .hbm, ⟨25, _⟩ => ⟨S2048x2048, .f32⟩
  | .hbm, ⟨26, _⟩ => ⟨S2048x5632, .f32⟩
  | .hbm, ⟨27, _⟩ => ⟨S5632x2048, .f32⟩
  | .hbm, ⟨28, _⟩ => ⟨S2048x5632, .f32⟩
  | .hbm, ⟨29, _⟩ => ⟨S2048x5632, .f32⟩
  | .hbm, ⟨30, _⟩ => ⟨S2048x5632, .f32⟩
  | .hbm, ⟨31, _⟩ => ⟨S2048x5632, .f32⟩
  | .hbm, ⟨32, _⟩ => ⟨S2048x5632, .f32⟩
  | .hbm, ⟨33, _⟩ => ⟨S2048x5632, .f32⟩
  | .hbm, ⟨34, _⟩ => ⟨S2048x5632, .f32⟩
  | .hbm, ⟨35, _⟩ => ⟨S2048x11264, .f32⟩
  | .hbm, ⟨36, _⟩ => ⟨S11264x2048, .f32⟩
  | .hbm, ⟨37, _⟩ => ⟨S2048x11264, .f32⟩
  | .hbm, ⟨38, _⟩ => ⟨S2048x5632, .bf16⟩
  | .hbm, ⟨39, _⟩ => ⟨S2048x11264, .bf16⟩
  | .hbm, ⟨40, _⟩ => ⟨S2048x11264, .bf16⟩
  | .hbm, ⟨41, _⟩ => ⟨S5632x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v5_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v5_1 : Ref sig .tc := ⟨.hbm, 20, rfl⟩
abbrev main_v5_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩

abbrev nD : Nat := 1
abbrev τ : Topo := Topo.v7x

variable {F : FTy → Type} [FloatOps F]
-- ==== KernelFfnX.lean ====
abbrev S2048x11264 : Shape := ⟨2, ![2048, 11264]⟩
abbrev S2048x2048 : Shape := ⟨2, ![2048, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x11264, .bf16⟩
  | .hbm, ⟨1, _⟩ => ⟨S2048x11264, .bf16⟩
  | .hbm, ⟨2, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 11], ![false, false, false]⟩

def k0_cond2 (i : grid0.Coords) : BitVec 1 :=
  let arg2 : BitVec 32 := BitVec.ofNat 32 (i 2).val
  let c10_i32 : BitVec 32 := 10#32
  let v11 : BitVec 1 := Scalar.cmpi .eq arg2 c10_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceFfnXIdeal.lean ====
abbrev S2048x11264 : Shape := ⟨2, ![2048, 11264]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x11264, .bf16⟩
  | .hbm, ⟨1, _⟩ => ⟨S2048x11264, .bf16⟩
  | .hbm, ⟨2, _⟩ => ⟨S2048x11264, .f32⟩
  | .hbm, ⟨3, _⟩ => ⟨S_, .f32⟩
  | .hbm, ⟨4, _⟩ => ⟨S2048x2048, .f32⟩
  | .hbm, ⟨5, _⟩ => ⟨S2048x11264, .f32⟩
  | .hbm, ⟨6, _⟩ => ⟨S2048x11264, .f32⟩
  | .hbm, ⟨7, _⟩ => ⟨S2048x2048, .f32⟩
  | _, _ => ⟨S2048x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelFfnDown.lean ====
abbrev S2048x5632 : Shape := ⟨2, ![2048, 5632]⟩
abbrev S5632x2048 : Shape := ⟨2, ![5632, 2048]⟩
abbrev S2048x2048 : Shape := ⟨2, ![2048, 2048]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 11], ![false, false, false]⟩

def k0_cond2 (i : grid0.Coords) : BitVec 1 :=
  let arg2 : BitVec 32 := BitVec.ofNat 32 (i 2).val
  let c10_i32 : BitVec 32 := 10#32
  let v11 : BitVec 1 := Scalar.cmpi .eq arg2 c10_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceFfnDownIdeal.lean ====
abbrev S2048x5632 : Shape := ⟨2, ![2048, 5632]⟩
abbrev S5632x2048 : Shape := ⟨2, ![5632, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x5632, .f32⟩
  | .hbm, ⟨3, _⟩ => ⟨S5632x2048, .f32⟩
  | .hbm, ⟨4, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelIn.lean ====
abbrev S2048x2048 : Shape := ⟨2, ![2048, 2048]⟩
abbrev S2048x9296 : Shape := ⟨2, ![2048, 9296]⟩
abbrev S2048x1024 : Shape := ⟨2, ![2048, 1024]⟩
abbrev S2048x4096 : Shape := ⟨2, ![2048, 4096]⟩
abbrev S2048x9216 : Shape := ⟨2, ![2048, 9216]⟩
abbrev S2048x64 : Shape := ⟨2, ![2048, 64]⟩
abbrev S2048x16 : Shape := ⟨2, ![2048, 16]⟩
abbrev S_ : Shape := ⟨0, ![]⟩
abbrev S2048x48 : Shape := ⟨2, ![2048, 48]⟩
abbrev S2048x128 : Shape := ⟨2, ![2048, 128]⟩
abbrev S1024x2048 : Shape := ⟨2, ![1024, 2048]⟩
abbrev S1024x1024 : Shape := ⟨2, ![1024, 1024]⟩
abbrev S1024x128 : Shape := ⟨2, ![1024, 128]⟩

abbrev nBuf : Space → Nat
  | .hbm => 39
  | .vmem => 28
  | .smem => 0
  | _ => 0

abbrev bufTy : (tb : Table) → Fin (tcTables nBuf tb) → BufTy
  | .hbm, ⟨0, _⟩ => ⟨S2048x2048, .bf16⟩
  | .hbm, ⟨1, _⟩ => ⟨S2048x9296, .bf16⟩
  | .hbm, ⟨2, _⟩ => ⟨S2048x9296, .bf16⟩
  | .hbm, ⟨3, _⟩ => ⟨S2048x1024, .bf16⟩
  | .hbm, ⟨4, _⟩ => ⟨S2048x4096, .bf16⟩
  | .hbm, ⟨5, _⟩ => ⟨S2048x4096, .bf16⟩
  | .hbm, ⟨6, _⟩ => ⟨S2048x9216, .bf16⟩
  | .hbm, ⟨7, _⟩ => ⟨S2048x64, .bf16⟩
  | .hbm, ⟨8, _⟩ => ⟨S2048x16, .bf16⟩
  | .hbm, ⟨9, _⟩ => ⟨S_, .bf16⟩
  | .hbm, ⟨10, _⟩ => ⟨S2048x48, .bf16⟩
  | .hbm, ⟨11, _⟩ => ⟨S2048x128, .bf16⟩
  | .hbm, ⟨12, _⟩ => ⟨S2048x1024, .bf16⟩
  | .hbm, ⟨13, _⟩ => ⟨S2048x4096, .bf16⟩
  | .hbm, ⟨14, _⟩ => ⟨S2048x4096, .bf16⟩
  | .hbm, ⟨15, _⟩ => ⟨S2048x9216, .bf16⟩
  | .hbm, ⟨16, _⟩ => ⟨S2048x64, .bf16⟩
  | .hbm, ⟨17, _⟩ => ⟨S2048x16, .bf16⟩
  | .hbm, ⟨18, _⟩ => ⟨S_, .bf16⟩
  | .hbm, ⟨19, _⟩ => ⟨S2048x48, .bf16⟩
  | .hbm, ⟨20, _⟩ => ⟨S2048x128, .bf16⟩
  | .hbm, ⟨21, _⟩ => ⟨S2048x9216, .f32⟩
  | .hbm, ⟨22, _⟩ => ⟨S2048x128, .f32⟩
  | .hbm, ⟨23, _⟩ => ⟨S2048x2048, .bf16⟩
  | .hbm, ⟨24, _⟩ => ⟨S2048x2048, .f32⟩
  | .hbm, ⟨25, _⟩ => ⟨S2048x9216, .bf16⟩
  | .hbm, ⟨26, _⟩ => ⟨S2048x128, .bf16⟩
  | .hbm, ⟨27, _⟩ => ⟨S2048x1024, .f32⟩
  | .hbm, ⟨28, _⟩ => ⟨S2048x64, .f32⟩
  | .hbm, ⟨29, _⟩ => ⟨S2048x4096, .f32⟩
  | .hbm, ⟨30, _⟩ => ⟨S2048x16, .f32⟩
  | .hbm, ⟨31, _⟩ => ⟨S2048x4096, .f32⟩
  | .hbm, ⟨32, _⟩ => ⟨S2048x9296, .f32⟩
  | .hbm, ⟨33, _⟩ => ⟨S2048x1024, .bf16⟩
  | .hbm, ⟨34, _⟩ => ⟨S2048x64, .bf16⟩
  | .hbm, ⟨35, _⟩ => ⟨S2048x4096, .bf16⟩
  | .hbm, ⟨36, _⟩ => ⟨S2048x16, .bf16⟩
  | .hbm, ⟨37, _⟩ => ⟨S2048x4096, .bf16⟩
  | .hbm, ⟨38, _⟩ => ⟨S2048x9296, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x2048, .bf16⟩
  | .local _ .vmem, ⟨7, _⟩ => ⟨S1024x2048, .bf16⟩
  | .local _ .vmem, ⟨8, _⟩ => ⟨S2048x128, .bf16⟩
  | .local _ .vmem, ⟨9, _⟩ => ⟨S1024x128, .f32⟩
  | .local _ .vmem, ⟨10, _⟩ => ⟨S1024x128, .f32⟩
  | .local _ .vmem, ⟨11, _⟩ => ⟨S1024x128, .bf16⟩
  | .local _ .vmem, ⟨12, _⟩ => ⟨S1024x128, .bf16⟩
  | .local _ .vmem, ⟨13, _⟩ => ⟨S1024x128, .bf16⟩
  | .local _ .vmem, ⟨14, _⟩ => ⟨S1024x128, .bf16⟩
  | .local _ .vmem, ⟨15, _⟩ => ⟨S1024x1024, .f32⟩
  | .local _ .vmem, ⟨16, _⟩ => ⟨S1024x1024, .f32⟩
  | .local _ .vmem, ⟨17, _⟩ => ⟨S1024x2048, .bf16⟩
  | .local _ .vmem, ⟨18, _⟩ => ⟨S1024x2048, .bf16⟩
  | .local _ .vmem, ⟨19, _⟩ => ⟨S2048x1024, .bf16⟩
  | .local _ .vmem, ⟨20, _⟩ => ⟨S2048x1024, .bf16⟩
  | .local _ .vmem, ⟨21, _⟩ => ⟨S1024x1024, .bf16⟩
  | .local _ .vmem, ⟨22, _⟩ => ⟨S1024x1024, .bf16⟩
  | .local _ .vmem, ⟨23, _⟩ => ⟨S1024x2048, .bf16⟩
  | .local _ .vmem, ⟨24, _⟩ => ⟨S1024x2048, .bf16⟩
  | .local _ .vmem, ⟨25, _⟩ => ⟨S2048x128, .bf16⟩
  | .local _ .vmem, ⟨26, _⟩ => ⟨S1024x128, .bf16⟩
  | .local _ .vmem, ⟨27, _⟩ => ⟨S1024x128, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg2_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27

abbrev nD : Nat := 1
abbrev τ : Topo := Topo.v7x

variable {F : FTy → Type} [FloatOps F]

abbrev grid0 : Pipeline.Grid := ⟨2, ![2, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S2048x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![2, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![2, 9], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S2048x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![2, 1], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S1024x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 1 → Memref sig .tc .vmem S2048x128 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true]

abbrev stage4_2 : Fin 2 → Memref sig .tc .vmem S1024x128 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]
-- ==== ReferenceInIdeal.lean ====
abbrev S2048x2048 : Shape := ⟨2, ![2048, 2048]⟩
abbrev S2048x9296 : Shape := ⟨2, ![2048, 9296]⟩
abbrev S2048x64 : Shape := ⟨2, ![2048, 64]⟩
abbrev S2048x16 : Shape := ⟨2, ![2048, 16]⟩
abbrev S9296x2048 : Shape := ⟨2, ![9296, 2048]⟩

abbrev nBuf : Space → Nat
  | .hbm => 19
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x9296, .bf16⟩
  | .hbm, ⟨2, _⟩ => ⟨S2048x9296, .bf16⟩
  | .hbm, ⟨3, _⟩ => ⟨S2048x2048, .f32⟩
  | .hbm, ⟨4, _⟩ => ⟨S2048x9296, .f32⟩
  | .hbm, ⟨5, _⟩ => ⟨S2048x9296, .f32⟩
  | .hbm, ⟨6, _⟩ => ⟨S2048x9296, .f32⟩
  | .hbm, ⟨7, _⟩ => ⟨S2048x64, .f32⟩
  | .hbm, ⟨8, _⟩ => ⟨S2048x64, .f32⟩
  | .hbm, ⟨9, _⟩ => ⟨S2048x16, .f32⟩
  | .hbm, ⟨10, _⟩ => ⟨S2048x16, .f32⟩
  | .hbm, ⟨11, _⟩ => ⟨S2048x64, .f32⟩
  | .hbm, ⟨12, _⟩ => ⟨S2048x16, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S9296x2048, .f32⟩
  | .hbm, ⟨17, _⟩ => ⟨S2048x9296, .f32⟩
  | .hbm, ⟨18, _⟩ => ⟨S2048x9296, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== KernelInX.lean ====
abbrev S2048x9216 : Shape := ⟨2, ![2048, 9216]⟩
abbrev S2048x2048 : Shape := ⟨2, ![2048, 2048]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x9216, .bf16⟩
  | .hbm, ⟨1, _⟩ => ⟨S2048x9216, .bf16⟩
  | .hbm, ⟨2, _⟩ => ⟨S2048x2048, .f32⟩
  | .hbm, ⟨3, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 9], ![false, false, false]⟩

def k0_cond2 (i : grid0.Coords) : BitVec 1 :=
  let arg2 : BitVec 32 := BitVec.ofNat 32 (i 2).val
  let c8_i32 : BitVec 32 := 8#32
  let v11 : BitVec 1 := Scalar.cmpi .eq arg2 c8_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceInXIdeal.lean ====
abbrev S2048x9216 : Shape := ⟨2, ![2048, 9216]⟩
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x9216, .bf16⟩
  | .hbm, ⟨1, _⟩ => ⟨S2048x9216, .bf16⟩
  | .hbm, ⟨2, _⟩ => ⟨S2048x2048, .f32⟩
  | .hbm, ⟨3, _⟩ => ⟨S2048x9216, .f32⟩
  | .hbm, ⟨4, _⟩ => ⟨S_, .f32⟩
  | .hbm, ⟨5, _⟩ => ⟨S2048x2048, .f32⟩
  | .hbm, ⟨6, _⟩ => ⟨S2048x9216, .f32⟩
  | .hbm, ⟨7, _⟩ => ⟨S2048x9216, .f32⟩
  | .hbm, ⟨8, _⟩ => ⟨S2048x2048, .f32⟩
  | .hbm, ⟨9, _⟩ => ⟨S2048x2048, .f32⟩
  | _, _ => ⟨S2048x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== KernelMix.lean ====
abbrev S2048x1024 : Shape := ⟨2, ![2048, 1024]⟩
abbrev S1024x2048 : Shape := ⟨2, ![1024, 2048]⟩
abbrev S2048x2048 : Shape := ⟨2, ![2048, 2048]⟩
abbrev S2048x9216 : Shape := ⟨2, ![2048, 9216]⟩
abbrev S1024x1024 : Shape := ⟨2, ![1024, 1024]⟩
abbrev S256x512 : Shape := ⟨2, ![256, 512]⟩

abbrev nBuf : Space → Nat
  | .hbm => 24
  | .vmem => 78
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x2048, .bf16⟩
  | .hbm, ⟨3, _⟩ => ⟨S1024x2048, .bf16⟩
  | .hbm, ⟨4, _⟩ => ⟨S2048x2048, .bf16⟩
  | .hbm, ⟨5, _⟩ => ⟨S2048x9216, .f32⟩
  | .hbm, ⟨6, _⟩ => ⟨S2048x2048, .bf16⟩
  | .hbm, ⟨7, _⟩ => ⟨S2048x2048, .f32⟩
  | .hbm, ⟨8, _⟩ => ⟨S2048x2048, .f32⟩
  | .hbm, ⟨9, _⟩ => ⟨S2048x2048, .bf16⟩
  | .hbm, ⟨10, _⟩ => ⟨S2048x2048, .f32⟩
  | .hbm, ⟨11, _⟩ => ⟨S2048x2048, .f32⟩
  | .hbm, ⟨12, _⟩ => ⟨S2048x2048, .bf16⟩
  | .hbm, ⟨13, _⟩ => ⟨S2048x2048, .bf16⟩
  | .hbm, ⟨14, _⟩ => ⟨S2048x2048, .bf16⟩
  | .hbm, ⟨15, _⟩ => ⟨S2048x2048, .bf16⟩
  | .hbm, ⟨16, _⟩ => ⟨S2048x2048, .bf16⟩
  | .hbm, ⟨17, _⟩ => ⟨S2048x2048, .bf16⟩
  | .hbm, ⟨18, _⟩ => ⟨S2048x1024, .f32⟩
  | .hbm, ⟨19, _⟩ => ⟨S1024x2048, .bf16⟩
  | .hbm, ⟨20, _⟩ => ⟨S1024x2048, .bf16⟩
  | .hbm, ⟨21, _⟩ => ⟨S2048x1024, .f32⟩
  | .hbm, ⟨22, _⟩ => ⟨S1024x2048, .bf16⟩
  | .hbm, ⟨23, _⟩ => ⟨S1024x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .bf16⟩
  | .local _ .vmem, ⟨21, _⟩ => ⟨S256x512, .bf16⟩
  | .local _ .vmem, ⟨22, _⟩ => ⟨S1024x2048, .bf16⟩
  | .local _ .vmem, ⟨23, _⟩ => ⟨S1024x2048, .bf16⟩
  | .local _ .vmem, ⟨24, _⟩ => ⟨S2048x1024, .bf16⟩
  | .local _ .vmem, ⟨25, _⟩ => ⟨S2048x1024, .bf16⟩
  | .local _ .vmem, ⟨26, _⟩ => ⟨S1024x1024, .f32⟩
  | .local _ .vmem, ⟨27, _⟩ => ⟨S1024x1024, .f32⟩
  | .local _ .vmem, ⟨28, _⟩ => ⟨S1024x2048, .bf16⟩
  | .local _ .vmem, ⟨29, _⟩ => ⟨S1024x2048, .bf16⟩
  | .local _ .vmem, ⟨30, _⟩ => ⟨S1024x2048, .bf16⟩
  | .local _ .vmem, ⟨31, _⟩ => ⟨S1024x2048, .bf16⟩
  | .local _ .vmem, ⟨32, _⟩ => ⟨S1024x1024, .f32⟩
  | .local _ .vmem, ⟨33, _⟩ => ⟨S1024x1024, .f32⟩
  | .local _ .vmem, ⟨34, _⟩ => ⟨S1024x2048, .bf16⟩
  | .local _ .vmem, ⟨35, _⟩ => ⟨S1024x2048, .bf16⟩
  | .local _ .vmem, ⟨36, _⟩ => ⟨S2048x1024, .bf16⟩
  | .local _ .vmem, ⟨37, _⟩ => ⟨S2048x1024, .bf16⟩
  | .local _ .vmem, ⟨38, _⟩ => ⟨S1024x1024, .bf16⟩
  | .local _ .vmem, ⟨39, _⟩ => ⟨S1024x1024, .bf16⟩
  | .local _ .vmem, ⟨40, _⟩ => ⟨S256x512, .f32⟩
  | .local _ .vmem, ⟨41, _⟩ => ⟨S256x512, .f32⟩
  | .local _ .vmem, ⟨42, _⟩ => ⟨S256x512, .f32⟩
  | .local _ .vmem, ⟨43, _⟩ => ⟨S256x512, .f32⟩
  | .local _ .vmem, ⟨44, _⟩ => ⟨S256x512, .f32⟩
  | .local _ .vmem, ⟨45, _⟩ => ⟨S256x512, .f32⟩
  | .local _ .vmem, ⟨46, _⟩ => ⟨S256x512, .f32⟩
  | .local _ .vmem, ⟨47, _⟩ => ⟨S256x512, .f32⟩
  | .local _ .vmem, ⟨48, _⟩ => ⟨S256x512, .f32⟩
  | .local _ .vmem, ⟨49, _⟩ => ⟨S256x512, .f32⟩
  | .local _ .vmem, ⟨50, _⟩ => ⟨S256x512, .bf16⟩
  | .local _ .vmem, ⟨51, _⟩ => ⟨S256x512, .bf16⟩
  | .local _ .vmem, ⟨52, _⟩ => ⟨S256x512, .bf16⟩
  | .local _ .vmem, ⟨53, _⟩ => ⟨S256x512, .bf16⟩
  | .local _ .vmem, ⟨54, _⟩ => ⟨S256x512, .bf16⟩
  | .local _ .vmem, ⟨55, _⟩ => ⟨S256x512, .bf16⟩
  | .local _ .vmem, ⟨56, _⟩ => ⟨S256x512, .bf16⟩
  | .local _ .vmem, ⟨57, _⟩ => ⟨S256x512, .bf16⟩
  | .local _ .vmem, ⟨58, _⟩ => ⟨S1024x2048, .bf16⟩
  | .local _ .vmem, ⟨59, _⟩ => ⟨S1024x2048, .bf16⟩
  | .local _ .vmem, ⟨60, _⟩ => ⟨S1024x2048, .bf16⟩
  | .local _ .vmem, ⟨61, _⟩ => ⟨S1024x1024, .f32⟩
  | .local _ .vmem, ⟨62, _⟩ => ⟨S1024x1024, .f32⟩
  | .local _ .vmem, ⟨63, _⟩ => ⟨S1024x2048, .bf16⟩
  | .local _ .vmem, ⟨64, _⟩ => ⟨S2048x1024, .bf16⟩
  | .local _ .vmem, ⟨65, _⟩ => ⟨S2048x1024, .bf16⟩
  | .local _ .vmem, ⟨66, _⟩ => ⟨S1024x1024, .bf16⟩
  | .local _ .vmem, ⟨67, _⟩ => ⟨S1024x1024, .bf16⟩
  | .local _ .vmem, ⟨68, _⟩ => ⟨S1024x2048, .bf16⟩
  | .local _ .vmem, ⟨69, _⟩ => ⟨S1024x2048, .bf16⟩
  | .local _ .vmem, ⟨70, _⟩ => ⟨S1024x2048, .bf16⟩
  | .local _ .vmem, ⟨71, _⟩ => ⟨S1024x1024, .f32⟩
  | .local _ .vmem, ⟨72, _⟩ => ⟨S1024x1024, .f32⟩
  | .local _ .vmem, ⟨73, _⟩ => ⟨S1024x2048, .bf16⟩
  | .local _ .vmem, ⟨74, _⟩ => ⟨S2048x1024, .bf16⟩
  | .local _ .vmem, ⟨75, _⟩ => ⟨S2048x1024, .bf16⟩
  | .local _ .vmem, ⟨76, _⟩ => ⟨S1024x1024, .bf16⟩
  | .local _ .vmem, ⟨77, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | _, _ => false

abbrev semScoped : Fin 0 → Bool
  | ⟨_, h⟩ => absurd h (Nat.not_lt_zero _)

abbrev dmaSemScoped : Fin 78 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | _ => false

abbrev sig : RefSig :=
  ofTc nBuf bufTy 0 78 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc5_stg2_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg1_1 : Ref sig .tc := ⟨.vmem, 43, rfl⟩
abbrev cc6_stg2_0 : Ref sig .tc := ⟨.vmem, 44, rfl⟩
abbrev cc6_stg2_1 : Ref sig .tc := ⟨.vmem, 45, rfl⟩
abbrev cc6_stg3_0 : Ref sig .tc := ⟨.vmem, 46, rfl⟩
abbrev cc6_stg3_1 : Ref sig .tc := ⟨.vmem, 47, rfl⟩
abbrev cc6_stg4_0 : Ref sig .tc := ⟨.vmem, 48, rfl⟩
abbrev cc6_stg4_1 : Ref sig .tc := ⟨.vmem, 49, rfl⟩
abbrev cc6_stg5_0 : Ref sig .tc := ⟨.vmem, 50, rfl⟩
abbrev cc6_stg5_1 : Ref sig .tc := ⟨.vmem, 51, rfl⟩
abbrev cc6_stg6_0 : Ref sig .tc := ⟨.vmem, 52, rfl⟩
abbrev cc6_stg6_1 : Ref sig .tc := ⟨.vmem, 53, rfl⟩
abbrev cc6_stg7_0 : Ref sig .tc := ⟨.vmem, 54, rfl⟩
abbrev cc6_stg7_1 : Ref sig .tc := ⟨.vmem, 55, rfl⟩
abbrev cc6_stg8_0 : Ref sig .tc := ⟨.vmem, 56, rfl⟩
abbrev cc6_stg8_1 : Ref sig .tc := ⟨.vmem, 57, rfl⟩
abbrev cc7_stg0_0 : Ref sig .tc := ⟨.vmem, 58, rfl⟩
abbrev cc7_stg0_1 : Ref sig .tc := ⟨.vmem, 59, rfl⟩
abbrev cc7_stg1_0 : Ref sig .tc := ⟨.vmem, 60, rfl⟩
abbrev cc7_stg2_0 : Ref sig .tc := ⟨.vmem, 61, rfl⟩
abbrev cc7_stg2_1 : Ref sig .tc := ⟨.vmem, 62, rfl⟩
abbrev cc8_stg0_0 : Ref sig .tc := ⟨.vmem, 63, rfl⟩
abbrev cc8_stg1_0 : Ref sig .tc := ⟨.vmem, 64, rfl⟩
abbrev cc8_stg1_1 : Ref sig .tc := ⟨.vmem, 65, rfl⟩
abbrev cc8_stg2_0 : Ref sig .tc := ⟨.vmem, 66, rfl⟩
abbrev cc8_stg2_1 : Ref sig .tc := ⟨.vmem, 67, rfl⟩
abbrev cc9_stg0_0 : Ref sig .tc := ⟨.vmem, 68, rfl⟩
abbrev cc9_stg0_1 : Ref sig .tc := ⟨.vmem, 69, rfl⟩
abbrev cc9_stg1_0 : Ref sig .tc := ⟨.vmem, 70, rfl⟩
abbrev cc9_stg2_0 : Ref sig .tc := ⟨.vmem, 71, rfl⟩
abbrev cc9_stg2_1 : Ref sig .tc := ⟨.vmem, 72, rfl⟩
abbrev cc10_stg0_0 : Ref sig .tc := ⟨.vmem, 73, rfl⟩
abbrev cc10_stg1_0 : Ref sig .tc := ⟨.vmem, 74, rfl⟩
abbrev cc10_stg1_1 : Ref sig .tc := ⟨.vmem, 75, rfl⟩
abbrev cc10_stg2_0 : Ref sig .tc := ⟨.vmem, 76, rfl⟩
abbrev cc10_stg2_1 : Ref sig .tc := ⟨.vmem, 77, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc5_sem0_0 : DmaSem sig := 34
abbrev cc5_sem0_1 : DmaSem sig := 35
abbrev cc5_sem1_0 : DmaSem sig := 36
abbrev cc5_sem1_1 : DmaSem sig := 37
abbrev cc5_sem2_0 : DmaSem sig := 38
abbrev cc5_sem2_1 : DmaSem sig := 39
abbrev cc6_sem0_0 : DmaSem sig := 40
abbrev cc6_sem0_1 : DmaSem sig := 41
abbrev cc6_sem1_0 : DmaSem sig := 42
abbrev cc6_sem1_1 : DmaSem sig := 43
abbrev cc6_sem2_0 : DmaSem sig := 44
abbrev cc6_sem2_1 : DmaSem sig := 45
abbrev cc6_sem3_0 : DmaSem sig := 46
abbrev cc6_sem3_1 : DmaSem sig := 47
abbrev cc6_sem4_0 : DmaSem sig := 48
abbrev cc6_sem4_1 : DmaSem sig := 49
abbrev cc6_sem5_0 : DmaSem sig := 50
abbrev cc6_sem5_1 : DmaSem sig := 51
abbrev cc6_sem6_0 : DmaSem sig := 52
abbrev cc6_sem6_1 : DmaSem sig := 53
abbrev cc6_sem7_0 : DmaSem sig := 54
abbrev cc6_sem7_1 : DmaSem sig := 55
abbrev cc6_sem8_0 : DmaSem sig := 56
abbrev cc6_sem8_1 : DmaSem sig := 57
abbrev cc7_sem0_0 : DmaSem sig := 58
abbrev cc7_sem0_1 : DmaSem sig := 59
abbrev cc7_sem1_0 : DmaSem sig := 60
abbrev cc7_sem2_0 : DmaSem sig := 61
abbrev cc7_sem2_1 : DmaSem sig := 62
abbrev cc8_sem0_0 : DmaSem sig := 63
abbrev cc8_sem1_0 : DmaSem sig := 64
abbrev cc8_sem1_1 : DmaSem sig := 65
abbrev cc8_sem2_0 : DmaSem sig := 66
abbrev cc8_sem2_1 : DmaSem sig := 67
abbrev cc9_sem0_0 : DmaSem sig := 68
abbrev cc9_sem0_1 : DmaSem sig := 69
abbrev cc9_sem1_0 : DmaSem sig := 70
abbrev cc9_sem2_0 : DmaSem sig := 71
abbrev cc9_sem2_1 : DmaSem sig := 72
abbrev cc10_sem0_0 : DmaSem sig := 73
abbrev cc10_sem1_0 : DmaSem sig := 74
abbrev cc10_sem1_1 : DmaSem sig := 75
abbrev cc10_sem2_0 : DmaSem sig := 76
abbrev cc10_sem2_1 : DmaSem sig := 77

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![8, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_2 (i : grid2.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  ![arg0.toNat, v0.toNat]

def cc2_transform_3 (i : grid2.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg1
  let c0_i32 : BitVec 32 := 0#32
  ![arg0.toNat, v0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S256x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S256x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S256x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S256x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S256x512 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev grid3 : Pipeline.Grid := ⟨2, ![2, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S2048x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![2, 2], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S1024x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S1024x2048 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![2, 2], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S1024x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S2048x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1024x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨2, ![8, 4], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc6_transform_3 (i : grid6.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  ![arg0.toNat, v0.toNat]

def cc6_transform_4 (i : grid6.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg1
  let c0_i32 : BitVec 32 := 0#32
  ![arg0.toNat, v0.toNat]

def cc6_transform_5 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc6_transform_6 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc6_transform_7 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc6_transform_8 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 2 → Memref sig .tc .vmem S256x512 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 2 → Memref sig .tc .vmem S256x512 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, true]

abbrev stage6_2 : Fin 2 → Memref sig .tc .vmem S256x512 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev stage6_3 : Fin 2 → Memref sig .tc .vmem S256x512 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, true]

abbrev stage6_4 : Fin 2 → Memref sig .tc .vmem S256x512 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true, true]

abbrev stage6_5 : Fin 2 → Memref sig .tc .vmem S256x512 .bf16 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true, true]

abbrev stage6_6 : Fin 2 → Memref sig .tc .vmem S256x512 .bf16 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true, true]

abbrev stage6_7 : Fin 2 → Memref sig .tc .vmem S256x512 .bf16 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true, true]

abbrev stage6_8 : Fin 2 → Memref sig .tc .vmem S256x512 .bf16 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true, true]

abbrev grid7 : Pipeline.Grid := ⟨2, ![2, 1], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage7_0 : Fin 2 → Memref sig .tc .vmem S1024x2048 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 1 → Memref sig .tc .vmem S1024x2048 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false, true]

abbrev stage7_2 : Fin 2 → Memref sig .tc .vmem S1024x1024 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

abbrev grid8 : Pipeline.Grid := ⟨2, ![1, 2], ![false, false]⟩

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage8_0 : Fin 1 → Memref sig .tc .vmem S1024x2048 .bf16 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![true, false]

abbrev stage8_1 : Fin 2 → Memref sig .tc .vmem S2048x1024 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true]

abbrev stage8_2 : Fin 2 → Memref sig .tc .vmem S1024x1024 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true]

abbrev grid9 : Pipeline.Grid := ⟨2, ![2, 1], ![false, false]⟩

def cc9_transform_0 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage9_0 : Fin 2 → Memref sig .tc .vmem S1024x2048 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, false]

abbrev stage9_1 : Fin 1 → Memref sig .tc .vmem S1024x2048 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false, true]

abbrev stage9_2 : Fin 2 → Memref sig .tc .vmem S1024x1024 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true]

abbrev grid10 : Pipeline.Grid := ⟨2, ![1, 2], ![false, false]⟩

def cc10_transform_0 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc10_transform_2 (i : grid10.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage10_0 : Fin 1 → Memref sig .tc .vmem S1024x2048 .bf16 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![true, false]

abbrev stage10_1 : Fin 2 → Memref sig .tc .vmem S2048x1024 .bf16 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![false, true]

abbrev stage10_2 : Fin 2 → Memref sig .tc .vmem S1024x1024 .bf16 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, true]
-- ==== ReferenceMixIdeal.lean ====
abbrev S2048x1024 : Shape := ⟨2, ![2048, 1024]⟩
abbrev S1024x2048 : Shape := ⟨2, ![1024, 2048]⟩
abbrev S2048x2048 : Shape := ⟨2, ![2048, 2048]⟩
abbrev S2048x9216 : Shape := ⟨2, ![2048, 9216]⟩
abbrev S_ : Shape := ⟨0, ![]⟩

abbrev nBuf : Space → Nat
  | .hbm => 65
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x2048, .bf16⟩
  | .hbm, ⟨3, _⟩ => ⟨S1024x2048, .bf16⟩
  | .hbm, ⟨4, _⟩ => ⟨S2048x2048, .bf16⟩
  | .hbm, ⟨5, _⟩ => ⟨S2048x9216, .f32⟩
  | .hbm, ⟨6, _⟩ => ⟨S2048x2048, .bf16⟩
  | .hbm, ⟨7, _⟩ => ⟨S2048x1024, .f32⟩
  | .hbm, ⟨8, _⟩ => ⟨S1024x2048, .f32⟩
  | .hbm, ⟨9, _⟩ => ⟨S2048x2048, .f32⟩
  | .hbm, ⟨10, _⟩ => ⟨S2048x1024, .f32⟩
  | .hbm, ⟨11, _⟩ => ⟨S1024x2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S_, .f32⟩
  | .hbm, ⟨18, _⟩ => ⟨S2048x2048, .f32⟩
  | .hbm, ⟨19, _⟩ => ⟨S2048x2048, .f32⟩
  | .hbm, ⟨20, _⟩ => ⟨S_, .f32⟩
  | .hbm, ⟨21, _⟩ => ⟨S2048x2048, .f32⟩
  | .hbm, ⟨22, _⟩ => ⟨S2048x2048, .f32⟩
  | .hbm, ⟨23, _⟩ => ⟨S_, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048x2048, .f32⟩
  | .hbm, ⟨32, _⟩ => ⟨S2048x2048, .f32⟩
  | .hbm, ⟨33, _⟩ => ⟨S_, .f32⟩
  | .hbm, ⟨34, _⟩ => ⟨S2048x2048, .f32⟩
  | .hbm, ⟨35, _⟩ => ⟨S2048x2048, .f32⟩
  | .hbm, ⟨36, _⟩ => ⟨S_, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S2048x2048, .f32⟩
  | .hbm, ⟨53, _⟩ => ⟨S2048x2048, .f32⟩
  | .hbm, ⟨54, _⟩ => ⟨S2048x1024, .f32⟩
  | .hbm, ⟨55, _⟩ => ⟨S1024x2048, .f32⟩
  | .hbm, ⟨56, _⟩ => ⟨S2048x1024, .f32⟩
  | .hbm, ⟨57, _⟩ => ⟨S2048x1024, .f32⟩
  | .hbm, ⟨58, _⟩ => ⟨S1024x2048, .f32⟩
  | .hbm, ⟨59, _⟩ => ⟨S2048x1024, .f32⟩
  | .hbm, ⟨60, _⟩ => ⟨S1024x2048, .bf16⟩
  | .hbm, ⟨61, _⟩ => ⟨S1024x2048, .bf16⟩
  | .hbm, ⟨62, _⟩ => ⟨S2048x2048, .bf16⟩
  | .hbm, ⟨63, _⟩ => ⟨S2048x2048, .bf16⟩
  | .hbm, ⟨64, _⟩ => ⟨S2048x2048, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩

abbrev nD : Nat := 1
abbrev τ : Topo := Topo.v7x

variable {F : FTy → Type} [FloatOps F]
-- ==== KernelUp.lean ====
abbrev S2048x512 : Shape := ⟨2, ![2048, 512]⟩
abbrev S512x1536 : Shape := ⟨2, ![512, 1536]⟩
abbrev S512x2048 : Shape := ⟨2, ![512, 2048]⟩
abbrev S2048x2048 : Shape := ⟨2, ![2048, 2048]⟩
abbrev S512x8x192 : Shape := ⟨3, ![512, 8, 192]⟩
abbrev S_ : Shape := ⟨0, ![]⟩
abbrev S512x8x256 : Shape := ⟨3, ![512, 8, 256]⟩
abbrev S512x8x2x128 : Shape := ⟨4, ![512, 8, 2, 128]⟩
abbrev S512x2x8x128 : Shape := ⟨4, ![512, 2, 8, 128]⟩
abbrev S1024x512 : Shape := ⟨2, ![1024, 512]⟩
abbrev S512x1024 : Shape := ⟨2, ![512, 1024]⟩
abbrev S1024x1024 : Shape := ⟨2, ![1024, 1024]⟩
abbrev S1024x2048 : Shape := ⟨2, ![1024, 2048]⟩
abbrev S2048x1024 : Shape := ⟨2, ![2048, 1024]⟩
abbrev S2048x8x256 : Shape := ⟨3, ![2048, 8, 256]⟩
abbrev S2048x8x192 : Shape := ⟨3, ![2048, 8, 192]⟩
abbrev S2048x1536 : Shape := ⟨2, ![2048, 1536]⟩
abbrev S2048x2x8x128 : Shape := ⟨4, ![2048, 2, 8, 128]⟩
abbrev S2048x8x2x128 : Shape := ⟨4, ![2048, 8, 2, 128]⟩

abbrev nBuf : Space → Nat
  | .hbm => 34
  | .vmem => 32
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S512x1536, .bf16⟩
  | .hbm, ⟨3, _⟩ => ⟨S512x2048, .bf16⟩
  | .hbm, ⟨4, _⟩ => ⟨S2048x2048, .bf16⟩
  | .hbm, ⟨5, _⟩ => ⟨S2048x2048, .bf16⟩
  | .hbm, ⟨6, _⟩ => ⟨S512x8x192, .bf16⟩
  | .hbm, ⟨7, _⟩ => ⟨S_, .i32⟩
  | .hbm, ⟨8, _⟩ => ⟨S_, .bf16⟩
  | .hbm, ⟨9, _⟩ => ⟨S512x8x256, .bf16⟩
  | .hbm, ⟨10, _⟩ => ⟨S512x2048, .bf16⟩
  | .hbm, ⟨11, _⟩ => ⟨S512x8x2x128, .bf16⟩
  | .hbm, ⟨12, _⟩ => ⟨S512x2x8x128, .bf16⟩
  | .hbm, ⟨13, _⟩ => ⟨S512x2048, .bf16⟩
  | .hbm, ⟨14, _⟩ => ⟨S2048x2048, .f32⟩
  | .hbm, ⟨15, _⟩ => ⟨S2048x2048, .f32⟩
  | .hbm, ⟨16, _⟩ => ⟨S2048x512, .f32⟩
  | .hbm, ⟨17, _⟩ => ⟨S512x2048, .bf16⟩
  | .hbm, ⟨18, _⟩ => ⟨S512x2048, .bf16⟩
  | .hbm, ⟨19, _⟩ => ⟨S2048x512, .f32⟩
  | .hbm, ⟨20, _⟩ => ⟨S512x2048, .bf16⟩
  | .hbm, ⟨21, _⟩ => ⟨S512x2048, .bf16⟩
  | .hbm, ⟨22, _⟩ => ⟨S2048x8x256, .f32⟩
  | .hbm, ⟨23, _⟩ => ⟨S2048x8x192, .f32⟩
  | .hbm, ⟨24, _⟩ => ⟨S2048x1536, .f32⟩
  | .hbm, ⟨25, _⟩ => ⟨S2048x2x8x128, .f32⟩
  | .hbm, ⟨26, _⟩ => ⟨S2048x8x2x128, .f32⟩
  | .hbm, ⟨27, _⟩ => ⟨S2048x2048, .f32⟩
  | .hbm, ⟨28, _⟩ => ⟨S512x8x256, .bf16⟩
  | .hbm, ⟨29, _⟩ => ⟨S512x8x192, .bf16⟩
  | .hbm, ⟨30, _⟩ => ⟨S512x1536, .bf16⟩
  | .hbm, ⟨31, _⟩ => ⟨S512x2x8x128, .bf16⟩
  | .hbm, ⟨32, _⟩ => ⟨S512x8x2x128, .bf16⟩
  | .hbm, ⟨33, _⟩ => ⟨S512x2048, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x512, .bf16⟩
  | .local _ .vmem, ⟨7, _⟩ => ⟨S1024x512, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x2048, .bf16⟩
  | .local _ .vmem, ⟨13, _⟩ => ⟨S1024x2048, .bf16⟩
  | .local _ .vmem, ⟨14, _⟩ => ⟨S512x2048, .bf16⟩
  | .local _ .vmem, ⟨15, _⟩ => ⟨S1024x512, .f32⟩
  | .local _ .vmem, ⟨16, _⟩ => ⟨S1024x512, .f32⟩
  | .local _ .vmem, ⟨17, _⟩ => ⟨S512x2048, .bf16⟩
  | .local _ .vmem, ⟨18, _⟩ => ⟨S2048x1024, .bf16⟩
  | .local _ .vmem, ⟨19, _⟩ => ⟨S2048x1024, .bf16⟩
  | .local _ .vmem, ⟨20, _⟩ => ⟨S512x1024, .bf16⟩
  | .local _ .vmem, ⟨21, _⟩ => ⟨S512x1024, .bf16⟩
  | .local _ .vmem, ⟨22, _⟩ => ⟨S1024x2048, .bf16⟩
  | .local _ .vmem, ⟨23, _⟩ => ⟨S1024x2048, .bf16⟩
  | .local _ .vmem, ⟨24, _⟩ => ⟨S512x2048, .bf16⟩
  | .local _ .vmem, ⟨25, _⟩ => ⟨S1024x512, .f32⟩
  | .local _ .vmem, ⟨26, _⟩ => ⟨S1024x512, .f32⟩
  | .local _ .vmem, ⟨27, _⟩ => ⟨S512x2048, .bf16⟩
  | .local _ .vmem, ⟨28, _⟩ => ⟨S2048x1024, .bf16⟩
  | .local _ .vmem, ⟨29, _⟩ => ⟨S2048x1024, .bf16⟩
  | .local _ .vmem, ⟨30, _⟩ => ⟨S512x1024, .bf16⟩
  | .local _ .vmem, ⟨31, _⟩ => ⟨S512x1024, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg1_0 : Ref sig .tc := ⟨.vmem, 28, rfl⟩
abbrev cc5_stg1_1 : Ref sig .tc := ⟨.vmem, 29, rfl⟩
abbrev cc5_stg2_0 : Ref sig .tc := ⟨.vmem, 30, rfl⟩
abbrev cc5_stg2_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem1_0 : DmaSem sig := 18
abbrev cc3_sem1_1 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem2_1 : DmaSem sig := 26
abbrev cc5_sem0_0 : DmaSem sig := 27
abbrev cc5_sem1_0 : DmaSem sig := 28
abbrev cc5_sem1_1 : DmaSem sig := 29
abbrev cc5_sem2_0 : DmaSem sig := 30
abbrev cc5_sem2_1 : DmaSem sig := 31

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![2, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S512x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![1, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 1 → Memref sig .tc .vmem S512x2048 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false]

abbrev stage3_1 : Fin 2 → Memref sig .tc .vmem S2048x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S512x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![2, 1], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S1024x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 1 → Memref sig .tc .vmem S512x2048 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true]

abbrev stage4_2 : Fin 2 → Memref sig .tc .vmem S1024x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![1, 2], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 1 → Memref sig .tc .vmem S512x2048 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false]

abbrev stage5_1 : Fin 2 → Memref sig .tc .vmem S2048x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S512x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]
-- ==== ReferenceUpIdeal.lean ====
abbrev S2048x512 : Shape := ⟨2, ![2048, 512]⟩
abbrev S512x1536 : Shape := ⟨2, ![512, 1536]⟩
abbrev S512x2048 : Shape := ⟨2, ![512, 2048]⟩
abbrev S2048x2048 : Shape := ⟨2, ![2048, 2048]⟩
abbrev S2048x8x256 : Shape := ⟨3, ![2048, 8, 256]⟩
abbrev S2048x8x192 : Shape := ⟨3, ![2048, 8, 192]⟩
abbrev S2048x1536 : Shape := ⟨2, ![2048, 1536]⟩
abbrev S2048x2x8x128 : Shape := ⟨4, ![2048, 2, 8, 128]⟩
abbrev S2048x8x2x128 : Shape := ⟨4, ![2048, 8, 2, 128]⟩
abbrev S1536x512 : Shape := ⟨2, ![1536, 512]⟩

abbrev nBuf : Space → Nat
  | .hbm => 28
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S512x1536, .bf16⟩
  | .hbm, ⟨3, _⟩ => ⟨S512x2048, .bf16⟩
  | .hbm, ⟨4, _⟩ => ⟨S2048x2048, .bf16⟩
  | .hbm, ⟨5, _⟩ => ⟨S2048x2048, .bf16⟩
  | .hbm, ⟨6, _⟩ => ⟨S2048x2048, .f32⟩
  | .hbm, ⟨7, _⟩ => ⟨S2048x8x256, .f32⟩
  | .hbm, ⟨8, _⟩ => ⟨S2048x8x192, .f32⟩
  | .hbm, ⟨9, _⟩ => ⟨S2048x1536, .f32⟩
  | .hbm, ⟨10, _⟩ => ⟨S2048x2048, .f32⟩
  | .hbm, ⟨11, _⟩ => ⟨S2048x2x8x128, .f32⟩
  | .hbm, ⟨12, _⟩ => ⟨S2048x8x2x128, .f32⟩
  | .hbm, ⟨13, _⟩ => ⟨S2048x2048, .f32⟩
  | .hbm, ⟨14, _⟩ => ⟨S2048x512, .f32⟩
  | .hbm, ⟨15, _⟩ => ⟨S512x1536, .f32⟩
  | .hbm, ⟨16, _⟩ => ⟨S2048x1536, .f32⟩
  | .hbm, ⟨17, _⟩ => ⟨S2048x512, .f32⟩
  | .hbm, ⟨18, _⟩ => ⟨S512x2048, .f32⟩
  | .hbm, ⟨19, _⟩ => ⟨S2048x2048, .f32⟩
  | .hbm, ⟨20, _⟩ => ⟨S1536x512, .f32⟩
  | .hbm, ⟨21, _⟩ => ⟨S512x1536, .f32⟩
  | .hbm, ⟨22, _⟩ => ⟨S2048x512, .f32⟩
  | .hbm, ⟨23, _⟩ => ⟨S2048x512, .f32⟩
  | .hbm, ⟨24, _⟩ => ⟨S512x2048, .f32⟩
  | .hbm, ⟨25, _⟩ => ⟨S2048x512, .f32⟩
  | .hbm, ⟨26, _⟩ => ⟨S512x1536, .bf16⟩
  | .hbm, ⟨27, _⟩ => ⟨S512x2048, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== KernelConv.lean ====
abbrev S2048x9216 : Shape := ⟨2, ![2048, 9216]⟩
abbrev S4x3072 : Shape := ⟨2, ![4, 3072]⟩
abbrev S2048x3072 : Shape := ⟨2, ![2048, 3072]⟩
abbrev S2048x256 : Shape := ⟨2, ![2048, 256]⟩
abbrev S4x256 : Shape := ⟨2, ![4, 256]⟩
abbrev S1x256 : Shape := ⟨2, ![1, 256]⟩
abbrev S256 : Shape := ⟨1, ![256]⟩

abbrev nBuf : Space → Nat
  | .hbm => 6
  | .vmem => 16
  | .smem => 0
  | _ => 0

abbrev bufTy : (tb : Table) → Fin (tcTables nBuf tb) → BufTy
  | .hbm, ⟨0, _⟩ => ⟨S2048x9216, .f32⟩
  | .hbm, ⟨1, _⟩ => ⟨S4x3072, .f32⟩
  | .hbm, ⟨2, _⟩ => ⟨S2048x3072, .f32⟩
  | .hbm, ⟨3, _⟩ => ⟨S2048x3072, .f32⟩
  | .hbm, ⟨4, _⟩ => ⟨S2048x3072, .bf16⟩
  | .hbm, ⟨5, _⟩ => ⟨S4x3072, .f32⟩
  | .local _ .vmem, ⟨0, _⟩ => ⟨S2048x256, .f32⟩
  | .local _ .vmem, ⟨1, _⟩ => ⟨S2048x256, .f32⟩
  | .local _ .vmem, ⟨2, _⟩ => ⟨S4x256, .f32⟩
  | .local _ .vmem, ⟨3, _⟩ => ⟨S4x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S4x256, .f32⟩
  | .local _ .vmem, ⟨9, _⟩ => ⟨S4x256, .f32⟩
  | .local _ .vmem, ⟨10, _⟩ => ⟨S2048x256, .f32⟩
  | .local _ .vmem, ⟨11, _⟩ => ⟨S2048x256, .f32⟩
  | .local _ .vmem, ⟨12, _⟩ => ⟨S2048x256, .bf16⟩
  | .local _ .vmem, ⟨13, _⟩ => ⟨S2048x256, .bf16⟩
  | .local _ .vmem, ⟨14, _⟩ => ⟨S4x256, .f32⟩
  | .local _ .vmem, ⟨15, _⟩ => ⟨S4x256, .f32⟩
  | _, _ => ⟨S2048x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![12], ![false]⟩

def cc1_transform_0 (i : grid1.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ReferenceConvIdeal.lean ====
abbrev S2048x9216 : Shape := ⟨2, ![2048, 9216]⟩
abbrev S4x3072 : Shape := ⟨2, ![4, 3072]⟩
abbrev S2048x3072 : Shape := ⟨2, ![2048, 3072]⟩
abbrev S_ : Shape := ⟨0, ![]⟩
abbrev S3x3072 : Shape := ⟨2, ![3, 3072]⟩
abbrev S2045x3072 : Shape := ⟨2, ![2045, 3072]⟩
abbrev S1x3072 : Shape := ⟨2, ![1, 3072]⟩
abbrev S2x3072 : Shape := ⟨2, ![2, 3072]⟩
abbrev S2046x3072 : Shape := ⟨2, ![2046, 3072]⟩
abbrev S2047x3072 : Shape := ⟨2, ![2047, 3072]⟩
abbrev S3072 : Shape := ⟨1, ![3072]⟩

abbrev nBuf : Space → Nat
  | .hbm => 105
  | .vmem => 0
  | .smem => 0
  | _ => 0

abbrev bufTy : (tb : Table) → Fin (tcTables nBuf tb) → BufTy
  | .hbm, ⟨0, _⟩ => ⟨S2048x9216, .f32⟩
  | .hbm, ⟨1, _⟩ => ⟨S4x3072, .f32⟩
  | .hbm, ⟨2, _⟩ => ⟨S2048x3072, .f32⟩
  | .hbm, ⟨3, _⟩ => ⟨S2048x3072, .f32⟩
  | .hbm, ⟨4, _⟩ => ⟨S_, .f32⟩
  | .hbm, ⟨5, _⟩ => ⟨S3x3072, .f32⟩
  | .hbm, ⟨6, _⟩ => ⟨S2045x3072, .f32⟩
  | .hbm, ⟨7, _⟩ => ⟨S2048x3072, .f32⟩
  | .hbm, ⟨8, _⟩ => ⟨S_, .f32⟩
  | .hbm, ⟨9, _⟩ => ⟨S3x3072, .f32⟩
  | .hbm, ⟨10, _⟩ => ⟨S1x3072, .f32⟩
  | .hbm, ⟨11, _⟩ => ⟨S2048x3072, .f32⟩
  | .hbm, ⟨12, _⟩ => ⟨S2048x3072, .f32⟩
  | .hbm, ⟨13, _⟩ => ⟨S_, .f32⟩
  | .hbm, ⟨14, _⟩ => ⟨S2x3072, .f32⟩
  | .hbm, ⟨15, _⟩ => ⟨S2046x3072, .f32⟩
  | .hbm, ⟨16, _⟩ => ⟨S2048x3072, .f32⟩
  | .hbm, ⟨17, _⟩ => ⟨S_, .f32⟩
  | .hbm, ⟨18, _⟩ => ⟨S2x3072, .f32⟩
  | .hbm, ⟨19, _⟩ => ⟨S1x3072, .f32⟩
  | .hbm, ⟨20, _⟩ => ⟨S2048x3072, .f32⟩
  | .hbm, ⟨21, _⟩ => ⟨S2048x3072, .f32⟩
  | .hbm, ⟨22, _⟩ => ⟨S2048x3072, .f32⟩
  | .hbm, ⟨23, _⟩ => ⟨S_, .f32⟩
  | .hbm, ⟨24, _⟩ => ⟨S1x3072, .f32⟩
  | .hbm, ⟨25, _⟩ => ⟨S2047x3072, .f32⟩
  | .hbm, ⟨26, _⟩ => ⟨S2048x3072, .f32⟩
  | .hbm, ⟨27, _⟩ => ⟨S_, .f32⟩
  | .hbm, ⟨28, _⟩ => ⟨S1x3072, .f32⟩
  | .hbm, ⟨29, _⟩ => ⟨S1x3072, .f32⟩
  | .hbm, ⟨30, _⟩ => ⟨S2048x3072, .f32⟩
  | .hbm, ⟨31, _⟩ => ⟨S2048x3072, .f32⟩
  | .hbm, ⟨32, _⟩ => ⟨S2048x3072, .f32⟩
  | .hbm, ⟨33, _⟩ => ⟨S1x3072, .f32⟩
  | .hbm, ⟨34, _⟩ => ⟨S2048x3072, .f32⟩
  | .hbm, ⟨35, _⟩ => ⟨S2048x3072, .f32⟩
  | .hbm, ⟨36, _⟩ => ⟨S2048x3072, .f32⟩
  | .hbm, ⟨37, _⟩ => ⟨S2048x3072, .f32⟩
  | .hbm, ⟨38, _⟩ => ⟨S2048x3072, .f32⟩
  | .hbm, ⟨39, _⟩ => ⟨S_, .f32⟩
  | .hbm, ⟨40, _⟩ => ⟨S2048x3072, .f32⟩
  | .hbm, ⟨41, _⟩ => ⟨S2048x3072, .f32⟩
  | .hbm, ⟨42, _⟩ => ⟨S_, .f32⟩
  | .hbm, ⟨43, _⟩ => ⟨S2048x3072, .f32⟩
  | .hbm, ⟨44, _⟩ => ⟨S2048x3072, .f32⟩
  | .hbm, ⟨45, _⟩ => ⟨S_, .f32⟩
  | .hbm, ⟨46, _⟩ => ⟨S2048x3072, .f32⟩
  | .hbm, ⟨47, _⟩ => ⟨S2048x3072, .f32⟩
  | .hbm, ⟨48, _⟩ => ⟨S2048x3072, .f32⟩
  | .hbm, ⟨49, _⟩ => ⟨S2048x3072, .f32⟩
  | .hbm, ⟨50, _⟩ => ⟨S2048x3072, .f32⟩
  | .hbm, ⟨51, _⟩ => ⟨S2048x3072, .f32⟩
  | .hbm, ⟨52, _⟩ => ⟨S2048x3072, .f32⟩
  | .hbm, ⟨53, _⟩ => ⟨S2048x3072, .f32⟩
  | .hbm, ⟨54, _⟩ => ⟨S2048x3072, .f32⟩
  | .hbm, ⟨55, _⟩ => ⟨S_, .f32⟩
  | .hbm, ⟨56, _⟩ => ⟨S3072, .f32⟩
  | .hbm, ⟨57, _⟩ => ⟨S1x3072, .f32⟩
  | .hbm, ⟨58, _⟩ => ⟨S2048x3072, .f32⟩
  | .hbm, ⟨59, _⟩ => ⟨S2048x3072, .f32⟩
  | .hbm, ⟨60, _⟩ => ⟨S_, .f32⟩
  | .hbm, ⟨61, _⟩ => ⟨S4x3072, .f32⟩
  | .hbm, ⟨62, _⟩ => ⟨S2048x3072, .f32⟩
  | .hbm, ⟨63, _⟩ => ⟨S_, .f32⟩
  | .hbm, ⟨64, _⟩ => ⟨S3072, .f32⟩
  | .hbm, ⟨65, _⟩ => ⟨S1x3072, .f32⟩
  | .hbm, ⟨66, _⟩ => ⟨S2048x3072, .f32⟩
  | .hbm, ⟨67, _⟩ => ⟨S2048x3072, .f32⟩
  | .hbm, ⟨68, _⟩ => ⟨S_, .f32⟩
  | .hbm, ⟨69, _⟩ => ⟨S4x3072, .f32⟩
  | .hbm, ⟨70, _⟩ => ⟨S4x3072, .f32⟩
  | .hbm, ⟨71, _⟩ => ⟨S1x3072, .f32⟩
  | .hbm, ⟨72, _⟩ => ⟨S2047x3072, .f32⟩
  | .hbm, ⟨73, _⟩ => ⟨S_, .f32⟩
  | .hbm, ⟨74, _⟩ => ⟨S2048x3072, .f32⟩
  | .hbm, ⟨75, _⟩ => ⟨S2048x3072, .f32⟩
  | .hbm, ⟨76, _⟩ => ⟨S2048x3072, .f32⟩
  | .hbm, ⟨77, _⟩ => ⟨S_, .f32⟩
  | .hbm, ⟨78, _⟩ => ⟨S3072, .f32⟩
  | .hbm, ⟨79, _⟩ => ⟨S1x3072, .f32⟩
  | .hbm, ⟨80, _⟩ => ⟨S2048x3072, .f32⟩
  | .hbm, ⟨81, _⟩ => ⟨S2048x3072, .f32⟩
  | .hbm, ⟨82, _⟩ => ⟨S_, .f32⟩
  | .hbm, ⟨83, _⟩ => ⟨S4x3072, .f32⟩
  | .hbm, ⟨84, _⟩ => ⟨S4x3072, .f32⟩
  | .hbm, ⟨85, _⟩ => ⟨S2x3072, .f32⟩
  | .hbm, ⟨86, _⟩ => ⟨S2046x3072, .f32⟩
  | .hbm, ⟨87, _⟩ => ⟨S_, .f32⟩
  | .hbm, ⟨88, _⟩ => ⟨S2048x3072, .f32⟩
  | .hbm, ⟨89, _⟩ => ⟨S2048x3072, .f32⟩
  | .hbm, ⟨90, _⟩ => ⟨S2048x3072, .f32⟩
  | .hbm, ⟨91, _⟩ => ⟨S_, .f32⟩
  | .hbm, ⟨92, _⟩ => ⟨S3072, .f32⟩
  | .hbm, ⟨93, _⟩ => ⟨S1x3072, .f32⟩
  | .hbm, ⟨94, _⟩ => ⟨S2048x3072, .f32⟩
  | .hbm, ⟨95, _⟩ => ⟨S2048x3072, .f32⟩
  | .hbm, ⟨96, _⟩ => ⟨S_, .f32⟩
  | .hbm, ⟨97, _⟩ => ⟨S4x3072, .f32⟩
  | .hbm, ⟨98, _⟩ => ⟨S4x3072, .f32⟩
  | .hbm, ⟨99, _⟩ => ⟨S3x3072, .f32⟩
  | .hbm, ⟨100, _⟩ => ⟨S2045x3072, .f32⟩
  | .hbm, ⟨101, _⟩ => ⟨S_, .f32⟩
  | .hbm, ⟨102, _⟩ => ⟨S2048x3072, .f32⟩
  | .hbm, ⟨103, _⟩ => ⟨S2048x3072, .f32⟩
  | .hbm, ⟨104, _⟩ => ⟨S2048x3072, .bf16⟩
  | _, _ => ⟨S2048x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_v28_2 : Ref sig .tc := ⟨.hbm, 44, rfl⟩
abbrev main_call0_cst_1 : Ref sig .tc := ⟨.hbm, 45, rfl⟩
abbrev main_call0_v6 : Ref sig .tc := ⟨.hbm, 46, rfl⟩
abbrev main_call0_v7 : Ref sig .tc := ⟨.hbm, 47, rfl⟩
abbrev main_v28_1 : Ref sig .tc := ⟨.hbm, 48, rfl⟩
abbrev main_v28_0 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v29 : Ref sig .tc := ⟨.hbm, 53, rfl⟩
abbrev main_v30 : Ref sig .tc := ⟨.hbm, 54, rfl⟩
abbrev main_cst_5 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_6 : Ref sig .tc := ⟨.hbm, 60, rfl⟩
abbrev main_v35 : Ref sig .tc := ⟨.hbm, 61, rfl⟩
abbrev main_v36 : Ref sig .tc := ⟨.hbm, 62, rfl⟩
abbrev main_cst_7 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_8 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_9 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_10 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_11 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_12 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_13 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst_14 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_15 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩

abbrev nD : Nat := 1
abbrev τ : Topo := Topo.v7x

variable {F : FTy → Type} [FloatOps F]
-- ==== KernelNorm.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 9
  | .vmem => 13
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S1x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S1x2048, .f32⟩
  | .hbm, ⟨7, _⟩ => ⟨S1x2048, .f32⟩
  | .hbm, ⟨8, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceNormIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 67
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S1x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S1x2048, .f32⟩
  | .hbm, ⟨7, _⟩ => ⟨S2048x2048, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048, .f32⟩
  | .hbm, ⟨36, _⟩ => ⟨S1x2048, .f32⟩
  | .hbm, ⟨37, _⟩ => ⟨S2048x2048, .f32⟩
  | .hbm, ⟨38, _⟩ => ⟨S_, .f32⟩
  | .hbm, ⟨39, _⟩ => ⟨S2048, .f32⟩
  | .hbm, ⟨40, _⟩ => ⟨S1x2048, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S_, .f32⟩
  | .hbm, ⟨45, _⟩ => ⟨S2048, .f32⟩
  | .hbm, ⟨46, _⟩ => ⟨S1x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S_, .f32⟩
  | .hbm, ⟨51, _⟩ => ⟨S2048, .f32⟩
  | .hbm, ⟨52, _⟩ => ⟨S2048x1, .f32⟩
  | .hbm, ⟨53, _⟩ => ⟨S2048x2048, .f32⟩
  | .hbm, ⟨54, _⟩ => ⟨S2048x2048, .f32⟩
  | .hbm, ⟨55, _⟩ => ⟨S2048x1, .f32⟩
  | .hbm, ⟨56, _⟩ => ⟨S_, .f32⟩
  | .hbm, ⟨57, _⟩ => ⟨S2048x1, .f32⟩
  | .hbm, ⟨58, _⟩ => ⟨S2048x1, .f32⟩
  | .hbm, ⟨59, _⟩ => ⟨S_, .f32⟩
  | .hbm, ⟨60, _⟩ => ⟨S2048, .f32⟩
  | .hbm, ⟨61, _⟩ => ⟨S2048x2048, .f32⟩
  | .hbm, ⟨62, _⟩ => ⟨S2048x2048, .f32⟩
  | .hbm, ⟨63, _⟩ => ⟨S2048x2048, .f32⟩
  | .hbm, ⟨64, _⟩ => ⟨S2048x2048, .f32⟩
  | .hbm, ⟨65, _⟩ => ⟨S2048x2048, .f32⟩
  | .hbm, ⟨66, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_9 : Ref sig .tc := ⟨.hbm, 56, rfl⟩
abbrev main_v41 : Ref sig .tc := ⟨.hbm, 57, rfl⟩
abbrev main_v42 : Ref sig .tc := ⟨.hbm, 58, rfl⟩
abbrev main_cst_10 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== KernelRope.lean ====
abbrev S2048x2048 : Shape := ⟨2, ![2048, 2048]⟩
abbrev S2048x128 : Shape := ⟨2, ![2048, 128]⟩
abbrev S2048 : Shape := ⟨1, ![2048]⟩
abbrev S2048x1024 : Shape := ⟨2, ![2048, 1024]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S2048x96 : Shape := ⟨2, ![2048, 96]⟩
abbrev S256x2048 : Shape := ⟨2, ![256, 2048]⟩
abbrev S256x128 : Shape := ⟨2, ![256, 128]⟩
abbrev S256x1024 : Shape := ⟨2, ![256, 1024]⟩

abbrev nBuf : Space → Nat
  | .hbm => 48
  | .vmem => 46
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x128, .f32⟩
  | .hbm, ⟨3, _⟩ => ⟨S2048, .i32⟩
  | .hbm, ⟨4, _⟩ => ⟨S2048x2048, .f32⟩
  | .hbm, ⟨5, _⟩ => ⟨S2048x2048, .f32⟩
  | .hbm, ⟨6, _⟩ => ⟨S2048x1024, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S2048, .f32⟩
  | .hbm, ⟨24, _⟩ => ⟨S2048x1, .f32⟩
  | .hbm, ⟨25, _⟩ => ⟨S1x32, .f32⟩
  | .hbm, ⟨26, _⟩ => ⟨S2048x32, .f32⟩
  | .hbm, ⟨27, _⟩ => ⟨S2048x32, .f32⟩
  | .hbm, ⟨28, _⟩ => ⟨S2048x32, .f32⟩
  | .hbm, ⟨29, _⟩ => ⟨S2048x32, .f32⟩
  | .hbm, ⟨30, _⟩ => ⟨S2048x32, .f32⟩
  | .hbm, ⟨31, _⟩ => ⟨S_, .f32⟩
  | .hbm, ⟨32, _⟩ => ⟨S2048x64, .f32⟩
  | .hbm, ⟨33, _⟩ => ⟨S2048x128, .f32⟩
  | .hbm, ⟨34, _⟩ => ⟨S2048x32, .f32⟩
  | .hbm, ⟨35, _⟩ => ⟨S_, .f32⟩
  | .hbm, ⟨36, _⟩ => ⟨S2048x96, .f32⟩
  | .hbm, ⟨37, _⟩ => ⟨S2048x128, .f32⟩
  | .hbm, ⟨38, _⟩ => ⟨S_, .f32⟩
  | .hbm, ⟨39, _⟩ => ⟨S2048x32, .f32⟩
  | .hbm, ⟨40, _⟩ => ⟨S_, .f32⟩
  | .hbm, ⟨41, _⟩ => ⟨S2048x64, .f32⟩
  | .hbm, ⟨42, _⟩ => ⟨S2048x128, .f32⟩
  | .hbm, ⟨43, _⟩ => ⟨S2048x2048, .bf16⟩
  | .hbm, ⟨44, _⟩ => ⟨S2048x2048, .bf16⟩
  | .hbm, ⟨45, _⟩ => ⟨S2048x2048, .bf16⟩
  | .hbm, ⟨46, _⟩ => ⟨S2048x2048, .bf16⟩
  | .hbm, ⟨47, _⟩ => ⟨S2048x128, .f32⟩
  | .local _ .vmem, ⟨0, _⟩ => ⟨S256x2048, .f32⟩
  | .local _ .vmem, ⟨1, _⟩ => ⟨S256x2048, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x2048, .bf16⟩
  | .local _ .vmem, ⟨9, _⟩ => ⟨S256x2048, .bf16⟩
  | .local _ .vmem, ⟨10, _⟩ => ⟨S256x1024, .f32⟩
  | .local _ .vmem, ⟨11, _⟩ => ⟨S256x1024, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S256x2048, .bf16⟩
  | .local _ .vmem, ⟨21, _⟩ => ⟨S256x2048, .bf16⟩
  | .local _ .vmem, ⟨22, _⟩ => ⟨S256x2048, .f32⟩
  | .local _ .vmem, ⟨23, _⟩ => ⟨S256x2048, .f32⟩
  | .local _ .vmem, ⟨24, _⟩ => ⟨S256x128, .f32⟩
  | .local _ .vmem, ⟨25, _⟩ => ⟨S256x128, .f32⟩
  | .local _ .vmem, ⟨26, _⟩ => ⟨S256x128, .f32⟩
  | .local _ .vmem, ⟨27, _⟩ => ⟨S256x128, .f32⟩
  | .local _ .vmem, ⟨28, _⟩ => ⟨S256x128, .f32⟩
  | .local _ .vmem, ⟨29, _⟩ => ⟨S256x128, .f32⟩
  | .local _ .vmem, ⟨30, _⟩ => ⟨S256x2048, .bf16⟩
  | .local _ .vmem, ⟨31, _⟩ => ⟨S256x2048, .bf16⟩
  | .local _ .vmem, ⟨32, _⟩ => ⟨S256x2048, .f32⟩
  | .local _ .vmem, ⟨33, _⟩ => ⟨S256x2048, .f32⟩
  | .local _ .vmem, ⟨34, _⟩ => ⟨S256x1024, .f32⟩
  | .local _ .vmem, ⟨35, _⟩ => ⟨S256x1024, .f32⟩
  | .local _ .vmem, ⟨36, _⟩ => ⟨S256x128, .f32⟩
  | .local _ .vmem, ⟨37, _⟩ => ⟨S256x128, .f32⟩
  | .local _ .vmem, ⟨38, _⟩ => ⟨S256x128, .f32⟩
  | .local _ .vmem, ⟨39, _⟩ => ⟨S256x128, .f32⟩
  | .local _ .vmem, ⟨40, _⟩ => ⟨S256x128, .f32⟩
  | .local _ .vmem, ⟨41, _⟩ => ⟨S256x128, .f32⟩
  | .local _ .vmem, ⟨42, _⟩ => ⟨S256x2048, .bf16⟩
  | .local _ .vmem, ⟨43, _⟩ => ⟨S256x2048, .bf16⟩
  | .local _ .vmem, ⟨44, _⟩ => ⟨S256x128, .f32⟩
  | .local _ .vmem, ⟨45, _⟩ => ⟨S256x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30_0 : Ref sig .tc := ⟨.hbm, 46, rfl⟩
abbrev main_v30_1 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg3_1 : Ref sig .tc := ⟨.vmem, 29, rfl⟩
abbrev cc2_stg4_0 : Ref sig .tc := ⟨.vmem, 30, rfl⟩
abbrev cc2_stg4_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg1_1 : Ref sig .tc := ⟨.vmem, 35, rfl⟩
abbrev cc3_stg2_0 : Ref sig .tc := ⟨.vmem, 36, rfl⟩
abbrev cc3_stg2_1 : Ref sig .tc := ⟨.vmem, 37, rfl⟩
abbrev cc3_stg3_0 : Ref sig .tc := ⟨.vmem, 38, rfl⟩
abbrev cc3_stg3_1 : Ref sig .tc := ⟨.vmem, 39, rfl⟩
abbrev cc3_stg4_0 : Ref sig .tc := ⟨.vmem, 40, rfl⟩
abbrev cc3_stg4_1 : Ref sig .tc := ⟨.vmem, 41, rfl⟩
abbrev cc3_stg5_0 : Ref sig .tc := ⟨.vmem, 42, rfl⟩
abbrev cc3_stg5_1 : Ref sig .tc := ⟨.vmem, 43, rfl⟩
abbrev cc3_stg6_0 : Ref sig .tc := ⟨.vmem, 44, rfl⟩
abbrev cc3_stg6_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem3_1 : DmaSem sig := 29
abbrev cc2_sem4_0 : DmaSem sig := 30
abbrev cc2_sem4_1 : DmaSem sig := 31
abbrev cc3_sem0_0 : DmaSem sig := 32
abbrev cc3_sem0_1 : DmaSem sig := 33
abbrev cc3_sem1_0 : DmaSem sig := 34
abbrev cc3_sem1_1 : DmaSem sig := 35
abbrev cc3_sem2_0 : DmaSem sig := 36
abbrev cc3_sem2_1 : DmaSem sig := 37
abbrev cc3_sem3_0 : DmaSem sig := 38
abbrev cc3_sem3_1 : DmaSem sig := 39
abbrev cc3_sem4_0 : DmaSem sig := 40
abbrev cc3_sem4_1 : DmaSem sig := 41
abbrev cc3_sem5_0 : DmaSem sig := 42
abbrev cc3_sem5_1 : DmaSem sig := 43
abbrev cc3_sem6_0 : DmaSem sig := 44
abbrev cc3_sem6_1 : DmaSem sig := 45

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x2048 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S256x2048 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S256x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S256x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S256x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S256x2048 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S256x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]
-- ==== ReferenceRopeIdeal.lean ====
abbrev S2048x2048 : Shape := ⟨2, ![2048, 2048]⟩
abbrev S2048x128 : Shape := ⟨2, ![2048, 128]⟩
abbrev S2048 : Shape := ⟨1, ![2048]⟩
abbrev S2048x1024 : Shape := ⟨2, ![2048, 1024]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x8x256 : Shape := ⟨3, ![2048, 8, 256]⟩
abbrev S2048x8x64 : Shape := ⟨3, ![2048, 8, 64]⟩
abbrev S2048x1x32 : Shape := ⟨3, ![2048, 1, 32]⟩
abbrev S2048x8x32 : Shape := ⟨3, ![2048, 8, 32]⟩
abbrev S2048x8x128 : Shape := ⟨3, ![2048, 8, 128]⟩
abbrev S2048x64 : Shape := ⟨2, ![2048, 64]⟩
abbrev S2048x1x64 : Shape := ⟨3, ![2048, 1, 64]⟩

abbrev nBuf : Space → Nat
  | .hbm => 139
  | .vmem => 0
  | .smem => 0
  | _ => 0

abbrev hbmTy0_0 (i : Nat) : BufTy := match i % 128 with
  | 0 => ⟨S2048x2048, .f32⟩
  | 1 => ⟨S2048x2048, .f32⟩
  | 2 => ⟨S2048x128, .f32⟩
  | 3 => ⟨S2048, .i32⟩
  | 4 => ⟨S2048x2048, .f32⟩
  | 5 => ⟨S2048x2048, .f32⟩
  | 6 => ⟨S2048x1024, .f32⟩
  | 7 => ⟨S32, .f32⟩
  | 8 => ⟨S_, .f32⟩
  | 9 => ⟨S32, .f32⟩
  | 10 => ⟨S32, .f32⟩
  | 11 => ⟨S_, .f32⟩
  | 12 => ⟨S32, .f32⟩
  | 13 => ⟨S32, .f32⟩
  | 14 => ⟨S_, .f32⟩
  | 15 => ⟨S32, .f32⟩
  | 16 => ⟨S32, .f32⟩
  | 17 => ⟨S_, .f32⟩
  | 18 => ⟨S32, .f32⟩
  | 19 => ⟨S32, .f32⟩
  | 20 => ⟨S_, .f32⟩
  | 21 => ⟨S32, .f32⟩
  | 22 => ⟨S32, .f32⟩
  | 23 => ⟨S2048, .f32⟩
  | 24 => ⟨S2048x1, .f32⟩
  | 25 => ⟨S1x32, .f32⟩
  | 26 => ⟨S2048x32, .f32⟩
  | 27 => ⟨S2048x32, .f32⟩
  | 28 => ⟨S2048x32, .f32⟩
  | 29 => ⟨S2048x32, .f32⟩
  | 30 => ⟨S2048x32, .f32⟩
  | 31 => ⟨S2048x8x256, .f32⟩
  | 32 => ⟨S2048x8x64, .f32⟩
  | 33 => ⟨S2048x1x32, .f32⟩
  | 34 => ⟨S2048x1x32, .f32⟩
  | 35 => ⟨S2048x8x32, .f32⟩
  | 36 => ⟨S2048x8x32, .f32⟩
  | 37 => ⟨S2048x8x32, .f32⟩
  | 38 => ⟨S2048x8x32, .f32⟩
  | 39 => ⟨S2048x8x32, .f32⟩
  | 40 => ⟨S2048x8x32, .f32⟩
  | 41 => ⟨S2048x8x32, .f32⟩
  | 42 => ⟨S2048x8x32, .f32⟩
  | 43 => ⟨S2048x8x32, .f32⟩
  | 44 => ⟨S2048x8x32, .f32⟩
  | 45 => ⟨S2048x8x32, .f32⟩
  | 46 => ⟨S2048x8x32, .f32⟩
  | 47 => ⟨S2048x8x64, .f32⟩
  | 48 => ⟨S2048x8x128, .f32⟩
  | 49 => ⟨S_, .f32⟩
  | 50 => ⟨S2048x8x64, .f32⟩
  | 51 => ⟨S2048x8x256, .f32⟩
  | 52 => ⟨S_, .f32⟩
  | 53 => ⟨S2048x8x64, .f32⟩
  | 54 => ⟨S2048x2048, .f32⟩
  | 55 => ⟨S2048x64, .f32⟩
  | 56 => ⟨S2048x32, .f32⟩
  | 57 => ⟨S2048x32, .f32⟩
  | 58 => ⟨S2048x32, .f32⟩
  | 59 => ⟨S2048x32, .f32⟩
  | 60 => ⟨S2048x32, .f32⟩
  | 61 => ⟨S2048x32, .f32⟩
  | 62 => ⟨S2048x32, .f32⟩
  | 63 => ⟨S2048x32, .f32⟩
  | 64 => ⟨S2048x64, .f32⟩
  | 65 => ⟨S2048x1x64, .f32⟩
  | 66 => ⟨S2048x8x64, .f32⟩
  | 67 => ⟨S2048x1024, .f32⟩
  | 68 => ⟨S2048x8x128, .f32⟩
  | 69 => ⟨S_, .f32⟩
  | 70 => ⟨S2048x8x64, .f32⟩
  | 71 => ⟨S2048x8x256, .f32⟩
  | 72 => ⟨S_, .f32⟩
  | 73 => ⟨S2048x8x64, .f32⟩
  | 74 => ⟨S2048x2048, .f32⟩
  | 75 => ⟨S2048x1024, .f32⟩
  | 76 => ⟨S_, .f32⟩
  | 77 => ⟨S2048x2048, .f32⟩
  | 78 => ⟨S2048x8x256, .f32⟩
  | 79 => ⟨S2048x8x128, .f32⟩
  | 80 => ⟨S2048x8x64, .f32⟩
  | 81 => ⟨S2048x8x64, .f32⟩
  | 82 => ⟨S2048x1024, .f32⟩
  | 83 => ⟨S_, .f32⟩
  | 84 => ⟨S2048x2048, .f32⟩
  | 85 => ⟨S2048x2048, .f32⟩
  | 86 => ⟨S_, .f32⟩
  | 87 => ⟨S2048x64, .f32⟩
  | 88 => ⟨S2048x1x64, .f32⟩
  | 89 => ⟨S_, .f32⟩
  | 90 => ⟨S2048x64, .f32⟩
  | 91 => ⟨S2048x32, .f32⟩
  | 92 => ⟨S2048x32, .f32⟩
  | 93 => ⟨S2048x32, .f32⟩
  | 94 => ⟨S2048x32, .f32⟩
  | 95 => ⟨S2048x32, .f32⟩
  | 96 => ⟨S2048x32, .f32⟩
  | 97 => ⟨S2048x32, .f32⟩
  | 98 => ⟨S2048x32, .f32⟩
  | 99 => ⟨S2048x32, .f32⟩
  | 100 => ⟨S_, .f32⟩
  | 101 => ⟨S2048x64, .f32⟩
  | 102 => ⟨S_, .f32⟩
  | 103 => ⟨S2048x64, .f32⟩
  | 104 => ⟨S2048x64, .f32⟩
  | 105 => ⟨S_, .f32⟩
  | 106 => ⟨S2048x128, .f32⟩
  | 107 => ⟨S2048x2048, .bf16⟩
  | 108 => ⟨S2048x2048, .bf16⟩
  | 109 => ⟨S2048x8x256, .f32⟩
  | 110 => ⟨S2048x8x128, .f32⟩
  | 111 => ⟨S2048x8x64, .f32⟩
  | 112 => ⟨S2048x8x64, .f32⟩
  | 113 => ⟨S_, .f32⟩
  | 114 => ⟨S2048x8x256, .f32⟩
  | 115 => ⟨S2048x8x32, .f32⟩
  | 116 => ⟨S2048x8x32, .f32⟩
  | 117 => ⟨S2048x8x32, .f32⟩
  | 118 => ⟨S2048x8x32, .f32⟩
  | 119 => ⟨S2048x8x32, .f32⟩
  | 120 => ⟨S2048x8x32, .f32⟩
  | 121 => ⟨S2048x8x32, .f32⟩
  | 122 => ⟨S2048x8x32, .f32⟩
  | 123 => ⟨S2048x8x32, .f32⟩
  | 124 => ⟨S2048x8x32, .f32⟩
  | 125 => ⟨S2048x8x32, .f32⟩
  | 126 => ⟨S2048x8x32, .f32⟩
  | 127 => ⟨S2048x8x32, .f32⟩
  | _ => ⟨S2048x2048, .f32⟩

abbrev hbmTy0_1 (i : Nat) : BufTy := match i % 128 with
  | 0 => ⟨S_, .f32⟩
  | 1 => ⟨S2048x8x64, .f32⟩
  | 2 => ⟨S_, .f32⟩
  | 3 => ⟨S2048x8x64, .f32⟩
  | 4 => ⟨S2048x8x64, .f32⟩
  | 5 => ⟨S_, .f32⟩
  | 6 => ⟨S2048x8x256, .f32⟩
  | 7 => ⟨S2048x8x256, .f32⟩
  | 8 => ⟨S2048x2048, .f32⟩
  | 9 => ⟨S2048x2048, .bf16⟩
  | 10 => ⟨S2048x2048, .bf16⟩
  | _ => ⟨S2048x2048, .f32⟩

abbrev hbmTy (i : Nat) : BufTy := match i / 128 with
  | 0 => hbmTy0_0 i
  | 1 => hbmTy0_1 i
  | _ => ⟨S2048x2048, .f32⟩

abbrev bufTy : (tb : Table) → Fin (tcTables nBuf tb) → BufTy
  | .hbm, ⟨i, _⟩ => hbmTy i
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_4 : Ref sig .tc := ⟨.hbm, 49, rfl⟩
abbrev main_v37 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_6 : Ref sig .tc := ⟨.hbm, 69, rfl⟩
abbrev main_v55 : Ref sig .tc := ⟨.hbm, 70, rfl⟩
abbrev main_v56 : Ref sig .tc := ⟨.hbm, 71, rfl⟩
abbrev main_cst_7 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_8 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_9 : Ref sig .tc := ⟨.hbm, 83, rfl⟩
abbrev main_v66 : Ref sig .tc := ⟨.hbm, 84, rfl⟩
abbrev main_v67 : Ref sig .tc := ⟨.hbm, 85, rfl⟩
abbrev main_cst_10 : Ref sig .tc := ⟨.hbm, 86, rfl⟩
abbrev main_v68 : Ref sig .tc := ⟨.hbm, 87, rfl⟩
abbrev main_v69 : Ref sig .tc := ⟨.hbm, 88, rfl⟩
abbrev main_cst_11 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_cst_12 : Ref sig .tc := ⟨.hbm, 100, rfl⟩
abbrev main_v80 : Ref sig .tc := ⟨.hbm, 101, rfl⟩
abbrev main_cst_13 : Ref sig .tc := ⟨.hbm, 102, rfl⟩
abbrev main_v81 : Ref sig .tc := ⟨.hbm, 103, rfl⟩
abbrev main_v82 : Ref sig .tc := ⟨.hbm, 104, rfl⟩
abbrev main_cst_14 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_cst_15 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_cst_16 : Ref sig .tc := ⟨.hbm, 128, rfl⟩
abbrev main_v104 : Ref sig .tc := ⟨.hbm, 129, rfl⟩
abbrev main_cst_17 : Ref sig .tc := ⟨.hbm, 130, rfl⟩
abbrev main_v105 : Ref sig .tc := ⟨.hbm, 131, rfl⟩
abbrev main_v106 : Ref sig .tc := ⟨.hbm, 132, rfl⟩
abbrev main_cst_18 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩

abbrev nD : Nat := 1
abbrev τ : Topo := Topo.v7x

variable {F : FTy → Type} [FloatOps F]
-- ==== KernelGates.lean ====
abbrev S2048x128 : Shape := ⟨2, ![2048, 128]⟩
abbrev S8 : Shape := ⟨1, ![8]⟩
abbrev S2048x8 : Shape := ⟨2, ![2048, 8]⟩
abbrev S_ : Shape := ⟨0, ![]⟩
abbrev S1x8 : Shape := ⟨2, ![1, 8]⟩
abbrev S2048x64 : Shape := ⟨2, ![2048, 64]⟩
abbrev S2048x48 : Shape := ⟨2, ![2048, 48]⟩
abbrev S1x128 : Shape := ⟨2, ![1, 128]⟩
abbrev S128 : Shape := ⟨1, ![128]⟩

abbrev nBuf : Space → Nat
  | .hbm => 53
  | .vmem => 9
  | .smem => 0
  | _ => 0

abbrev bufTy : (tb : Table) → Fin (tcTables nBuf tb) → BufTy
  | .hbm, ⟨0, _⟩ => ⟨S2048x128, .f32⟩
  | .hbm, ⟨1, _⟩ => ⟨S8, .f32⟩
  | .hbm, ⟨2, _⟩ => ⟨S8, .f32⟩
  | .hbm, ⟨3, _⟩ => ⟨S2048x128, .f32⟩
  | .hbm, ⟨4, _⟩ => ⟨S2048x128, .f32⟩
  | .hbm, ⟨5, _⟩ => ⟨S2048x8, .f32⟩
  | .hbm, ⟨6, _⟩ => ⟨S2048x8, .f32⟩
  | .hbm, ⟨7, _⟩ => ⟨S2048x8, .f32⟩
  | .hbm, ⟨8, _⟩ => ⟨S_, .f32⟩
  | .hbm, ⟨9, _⟩ => ⟨S2048x8, .f32⟩
  | .hbm, ⟨10, _⟩ => ⟨S2048x8, .f32⟩
  | .hbm, ⟨11, _⟩ => ⟨S_, .f32⟩
  | .hbm, ⟨12, _⟩ => ⟨S2048x8, .f32⟩
  | .hbm, ⟨13, _⟩ => ⟨S2048x8, .f32⟩
  | .hbm, ⟨14, _⟩ => ⟨S8, .f32⟩
  | .hbm, ⟨15, _⟩ => ⟨S8, .f32⟩
  | .hbm, ⟨16, _⟩ => ⟨S2048x8, .f32⟩
  | .hbm, ⟨17, _⟩ => ⟨S1x8, .f32⟩
  | .hbm, ⟨18, _⟩ => ⟨S2048x8, .f32⟩
  | .hbm, ⟨19, _⟩ => ⟨S2048x8, .f32⟩
  | .hbm, ⟨20, _⟩ => ⟨S_, .f32⟩
  | .hbm, ⟨21, _⟩ => ⟨S2048x8, .f32⟩
  | .hbm, ⟨22, _⟩ => ⟨S2048x8, .f32⟩
  | .hbm, ⟨23, _⟩ => ⟨S2048x8, .f32⟩
  | .hbm, ⟨24, _⟩ => ⟨S2048x8, .f32⟩
  | .hbm, ⟨25, _⟩ => ⟨S2048x8, .i1⟩
  | .hbm, ⟨26, _⟩ => ⟨S2048x8, .f32⟩
  | .hbm, ⟨27, _⟩ => ⟨S2048x8, .f32⟩
  | .hbm, ⟨28, _⟩ => ⟨S2048x8, .f32⟩
  | .hbm, ⟨29, _⟩ => ⟨S2048x8, .f32⟩
  | .hbm, ⟨30, _⟩ => ⟨S2048x8, .f32⟩
  | .hbm, ⟨31, _⟩ => ⟨S2048x8, .f32⟩
  | .hbm, ⟨32, _⟩ => ⟨S2048x8, .f32⟩
  | .hbm, ⟨33, _⟩ => ⟨S2048x8, .f32⟩
  | .hbm, ⟨34, _⟩ => ⟨S1x8, .f32⟩
  | .hbm, ⟨35, _⟩ => ⟨S2048x8, .f32⟩
  | .hbm, ⟨36, _⟩ => ⟨S2048x8, .f32⟩
  | .hbm, ⟨37, _⟩ => ⟨S_, .f32⟩
  | .hbm, ⟨38, _⟩ => ⟨S2048x64, .f32⟩
  | .hbm, ⟨39, _⟩ => ⟨S_, .f32⟩
  | .hbm, ⟨40, _⟩ => ⟨S2048x48, .f32⟩
  | .hbm, ⟨41, _⟩ => ⟨S2048x128, .f32⟩
  | .hbm, ⟨42, _⟩ => ⟨S1x8, .f32⟩
  | .hbm, ⟨43, _⟩ => ⟨S_, .i32⟩
  | .hbm, ⟨44, _⟩ => ⟨S_, .f32⟩
  | .hbm, ⟨45, _⟩ => ⟨S1x128, .f32⟩
  | .hbm, ⟨46, _⟩ => ⟨S1x8, .f32⟩
  | .hbm, ⟨47, _⟩ => ⟨S_, .i32⟩
  | .hbm, ⟨48, _⟩ => ⟨S_, .f32⟩
  | .hbm, ⟨49, _⟩ => ⟨S1x128, .f32⟩
  | .hbm, ⟨50, _⟩ => ⟨S2048x128, .bf16⟩
  | .hbm, ⟨51, _⟩ => ⟨S1x128, .f32⟩
  | .hbm, ⟨52, _⟩ => ⟨S1x128, .f32⟩
  | .local _ .vmem, ⟨0, _⟩ => ⟨S2048x128, .f32⟩
  | .local _ .vmem, ⟨1, _⟩ => ⟨S1x128, .f32⟩
  | .local _ .vmem, ⟨2, _⟩ => ⟨S1x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .bf16⟩
  | .local _ .vmem, ⟨7, _⟩ => ⟨S1x128, .f32⟩
  | .local _ .vmem, ⟨8, _⟩ => ⟨S1x128, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_1 : Ref sig .tc := ⟨.hbm, 37, rfl⟩
abbrev main_v17 : Ref sig .tc := ⟨.hbm, 38, rfl⟩
abbrev main_cst_2 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c : Ref sig .tc := ⟨.hbm, 43, rfl⟩
abbrev main_call1_v0 : Ref sig .tc := ⟨.hbm, 44, rfl⟩
abbrev main_v21 : Ref sig .tc := ⟨.hbm, 45, rfl⟩
abbrev main_v22 : Ref sig .tc := ⟨.hbm, 46, rfl⟩
abbrev main_c_3 : Ref sig .tc := ⟨.hbm, 47, rfl⟩
abbrev main_call2_v0 : Ref sig .tc := ⟨.hbm, 48, rfl⟩
abbrev main_v23 : Ref sig .tc := ⟨.hbm, 49, rfl⟩
abbrev main_v24_0 : Ref sig .tc := ⟨.hbm, 50, rfl⟩
abbrev main_v24_1 : Ref sig .tc := ⟨.hbm, 51, rfl⟩
abbrev main_v24_2 : Ref sig .tc := ⟨.hbm, 52, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceGatesIdeal.lean ====
abbrev S2048x128 : Shape := ⟨2, ![2048, 128]⟩
abbrev S8 : Shape := ⟨1, ![8]⟩
abbrev S2048x8 : Shape := ⟨2, ![2048, 8]⟩
abbrev S_ : Shape := ⟨0, ![]⟩
abbrev S1x8 : Shape := ⟨2, ![1, 8]⟩
abbrev S2048x64 : Shape := ⟨2, ![2048, 64]⟩
abbrev S32x64x8 : Shape := ⟨3, ![32, 64, 8]⟩
abbrev S1x72 : Shape := ⟨2, ![1, 72]⟩
abbrev S1x48 : Shape := ⟨2, ![1, 48]⟩
abbrev S1x128 : Shape := ⟨2, ![1, 128]⟩

abbrev nBuf : Space → Nat
  | .hbm => 125
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S8, .f32⟩
  | .hbm, ⟨2, _⟩ => ⟨S8, .f32⟩
  | .hbm, ⟨3, _⟩ => ⟨S2048x128, .f32⟩
  | .hbm, ⟨4, _⟩ => ⟨S2048x128, .f32⟩
  | .hbm, ⟨5, _⟩ => ⟨S2048x8, .f32⟩
  | .hbm, ⟨6, _⟩ => ⟨S2048x8, .f32⟩
  | .hbm, ⟨7, _⟩ => ⟨S2048x8, .f32⟩
  | .hbm, ⟨8, _⟩ => ⟨S_, .f32⟩
  | .hbm, ⟨9, _⟩ => ⟨S2048x8, .f32⟩
  | .hbm, ⟨10, _⟩ => ⟨S2048x8, .f32⟩
  | .hbm, ⟨11, _⟩ => ⟨S_, .f32⟩
  | .hbm, ⟨12, _⟩ => ⟨S2048x8, .f32⟩
  | .hbm, ⟨13, _⟩ => ⟨S2048x8, .f32⟩
  | .hbm, ⟨14, _⟩ => ⟨S_, .f32⟩
  | .hbm, ⟨15, _⟩ => ⟨S2048x8, .f32⟩
  | .hbm, ⟨16, _⟩ => ⟨S2048x8, .f32⟩
  | .hbm, ⟨17, _⟩ => ⟨S2048x8, .f32⟩
  | .hbm, ⟨18, _⟩ => ⟨S8, .f32⟩
  | .hbm, ⟨19, _⟩ => ⟨S8, .f32⟩
  | .hbm, ⟨20, _⟩ => ⟨S2048x8, .f32⟩
  | .hbm, ⟨21, _⟩ => ⟨S1x8, .f32⟩
  | .hbm, ⟨22, _⟩ => ⟨S2048x8, .f32⟩
  | .hbm, ⟨23, _⟩ => ⟨S2048x8, .f32⟩
  | .hbm, ⟨24, _⟩ => ⟨S_, .f32⟩
  | .hbm, ⟨25, _⟩ => ⟨S2048x8, .f32⟩
  | .hbm, ⟨26, _⟩ => ⟨S2048x8, .f32⟩
  | .hbm, ⟨27, _⟩ => ⟨S2048x8, .f32⟩
  | .hbm, ⟨28, _⟩ => ⟨S2048x8, .f32⟩
  | .hbm, ⟨29, _⟩ => ⟨S2048x8, .i1⟩
  | .hbm, ⟨30, _⟩ => ⟨S2048x8, .f32⟩
  | .hbm, ⟨31, _⟩ => ⟨S2048x8, .f32⟩
  | .hbm, ⟨32, _⟩ => ⟨S2048x8, .f32⟩
  | .hbm, ⟨33, _⟩ => ⟨S2048x8, .f32⟩
  | .hbm, ⟨34, _⟩ => ⟨S2048x8, .f32⟩
  | .hbm, ⟨35, _⟩ => ⟨S2048x8, .f32⟩
  | .hbm, ⟨36, _⟩ => ⟨S2048x8, .f32⟩
  | .hbm, ⟨37, _⟩ => ⟨S2048x8, .f32⟩
  | .hbm, ⟨38, _⟩ => ⟨S_, .f32⟩
  | .hbm, ⟨39, _⟩ => ⟨S2048x8, .f32⟩
  | .hbm, ⟨40, _⟩ => ⟨S2048x8, .i1⟩
  | .hbm, ⟨41, _⟩ => ⟨S_, .f32⟩
  | .hbm, ⟨42, _⟩ => ⟨S2048x8, .f32⟩
  | .hbm, ⟨43, _⟩ => ⟨S2048x8, .f32⟩
  | .hbm, ⟨44, _⟩ => ⟨S_, .f32⟩
  | .hbm, ⟨45, _⟩ => ⟨S2048x8, .f32⟩
  | .hbm, ⟨46, _⟩ => ⟨S2048x8, .i1⟩
  | .hbm, ⟨47, _⟩ => ⟨S_, .f32⟩
  | .hbm, ⟨48, _⟩ => ⟨S2048x8, .f32⟩
  | .hbm, ⟨49, _⟩ => ⟨S2048x8, .f32⟩
  | .hbm, ⟨50, _⟩ => ⟨S2048x8, .f32⟩
  | .hbm, ⟨51, _⟩ => ⟨S2048x8, .f32⟩
  | .hbm, ⟨52, _⟩ => ⟨S_, .f32⟩
  | .hbm, ⟨53, _⟩ => ⟨S_, .f32⟩
  | .hbm, ⟨54, _⟩ => ⟨S_, .i1⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S2048x8, .f32⟩
  | .hbm, ⟨60, _⟩ => ⟨S2048x8, .i1⟩
  | .hbm, ⟨61, _⟩ => ⟨S_, .f32⟩
  | .hbm, ⟨62, _⟩ => ⟨S2048x8, .f32⟩
  | .hbm, ⟨63, _⟩ => ⟨S2048x8, .f32⟩
  | .hbm, ⟨64, _⟩ => ⟨S2048x8, .f32⟩
  | .hbm, ⟨65, _⟩ => ⟨S2048x8, .f32⟩
  | .hbm, ⟨66, _⟩ => ⟨S2048x8, .f32⟩
  | .hbm, ⟨67, _⟩ => ⟨S_, .f32⟩
  | .hbm, ⟨68, _⟩ => ⟨S2048x8, .f32⟩
  | .hbm, ⟨69, _⟩ => ⟨S2048x8, .f32⟩
  | .hbm, ⟨70, _⟩ => ⟨S1x8, .f32⟩
  | .hbm, ⟨71, _⟩ => ⟨S2048x8, .f32⟩
  | .hbm, ⟨72, _⟩ => ⟨S2048x8, .f32⟩
  | .hbm, ⟨73, _⟩ => ⟨S2048x64, .f32⟩
  | .hbm, ⟨74, _⟩ => ⟨S32x64x8, .f32⟩
  | .hbm, ⟨75, _⟩ => ⟨S_, .f32⟩
  | .hbm, ⟨76, _⟩ => ⟨S_, .f32⟩
  | .hbm, ⟨77, _⟩ => ⟨S32x64x8, .f32⟩
  | .hbm, ⟨78, _⟩ => ⟨S2048x8, .f32⟩
  | .hbm, ⟨79, _⟩ => ⟨S2048x64, .f32⟩
  | .hbm, ⟨80, _⟩ => ⟨S2048x8, .f32⟩
  | .hbm, ⟨81, _⟩ => ⟨S2048x8, .f32⟩
  | .hbm, ⟨82, _⟩ => ⟨S32x64x8, .f32⟩
  | .hbm, ⟨83, _⟩ => ⟨S_, .f32⟩
  | .hbm, ⟨84, _⟩ => ⟨S_, .f32⟩
  | .hbm, ⟨85, _⟩ => ⟨S32x64x8, .f32⟩
  | .hbm, ⟨86, _⟩ => ⟨S2048x8, .f32⟩
  | .hbm, ⟨87, _⟩ => ⟨S_, .f32⟩
  | .hbm, ⟨88, _⟩ => ⟨S2048x128, .f32⟩
  | .hbm, ⟨89, _⟩ => ⟨S2048x8, .f32⟩
  | .hbm, ⟨90, _⟩ => ⟨S2048x8, .f32⟩
  | .hbm, ⟨91, _⟩ => ⟨S2048x8, .f32⟩
  | .hbm, ⟨92, _⟩ => ⟨S_, .f32⟩
  | .hbm, ⟨93, _⟩ => ⟨S8, .f32⟩
  | .hbm, ⟨94, _⟩ => ⟨S1x8, .f32⟩
  | .hbm, ⟨95, _⟩ => ⟨S_, .f32⟩
  | .hbm, ⟨96, _⟩ => ⟨S8, .f32⟩
  | .hbm, ⟨97, _⟩ => ⟨S2048x8, .f32⟩
  | .hbm, ⟨98, _⟩ => ⟨S_, .f32⟩
  | .hbm, ⟨99, _⟩ => ⟨S8, .f32⟩
  | .hbm, ⟨100, _⟩ => ⟨S1x8, .f32⟩
  | .hbm, ⟨101, _⟩ => ⟨S_, .f32⟩
  | .hbm, ⟨102, _⟩ => ⟨S8, .f32⟩
  | .hbm, ⟨103, _⟩ => ⟨S_, .f32⟩
  | .hbm, ⟨104, _⟩ => ⟨S2048x128, .f32⟩
  | .hbm, ⟨105, _⟩ => ⟨S2048x128, .f32⟩
  | .hbm, ⟨106, _⟩ => ⟨S8, .f32⟩
  | .hbm, ⟨107, _⟩ => ⟨S8, .f32⟩
  | .hbm, ⟨108, _⟩ => ⟨S2048x8, .f32⟩
  | .hbm, ⟨109, _⟩ => ⟨S_, .f32⟩
  | .hbm, ⟨110, _⟩ => ⟨S2048x128, .f32⟩
  | .hbm, ⟨111, _⟩ => ⟨S2048x128, .f32⟩
  | .hbm, ⟨112, _⟩ => ⟨S2048x128, .bf16⟩
  | .hbm, ⟨113, _⟩ => ⟨S_, .f32⟩
  | .hbm, ⟨114, _⟩ => ⟨S1x72, .f32⟩
  | .hbm, ⟨115, _⟩ => ⟨S1x8, .f32⟩
  | .hbm, ⟨116, _⟩ => ⟨S_, .f32⟩
  | .hbm, ⟨117, _⟩ => ⟨S1x48, .f32⟩
  | .hbm, ⟨118, _⟩ => ⟨S1x128, .f32⟩
  | .hbm, ⟨119, _⟩ => ⟨S_, .f32⟩
  | .hbm, ⟨120, _⟩ => ⟨S1x72, .f32⟩
  | .hbm, ⟨121, _⟩ => ⟨S1x8, .f32⟩
  | .hbm, ⟨122, _⟩ => ⟨S_, .f32⟩
  | .hbm, ⟨123, _⟩ => ⟨S1x48, .f32⟩
  | .hbm, ⟨124, _⟩ => ⟨S1x128, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_cst : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_v16_0 : Ref sig .tc := ⟨.hbm, 37, rfl⟩
abbrev main_call0_cst_0 : Ref sig .tc := ⟨.hbm, 38, rfl⟩
abbrev main_call0_v13 : Ref sig .tc := ⟨.hbm, 39, rfl⟩
abbrev main_call0_v14 : Ref sig .tc := ⟨.hbm, 40, rfl⟩
abbrev main_call0_cst_1 : Ref sig .tc := ⟨.hbm, 41, rfl⟩
abbrev main_call0_v15 : Ref sig .tc := ⟨.hbm, 42, rfl⟩
abbrev main_call0_v16 : Ref sig .tc := ⟨.hbm, 43, rfl⟩
abbrev main_call0_cst_2 : Ref sig .tc := ⟨.hbm, 44, rfl⟩
abbrev main_call0_v17 : Ref sig .tc := ⟨.hbm, 45, rfl⟩
abbrev main_call0_v18 : Ref sig .tc := ⟨.hbm, 46, rfl⟩
abbrev main_call0_cst_3 : Ref sig .tc := ⟨.hbm, 47, rfl⟩
abbrev main_call0_v19 : Ref sig .tc := ⟨.hbm, 48, rfl⟩
abbrev main_call0_v20 : Ref sig .tc := ⟨.hbm, 49, rfl⟩
abbrev main_call0_v21 : Ref sig .tc := ⟨.hbm, 50, rfl⟩
abbrev main_v16_1 : Ref sig .tc := ⟨.hbm, 51, rfl⟩
abbrev main_call0_cst_4 : Ref sig .tc := ⟨.hbm, 52, rfl⟩
abbrev main_call0_cst_5 : Ref sig .tc := ⟨.hbm, 53, rfl⟩
abbrev main_call0_v23 : Ref sig .tc := ⟨.hbm, 54, rfl⟩
abbrev main_call0_cst_6 : Ref sig .tc := ⟨.hbm, 55, rfl⟩
abbrev main_call0_cst_7 : Ref sig .tc := ⟨.hbm, 56, rfl⟩
abbrev main_call0_v24 : Ref sig .tc := ⟨.hbm, 57, rfl⟩
abbrev main_call0_cst_8 : Ref sig .tc := ⟨.hbm, 58, rfl⟩
abbrev main_call0_v25 : Ref sig .tc := ⟨.hbm, 59, rfl⟩
abbrev main_call0_v26 : Ref sig .tc := ⟨.hbm, 60, rfl⟩
abbrev main_call0_cst_9 : Ref sig .tc := ⟨.hbm, 61, rfl⟩
abbrev main_call0_v27 : Ref sig .tc := ⟨.hbm, 62, rfl⟩
abbrev main_call0_v28 : Ref sig .tc := ⟨.hbm, 63, rfl⟩
abbrev main_call0_v29 : Ref sig .tc := ⟨.hbm, 64, rfl⟩
abbrev main_call0_v30 : Ref sig .tc := ⟨.hbm, 65, rfl⟩
abbrev main_call0_v31 : Ref sig .tc := ⟨.hbm, 66, rfl⟩
abbrev main_call0_cst_10 : Ref sig .tc := ⟨.hbm, 67, rfl⟩
abbrev main_call0_v32 : Ref sig .tc := ⟨.hbm, 68, rfl⟩
abbrev main_v16_2 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_v20 : Ref sig .tc := ⟨.hbm, 73, rfl⟩
abbrev main_v21 : Ref sig .tc := ⟨.hbm, 74, rfl⟩
abbrev main_call1_call0_cst : Ref sig .tc := ⟨.hbm, 75, rfl⟩
abbrev main_call1_call0_v0 : Ref sig .tc := ⟨.hbm, 76, rfl⟩
abbrev main_v22 : Ref sig .tc := ⟨.hbm, 77, rfl⟩
abbrev main_v23 : Ref sig .tc := ⟨.hbm, 78, rfl⟩
abbrev main_v24 : Ref sig .tc := ⟨.hbm, 79, rfl⟩
abbrev main_v25 : Ref sig .tc := ⟨.hbm, 80, rfl⟩
abbrev main_v26 : Ref sig .tc := ⟨.hbm, 81, rfl⟩
abbrev main_v27 : Ref sig .tc := ⟨.hbm, 82, rfl⟩
abbrev main_call2_call0_cst : Ref sig .tc := ⟨.hbm, 83, rfl⟩
abbrev main_call2_call0_v0 : Ref sig .tc := ⟨.hbm, 84, rfl⟩
abbrev main_v28 : Ref sig .tc := ⟨.hbm, 85, rfl⟩
abbrev main_v29 : Ref sig .tc := ⟨.hbm, 86, rfl⟩
abbrev main_cst_2 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_cst_3 : Ref sig .tc := ⟨.hbm, 92, rfl⟩
abbrev main_v34 : Ref sig .tc := ⟨.hbm, 93, rfl⟩
abbrev main_v35 : Ref sig .tc := ⟨.hbm, 94, rfl⟩
abbrev main_cst_4 : Ref sig .tc := ⟨.hbm, 95, rfl⟩
abbrev main_v36 : Ref sig .tc := ⟨.hbm, 96, rfl⟩
abbrev main_v37 : Ref sig .tc := ⟨.hbm, 97, rfl⟩
abbrev main_cst_5 : Ref sig .tc := ⟨.hbm, 98, rfl⟩
abbrev main_v38 : Ref sig .tc := ⟨.hbm, 99, rfl⟩
abbrev main_v39 : Ref sig .tc := ⟨.hbm, 100, rfl⟩
abbrev main_cst_6 : Ref sig .tc := ⟨.hbm, 101, rfl⟩
abbrev main_v40 : Ref sig .tc := ⟨.hbm, 102, rfl⟩
abbrev main_cst_7 : Ref sig .tc := ⟨.hbm, 103, rfl⟩
abbrev main_v41 : Ref sig .tc := ⟨.hbm, 104, rfl⟩
abbrev main_v42 : Ref sig .tc := ⟨.hbm, 105, rfl⟩
abbrev main_v43 : Ref sig .tc := ⟨.hbm, 106, rfl⟩
abbrev main_v44 : Ref sig .tc := ⟨.hbm, 107, rfl⟩
abbrev main_v45 : Ref sig .tc := ⟨.hbm, 108, rfl⟩
abbrev main_cst_8 : Ref sig .tc := ⟨.hbm, 109, rfl⟩
abbrev main_v46 : Ref sig .tc := ⟨.hbm, 110, rfl⟩
abbrev main_v47 : Ref sig .tc := ⟨.hbm, 111, rfl⟩
abbrev main_v48 : Ref sig .tc := ⟨.hbm, 112, rfl⟩
abbrev main_cst_9 : Ref sig .tc := ⟨.hbm, 113, rfl⟩
abbrev main_v49 : Ref sig .tc := ⟨.hbm, 114, rfl⟩
abbrev main_v50 : Ref sig .tc := ⟨.hbm, 115, rfl⟩
abbrev main_cst_10 : Ref sig .tc := ⟨.hbm, 116, rfl⟩
abbrev main_v51 : Ref sig .tc := ⟨.hbm, 117, rfl⟩
abbrev main_v52 : Ref sig .tc := ⟨.hbm, 118, rfl⟩
abbrev main_cst_11 : Ref sig .tc := ⟨.hbm, 119, rfl⟩
abbrev main_v53 : Ref sig .tc := ⟨.hbm, 120, rfl⟩
abbrev main_v54 : Ref sig .tc := ⟨.hbm, 121, rfl⟩
abbrev main_cst_12 : Ref sig .tc := ⟨.hbm, 122, rfl⟩
abbrev main_v55 : Ref sig .tc := ⟨.hbm, 123, rfl⟩
abbrev main_v56 : Ref sig .tc := ⟨.hbm, 124, rfl⟩

abbrev nD : Nat := 1
abbrev τ : Topo := Topo.v7x

variable {F : FTy → Type} [FloatOps F]
-- ==== KernelRes.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S2048x2048, .f32⟩
  | .hbm, ⟨7, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | .local _ .vmem, ⟨10, _⟩ => ⟨S1x2048, .f32⟩
  | .local _ .vmem, ⟨11, _⟩ => ⟨S1x2048, .f32⟩
  | .local _ .vmem, ⟨12, _⟩ => ⟨S256x2048, .bf16⟩
  | .local _ .vmem, ⟨13, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x2048 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ReferenceResIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 32
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S1x2048, .f32⟩
  | .hbm, ⟨26, _⟩ => ⟨S1x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== KernelResB.lean ====
abbrev S2048x2048 : Shape := ⟨2, ![2048, 2048]⟩
abbrev S1x2048 : Shape := ⟨2, ![1, 2048]⟩
abbrev S256x2048 : Shape := ⟨2, ![256, 2048]⟩
abbrev S2048 : Shape := ⟨1, ![2048]⟩

abbrev nBuf : Space → Nat
  | .hbm => 5
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .bf16⟩
  | .local _ .vmem, ⟨7, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceResBIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048, .f32⟩
  | .hbm, ⟨10, _⟩ => ⟨S1x2048, .f32⟩
  | .hbm, ⟨11, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== KernelLoss.lean ====
abbrev S2048x2048 : Shape := ⟨2, ![2048, 2048]⟩
abbrev S1x2048 : Shape := ⟨2, ![1, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩
abbrev S2048 : Shape := ⟨1, ![2048]⟩

abbrev nBuf : Space → Nat
  | .hbm => 6
  | .vmem => 9
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S1x128, .f32⟩
  | .hbm, ⟨4, _⟩ => ⟨S2048x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S1x128, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceLossIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩
abbrev S1x128 : Shape := ⟨2, ![1, 128]⟩

abbrev nBuf : Space → Nat
  | .hbm => 69
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S2048, .f32⟩
  | .hbm, ⟨29, _⟩ => ⟨S_, .f32⟩
  | .hbm, ⟨30, _⟩ => ⟨S2048, .f32⟩
  | .hbm, ⟨31, _⟩ => ⟨S2048, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S2048, .f32⟩
  | .hbm, ⟨40, _⟩ => ⟨S_, .f32⟩
  | .hbm, ⟨41, _⟩ => ⟨S2048, .f32⟩
  | .hbm, ⟨42, _⟩ => ⟨S2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S_, .f32⟩
  | .hbm, ⟨53, _⟩ => ⟨S2048, .f32⟩
  | .hbm, ⟨54, _⟩ => ⟨S2048x1, .f32⟩
  | .hbm, ⟨55, _⟩ => ⟨S2048x2048, .f32⟩
  | .hbm, ⟨56, _⟩ => ⟨S2048x2048, .f32⟩
  | .hbm, ⟨57, _⟩ => ⟨S2048x1, .f32⟩
  | .hbm, ⟨58, _⟩ => ⟨S_, .f32⟩
  | .hbm, ⟨59, _⟩ => ⟨S2048x1, .f32⟩
  | .hbm, ⟨60, _⟩ => ⟨S2048x1, .f32⟩
  | .hbm, ⟨61, _⟩ => ⟨S_, .f32⟩
  | .hbm, ⟨62, _⟩ => ⟨S2048, .f32⟩
  | .hbm, ⟨63, _⟩ => ⟨S2048x2048, .f32⟩
  | .hbm, ⟨64, _⟩ => ⟨S2048x2048, .f32⟩
  | .hbm, ⟨65, _⟩ => ⟨S2048x2048, .f32⟩
  | .hbm, ⟨66, _⟩ => ⟨S2048x2048, .f32⟩
  | .hbm, ⟨67, _⟩ => ⟨S2048x2048, .f32⟩
  | .hbm, ⟨68, _⟩ => ⟨S1x128, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== KernelAda.lean ====
abbrev S8x2048 : Shape := ⟨2, ![8, 2048]⟩
abbrev S2x2048x3072 : Shape := ⟨3, ![2, 2048, 3072]⟩
abbrev S2x3072 : Shape := ⟨2, ![2, 3072]⟩
abbrev S8x3072 : Shape := ⟨2, ![8, 3072]⟩
abbrev S_ : Shape := ⟨0, ![]⟩
abbrev S16x2048 : Shape := ⟨2, ![16, 2048]⟩
abbrev S1x3072 : Shape := ⟨2, ![1, 3072]⟩
abbrev S3072 : Shape := ⟨1, ![3072]⟩
abbrev S16x3072 : Shape := ⟨2, ![16, 3072]⟩
abbrev S1x2048x1024 : Shape := ⟨3, ![1, 2048, 1024]⟩
abbrev S16x1024 : Shape := ⟨2, ![16, 1024]⟩
abbrev S2048x1024 : Shape := ⟨2, ![2048, 1024]⟩
abbrev S2048x8 : Shape := ⟨2, ![2048, 8]⟩
abbrev S2048x128 : Shape := ⟨2, ![2048, 128]⟩
abbrev S128x3072 : Shape := ⟨2, ![128, 3072]⟩
abbrev S2048x3072 : Shape := ⟨2, ![2048, 3072]⟩
abbrev S1024x128 : Shape := ⟨2, ![1024, 128]⟩
abbrev S128x1024 : Shape := ⟨2, ![128, 1024]⟩
abbrev S1024x1024 : Shape := ⟨2, ![1024, 1024]⟩

abbrev nBuf : Space → Nat
  | .hbm => 23
  | .vmem => 15
  | .smem => 0
  | _ => 0

abbrev bufTy : (tb : Table) → Fin (tcTables nBuf tb) → BufTy
  | .hbm, ⟨0, _⟩ => ⟨S8x2048, .f32⟩
  | .hbm, ⟨1, _⟩ => ⟨S2x2048x3072, .f32⟩
  | .hbm, ⟨2, _⟩ => ⟨S2x3072, .f32⟩
  | .hbm, ⟨3, _⟩ => ⟨S8x3072, .f32⟩
  | .hbm, ⟨4, _⟩ => ⟨S_, .i32⟩
  | .hbm, ⟨5, _⟩ => ⟨S_, .f32⟩
  | .hbm, ⟨6, _⟩ => ⟨S16x2048, .f32⟩
  | .hbm, ⟨7, _⟩ => ⟨S16x2048, .f32⟩
  | .hbm, ⟨8, _⟩ => ⟨S1x3072, .f32⟩
  | .hbm, ⟨9, _⟩ => ⟨S3072, .f32⟩
  | .hbm, ⟨10, _⟩ => ⟨S1x3072, .f32⟩
  | .hbm, ⟨11, _⟩ => ⟨S16x3072, .f32⟩
  | .hbm, ⟨12, _⟩ => ⟨S16x3072, .f32⟩
  | .hbm, ⟨13, _⟩ => ⟨S8x3072, .f32⟩
  | .hbm, ⟨14, _⟩ => ⟨S8x2048, .f32⟩
  | .hbm, ⟨15, _⟩ => ⟨S2048x8, .f32⟩
  | .hbm, ⟨16, _⟩ => ⟨S_, .i32⟩
  | .hbm, ⟨17, _⟩ => ⟨S_, .f32⟩
  | .hbm, ⟨18, _⟩ => ⟨S2048x128, .f32⟩
  | .hbm, ⟨19, _⟩ => ⟨S_, .i32⟩
  | .hbm, ⟨20, _⟩ => ⟨S_, .f32⟩
  | .hbm, ⟨21, _⟩ => ⟨S128x3072, .f32⟩
  | .hbm, ⟨22, _⟩ => ⟨S2048x3072, .f32⟩
  | .local _ .vmem, ⟨0, _⟩ => ⟨S16x2048, .f32⟩
  | .local _ .vmem, ⟨1, _⟩ => ⟨S16x2048, .f32⟩
  | .local _ .vmem, ⟨2, _⟩ => ⟨S16x2048, .f32⟩
  | .local _ .vmem, ⟨3, _⟩ => ⟨S1x2048x1024, .f32⟩
  | .local _ .vmem, ⟨4, _⟩ => ⟨S1x2048x1024, .f32⟩
  | .local _ .vmem, ⟨5, _⟩ => ⟨S16x1024, .f32⟩
  | .local _ .vmem, ⟨6, _⟩ => ⟨S16x1024, .f32⟩
  | .local _ .vmem, ⟨7, _⟩ => ⟨S16x1024, .f32⟩
  | .local _ .vmem, ⟨8, _⟩ => ⟨S16x1024, .f32⟩
  | .local _ .vmem, ⟨9, _⟩ => ⟨S1024x128, .f32⟩
  | .local _ .vmem, ⟨10, _⟩ => ⟨S1024x128, .f32⟩
  | .local _ .vmem, ⟨11, _⟩ => ⟨S128x1024, .f32⟩
  | .local _ .vmem, ⟨12, _⟩ => ⟨S128x1024, .f32⟩
  | .local _ .vmem, ⟨13, _⟩ => ⟨S1024x1024, .f32⟩
  | .local _ .vmem, ⟨14, _⟩ => ⟨S1024x1024, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_call1_v0 : Ref sig .tc := ⟨.hbm, 17, rfl⟩
abbrev main_v10 : Ref sig .tc := ⟨.hbm, 18, rfl⟩
abbrev main_c_1 : Ref sig .tc := ⟨.hbm, 19, rfl⟩
abbrev main_call2_v0 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg1_0 : Ref sig .tc := ⟨.vmem, 3, rfl⟩
abbrev cc1_stg1_1 : Ref sig .tc := ⟨.vmem, 4, rfl⟩
abbrev cc1_stg2_0 : Ref sig .tc := ⟨.vmem, 5, rfl⟩
abbrev cc1_stg2_1 : Ref sig .tc := ⟨.vmem, 6, rfl⟩
abbrev cc1_stg3_0 : Ref sig .tc := ⟨.vmem, 7, rfl⟩
abbrev cc1_stg3_1 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem1_0 : DmaSem sig := 1
abbrev cc1_sem0_0 : DmaSem sig := 2
abbrev cc1_sem1_0 : DmaSem sig := 3
abbrev cc1_sem1_1 : DmaSem sig := 4
abbrev cc1_sem2_0 : DmaSem sig := 5
abbrev cc1_sem2_1 : DmaSem sig := 6
abbrev cc1_sem3_0 : DmaSem sig := 7
abbrev cc1_sem3_1 : DmaSem sig := 8
abbrev cc2_sem0_0 : DmaSem sig := 9
abbrev cc2_sem0_1 : DmaSem sig := 10
abbrev cc2_sem1_0 : DmaSem sig := 11
abbrev cc2_sem1_1 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := .none

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨2, ![1, 3], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S16x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S1x2048x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S16x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S16x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![2, 3], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S128x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]
-- ==== ReferenceAdaIdeal.lean ====
abbrev S8x2048 : Shape := ⟨2, ![8, 2048]⟩
abbrev S2x2048x3072 : Shape := ⟨3, ![2, 2048, 3072]⟩
abbrev S2x3072 : Shape := ⟨2, ![2, 3072]⟩
abbrev S8x3072 : Shape := ⟨2, ![8, 3072]⟩
abbrev S1x2048x3072 : Shape := ⟨3, ![1, 2048, 3072]⟩
abbrev S2048x3072 : Shape := ⟨2, ![2048, 3072]⟩
abbrev S_ : Shape := ⟨0, ![]⟩
abbrev S1x3072 : Shape := ⟨2, ![1, 3072]⟩
abbrev S3072 : Shape := ⟨1, ![3072]⟩
abbrev S3072x2048 : Shape := ⟨2, ![3072, 2048]⟩

abbrev nBuf : Space → Nat
  | .hbm => 23
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2x2048x3072, .f32⟩
  | .hbm, ⟨2, _⟩ => ⟨S2x3072, .f32⟩
  | .hbm, ⟨3, _⟩ => ⟨S8x3072, .f32⟩
  | .hbm, ⟨4, _⟩ => ⟨S1x2048x3072, .f32⟩
  | .hbm, ⟨5, _⟩ => ⟨S2048x3072, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S_, .f32⟩
  | .hbm, ⟨12, _⟩ => ⟨S8x2048, .f32⟩
  | .hbm, ⟨13, _⟩ => ⟨S8x2048, .f32⟩
  | .hbm, ⟨14, _⟩ => ⟨S8x2048, .f32⟩
  | .hbm, ⟨15, _⟩ => ⟨S8x3072, .f32⟩
  | .hbm, ⟨16, _⟩ => ⟨S1x3072, .f32⟩
  | .hbm, ⟨17, _⟩ => ⟨S3072, .f32⟩
  | .hbm, ⟨18, _⟩ => ⟨S1x3072, .f32⟩
  | .hbm, ⟨19, _⟩ => ⟨S8x3072, .f32⟩
  | .hbm, ⟨20, _⟩ => ⟨S8x3072, .f32⟩
  | .hbm, ⟨21, _⟩ => ⟨S3072x2048, .f32⟩
  | .hbm, ⟨22, _⟩ => ⟨S2048x3072, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩

abbrev nD : Nat := 1
abbrev τ : Topo := Topo.v7x

variable {F : FTy → Type} [FloatOps F]
-- ==== Proof.Attn.Model.lean ====
module

public import Idealize.ShloMosaic.Lib.Pipeline.ValueKit
public import Idealize.ShloMosaic.Lib.WordCmp
public import Mathlib.Analysis.SpecialFunctions.Log.Basic

@[expose] public section

/-! The attention of one head over the reals: scores, the causal softmax, the output and the gradients, each
as a function of natural-number indices. Both programs are read as these functions. -/

noncomputable section

open Idealize.ShloMosaic
open Finset (range)

namespace Cert.Attn

/-! ### Extended reals that are reals -/

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem exp_coe (x : ℝ) : Ideal.exp (x : EReal) = ((Real.exp x : ℝ) : EReal) := rfl
theorem exp_bot : Ideal.exp ⊥ = 0 := rfl
theorem log_coe {x : ℝ} (h : 0 < x) : Ideal.log (x : EReal) = ((Real.log x : ℝ) : EReal) := by
  show (if x ≤ 0 then ⊥ else (Real.log x : EReal)) = _
  rw [if_neg (not_le.mpr h)]
theorem div_coe {x y : ℝ} (h : y ≠ 0) : Ideal.div (x : EReal) (y : EReal) = ((x / y : ℝ) : EReal) := by
  have : ((y : ℝ) : EReal) ≠ 0 := by exact_mod_cast h
  rw [Ideal.div, if_neg this, div_eq_mul_inv, EReal.coe_mul, EReal.coe_inv]

theorem ite_coe (c : Prop) [Decidable c] (x y : ℝ) :
    (if c then (x : EReal) else (y : EReal)) = ((if c then x else y : ℝ) : EReal) := by split <;> rfl
theorem ite_coe_zero (c : Prop) [Decidable c] (x : ℝ) :
    (if c then (x : EReal) else 0) = ((if c then x else 0 : ℝ) : EReal) := by split <;> rfl

/-- The score's factor, the square root of 1/192 rounded to a 32-bit float. -/
def σ : ℝ := (Ideal.ofBits .f32 0x3D93CD3A#32).toReal

theorem ofBits_σ : Ideal.ofBits .f32 0x3D93CD3A#32 = ((σ : ℝ) : EReal) := by
  refine (EReal.coe_toReal ?_ ?_).symm <;>
    (simp [Ideal.ofBits, Ideal.ieee, -EReal.coe_mul])

theorem ofBits_ninf : Ideal.ofBits .f32 0xFF800000#32 = ⊥ := by simp [Ideal.ofBits, Ideal.ieee]

/-- The comparison of a column with a row, as the words a kernel compares: column `j`, row `c + a`. -/
theorem sel_le {α : Type} {j a c : ℕ} (hj : j < 2048) (hac : c + a < 2048) (x y : α) :
    Scalar.select (IntOp.cmpi .sle (BitVec.ofNat 32 j) (IntOp.addi (BitVec.ofNat 32 a) (BitVec.ofNat 32 c))) x y
      = if j ≤ c + a then x else y := by
  have h : IntOp.addi (BitVec.ofNat 32 a) (BitVec.ofNat 32 c) = BitVec.ofNat 32 (c + a) := by
    show BitVec.ofNat 32 a + BitVec.ofNat 32 c = _
    rw [Nat.add_comm c a, BitVec.ofNat_add]
  rw [h, WordCmp.cmpi_sle_ofNat (by omega) (by omega), WordCmp.select_ofBool]
  simp

theorem sel_le' {α : Type} {j r : ℕ} (hj : j < 2048) (hr : r < 2048) (x y : α) :
    Scalar.select (IntOp.cmpi .sle (BitVec.ofNat 32 j) (BitVec.ofNat 32 r)) x y = if j ≤ r then x else y := by
  rw [WordCmp.cmpi_sle_ofNat (by omega) (by omega), WordCmp.select_ofBool]
  simp

/-- Columns `o + h * w`, …, `o + h * w + w - 1` of `X`: head `h`'s. -/
def hd (o w : ℕ) (X : ℕ → ℕ → ℝ) (h : ℕ) : ℕ → ℕ → ℝ := fun r d => X r (o + h * w + d)

/-! ### The attention of a head -/

section
variable (q k v g : ℕ → ℕ → ℝ)

/-- The score of row `r` against column `j`. -/
def sc (r j : ℕ) : ℝ := (∑ d ∈ range 256, q r d * k j d) * σ
/-- The greatest score of row `r` among the columns it attends to. -/
def mx (r : ℕ) : ℝ := (range (r + 1)).sup' ⟨0, by simp⟩ (sc q k r)
/-- The exponential of a score less the row's greatest, zero past the diagonal. -/
def ex (r j : ℕ) : ℝ := if j ≤ r then Real.exp (sc q k r j - mx q k r) else 0
/-- The softmax's denominator. -/
def den (r : ℕ) : ℝ := ∑ j ∈ range 2048, ex q k r j
/-- The softmax. -/
def pr (r j : ℕ) : ℝ := ex q k r j / den q k r
/-- The attention's output. -/
def out (r d : ℕ) : ℝ := ∑ j ∈ range 2048, pr q k r j * v j d
/-- The logarithm of the sum of the exponentials of row `r`'s scores. -/
def lse (r : ℕ) : ℝ := mx q k r + Real.log (den q k r)
/-- The gradient of the softmax's value at `r`, `j`. -/
def dp (r j : ℕ) : ℝ := ∑ d ∈ range 128, g r d * v j d
/-- The row's sum of output gradient times output. -/
def del (r : ℕ) : ℝ := ∑ d ∈ range 128, g r d * out q k v r d
/-- The gradient of the unscaled score. -/
def ds (r j : ℕ) : ℝ := pr q k r j * (dp v g r j - del q k v g r) * σ
/-- The gradient of `q`. -/
def dq (r d : ℕ) : ℝ := ∑ j ∈ range 2048, ds q k v g r j * k j d
/-- The gradient of `k`. -/
def dk (j d : ℕ) : ℝ := ∑ r ∈ range 2048, ds q k v g r j * q r d
/-- The gradient of `v`. -/
def dv (j d : ℕ) : ℝ := ∑ r ∈ range 2048, pr q k r j * g r d

variable {q k v g}

theorem ex_of_lt {r j : ℕ} (h : r < j) : ex q k r j = 0 := by simp [ex, not_le.mpr h]

theorem den_pos {r : ℕ} (hr : r < 2048) : 0 < den q k r := by
  refine Finset.sum_pos' (fun j _ => ?_) ⟨0, by simp, ?_⟩
  · unfold ex; split
    · exact (Real.exp_pos _).le
    · exact le_rfl
  · simp only [ex, Nat.zero_le, if_true]; exact Real.exp_pos _

theorem pr_of_lt {r j : ℕ} (h : r < j) : pr q k r j = 0 := by simp [pr, ex_of_lt h]
theorem ds_of_lt {r j : ℕ} (h : r < j) : ds q k v g r j = 0 := by simp [ds, pr_of_lt h]

/-- A sum over all columns of terms that vanish past the diagonal is the sum over the first `n`. -/
theorem sum_cols {r n : ℕ} (hr : r < n) (hn : n ≤ 2048) {f : ℕ → ℝ} (hf : ∀ j, r < j → f j = 0) :
    ∑ j ∈ range 2048, f j = ∑ j : Fin n, f j := by
  rw [Fin.sum_univ_eq_sum_range f n]
  refine (Finset.sum_subset (Finset.range_mono hn) fun j _ hj => hf j ?_).symm
  simp only [Finset.mem_range, not_lt] at hj
  omega

/-- The row maximum over the first `n` columns, those past the diagonal at the lattice's bottom. -/
theorem fold_max {n r : ℕ} (hr : r < n) (f : Fin n → EReal) (s : ℕ → ℝ)
    (hf : ∀ j : Fin n, f j = if (j : ℕ) ≤ r then ((s j : ℝ) : EReal) else ⊥) :
    Finset.fold max ⊥ f Finset.univ = (((range (r + 1)).sup' ⟨0, by simp⟩ s : ℝ) : EReal) := by
  have h : Finset.fold max ⊥ f Finset.univ = Finset.univ.sup f := rfl
  rw [h]
  apply le_antisymm
  · refine Finset.sup_le fun j _ => ?_
    rw [hf j]
    split
    · rename_i hj
      exact EReal.coe_le_coe_iff.mpr (Finset.le_sup' s (Finset.mem_range.mpr (by omega)))
    · exact bot_le
  · obtain ⟨j, hj, e⟩ := Finset.exists_mem_eq_sup' (s := range (r + 1)) ⟨0, by simp⟩ s
    have hj' := Finset.mem_range.mp hj
    rw [e]
    refine le_trans (le_of_eq ?_) (Finset.le_sup (f := f) (Finset.mem_univ ⟨j, by omega⟩))
    rw [hf]
    simp only
    rw [if_pos (by omega)]

/-- The softmax from the saved logarithm. -/
theorem pr_eq_exp_lse {r j : ℕ} (hr : r < 2048) :
    pr q k r j = if j ≤ r then Real.exp (sc q k r j - lse q k r) else 0 := by
  unfold pr ex
  split
  · rw [lse, ← sub_sub, Real.exp_sub _ (Real.log _), Real.exp_log (den_pos hr)]
  · simp

/-- The row's sum of output gradient times output is the sum of the softmax's gradient times the softmax. -/
theorem del_eq (r : ℕ) : del q k v g r = ∑ j ∈ range 2048, pr q k r j * dp v g r j := by
  simp only [del, out, dp, Finset.mul_sum]
  rw [Finset.sum_comm]
  refine Finset.sum_congr rfl fun j _ => Finset.sum_congr rfl fun d _ => ?_
  ring

end

/-! ### The attention of all heads: columns `256 h …` of `q` and `k`, `1024 + 128 h …` of `kv`, `128 h …` of the output -/

section
variable (Q K KV G : ℕ → ℕ → ℝ)

def outR (a b : ℕ) : ℝ := out (hd 0 256 Q (b / 128)) (hd 0 256 K (b / 128)) (hd 1024 128 KV (b / 128)) a (b % 128)
def dqR (a b : ℕ) : ℝ :=
  dq (hd 0 256 Q (b / 256)) (hd 0 256 K (b / 256)) (hd 1024 128 KV (b / 256)) (hd 0 128 G (b / 256)) a (b % 256)
def dkR (a b : ℕ) : ℝ :=
  dk (hd 0 256 Q (b / 256)) (hd 0 256 K (b / 256)) (hd 1024 128 KV (b / 256)) (hd 0 128 G (b / 256)) a (b % 256)
def dvR (a b : ℕ) : ℝ := dv (hd 0 256 Q (b / 128)) (hd 0 256 K (b / 128)) (hd 0 128 G (b / 128)) a (b % 128)

end

end Cert.Attn
-- ==== Proof.Attn.Ref.lean ====
module

public import proofs.«01_k».proof.Proof.Gen.ReferenceIdeal.Run
public import proofs.«01_k».proof.Proof.Attn.Model

@[expose] public section

/-! The reference's results, read as the real attention of each head. -/

set_option maxRecDepth 16384

noncomputable section

open Idealize.ShloMosaic Idealize.ShloMosaic.TcCoe Idealize.SL.Sem

namespace Cert.ReferenceIdeal.Attn

open Cert.ReferenceIdeal Cert.ReferenceIdeal.Gen Cert.ReferenceIdeal.Value Cert.Attn
open Finset (range)

/-! ### The reference's stages -/

/-- Where a row attends to a column. -/
def maskT : IVec S8x2048x2048 1 :=
  broadcastInDim S8x2048x2048 ![1, 2] bcast_S2048x2048_S8x2048x2048_1_2
    (cmpi .sle
      (broadcastInDim S2048x2048 ![0, 1] bcast_S1x2048_S2048x2048_0_1 (broadcastInDim S1x2048 ![1] bcast_S2048_S1x2048_1 (iotaInDim S2048 32 0)))
      (broadcastInDim S2048x2048 ![0, 1] bcast_S2048x1_S2048x2048_0_1 (broadcastInDim S2048x1 ![0] bcast_S2048_S2048x1_0 (iotaInDim S2048 32 0))))

/-- The scores, minus infinity where the mask hides them. -/
def scT (q k : FVec Ideal S2048x2048 .bf16) : FVec Ideal S8x2048x2048 .f32 :=
  select maskT
    (mulf
      (Host.dotGeneral dot_S2048x8x256_S2048x8x256_S8x2048x2048_2_2_0_0_1_1 none
        (shapeCast _ (extf .f32 q bitsLt_bf16_f32) shapeCasts_S2048x2048_S2048x8x256)
        (shapeCast _ (extf .f32 k bitsLt_bf16_f32) shapeCasts_S2048x2048_S2048x8x256))
      (broadcastInDim S8x2048x2048 ![] bcast_S_S8x2048x2048 (constant S_ .f32 0x3D93CD3A#32)))
    (broadcastInDim S8x2048x2048 ![] bcast_S_S8x2048x2048 (id (constant S_ .f32 0xFF800000#32)))

/-- The greatest score of each row. -/
def mxT (a : FVec Ideal S8x2048x2048 .f32) : FVec Ideal S8x2048 .f32 :=
  Host.reduce FloatOps.maximumf a (constant S_ .f32 0xFF800000#32) reducesTo_S8x2048x2048_S8x2048_d2 h_S_

/-- The exponentials of the scores less the row's greatest. -/
def exT (a : FVec Ideal S8x2048x2048 .f32) (M : FVec Ideal S8x2048 .f32) : FVec Ideal S8x2048x2048 .f32 :=
  Host.exp (subf a
    (broadcastInDim S8x2048x2048 ![0, 1, 2] bcast_S8x2048x1_S8x2048x2048_0_1_2
      (broadcastInDim S8x2048x1 ![0, 1] bcast_S8x2048_S8x2048x1_0_1
        (maximumf (broadcastInDim S8x2048 ![] bcast_S_S8x2048 (constant S_ .f32 0xFF800000#32)) M))))

/-- The softmax's denominators. -/
def denT (e : FVec Ideal S8x2048x2048 .f32) : FVec Ideal S8x2048x1 .f32 :=
  broadcastInDim S8x2048x1 ![0, 1] bcast_S8x2048_S8x2048x1_0_1
    (Host.reduceAdd e (constant S_ .f32 0x00000000#32) reducesTo_S8x2048x2048_S8x2048_d2 h_S_)

/-- The softmax. -/
def prT (e : FVec Ideal S8x2048x2048 .f32) : FVec Ideal S8x2048x2048 .f32 :=
  Host.divf e (broadcastInDim S8x2048x2048 ![0, 1, 2] bcast_S8x2048x1_S8x2048x2048_0_1_2 (denT e))

/-- The values of the heads. -/
def vT (kv : FVec Ideal S2048x2048 .f32) : FVec Ideal S2048x8x128 .f32 :=
  shapeCast _ (extractStridedSlice S2048x1024 ![0, 1024] kv slices_S2048x2048_S2048x1024_0_1024) shapeCasts_S2048x1024_S2048x8x128

/-- The output's gradients of the heads. -/
def gT (g : FVec Ideal S2048x1024 .f32) : FVec Ideal S8x128x2048 .f32 :=
  transpose S8x128x2048 [1, 2, 0] (shapeCast _ g shapeCasts_S2048x1024_S2048x8x128) transposes_S2048x8x128_S8x128x2048_1_2_0

/-- The softmax's gradients. -/
def dpT (kv : FVec Ideal S2048x2048 .f32) (g : FVec Ideal S2048x1024 .f32) : FVec Ideal S8x2048x2048 .f32 :=
  Host.dotGeneral dot_S8x128x2048_S2048x8x128_S8x2048x2048_1_2_2_0_0_1 none (gT g) (vT kv)

/-- The scores' gradients, from the softmax's gradients, the exponentials and the denominators. -/
def dsT (p e : FVec Ideal S8x2048x2048 .f32) (l : FVec Ideal S8x2048x1 .f32) : FVec Ideal S8x2048x2048 .f32 :=
  mulf
    (select maskT
      (mulf
        (addf (Host.divf p (broadcastInDim S8x2048x2048 ![0, 1, 2] bcast_S8x2048x1_S8x2048x2048_0_1_2 l))
          (broadcastInDim S8x2048x2048 ![0, 1] bcast_S8x2048_S8x2048x2048_0_1
            (Host.reduceAdd
              (Host.negf (shapeCast _
                (Host.reduceAdd
                  (mulf (mulf p (broadcastInDim S8x2048x2048 ![0, 1, 2] bcast_S8x2048x1_S8x2048x2048_0_1_2
                    (Host.divf (broadcastInDim S8x2048x1 ![] bcast_S_S8x2048x1 (constant S_ .f32 0x3F800000#32)) (mulf l l)))) e)
                  (constant S_ .f32 0x00000000#32) reducesTo_S8x2048x2048_S8x2048_d2 h_S_)
                shapeCasts_S8x2048_S8x2048x1))
              (constant S_ .f32 0x00000000#32) reducesTo_S8x2048x1_S8x2048_d2 h_S_)))
        e)
      (broadcastInDim S8x2048x2048 ![] bcast_S_S8x2048x2048 (constant S_ .f32 0x00000000#32)))
    (broadcastInDim S8x2048x2048 ![] bcast_S_S8x2048x2048 (constant S_ .f32 0x3D93CD3A#32))

/-! ### The stages at an index -/

section
variable {q k : FVec Ideal S2048x2048 .bf16} {kv : FVec Ideal S2048x2048 .f32} {g : FVec Ideal S2048x1024 .f32}
variable {Q K KV G : ℕ → ℕ → ℝ}
variable (hq : ∀ (a b : Fin 2048), q (ix2 a b) = ((Q a b : ℝ) : EReal)) (hk : ∀ (a b : Fin 2048), k (ix2 a b) = ((K a b : ℝ) : EReal))
variable (hv : ∀ (a b : Fin 2048), kv (ix2 a b) = ((KV a b : ℝ) : EReal)) (hg : ∀ (a : Fin 2048) (b : Fin 1024), g (ix2 a b) = ((G a b : ℝ) : EReal))

include hq hk in
theorem scT_at (h : Fin 8) (r j : Fin 2048) :
    scT q k (ix3 h r j) = if (j : ℕ) ≤ r then ((sc (hd 0 256 Q h) (hd 0 256 K h) r j : ℝ) : EReal) else ⊥ := by
  pointwise [scT, maskT]
  have e : id (constant (F := Ideal) S_ .f32 4286578688#32) ix0 = (⊥ : EReal) := ofBits_ninf
  rw [sel_le' j.isLt r.isLt, e, ofBits_σ]
  simp only [hq, hk, ← EReal.coe_mul, coe_sum, sc, hd, zero_add]
  rw [Finset.sum_range (n := 256)]

theorem reduce_at (a : FVec Ideal S8x2048x2048 .f32) (b : FVec Ideal S_ .f32) (h : Fin 8) (r : Fin 2048) :
    Host.reduce FloatOps.maximumf a b reducesTo_S8x2048x2048_S8x2048_d2 h_S_ (ix2 h r)
      = Finset.fold max (b (Shape.Idx.first h_S_)) (fun x : Fin 2048 => a (ix3 h r x)) Finset.univ := by
  simp only [pointwise]

theorem const_at (i : S_.Idx) : constant (F := Ideal) S_ .f32 0xFF800000#32 i = (⊥ : EReal) := ofBits_ninf

theorem mxT_at {a : FVec Ideal S8x2048x2048 .f32} {q' k' : ℕ → ℕ → ℕ → ℝ}
    (ha : ∀ (h : Fin 8) (r j : Fin 2048), a (ix3 h r j) = if (j : ℕ) ≤ r then ((sc (q' h) (k' h) r j : ℝ) : EReal) else ⊥)
    (h : Fin 8) (r : Fin 2048) : mxT a (ix2 h r) = ((mx (q' h) (k' h) r : ℝ) : EReal) := by
  unfold mxT
  rw [reduce_at]
  refine Eq.trans ?_ (fold_max r.isLt _ _ (ha h r))
  rw [const_at]

theorem exT_at {a : FVec Ideal S8x2048x2048 .f32} {M : FVec Ideal S8x2048 .f32} {q' k' : ℕ → ℕ → ℕ → ℝ}
    (ha : ∀ (h : Fin 8) (r j : Fin 2048), a (ix3 h r j) = if (j : ℕ) ≤ r then ((sc (q' h) (k' h) r j : ℝ) : EReal) else ⊥)
    (hM : ∀ (h : Fin 8) (r : Fin 2048), M (ix2 h r) = ((mx (q' h) (k' h) r : ℝ) : EReal))
    (h : Fin 8) (r j : Fin 2048) : exT a M (ix3 h r j) = ((ex (q' h) (k' h) r j : ℝ) : EReal) := by
  pointwise [exT]
  rw [ofBits_ninf, max_eq_right bot_le, hM, ha, ex]
  split
  · rw [← EReal.coe_sub, exp_coe]
  · rw [EReal.bot_sub, exp_bot]; rfl

theorem denT_at {e : FVec Ideal S8x2048x2048 .f32} {q' k' : ℕ → ℕ → ℕ → ℝ}
    (he : ∀ (h : Fin 8) (r j : Fin 2048), e (ix3 h r j) = ((ex (q' h) (k' h) r j : ℝ) : EReal))
    (h : Fin 8) (r : Fin 2048) : denT e (ix3 h r 0) = ((den (q' h) (k' h) r : ℝ) : EReal) := by
  pointwise [denT]
  simp only [he, coe_sum, den]
  rw [Finset.sum_range (n := 2048)]

theorem prT_at {e : FVec Ideal S8x2048x2048 .f32} {q' k' : ℕ → ℕ → ℕ → ℝ}
    (he : ∀ (h : Fin 8) (r j : Fin 2048), e (ix3 h r j) = ((ex (q' h) (k' h) r j : ℝ) : EReal))
    (h : Fin 8) (r j : Fin 2048) : prT e (ix3 h r j) = ((pr (q' h) (k' h) r j : ℝ) : EReal) := by
  pointwise [prT]
  rw [denT_at he, he, div_coe (den_pos r.isLt).ne', pr]

include hv hg in
theorem dpT_at (h : Fin 8) (r j : Fin 2048) :
    dpT kv g (ix3 h r j) = ((dp (hd 1024 128 KV h) (hd 0 128 G h) r j : ℝ) : EReal) := by
  pointwise [dpT, vT, gT]
  simp only [hv, hg, ← EReal.coe_mul, coe_sum, dp, hd, zero_add, ← add_assoc]
  rw [Finset.sum_range (n := 128)]

theorem dsT_at {p e : FVec Ideal S8x2048x2048 .f32} {l : FVec Ideal S8x2048x1 .f32} {q' k' v' g' : ℕ → ℕ → ℕ → ℝ}
    (hp : ∀ (h : Fin 8) (r j : Fin 2048), p (ix3 h r j) = ((dp (v' h) (g' h) r j : ℝ) : EReal))
    (he : ∀ (h : Fin 8) (r j : Fin 2048), e (ix3 h r j) = ((ex (q' h) (k' h) r j : ℝ) : EReal))
    (hl : ∀ (h : Fin 8) (r : Fin 2048), l (ix3 h r 0) = ((den (q' h) (k' h) r : ℝ) : EReal))
    (h : Fin 8) (r j : Fin 2048) : dsT p e l (ix3 h r j) = ((ds (q' h) (k' h) (v' h) (g' h) r j : ℝ) : EReal) := by
  pointwise [dsT, maskT]
  rw [sel_le' j.isLt r.isLt, ofBits_σ]
  have one : (1 : EReal) = ((1 : ℝ) : EReal) := rfl
  have hd' := (den_pos (q := q' h) (k := k' h) r.isLt).ne'
  have hdd := mul_ne_zero hd' hd'
  simp only [hp, he, hl, one, ← EReal.coe_mul, div_coe hd', div_coe hdd, coe_sum, ← EReal.coe_neg, ← EReal.coe_add,
    ite_coe_zero]
  congr 1
  rw [ds, del_eq]
  have hs : ∑ i : Fin 2048, dp (v' h) (g' h) r i * (1 / (den (q' h) (k' h) r * den (q' h) (k' h) r)) * ex (q' h) (k' h) r i
      = (∑ j ∈ range 2048, pr (q' h) (k' h) r j * dp (v' h) (g' h) r j) / den (q' h) (k' h) r := by
    rw [Finset.sum_range (n := 2048), Finset.sum_div]
    refine Finset.sum_congr rfl fun i _ => ?_
    rw [pr]
    field_simp
  rw [Fin.sum_univ_one, hs, pr]
  split
  · field_simp
    ring
  · rw [ex_of_lt (by omega)]
    simp

/-! ### The results -/

/-- A head's columns of the scores' operands. -/
def qkT (q : FVec Ideal S2048x2048 .bf16) : FVec Ideal S2048x8x256 .f32 :=
  shapeCast _ (extf .f32 q bitsLt_bf16_f32) shapeCasts_S2048x2048_S2048x8x256

def outT (v : FVec Ideal S2048x8x128 .f32) (p : FVec Ideal S8x2048x2048 .f32) : FVec Ideal S2048x1024 .bf16 :=
  truncf .bf16 (shapeCast _ (transpose S2048x8x128 [2, 0, 1]
    (Host.dotGeneral dot_S2048x8x128_S8x2048x2048_S8x128x2048_0_2_2_1_1_0 none v p)
    transposes_S8x128x2048_S2048x8x128_2_0_1) shapeCasts_S2048x8x128_S2048x1024) bitsLt_bf16_f32

def dqT (s : FVec Ideal S8x2048x2048 .f32) (k : FVec Ideal S2048x8x256 .f32) : FVec Ideal S2048x2048 .f32 :=
  shapeCast _ (transpose S2048x8x256 [1, 0, 2] (Host.dotGeneral dot_S8x2048x2048_S2048x8x256_S8x2048x256_2_0_1_2_0_1 none s k)
    transposes_S8x2048x256_S2048x8x256_1_0_2) shapeCasts_S2048x8x256_S2048x2048

def dkT (s : FVec Ideal S8x2048x2048 .f32) (q : FVec Ideal S2048x8x256 .f32) : FVec Ideal S2048x2048 .f32 :=
  shapeCast _ (transpose S2048x8x256 [1, 0, 2] (Host.dotGeneral dot_S8x2048x2048_S2048x8x256_S8x2048x256_1_0_2_2_0_1 none s q)
    transposes_S8x2048x256_S2048x8x256_1_0_2) shapeCasts_S2048x8x256_S2048x2048

def dvT (g : FVec Ideal S8x128x2048 .f32) (p : FVec Ideal S8x2048x2048 .f32) : FVec Ideal S2048x1024 .f32 :=
  shapeCast _ (transpose S2048x8x128 [2, 0, 1] (Host.dotGeneral dot_S8x128x2048_S8x2048x2048_S8x128x2048_2_1_1_2_0_0 none g p)
    transposes_S8x128x2048_S2048x8x128_2_0_1) shapeCasts_S2048x8x128_S2048x1024

theorem outT_at {p : FVec Ideal S8x2048x2048 .f32} {q' k' : ℕ → ℕ → ℕ → ℝ}
    (hv : ∀ (a b : Fin 2048), kv (ix2 a b) = ((KV a b : ℝ) : EReal))
    (hp : ∀ (h : Fin 8) (r j : Fin 2048), p (ix3 h r j) = ((pr (q' h) (k' h) r j : ℝ) : EReal)) (a : Fin 2048) (b : Fin 1024) :
    outT (vT kv) p (ix2 a b) = ((out (q' (b / 128)) (k' (b / 128)) (hd 1024 128 KV (b / 128)) a (b % 128) : ℝ) : EReal) := by
  pointwise [outT, vT]
  simp only [hv, hp, ← EReal.coe_mul, coe_sum, out, hd, add_assoc, Nat.div_add_mod']
  rw [Finset.sum_range (n := 2048)]
  exact congrArg _ (Finset.sum_congr rfl fun _ _ => mul_comm _ _)

theorem dqT_at {s : FVec Ideal S8x2048x2048 .f32} {q' k' v' g' : ℕ → ℕ → ℕ → ℝ}
    (hk : ∀ (a b : Fin 2048), k (ix2 a b) = ((K a b : ℝ) : EReal))
    (hs : ∀ (h : Fin 8) (r j : Fin 2048), s (ix3 h r j) = ((ds (q' h) (k' h) (v' h) (g' h) r j : ℝ) : EReal)) (a b : Fin 2048) :
    dqT s (qkT k) (ix2 a b)
      = ((∑ j ∈ range 2048, ds (q' (b / 256)) (k' (b / 256)) (v' (b / 256)) (g' (b / 256)) a j * hd 0 256 K (b / 256) j (b % 256) : ℝ) : EReal) := by
  pointwise [dqT, qkT]
  simp only [hk, hs, ← EReal.coe_mul, coe_sum, hd, zero_add, Nat.div_add_mod']
  rw [Finset.sum_range (n := 2048)]

theorem dkT_at {s : FVec Ideal S8x2048x2048 .f32} {q' k' v' g' : ℕ → ℕ → ℕ → ℝ}
    (hq : ∀ (a b : Fin 2048), q (ix2 a b) = ((Q a b : ℝ) : EReal))
    (hs : ∀ (h : Fin 8) (r j : Fin 2048), s (ix3 h r j) = ((ds (q' h) (k' h) (v' h) (g' h) r j : ℝ) : EReal)) (a b : Fin 2048) :
    dkT s (qkT q) (ix2 a b)
      = ((∑ r ∈ range 2048, ds (q' (b / 256)) (k' (b / 256)) (v' (b / 256)) (g' (b / 256)) r a * hd 0 256 Q (b / 256) r (b % 256) : ℝ) : EReal) := by
  pointwise [dkT, qkT]
  simp only [hq, hs, ← EReal.coe_mul, coe_sum, hd, zero_add, Nat.div_add_mod']
  rw [Finset.sum_range (n := 2048)]

theorem dvT_at {p : FVec Ideal S8x2048x2048 .f32} {q' k' : ℕ → ℕ → ℕ → ℝ}
    (hg : ∀ (a : Fin 2048) (b : Fin 1024), g (ix2 a b) = ((G a b : ℝ) : EReal))
    (hp : ∀ (h : Fin 8) (r j : Fin 2048), p (ix3 h r j) = ((pr (q' h) (k' h) r j : ℝ) : EReal)) (a : Fin 2048) (b : Fin 1024) :
    dvT (gT g) p (ix2 a b) = ((dv (q' (b / 128)) (k' (b / 128)) (hd 0 128 G (b / 128)) a (b % 128) : ℝ) : EReal) := by
  pointwise [dvT, gT]
  simp only [hg, hp, ← EReal.coe_mul, coe_sum, dv, hd, zero_add, Nat.div_add_mod']
  rw [Finset.sum_range (n := 2048)]
  exact congrArg _ (Finset.sum_congr rfl fun _ _ => mul_comm _ _)

end

section
variable (m : (ℓ : Loc nD τ sig) → Buf (Elt Ideal) ℓ) (c : Dev nD)

abbrev argq : FVec Ideal S2048x2048 .bf16 := m ((c.tc : Thread nD τ).loc main_arg0)
abbrev argk : FVec Ideal S2048x2048 .bf16 := m ((c.tc : Thread nD τ).loc main_arg1)
abbrev argkv : FVec Ideal S2048x2048 .f32 := m ((c.tc : Thread nD τ).loc main_arg2)
abbrev argg : FVec Ideal S2048x1024 .f32 := m ((c.tc : Thread nD τ).loc main_arg3)

/-- The exponentials, from the arguments. -/
def exA : FVec Ideal S8x2048x2048 .f32 := exT (scT (argq m c) (argk m c)) (mxT (scT (argq m c) (argk m c)))
/-- The scores' gradients, from the arguments. -/
def dsA : FVec Ideal S8x2048x2048 .f32 := dsT (dpT (argkv m c) (argg m c)) (exA m c) (denT (exA m c))

theorem res0 : res_main_v72 m c = outT (vT (argkv m c)) (prT (exA m c)) := rfl
theorem res1 : res_main_v73 m c = dqT (dsA m c) (qkT (argk m c)) := rfl
theorem res2 : res_main_v74 m c = dkT (dsA m c) (qkT (argq m c)) := rfl
theorem res3 : res_main_v75 m c = dvT (gT (argg m c)) (prT (exA m c)) := rfl

variable {Q K KV G : ℕ → ℕ → ℝ}
variable (hq : ∀ (a b : Fin 2048), argq m c (ix2 a b) = ((Q a b : ℝ) : EReal)) (hk : ∀ (a b : Fin 2048), argk m c (ix2 a b) = ((K a b : ℝ) : EReal))
variable (hv : ∀ (a b : Fin 2048), argkv m c (ix2 a b) = ((KV a b : ℝ) : EReal)) (hg : ∀ (a : Fin 2048) (b : Fin 1024), argg m c (ix2 a b) = ((G a b : ℝ) : EReal))

include hq hk in
theorem exA_at (h : Fin 8) (r j : Fin 2048) : exA m c (ix3 h r j) = ((ex (hd 0 256 Q h) (hd 0 256 K h) r j : ℝ) : EReal) :=
  exT_at (q' := hd 0 256 Q) (k' := hd 0 256 K) (scT_at hq hk) (mxT_at (scT_at hq hk)) h r j

include hq hk hv hg in
theorem dsA_at (h : Fin 8) (r j : Fin 2048) :
    dsA m c (ix3 h r j) = ((ds (hd 0 256 Q h) (hd 0 256 K h) (hd 1024 128 KV h) (hd 0 128 G h) r j : ℝ) : EReal) :=
  dsT_at (q' := hd 0 256 Q) (k' := hd 0 256 K) (v' := hd 1024 128 KV) (g' := hd 0 128 G)
    (dpT_at hv hg) (exA_at m c hq hk) (denT_at (exA_at m c hq hk)) h r j

include hq hk hv in
theorem res0_at (a : Fin 2048) (b : Fin 1024) : res_main_v72 m c (ix2 a b) = ((outR Q K KV a b : ℝ) : EReal) := by
  rw [res0]
  exact outT_at hv (prT_at (exA_at m c hq hk)) a b

include hq hk hv hg in
theorem res1_at (a b : Fin 2048) : res_main_v73 m c (ix2 a b) = ((dqR Q K KV G a b : ℝ) : EReal) := by
  rw [res1]
  exact dqT_at hk (dsA_at m c hq hk hv hg) a b

include hq hk hv hg in
theorem res2_at (a b : Fin 2048) : res_main_v74 m c (ix2 a b) = ((dkR Q K KV G a b : ℝ) : EReal) := by
  rw [res2]
  exact dkT_at hq (dsA_at m c hq hk hv hg) a b

include hq hk hg in
theorem res3_at (a : Fin 2048) (b : Fin 1024) : res_main_v75 m c (ix2 a b) = ((dvR Q K G a b : ℝ) : EReal) := by
  rw [res3]
  exact dvT_at hg (prT_at (exA_at m c hq hk)) a b

end

end Cert.ReferenceIdeal.Attn
-- ==== Proof.Attn.Row.lean ====
module

public import proofs.«01_k».proof.Proof.Attn.Model

@[expose] public section

/-! One row of the attention as a kernel computes it over the first `n` columns: row `c + a` of the block of rows that
begins at `c`. -/

noncomputable section

open Idealize.ShloMosaic
open Finset (range)

namespace Cert.Attn

/-- `x` where column `j` is at most row `c + a`, else `y`. -/
abbrev selw {α : Type} (a c j : ℕ) (x y : α) : α :=
  Scalar.select (IntOp.cmpi .sle (BitVec.ofNat 32 j) (IntOp.addi (BitVec.ofNat 32 a) (BitVec.ofNat 32 c))) x y

/-- The score as a scaled sum of products. -/
theorem sc_at {q k : ℕ → ℕ → ℝ} {r j : ℕ} {A B : Fin 256 → EReal} (hA : ∀ d : Fin 256, A d = ((q r d : ℝ) : EReal))
    (hB : ∀ d : Fin 256, B d = ((k j d : ℝ) : EReal)) :
    (∑ d, A d * B d) * Ideal.ofBits .f32 0x3D93CD3A#32 = ((sc q k r j : ℝ) : EReal) := by
  simp only [hA, hB, ofBits_σ, ← EReal.coe_mul, coe_sum, sc]
  rw [Finset.sum_range (n := 256)]

section
variable {n a c d : ℕ} (hn : n ≤ 2048) (hac : c + a < n) {q k v g : ℕ → ℕ → ℝ} {S V P D E : Fin n → EReal} {L Δ : EReal}

include hn hac in
theorem row_max (hS : ∀ j : Fin n, S j = ((sc q k (c + a) j : ℝ) : EReal)) :
    Finset.fold max (Ideal.ofBits .f32 0xFF800000#32) (fun j : Fin n => selw a c j (S j) (Ideal.ofBits .f32 0xFF800000#32)) Finset.univ
      = ((mx q k (c + a) : ℝ) : EReal) := by
  rw [ofBits_ninf]
  exact fold_max hac _ _ fun j => by rw [selw, sel_le (by omega) (by omega), hS]

include hn hac in
theorem row_ex (hS : ∀ j : Fin n, S j = ((sc q k (c + a) j : ℝ) : EReal)) (j : Fin n) :
    Ideal.exp (selw a c j (S j) (Ideal.ofBits .f32 0xFF800000#32) - ((mx q k (c + a) : ℝ) : EReal)) = ((ex q k (c + a) j : ℝ) : EReal) := by
  rw [ofBits_ninf, selw, sel_le (by omega) (by omega), hS, ex]
  split
  · rw [← EReal.coe_sub, exp_coe]
  · rw [EReal.bot_sub, exp_bot]; rfl

include hn hac in
theorem row_den (hS : ∀ j : Fin n, S j = ((sc q k (c + a) j : ℝ) : EReal)) :
    ∑ j : Fin n, Ideal.exp (selw a c j (S j) (Ideal.ofBits .f32 0xFF800000#32)
        - Finset.fold max (Ideal.ofBits .f32 0xFF800000#32) (fun j : Fin n => selw a c j (S j) (Ideal.ofBits .f32 0xFF800000#32)) Finset.univ)
      = ((den q k (c + a) : ℝ) : EReal) := by
  rw [row_max hn hac hS]
  simp only [row_ex hn hac hS, coe_sum]
  rw [den, sum_cols hac hn fun j hj => ex_of_lt hj]

include hn hac in
/-- The output's row. -/
theorem row_out (hS : ∀ j : Fin n, S j = ((sc q k (c + a) j : ℝ) : EReal)) (hV : ∀ j : Fin n, V j = ((v j d : ℝ) : EReal)) :
    Ideal.div (∑ j : Fin n, Ideal.exp (selw a c j (S j) (Ideal.ofBits .f32 0xFF800000#32)
        - Finset.fold max (Ideal.ofBits .f32 0xFF800000#32) (fun j : Fin n => selw a c j (S j) (Ideal.ofBits .f32 0xFF800000#32)) Finset.univ) * V j)
      (∑ j : Fin n, Ideal.exp (selw a c j (S j) (Ideal.ofBits .f32 0xFF800000#32)
        - Finset.fold max (Ideal.ofBits .f32 0xFF800000#32) (fun j : Fin n => selw a c j (S j) (Ideal.ofBits .f32 0xFF800000#32)) Finset.univ))
      = ((out q k v (c + a) d : ℝ) : EReal) := by
  rw [row_den hn hac hS, row_max hn hac hS]
  simp only [row_ex hn hac hS, hV, ← EReal.coe_mul, coe_sum]
  rw [div_coe (den_pos (by omega)).ne', out, sum_cols hac hn fun j hj => by rw [pr_of_lt hj, zero_mul], Finset.sum_div]
  exact congrArg _ (Finset.sum_congr rfl fun j _ => by rw [pr]; ring)

include hn hac in
/-- The saved logarithm of the row's sum. -/
theorem row_lse (hS : ∀ j : Fin n, S j = ((sc q k (c + a) j : ℝ) : EReal)) :
    Finset.fold max (Ideal.ofBits .f32 0xFF800000#32) (fun j : Fin n => selw a c j (S j) (Ideal.ofBits .f32 0xFF800000#32)) Finset.univ
      + Ideal.log (∑ j : Fin n, Ideal.exp (selw a c j (S j) (Ideal.ofBits .f32 0xFF800000#32)
        - Finset.fold max (Ideal.ofBits .f32 0xFF800000#32) (fun j : Fin n => selw a c j (S j) (Ideal.ofBits .f32 0xFF800000#32)) Finset.univ))
      = ((lse q k (c + a) : ℝ) : EReal) := by
  rw [row_den hn hac hS, row_max hn hac hS, log_coe (den_pos (by omega)), lse, EReal.coe_add]

end

/-! ### The backward call's terms -/

section
variable {q k v g : ℕ → ℕ → ℝ} {a c j d : ℕ} {S L P Δ X : EReal} {x : ℝ}

/-- A softmax weight from the saved logarithm, times `X`, at a column that the mask keeps or drops. -/
theorem pr_at (hr : c + a < 2048) (hj : j < 2048) (hS : S = ((sc q k (c + a) j : ℝ) : EReal)) (hL : L = ((lse q k (c + a) : ℝ) : EReal))
    (hX : X = ((x : ℝ) : EReal)) : selw a c j (Ideal.exp (S - L) * X) 0 = ((pr q k (c + a) j * x : ℝ) : EReal) := by
  rw [selw, sel_le hj hr, hS, hL, hX, pr_eq_exp_lse hr]
  split
  · rw [← EReal.coe_sub, exp_coe, ← EReal.coe_mul]
  · rw [zero_mul, EReal.coe_zero]

/-- The gradient of a score, times `X`. -/
theorem ds_at (hr : c + a < 2048) (hj : j < 2048) (hS : S = ((sc q k (c + a) j : ℝ) : EReal)) (hL : L = ((lse q k (c + a) : ℝ) : EReal))
    (hP : P = ((dp v g (c + a) j : ℝ) : EReal)) (hΔ : Δ = ((del q k v g (c + a) : ℝ) : EReal)) (hX : X = ((x : ℝ) : EReal)) :
    selw a c j (Ideal.exp (S - L) * (P - Δ) * Ideal.ofBits .f32 0x3D93CD3A#32 * X) 0 = ((ds q k v g (c + a) j * x : ℝ) : EReal) := by
  rw [selw, sel_le hj hr, hS, hL, hP, hΔ, hX, ds, pr_eq_exp_lse hr, ofBits_σ]
  split
  · rw [← EReal.coe_sub, ← EReal.coe_sub, exp_coe, ← EReal.coe_mul, ← EReal.coe_mul, ← EReal.coe_mul]
  · rw [zero_mul, zero_mul, zero_mul, EReal.coe_zero]

/-- A row of the gradient of `q`. -/
theorem row_dq {n r : ℕ} (hr : r = c + a) (hn : n ≤ 2048) (hac : c + a < n) {T : Fin n → EReal}
    (hT : ∀ j : Fin n, T j = ((ds q k v g (c + a) j * k j d : ℝ) : EReal)) : ∑ j, T j = ((dq q k v g r d : ℝ) : EReal) := by
  simp only [hT, coe_sum]
  rw [hr, dq, sum_cols hac hn fun j hj => by rw [ds_of_lt hj, zero_mul]]

/-- The block of rows from `c` added to a sum over the rows before it. -/
theorem acc_step {n c' : ℕ} (hc : c' = c + n) (f : ℕ → ℝ) {A : EReal} {T : Fin n → EReal} (hA : A = ((∑ r ∈ range c, f r : ℝ) : EReal))
    (hT : ∀ a : Fin n, T a = ((f (c + a) : ℝ) : EReal)) : A + ∑ a, T a = ((∑ r ∈ range c', f r : ℝ) : EReal) := by
  simp only [hT, coe_sum]
  rw [hA, ← EReal.coe_add, hc, Finset.sum_range_add, Finset.sum_range fun a => f (c + a)]

theorem dp_at {v g : ℕ → ℕ → ℝ} {r j : ℕ} {A B : Fin 128 → EReal} (hA : ∀ d : Fin 128, A d = ((g r d : ℝ) : EReal))
    (hB : ∀ d : Fin 128, B d = ((v j d : ℝ) : EReal)) : ∑ d, A d * B d = ((dp v g r j : ℝ) : EReal) := by
  simp only [hA, hB, ← EReal.coe_mul, coe_sum, dp]
  rw [Finset.sum_range (n := 128)]

theorem del_at {r : ℕ} {A B : Fin 128 → EReal} (hA : ∀ d : Fin 128, A d = ((g r d : ℝ) : EReal))
    (hB : ∀ d : Fin 128, B d = ((out q k v r d : ℝ) : EReal)) : ∑ d, A d * B d = ((del q k v g r : ℝ) : EReal) := by
  simp only [hA, hB, ← EReal.coe_mul, coe_sum, del]
  rw [Finset.sum_range (n := 128)]

end

end Cert.Attn
-- ==== Proof.Attn.Fwd.lean ====
module

public import proofs.«01_k».proof.Proof.Gen.KernelIdeal.Frame
public import proofs.«01_k».proof.Proof.Attn.Row
public import Idealize.ShloMosaic.Lib.Pipeline.ValueKit
public import Idealize.ShloMosaic.Lib.Pipeline.ReadBack

@[expose] public section

/-! The forward call's block of output, read as the attention of a head. -/

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen Cert.Attn
open Finset (range)

section
variable {x0 x1 : Vec Ideal S2048x256 .bf16} {x2 : Vec Ideal S2048x128 .f32} {q k v : ℕ → ℕ → ℝ}
variable (hq : ∀ (a : Fin 2048) (b : Fin 256), x0 (ix2 a b) = ((q a b : ℝ) : EReal))
variable (hk : ∀ (a : Fin 2048) (b : Fin 256), x1 (ix2 a b) = ((k a b : ℝ) : EReal))
variable (hv : ∀ (a : Fin 2048) (b : Fin 128), x2 (ix2 a b) = ((v a b : ℝ) : EReal))

include hq hk hv in
theorem out_at (r : Fin 2048) (d : Fin 128) : out0_3 x0 x1 x2 (ix2 r d) = ((out q k v r d : ℝ) : EReal) := by
  unfold_out out0_3
  canon_tiles x h
  all_goals
    open_payloads
    pointwise
    refine (row_out (q := q) (k := k) (v := v) (d := d) (by norm_num) (by omega) (fun j => ?_) (fun j => ?_)).trans ?_
    · refine sc_at (fun e => ?_) (fun e => ?_)
      · first | exact hq _ _ | exact (hq _ _).trans (congrArg (fun a => ((q a e : ℝ) : EReal)) (Nat.zero_add _).symm)
      · exact hk _ _
    · exact (hv _ _).trans (congrArg (fun b => ((v j b : ℝ) : EReal)) h1.symm)
    · first
        | exact congrArg (fun a => ((out q k v a d : ℝ) : EReal)) h0.symm
        | exact congrArg (fun a => ((out q k v a d : ℝ) : EReal)) ((Nat.zero_add _).trans h0.symm)

end

end Cert.KernelIdeal.Attn
-- ==== Proof.Attn.FwdLse.lean ====
module

public import proofs.«01_k».proof.Proof.Gen.KernelIdeal.Frame
public import proofs.«01_k».proof.Proof.Attn.Row
public import Idealize.ShloMosaic.Lib.Pipeline.ValueKit
public import Idealize.ShloMosaic.Lib.Pipeline.ReadBack

@[expose] public section

/-! The forward call's block of saved logarithms, read as the logarithms of the sums of the attention of a head. -/

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen Cert.Attn
open Finset (range)

theorem col_at (t : Vec Ideal S256x1 .f32) (x : S1x256x1.Idx) : shapeCast S1x256x1 t shapeCasts_S256x1_S1x256x1 x = t (ix2 (x 1) 0) := by
  pointwise

section
variable {x0 x1 : Vec Ideal S2048x256 .bf16} {x2 : Vec Ideal S2048x128 .f32} {q k v : ℕ → ℕ → ℝ}
variable (hq : ∀ (a : Fin 2048) (b : Fin 256), x0 (ix2 a b) = ((q a b : ℝ) : EReal))
variable (hk : ∀ (a : Fin 2048) (b : Fin 256), x1 (ix2 a b) = ((k a b : ℝ) : EReal))

include hq hk in
theorem lse_at (r : Fin 2048) : out0_4 x0 x1 x2 (ix3 0 r 0) = ((lse q k r : ℝ) : EReal) := by
  unfold_out out0_4
  canon_tiles x h
  all_goals
    open_payloads
    rw [col_at]
    pointwise
    refine (row_lse (q := q) (k := k) (by norm_num) (by omega) (fun j => ?_)).trans ?_
    · refine sc_at (fun e => ?_) (fun e => ?_)
      · first
          | exact hq _ _
          | exact (hq _ _).trans (congrArg (fun a => ((q a e : ℝ) : EReal)) (Nat.zero_add _).symm)
      · exact hk _ _
    · first
        | exact congrArg (fun a => ((lse q k a : ℝ) : EReal)) h1.symm
        | exact congrArg (fun a => ((lse q k a : ℝ) : EReal)) ((Nat.zero_add _).trans h1.symm)

end

end Cert.KernelIdeal.Attn
-- ==== Proof.Attn.Bwd.lean ====
module

public import proofs.«01_k».proof.Proof.Gen.KernelIdeal.Frame
public import proofs.«01_k».proof.Proof.Attn.Row
public import Idealize.ShloMosaic.Lib.Pipeline.ValueKit
public import Idealize.ShloMosaic.Lib.Pipeline.ReadBack

@[expose] public section

/-! The backward call's blocks: the gradients of `q`, `k` and `v` of a head. -/

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen Cert.Attn
open Finset (range)

/-- Sums over the first `n` rows of a term of row, column and feature. -/
def acc {m : ℕ} (F : ℕ → ℕ → ℕ → ℝ) (n : ℕ) : Vec Ideal ⟨2, ![2048, m]⟩ .f32 :=
  fun y => ((∑ r ∈ range n, F r (y 0) (y 1) : ℝ) : EReal)

theorem acc_zero {m : ℕ} (F : ℕ → ℕ → ℕ → ℝ) : acc (m := m) F 0 = fun _ => 0 := by
  funext y; simp [acc]

/-- A store over the first `N` columns that adds the rows from `c` to a running sum. The columns past it have no term there. -/
theorem canon_acc {sig : RefSig} {m N : ℕ} {F : ℕ → ℕ → ℕ → ℝ} {L : List (View.Piece (Elt Ideal) ⟨2, ![2048, m]⟩ .f32)} {inb}
    {w : (Rect.unit (s := ⟨2, ![2048, m]⟩) ![0, 0] ![N, m] inb).shape.Idx → Elt Ideal .f32} (c : ℕ) (hN : N = c + 256)
    (hF : ∀ r j d, r < j → F r j d = 0) (h : View.canon L = acc F c)
    (hw : (∀ {sp : Space} (v : View sig .tc sp ⟨2, ![2048, m]⟩ .f32) (B : LoadRect ⟨2, ![2048, m]⟩), v.readCov L B = fun j => acc F c (B.idx j)) →
      ∀ x, w x = ((∑ r ∈ range N, F r (x 0) (x 1) : ℝ) : EReal)) :
    View.canon (⟨Rect.unit ![0, 0] ![N, m] inb, w⟩ :: L) = acc F N := by
  funext y
  by_cases hy : y ∈ (Rect.unit (s := ⟨2, ![2048, m]⟩) ![0, 0] ![N, m] inb).set
  · choose x hx hxy using (Rect.unit (s := ⟨2, ![2048, m]⟩) ![0, 0] ![N, m] inb).mem_set.mp hy
    have e : (Rect.unit (s := ⟨2, ![2048, m]⟩) ![0, 0] ![N, m] inb).emb (fun a => ⟨x a, hx a⟩) = y := Rect.emb_eq_of_coords _ _ _ hxy
    have e0 : (y 0 : ℕ) = 0 + 1 * x 0 := hxy 0
    have e1 : (y 1 : ℕ) = 0 + 1 * x 1 := hxy 1
    have hval := hw (fun v B => by rw [View.readCov_eq_canon', h]) (fun a => ⟨x a, hx a⟩)
    have hc := View.canon_cons_emb _ w L (fun a => ⟨x a, hx a⟩)
    rw [e] at hc
    rw [hc, hval, acc, e0, e1, Nat.zero_add, Nat.one_mul, Nat.zero_add, Nat.one_mul]
  · refine (View.canon_cons_of_not_mem ⟨_, w⟩ L hy).trans ((congrFun h y).trans ?_)
    have hj : N ≤ (y 0 : ℕ) := by
      by_contra hlt
      refine hy ((Rect.unit (s := ⟨2, ![2048, m]⟩) ![0, 0] ![N, m] inb).mem_set.mpr ?_)
      rw [Fin.forall_fin_two]
      exact ⟨⟨y 0, not_le.mp hlt, by show (y 0 : ℕ) = 0 + 1 * (y 0 : ℕ); omega⟩, ⟨y 1, (y 1).isLt, by show (y 1 : ℕ) = 0 + 1 * (y 1 : ℕ); omega⟩⟩
    refine congrArg (fun r : ℝ => (r : EReal)) ?_
    rw [hN, Finset.sum_range_add, Finset.sum_eq_zero (s := range 256), add_zero]
    intro r hr
    exact hF _ _ _ (by have := Finset.mem_range.mp hr; omega)

section
variable (V : (c : Dev nD) → (b : Ref sig .tc) → Buf (Elt Ideal) ((c : Thread nD τ).loc b)) (c : Dev nD) (t : Fin cfg1.N)
variable {q k v g : ℕ → ℕ → ℝ}
variable (hq : ∀ (a : Fin 2048) (b : Fin 256), (iblk1 V c 0 t : Vec Ideal S2048x256 .bf16) (ix2 a b) = ((q a b : ℝ) : EReal))
variable (hk : ∀ (a : Fin 2048) (b : Fin 256), (iblk1 V c 1 t : Vec Ideal S2048x256 .bf16) (ix2 a b) = ((k a b : ℝ) : EReal))
variable (hv : ∀ (a : Fin 2048) (b : Fin 128), (iblk1 V c 2 t : Vec Ideal S2048x128 .f32) (ix2 a b) = ((v a b : ℝ) : EReal))
variable (ho : ∀ (a : Fin 2048) (b : Fin 128), (iblk1 V c 3 t : Vec Ideal S2048x128 .bf16) (ix2 a b) = ((out q k v a b : ℝ) : EReal))
variable (hl : ∀ (a : Fin 2048), (iblk1 V c 4 t : Vec Ideal S1x2048x1 .f32) (ix3 0 a 0) = ((lse q k a : ℝ) : EReal))
variable (hg : ∀ (a : Fin 2048) (b : Fin 128), (iblk1 V c 5 t : Vec Ideal S2048x128 .f32) (ix2 a b) = ((g a b : ℝ) : EReal))

include hq hk hv ho hl hg

set_option maxHeartbeats 2000000 in
theorem dq_at (r : Fin 2048) (d : Fin 256) : (outsAt1 V c t).1 (ix2 r d) = ((dq q k v g r d : ℝ) : EReal) := by
  unfold outsAt1; dsimp only
  generalize iblk1 V c 0 t = x0 at hq ⊢
  generalize iblk1 V c 1 t = x1 at hk ⊢
  generalize iblk1 V c 2 t = x2 at hv ⊢
  generalize iblk1 V c 3 t = x3 at ho ⊢
  generalize iblk1 V c 4 t = x4 at hl ⊢
  generalize iblk1 V c 5 t = x5 at hg ⊢
  have hq0 : ∀ (a : Fin 2048) (b : Fin 256), x0 (ix2 a b) = ((q (0 + a) b : ℝ) : EReal) := fun a b => by rw [Nat.zero_add]; exact hq a b
  have hg0 : ∀ (a : Fin 2048) (b : Fin 128), x5 (ix2 a b) = ((g (0 + a) b : ℝ) : EReal) := fun a b => by rw [Nat.zero_add]; exact hg a b
  have ho0 : ∀ (a : Fin 2048) (b : Fin 128), x3 (ix2 a b) = ((out q k v (0 + a) b : ℝ) : EReal) := fun a b => by rw [Nat.zero_add]; exact ho a b
  have hl0 : ∀ a : Fin 2048, x4 (ix3 0 a 0) = ((lse q k (0 + a) : ℝ) : EReal) := fun a => by rw [Nat.zero_add]; exact hl a
  frame_out
  canon_tiles x h
  all_goals
    open_payloads
    pointwise
    first
      | refine row_dq (r := r) (c := 0) (a := x 0) (h0.trans (Nat.zero_add _).symm) (by norm_num) (by omega) (fun j => ?_)
      | refine row_dq (r := r) h0 (by norm_num) (by omega) (fun j => ?_)
    have hj := j.isLt
    refine ds_at (by omega) (by omega) (sc_at (fun e => ?_) fun e => hk _ _) ?_ (dp_at (fun e => ?_) fun e => hv _ _)
      (del_at (fun e => ?_) fun e => ?_) ?_
    · first | exact hq _ _ | exact hq0 _ _
    · first | exact hl _ | exact hl0 _
    · first | exact hg _ _ | exact hg0 _ _
    · first | exact hg _ _ | exact hg0 _ _
    · first | exact ho _ _ | exact ho0 _ _
    · exact (hk _ _).trans (congrArg (fun b => ((k j b : ℝ) : EReal)) h1.symm)

theorem dk_at (j : Fin 2048) (d : Fin 256) : (outsAt1 V c t).2.1 (ix2 j d) = ((dk q k v g j d : ℝ) : EReal) := by
  unfold outsAt1; dsimp only
  generalize iblk1 V c 0 t = x0 at hq ⊢
  generalize iblk1 V c 1 t = x1 at hk ⊢
  generalize iblk1 V c 2 t = x2 at hv ⊢
  generalize iblk1 V c 3 t = x3 at ho ⊢
  generalize iblk1 V c 4 t = x4 at hl ⊢
  generalize iblk1 V c 5 t = x5 at hg ⊢
  have hq0 : ∀ (a : Fin 2048) (b : Fin 256), x0 (ix2 a b) = ((q (0 + a) b : ℝ) : EReal) := fun a b => by rw [Nat.zero_add]; exact hq a b
  have hg0 : ∀ (a : Fin 2048) (b : Fin 128), x5 (ix2 a b) = ((g (0 + a) b : ℝ) : EReal) := fun a b => by rw [Nat.zero_add]; exact hg a b
  have ho0 : ∀ (a : Fin 2048) (b : Fin 128), x3 (ix2 a b) = ((out q k v (0 + a) b : ℝ) : EReal) := fun a b => by rw [Nat.zero_add]; exact ho a b
  have hl0 : ∀ a : Fin 2048, x4 (ix3 0 a 0) = ((lse q k (0 + a) : ℝ) : EReal) := fun a => by rw [Nat.zero_add]; exact hl a
  frame_open
  rw [View.read_writes_junk_eq_canon]
  have hF : ∀ r j d, r < j → ds q k v g r j * q r d = 0 := fun r j d h => by rw [ds_of_lt h, zero_mul]
  refine congrFun (?_ : _ = acc (fun r j d => ds q k v g r j * q r d) 2048) (ix2 j d)
  refine canon_acc (sig := sig) 1792 rfl hF (canon_acc (sig := sig) 1536 rfl hF (canon_acc (sig := sig) 1280 rfl hF (canon_acc (sig := sig) 1024 rfl hF
    (canon_acc (sig := sig) 768 rfl hF (canon_acc (sig := sig) 512 rfl hF (canon_acc (sig := sig) 256 rfl hF (canon_acc (sig := sig) 0 rfl hF ?_ ?_) ?_) ?_) ?_) ?_) ?_) ?_) ?_
  · rw [View.canon_cons_unit_lit _ _ _ (by decide), acc_zero]
    funext y
    open_payloads
    pointwise
  all_goals
    intro hL x
    rw [hL]
    clear hL
    simp only [View.readAt_eq_ld, Memref.IsWhole.read_unread]
    open_payloads
    pointwise [acc]
    have hx : (x 0 : ℕ) < 2048 := Nat.lt_of_lt_of_le (x 0).isLt (by decide)
    refine acc_step rfl (fun r => ds q k v g r (x 0) * q r (x 1)) rfl (fun a => ?_)
    have ha := a.isLt
    refine ds_at (by omega) hx (sc_at (fun e => ?_) fun e => hk _ _) ?_ (dp_at (fun e => ?_) fun e => hv _ _)
      (del_at (fun e => ?_) fun e => ?_) ?_
    · first | exact hq _ _ | exact hq0 _ _
    · first | exact hl _ | exact hl0 _
    · first | exact hg _ _ | exact hg0 _ _
    · first | exact hg _ _ | exact hg0 _ _
    · first | exact ho _ _ | exact ho0 _ _
    · first | exact hq _ _ | exact hq0 _ _
theorem dv_at (j : Fin 2048) (d : Fin 128) : (outsAt1 V c t).2.2 (ix2 j d) = ((dv q k g j d : ℝ) : EReal) := by
  unfold outsAt1; dsimp only
  generalize iblk1 V c 0 t = x0 at hq ⊢
  generalize iblk1 V c 1 t = x1 at hk ⊢
  generalize iblk1 V c 2 t = x2 at hv ⊢
  generalize iblk1 V c 3 t = x3 at ho ⊢
  generalize iblk1 V c 4 t = x4 at hl ⊢
  generalize iblk1 V c 5 t = x5 at hg ⊢
  have hq0 : ∀ (a : Fin 2048) (b : Fin 256), x0 (ix2 a b) = ((q (0 + a) b : ℝ) : EReal) := fun a b => by rw [Nat.zero_add]; exact hq a b
  have hg0 : ∀ (a : Fin 2048) (b : Fin 128), x5 (ix2 a b) = ((g (0 + a) b : ℝ) : EReal) := fun a b => by rw [Nat.zero_add]; exact hg a b
  have ho0 : ∀ (a : Fin 2048) (b : Fin 128), x3 (ix2 a b) = ((out q k v (0 + a) b : ℝ) : EReal) := fun a b => by rw [Nat.zero_add]; exact ho a b
  have hl0 : ∀ a : Fin 2048, x4 (ix3 0 a 0) = ((lse q k (0 + a) : ℝ) : EReal) := fun a => by rw [Nat.zero_add]; exact hl a
  frame_open
  rw [View.read_writes_junk_eq_canon]
  have hF : ∀ r j d, r < j → pr q k r j * g r d = 0 := fun r j d h => by rw [pr_of_lt h, zero_mul]
  refine congrFun (?_ : _ = acc (fun r j d => pr q k r j * g r d) 2048) (ix2 j d)
  refine canon_acc (sig := sig) 1792 rfl hF (canon_acc (sig := sig) 1536 rfl hF (canon_acc (sig := sig) 1280 rfl hF (canon_acc (sig := sig) 1024 rfl hF
    (canon_acc (sig := sig) 768 rfl hF (canon_acc (sig := sig) 512 rfl hF (canon_acc (sig := sig) 256 rfl hF (canon_acc (sig := sig) 0 rfl hF ?_ ?_) ?_) ?_) ?_) ?_) ?_) ?_) ?_
  · rw [View.canon_cons_unit_lit _ _ _ (by decide), acc_zero]
    funext y
    open_payloads
    pointwise
  all_goals
    intro hL x
    rw [hL]
    clear hL
    simp only [View.readAt_eq_ld, Memref.IsWhole.read_unread]
    open_payloads
    pointwise [acc]
    have hx : (x 0 : ℕ) < 2048 := Nat.lt_of_lt_of_le (x 0).isLt (by decide)
    refine acc_step rfl (fun r => pr q k r (x 0) * g r (x 1)) rfl (fun a => ?_)
    have ha := a.isLt
    refine pr_at (by omega) hx (sc_at (fun e => ?_) fun e => hk _ _) ?_ ?_
    · first | exact hq _ _ | exact hq0 _ _
    · first | exact hl _ | exact hl0 _
    · first | exact hg _ _ | exact hg0 _ _

end

end Cert.KernelIdeal.Attn
-- ==== Proof.Attn.Arr.lean ====
module

public import proofs.«01_k».proof.Proof.Attn.Fwd
public import proofs.«01_k».proof.Proof.Attn.FwdLse
public import proofs.«01_k».proof.Proof.Attn.Bwd

@[expose] public section

/-! The two calls' results, read over their whole arrays as the attention of all heads. -/

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen Cert.Attn

theorem idx0 : ∀ t : Fin grid0.N, (win0_0.index t 0 = 0 ∧ win0_0.index t 1 = t) ∧ (win0_1.index t 0 = 0 ∧ win0_1.index t 1 = t)
    ∧ (win0_2.index t 0 = 0 ∧ win0_2.index t 1 = 8 + t) ∧ (win0_3.index t 0 = 0 ∧ win0_3.index t 1 = t)
    ∧ (win0_4.index t 0 = t ∧ win0_4.index t 1 = 0 ∧ win0_4.index t 2 = 0) := by decide +kernel

theorem idx1 : ∀ t : Fin grid1.N, (win1_0.index t 0 = 0 ∧ win1_0.index t 1 = t) ∧ (win1_1.index t 0 = 0 ∧ win1_1.index t 1 = t)
    ∧ (win1_2.index t 0 = 0 ∧ win1_2.index t 1 = 8 + t) ∧ (win1_3.index t 0 = 0 ∧ win1_3.index t 1 = t)
    ∧ (win1_4.index t 0 = t ∧ win1_4.index t 1 = 0 ∧ win1_4.index t 2 = 0) ∧ (win1_5.index t 0 = 0 ∧ win1_5.index t 1 = t)
    ∧ (win1_6.index t 0 = 0 ∧ win1_6.index t 1 = t) ∧ (win1_7.index t 0 = 0 ∧ win1_7.index t 1 = t)
    ∧ (win1_8.index t 0 = 0 ∧ win1_8.index t 1 = t) := by decide +kernel

theorem head_div {w d : ℕ} (h : ℕ) (hd : d < w) : (h * w + d) / w = h := by
  rw [Nat.mul_comm, Nat.mul_add_div (by omega), Nat.div_eq_of_lt hd, Nat.add_zero]
theorem head_mod {w d : ℕ} (h : ℕ) (hd : d < w) : (h * w + d) % w = d := by
  rw [Nat.mul_comm, Nat.mul_add_mod, Nat.mod_eq_of_lt hd]
theorem eta2 {m n : ℕ} (y : (⟨2, ![m, n]⟩ : Shape).Idx) : y = ix2 (y 0) (y 1) := by
  funext a; fin_cases a <;> rfl
theorem eta3 (y : S1x2048x1.Idx) : y = ix3 0 (y 1) 0 := by
  funext a; fin_cases a
  · exact Subsingleton.elim (α := Fin 1) _ _
  · rfl
  · exact Subsingleton.elim (α := Fin 1) _ _

section
variable (V : (c : Dev nD) → (b : Ref sig .tc) → Buf (Elt Ideal) ((c : Thread nD τ).loc b)) (c : Dev nD)
variable {Q K KV G : ℕ → ℕ → ℝ}
variable (hQ : ∀ (a b : Fin 2048), (V c main_arg0 : Vec Ideal S2048x2048 .bf16) (ix2 a b) = ((Q a b : ℝ) : EReal))
variable (hK : ∀ (a b : Fin 2048), (V c main_arg1 : Vec Ideal S2048x2048 .bf16) (ix2 a b) = ((K a b : ℝ) : EReal))
variable (hKV : ∀ (a b : Fin 2048), (V c main_arg2 : Vec Ideal S2048x2048 .f32) (ix2 a b) = ((KV a b : ℝ) : EReal))
variable (hG : ∀ (a : Fin 2048) (b : Fin 1024), (V c main_arg3 : Vec Ideal S2048x1024 .f32) (ix2 a b) = ((G a b : ℝ) : EReal))
variable (hO : ∀ (a : Fin 2048) (b : Fin 1024), (V c main_v0_0 : Vec Ideal S2048x1024 .bf16) (ix2 a b) = ((outR Q K KV a b : ℝ) : EReal))
variable (hLse : ∀ (h : Fin 8) (a : Fin 2048), (V c main_v0_1 : Vec Ideal S8x2048x1 .f32) (ix3 h a 0)
  = ((lse (hd 0 256 Q h) (hd 0 256 K h) a : ℝ) : EReal))

include hQ in
theorem q_blk0 (t : Fin cfg0.N) (a : Fin 2048) (b : Fin 256) :
    (iblk0 V c 0 t : Vec Ideal S2048x256 .bf16) (ix2 a b) = ((hd 0 256 Q t a b : ℝ) : EReal) := by
  have ht : (t : ℕ) < 8 := t.isLt
  refine Eq.trans ?_ ((hQ a ⟨0 + t * 256 + b, by omega⟩).trans (by simp only [hd]))
  blk_ext [iblk0, idx0 t]

include hK in
theorem k_blk0 (t : Fin cfg0.N) (a : Fin 2048) (b : Fin 256) :
    (iblk0 V c 1 t : Vec Ideal S2048x256 .bf16) (ix2 a b) = ((hd 0 256 K t a b : ℝ) : EReal) := by
  have ht : (t : ℕ) < 8 := t.isLt
  refine Eq.trans ?_ ((hK a ⟨0 + t * 256 + b, by omega⟩).trans (by simp only [hd]))
  blk_ext [iblk0, idx0 t]

include hKV in
theorem v_blk0 (t : Fin cfg0.N) (a : Fin 2048) (b : Fin 128) :
    (iblk0 V c 2 t : Vec Ideal S2048x128 .f32) (ix2 a b) = ((hd 1024 128 KV t a b : ℝ) : EReal) := by
  have ht : (t : ℕ) < 8 := t.isLt
  refine Eq.trans ?_ ((hKV a ⟨1024 + t * 128 + b, by omega⟩).trans (by simp only [hd]))
  blk_ext [iblk0, idx0 t]

include hQ in
theorem q_blk1 (t : Fin cfg1.N) (a : Fin 2048) (b : Fin 256) :
    (iblk1 V c 0 t : Vec Ideal S2048x256 .bf16) (ix2 a b) = ((hd 0 256 Q t a b : ℝ) : EReal) := by
  have ht : (t : ℕ) < 8 := t.isLt
  refine Eq.trans ?_ ((hQ a ⟨0 + t * 256 + b, by omega⟩).trans (by simp only [hd]))
  blk_ext [iblk1, idx1 t]

include hK in
theorem k_blk1 (t : Fin cfg1.N) (a : Fin 2048) (b : Fin 256) :
    (iblk1 V c 1 t : Vec Ideal S2048x256 .bf16) (ix2 a b) = ((hd 0 256 K t a b : ℝ) : EReal) := by
  have ht : (t : ℕ) < 8 := t.isLt
  refine Eq.trans ?_ ((hK a ⟨0 + t * 256 + b, by omega⟩).trans (by simp only [hd]))
  blk_ext [iblk1, idx1 t]

include hKV in
theorem v_blk1 (t : Fin cfg1.N) (a : Fin 2048) (b : Fin 128) :
    (iblk1 V c 2 t : Vec Ideal S2048x128 .f32) (ix2 a b) = ((hd 1024 128 KV t a b : ℝ) : EReal) := by
  have ht : (t : ℕ) < 8 := t.isLt
  refine Eq.trans ?_ ((hKV a ⟨1024 + t * 128 + b, by omega⟩).trans (by simp only [hd]))
  blk_ext [iblk1, idx1 t]

include hG in
theorem g_blk1 (t : Fin cfg1.N) (a : Fin 2048) (b : Fin 128) :
    (iblk1 V c 5 t : Vec Ideal S2048x128 .f32) (ix2 a b) = ((hd 0 128 G t a b : ℝ) : EReal) := by
  have ht : (t : ℕ) < 8 := t.isLt
  refine Eq.trans ?_ ((hG a ⟨0 + t * 128 + b, by omega⟩).trans (by simp only [hd]))
  blk_ext [iblk1, idx1 t]

include hO in
theorem o_blk1 (t : Fin cfg1.N) (a : Fin 2048) (b : Fin 128) : (iblk1 V c 3 t : Vec Ideal S2048x128 .bf16) (ix2 a b)
    = ((out (hd 0 256 Q t) (hd 0 256 K t) (hd 1024 128 KV t) a b : ℝ) : EReal) := by
  have ht : (t : ℕ) < 8 := t.isLt
  refine Eq.trans ?_ ((hO a ⟨t * 128 + b, by omega⟩).trans ?_)
  · blk_ext [iblk1, idx1 t]
  · simp only [outR, head_div, head_mod, b.isLt]

include hLse in
theorem l_blk1 (t : Fin cfg1.N) (a : Fin 2048) : (iblk1 V c 4 t : Vec Ideal S1x2048x1 .f32) (ix3 0 a 0)
    = ((lse (hd 0 256 Q t) (hd 0 256 K t) a : ℝ) : EReal) := by
  refine Eq.trans ?_ (hLse ⟨t, t.isLt⟩ a)
  blk_ext [iblk1, idx1 t]

include hQ hK hKV in
theorem arr0_3 : (dat0 V c).arrAt 3 cfg0.N = (fun i => ((outR Q K KV (i 0) (i 1) : ℝ) : EReal) : Vec Ideal S2048x1024 .bf16) := by
  refine (dat0 V c).arrAt_eq_of_covers 3 _ (by decide +kernel) fun t hf y => ?_
  blk_simp
  rw [after0_3]
  refine (congrArg _ (eta2 (n := 128) y)).trans ((out_at (q_blk0 V c hQ t) (k_blk0 V c hK t) (v_blk0 V c hKV t) (y 0) (y 1)).trans ?_)
  have hy : (y 1 : ℕ) < 128 := (y 1).isLt
  simp only [outR, idx0 t, head_div _ hy, head_mod _ hy, Nat.zero_mul, Nat.zero_add]

include hQ hK in
theorem arr0_4 : (dat0 V c).arrAt 4 cfg0.N = (fun i => ((lse (hd 0 256 Q (i 0)) (hd 0 256 K (i 0)) (i 1) : ℝ) : EReal) : Vec Ideal S8x2048x1 .f32) := by
  refine (dat0 V c).arrAt_eq_of_covers 4 _ (by decide +kernel) fun t hf y => ?_
  blk_simp
  rw [after0_4]
  refine (congrArg _ (eta3 y)).trans ((lse_at (q_blk0 V c hQ t) (k_blk0 V c hK t) (y 1)).trans ?_)
  have hy : (y 0 : ℕ) = 0 := Nat.lt_one_iff.mp (y 0).isLt
  simp only [idx0 t, hy, Nat.zero_mul, Nat.zero_add, Nat.mul_one, Nat.add_zero]

include hQ hK hKV hG hO hLse in
theorem arr1_6 : (dat1 V c).arrAt 6 cfg1.N = (fun i => ((dqR Q K KV G (i 0) (i 1) : ℝ) : EReal) : Vec Ideal S2048x2048 .f32) := by
  refine (dat1 V c).arrAt_eq_of_covers 6 _ (by decide +kernel) fun t hf y => ?_
  blk_simp
  rw [after1_6]
  refine (congrArg _ (eta2 (n := 256) y)).trans ((dq_at V c t (q_blk1 V c hQ t) (k_blk1 V c hK t) (v_blk1 V c hKV t) (o_blk1 V c hO t) (l_blk1 V c hLse t)
    (g_blk1 V c hG t) (y 0) (y 1)).trans ?_)
  have hy : (y 1 : ℕ) < 256 := (y 1).isLt
  simp only [dqR, idx1 t, head_div _ hy, head_mod _ hy, Nat.zero_mul, Nat.zero_add]

include hQ hK hKV hG hO hLse in
theorem arr1_7 : (dat1 V c).arrAt 7 cfg1.N = (fun i => ((dkR Q K KV G (i 0) (i 1) : ℝ) : EReal) : Vec Ideal S2048x2048 .f32) := by
  refine (dat1 V c).arrAt_eq_of_covers 7 _ (by decide +kernel) fun t hf y => ?_
  blk_simp
  rw [after1_7]
  refine (congrArg _ (eta2 (n := 256) y)).trans ((dk_at V c t (q_blk1 V c hQ t) (k_blk1 V c hK t) (v_blk1 V c hKV t) (o_blk1 V c hO t) (l_blk1 V c hLse t)
    (g_blk1 V c hG t) (y 0) (y 1)).trans ?_)
  have hy : (y 1 : ℕ) < 256 := (y 1).isLt
  simp only [dkR, idx1 t, head_div _ hy, head_mod _ hy, Nat.zero_mul, Nat.zero_add]

include hQ hK hKV hG hO hLse in
theorem arr1_8 : (dat1 V c).arrAt 8 cfg1.N = (fun i => ((dvR Q K G (i 0) (i 1) : ℝ) : EReal) : Vec Ideal S2048x1024 .f32) := by
  refine (dat1 V c).arrAt_eq_of_covers 8 _ (by decide +kernel) fun t hf y => ?_
  blk_simp
  rw [after1_8]
  refine (congrArg _ (eta2 (n := 128) y)).trans ((dv_at V c t (q_blk1 V c hQ t) (k_blk1 V c hK t) (v_blk1 V c hKV t) (o_blk1 V c hO t) (l_blk1 V c hLse t)
    (g_blk1 V c hG t) (y 0) (y 1)).trans ?_)
  have hy : (y 1 : ℕ) < 128 := (y 1).isLt
  simp only [dvR, idx1 t, head_div _ hy, head_mod _ hy, Nat.zero_mul, Nat.zero_add]

end

end Cert.KernelIdeal.Attn
-- ==== Proof.Attn.Run.lean ====
module

public import proofs.«01_k».proof.Proof.Gen.KernelIdeal.Frame

@[expose] public section

/-! The run of the kernel with its results: the launch of the generated frame, with the outputs read as well. -/

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- The whole program runs, and ends with the two calls' results and the arguments as they were. -/
theorem run : θ_run defs (onTc (τ := τ) (main (F := F))) ⟨m, fun _ => 0, ρ⟩ (fun r => ∀ c : Dev nD,
      r.2.mem ((c.tc : Thread nD τ).loc main_v0_0) = (dat0 (V0 m ρ) c).arrAt 3 cfg0.N
      ∧ r.2.mem ((c.tc : Thread nD τ).loc main_v1_0) = (dat1 (V1 m ρ) c).arrAt 6 cfg1.N
      ∧ r.2.mem ((c.tc : Thread nD τ).loc main_v1_1) = (dat1 (V1 m ρ) c).arrAt 7 cfg1.N
      ∧ r.2.mem ((c.tc : Thread nD τ).loc main_v1_2) = (dat1 (V1 m ρ) c).arrAt 8 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ => fun c =>
      ⟨(h c _ (mem_uc main_v0_0 (by decide))).trans ((W2_of m ρ c main_v0_0 (by decide)).trans (W1_arr m ρ c 3)),
       (h c _ (mem_uc main_v1_0 (by decide))).trans (W2_arr m ρ c 6),
       (h c _ (mem_uc main_v1_1 (by decide))).trans (W2_arr m ρ c 7),
       (h c _ (mem_uc main_v1_2 (by decide))).trans (W2_arr m ρ c 8),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c)⟩)

end Cert.KernelIdeal.Attn
-- ==== Proof.Attn.Finite.lean ====
module

public import proofs.«01_k».proof.Proof.Gen.Pre_finite
public import proofs.«01_k».proof.Proof.Attn.Model
public import Idealize.ShloMosaic.Lib.Pipeline.ValueKit

@[expose] public section

/-! The precondition, read at an element: each argument holds real numbers. -/

noncomputable section

open Idealize.ShloMosaic

namespace Cert.Attn

open Cert.Pre_finite

theorem ofBits_inf : Ideal.ofBits .f32 0x7F800000#32 = (⊤ : EReal) := by
  simp [Ideal.ofBits, Ideal.ieee]

theorem real_of (x : EReal) (h : IntOp.andi (BitVec.ofBool (decide (x < Ideal.ofBits .f32 0x7F800000#32)))
    (BitVec.ofBool (decide (Ideal.ofBits .f32 0xFF800000#32 < x))) = 1#1) : ((x.toReal : ℝ) : EReal) = x := by
  rw [ofBits_inf, ofBits_ninf] at h
  refine EReal.coe_toReal (fun e => ?_) (fun e => ?_)
  · rw [e, decide_eq_false (lt_irrefl _)] at h
    revert h; generalize decide ((⊥ : EReal) < ⊤) = b; revert b; decide
  · rw [e, decide_eq_false (lt_irrefl _)] at h
    revert h; generalize decide ((⊥ : EReal) < ⊤) = b; revert b; decide

variable (x0 x1 : FVec Ideal S2048x2048 .bf16) (x2 : FVec Ideal S2048x2048 .f32) (x3 : FVec Ideal S2048x1024 .f32)

theorem real0 (h : (fn x0 x1 x2 x3).1 = fun _ => 1#1) (i : S2048x2048.Idx) : (((x0 i : EReal).toReal : ℝ) : EReal) = x0 i := by
  have h := congrFun h i
  simp only [fn, fn_part1] at h
  pointwise at h
  exact real_of _ h

theorem real1 (h : (fn x0 x1 x2 x3).2.1 = fun _ => 1#1) (i : S2048x2048.Idx) : (((x1 i : EReal).toReal : ℝ) : EReal) = x1 i := by
  have h := congrFun h i
  simp only [fn, fn_part1] at h
  pointwise at h
  exact real_of _ h

theorem real2 (h : (fn x0 x1 x2 x3).2.2.1 = fun _ => 1#1) (i : S2048x2048.Idx) : (((x2 i : EReal).toReal : ℝ) : EReal) = x2 i := by
  have h := congrFun h i
  simp only [fn, fn_part1] at h
  pointwise at h
  exact real_of _ h

theorem real3 (h : (fn x0 x1 x2 x3).2.2.2 = fun _ => 1#1) (i : S2048x1024.Idx) : (((x3 i : EReal).toReal : ℝ) : EReal) = x3 i := by
  have h := congrFun h i
  simp only [fn, fn_part1] at h
  pointwise at h
  exact real_of _ h

end Cert.Attn
-- ==== Proof.Attn.Final.lean ====
module

public import proofs.«01_k».proof.Defs
public import proofs.«01_k».proof.Proof.Attn.Ref
public import proofs.«01_k».proof.Proof.Attn.Arr
public import proofs.«01_k».proof.Proof.Attn.Run
public import proofs.«01_k».proof.Proof.Attn.Finite
public import proofs.«01_k».proof.Proof.Gen.ReferenceIdeal.Run

@[expose] public section

/-! The attention's kernel and its reference leave the same output and the same three gradients. -/

set_option maxRecDepth 16384

noncomputable section

namespace Cert.Attn

open Idealize.ShloMosaic Idealize.ShloMosaic.TcCoe Idealize.SL.Sem
open Cert.KernelIdeal.Gen (V0 V1)

/-- An array of real numbers as a function of two natural numbers. -/
def realOf {m n : ℕ} (X : (⟨2, ![m, n]⟩ : Shape).Idx → EReal) (a b : ℕ) : ℝ :=
  if h : a < m ∧ b < n then (X (ix2 ⟨a, h.1⟩ ⟨b, h.2⟩)).toReal else 0

theorem realOf_at {m n : ℕ} {X : (⟨2, ![m, n]⟩ : Shape).Idx → EReal} (hX : ∀ i, ((X i).toReal : EReal) = X i) (a : Fin m) (b : Fin n) :
    X (ix2 a b) = ((realOf X a b : ℝ) : EReal) := by
  rw [realOf, dif_pos ⟨a.isLt, b.isLt⟩, hX]

section
variable (m : (ℓ : Loc Cert.KernelIdeal.nD Cert.KernelIdeal.τ Cert.KernelIdeal.sig) → Buf (Elt Ideal) ℓ) (ρ : Dev Cert.KernelIdeal.nD → PrngReg)
variable (c : Dev Cert.KernelIdeal.nD)

abbrev Qm : ℕ → ℕ → ℝ := realOf (m := 2048) (n := 2048) (m ((c.tc : Thread Cert.KernelIdeal.nD Cert.KernelIdeal.τ).loc Cert.KernelIdeal.main_arg0))
abbrev Km : ℕ → ℕ → ℝ := realOf (m := 2048) (n := 2048) (m ((c.tc : Thread Cert.KernelIdeal.nD Cert.KernelIdeal.τ).loc Cert.KernelIdeal.main_arg1))
abbrev KVm : ℕ → ℕ → ℝ := realOf (m := 2048) (n := 2048) (m ((c.tc : Thread Cert.KernelIdeal.nD Cert.KernelIdeal.τ).loc Cert.KernelIdeal.main_arg2))
abbrev Gm : ℕ → ℕ → ℝ := realOf (m := 2048) (n := 1024) (m ((c.tc : Thread Cert.KernelIdeal.nD Cert.KernelIdeal.τ).loc Cert.KernelIdeal.main_arg3))

/-- The arguments are still there when the backward call begins. -/
theorem V1_arg (b : Ref Cert.KernelIdeal.sig .tc) (hb : b ∈ Cert.KernelIdeal.Gen.argRefs) :
    V1 m ρ c b = m ((c.tc : Thread Cert.KernelIdeal.nD Cert.KernelIdeal.τ).loc b) := Cert.KernelIdeal.Gen.W1_args m ρ c b hb

variable (hpre : Cert.Pre_KernelIdeal_finite m)

include hpre in
theorem q_at (a b : Fin 2048) : (m ((c.tc : Thread Cert.KernelIdeal.nD Cert.KernelIdeal.τ).loc Cert.KernelIdeal.main_arg0) : _ → EReal) (ix2 a b)
    = ((Qm m c a b : ℝ) : EReal) := realOf_at (real0 _ _ _ _ (hpre c).1) a b
include hpre in
theorem k_at (a b : Fin 2048) : (m ((c.tc : Thread Cert.KernelIdeal.nD Cert.KernelIdeal.τ).loc Cert.KernelIdeal.main_arg1) : _ → EReal) (ix2 a b)
    = ((Km m c a b : ℝ) : EReal) := realOf_at (real1 _ _ _ _ (hpre c).2.1) a b
include hpre in
theorem kv_at (a b : Fin 2048) : (m ((c.tc : Thread Cert.KernelIdeal.nD Cert.KernelIdeal.τ).loc Cert.KernelIdeal.main_arg2) : _ → EReal) (ix2 a b)
    = ((KVm m c a b : ℝ) : EReal) := realOf_at (real2 _ _ _ _ (hpre c).2.2.1) a b
include hpre in
theorem g_at (a : Fin 2048) (b : Fin 1024) : (m ((c.tc : Thread Cert.KernelIdeal.nD Cert.KernelIdeal.τ).loc Cert.KernelIdeal.main_arg3) : _ → EReal) (ix2 a b)
    = ((Gm m c a b : ℝ) : EReal) := realOf_at (real3 _ _ _ _ (hpre c).2.2.2) a b

end

theorem algebraic : Cert.algebraic_KernelIdeal_ReferenceIdeal_pre_finite := by
  intro m ρ m' ρ' hpre hag
  refine ⟨fun c => (fun i => ((outR (Qm m c) (Km m c) (KVm m c) (i 0) (i 1) : ℝ) : EReal) : Vec Ideal Cert.KernelIdeal.S2048x1024 .bf16),
    fun c => (fun i => ((dqR (Qm m c) (Km m c) (KVm m c) (Gm m c) (i 0) (i 1) : ℝ) : EReal) : Vec Ideal Cert.KernelIdeal.S2048x2048 .f32),
    fun c => (fun i => ((dkR (Qm m c) (Km m c) (KVm m c) (Gm m c) (i 0) (i 1) : ℝ) : EReal) : Vec Ideal Cert.KernelIdeal.S2048x2048 .f32),
    fun c => (fun i => ((dvR (Qm m c) (Km m c) (Gm m c) (i 0) (i 1) : ℝ) : EReal) : Vec Ideal Cert.KernelIdeal.S2048x1024 .f32),
    (θ_run _ _ _).mono (fun r h c => ?_) (Cert.KernelIdeal.Attn.run m ρ),
    (θ_run _ _ _).mono (fun r h c => ?_) (Cert.ReferenceIdeal.Value.run m' ρ')⟩
  · obtain ⟨h0, h1, h2, h3, ha⟩ := h c
    have hQ := q_at m c hpre
    have hK := k_at m c hpre
    have hV := kv_at m c hpre
    have hG := g_at m c hpre
    have e3 := Cert.KernelIdeal.Attn.arr0_3 (V0 m ρ) c hQ hK hV
    have e4 := Cert.KernelIdeal.Attn.arr0_4 (V0 m ρ) c hQ hK
    have hQ1 : ∀ (a b : Fin 2048), (V1 m ρ c Cert.KernelIdeal.main_arg0 : Vec Ideal Cert.KernelIdeal.S2048x2048 .bf16) (ix2 a b) = _ :=
      fun a b => (congrFun (V1_arg m ρ c _ (by decide)) _).trans (hQ a b)
    have hK1 : ∀ (a b : Fin 2048), (V1 m ρ c Cert.KernelIdeal.main_arg1 : Vec Ideal Cert.KernelIdeal.S2048x2048 .bf16) (ix2 a b) = _ :=
      fun a b => (congrFun (V1_arg m ρ c _ (by decide)) _).trans (hK a b)
    have hV1 : ∀ (a b : Fin 2048), (V1 m ρ c Cert.KernelIdeal.main_arg2 : Vec Ideal Cert.KernelIdeal.S2048x2048 .f32) (ix2 a b) = _ :=
      fun a b => (congrFun (V1_arg m ρ c _ (by decide)) _).trans (hV a b)
    have hG1 : ∀ (a : Fin 2048) (b : Fin 1024), (V1 m ρ c Cert.KernelIdeal.main_arg3 : Vec Ideal Cert.KernelIdeal.S2048x1024 .f32) (ix2 a b) = _ :=
      fun a b => (congrFun (V1_arg m ρ c _ (by decide)) _).trans (hG a b)
    have hO : ∀ (a : Fin 2048) (b : Fin 1024), (V1 m ρ c Cert.KernelIdeal.main_v0_0 : Vec Ideal Cert.KernelIdeal.S2048x1024 .bf16) (ix2 a b) = _ :=
      fun a b => congrFun ((Cert.KernelIdeal.Gen.W1_arr m ρ c 3).trans e3) (ix2 a b)
    have hL : ∀ (h : Fin 8) (a : Fin 2048), (V1 m ρ c Cert.KernelIdeal.main_v0_1 : Vec Ideal Cert.KernelIdeal.S8x2048x1 .f32) (ix3 h a 0) = _ :=
      fun h a => congrFun ((Cert.KernelIdeal.Gen.W1_arr m ρ c 4).trans e4) (ix3 h a 0)
    exact ⟨h0.trans e3, h1.trans (Cert.KernelIdeal.Attn.arr1_6 (V1 m ρ) c hQ1 hK1 hV1 hG1 hO hL),
      h2.trans (Cert.KernelIdeal.Attn.arr1_7 (V1 m ρ) c hQ1 hK1 hV1 hG1 hO hL),
      h3.trans (Cert.KernelIdeal.Attn.arr1_8 (V1 m ρ) c hQ1 hK1 hV1 hG1 hO hL), ha⟩
  · obtain ⟨h0, h1, h2, h3, ha⟩ := h c
    obtain ⟨a0, a1, a2, a3⟩ := hag c
    have hQ : ∀ (a b : Fin 2048), Cert.ReferenceIdeal.Attn.argq m' c (ix2 a b) = ((Qm m c a b : ℝ) : EReal) :=
      fun a b => (congrFun a0 _).trans (q_at m c hpre a b)
    have hK : ∀ (a b : Fin 2048), Cert.ReferenceIdeal.Attn.argk m' c (ix2 a b) = ((Km m c a b : ℝ) : EReal) :=
      fun a b => (congrFun a1 _).trans (k_at m c hpre a b)
    have hV : ∀ (a b : Fin 2048), Cert.ReferenceIdeal.Attn.argkv m' c (ix2 a b) = ((KVm m c a b : ℝ) : EReal) :=
      fun a b => (congrFun a2 _).trans (kv_at m c hpre a b)
    have hG : ∀ (a : Fin 2048) (b : Fin 1024), Cert.ReferenceIdeal.Attn.argg m' c (ix2 a b) = ((Gm m c a b : ℝ) : EReal) :=
      fun a b => (congrFun a3 _).trans (g_at m c hpre a b)
    refine ⟨h0.trans (funext fun i => ?_), h1.trans (funext fun i => ?_), h2.trans (funext fun i => ?_), h3.trans (funext fun i => ?_), ha⟩
    · exact (congrArg _ (Cert.KernelIdeal.Attn.eta2 i)).trans (Cert.ReferenceIdeal.Attn.res0_at m' c hQ hK hV (i 0) (i 1))
    · exact (congrArg _ (Cert.KernelIdeal.Attn.eta2 i)).trans (Cert.ReferenceIdeal.Attn.res1_at m' c hQ hK hV hG (i 0) (i 1))
    · exact (congrArg _ (Cert.KernelIdeal.Attn.eta2 i)).trans (Cert.ReferenceIdeal.Attn.res2_at m' c hQ hK hV hG (i 0) (i 1))
    · exact (congrArg _ (Cert.KernelIdeal.Attn.eta2 i)).trans (Cert.ReferenceIdeal.Attn.res3_at m' c hQ hK hG (i 0) (i 1))

end Cert.Attn
-- ==== Proof.Mat.lean ====
module

public import Idealize.ShloMosaic.Lib.Pipeline.ValueKit
public import Idealize.ShloMosaic.Lib.Pipeline.ReadBack

@[expose] public section

/-! Matrices read as functions of two natural numbers, and their product. -/

noncomputable section

namespace Cert.Mat

open Idealize.ShloMosaic Idealize.ShloMosaic.TcCoe

/-- The product of two matrices, contracted over `K`. -/
def mm (K : ℕ) (A B : ℕ → ℕ → EReal) (i j : ℕ) : EReal := ∑ k : Fin K, A i k * B k j

/-- The matrix turned. -/
def tr (A : ℕ → ℕ → EReal) (i j : ℕ) : EReal := A j i

/-- An array as a function of two natural numbers. -/
def valOf {m n : ℕ} (X : (⟨2, ![m, n]⟩ : Shape).Idx → EReal) (a b : ℕ) : EReal :=
  if h : a < m ∧ b < n then X (ix2 ⟨a, h.1⟩ ⟨b, h.2⟩) else 0

theorem valOf_at {m n : ℕ} (X : (⟨2, ![m, n]⟩ : Shape).Idx → EReal) (a : Fin m) (b : Fin n) : X (ix2 a b) = valOf X a b := by
  rw [valOf, dif_pos ⟨a.isLt, b.isLt⟩]

theorem eta2 {m n : ℕ} (y : (⟨2, ![m, n]⟩ : Shape).Idx) : y = ix2 (y 0) (y 1) := by
  funext a; fin_cases a <;> rfl

theorem step_div {n m : ℕ} (h : (n + 1) % m ≠ 0) : (n + 1) % m = n % m + 1 ∧ (n + 1) / m = n / m := by
  have hd : (n + 1) / m = n / m := Nat.succ_div_of_not_dvd fun d => h (Nat.mod_eq_zero_of_dvd d)
  have a := Nat.div_add_mod (n + 1) m
  have b := Nat.div_add_mod n m
  rw [hd] at a
  exact ⟨by omega, hd⟩

/-- A sum gathered in a scratch over `nk` grid points, each adding `T` of its terms: the first point begins it with `b`, the
    next ones add to what the point before left. `g` counts the sweeps. -/
theorem gather {N nk T : ℕ} (hk : 1 < nk) (s : (t : ℕ) → t < N → EReal) (b : ℕ → EReal) (f : ℕ → ℕ → EReal)
    (first : ∀ t (h : t < N), t % nk = 0 → s t h = b (t / nk) + ∑ k ∈ Finset.range T, f (t / nk) (t % nk * T + k))
    (next : ∀ t (h : t < N), t % nk ≠ 0 → t % nk ≠ nk - 1 →
      s t h = s (t - 1) (lt_of_le_of_lt (Nat.sub_le _ _) h) + ∑ k ∈ Finset.range T, f (t / nk) (t % nk * T + k)) :
    ∀ t (h : t < N), t % nk ≠ nk - 1 → s t h = b (t / nk) + ∑ k ∈ Finset.range ((t % nk + 1) * T), f (t / nk) k := by
  intro t
  induction t with
  | zero => intro h _; rw [first 0 h (Nat.zero_mod _)]; simp only [Nat.zero_mod, Nat.zero_mul, Nat.zero_add, Nat.one_mul]
  | succ n ih =>
    intro h hl
    by_cases h0 : (n + 1) % nk = 0
    · rw [first _ h h0]; simp only [h0, Nat.zero_mul, Nat.zero_add, Nat.one_mul]
    · obtain ⟨e1, e2⟩ := step_div h0
      rw [next _ h h0 hl]
      refine (congrArg (· + _) (ih (Nat.lt_of_succ_lt h) ?_)).trans ?_
      · have := Nat.mod_lt (n + 1) (show nk > 0 by omega)
        omega
      · rw [e1, e2, add_assoc, Nat.succ_mul (n % nk + 1) T, Finset.sum_range_add]

/-- The last point of a sweep writes the whole sum. -/
theorem gather_last {N nk T : ℕ} (hk : 1 < nk) (s : (t : ℕ) → t < N → EReal) (b : ℕ → EReal) (f : ℕ → ℕ → EReal)
    (first : ∀ t (h : t < N), t % nk = 0 → s t h = b (t / nk) + ∑ k ∈ Finset.range T, f (t / nk) (t % nk * T + k))
    (next : ∀ t (h : t < N), t % nk ≠ 0 → t % nk ≠ nk - 1 →
      s t h = s (t - 1) (lt_of_le_of_lt (Nat.sub_le _ _) h) + ∑ k ∈ Finset.range T, f (t / nk) (t % nk * T + k))
    (t : ℕ) (h : t < N) (hl : t % nk = nk - 1) :
    s (t - 1) (lt_of_le_of_lt (Nat.sub_le _ _) h) + ∑ k ∈ Finset.range T, f (t / nk) (t % nk * T + k)
      = b (t / nk) + ∑ k ∈ Finset.range (nk * T), f (t / nk) k := by
  obtain ⟨u, rfl⟩ : ∃ u, t = u + 1 := by
    cases t with
    | zero => rw [Nat.zero_mod] at hl; omega
    | succ u => exact ⟨u, rfl⟩
  obtain ⟨e1, e2⟩ := step_div (n := u) (m := nk) (by omega)
  refine (congrArg (· + _) (gather hk s b f first next u (Nat.lt_of_succ_lt h) (by omega))).trans ?_
  have e3 : nk = u % nk + 1 + 1 := by omega
  rw [e1, e2, add_assoc, ← Finset.sum_range_add, ← Nat.succ_mul]
  rw [show nk * T = (u % nk + 1 + 1) * T from congrArg (· * T) e3]

end Cert.Mat
-- ==== Proof.Ffn.Arr.lean ====
module

public import proofs.«01_k».proof.Proof.Gen.KernelFfnIdeal.Frame
public import proofs.«01_k».proof.Proof.Mat

@[expose] public section

/-! The channel mixer's six calls, each read over its whole array. -/

set_option maxRecDepth 16384

noncomputable section

open Idealize.ShloMosaic Idealize.ShloMosaic.TcCoe Idealize.SL.Sem
open Idealize.ShloMosaic.Pipeline (Dat)

namespace Cert.Ffn

/-- The logistic function. -/
def sg (x : EReal) : EReal := Ideal.div 1 (1 + Ideal.exp (0 - x))
/-- The gated unit: `g` through its logistic, times `u`. -/
def act (g u : EReal) : EReal := g * sg g * u
/-- Its derivative by `g`, times the cotangent. -/
def dgate (g u d : EReal) : EReal := d * u * sg g * (1 + g * (1 - sg g))
/-- Its derivative by `u`, times the cotangent. -/
def dup (g d : EReal) : EReal := d * g * sg g

end Cert.Ffn

namespace Cert.KernelFfnIdeal.Ffn

open Cert.KernelFfnIdeal Cert.KernelFfnIdeal.Gen Cert.Ffn Cert.Mat

theorem out0_at (x0 : Vec Ideal S1024x2048 .bf16) (x1 : Vec Ideal S2048x1024 .bf16) (r d : Fin 1024) :
    out0_2 x0 x1 (ix2 r d) = ∑ k : Fin 2048, (x0 (ix2 r k) * x1 (ix2 k d) : EReal) := by
  frame_out; open_payloads; pointwise

theorem out1_at (x0 x1 : Vec Ideal S256x512 .f32) (r : Fin 256) (d : Fin 512) :
    out1_2 x0 x1 (ix2 r d) = act (x0 (ix2 r d)) (x1 (ix2 r d)) := by
  frame_out; open_payloads; pointwise [act, sg]

theorem out2_at (x0 : Vec Ideal S1024x2048 .bf16) (x1 : Vec Ideal S512x2048 .bf16) (r : Fin 1024) (d : Fin 512) :
    out2_2 x0 x1 (ix2 r d) = ∑ k : Fin 2048, (x0 (ix2 r k) * x1 (ix2 d k) : EReal) := by
  frame_out; open_payloads; pointwise

theorem out3_at (x0 : Vec Ideal S512x2048 .bf16) (x1 : Vec Ideal S2048x1024 .bf16) (r : Fin 512) (d : Fin 1024) :
    out3_2 x0 x1 (ix2 r d) = ∑ k : Fin 2048, (x0 (ix2 r k) * x1 (ix2 k d) : EReal) := by
  frame_out; open_payloads; pointwise

theorem out4_3_at (x0 x1 x2 : Vec Ideal S256x512 .f32) (r : Fin 256) (d : Fin 512) :
    out4_3 x0 x1 x2 (ix2 r d) = dgate (x0 (ix2 r d)) (x1 (ix2 r d)) (x2 (ix2 r d)) := by
  frame_out; open_payloads; pointwise [dgate, sg]

theorem out4_4_at (x0 x1 x2 : Vec Ideal S256x512 .f32) (r : Fin 256) (d : Fin 512) :
    out4_4 x0 x1 x2 (ix2 r d) = dup (x0 (ix2 r d)) (x2 (ix2 r d)) := by
  frame_out; open_payloads; pointwise [dup, sg]

theorem out5_at (x0 : Vec Ideal S1024x2048 .bf16) (x1 : Vec Ideal S2048x1024 .bf16) (r d : Fin 1024) :
    out5_2 x0 x1 (ix2 r d) = ∑ k : Fin 2048, (x0 (ix2 r k) * x1 (ix2 k d) : EReal) := by
  frame_out; open_payloads; pointwise

theorem idx0 : ∀ t : Fin grid0.N, (win0_0.index t 0 = t / 11 ∧ win0_0.index t 1 = 0) ∧ (win0_1.index t 0 = 0 ∧ win0_1.index t 1 = t % 11)
    ∧ (win0_2.index t 0 = t / 11 ∧ win0_2.index t 1 = t % 11) := by decide +kernel
theorem idx1 : ∀ t : Fin grid1.N, (win1_0.index t 0 = t / 11 ∧ win1_0.index t 1 = t % 11) ∧ (win1_1.index t 0 = t / 11 ∧ win1_1.index t 1 = 11 + t % 11)
    ∧ (win1_2.index t 0 = t / 11 ∧ win1_2.index t 1 = t % 11) := by decide +kernel
theorem idx2 : ∀ t : Fin grid2.N, (win2_0.index t 0 = t / 11 ∧ win2_0.index t 1 = 0) ∧ (win2_1.index t 0 = t % 11 ∧ win2_1.index t 1 = 0)
    ∧ (win2_2.index t 0 = t / 11 ∧ win2_2.index t 1 = t % 11) := by decide +kernel
theorem idx3 : ∀ t : Fin grid3.N, (win3_0.index t 0 = t / 2 ∧ win3_0.index t 1 = 0) ∧ (win3_1.index t 0 = 0 ∧ win3_1.index t 1 = t % 2)
    ∧ (win3_2.index t 0 = t / 2 ∧ win3_2.index t 1 = t % 2) := by decide +kernel
theorem idx4 : ∀ t : Fin grid4.N, (win4_0.index t 0 = t / 11 ∧ win4_0.index t 1 = t % 11) ∧ (win4_1.index t 0 = t / 11 ∧ win4_1.index t 1 = 11 + t % 11)
    ∧ (win4_2.index t 0 = t / 11 ∧ win4_2.index t 1 = t % 11) ∧ (win4_3.index t 0 = t / 11 ∧ win4_3.index t 1 = t % 11)
    ∧ (win4_4.index t 0 = t / 11 ∧ win4_4.index t 1 = t % 11) := by decide +kernel
theorem idx5 : ∀ t : Fin grid5.N, (win5_0.index t 0 = t / 11 ∧ win5_0.index t 1 = 0) ∧ (win5_1.index t 0 = 0 ∧ win5_1.index t 1 = t % 11)
    ∧ (win5_2.index t 0 = t / 11 ∧ win5_2.index t 1 = t % 11) := by decide +kernel

variable (V : (c : Dev nD) → (b : Ref sig .tc) → Buf (Elt Ideal) ((c : Thread nD τ).loc b)) (c : Dev nD)
variable {A B D : ℕ → ℕ → EReal}

theorem arr0 (hA : ∀ (a b : Fin 2048), (V c main_arg0 : Vec Ideal S2048x2048 .bf16) (ix2 a b) = A a b)
    (hB : ∀ (a : Fin 2048) (b : Fin 11264), (V c main_arg1 : Vec Ideal S2048x11264 .bf16) (ix2 a b) = B a b) :
    (dat0 V c).arrAt 2 cfg0.N = (fun i => mm 2048 A B (i 0) (i 1) : Vec Ideal S2048x11264 .f32) := by
  refine (dat0 V c).arrAt_eq_of_covers 2 _ (by decide +kernel) fun t hf y => ?_
  have ht : (t : ℕ) < 22 := t.isLt
  have h0 : (y 0 : ℕ) < 1024 := (y 0).isLt
  have h1 : (y 1 : ℕ) < 1024 := (y 1).isLt
  blk_simp
  rw [after0_2]
  refine (congrArg _ (eta2 (m := 1024) (n := 1024) y)).trans ((out0_at _ _ _ _).trans ?_)
  simp only [mm, idx0 t]
  refine Finset.sum_congr rfl fun k _ => congrArg₂ _ ?_ ?_
  · refine Eq.trans ?_ (hA ⟨t / 11 * 1024 + y 0, by omega⟩ k)
    blk_ext [iblk0, idx0 t]
  · refine Eq.trans ?_ (hB k ⟨t % 11 * 1024 + y 1, by omega⟩)
    blk_ext [iblk0, idx0 t]

section
variable (hG : ∀ (a : Fin 2048) (b : Fin 11264), (V c main_v0 : Vec Ideal S2048x11264 .f32) (ix2 a b) = A a b)
include hG

theorem arr1 : (dat1 V c).arrAt 2 cfg1.N = (fun i => act (A (i 0) (i 1)) (A (i 0) (5632 + i 1)) : Vec Ideal S2048x5632 .bf16) := by
  refine (dat1 V c).arrAt_eq_of_covers 2 _ (by decide +kernel) fun t hf y => ?_
  have ht : (t : ℕ) < 88 := t.isLt
  have h0 : (y 0 : ℕ) < 256 := (y 0).isLt
  have h1 : (y 1 : ℕ) < 512 := (y 1).isLt
  blk_simp
  rw [after1_2]
  refine (congrArg _ (eta2 (m := 256) (n := 512) y)).trans ((out1_at _ _ _ _).trans ?_)
  simp only [idx1 t]
  refine congrArg₂ _ ?_ ?_
  · refine Eq.trans ?_ (hG ⟨t / 11 * 256 + y 0, by omega⟩ ⟨t % 11 * 512 + y 1, by omega⟩)
    blk_ext [iblk1, idx1 t]
  · refine Eq.trans ?_ ((hG ⟨t / 11 * 256 + y 0, by omega⟩ ⟨(11 + t % 11) * 512 + y 1, by omega⟩).trans (congrArg (A _) (by simp only; omega)))
    blk_ext [iblk1, idx1 t]

variable (hD : ∀ (a : Fin 2048) (b : Fin 5632), (V c main_v2 : Vec Ideal S2048x5632 .f32) (ix2 a b) = D a b)
include hD

theorem arr4_3 : (dat4 V c).arrAt 3 cfg4.N
    = (fun i => dgate (A (i 0) (i 1)) (A (i 0) (5632 + i 1)) (D (i 0) (i 1)) : Vec Ideal S2048x5632 .bf16) := by
  refine (dat4 V c).arrAt_eq_of_covers 3 _ (by decide +kernel) fun t hf y => ?_
  have ht : (t : ℕ) < 88 := t.isLt
  have h0 : (y 0 : ℕ) < 256 := (y 0).isLt
  have h1 : (y 1 : ℕ) < 512 := (y 1).isLt
  blk_simp
  rw [after4_3]
  refine (congrArg _ (eta2 (m := 256) (n := 512) y)).trans ((out4_3_at _ _ _ _ _).trans ?_)
  simp only [idx4 t]
  congr 1
  · refine Eq.trans ?_ (hG ⟨t / 11 * 256 + y 0, by omega⟩ ⟨t % 11 * 512 + y 1, by omega⟩)
    blk_ext [iblk4, idx4 t]
  · refine Eq.trans ?_ ((hG ⟨t / 11 * 256 + y 0, by omega⟩ ⟨(11 + t % 11) * 512 + y 1, by omega⟩).trans (congrArg (A _) (by simp only; omega)))
    blk_ext [iblk4, idx4 t]
  · refine Eq.trans ?_ (hD ⟨t / 11 * 256 + y 0, by omega⟩ ⟨t % 11 * 512 + y 1, by omega⟩)
    blk_ext [iblk4, idx4 t]

theorem arr4_4 : (dat4 V c).arrAt 4 cfg4.N = (fun i => dup (A (i 0) (i 1)) (D (i 0) (i 1)) : Vec Ideal S2048x5632 .bf16) := by
  refine (dat4 V c).arrAt_eq_of_covers 4 _ (by decide +kernel) fun t hf y => ?_
  have ht : (t : ℕ) < 88 := t.isLt
  have h0 : (y 0 : ℕ) < 256 := (y 0).isLt
  have h1 : (y 1 : ℕ) < 512 := (y 1).isLt
  blk_simp
  rw [after4_4]
  refine (congrArg _ (eta2 (m := 256) (n := 512) y)).trans ((out4_4_at _ _ _ _ _).trans ?_)
  simp only [idx4 t]
  congr 1
  · refine Eq.trans ?_ (hG ⟨t / 11 * 256 + y 0, by omega⟩ ⟨t % 11 * 512 + y 1, by omega⟩)
    blk_ext [iblk4, idx4 t]
  · refine Eq.trans ?_ (hD ⟨t / 11 * 256 + y 0, by omega⟩ ⟨t % 11 * 512 + y 1, by omega⟩)
    blk_ext [iblk4, idx4 t]

end

theorem arr2 (hA : ∀ (a b : Fin 2048), (V c main_arg3 : Vec Ideal S2048x2048 .bf16) (ix2 a b) = A a b)
    (hB : ∀ (a : Fin 5632) (b : Fin 2048), (V c main_arg2 : Vec Ideal S5632x2048 .bf16) (ix2 a b) = B a b) :
    (dat2 V c).arrAt 2 cfg2.N = (fun i => mm 2048 A (fun a b => B b a) (i 0) (i 1) : Vec Ideal S2048x5632 .f32) := by
  refine (dat2 V c).arrAt_eq_of_covers 2 _ (by decide +kernel) fun t hf y => ?_
  have ht : (t : ℕ) < 22 := t.isLt
  have h0 : (y 0 : ℕ) < 1024 := (y 0).isLt
  have h1 : (y 1 : ℕ) < 512 := (y 1).isLt
  blk_simp
  rw [after2_2]
  refine (congrArg _ (eta2 (m := 1024) (n := 512) y)).trans ((out2_at _ _ _ _).trans ?_)
  simp only [mm, idx2 t]
  refine Finset.sum_congr rfl fun k _ => congrArg₂ _ ?_ ?_
  · refine Eq.trans ?_ (hA ⟨t / 11 * 1024 + y 0, by omega⟩ k)
    blk_ext [iblk2, idx2 t]
  · refine Eq.trans ?_ (hB ⟨t % 11 * 512 + y 1, by omega⟩ k)
    blk_ext [iblk2, idx2 t]

theorem arr3 (hA : ∀ (a : Fin 5632) (b : Fin 2048), (V c main_v3 : Vec Ideal S5632x2048 .bf16) (ix2 a b) = A a b)
    (hB : ∀ (a b : Fin 2048), (V c main_arg3 : Vec Ideal S2048x2048 .bf16) (ix2 a b) = B a b) :
    (dat3 V c).arrAt 2 cfg3.N = (fun i => mm 2048 A B (i 0) (i 1) : Vec Ideal S5632x2048 .bf16) := by
  refine (dat3 V c).arrAt_eq_of_covers 2 _ (by decide +kernel) fun t hf y => ?_
  have ht : (t : ℕ) < 22 := t.isLt
  have h0 : (y 0 : ℕ) < 512 := (y 0).isLt
  have h1 : (y 1 : ℕ) < 1024 := (y 1).isLt
  blk_simp
  rw [after3_2]
  refine (congrArg _ (eta2 (m := 512) (n := 1024) y)).trans ((out3_at _ _ _ _).trans ?_)
  simp only [mm, idx3 t]
  refine Finset.sum_congr rfl fun k _ => congrArg₂ _ ?_ ?_
  · refine Eq.trans ?_ (hA ⟨t / 2 * 512 + y 0, by omega⟩ k)
    blk_ext [iblk3, idx3 t]
  · refine Eq.trans ?_ (hB k ⟨t % 2 * 1024 + y 1, by omega⟩)
    blk_ext [iblk3, idx3 t]

theorem arr5 (hA : ∀ (a b : Fin 2048), (V c main_v7 : Vec Ideal S2048x2048 .bf16) (ix2 a b) = A a b)
    (hB : ∀ (a : Fin 2048) (b : Fin 11264), (V c main_v6 : Vec Ideal S2048x11264 .bf16) (ix2 a b) = B a b) :
    (dat5 V c).arrAt 2 cfg5.N = (fun i => mm 2048 A B (i 0) (i 1) : Vec Ideal S2048x11264 .bf16) := by
  refine (dat5 V c).arrAt_eq_of_covers 2 _ (by decide +kernel) fun t hf y => ?_
  have ht : (t : ℕ) < 22 := t.isLt
  have h0 : (y 0 : ℕ) < 1024 := (y 0).isLt
  have h1 : (y 1 : ℕ) < 1024 := (y 1).isLt
  blk_simp
  rw [after5_2]
  refine (congrArg _ (eta2 (m := 1024) (n := 1024) y)).trans ((out5_at _ _ _ _).trans ?_)
  simp only [mm, idx5 t]
  refine Finset.sum_congr rfl fun k _ => congrArg₂ _ ?_ ?_
  · refine Eq.trans ?_ (hA ⟨t / 11 * 1024 + y 0, by omega⟩ k)
    blk_ext [iblk5, idx5 t]
  · refine Eq.trans ?_ (hB k ⟨t % 11 * 1024 + y 1, by omega⟩)
    blk_ext [iblk5, idx5 t]

end Cert.KernelFfnIdeal.Ffn
-- ==== Proof.Ffn.Ref.lean ====
module

public import proofs.«01_k».proof.Proof.Gen.ReferenceFfnIdeal.Run
public import proofs.«01_k».proof.Proof.Ffn.Arr
public import proofs.«01_k».proof.Proof.Attn.Model

@[expose] public section

/-! The channel mixer's reference, read at an element. -/

set_option maxRecDepth 16384

noncomputable section

open Idealize.ShloMosaic Idealize.ShloMosaic.TcCoe Idealize.SL.Sem

namespace Cert.Ffn

open Cert.Mat

open Cert.Attn (exp_coe div_coe coe_sum)

/-- The gate and up projections, of real matrices. -/
def guF (H W : ℕ → ℕ → ℝ) : ℕ → ℕ → EReal := mm 2048 (fun i j => ((H i j : ℝ) : EReal)) (fun i j => ((W i j : ℝ) : EReal))
/-- The gated unit's cotangent. -/
def daF (G Wd : ℕ → ℕ → ℝ) : ℕ → ℕ → EReal := mm 2048 (fun i j => ((G i j : ℝ) : EReal)) (fun i j => ((Wd j i : ℝ) : EReal))
/-- The gated unit. -/
def actF (H W : ℕ → ℕ → ℝ) (i j : ℕ) : EReal := act (guF H W i j) (guF H W i (5632 + j))
/-- The projections' gradients, side by side. -/
def dguF (H W Wd G : ℕ → ℕ → ℝ) (i j : ℕ) : EReal :=
  if j < 5632 then dgate (guF H W i j) (guF H W i (5632 + j)) (daF G Wd i j) else dup (guF H W i (j - 5632)) (daF G Wd i (j - 5632))

theorem mm_real (K : ℕ) (A B : ℕ → ℕ → ℝ) (i j : ℕ) :
    ∃ x : ℝ, mm K (fun i j => ((A i j : ℝ) : EReal)) (fun i j => ((B i j : ℝ) : EReal)) i j = (x : EReal) :=
  ⟨∑ k : Fin K, A i k * B k j, by simp only [mm, ← EReal.coe_mul, coe_sum]⟩

theorem guF_real (H W : ℕ → ℕ → ℝ) (i j : ℕ) : ∃ x : ℝ, guF H W i j = (x : EReal) := mm_real 2048 H W i j
theorem daF_real (G Wd : ℕ → ℕ → ℝ) (i j : ℕ) : ∃ x : ℝ, daF G Wd i j = (x : EReal) := mm_real 2048 G (fun i j => Wd j i) i j

theorem sg_real (x : ℝ) : ∃ s : ℝ, sg (x : EReal) = (s : EReal) := by
  have h : (1 : ℝ) + Real.exp (0 - x) ≠ 0 := (add_pos one_pos (Real.exp_pos _)).ne'
  refine ⟨1 / (1 + Real.exp (0 - x)), ?_⟩
  rw [sg, ← div_coe h, EReal.coe_add, ← exp_coe, EReal.coe_sub, EReal.coe_zero, EReal.coe_one]

/-- The two ways of writing the gate's derivative agree on real numbers. -/
theorem dgate_eq (g u d : EReal) (hg : ∃ x : ℝ, g = x) (hu : ∃ x : ℝ, u = x) (hd : ∃ x : ℝ, d = x) :
    d * u * sg g + g * (d * u) * (sg g * (1 - sg g)) = dgate g u d := by
  obtain ⟨g, rfl⟩ := hg
  obtain ⟨u, rfl⟩ := hu
  obtain ⟨d, rfl⟩ := hd
  obtain ⟨s, hs⟩ := sg_real g
  rw [dgate, hs]
  norm_cast
  ring

end Cert.Ffn

namespace Cert.ReferenceFfnIdeal.Ffn

open Cert.ReferenceFfnIdeal Cert.ReferenceFfnIdeal.Gen Cert.ReferenceFfnIdeal.Value Cert.Ffn Cert.Mat

/-- The gate and up projections, side by side. -/
def guT (h : FVec Ideal S2048x2048 .bf16) (w : FVec Ideal S2048x11264 .bf16) : FVec Ideal S2048x11264 .f32 :=
  Host.dotGeneral dot_S2048x2048_S2048x11264_S2048x11264_1_0_0_1_n_n none (extf .f32 h bitsLt_bf16_f32) (extf .f32 w bitsLt_bf16_f32)
def gT (gu : FVec Ideal S2048x11264 .f32) : FVec Ideal S2048x5632 .f32 := extractStridedSlice S2048x5632 ![0, 0] gu slices_S2048x11264_S2048x5632_0_0
def uT (gu : FVec Ideal S2048x11264 .f32) : FVec Ideal S2048x5632 .f32 := extractStridedSlice S2048x5632 ![0, 5632] gu slices_S2048x11264_S2048x5632_0_5632
/-- The gate's logistic. -/
def sT (g : FVec Ideal S2048x5632 .f32) : FVec Ideal S2048x5632 .f32 :=
  Host.divf (broadcastInDim S2048x5632 ![] bcast_S_S2048x5632 (constant S_ .f32 0x3F800000#32))
    (addf (broadcastInDim S2048x5632 ![] bcast_S_S2048x5632 (constant S_ .f32 0x3F800000#32)) (Host.exp (Host.negf g)))
/-- The gated unit. -/
def aT (g u s : FVec Ideal S2048x5632 .f32) : FVec Ideal S2048x5632 .f32 := mulf (mulf g s) u
/-- The gated unit's cotangent. -/
def daT (df : FVec Ideal S2048x2048 .bf16) (w : FVec Ideal S5632x2048 .bf16) : FVec Ideal S2048x5632 .f32 :=
  Host.dotGeneral dot_S2048x2048_S5632x2048_S2048x5632_1_1_0_0_n_n none (extf .f32 df bitsLt_bf16_f32) (extf .f32 w bitsLt_bf16_f32)
/-- The gradients of the gate and up projections, side by side. -/
def dguT (g u s d : FVec Ideal S2048x5632 .f32) : FVec Ideal S2048x11264 .f32 :=
  concatenate S2048x11264 1 [⟨S2048x5632, addf (mulf (mulf d u) s)
      (mulf (mulf g (mulf d u)) (mulf s (subf (broadcastInDim S2048x5632 ![] bcast_S_S2048x5632 (constant S_ .f32 0x3F800000#32)) s)))⟩,
    ⟨S2048x5632, mulf (mulf g s) d⟩] concatenates_S2048x5632_S2048x5632_S2048x11264_d1

theorem gu_at (h : FVec Ideal S2048x2048 .bf16) (w : FVec Ideal S2048x11264 .bf16) (a : Fin 2048) (b : Fin 11264) :
    guT h w (ix2 a b) = ∑ k : Fin 2048, (h (ix2 a k) * w (ix2 k b) : EReal) := by
  pointwise [guT]

theorem g_at (gu : FVec Ideal S2048x11264 .f32) (a : Fin 2048) (b : Fin 5632) :
    gT gu (ix2 a b) = gu (ix2 a ⟨b, by omega⟩) := by
  pointwise [gT]

theorem u_at (gu : FVec Ideal S2048x11264 .f32) (a : Fin 2048) (b : Fin 5632) :
    uT gu (ix2 a b) = gu (ix2 a ⟨5632 + b, by omega⟩) := by
  pointwise [uT]

theorem s_at (g : FVec Ideal S2048x5632 .f32) (a : Fin 2048) (b : Fin 5632) :
    sT g (ix2 a b) = sg (g (ix2 a b)) := by
  pointwise [sT, sg]
  rw [zero_sub]

theorem da_at (df : FVec Ideal S2048x2048 .bf16) (w : FVec Ideal S5632x2048 .bf16) (a : Fin 2048) (b : Fin 5632) :
    daT df w (ix2 a b) = ∑ k : Fin 2048, (df (ix2 a k) * w (ix2 b k) : EReal) := by
  pointwise [daT]

theorem a_at (g u s : FVec Ideal S2048x5632 .f32) (a : Fin 2048) (b : Fin 5632) :
    aT g u s (ix2 a b) = (g (ix2 a b) * s (ix2 a b) * u (ix2 a b) : EReal) := by
  pointwise [aT]

theorem dgu_at0 (g u s d : FVec Ideal S2048x5632 .f32) (a : Fin 2048) (b : Fin 11264) (hb : (b : ℕ) < 5632) :
    dguT g u s d (ix2 a b) = (d (ix2 a ⟨b, hb⟩) * u (ix2 a ⟨b, hb⟩) * s (ix2 a ⟨b, hb⟩)
      + g (ix2 a ⟨b, hb⟩) * (d (ix2 a ⟨b, hb⟩) * u (ix2 a ⟨b, hb⟩)) * (s (ix2 a ⟨b, hb⟩) * (1 - s (ix2 a ⟨b, hb⟩))) : EReal) := by
  pointwise [dguT]
  rw [dif_pos hb]

theorem dgu_at1 (g u s d : FVec Ideal S2048x5632 .f32) (a : Fin 2048) (b : Fin 11264) (hb : ¬ (b : ℕ) < 5632) :
    dguT g u s d (ix2 a b) = (g (ix2 a ⟨b - 5632, by omega⟩) * s (ix2 a ⟨b - 5632, by omega⟩) * d (ix2 a ⟨b - 5632, by omega⟩) : EReal) := by
  pointwise [dguT]
  rw [dif_neg hb]

section
variable {X0 : FVec Ideal S2048x2048 .bf16} {X1 : FVec Ideal S2048x11264 .bf16} {X2 : FVec Ideal S5632x2048 .bf16} {X3 : FVec Ideal S2048x2048 .bf16}
variable {H W Wd G : ℕ → ℕ → ℝ}
variable (h0 : ∀ (a b : Fin 2048), X0 (ix2 a b) = ((H a b : ℝ) : EReal)) (h1 : ∀ (a : Fin 2048) (b : Fin 11264), X1 (ix2 a b) = ((W a b : ℝ) : EReal))
variable (h2 : ∀ (a : Fin 5632) (b : Fin 2048), X2 (ix2 a b) = ((Wd a b : ℝ) : EReal)) (h3 : ∀ (a b : Fin 2048), X3 (ix2 a b) = ((G a b : ℝ) : EReal))

include h0 h1 in
theorem guT_at (a : Fin 2048) (b : Fin 11264) : guT X0 X1 (ix2 a b) = guF H W a b := by
  rw [gu_at]; simp only [h0, h1, guF, mm]

include h2 h3 in
theorem daT_at (a : Fin 2048) (b : Fin 5632) : daT X3 X2 (ix2 a b) = daF G Wd a b := by
  rw [da_at]; simp only [h2, h3, daF, mm]

/-- The gated unit of the reference. -/
abbrev actT (X0 : FVec Ideal S2048x2048 .bf16) (X1 : FVec Ideal S2048x11264 .bf16) : FVec Ideal S2048x5632 .f32 :=
  aT (gT (guT X0 X1)) (uT (guT X0 X1)) (sT (gT (guT X0 X1)))
/-- The projections' gradients of the reference. -/
abbrev dgu (X0 : FVec Ideal S2048x2048 .bf16) (X1 : FVec Ideal S2048x11264 .bf16) (X2 : FVec Ideal S5632x2048 .bf16) (X3 : FVec Ideal S2048x2048 .bf16) :
    FVec Ideal S2048x11264 .f32 :=
  dguT (gT (guT X0 X1)) (uT (guT X0 X1)) (sT (gT (guT X0 X1))) (daT X3 X2)

include h0 h1 in
theorem actT_at (a : Fin 2048) (b : Fin 5632) : actT X0 X1 (ix2 a b) = actF H W a b := by
  rw [actT, a_at, s_at, g_at, u_at, guT_at h0 h1, guT_at h0 h1]; rfl

include h0 h1 h2 h3 in
theorem dgu_at (a : Fin 2048) (b : Fin 11264) : dgu X0 X1 X2 X3 (ix2 a b) = dguF H W Wd G a b := by
  unfold dguF
  by_cases hb : (b : ℕ) < 5632
  · rw [dgu, dgu_at0 _ _ _ _ a b hb, if_pos hb, s_at, g_at, u_at, guT_at h0 h1, guT_at h0 h1, daT_at h2 h3]
    exact dgate_eq _ _ _ (guF_real H W a b) (guF_real H W a (5632 + b)) (daF_real G Wd a b)
  · rw [dgu, dgu_at1 _ _ _ _ a b hb, if_neg hb, s_at, g_at, guT_at h0 h1, daT_at h2 h3]
    rw [dup, mul_comm, mul_assoc]

include h0 h1 in
theorem out0 (a : Fin 2048) (b : Fin 5632) : truncf .bf16 (actT X0 X1) bitsLt_bf16_f32 (ix2 a b) = actF H W a b := by
  pointwise
  exact actT_at h0 h1 a b

include h0 h1 h2 h3 in
theorem out1 (a : Fin 2048) (b : Fin 11264) : truncf .bf16 (dgu X0 X1 X2 X3) bitsLt_bf16_f32 (ix2 a b) = dguF H W Wd G a b := by
  pointwise
  exact dgu_at h0 h1 h2 h3 a b

include h0 h1 h2 h3 in
theorem out2 (a : Fin 2048) (b : Fin 11264) : truncf .bf16 (transpose S2048x11264 [1, 0]
      (Host.dotGeneral dot_S2048x11264_S2048x2048_S11264x2048_0_0_1_1_n_n none (dgu X0 X1 X2 X3) (extf .f32 X0 bitsLt_bf16_f32))
      transposes_S11264x2048_S2048x11264_1_0) bitsLt_bf16_f32 (ix2 a b) = mm 2048 (fun i j => ((H j i : ℝ) : EReal)) (dguF H W Wd G) a b := by
  have e := dgu_at h0 h1 h2 h3
  generalize dgu X0 X1 X2 X3 = Y at e
  pointwise
  simp only [mm, e, h0, mul_comm]

include h0 h1 h3 in
theorem out3 (a : Fin 5632) (b : Fin 2048) : truncf .bf16 (transpose S5632x2048 [1, 0]
      (Host.dotGeneral dot_S2048x2048_S2048x5632_S2048x5632_0_0_1_1_n_n none (extf .f32 X3 bitsLt_bf16_f32) (actT X0 X1))
      transposes_S2048x5632_S5632x2048_1_0) bitsLt_bf16_f32 (ix2 a b) = mm 2048 (fun i j => actF H W j i) (fun i j => ((G i j : ℝ) : EReal)) a b := by
  have e := actT_at h0 h1
  generalize actT X0 X1 = Y at e
  pointwise
  simp only [mm, e, h3, mul_comm]

end

variable (m : (ℓ : Loc nD τ sig) → Buf (Elt Ideal) ℓ) (c : Dev nD)

theorem res1 (X0 : FVec Ideal S2048x2048 .bf16) (X1 : FVec Ideal S2048x11264 .bf16) (X2 : FVec Ideal S5632x2048 .bf16) (X3 : FVec Ideal S2048x2048 .bf16)
    (h0 : m ((c.tc : Thread nD τ).loc main_arg0) = X0) (h1 : m ((c.tc : Thread nD τ).loc main_arg1) = X1)
    (h2 : m ((c.tc : Thread nD τ).loc main_arg2) = X2) (h3 : m ((c.tc : Thread nD τ).loc main_arg3) = X3) :
    res_out1 m c = truncf .bf16 (dguT (gT (guT X0 X1)) (uT (guT X0 X1)) (sT (gT (guT X0 X1))) (daT X3 X2)) bitsLt_bf16_f32 := by
  subst h0 h1 h2 h3
  rfl

end Cert.ReferenceFfnIdeal.Ffn
-- ==== Proof.Ffn.Run.lean ====
module

public import proofs.«01_k».proof.Proof.Gen.KernelFfnIdeal.Frame

@[expose] public section

/-! The run of the kernel with its results: the launch of the generated frame, with the outputs read as well. -/

set_option maxRecDepth 16384

noncomputable section

namespace Cert.KernelFfnIdeal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelFfnIdeal Cert.KernelFfnIdeal.Gen

variable {F : FTy → Type} [FloatOps F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- The whole program runs, and ends with the calls' results, as the launch's fold leaves them, and the arguments as they were. -/
theorem run : θ_run defs (onTc (τ := τ) (main (F := F))) ⟨m, fun _ => 0, ρ⟩ (fun r => ∀ c : Dev nD,
      r.2.mem ((c.tc : Thread nD τ).loc main_v1) = W8 m ρ c main_v1
      ∧ r.2.mem ((c.tc : Thread nD τ).loc main_v6) = W8 m ρ c main_v6
      ∧ r.2.mem ((c.tc : Thread nD τ).loc main_v8) = W8 m ρ c main_v8
      ∧ r.2.mem ((c.tc : Thread nD τ).loc main_v4) = W8 m ρ c main_v4
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ => fun c =>
      ⟨h c _ (mem_uc main_v1 (by decide)), h c _ (mem_uc main_v6 (by decide)), h c _ (mem_uc main_v8 (by decide)),
       h c _ (mem_uc main_v4 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c)⟩)

end Cert.KernelFfnIdeal.Ffn
-- ==== Proof.Ffn.Finite.lean ====
module

public import proofs.«01_k».proof.Proof.Gen.Pre_finite_ffn
public import proofs.«01_k».proof.Proof.Attn.Finite
public import Idealize.ShloMosaic.Lib.Pipeline.ValueKit

@[expose] public section

/-! The precondition, read at an element: each argument holds real numbers. -/

noncomputable section

open Idealize.ShloMosaic

namespace Cert.Ffn

open Cert.Pre_finite_ffn
open Cert.Attn (real_of)

variable (x0 : FVec Ideal S2048x2048 .bf16) (x1 : FVec Ideal S2048x11264 .bf16) (x2 : FVec Ideal S5632x2048 .bf16) (x3 : FVec Ideal S2048x2048 .bf16)

theorem real0 (h : (fn x0 x1 x2 x3).1 = fun _ => 1#1) (i : S2048x2048.Idx) : (((x0 i : EReal).toReal : ℝ) : EReal) = x0 i := by
  have h := congrFun h i
  simp only [fn, fn_part1] at h
  pointwise at h
  exact real_of _ h

theorem real1 (h : (fn x0 x1 x2 x3).2.1 = fun _ => 1#1) (i : S2048x11264.Idx) : (((x1 i : EReal).toReal : ℝ) : EReal) = x1 i := by
  have h := congrFun h i
  simp only [fn, fn_part1] at h
  pointwise at h
  exact real_of _ h

theorem real2 (h : (fn x0 x1 x2 x3).2.2.1 = fun _ => 1#1) (i : S5632x2048.Idx) : (((x2 i : EReal).toReal : ℝ) : EReal) = x2 i := by
  have h := congrFun h i
  simp only [fn, fn_part1] at h
  pointwise at h
  exact real_of _ h

theorem real3 (h : (fn x0 x1 x2 x3).2.2.2 = fun _ => 1#1) (i : S2048x2048.Idx) : (((x3 i : EReal).toReal : ℝ) : EReal) = x3 i := by
  have h := congrFun h i
  simp only [fn, fn_part1] at h
  pointwise at h
  exact real_of _ h

end Cert.Ffn
-- ==== Proof.Ffn.Final.lean ====
module

public import proofs.«01_k».proof.Defs
public import proofs.«01_k».proof.Proof.Attn.Final
public import proofs.«01_k».proof.Proof.Ffn.Ref
public import proofs.«01_k».proof.Proof.Ffn.Run
public import proofs.«01_k».proof.Proof.Ffn.Finite

@[expose] public section

/-! The channel mixer's kernel and its reference leave the same gated unit and the same gradients. -/

set_option maxRecDepth 16384

noncomputable section

namespace Cert.KernelFfnIdeal.Ffn

open Idealize.ShloMosaic Idealize.ShloMosaic.TcCoe Idealize.SL.Sem
open Cert.KernelFfnIdeal Cert.KernelFfnIdeal.Gen Cert.Ffn Cert.Mat

variable (m : (ℓ : Loc nD τ sig) → Buf (Elt Ideal) ℓ) (ρ : Dev nD → PrngReg) (c : Dev nD)

theorem v3_eq : (W4 m ρ c main_v3 : FVec Ideal S5632x2048 .bf16)
    = transpose S5632x2048 [1, 0] (W3 m ρ c main_v1 : FVec Ideal S2048x5632 .bf16) transposes_S2048x5632_S5632x2048_1_0 := by
  simp only [W4, hostOps3]; after_results_simp <;> rfl

theorem v6_eq : (W7 m ρ c main_v6 : FVec Ideal S2048x11264 .bf16)
    = concatenate S2048x11264 1 [⟨S2048x5632, (W6 m ρ c main_v5_0 : FVec Ideal S2048x5632 .bf16)⟩, ⟨S2048x5632, (W6 m ρ c main_v5_1 : FVec Ideal S2048x5632 .bf16)⟩]
      concatenates_S2048x5632_S2048x5632_S2048x11264_d1 := by
  simp only [W7, hostOps5]; after_results_simp <;> rfl

theorem v7_eq : (W7 m ρ c main_v7 : FVec Ideal S2048x2048 .bf16)
    = transpose S2048x2048 [1, 0] (W6 m ρ c main_arg0 : FVec Ideal S2048x2048 .bf16) transposes_S2048x2048_S2048x2048_1_0 := by
  simp only [W7, hostOps5]; after_results_simp <;> rfl

variable {H W Wd G : ℕ → ℕ → ℝ}
variable (h0 : ∀ (a b : Fin 2048), (m ((c.tc : Thread nD τ).loc main_arg0) : FVec Ideal S2048x2048 .bf16) (ix2 a b) = ((H a b : ℝ) : EReal))
variable (h1 : ∀ (a : Fin 2048) (b : Fin 11264), (m ((c.tc : Thread nD τ).loc main_arg1) : FVec Ideal S2048x11264 .bf16) (ix2 a b) = ((W a b : ℝ) : EReal))
variable (h2 : ∀ (a : Fin 5632) (b : Fin 2048), (m ((c.tc : Thread nD τ).loc main_arg2) : FVec Ideal S5632x2048 .bf16) (ix2 a b) = ((Wd a b : ℝ) : EReal))
variable (h3 : ∀ (a b : Fin 2048), (m ((c.tc : Thread nD τ).loc main_arg3) : FVec Ideal S2048x2048 .bf16) (ix2 a b) = ((G a b : ℝ) : EReal))

include h0 h1 in
theorem v0_eq : (W1 m ρ c main_v0 : FVec Ideal S2048x11264 .f32) = fun i => guF H W (i 0) (i 1) :=
  (W1_arr m ρ c 2).trans (arr0 (V0 m ρ) c h0 h1)

include h0 h1 in
theorem v1_eq : (W2 m ρ c main_v1 : FVec Ideal S2048x5632 .bf16) = fun i => actF H W (i 0) (i 1) :=
  (W2_arr m ρ c 2).trans (arr1 (V1 m ρ) c fun a b => congrFun (v0_eq m ρ c h0 h1) (ix2 a b))

include h2 h3 in
theorem v2_eq : (W3 m ρ c main_v2 : FVec Ideal S2048x5632 .f32) = fun i => daF G Wd (i 0) (i 1) :=
  (W3_arr m ρ c 2).trans (arr2 (V2 m ρ) c (fun a b => (congrFun (W2_args m ρ c main_arg3 (by decide)) (ix2 a b)).trans (h3 a b))
    fun a b => (congrFun (W2_args m ρ c main_arg2 (by decide)) (ix2 a b)).trans (h2 a b))

include h0 h1 h3 in
theorem v4_eq : (W5 m ρ c main_v4 : FVec Ideal S5632x2048 .bf16)
    = fun i => mm 2048 (fun i j => actF H W j i) (fun i j => ((G i j : ℝ) : EReal)) (i 0) (i 1) := by
  refine (W5_arr m ρ c 2).trans (arr3 (V4 m ρ) c (fun a b => ?_)
    fun a b => (congrFun (W4_args m ρ c main_arg3 (by decide)) (ix2 a b)).trans (h3 a b))
  refine (congrFun (v3_eq m ρ c) (ix2 a b)).trans ?_
  have e := congrFun ((W3_of m ρ c main_v1 (by decide)).trans (v1_eq m ρ c h0 h1)) (ix2 b a)
  generalize (W3 m ρ c main_v1 : FVec Ideal S2048x5632 .bf16) = Y at e
  pointwise
  exact e

include h0 h1 in
theorem v0_at5 (a : Fin 2048) (b : Fin 11264) : (V5 m ρ c main_v0 : FVec Ideal S2048x11264 .f32) (ix2 a b) = guF H W a b :=
  congrFun ((W5_of m ρ c main_v0 (by decide)).trans ((W4_of m ρ c main_v0 (by decide)).trans ((W3_of m ρ c main_v0 (by decide)).trans
    ((W2_of m ρ c main_v0 (by decide)).trans (v0_eq m ρ c h0 h1))))) (ix2 a b)

include h2 h3 in
theorem v2_at5 (a : Fin 2048) (b : Fin 5632) : (V5 m ρ c main_v2 : FVec Ideal S2048x5632 .f32) (ix2 a b) = daF G Wd a b :=
  congrFun ((W5_of m ρ c main_v2 (by decide)).trans ((W4_of m ρ c main_v2 (by decide)).trans (v2_eq m ρ c h2 h3))) (ix2 a b)

include h0 h1 h2 h3 in
theorem v6_at (a : Fin 2048) (b : Fin 11264) : (W7 m ρ c main_v6 : FVec Ideal S2048x11264 .bf16) (ix2 a b) = dguF H W Wd G a b := by
  have e0 := (W6_arr m ρ c 3).trans (arr4_3 (V5 m ρ) c (v0_at5 m ρ c h0 h1) (v2_at5 m ρ c h2 h3))
  have e1 := (W6_arr m ρ c 4).trans (arr4_4 (V5 m ρ) c (v0_at5 m ρ c h0 h1) (v2_at5 m ρ c h2 h3))
  refine (congrFun (v6_eq m ρ c) (ix2 a b)).trans ?_
  generalize (W6 m ρ c main_v5_0 : FVec Ideal S2048x5632 .bf16) = Y at e0
  generalize (W6 m ρ c main_v5_1 : FVec Ideal S2048x5632 .bf16) = Z at e1
  subst e0 e1
  pointwise
  unfold dguF
  by_cases hb : (b : ℕ) < 5632
  · rw [dif_pos hb, if_pos hb]
  · rw [dif_neg hb, if_neg hb]

include h0 in
theorem v7_at (a b : Fin 2048) : (W7 m ρ c main_v7 : FVec Ideal S2048x2048 .bf16) (ix2 a b) = ((H b a : ℝ) : EReal) := by
  refine (congrFun (v7_eq m ρ c) (ix2 a b)).trans ?_
  have e := (congrFun (W6_args m ρ c main_arg0 (by decide)) (ix2 b a)).trans (h0 b a)
  generalize (W6 m ρ c main_arg0 : FVec Ideal S2048x2048 .bf16) = Y at e
  pointwise
  exact e

include h0 h1 h2 h3 in
theorem v8_eq : (W8 m ρ c main_v8 : FVec Ideal S2048x11264 .bf16)
    = fun i => mm 2048 (fun i j => ((H j i : ℝ) : EReal)) (dguF H W Wd G) (i 0) (i 1) :=
  (W8_arr m ρ c 2).trans (arr5 (V7 m ρ) c (v7_at m ρ c h0) (v6_at m ρ c h0 h1 h2 h3))

include h0 h1 in
theorem out_v1 : (W8 m ρ c main_v1 : FVec Ideal S2048x5632 .bf16) = fun i => actF H W (i 0) (i 1) :=
  (W8_of m ρ c main_v1 (by decide)).trans ((W7_of m ρ c main_v1 (by decide)).trans ((W6_of m ρ c main_v1 (by decide)).trans
    ((W5_of m ρ c main_v1 (by decide)).trans ((W4_of m ρ c main_v1 (by decide)).trans ((W3_of m ρ c main_v1 (by decide)).trans (v1_eq m ρ c h0 h1))))))

include h0 h1 h2 h3 in
theorem out_v6 : (W8 m ρ c main_v6 : FVec Ideal S2048x11264 .bf16) = fun i => dguF H W Wd G (i 0) (i 1) :=
  (W8_of m ρ c main_v6 (by decide)).trans (funext fun i => (congrArg _ (eta2 (m := 2048) (n := 11264) i)).trans (v6_at m ρ c h0 h1 h2 h3 (i 0) (i 1)))

include h0 h1 h3 in
theorem out_v4 : (W8 m ρ c main_v4 : FVec Ideal S5632x2048 .bf16)
    = fun i => mm 2048 (fun i j => actF H W j i) (fun i j => ((G i j : ℝ) : EReal)) (i 0) (i 1) :=
  (W8_of m ρ c main_v4 (by decide)).trans ((W7_of m ρ c main_v4 (by decide)).trans ((W6_of m ρ c main_v4 (by decide)).trans (v4_eq m ρ c h0 h1 h3)))

end Cert.KernelFfnIdeal.Ffn

namespace Cert.Ffn

open Idealize.ShloMosaic Idealize.ShloMosaic.TcCoe Idealize.SL.Sem
open Cert.Attn (realOf realOf_at)
open Cert.Mat

theorem algebraic : Cert.algebraic_KernelFfnIdeal_ReferenceFfnIdeal_pre_finite_ffn := by
  intro m ρ m' ρ' hpre hag
  let H (c : Dev Cert.KernelFfnIdeal.nD) : ℕ → ℕ → ℝ :=
    realOf (m := 2048) (n := 2048) (m ((c.tc : Thread Cert.KernelFfnIdeal.nD Cert.KernelFfnIdeal.τ).loc Cert.KernelFfnIdeal.main_arg0))
  let W (c : Dev Cert.KernelFfnIdeal.nD) : ℕ → ℕ → ℝ :=
    realOf (m := 2048) (n := 11264) (m ((c.tc : Thread Cert.KernelFfnIdeal.nD Cert.KernelFfnIdeal.τ).loc Cert.KernelFfnIdeal.main_arg1))
  let Wd (c : Dev Cert.KernelFfnIdeal.nD) : ℕ → ℕ → ℝ :=
    realOf (m := 5632) (n := 2048) (m ((c.tc : Thread Cert.KernelFfnIdeal.nD Cert.KernelFfnIdeal.τ).loc Cert.KernelFfnIdeal.main_arg2))
  let G (c : Dev Cert.KernelFfnIdeal.nD) : ℕ → ℕ → ℝ :=
    realOf (m := 2048) (n := 2048) (m ((c.tc : Thread Cert.KernelFfnIdeal.nD Cert.KernelFfnIdeal.τ).loc Cert.KernelFfnIdeal.main_arg3))
  have h0 := fun c => realOf_at (m := 2048) (n := 2048) (real0 _ _ _ _ (hpre c).1)
  have h1 := fun c => realOf_at (m := 2048) (n := 11264) (real1 _ _ _ _ (hpre c).2.1)
  have h2 := fun c => realOf_at (m := 5632) (n := 2048) (real2 _ _ _ _ (hpre c).2.2.1)
  have h3 := fun c => realOf_at (m := 2048) (n := 2048) (real3 _ _ _ _ (hpre c).2.2.2)
  refine ⟨fun c => (fun i => actF (H c) (W c) (i 0) (i 1) : Vec Ideal Cert.KernelFfnIdeal.S2048x5632 .bf16),
    fun c => (fun i => dguF (H c) (W c) (Wd c) (G c) (i 0) (i 1) : Vec Ideal Cert.KernelFfnIdeal.S2048x11264 .bf16),
    fun c => (fun i => mm 2048 (fun i j => ((H c j i : ℝ) : EReal)) (dguF (H c) (W c) (Wd c) (G c)) (i 0) (i 1) : Vec Ideal Cert.KernelFfnIdeal.S2048x11264 .bf16),
    fun c => (fun i => mm 2048 (fun i j => actF (H c) (W c) j i) (fun i j => ((G c i j : ℝ) : EReal)) (i 0) (i 1) : Vec Ideal Cert.KernelFfnIdeal.S5632x2048 .bf16),
    (θ_run _ _ _).mono (fun r h c => ?_) (Cert.KernelFfnIdeal.Ffn.run m ρ),
    (θ_run _ _ _).mono (fun r h c => ?_) (Cert.ReferenceFfnIdeal.Value.run m' ρ')⟩
  · obtain ⟨e0, e1, e2, e3, ha⟩ := h c
    exact ⟨e0.trans (Cert.KernelFfnIdeal.Ffn.out_v1 m ρ c (h0 c) (h1 c)), e1.trans (Cert.KernelFfnIdeal.Ffn.out_v6 m ρ c (h0 c) (h1 c) (h2 c) (h3 c)),
      e2.trans (Cert.KernelFfnIdeal.Ffn.v8_eq m ρ c (h0 c) (h1 c) (h2 c) (h3 c)), e3.trans (Cert.KernelFfnIdeal.Ffn.out_v4 m ρ c (h0 c) (h1 c) (h3 c)), ha⟩
  · obtain ⟨e0, e1, e2, e3, ha⟩ := h c
    obtain ⟨a0, a1, a2, a3⟩ := hag c
    have g0 := fun a b => (congrFun a0 (ix2 a b)).trans (h0 c a b)
    have g1 := fun a b => (congrFun a1 (ix2 a b)).trans (h1 c a b)
    have g2 := fun a b => (congrFun a2 (ix2 a b)).trans (h2 c a b)
    have g3 := fun a b => (congrFun a3 (ix2 a b)).trans (h3 c a b)
    refine ⟨e0.trans (funext fun i => ?_), e1.trans (funext fun i => ?_), e2.trans (funext fun i => ?_), e3.trans (funext fun i => ?_), ha⟩
    · exact (congrArg _ (eta2 (m := 2048) (n := 5632) i)).trans (Cert.ReferenceFfnIdeal.Ffn.out0 g0 g1 (i 0) (i 1))
    · exact (congrArg _ (eta2 (m := 2048) (n := 11264) i)).trans (Cert.ReferenceFfnIdeal.Ffn.out1 g0 g1 g2 g3 (i 0) (i 1))
    · exact (congrArg _ (eta2 (m := 2048) (n := 11264) i)).trans (Cert.ReferenceFfnIdeal.Ffn.out2 g0 g1 g2 g3 (i 0) (i 1))
    · exact (congrArg _ (eta2 (m := 5632) (n := 2048) i)).trans (Cert.ReferenceFfnIdeal.Ffn.out3 g0 g1 g3 (i 0) (i 1))

end Cert.Ffn
-- ==== Proof.FfnX.Arr.lean ====
module

public import proofs.«01_k».proof.Defs
public import proofs.«01_k».proof.Proof.Gen.KernelFfnXIdeal.Value
public import proofs.«01_k».proof.Proof.Gen.ReferenceFfnXIdeal.Run
public import proofs.«01_k».proof.Proof.Mat

@[expose] public section

/-! The gradient of the channel mixer's input, read over its whole array, beside its reference. -/

set_option maxRecDepth 16384

noncomputable section

open Idealize.ShloMosaic Idealize.ShloMosaic.TcCoe Idealize.SL.Sem
open Idealize.ShloMosaic.Pipeline (Dat)

namespace Cert.KernelFfnXIdeal.X

open Cert.KernelFfnXIdeal Cert.KernelFfnXIdeal.Gen Cert.KernelFfnXIdeal.Value Cert.Mat

section
variable (c : Dev nD) (i : grid0.Coords) (a3 : Memref sig .tc .vmem S1024x1024 .bf16) (h3 : a3.IsWhole) (a4 : Memref sig .tc .vmem S1024x1024 .bf16)
  (h4 : a4.IsWhole) (a5 : Memref sig .tc .vmem S1024x1024 .f32) (h5 : a5.IsWhole) (a6 : Memref sig .tc .vmem S1024x1024 .f32) (h6 : a6.IsWhole)
   (x0 : Vec Ideal S1024x1024 .bf16) (x1 : Vec Ideal S1024x1024 .bf16) (xs : Vec Ideal S1024x1024 .f32) (r d : Fin 1024)

theorem soutA_at (p : cond0_0 i) (q : ¬cond0_1 i) : sout0_A_0 c i a3 h3 a4 h4 a5 h5 a6 h6 p q x0 x1 (ix2 r d)
    = ∑ k : Fin 1024, (x0 (ix2 r k) * x1 (ix2 d k) : EReal) := by
  frame_out; open_payloads; pointwise

theorem soutB_at (p : ¬cond0_0 i) (q : ¬cond0_1 i) : sout0_B_0 c i a3 h3 a4 h4 a5 h5 a6 h6 p q x0 x1 xs (ix2 r d)
    = (xs (ix2 r d) + ∑ k : Fin 1024, (x0 (ix2 r k) * x1 (ix2 d k) : EReal) : EReal) := by
  frame_out; open_payloads; pointwise

theorem outC_at (p : ¬cond0_0 i) (q : cond0_1 i) : out0_C_2 c i a3 h3 a4 h4 a5 h5 a6 h6 p q x0 x1 xs (ix2 r d)
    = (xs (ix2 r d) + ∑ k : Fin 1024, (x0 (ix2 r k) * x1 (ix2 d k) : EReal) : EReal) := by
  frame_out; open_payloads; pointwise

end

theorem idx : ∀ t : Fin grid0.N, (win0_0.index t 0 = t / 11 / 2 ∧ win0_0.index t 1 = t % 11)
    ∧ (win0_1.index t 0 = t / 11 % 2 ∧ win0_1.index t 1 = t % 11) ∧ (win0_2.index t 0 = t / 11 / 2 ∧ win0_2.index t 1 = t / 11 % 2) := by
  decide +kernel

variable (m : (ℓ : Loc nD τ sig) → Buf (Elt Ideal) ℓ) (c : Dev nD)
variable {A B : ℕ → ℕ → EReal}
variable (hA : ∀ (a : Fin 2048) (b : Fin 11264), (m ((c.tc : Thread nD τ).loc main_arg0) : FVec Ideal S2048x11264 .bf16) (ix2 a b) = A a b)
variable (hB : ∀ (a : Fin 2048) (b : Fin 11264), (m ((c.tc : Thread nD τ).loc main_arg1) : FVec Ideal S2048x11264 .bf16) (ix2 a b) = B a b)

/-- The part of the product that one grid point adds. -/
theorem part (t : Fin cfg0.N) (x0 : Vec Ideal S1024x1024 .bf16) (x1 : Vec Ideal S1024x1024 .bf16) (e0 : iblk m c 0 t = x0) (e1 : iblk m c 1 t = x1) (r d : Fin 1024)
    (hA : ∀ (a : Fin 2048) (b : Fin 11264), (m ((c.tc : Thread nD τ).loc main_arg0) : FVec Ideal S2048x11264 .bf16) (ix2 a b) = A a b)
    (hB : ∀ (a : Fin 2048) (b : Fin 11264), (m ((c.tc : Thread nD τ).loc main_arg1) : FVec Ideal S2048x11264 .bf16) (ix2 a b) = B a b) :
    ∑ k : Fin 1024, (x0 (ix2 r k) * x1 (ix2 d k) : EReal)
      = ∑ k ∈ Finset.range 1024, A (t / 11 / 2 * 1024 + r) (t % 11 * 1024 + k) * B (t / 11 % 2 * 1024 + d) (t % 11 * 1024 + k) := by
  have ht : (t : ℕ) < 44 := lt_of_lt_of_eq t.isLt N_0
  rw [Finset.sum_range]
  subst e0 e1
  refine Finset.sum_congr rfl fun k _ => congrArg₂ _ ?_ ?_
  · refine Eq.trans ?_ (hA ⟨t / 11 / 2 * 1024 + r, by omega⟩ ⟨t % 11 * 1024 + k, by omega⟩)
    blk_ext [iblk, V, idx t]
  · refine Eq.trans ?_ (hB ⟨t / 11 % 2 * 1024 + d, by omega⟩ ⟨t % 11 * 1024 + k, by omega⟩)
    blk_ext [iblk, V, idx t]

include hA hB in
theorem scratch_first (t : Fin cfg0.N) (h0 : t.val % 11 = 0) (r d : Fin 1024) : ((outsAt0 m c t.val t.isLt).2 (ix2 r d) : EReal)
    = ∑ k ∈ Finset.range 1024, A (t / 11 / 2 * 1024 + r) (t % 11 * 1024 + k) * B (t / 11 % 2 * 1024 + d) (t % 11 * 1024 + k) := by
  rw [outsAt0_A m c t h0 (by omega)]
  dsimp only
  exact (soutA_at _ _ _ _ _ _ _ _ _ _ _ _ _ _ _ _).trans (part m c t _ _ rfl rfl r d hA hB)

include hA hB in
theorem scratch_next (t : Fin cfg0.N) (h0 : ¬ t.val % 11 = 0) (h1 : ¬ t.val % 11 = 10) (r d : Fin 1024) : ((outsAt0 m c t.val t.isLt).2 (ix2 r d) : EReal)
    = ((outsAt0 m c (t.val - 1) (by omega)).2 (ix2 r d) : EReal)
      + ∑ k ∈ Finset.range 1024, A (t / 11 / 2 * 1024 + r) (t % 11 * 1024 + k) * B (t / 11 % 2 * 1024 + d) (t % 11 * 1024 + k) := by
  rw [outsAt0_B m c t h0 h1]
  dsimp only
  exact (soutB_at _ _ _ _ _ _ _ _ _ _ _ _ _ _ _ _ _).trans (congrArg _ (part m c t _ _ rfl rfl r d hA hB))

include hA hB in
theorem out_last (t : Fin cfg0.N) (h1 : t.val % 11 = 10) (r d : Fin 1024) : ((outsAt0 m c t.val t.isLt).1 (ix2 r d) : EReal)
    = ((outsAt0 m c (t.val - 1) (by omega)).2 (ix2 r d) : EReal)
      + ∑ k ∈ Finset.range 1024, A (t / 11 / 2 * 1024 + r) (t % 11 * 1024 + k) * B (t / 11 % 2 * 1024 + d) (t % 11 * 1024 + k) := by
  rw [outsAt0_C m c t (by omega) h1]
  dsimp only
  exact (outC_at _ _ _ _ _ _ _ _ _ _ _ _ _ _ _ _ _).trans (congrArg _ (part m c t _ _ rfl rfl r d hA hB))

include hA hB in
theorem arr : (dats m 0 c).arrAt 2 cfg0.N = (fun i => mm 11264 A (tr B) (i 0) (i 1) : Vec Ideal S2048x2048 .f32) := by
  refine (dats m 0 c).arrAt_eq_of_covers 2 _ (by decide +kernel) fun t hf y => ?_
  have ht : (t : ℕ) < 44 := lt_of_lt_of_eq t.isLt N_0
  have hm : t.val % 11 = 10 := (flush0_2 t).mp hf
  have h0 : (y 0 : ℕ) < 1024 := (y 0).isLt
  have h1 : (y 1 : ℕ) < 1024 := (y 1).isLt
  blk_simp
  rw [after0_2]
  refine (congrArg _ (eta2 (m := 1024) (n := 1024) y)).trans ((out_last m c hA hB t hm (y 0) (y 1)).trans
    ((gather_last (nk := 11) (by omega) (fun n hn => ((outsAt0 m c n hn).2 (ix2 (y 0) (y 1)) : EReal)) (fun _ => 0)
      (fun g k => A (g / 2 * 1024 + y 0) k * B (g % 2 * 1024 + y 1) k)
      (fun n hn e => (scratch_first m c hA hB ⟨n, hn⟩ e _ _).trans (zero_add _).symm)
      (fun n hn e e' => scratch_next m c hA hB ⟨n, hn⟩ e e' _ _) t t.isLt hm).trans ?_))
  simp only [mm, tr, idx t]
  exact (zero_add _).trans (Finset.sum_range _)

end Cert.KernelFfnXIdeal.X

namespace Cert.ReferenceFfnXIdeal.X

open Cert.ReferenceFfnXIdeal Cert.ReferenceFfnXIdeal.Gen Cert.ReferenceFfnXIdeal.Value Cert.Mat

variable (X : FVec Ideal S2048x11264 .bf16) (Y : FVec Ideal S2048x11264 .bf16)

/-- The reference's own product. -/
def prod : FVec Ideal S2048x2048 .f32 :=
  Host.dotGeneral (F := Ideal) dot_S2048x11264_S2048x11264_S2048x2048_1_1_0_0_n_n none (extf .f32 X bitsLt_bf16_f32) (extf .f32 Y bitsLt_bf16_f32)

theorem prod_eq {A B : ℕ → ℕ → EReal} (hA : ∀ a b, X (ix2 a b) = A a b) (hB : ∀ a b, Y (ix2 a b) = B a b) :
    prod X Y = fun i => mm 11264 A (tr B) (i 0) (i 1) := by
  funext i
  refine (congrArg _ (eta2 (m := 2048) (n := 2048) i)).trans ?_
  have e (r d : Fin 2048) : prod X Y (ix2 r d) = ∑ k : Fin 11264, (X (ix2 r k) * Y (ix2 d k) : EReal) := by
    pointwise [prod]
  exact (e (i 0) (i 1)).trans (Finset.sum_congr rfl fun k _ => congrArg₂ _ (hA (i 0) k) (hB (i 1) k))

end Cert.ReferenceFfnXIdeal.X

namespace Cert.KernelFfnXIdeal.X

open Cert.Mat

theorem algebraic : Cert.algebraic_KernelFfnXIdeal_ReferenceFfnXIdeal := by
  intro m ρ m' ρ' _ hag
  let A (c : Dev Cert.KernelFfnXIdeal.nD) : ℕ → ℕ → EReal :=
    valOf (m := 2048) (n := 11264) (m ((c.tc : Thread Cert.KernelFfnXIdeal.nD Cert.KernelFfnXIdeal.τ).loc Cert.KernelFfnXIdeal.main_arg0))
  let B (c : Dev Cert.KernelFfnXIdeal.nD) : ℕ → ℕ → EReal :=
    valOf (m := 2048) (n := 11264) (m ((c.tc : Thread Cert.KernelFfnXIdeal.nD Cert.KernelFfnXIdeal.τ).loc Cert.KernelFfnXIdeal.main_arg1))
  have hA := fun (c : Dev Cert.KernelFfnXIdeal.nD) =>
    valOf_at (m := 2048) (n := 11264) (m ((c.tc : Thread Cert.KernelFfnXIdeal.nD Cert.KernelFfnXIdeal.τ).loc Cert.KernelFfnXIdeal.main_arg0))
  have hB := fun (c : Dev Cert.KernelFfnXIdeal.nD) =>
    valOf_at (m := 2048) (n := 11264) (m ((c.tc : Thread Cert.KernelFfnXIdeal.nD Cert.KernelFfnXIdeal.τ).loc Cert.KernelFfnXIdeal.main_arg1))
  refine ⟨fun c => (fun i => mm 11264 (A c) (tr (B c)) (i 0) (i 1) : Vec Ideal Cert.KernelFfnXIdeal.S2048x2048 .f32),
    (θ_run _ _ _).mono (fun r h c => ?_) (Cert.KernelFfnXIdeal.Value.run_blocks m ρ),
    (θ_run _ _ _).mono (fun r h c => ?_) (Cert.ReferenceFfnXIdeal.Value.run m' ρ')⟩
  · obtain ⟨e0, ha⟩ := h c
    exact ⟨e0.trans (arr m c (hA c) (hB c)), ha⟩
  · obtain ⟨e0, ha⟩ := h c
    obtain ⟨a0, a1⟩ := hag c
    have g0 := fun a b => (congrFun a0 (ix2 a b)).trans (hA c a b)
    have g1 := fun a b => (congrFun a1 (ix2 a b)).trans (hB c a b)
    exact ⟨e0.trans (Cert.ReferenceFfnXIdeal.X.prod_eq _ _ g0 g1), ha⟩

end Cert.KernelFfnXIdeal.X
-- ==== Proof.FfnDown.Arr.lean ====
module

public import proofs.«01_k».proof.Defs
public import proofs.«01_k».proof.Proof.Gen.KernelFfnDownIdeal.Value
public import proofs.«01_k».proof.Proof.Gen.ReferenceFfnDownIdeal.Run
public import proofs.«01_k».proof.Proof.Mat

@[expose] public section

/-! The channel mixer's last product, read over its whole array, beside its reference. -/

set_option maxRecDepth 16384

noncomputable section

open Idealize.ShloMosaic Idealize.ShloMosaic.TcCoe Idealize.SL.Sem
open Idealize.ShloMosaic.Pipeline (Dat)

namespace Cert.KernelFfnDownIdeal.Down

open Cert.KernelFfnDownIdeal Cert.KernelFfnDownIdeal.Gen Cert.KernelFfnDownIdeal.Value Cert.Mat

section
variable (c : Dev nD) (i : grid0.Coords) (a3 : Memref sig .tc .vmem S1024x512 .bf16) (h3 : a3.IsWhole) (a4 : Memref sig .tc .vmem S512x1024 .bf16)
  (h4 : a4.IsWhole) (a5 : Memref sig .tc .vmem S1024x1024 .f32) (h5 : a5.IsWhole) (a6 : Memref sig .tc .vmem S1024x1024 .f32) (h6 : a6.IsWhole)
   (x0 : Vec Ideal S1024x512 .bf16) (x1 : Vec Ideal S512x1024 .bf16) (xs : Vec Ideal S1024x1024 .f32) (r d : Fin 1024)

theorem soutA_at (p : cond0_0 i) (q : ¬cond0_1 i) : sout0_A_0 c i a3 h3 a4 h4 a5 h5 a6 h6 p q x0 x1 (ix2 r d)
    = ∑ k : Fin 512, (x0 (ix2 r k) * x1 (ix2 k d) : EReal) := by
  frame_out; open_payloads; pointwise

theorem soutB_at (p : ¬cond0_0 i) (q : ¬cond0_1 i) : sout0_B_0 c i a3 h3 a4 h4 a5 h5 a6 h6 p q x0 x1 xs (ix2 r d)
    = (xs (ix2 r d) + ∑ k : Fin 512, (x0 (ix2 r k) * x1 (ix2 k d) : EReal) : EReal) := by
  frame_out; open_payloads; pointwise

theorem outC_at (p : ¬cond0_0 i) (q : cond0_1 i) : out0_C_2 c i a3 h3 a4 h4 a5 h5 a6 h6 p q x0 x1 xs (ix2 r d)
    = (xs (ix2 r d) + ∑ k : Fin 512, (x0 (ix2 r k) * x1 (ix2 k d) : EReal) : EReal) := by
  frame_out; open_payloads; pointwise

end

theorem idx : ∀ t : Fin grid0.N, (win0_0.index t 0 = t / 11 / 2 ∧ win0_0.index t 1 = t % 11)
    ∧ (win0_1.index t 0 = t % 11 ∧ win0_1.index t 1 = t / 11 % 2) ∧ (win0_2.index t 0 = t / 11 / 2 ∧ win0_2.index t 1 = t / 11 % 2) := by
  decide +kernel

variable (m : (ℓ : Loc nD τ sig) → Buf (Elt Ideal) ℓ) (c : Dev nD)
variable {A B : ℕ → ℕ → EReal}
variable (hA : ∀ (a : Fin 2048) (b : Fin 5632), (m ((c.tc : Thread nD τ).loc main_arg0) : FVec Ideal S2048x5632 .bf16) (ix2 a b) = A a b)
variable (hB : ∀ (a : Fin 5632) (b : Fin 2048), (m ((c.tc : Thread nD τ).loc main_arg1) : FVec Ideal S5632x2048 .bf16) (ix2 a b) = B a b)

/-- The part of the product that one grid point adds. -/
theorem part (t : Fin cfg0.N) (x0 : Vec Ideal S1024x512 .bf16) (x1 : Vec Ideal S512x1024 .bf16) (e0 : iblk m c 0 t = x0) (e1 : iblk m c 1 t = x1) (r d : Fin 1024)
    (hA : ∀ (a : Fin 2048) (b : Fin 5632), (m ((c.tc : Thread nD τ).loc main_arg0) : FVec Ideal S2048x5632 .bf16) (ix2 a b) = A a b)
    (hB : ∀ (a : Fin 5632) (b : Fin 2048), (m ((c.tc : Thread nD τ).loc main_arg1) : FVec Ideal S5632x2048 .bf16) (ix2 a b) = B a b) :
    ∑ k : Fin 512, (x0 (ix2 r k) * x1 (ix2 k d) : EReal)
      = ∑ k ∈ Finset.range 512, A (t / 11 / 2 * 1024 + r) (t % 11 * 512 + k) * B (t % 11 * 512 + k) (t / 11 % 2 * 1024 + d) := by
  have ht : (t : ℕ) < 44 := lt_of_lt_of_eq t.isLt N_0
  rw [Finset.sum_range]
  subst e0 e1
  refine Finset.sum_congr rfl fun k _ => congrArg₂ _ ?_ ?_
  · refine Eq.trans ?_ (hA ⟨t / 11 / 2 * 1024 + r, by omega⟩ ⟨t % 11 * 512 + k, by omega⟩)
    blk_ext [iblk, V, idx t]
  · refine Eq.trans ?_ (hB ⟨t % 11 * 512 + k, by omega⟩ ⟨t / 11 % 2 * 1024 + d, by omega⟩)
    blk_ext [iblk, V, idx t]

include hA hB in
theorem scratch_first (t : Fin cfg0.N) (h0 : t.val % 11 = 0) (r d : Fin 1024) : ((outsAt0 m c t.val t.isLt).2 (ix2 r d) : EReal)
    = ∑ k ∈ Finset.range 512, A (t / 11 / 2 * 1024 + r) (t % 11 * 512 + k) * B (t % 11 * 512 + k) (t / 11 % 2 * 1024 + d) := by
  rw [outsAt0_A m c t h0 (by omega)]
  dsimp only
  exact (soutA_at _ _ _ _ _ _ _ _ _ _ _ _ _ _ _ _).trans (part m c t _ _ rfl rfl r d hA hB)

include hA hB in
theorem scratch_next (t : Fin cfg0.N) (h0 : ¬ t.val % 11 = 0) (h1 : ¬ t.val % 11 = 10) (r d : Fin 1024) : ((outsAt0 m c t.val t.isLt).2 (ix2 r d) : EReal)
    = ((outsAt0 m c (t.val - 1) (by omega)).2 (ix2 r d) : EReal)
      + ∑ k ∈ Finset.range 512, A (t / 11 / 2 * 1024 + r) (t % 11 * 512 + k) * B (t % 11 * 512 + k) (t / 11 % 2 * 1024 + d) := by
  rw [outsAt0_B m c t h0 h1]
  dsimp only
  exact (soutB_at _ _ _ _ _ _ _ _ _ _ _ _ _ _ _ _ _).trans (congrArg _ (part m c t _ _ rfl rfl r d hA hB))

include hA hB in
theorem out_last (t : Fin cfg0.N) (h1 : t.val % 11 = 10) (r d : Fin 1024) : ((outsAt0 m c t.val t.isLt).1 (ix2 r d) : EReal)
    = ((outsAt0 m c (t.val - 1) (by omega)).2 (ix2 r d) : EReal)
      + ∑ k ∈ Finset.range 512, A (t / 11 / 2 * 1024 + r) (t % 11 * 512 + k) * B (t % 11 * 512 + k) (t / 11 % 2 * 1024 + d) := by
  rw [outsAt0_C m c t (by omega) h1]
  dsimp only
  exact (outC_at _ _ _ _ _ _ _ _ _ _ _ _ _ _ _ _ _).trans (congrArg _ (part m c t _ _ rfl rfl r d hA hB))

include hA hB in
theorem arr : (dats m 0 c).arrAt 2 cfg0.N = (fun i => mm 5632 A B (i 0) (i 1) : Vec Ideal S2048x2048 .f32) := by
  refine (dats m 0 c).arrAt_eq_of_covers 2 _ (by decide +kernel) fun t hf y => ?_
  have ht : (t : ℕ) < 44 := lt_of_lt_of_eq t.isLt N_0
  have hm : t.val % 11 = 10 := (flush0_2 t).mp hf
  have h0 : (y 0 : ℕ) < 1024 := (y 0).isLt
  have h1 : (y 1 : ℕ) < 1024 := (y 1).isLt
  blk_simp
  rw [after0_2]
  refine (congrArg _ (eta2 (m := 1024) (n := 1024) y)).trans ((out_last m c hA hB t hm (y 0) (y 1)).trans
    ((gather_last (nk := 11) (by omega) (fun n hn => ((outsAt0 m c n hn).2 (ix2 (y 0) (y 1)) : EReal)) (fun _ => 0)
      (fun g k => A (g / 2 * 1024 + y 0) k * B k (g % 2 * 1024 + y 1))
      (fun n hn e => (scratch_first m c hA hB ⟨n, hn⟩ e _ _).trans (zero_add _).symm)
      (fun n hn e e' => scratch_next m c hA hB ⟨n, hn⟩ e e' _ _) t t.isLt hm).trans ?_))
  simp only [mm, idx t]
  exact (zero_add _).trans (Finset.sum_range _)

end Cert.KernelFfnDownIdeal.Down

namespace Cert.ReferenceFfnDownIdeal.Down

open Cert.ReferenceFfnDownIdeal Cert.ReferenceFfnDownIdeal.Gen Cert.ReferenceFfnDownIdeal.Value Cert.Mat

variable (X : FVec Ideal S2048x5632 .bf16) (Y : FVec Ideal S5632x2048 .bf16)

/-- The reference's own product. -/
def prod : FVec Ideal S2048x2048 .f32 :=
  Host.dotGeneral (F := Ideal) dot_S2048x5632_S5632x2048_S2048x2048_1_0_0_1_n_n none (extf .f32 X bitsLt_bf16_f32) (extf .f32 Y bitsLt_bf16_f32)

theorem prod_eq {A B : ℕ → ℕ → EReal} (hA : ∀ a b, X (ix2 a b) = A a b) (hB : ∀ a b, Y (ix2 a b) = B a b) :
    prod X Y = fun i => mm 5632 A B (i 0) (i 1) := by
  funext i
  refine (congrArg _ (eta2 (m := 2048) (n := 2048) i)).trans ?_
  have e (r d : Fin 2048) : prod X Y (ix2 r d) = ∑ k : Fin 5632, (X (ix2 r k) * Y (ix2 k d) : EReal) := by
    pointwise [prod]
  exact (e (i 0) (i 1)).trans (Finset.sum_congr rfl fun k _ => congrArg₂ _ (hA (i 0) k) (hB k (i 1)))

end Cert.ReferenceFfnDownIdeal.Down

namespace Cert.KernelFfnDownIdeal.Down

open Cert.Mat

theorem algebraic : Cert.algebraic_KernelFfnDownIdeal_ReferenceFfnDownIdeal := by
  intro m ρ m' ρ' _ hag
  let A (c : Dev Cert.KernelFfnDownIdeal.nD) : ℕ → ℕ → EReal :=
    valOf (m := 2048) (n := 5632) (m ((c.tc : Thread Cert.KernelFfnDownIdeal.nD Cert.KernelFfnDownIdeal.τ).loc Cert.KernelFfnDownIdeal.main_arg0))
  let B (c : Dev Cert.KernelFfnDownIdeal.nD) : ℕ → ℕ → EReal :=
    valOf (m := 5632) (n := 2048) (m ((c.tc : Thread Cert.KernelFfnDownIdeal.nD Cert.KernelFfnDownIdeal.τ).loc Cert.KernelFfnDownIdeal.main_arg1))
  have hA := fun (c : Dev Cert.KernelFfnDownIdeal.nD) =>
    valOf_at (m := 2048) (n := 5632) (m ((c.tc : Thread Cert.KernelFfnDownIdeal.nD Cert.KernelFfnDownIdeal.τ).loc Cert.KernelFfnDownIdeal.main_arg0))
  have hB := fun (c : Dev Cert.KernelFfnDownIdeal.nD) =>
    valOf_at (m := 5632) (n := 2048) (m ((c.tc : Thread Cert.KernelFfnDownIdeal.nD Cert.KernelFfnDownIdeal.τ).loc Cert.KernelFfnDownIdeal.main_arg1))
  refine ⟨fun c => (fun i => mm 5632 (A c) (B c) (i 0) (i 1) : Vec Ideal Cert.KernelFfnDownIdeal.S2048x2048 .f32),
    (θ_run _ _ _).mono (fun r h c => ?_) (Cert.KernelFfnDownIdeal.Value.run_blocks m ρ),
    (θ_run _ _ _).mono (fun r h c => ?_) (Cert.ReferenceFfnDownIdeal.Value.run m' ρ')⟩
  · obtain ⟨e0, ha⟩ := h c
    exact ⟨e0.trans (arr m c (hA c) (hB c)), ha⟩
  · obtain ⟨e0, ha⟩ := h c
    obtain ⟨a0, a1⟩ := hag c
    have g0 := fun a b => (congrFun a0 (ix2 a b)).trans (hA c a b)
    have g1 := fun a b => (congrFun a1 (ix2 a b)).trans (hB c a b)
    exact ⟨e0.trans (Cert.ReferenceFfnDownIdeal.Down.prod_eq _ _ g0 g1), ha⟩

end Cert.KernelFfnDownIdeal.Down
-- ==== Proof.In.Run.lean ====
module

public import proofs.«01_k».proof.Proof.Gen.KernelInIdeal.Frame

@[expose] public section

/-! The run of the kernel with its results: the launch of the generated frame, with the outputs read as well. -/

set_option maxRecDepth 16384

noncomputable section

namespace Cert.KernelInIdeal.In

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelInIdeal Cert.KernelInIdeal.Gen

variable {F : FTy → Type} [FloatOps F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- The whole program runs, and ends with the calls' results, as the launch's fold leaves them, and the arguments as they were. -/
theorem run : θ_run defs (onTc (τ := τ) (main (F := F))) ⟨m, fun _ => 0, ρ⟩ (fun r => ∀ c : Dev nD,
      r.2.mem ((c.tc : Thread nD τ).loc main_v27) = W8 m ρ c main_v27
      ∧ r.2.mem ((c.tc : Thread nD τ).loc main_v33) = W8 m ρ c main_v33
      ∧ r.2.mem ((c.tc : Thread nD τ).loc main_v19) = W8 m ρ c main_v19
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ => fun c =>
      ⟨h c _ (mem_uc main_v27 (by decide)),
       h c _ (mem_uc main_v33 (by decide)),
       h c _ (mem_uc main_v19 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c)⟩)

end Cert.KernelInIdeal.In
-- ==== Proof.In.Arr.lean ====
module

public import proofs.«01_k».proof.Proof.Gen.KernelInIdeal.Frame
public import proofs.«01_k».proof.Proof.Mat

@[expose] public section

/-! The input projection's calls, each read over its whole array. -/

set_option maxRecDepth 16384

noncomputable section

open Idealize.ShloMosaic Idealize.ShloMosaic.TcCoe Idealize.SL.Sem
open Idealize.ShloMosaic.Pipeline (Dat)

namespace Cert.KernelInIdeal.In

open Cert.KernelInIdeal Cert.KernelInIdeal.Gen Cert.Mat

theorem out0_at (x0 : Vec Ideal S1024x2048 .bf16) (x1 : Vec Ideal S2048x1024 .bf16) (r : Fin 1024) (d : Fin 1024) :
    out0_2 x0 x1 (ix2 r d) = ∑ k : Fin 2048, (x0 (ix2 r k) * x1 (ix2 k d) : EReal) := by
  frame_out; open_payloads; pointwise

theorem out1_at (x0 : Vec Ideal S1024x2048 .bf16) (x1 : Vec Ideal S2048x128 .bf16) (r : Fin 1024) (d : Fin 128) :
    out1_2 x0 x1 (ix2 r d) = ∑ k : Fin 2048, (x0 (ix2 r k) * x1 (ix2 k d) : EReal) := by
  frame_out; open_payloads; pointwise

theorem out2_at (x0 : Vec Ideal S1024x128 .bf16) (x1 : Vec Ideal S1024x128 .bf16) (r : Fin 1024) (d : Fin 1024) :
    out2_2 x0 x1 (ix2 r d) = ∑ k : Fin 128, (x0 (ix2 r k) * x1 (ix2 d k) : EReal) := by
  frame_out; open_payloads; pointwise

theorem out3_at (x0 : Vec Ideal S1024x2048 .bf16) (x1 : Vec Ideal S2048x1024 .bf16) (r : Fin 1024) (d : Fin 1024) :
    out3_2 x0 x1 (ix2 r d) = ∑ k : Fin 2048, (x0 (ix2 r k) * x1 (ix2 k d) : EReal) := by
  frame_out; open_payloads; pointwise

theorem out4_at (x0 : Vec Ideal S1024x2048 .bf16) (x1 : Vec Ideal S2048x128 .bf16) (r : Fin 1024) (d : Fin 128) :
    out4_2 x0 x1 (ix2 r d) = ∑ k : Fin 2048, (x0 (ix2 r k) * x1 (ix2 k d) : EReal) := by
  frame_out; open_payloads; pointwise

theorem idx0 : ∀ t : Fin grid0.N, (win0_0.index t 0 = t / 9 ∧ win0_0.index t 1 = 0) ∧ (win0_1.index t 0 = 0 ∧ win0_1.index t 1 = t % 9)
    ∧ (win0_2.index t 0 = t / 9 ∧ win0_2.index t 1 = t % 9) := by decide +kernel
theorem idx1 : ∀ t : Fin grid1.N, (win1_0.index t 0 = t / 1 ∧ win1_0.index t 1 = 0) ∧ (win1_1.index t 0 = 0 ∧ win1_1.index t 1 = t % 1)
    ∧ (win1_2.index t 0 = t / 1 ∧ win1_2.index t 1 = t % 1) := by decide +kernel
theorem idx2 : ∀ t : Fin grid2.N, (win2_0.index t 0 = t / 2 ∧ win2_0.index t 1 = 0) ∧ (win2_1.index t 0 = t % 2 ∧ win2_1.index t 1 = 0)
    ∧ (win2_2.index t 0 = t / 2 ∧ win2_2.index t 1 = t % 2) := by decide +kernel
theorem idx3 : ∀ t : Fin grid3.N, (win3_0.index t 0 = t / 9 ∧ win3_0.index t 1 = 0) ∧ (win3_1.index t 0 = 0 ∧ win3_1.index t 1 = t % 9)
    ∧ (win3_2.index t 0 = t / 9 ∧ win3_2.index t 1 = t % 9) := by decide +kernel
theorem idx4 : ∀ t : Fin grid4.N, (win4_0.index t 0 = t / 1 ∧ win4_0.index t 1 = 0) ∧ (win4_1.index t 0 = 0 ∧ win4_1.index t 1 = t % 1)
    ∧ (win4_2.index t 0 = t / 1 ∧ win4_2.index t 1 = t % 1) := by decide +kernel

variable (V : (c : Dev nD) → (b : Ref sig .tc) → Buf (Elt Ideal) ((c : Thread nD τ).loc b)) (c : Dev nD)
variable {A B : ℕ → ℕ → EReal}

theorem arr0 (hA : ∀ (a : Fin 2048) (b : Fin 2048), (V c main_arg0 : Vec Ideal S2048x2048 .bf16) (ix2 a b) = A a b)
    (hB : ∀ (a : Fin 2048) (b : Fin 9216), (V c main_v3 : Vec Ideal S2048x9216 .bf16) (ix2 a b) = B a b) :
    (dat0 V c).arrAt 2 cfg0.N = (fun i => mm 2048 A B (i 0) (i 1) : Vec Ideal S2048x9216 .f32) := by
  refine (dat0 V c).arrAt_eq_of_covers 2 _ (by decide +kernel) fun t hf y => ?_
  have ht : (t : ℕ) < 18 := t.isLt
  have h0 : (y 0 : ℕ) < 1024 := (y 0).isLt
  have h1 : (y 1 : ℕ) < 1024 := (y 1).isLt
  blk_simp
  rw [after0_2]
  refine (congrArg _ (eta2 (m := 1024) (n := 1024) y)).trans ((out0_at _ _ _ _).trans ?_)
  simp only [mm, idx0 t]
  refine Finset.sum_congr rfl fun k _ => congrArg₂ _ ?_ ?_
  · refine Eq.trans ?_ (hA ⟨t / 9 * 1024 + y 0, by omega⟩ k)
    blk_ext [iblk0, idx0 t]
  · refine Eq.trans ?_ (hB k ⟨t % 9 * 1024 + y 1, by omega⟩)
    blk_ext [iblk0, idx0 t]

theorem arr1 (hA : ∀ (a : Fin 2048) (b : Fin 2048), (V c main_arg0 : Vec Ideal S2048x2048 .bf16) (ix2 a b) = A a b)
    (hB : ∀ (a : Fin 2048) (b : Fin 128), (V c main_v7 : Vec Ideal S2048x128 .bf16) (ix2 a b) = B a b) :
    (dat1 V c).arrAt 2 cfg1.N = (fun i => mm 2048 A B (i 0) (i 1) : Vec Ideal S2048x128 .f32) := by
  refine (dat1 V c).arrAt_eq_of_covers 2 _ (by decide +kernel) fun t hf y => ?_
  have ht : (t : ℕ) < 2 := t.isLt
  have h0 : (y 0 : ℕ) < 1024 := (y 0).isLt
  have h1 : (y 1 : ℕ) < 128 := (y 1).isLt
  blk_simp
  rw [after1_2]
  refine (congrArg _ (eta2 (m := 1024) (n := 128) y)).trans ((out1_at _ _ _ _).trans ?_)
  simp only [mm, idx1 t]
  refine Finset.sum_congr rfl fun k _ => congrArg₂ _ ?_ ?_
  · refine Eq.trans ?_ (hA ⟨t / 1 * 1024 + y 0, by omega⟩ k)
    blk_ext [iblk1, idx1 t]
  · refine Eq.trans ?_ (hB k ⟨t % 1 * 128 + y 1, by omega⟩)
    blk_ext [iblk1, idx1 t]

theorem arr2 (hA : ∀ (a : Fin 2048) (b : Fin 128), (V c main_v15 : Vec Ideal S2048x128 .bf16) (ix2 a b) = A a b)
    (hB : ∀ (a : Fin 2048) (b : Fin 128), (V c main_v7 : Vec Ideal S2048x128 .bf16) (ix2 a b) = B a b) :
    (dat2 V c).arrAt 2 cfg2.N = (fun i => mm 128 A (tr B) (i 0) (i 1) : Vec Ideal S2048x2048 .f32) := by
  refine (dat2 V c).arrAt_eq_of_covers 2 _ (by decide +kernel) fun t hf y => ?_
  have ht : (t : ℕ) < 4 := t.isLt
  have h0 : (y 0 : ℕ) < 1024 := (y 0).isLt
  have h1 : (y 1 : ℕ) < 1024 := (y 1).isLt
  blk_simp
  rw [after2_2]
  refine (congrArg _ (eta2 (m := 1024) (n := 1024) y)).trans ((out2_at _ _ _ _).trans ?_)
  simp only [mm, tr, idx2 t]
  refine Finset.sum_congr rfl fun k _ => congrArg₂ _ ?_ ?_
  · refine Eq.trans ?_ (hA ⟨t / 2 * 1024 + y 0, by omega⟩ k)
    blk_ext [iblk2, idx2 t]
  · refine Eq.trans ?_ (hB ⟨t % 2 * 1024 + y 1, by omega⟩ k)
    blk_ext [iblk2, idx2 t]

theorem arr3 (hA : ∀ (a : Fin 2048) (b : Fin 2048), (V c main_v18 : Vec Ideal S2048x2048 .bf16) (ix2 a b) = A a b)
    (hB : ∀ (a : Fin 2048) (b : Fin 9216), (V c main_v11 : Vec Ideal S2048x9216 .bf16) (ix2 a b) = B a b) :
    (dat3 V c).arrAt 2 cfg3.N = (fun i => mm 2048 A B (i 0) (i 1) : Vec Ideal S2048x9216 .bf16) := by
  refine (dat3 V c).arrAt_eq_of_covers 2 _ (by decide +kernel) fun t hf y => ?_
  have ht : (t : ℕ) < 18 := t.isLt
  have h0 : (y 0 : ℕ) < 1024 := (y 0).isLt
  have h1 : (y 1 : ℕ) < 1024 := (y 1).isLt
  blk_simp
  rw [after3_2]
  refine (congrArg _ (eta2 (m := 1024) (n := 1024) y)).trans ((out3_at _ _ _ _).trans ?_)
  simp only [mm, idx3 t]
  refine Finset.sum_congr rfl fun k _ => congrArg₂ _ ?_ ?_
  · refine Eq.trans ?_ (hA ⟨t / 9 * 1024 + y 0, by omega⟩ k)
    blk_ext [iblk3, idx3 t]
  · refine Eq.trans ?_ (hB k ⟨t % 9 * 1024 + y 1, by omega⟩)
    blk_ext [iblk3, idx3 t]

theorem arr4 (hA : ∀ (a : Fin 2048) (b : Fin 2048), (V c main_v18 : Vec Ideal S2048x2048 .bf16) (ix2 a b) = A a b)
    (hB : ∀ (a : Fin 2048) (b : Fin 128), (V c main_v15 : Vec Ideal S2048x128 .bf16) (ix2 a b) = B a b) :
    (dat4 V c).arrAt 2 cfg4.N = (fun i => mm 2048 A B (i 0) (i 1) : Vec Ideal S2048x128 .bf16) := by
  refine (dat4 V c).arrAt_eq_of_covers 2 _ (by decide +kernel) fun t hf y => ?_
  have ht : (t : ℕ) < 2 := t.isLt
  have h0 : (y 0 : ℕ) < 1024 := (y 0).isLt
  have h1 : (y 1 : ℕ) < 128 := (y 1).isLt
  blk_simp
  rw [after4_2]
  refine (congrArg _ (eta2 (m := 1024) (n := 128) y)).trans ((out4_at _ _ _ _).trans ?_)
  simp only [mm, idx4 t]
  refine Finset.sum_congr rfl fun k _ => congrArg₂ _ ?_ ?_
  · refine Eq.trans ?_ (hA ⟨t / 1 * 1024 + y 0, by omega⟩ k)
    blk_ext [iblk4, idx4 t]
  · refine Eq.trans ?_ (hB k ⟨t % 1 * 128 + y 1, by omega⟩)
    blk_ext [iblk4, idx4 t]

end Cert.KernelInIdeal.In
-- ==== Proof.In.Cols.lean ====
module

public import proofs.«01_k».proof.Proof.In.Arr

@[expose] public section

/-! The host's lay-out of the input projection's columns, and what the calls leave in terms of the columns as given. -/

set_option maxRecDepth 16384

noncomputable section

open Idealize.ShloMosaic Idealize.ShloMosaic.TcCoe Idealize.SL.Sem

namespace Cert.KernelInIdeal.In

open Cert.KernelInIdeal Cert.KernelInIdeal.Gen Cert.Mat

/-- The given column that stands in a column of the main array. -/
def cm (b : ℕ) : ℕ := if b < 1024 then b else if b < 5120 then b + 64 else b + 80
/-- The given column that stands in a column of the small array. -/
def cs (b : ℕ) : ℕ := if b < 64 then 1024 + b else 5120 + b
/-- The main array of the columns `W`. -/
def main (W : ℕ → ℕ → EReal) (k b : ℕ) : EReal := W k (cm b)
/-- The small array of the columns `W`, filled up with zeros. -/
def small (W : ℕ → ℕ → EReal) (k b : ℕ) : EReal := if b < 80 then W k (cs b) else 0

variable (m : (ℓ : Loc nD τ sig) → Buf (Elt Ideal) ℓ) (ρ : Dev nD → PrngReg) (c : Dev nD)
variable {W : ℕ → ℕ → EReal}

/-- The main array as the host lays it out. -/
def layMain (X : FVec Ideal S2048x9296 .bf16) : FVec Ideal S2048x9216 .bf16 :=
  concatenate S2048x9216 1 [⟨S2048x1024, extractStridedSlice S2048x1024 ![0, 0] X slices_S2048x9296_S2048x1024_0_0⟩,
    ⟨S2048x4096, extractStridedSlice S2048x4096 ![0, 1088] X slices_S2048x9296_S2048x4096_0_1088⟩,
    ⟨S2048x4096, extractStridedSlice S2048x4096 ![0, 5200] X slices_S2048x9296_S2048x4096_0_5200⟩]
    concatenates_S2048x1024_S2048x4096_S2048x4096_S2048x9216_d1

/-- The small array as the host lays it out. -/
def laySmall (X : FVec Ideal S2048x9296 .bf16) : FVec Ideal S2048x128 .bf16 :=
  concatenate S2048x128 1 [⟨S2048x64, extractStridedSlice S2048x64 ![0, 1024] X slices_S2048x9296_S2048x64_0_1024⟩,
    ⟨S2048x16, extractStridedSlice S2048x16 ![0, 5184] X slices_S2048x9296_S2048x16_0_5184⟩,
    ⟨S2048x48, broadcastInDim S2048x48 ![] bcast_S_S2048x48 (constant S_ .bf16 0x0000#16)⟩]
    concatenates_S2048x64_S2048x16_S2048x48_S2048x128_d1

theorem layMain_at {X : FVec Ideal S2048x9296 .bf16} (hX : ∀ (a : Fin 2048) (b : Fin 9296), X (ix2 a b) = W a b) (a : Fin 2048) (b : Fin 9216) :
    layMain X (ix2 a b) = main W a b := by
  pointwise [layMain]
  have e (b' : Fin 9296) (h : (b' : ℕ) = cm b) : X (ix2 a b') = main W a b := by rw [hX, h]; rfl
  split_ifs <;> exact e _ (by simp only [cm]; split_ifs <;> omega)

theorem laySmall_at {X : FVec Ideal S2048x9296 .bf16} (hX : ∀ (a : Fin 2048) (b : Fin 9296), X (ix2 a b) = W a b) (a : Fin 2048) (b : Fin 128) :
    laySmall X (ix2 a b) = small W a b := by
  pointwise [laySmall]
  have e (b' : Fin 9296) (hb : (b : ℕ) < 80) (h : (b' : ℕ) = cs b) : X (ix2 a b') = small W a b := by rw [hX, h, small, if_pos hb]
  split_ifs <;> first
    | exact e _ (by omega) (by simp only [cs]; split_ifs <;> omega)
    | exact (if_neg (by omega)).symm

/-- The columns as given, taken back out of the two arrays. -/
def unlay {t : FTy} (X : FVec Ideal S2048x9216 t) (Y : FVec Ideal S2048x128 t) : FVec Ideal S2048x9296 t :=
  concatenate S2048x9296 1 [⟨S2048x1024, extractStridedSlice S2048x1024 ![0, 0] X slices_S2048x9216_S2048x1024_0_0⟩,
    ⟨S2048x64, extractStridedSlice S2048x64 ![0, 0] Y slices_S2048x128_S2048x64_0_0⟩,
    ⟨S2048x4096, extractStridedSlice S2048x4096 ![0, 1024] X slices_S2048x9216_S2048x4096_0_1024⟩,
    ⟨S2048x16, extractStridedSlice S2048x16 ![0, 64] Y slices_S2048x128_S2048x16_0_64⟩,
    ⟨S2048x4096, extractStridedSlice S2048x4096 ![0, 5120] X slices_S2048x9216_S2048x4096_0_5120⟩]
    concatenates_S2048x1024_S2048x64_S2048x4096_S2048x16_S2048x4096_S2048x9296_d1

theorem unlay_at {t : FTy} {X : FVec Ideal S2048x9216 t} {Y : FVec Ideal S2048x128 t} {A W : ℕ → ℕ → EReal}
    (hX : ∀ (a : Fin 2048) (b : Fin 9216), X (ix2 a b) = mm 2048 A (main W) a b)
    (hY : ∀ (a : Fin 2048) (b : Fin 128), Y (ix2 a b) = mm 2048 A (small W) a b) (a : Fin 2048) (b : Fin 9296) :
    unlay X Y (ix2 a b) = mm 2048 A W a b := by
  have eX (b' : Fin 9216) (h : cm b' = b) : X (ix2 a b') = mm 2048 A W a b := by
    rw [hX, mm, mm]; simp only [main, h]
  have eY (b' : Fin 128) (h : (b' : ℕ) < 80) (h' : cs b' = b) : Y (ix2 a b') = mm 2048 A W a b := by
    rw [hY, mm, mm]; simp only [small, if_pos h, h']
  pointwise [unlay]
  split_ifs <;> first
    | exact eX _ (by simp only [cm]; split_ifs <;> omega)
    | exact eY _ (by dsimp only; omega) (by simp only [cs]; split_ifs <;> omega)

theorem v3_eq : (W1 m ρ c main_v3 : FVec Ideal S2048x9216 .bf16) = layMain (m ((c.tc : Thread nD τ).loc main_arg1)) := by
  simp only [W1, hostOps0]; after_results_simp <;> rfl
theorem v7_eq : (W1 m ρ c main_v7 : FVec Ideal S2048x128 .bf16) = laySmall (m ((c.tc : Thread nD τ).loc main_arg1)) := by
  simp only [W1, hostOps0]; after_results_simp <;> rfl
theorem v11_eq : (W1 m ρ c main_v11 : FVec Ideal S2048x9216 .bf16) = layMain (m ((c.tc : Thread nD τ).loc main_arg2)) := by
  simp only [W1, hostOps0]; after_results_simp <;> rfl
theorem v15_eq : (W1 m ρ c main_v15 : FVec Ideal S2048x128 .bf16) = laySmall (m ((c.tc : Thread nD τ).loc main_arg2)) := by
  simp only [W1, hostOps0]; after_results_simp <;> rfl
theorem v18_eq : (W4 m ρ c main_v18 : FVec Ideal S2048x2048 .bf16)
    = transpose S2048x2048 [1, 0] (W3 m ρ c main_arg0 : FVec Ideal S2048x2048 .bf16) transposes_S2048x2048_S2048x2048_1_0 := by
  simp only [W4, hostOps2]; after_results_simp <;> rfl

theorem v27_eq : (W8 m ρ c main_v27 : FVec Ideal S2048x9296 .f32)
    = unlay (t := .f32) (W7 m ρ c main_v16 : FVec Ideal S2048x9216 .f32) (W7 m ρ c main_v17 : FVec Ideal S2048x128 .f32) := by
  simp only [W8, hostOps5]; after_results_simp <;> rfl
theorem v33_eq : (W8 m ρ c main_v33 : FVec Ideal S2048x9296 .bf16)
    = unlay (t := .bf16) (W7 m ρ c main_v20 : FVec Ideal S2048x9216 .bf16) (W7 m ρ c main_v21 : FVec Ideal S2048x128 .bf16) := by
  simp only [W8, hostOps5]; after_results_simp <;> rfl

end Cert.KernelInIdeal.In
-- ==== Proof.In.Final.lean ====
module

public import proofs.«01_k».proof.Defs
public import proofs.«01_k».proof.Proof.Gen.ReferenceInIdeal.Run
public import proofs.«01_k».proof.Proof.In.Run
public import proofs.«01_k».proof.Proof.In.Cols

@[expose] public section

/-! The input projection's kernel and its reference leave the same product and the same gradients. -/

set_option maxRecDepth 16384

noncomputable section

namespace Cert.In

open Cert.Mat

/-- The gradient's part from the small columns, as the columns are given. -/
def tail (D W : ℕ → ℕ → EReal) (i j : ℕ) : EReal :=
  ∑ k : Fin 16, D i (5184 + k) * W j (5184 + k) + ∑ k : Fin 64, D i (1024 + k) * W j (1024 + k)

end Cert.In

namespace Cert.KernelInIdeal.In

open Idealize.ShloMosaic Idealize.ShloMosaic.TcCoe Idealize.SL.Sem
open Cert.KernelInIdeal Cert.KernelInIdeal.Gen Cert.In Cert.Mat

/-- The small arrays' product: the zeros that fill them up add nothing. -/
theorem small_sum (D W : ℕ → ℕ → EReal) (i j : ℕ) : mm 128 (small D) (tr (small W)) i j = tail D W i j := by
  rw [mm, Fin.sum_univ_eq_sum_range (fun k => small D i k * tr (small W) k j) 128, show 128 = 64 + (16 + 48) from rfl,
    Finset.sum_range_add, Finset.sum_range_add, tail, Fin.sum_univ_eq_sum_range (fun k => D i (5184 + k) * W j (5184 + k)) 16,
    Fin.sum_univ_eq_sum_range (fun k => D i (1024 + k) * W j (1024 + k)) 64, add_comm]
  have z : ∑ k ∈ Finset.range 48, small D i (64 + (16 + k)) * tr (small W) (64 + (16 + k)) j = 0 :=
    Finset.sum_eq_zero fun k _ => by rw [small, if_neg (by omega), zero_mul]
  rw [z, add_zero]
  refine congrArg₂ _ (Finset.sum_congr rfl fun k hk => ?_) (Finset.sum_congr rfl fun k hk => ?_)
  · have hk := Finset.mem_range.1 hk
    simp only [small, tr, cs, if_pos (show 64 + k < 80 by omega), if_neg (show ¬ 64 + k < 64 by omega),
      show 5120 + (64 + k) = 5184 + k by omega]
  · have hk := Finset.mem_range.1 hk
    simp only [small, tr, cs, if_pos (show k < 80 by omega), if_pos hk]

variable (m : (ℓ : Loc nD τ sig) → Buf (Elt Ideal) ℓ) (ρ : Dev nD → PrngReg) (c : Dev nD)
variable {H W D : ℕ → ℕ → EReal}
variable (h0 : ∀ (a b : Fin 2048), (m ((c.tc : Thread nD τ).loc main_arg0) : FVec Ideal S2048x2048 .bf16) (ix2 a b) = H a b)
variable (h1 : ∀ (a : Fin 2048) (b : Fin 9296), (m ((c.tc : Thread nD τ).loc main_arg1) : FVec Ideal S2048x9296 .bf16) (ix2 a b) = W a b)
variable (h2 : ∀ (a : Fin 2048) (b : Fin 9296), (m ((c.tc : Thread nD τ).loc main_arg2) : FVec Ideal S2048x9296 .bf16) (ix2 a b) = D a b)

include h1 in
theorem v3_at (a : Fin 2048) (b : Fin 9216) : (W1 m ρ c main_v3 : FVec Ideal S2048x9216 .bf16) (ix2 a b) = main W a b :=
  (congrFun (v3_eq m ρ c) _).trans (layMain_at h1 a b)
include h1 in
theorem v7_at (a : Fin 2048) (b : Fin 128) : (W1 m ρ c main_v7 : FVec Ideal S2048x128 .bf16) (ix2 a b) = small W a b :=
  (congrFun (v7_eq m ρ c) _).trans (laySmall_at h1 a b)
include h2 in
theorem v11_at (a : Fin 2048) (b : Fin 9216) : (W1 m ρ c main_v11 : FVec Ideal S2048x9216 .bf16) (ix2 a b) = main D a b :=
  (congrFun (v11_eq m ρ c) _).trans (layMain_at h2 a b)
include h2 in
theorem v15_at (a : Fin 2048) (b : Fin 128) : (W1 m ρ c main_v15 : FVec Ideal S2048x128 .bf16) (ix2 a b) = small D a b :=
  (congrFun (v15_eq m ρ c) _).trans (laySmall_at h2 a b)

include h0 h1 in
theorem v16_eq : (W2 m ρ c main_v16 : FVec Ideal S2048x9216 .f32) = fun i => mm 2048 H (main W) (i 0) (i 1) :=
  (W2_arr m ρ c 2).trans (arr0 (V1 m ρ) c (fun a b => (congrFun (W1_args m ρ c main_arg0 (by decide)) (ix2 a b)).trans (h0 a b))
    (v3_at m ρ c h1))

include h0 h1 in
theorem v17_eq : (W3 m ρ c main_v17 : FVec Ideal S2048x128 .f32) = fun i => mm 2048 H (small W) (i 0) (i 1) :=
  (W3_arr m ρ c 2).trans (arr1 (V2 m ρ) c (fun a b => (congrFun (W2_args m ρ c main_arg0 (by decide)) (ix2 a b)).trans (h0 a b))
    fun a b => (congrFun (W2_of m ρ c main_v7 (by decide)) _).trans (v7_at m ρ c h1 a b))

include h0 in
theorem v18_at (a b : Fin 2048) : (W4 m ρ c main_v18 : FVec Ideal S2048x2048 .bf16) (ix2 a b) = tr H a b := by
  rw [v18_eq]
  have e (X : FVec Ideal S2048x2048 .bf16) : transpose S2048x2048 [1, 0] X transposes_S2048x2048_S2048x2048_1_0 (ix2 a b) = X (ix2 b a) := by
    pointwise
  exact (e _).trans ((congrFun (W3_args m ρ c main_arg0 (by decide)) _).trans (h0 b a))

include h1 h2 in
theorem v19_eq : (W5 m ρ c main_v19 : FVec Ideal S2048x2048 .f32) = fun i => tail D W (i 0) (i 1) :=
  (W5_arr m ρ c 2).trans ((arr2 (V4 m ρ) c
    (fun a b => (congrFun ((W4_of m ρ c main_v15 (by decide)).trans ((W3_of m ρ c main_v15 (by decide)).trans (W2_of m ρ c main_v15 (by decide)))) _).trans (v15_at m ρ c h2 a b))
    fun a b => (congrFun ((W4_of m ρ c main_v7 (by decide)).trans ((W3_of m ρ c main_v7 (by decide)).trans (W2_of m ρ c main_v7 (by decide)))) _).trans (v7_at m ρ c h1 a b)).trans
    (funext fun i => small_sum D W (i 0) (i 1)))

include h0 h2 in
theorem v20_eq : (W6 m ρ c main_v20 : FVec Ideal S2048x9216 .bf16) = fun i => mm 2048 (tr H) (main D) (i 0) (i 1) :=
  (W6_arr m ρ c 2).trans (arr3 (V5 m ρ) c (fun a b => (congrFun (W5_of m ρ c main_v18 (by decide)) _).trans (v18_at m ρ c h0 a b))
    fun a b => (congrFun ((W5_of m ρ c main_v11 (by decide)).trans ((W4_of m ρ c main_v11 (by decide)).trans ((W3_of m ρ c main_v11 (by decide)).trans (W2_of m ρ c main_v11 (by decide))))) _).trans (v11_at m ρ c h2 a b))

include h0 h2 in
theorem v21_eq : (W7 m ρ c main_v21 : FVec Ideal S2048x128 .bf16) = fun i => mm 2048 (tr H) (small D) (i 0) (i 1) :=
  (W7_arr m ρ c 2).trans (arr4 (V6 m ρ) c (fun a b => (congrFun ((W6_of m ρ c main_v18 (by decide)).trans (W5_of m ρ c main_v18 (by decide))) _).trans (v18_at m ρ c h0 a b))
    fun a b => (congrFun ((W6_of m ρ c main_v15 (by decide)).trans ((W5_of m ρ c main_v15 (by decide)).trans ((W4_of m ρ c main_v15 (by decide)).trans ((W3_of m ρ c main_v15 (by decide)).trans (W2_of m ρ c main_v15 (by decide)))))) _).trans (v15_at m ρ c h2 a b))

include h0 h1 in
theorem out0 : (W8 m ρ c main_v27 : FVec Ideal S2048x9296 .f32) = fun i => mm 2048 H W (i 0) (i 1) := by
  funext i
  rw [v27_eq]
  exact (congrArg _ (eta2 (m := 2048) (n := 9296) i)).trans (unlay_at
    (fun a b => congrFun (((W7_of m ρ c main_v16 (by decide)).trans ((W6_of m ρ c main_v16 (by decide)).trans ((W5_of m ρ c main_v16 (by decide)).trans ((W4_of m ρ c main_v16 (by decide)).trans (W3_of m ρ c main_v16 (by decide)))))).trans (v16_eq m ρ c h0 h1)) (ix2 a b))
    (fun a b => congrFun (((W7_of m ρ c main_v17 (by decide)).trans ((W6_of m ρ c main_v17 (by decide)).trans ((W5_of m ρ c main_v17 (by decide)).trans (W4_of m ρ c main_v17 (by decide))))).trans (v17_eq m ρ c h0 h1)) (ix2 a b)) (i 0) (i 1))

include h0 h2 in
theorem out1 : (W8 m ρ c main_v33 : FVec Ideal S2048x9296 .bf16) = fun i => mm 2048 (tr H) D (i 0) (i 1) := by
  funext i
  rw [v33_eq]
  exact (congrArg _ (eta2 (m := 2048) (n := 9296) i)).trans (unlay_at
    (fun a b => congrFun ((W7_of m ρ c main_v20 (by decide)).trans (v20_eq m ρ c h0 h2)) (ix2 a b))
    (fun a b => congrFun (v21_eq m ρ c h0 h2) (ix2 a b)) (i 0) (i 1))

include h1 h2 in
theorem out2 : (W8 m ρ c main_v19 : FVec Ideal S2048x2048 .f32) = fun i => tail D W (i 0) (i 1) :=
  ((W8_of m ρ c main_v19 (by decide)).trans ((W7_of m ρ c main_v19 (by decide)).trans (W6_of m ρ c main_v19 (by decide)))).trans (v19_eq m ρ c h1 h2)

end Cert.KernelInIdeal.In

namespace Cert.ReferenceInIdeal.In

open Idealize.ShloMosaic Idealize.ShloMosaic.TcCoe Idealize.SL.Sem
open Cert.ReferenceInIdeal Cert.ReferenceInIdeal.Gen Cert.ReferenceInIdeal.Value Cert.In Cert.Mat

variable (X : FVec Ideal S2048x2048 .bf16) (Y Z : FVec Ideal S2048x9296 .bf16) {H W D : ℕ → ℕ → EReal}
variable (hX : ∀ a b, X (ix2 a b) = H a b) (hY : ∀ a b, Y (ix2 a b) = W a b) (hZ : ∀ a b, Z (ix2 a b) = D a b)

/-- The reference's projection. -/
def fwd : FVec Ideal S2048x9296 .f32 :=
  Host.dotGeneral (F := Ideal) dot_S2048x2048_S2048x9296_S2048x9296_1_0_0_1_n_n none (extf .f32 X bitsLt_bf16_f32) (extf .f32 Y bitsLt_bf16_f32)
/-- The reference's gradient of the weights. -/
def grad : FVec Ideal S2048x9296 .bf16 :=
  truncf .bf16 (transpose S2048x9296 [1, 0] (Host.dotGeneral (F := Ideal) dot_S2048x9296_S2048x2048_S9296x2048_0_0_1_1_n_n none
    (extf .f32 Z bitsLt_bf16_f32) (extf .f32 X bitsLt_bf16_f32)) transposes_S9296x2048_S2048x9296_1_0) bitsLt_bf16_f32
/-- The reference's gradient of the input through the small columns. -/
def gradX : FVec Ideal S2048x2048 .f32 :=
  addf (Host.dotGeneral (F := Ideal) dot_S2048x16_S2048x16_S2048x2048_1_1_0_0_n_n none
      (extractStridedSlice S2048x16 ![0, 5184] (extf .f32 Z bitsLt_bf16_f32) slices_S2048x9296_S2048x16_0_5184)
      (extractStridedSlice S2048x16 ![0, 5184] (extf .f32 Y bitsLt_bf16_f32) slices_S2048x9296_S2048x16_0_5184))
    (Host.dotGeneral (F := Ideal) dot_S2048x64_S2048x64_S2048x2048_1_1_0_0_n_n none
      (extractStridedSlice S2048x64 ![0, 1024] (extf .f32 Z bitsLt_bf16_f32) slices_S2048x9296_S2048x64_0_1024)
      (extractStridedSlice S2048x64 ![0, 1024] (extf .f32 Y bitsLt_bf16_f32) slices_S2048x9296_S2048x64_0_1024))

include hX hY in
theorem fwd_eq : fwd X Y = fun i => mm 2048 H W (i 0) (i 1) := by
  funext i
  have e (r : Fin 2048) (d : Fin 9296) : fwd X Y (ix2 r d) = ∑ k : Fin 2048, (X (ix2 r k) * Y (ix2 k d) : EReal) := by
    pointwise [fwd]
  exact (congrArg _ (eta2 (m := 2048) (n := 9296) i)).trans ((e (i 0) (i 1)).trans
    (Finset.sum_congr rfl fun k _ => congrArg₂ _ (hX (i 0) k) (hY k (i 1))))

include hX hZ in
theorem grad_eq : grad X Z = fun i => mm 2048 (tr H) D (i 0) (i 1) := by
  funext i
  have e (r : Fin 2048) (d : Fin 9296) : grad X Z (ix2 r d) = ∑ k : Fin 2048, (Z (ix2 k d) * X (ix2 k r) : EReal) := by
    pointwise [grad]
  exact (congrArg _ (eta2 (m := 2048) (n := 9296) i)).trans ((e (i 0) (i 1)).trans
    (Finset.sum_congr rfl fun k _ => (congrArg₂ _ (hZ k (i 1)) (hX k (i 0))).trans (mul_comm _ _)))

include hY hZ in
theorem gradX_eq : gradX Y Z = fun i => tail D W (i 0) (i 1) := by
  funext i
  have e (r d : Fin 2048) : gradX Y Z (ix2 r d)
      = (∑ k : Fin 16, (Z (ix2 r ⟨5184 + k, by omega⟩) * Y (ix2 d ⟨5184 + k, by omega⟩) : EReal))
        + ∑ k : Fin 64, (Z (ix2 r ⟨1024 + k, by omega⟩) * Y (ix2 d ⟨1024 + k, by omega⟩) : EReal) := by
    pointwise [gradX]
  exact (congrArg _ (eta2 (m := 2048) (n := 2048) i)).trans ((e (i 0) (i 1)).trans (congrArg₂ _
    (Finset.sum_congr rfl fun k _ => congrArg₂ _ (hZ (i 0) _) (hY (i 1) _))
    (Finset.sum_congr rfl fun k _ => congrArg₂ _ (hZ (i 0) _) (hY (i 1) _))))

end Cert.ReferenceInIdeal.In

namespace Cert.In

open Idealize.ShloMosaic Idealize.ShloMosaic.TcCoe Idealize.SL.Sem
open Cert.Mat

theorem algebraic : Cert.algebraic_KernelInIdeal_ReferenceInIdeal := by
  intro m ρ m' ρ' _ hag
  let H (c : Dev Cert.KernelInIdeal.nD) : ℕ → ℕ → EReal :=
    valOf (m := 2048) (n := 2048) (m ((c.tc : Thread Cert.KernelInIdeal.nD Cert.KernelInIdeal.τ).loc Cert.KernelInIdeal.main_arg0))
  let W (c : Dev Cert.KernelInIdeal.nD) : ℕ → ℕ → EReal :=
    valOf (m := 2048) (n := 9296) (m ((c.tc : Thread Cert.KernelInIdeal.nD Cert.KernelInIdeal.τ).loc Cert.KernelInIdeal.main_arg1))
  let D (c : Dev Cert.KernelInIdeal.nD) : ℕ → ℕ → EReal :=
    valOf (m := 2048) (n := 9296) (m ((c.tc : Thread Cert.KernelInIdeal.nD Cert.KernelInIdeal.τ).loc Cert.KernelInIdeal.main_arg2))
  have h0 := fun (c : Dev Cert.KernelInIdeal.nD) =>
    valOf_at (m := 2048) (n := 2048) (m ((c.tc : Thread Cert.KernelInIdeal.nD Cert.KernelInIdeal.τ).loc Cert.KernelInIdeal.main_arg0))
  have h1 := fun (c : Dev Cert.KernelInIdeal.nD) =>
    valOf_at (m := 2048) (n := 9296) (m ((c.tc : Thread Cert.KernelInIdeal.nD Cert.KernelInIdeal.τ).loc Cert.KernelInIdeal.main_arg1))
  have h2 := fun (c : Dev Cert.KernelInIdeal.nD) =>
    valOf_at (m := 2048) (n := 9296) (m ((c.tc : Thread Cert.KernelInIdeal.nD Cert.KernelInIdeal.τ).loc Cert.KernelInIdeal.main_arg2))
  refine ⟨fun c => (fun i => mm 2048 (H c) (W c) (i 0) (i 1) : Vec Ideal Cert.KernelInIdeal.S2048x9296 .f32),
    fun c => (fun i => mm 2048 (tr (H c)) (D c) (i 0) (i 1) : Vec Ideal Cert.KernelInIdeal.S2048x9296 .bf16),
    fun c => (fun i => tail (D c) (W c) (i 0) (i 1) : Vec Ideal Cert.KernelInIdeal.S2048x2048 .f32),
    (θ_run _ _ _).mono (fun r h c => ?_) (Cert.KernelInIdeal.In.run m ρ),
    (θ_run _ _ _).mono (fun r h c => ?_) (Cert.ReferenceInIdeal.Value.run m' ρ')⟩
  · obtain ⟨e0, e1, e2, ha⟩ := h c
    exact ⟨e0.trans (Cert.KernelInIdeal.In.out0 m ρ c (h0 c) (h1 c)), e1.trans (Cert.KernelInIdeal.In.out1 m ρ c (h0 c) (h2 c)),
      e2.trans (Cert.KernelInIdeal.In.out2 m ρ c (h1 c) (h2 c)), ha⟩
  · obtain ⟨e0, e1, e2, ha⟩ := h c
    obtain ⟨a0, a1, a2⟩ := hag c
    have g0 := fun a b => (congrFun a0 (ix2 a b)).trans (h0 c a b)
    have g1 := fun a b => (congrFun a1 (ix2 a b)).trans (h1 c a b)
    have g2 := fun a b => (congrFun a2 (ix2 a b)).trans (h2 c a b)
    exact ⟨e0.trans (Cert.ReferenceInIdeal.In.fwd_eq _ _ g0 g1), e1.trans (Cert.ReferenceInIdeal.In.grad_eq _ _ g0 g2),
      e2.trans (Cert.ReferenceInIdeal.In.gradX_eq _ _ g1 g2), ha⟩

end Cert.In
-- ==== Proof.InX.Arr.lean ====
module

public import proofs.«01_k».proof.Defs
public import proofs.«01_k».proof.Proof.Gen.KernelInXIdeal.Value
public import proofs.«01_k».proof.Proof.Gen.ReferenceInXIdeal.Run
public import proofs.«01_k».proof.Proof.Mat

@[expose] public section

/-! The gradient of the input projection's input, read over its whole array, beside its reference. -/

set_option maxRecDepth 16384

noncomputable section

open Idealize.ShloMosaic Idealize.ShloMosaic.TcCoe Idealize.SL.Sem
open Idealize.ShloMosaic.Pipeline (Dat)

namespace Cert.KernelInXIdeal.X

open Cert.KernelInXIdeal Cert.KernelInXIdeal.Gen Cert.KernelInXIdeal.Value Cert.Mat

section
variable (c : Dev nD) (i : grid0.Coords) (a3 : Memref sig .tc .vmem S1024x1024 .bf16) (h3 : a3.IsWhole) (a4 : Memref sig .tc .vmem S1024x1024 .bf16)
  (h4 : a4.IsWhole) (a5 : Memref sig .tc .vmem S1024x1024 .f32) (h5 : a5.IsWhole) (a6 : Memref sig .tc .vmem S1024x1024 .f32) (h6 : a6.IsWhole)
  (a7 : Memref sig .tc .vmem S1024x1024 .f32) (h7 : a7.IsWhole) (x0 : Vec Ideal S1024x1024 .bf16) (x1 : Vec Ideal S1024x1024 .bf16) (x2 : Vec Ideal S1024x1024 .f32) (xs : Vec Ideal S1024x1024 .f32) (r d : Fin 1024)

theorem soutA_at (p : cond0_0 i) (q : ¬cond0_1 i) : sout0_A_0 c i a3 h3 a4 h4 a5 h5 a6 h6 a7 h7 p q x0 x1 x2 (ix2 r d)
    = (x2 (ix2 r d) + ∑ k : Fin 1024, (x0 (ix2 r k) * x1 (ix2 d k) : EReal) : EReal) := by
  frame_out; open_payloads; pointwise

theorem soutB_at (p : ¬cond0_0 i) (q : ¬cond0_1 i) : sout0_B_0 c i a3 h3 a4 h4 a5 h5 a6 h6 a7 h7 p q x0 x1 x2 xs (ix2 r d)
    = (xs (ix2 r d) + ∑ k : Fin 1024, (x0 (ix2 r k) * x1 (ix2 d k) : EReal) : EReal) := by
  frame_out; open_payloads; pointwise

theorem outC_at (p : ¬cond0_0 i) (q : cond0_1 i) : out0_C_3 c i a3 h3 a4 h4 a5 h5 a6 h6 a7 h7 p q x0 x1 x2 xs (ix2 r d)
    = (xs (ix2 r d) + ∑ k : Fin 1024, (x0 (ix2 r k) * x1 (ix2 d k) : EReal) : EReal) := by
  frame_out; open_payloads; pointwise

end

theorem idx : ∀ t : Fin grid0.N, (win0_0.index t 0 = t / 9 / 2 ∧ win0_0.index t 1 = t % 9)
    ∧ (win0_1.index t 0 = t / 9 % 2 ∧ win0_1.index t 1 = t % 9) ∧ (win0_2.index t 0 = t / 9 / 2 ∧ win0_2.index t 1 = t / 9 % 2) ∧ (win0_3.index t 0 = t / 9 / 2 ∧ win0_3.index t 1 = t / 9 % 2) := by
  decide +kernel

variable (m : (ℓ : Loc nD τ sig) → Buf (Elt Ideal) ℓ) (c : Dev nD)
variable {A B C : ℕ → ℕ → EReal}
variable (hA : ∀ (a : Fin 2048) (b : Fin 9216), (m ((c.tc : Thread nD τ).loc main_arg0) : FVec Ideal S2048x9216 .bf16) (ix2 a b) = A a b)
variable (hB : ∀ (a : Fin 2048) (b : Fin 9216), (m ((c.tc : Thread nD τ).loc main_arg1) : FVec Ideal S2048x9216 .bf16) (ix2 a b) = B a b)
variable (hC : ∀ a b : Fin 2048, (m ((c.tc : Thread nD τ).loc main_arg2) : FVec Ideal S2048x2048 .f32) (ix2 a b) = C a b)

/-- The part of the product that one grid point adds. -/
theorem part (t : Fin cfg0.N) (x0 : Vec Ideal S1024x1024 .bf16) (x1 : Vec Ideal S1024x1024 .bf16) (e0 : iblk m c 0 t = x0) (e1 : iblk m c 1 t = x1) (r d : Fin 1024)
    (hA : ∀ (a : Fin 2048) (b : Fin 9216), (m ((c.tc : Thread nD τ).loc main_arg0) : FVec Ideal S2048x9216 .bf16) (ix2 a b) = A a b)
    (hB : ∀ (a : Fin 2048) (b : Fin 9216), (m ((c.tc : Thread nD τ).loc main_arg1) : FVec Ideal S2048x9216 .bf16) (ix2 a b) = B a b) :
    ∑ k : Fin 1024, (x0 (ix2 r k) * x1 (ix2 d k) : EReal)
      = ∑ k ∈ Finset.range 1024, A (t / 9 / 2 * 1024 + r) (t % 9 * 1024 + k) * B (t / 9 % 2 * 1024 + d) (t % 9 * 1024 + k) := by
  have ht : (t : ℕ) < 36 := lt_of_lt_of_eq t.isLt N_0
  rw [Finset.sum_range]
  subst e0 e1
  refine Finset.sum_congr rfl fun k _ => congrArg₂ _ ?_ ?_
  · refine Eq.trans ?_ (hA ⟨t / 9 / 2 * 1024 + r, by omega⟩ ⟨t % 9 * 1024 + k, by omega⟩)
    blk_ext [iblk, V, idx t]
  · refine Eq.trans ?_ (hB ⟨t / 9 % 2 * 1024 + d, by omega⟩ ⟨t % 9 * 1024 + k, by omega⟩)
    blk_ext [iblk, V, idx t]

theorem acc_part {C : ℕ → ℕ → EReal} (t : Fin cfg0.N) (x2 : Vec Ideal S1024x1024 .f32) (e2 : iblk m c 2 t = x2) (r d : Fin 1024)
    (hC : ∀ a b : Fin 2048, (m ((c.tc : Thread nD τ).loc main_arg2) : FVec Ideal S2048x2048 .f32) (ix2 a b) = C a b) :
    x2 (ix2 r d) = C (t / 9 / 2 * 1024 + r) (t / 9 % 2 * 1024 + d) := by
  have ht : (t : ℕ) < 36 := lt_of_lt_of_eq t.isLt N_0
  subst e2
  refine Eq.trans ?_ (hC ⟨t / 9 / 2 * 1024 + r, by omega⟩ ⟨t / 9 % 2 * 1024 + d, by omega⟩)
  blk_ext [iblk, V, idx t]

include hA hB hC in
theorem scratch_first (t : Fin cfg0.N) (h0 : t.val % 9 = 0) (r d : Fin 1024) : ((outsAt0 m c t.val t.isLt).2 (ix2 r d) : EReal)
    = C (t / 9 / 2 * 1024 + r) (t / 9 % 2 * 1024 + d) + ∑ k ∈ Finset.range 1024, A (t / 9 / 2 * 1024 + r) (t % 9 * 1024 + k) * B (t / 9 % 2 * 1024 + d) (t % 9 * 1024 + k) := by
  rw [outsAt0_A m c t h0 (by omega)]
  dsimp only
  exact (soutA_at _ _ _ _ _ _ _ _ _ _ _ _ _ _ _ _ _ _ _).trans (congrArg₂ _ (acc_part m c t _ rfl r d hC) (part m c t _ _ rfl rfl r d hA hB))

include hA hB in
theorem scratch_next (t : Fin cfg0.N) (h0 : ¬ t.val % 9 = 0) (h1 : ¬ t.val % 9 = 8) (r d : Fin 1024) : ((outsAt0 m c t.val t.isLt).2 (ix2 r d) : EReal)
    = ((outsAt0 m c (t.val - 1) (by omega)).2 (ix2 r d) : EReal)
      + ∑ k ∈ Finset.range 1024, A (t / 9 / 2 * 1024 + r) (t % 9 * 1024 + k) * B (t / 9 % 2 * 1024 + d) (t % 9 * 1024 + k) := by
  rw [outsAt0_B m c t h0 h1]
  dsimp only
  exact (soutB_at _ _ _ _ _ _ _ _ _ _ _ _ _ _ _ _ _ _ _ _).trans (congrArg _ (part m c t _ _ rfl rfl r d hA hB))

include hA hB in
theorem out_last (t : Fin cfg0.N) (h1 : t.val % 9 = 8) (r d : Fin 1024) : ((outsAt0 m c t.val t.isLt).1 (ix2 r d) : EReal)
    = ((outsAt0 m c (t.val - 1) (by omega)).2 (ix2 r d) : EReal)
      + ∑ k ∈ Finset.range 1024, A (t / 9 / 2 * 1024 + r) (t % 9 * 1024 + k) * B (t / 9 % 2 * 1024 + d) (t % 9 * 1024 + k) := by
  rw [outsAt0_C m c t (by omega) h1]
  dsimp only
  exact (outC_at _ _ _ _ _ _ _ _ _ _ _ _ _ _ _ _ _ _ _ _).trans (congrArg _ (part m c t _ _ rfl rfl r d hA hB))

include hA hB hC in
theorem arr : (dats m 0 c).arrAt 3 cfg0.N = (fun i => C (i 0) (i 1) + mm 9216 A (tr B) (i 0) (i 1) : Vec Ideal S2048x2048 .f32) := by
  refine (dats m 0 c).arrAt_eq_of_covers 3 _ (by decide +kernel) fun t hf y => ?_
  have ht : (t : ℕ) < 36 := lt_of_lt_of_eq t.isLt N_0
  have hm : t.val % 9 = 8 := (flush0_3 t).mp hf
  have h0 : (y 0 : ℕ) < 1024 := (y 0).isLt
  have h1 : (y 1 : ℕ) < 1024 := (y 1).isLt
  blk_simp
  rw [after0_3]
  refine (congrArg _ (eta2 (m := 1024) (n := 1024) y)).trans ((out_last m c hA hB t hm (y 0) (y 1)).trans
    ((gather_last (nk := 9) (by omega) (fun n hn => ((outsAt0 m c n hn).2 (ix2 (y 0) (y 1)) : EReal)) (fun g => C (g / 2 * 1024 + y 0) (g % 2 * 1024 + y 1))
      (fun g k => A (g / 2 * 1024 + y 0) k * B (g % 2 * 1024 + y 1) k)
      (fun n hn e => scratch_first m c hA hB hC ⟨n, hn⟩ e _ _)
      (fun n hn e e' => scratch_next m c hA hB ⟨n, hn⟩ e e' _ _) t t.isLt hm).trans ?_))
  simp only [mm, tr, idx t]
  exact congrArg _ (Finset.sum_range _)

end Cert.KernelInXIdeal.X

namespace Cert.ReferenceInXIdeal.X

open Cert.ReferenceInXIdeal Cert.ReferenceInXIdeal.Gen Cert.ReferenceInXIdeal.Value Cert.Mat

variable (X Y : FVec Ideal S2048x9216 .bf16) (Z : FVec Ideal S2048x2048 .f32)

/-- The reference's own product and sum. -/
def prod : FVec Ideal S2048x2048 .f32 :=
  addf Z (Host.dotGeneral (F := Ideal) dot_S2048x9216_S2048x9216_S2048x2048_1_1_0_0_n_n none (extf .f32 X bitsLt_bf16_f32) (extf .f32 Y bitsLt_bf16_f32))

theorem prod_eq {A B C : ℕ → ℕ → EReal} (hA : ∀ a b, X (ix2 a b) = A a b) (hB : ∀ a b, Y (ix2 a b) = B a b) (hC : ∀ a b, Z (ix2 a b) = C a b) :
    prod X Y Z = fun i => C (i 0) (i 1) + mm 9216 A (tr B) (i 0) (i 1) := by
  funext i
  refine (congrArg _ (eta2 (m := 2048) (n := 2048) i)).trans ?_
  have e (r d : Fin 2048) : prod X Y Z (ix2 r d) = (Z (ix2 r d) + ∑ k : Fin 9216, (X (ix2 r k) * Y (ix2 d k) : EReal) : EReal) := by
    pointwise [prod]
  exact (e (i 0) (i 1)).trans (congrArg₂ _ (hC (i 0) (i 1)) (Finset.sum_congr rfl fun k _ => congrArg₂ _ (hA (i 0) k) (hB (i 1) k)))

end Cert.ReferenceInXIdeal.X

namespace Cert.KernelInXIdeal.X

open Cert.Mat

theorem algebraic : Cert.algebraic_KernelInXIdeal_ReferenceInXIdeal := by
  intro m ρ m' ρ' _ hag
  let A (c : Dev Cert.KernelInXIdeal.nD) : ℕ → ℕ → EReal :=
    valOf (m := 2048) (n := 9216) (m ((c.tc : Thread Cert.KernelInXIdeal.nD Cert.KernelInXIdeal.τ).loc Cert.KernelInXIdeal.main_arg0))
  let B (c : Dev Cert.KernelInXIdeal.nD) : ℕ → ℕ → EReal :=
    valOf (m := 2048) (n := 9216) (m ((c.tc : Thread Cert.KernelInXIdeal.nD Cert.KernelInXIdeal.τ).loc Cert.KernelInXIdeal.main_arg1))
  have hA := fun (c : Dev Cert.KernelInXIdeal.nD) =>
    valOf_at (m := 2048) (n := 9216) (m ((c.tc : Thread Cert.KernelInXIdeal.nD Cert.KernelInXIdeal.τ).loc Cert.KernelInXIdeal.main_arg0))
  have hB := fun (c : Dev Cert.KernelInXIdeal.nD) =>
    valOf_at (m := 2048) (n := 9216) (m ((c.tc : Thread Cert.KernelInXIdeal.nD Cert.KernelInXIdeal.τ).loc Cert.KernelInXIdeal.main_arg1))
  let C (c : Dev Cert.KernelInXIdeal.nD) : ℕ → ℕ → EReal :=
    valOf (m := 2048) (n := 2048) (m ((c.tc : Thread Cert.KernelInXIdeal.nD Cert.KernelInXIdeal.τ).loc Cert.KernelInXIdeal.main_arg2))
  have hC := fun (c : Dev Cert.KernelInXIdeal.nD) =>
    valOf_at (m := 2048) (n := 2048) (m ((c.tc : Thread Cert.KernelInXIdeal.nD Cert.KernelInXIdeal.τ).loc Cert.KernelInXIdeal.main_arg2))
  refine ⟨fun c => (fun i => C c (i 0) (i 1) + mm 9216 (A c) (tr (B c)) (i 0) (i 1) : Vec Ideal Cert.KernelInXIdeal.S2048x2048 .f32),
    (θ_run _ _ _).mono (fun r h c => ?_) (Cert.KernelInXIdeal.Value.run_blocks m ρ),
    (θ_run _ _ _).mono (fun r h c => ?_) (Cert.ReferenceInXIdeal.Value.run m' ρ')⟩
  · obtain ⟨e0, ha⟩ := h c
    exact ⟨e0.trans (arr m c (hA c) (hB c) (hC c)), ha⟩
  · obtain ⟨e0, ha⟩ := h c
    obtain ⟨a0, a1, a2⟩ := hag c
    have g0 := fun a b => (congrFun a0 (ix2 a b)).trans (hA c a b)
    have g1 := fun a b => (congrFun a1 (ix2 a b)).trans (hB c a b)
    have g2 := fun a b => (congrFun a2 (ix2 a b)).trans (hC c a b)
    exact ⟨e0.trans (Cert.ReferenceInXIdeal.X.prod_eq _ _ _ g0 g1 g2), ha⟩

end Cert.KernelInXIdeal.X
-- ==== Proof.Mix.Run.lean ====
module

public import proofs.«01_k».proof.Proof.Gen.KernelMixIdeal.Frame

@[expose] public section

/-! The run of the kernel with its results: the launch of the generated frame, with the outputs read as well. -/

set_option maxRecDepth 16384

noncomputable section

namespace Cert.KernelMixIdeal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelMixIdeal Cert.KernelMixIdeal.Gen

variable {F : FTy → Type} [FloatOps F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- The whole program runs, and ends with the calls' results, as the launch's fold leaves them, and the arguments as they were. -/
theorem run : θ_run defs (onTc (τ := τ) (main (F := F))) ⟨m, fun _ => 0, ρ⟩ (fun r => ∀ c : Dev nD,
      r.2.mem ((c.tc : Thread nD τ).loc main_v3) = W14 m ρ c main_v3
      ∧ r.2.mem ((c.tc : Thread nD τ).loc main_v11) = W14 m ρ c main_v11
      ∧ r.2.mem ((c.tc : Thread nD τ).loc main_v8) = W14 m ρ c main_v8
      ∧ r.2.mem ((c.tc : Thread nD τ).loc main_v13) = W14 m ρ c main_v13
      ∧ r.2.mem ((c.tc : Thread nD τ).loc main_v10) = W14 m ρ c main_v10
      ∧ r.2.mem ((c.tc : Thread nD τ).loc main_v6) = W14 m ρ c main_v6
      ∧ r.2.mem ((c.tc : Thread nD τ).loc main_v7_2) = W14 m ρ c main_v7_2
      ∧ r.2.mem ((c.tc : Thread nD τ).loc main_v7_3) = W14 m ρ c main_v7_3
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h _ => fun c =>
      ⟨h c _ (mem_uc main_v3 (by decide)),
       h c _ (mem_uc main_v11 (by decide)),
       h c _ (mem_uc main_v8 (by decide)),
       h c _ (mem_uc main_v13 (by decide)),
       h c _ (mem_uc main_v10 (by decide)),
       h c _ (mem_uc main_v6 (by decide)),
       h c _ (mem_uc main_v7_2 (by decide)),
       h c _ (mem_uc main_v7_3 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c)⟩)

end Cert.KernelMixIdeal.Mix
-- ==== Proof.Mix.Arr.lean ====
module

public import proofs.«01_k».proof.Proof.Gen.KernelMixIdeal.Frame
public import proofs.«01_k».proof.Proof.Mat

@[expose] public section

/-! The calls around the merging gates, each read over its whole array. -/

set_option maxRecDepth 16384

noncomputable section

open Idealize.ShloMosaic Idealize.ShloMosaic.TcCoe Idealize.SL.Sem
open Idealize.ShloMosaic.Pipeline (Dat)

namespace Cert.Mix

/-- The logistic function. -/
def sg (x : EReal) : EReal := Ideal.div 1 (1 + Ideal.exp (0 - x))
/-- Two branches merged by the gates of their logits. -/
def merge (la lb ya yb : EReal) : EReal := sg la * ya + sg lb * yb
/-- The gradient of a branch. -/
def dbranch (l du : EReal) : EReal := du * sg l
/-- The gradient of a branch's logit. -/
def dlogit (l y du : EReal) : EReal := du * y * sg l * (1 - sg l)

end Cert.Mix

namespace Cert.KernelMixIdeal.Mix

open Cert.KernelMixIdeal Cert.KernelMixIdeal.Gen Cert.Mat Cert.Mix

theorem out0_at (x0 : Vec Ideal S1024x1024 .bf16) (x1 : Vec Ideal S1024x1024 .bf16) (r : Fin 1024) (d : Fin 1024) :
    out0_2 x0 x1 (ix2 r d) = ∑ k : Fin 1024, (x0 (ix2 r k) * x1 (ix2 k d) : EReal) := by
  frame_out; open_payloads; pointwise

theorem out1_at (x0 : Vec Ideal S1024x1024 .bf16) (x1 : Vec Ideal S1024x1024 .bf16) (r : Fin 1024) (d : Fin 1024) :
    out1_2 x0 x1 (ix2 r d) = ∑ k : Fin 1024, (x0 (ix2 r k) * x1 (ix2 k d) : EReal) := by
  frame_out; open_payloads; pointwise

theorem out3_at (x0 : Vec Ideal S1024x2048 .bf16) (x1 : Vec Ideal S2048x1024 .bf16) (r : Fin 1024) (d : Fin 1024) :
    out3_2 x0 x1 (ix2 r d) = ∑ k : Fin 2048, (x0 (ix2 r k) * x1 (ix2 k d) : EReal) := by
  frame_out; open_payloads; pointwise

theorem out4_at (x0 : Vec Ideal S1024x2048 .bf16) (x1 : Vec Ideal S1024x2048 .bf16) (r : Fin 1024) (d : Fin 1024) :
    out4_2 x0 x1 (ix2 r d) = ∑ k : Fin 2048, (x0 (ix2 r k) * x1 (ix2 d k) : EReal) := by
  frame_out; open_payloads; pointwise

theorem out5_at (x0 : Vec Ideal S1024x2048 .bf16) (x1 : Vec Ideal S2048x1024 .bf16) (r : Fin 1024) (d : Fin 1024) :
    out5_2 x0 x1 (ix2 r d) = ∑ k : Fin 2048, (x0 (ix2 r k) * x1 (ix2 k d) : EReal) := by
  frame_out; open_payloads; pointwise

theorem out7_at (x0 : Vec Ideal S1024x2048 .bf16) (x1 : Vec Ideal S1024x2048 .bf16) (r : Fin 1024) (d : Fin 1024) :
    out7_2 x0 x1 (ix2 r d) = ∑ k : Fin 2048, (x0 (ix2 r k) * x1 (ix2 d k) : EReal) := by
  frame_out; open_payloads; pointwise

theorem out8_at (x0 : Vec Ideal S1024x2048 .bf16) (x1 : Vec Ideal S2048x1024 .bf16) (r : Fin 1024) (d : Fin 1024) :
    out8_2 x0 x1 (ix2 r d) = ∑ k : Fin 2048, (x0 (ix2 r k) * x1 (ix2 k d) : EReal) := by
  frame_out; open_payloads; pointwise

theorem out9_at (x0 : Vec Ideal S1024x2048 .bf16) (x1 : Vec Ideal S1024x2048 .bf16) (r : Fin 1024) (d : Fin 1024) :
    out9_2 x0 x1 (ix2 r d) = ∑ k : Fin 2048, (x0 (ix2 r k) * x1 (ix2 d k) : EReal) := by
  frame_out; open_payloads; pointwise

theorem out10_at (x0 : Vec Ideal S1024x2048 .bf16) (x1 : Vec Ideal S2048x1024 .bf16) (r : Fin 1024) (d : Fin 1024) :
    out10_2 x0 x1 (ix2 r d) = ∑ k : Fin 2048, (x0 (ix2 r k) * x1 (ix2 k d) : EReal) := by
  frame_out; open_payloads; pointwise

theorem out2_at (x0 x1 x2 x3 : Vec Ideal S256x512 .f32) (r : Fin 256) (d : Fin 512) :
    out2_4 x0 x1 x2 x3 (ix2 r d) = merge (x2 (ix2 r d)) (x3 (ix2 r d)) (x0 (ix2 r d)) (x1 (ix2 r d)) := by
  frame_out; open_payloads; pointwise [merge, sg]

section
variable (x0 x1 x2 x3 x4 : Vec Ideal S256x512 .f32) (r : Fin 256) (d : Fin 512)

theorem out6_5_at : out6_5 x0 x1 x2 x3 x4 (ix2 r d) = dbranch (x3 (ix2 r d)) (x0 (ix2 r d)) := by
  frame_out; open_payloads; pointwise [dbranch, sg]
theorem out6_6_at : out6_6 x0 x1 x2 x3 x4 (ix2 r d) = dbranch (x4 (ix2 r d)) (x0 (ix2 r d)) := by
  frame_out; open_payloads; pointwise [dbranch, sg]
theorem out6_7_at : out6_7 x0 x1 x2 x3 x4 (ix2 r d) = dlogit (x3 (ix2 r d)) (x1 (ix2 r d)) (x0 (ix2 r d)) := by
  frame_out; open_payloads; pointwise [dlogit, sg]
theorem out6_8_at : out6_8 x0 x1 x2 x3 x4 (ix2 r d) = dlogit (x4 (ix2 r d)) (x2 (ix2 r d)) (x0 (ix2 r d)) := by
  frame_out; open_payloads; pointwise [dlogit, sg]

end

theorem idx2 : ∀ t : Fin grid2.N, (win2_0.index t 0 = t / 4 ∧ win2_0.index t 1 = t % 4) ∧ (win2_1.index t 0 = t / 4 ∧ win2_1.index t 1 = t % 4)
    ∧ (win2_2.index t 0 = t / 4 ∧ win2_2.index t 1 = 10 + t % 4) ∧ (win2_3.index t 0 = t / 4 ∧ win2_3.index t 1 = 14 + t % 4)
    ∧ (win2_4.index t 0 = t / 4 ∧ win2_4.index t 1 = t % 4) := by decide +kernel
theorem idx6 : ∀ t : Fin grid6.N, (win6_0.index t 0 = t / 4 ∧ win6_0.index t 1 = t % 4) ∧ (win6_1.index t 0 = t / 4 ∧ win6_1.index t 1 = t % 4)
    ∧ (win6_2.index t 0 = t / 4 ∧ win6_2.index t 1 = t % 4) ∧ (win6_3.index t 0 = t / 4 ∧ win6_3.index t 1 = 10 + t % 4)
    ∧ (win6_4.index t 0 = t / 4 ∧ win6_4.index t 1 = 14 + t % 4) ∧ (win6_5.index t 0 = t / 4 ∧ win6_5.index t 1 = t % 4)
    ∧ (win6_6.index t 0 = t / 4 ∧ win6_6.index t 1 = t % 4) ∧ (win6_7.index t 0 = t / 4 ∧ win6_7.index t 1 = t % 4)
    ∧ (win6_8.index t 0 = t / 4 ∧ win6_8.index t 1 = t % 4) := by decide +kernel

theorem idx0 : ∀ t : Fin grid0.N, (win0_0.index t 0 = t / 2 ∧ win0_0.index t 1 = 0) ∧ (win0_1.index t 0 = 0 ∧ win0_1.index t 1 = t % 2)
    ∧ (win0_2.index t 0 = t / 2 ∧ win0_2.index t 1 = t % 2) := by decide +kernel
theorem idx1 : ∀ t : Fin grid1.N, (win1_0.index t 0 = t / 2 ∧ win1_0.index t 1 = 0) ∧ (win1_1.index t 0 = 0 ∧ win1_1.index t 1 = t % 2)
    ∧ (win1_2.index t 0 = t / 2 ∧ win1_2.index t 1 = t % 2) := by decide +kernel
theorem idx3 : ∀ t : Fin grid3.N, (win3_0.index t 0 = t / 2 ∧ win3_0.index t 1 = 0) ∧ (win3_1.index t 0 = 0 ∧ win3_1.index t 1 = t % 2)
    ∧ (win3_2.index t 0 = t / 2 ∧ win3_2.index t 1 = t % 2) := by decide +kernel
theorem idx4 : ∀ t : Fin grid4.N, (win4_0.index t 0 = t / 2 ∧ win4_0.index t 1 = 0) ∧ (win4_1.index t 0 = t % 2 ∧ win4_1.index t 1 = 0)
    ∧ (win4_2.index t 0 = t / 2 ∧ win4_2.index t 1 = t % 2) := by decide +kernel
theorem idx5 : ∀ t : Fin grid5.N, (win5_0.index t 0 = t / 2 ∧ win5_0.index t 1 = 0) ∧ (win5_1.index t 0 = 0 ∧ win5_1.index t 1 = t % 2)
    ∧ (win5_2.index t 0 = t / 2 ∧ win5_2.index t 1 = t % 2) := by decide +kernel
theorem idx7 : ∀ t : Fin grid7.N, (win7_0.index t 0 = t / 1 ∧ win7_0.index t 1 = 0) ∧ (win7_1.index t 0 = t % 1 ∧ win7_1.index t 1 = 0)
    ∧ (win7_2.index t 0 = t / 1 ∧ win7_2.index t 1 = t % 1) := by decide +kernel
theorem idx8 : ∀ t : Fin grid8.N, (win8_0.index t 0 = t / 2 ∧ win8_0.index t 1 = 0) ∧ (win8_1.index t 0 = 0 ∧ win8_1.index t 1 = t % 2)
    ∧ (win8_2.index t 0 = t / 2 ∧ win8_2.index t 1 = t % 2) := by decide +kernel
theorem idx9 : ∀ t : Fin grid9.N, (win9_0.index t 0 = t / 1 ∧ win9_0.index t 1 = 0) ∧ (win9_1.index t 0 = t % 1 ∧ win9_1.index t 1 = 0)
    ∧ (win9_2.index t 0 = t / 1 ∧ win9_2.index t 1 = t % 1) := by decide +kernel
theorem idx10 : ∀ t : Fin grid10.N, (win10_0.index t 0 = t / 2 ∧ win10_0.index t 1 = 0) ∧ (win10_1.index t 0 = 0 ∧ win10_1.index t 1 = t % 2)
    ∧ (win10_2.index t 0 = t / 2 ∧ win10_2.index t 1 = t % 2) := by decide +kernel

variable (V : (c : Dev nD) → (b : Ref sig .tc) → Buf (Elt Ideal) ((c : Thread nD τ).loc b)) (c : Dev nD)
variable {A B : ℕ → ℕ → EReal}

theorem arr0 (hA : ∀ (a : Fin 2048) (b : Fin 1024), (V c main_arg0 : Vec Ideal S2048x1024 .bf16) (ix2 a b) = A a b)
    (hB : ∀ (a : Fin 1024) (b : Fin 2048), (V c main_arg2 : Vec Ideal S1024x2048 .bf16) (ix2 a b) = B a b) :
    (dat0 V c).arrAt 2 cfg0.N = (fun i => mm 1024 A B (i 0) (i 1) : Vec Ideal S2048x2048 .f32) := by
  refine (dat0 V c).arrAt_eq_of_covers 2 _ (by decide +kernel) fun t hf y => ?_
  have ht : (t : ℕ) < 4 := t.isLt
  have h0 : (y 0 : ℕ) < 1024 := (y 0).isLt
  have h1 : (y 1 : ℕ) < 1024 := (y 1).isLt
  blk_simp
  rw [after0_2]
  refine (congrArg _ (eta2 (m := 1024) (n := 1024) y)).trans ((out0_at _ _ _ _).trans ?_)
  simp only [mm, idx0 t]
  refine Finset.sum_congr rfl fun k _ => congrArg₂ _ ?_ ?_
  · refine Eq.trans ?_ (hA ⟨t / 2 * 1024 + y 0, by omega⟩ k)
    blk_ext [iblk0, idx0 t]
  · refine Eq.trans ?_ (hB k ⟨t % 2 * 1024 + y 1, by omega⟩)
    blk_ext [iblk0, idx0 t]

theorem arr1 (hA : ∀ (a : Fin 2048) (b : Fin 1024), (V c main_arg1 : Vec Ideal S2048x1024 .bf16) (ix2 a b) = A a b)
    (hB : ∀ (a : Fin 1024) (b : Fin 2048), (V c main_arg3 : Vec Ideal S1024x2048 .bf16) (ix2 a b) = B a b) :
    (dat1 V c).arrAt 2 cfg1.N = (fun i => mm 1024 A B (i 0) (i 1) : Vec Ideal S2048x2048 .f32) := by
  refine (dat1 V c).arrAt_eq_of_covers 2 _ (by decide +kernel) fun t hf y => ?_
  have ht : (t : ℕ) < 4 := t.isLt
  have h0 : (y 0 : ℕ) < 1024 := (y 0).isLt
  have h1 : (y 1 : ℕ) < 1024 := (y 1).isLt
  blk_simp
  rw [after1_2]
  refine (congrArg _ (eta2 (m := 1024) (n := 1024) y)).trans ((out1_at _ _ _ _).trans ?_)
  simp only [mm, idx1 t]
  refine Finset.sum_congr rfl fun k _ => congrArg₂ _ ?_ ?_
  · refine Eq.trans ?_ (hA ⟨t / 2 * 1024 + y 0, by omega⟩ k)
    blk_ext [iblk1, idx1 t]
  · refine Eq.trans ?_ (hB k ⟨t % 2 * 1024 + y 1, by omega⟩)
    blk_ext [iblk1, idx1 t]

theorem arr3 (hA : ∀ (a : Fin 2048) (b : Fin 2048), (V c main_v2 : Vec Ideal S2048x2048 .bf16) (ix2 a b) = A a b)
    (hB : ∀ (a : Fin 2048) (b : Fin 2048), (V c main_arg4 : Vec Ideal S2048x2048 .bf16) (ix2 a b) = B a b) :
    (dat3 V c).arrAt 2 cfg3.N = (fun i => mm 2048 A B (i 0) (i 1) : Vec Ideal S2048x2048 .f32) := by
  refine (dat3 V c).arrAt_eq_of_covers 2 _ (by decide +kernel) fun t hf y => ?_
  have ht : (t : ℕ) < 4 := t.isLt
  have h0 : (y 0 : ℕ) < 1024 := (y 0).isLt
  have h1 : (y 1 : ℕ) < 1024 := (y 1).isLt
  blk_simp
  rw [after3_2]
  refine (congrArg _ (eta2 (m := 1024) (n := 1024) y)).trans ((out3_at _ _ _ _).trans ?_)
  simp only [mm, idx3 t]
  refine Finset.sum_congr rfl fun k _ => congrArg₂ _ ?_ ?_
  · refine Eq.trans ?_ (hA ⟨t / 2 * 1024 + y 0, by omega⟩ k)
    blk_ext [iblk3, idx3 t]
  · refine Eq.trans ?_ (hB k ⟨t % 2 * 1024 + y 1, by omega⟩)
    blk_ext [iblk3, idx3 t]

theorem arr4 (hA : ∀ (a : Fin 2048) (b : Fin 2048), (V c main_arg6 : Vec Ideal S2048x2048 .bf16) (ix2 a b) = A a b)
    (hB : ∀ (a : Fin 2048) (b : Fin 2048), (V c main_arg4 : Vec Ideal S2048x2048 .bf16) (ix2 a b) = B a b) :
    (dat4 V c).arrAt 2 cfg4.N = (fun i => mm 2048 A (tr B) (i 0) (i 1) : Vec Ideal S2048x2048 .f32) := by
  refine (dat4 V c).arrAt_eq_of_covers 2 _ (by decide +kernel) fun t hf y => ?_
  have ht : (t : ℕ) < 4 := t.isLt
  have h0 : (y 0 : ℕ) < 1024 := (y 0).isLt
  have h1 : (y 1 : ℕ) < 1024 := (y 1).isLt
  blk_simp
  rw [after4_2]
  refine (congrArg _ (eta2 (m := 1024) (n := 1024) y)).trans ((out4_at _ _ _ _).trans ?_)
  simp only [mm, tr, idx4 t]
  refine Finset.sum_congr rfl fun k _ => congrArg₂ _ ?_ ?_
  · refine Eq.trans ?_ (hA ⟨t / 2 * 1024 + y 0, by omega⟩ k)
    blk_ext [iblk4, idx4 t]
  · refine Eq.trans ?_ (hB ⟨t % 2 * 1024 + y 1, by omega⟩ k)
    blk_ext [iblk4, idx4 t]

theorem arr5 (hA : ∀ (a : Fin 2048) (b : Fin 2048), (V c main_v5 : Vec Ideal S2048x2048 .bf16) (ix2 a b) = A a b)
    (hB : ∀ (a : Fin 2048) (b : Fin 2048), (V c main_arg6 : Vec Ideal S2048x2048 .bf16) (ix2 a b) = B a b) :
    (dat5 V c).arrAt 2 cfg5.N = (fun i => mm 2048 A B (i 0) (i 1) : Vec Ideal S2048x2048 .bf16) := by
  refine (dat5 V c).arrAt_eq_of_covers 2 _ (by decide +kernel) fun t hf y => ?_
  have ht : (t : ℕ) < 4 := t.isLt
  have h0 : (y 0 : ℕ) < 1024 := (y 0).isLt
  have h1 : (y 1 : ℕ) < 1024 := (y 1).isLt
  blk_simp
  rw [after5_2]
  refine (congrArg _ (eta2 (m := 1024) (n := 1024) y)).trans ((out5_at _ _ _ _).trans ?_)
  simp only [mm, idx5 t]
  refine Finset.sum_congr rfl fun k _ => congrArg₂ _ ?_ ?_
  · refine Eq.trans ?_ (hA ⟨t / 2 * 1024 + y 0, by omega⟩ k)
    blk_ext [iblk5, idx5 t]
  · refine Eq.trans ?_ (hB k ⟨t % 2 * 1024 + y 1, by omega⟩)
    blk_ext [iblk5, idx5 t]

theorem arr7 (hA : ∀ (a : Fin 2048) (b : Fin 2048), (V c main_v7_1 : Vec Ideal S2048x2048 .bf16) (ix2 a b) = A a b)
    (hB : ∀ (a : Fin 1024) (b : Fin 2048), (V c main_arg3 : Vec Ideal S1024x2048 .bf16) (ix2 a b) = B a b) :
    (dat7 V c).arrAt 2 cfg7.N = (fun i => mm 2048 A (tr B) (i 0) (i 1) : Vec Ideal S2048x1024 .f32) := by
  refine (dat7 V c).arrAt_eq_of_covers 2 _ (by decide +kernel) fun t hf y => ?_
  have ht : (t : ℕ) < 2 := t.isLt
  have h0 : (y 0 : ℕ) < 1024 := (y 0).isLt
  have h1 : (y 1 : ℕ) < 1024 := (y 1).isLt
  blk_simp
  rw [after7_2]
  refine (congrArg _ (eta2 (m := 1024) (n := 1024) y)).trans ((out7_at _ _ _ _).trans ?_)
  simp only [mm, tr, idx7 t]
  refine Finset.sum_congr rfl fun k _ => congrArg₂ _ ?_ ?_
  · refine Eq.trans ?_ (hA ⟨t / 1 * 1024 + y 0, by omega⟩ k)
    blk_ext [iblk7, idx7 t]
  · refine Eq.trans ?_ (hB ⟨t % 1 * 1024 + y 1, by omega⟩ k)
    blk_ext [iblk7, idx7 t]

theorem arr8 (hA : ∀ (a : Fin 1024) (b : Fin 2048), (V c main_v9 : Vec Ideal S1024x2048 .bf16) (ix2 a b) = A a b)
    (hB : ∀ (a : Fin 2048) (b : Fin 2048), (V c main_v7_1 : Vec Ideal S2048x2048 .bf16) (ix2 a b) = B a b) :
    (dat8 V c).arrAt 2 cfg8.N = (fun i => mm 2048 A B (i 0) (i 1) : Vec Ideal S1024x2048 .bf16) := by
  refine (dat8 V c).arrAt_eq_of_covers 2 _ (by decide +kernel) fun t hf y => ?_
  have ht : (t : ℕ) < 2 := t.isLt
  have h0 : (y 0 : ℕ) < 1024 := (y 0).isLt
  have h1 : (y 1 : ℕ) < 1024 := (y 1).isLt
  blk_simp
  rw [after8_2]
  refine (congrArg _ (eta2 (m := 1024) (n := 1024) y)).trans ((out8_at _ _ _ _).trans ?_)
  simp only [mm, idx8 t]
  refine Finset.sum_congr rfl fun k _ => congrArg₂ _ ?_ ?_
  · refine Eq.trans ?_ (hA ⟨t / 2 * 1024 + y 0, by omega⟩ k)
    blk_ext [iblk8, idx8 t]
  · refine Eq.trans ?_ (hB k ⟨t % 2 * 1024 + y 1, by omega⟩)
    blk_ext [iblk8, idx8 t]

theorem arr9 (hA : ∀ (a : Fin 2048) (b : Fin 2048), (V c main_v7_0 : Vec Ideal S2048x2048 .bf16) (ix2 a b) = A a b)
    (hB : ∀ (a : Fin 1024) (b : Fin 2048), (V c main_arg2 : Vec Ideal S1024x2048 .bf16) (ix2 a b) = B a b) :
    (dat9 V c).arrAt 2 cfg9.N = (fun i => mm 2048 A (tr B) (i 0) (i 1) : Vec Ideal S2048x1024 .f32) := by
  refine (dat9 V c).arrAt_eq_of_covers 2 _ (by decide +kernel) fun t hf y => ?_
  have ht : (t : ℕ) < 2 := t.isLt
  have h0 : (y 0 : ℕ) < 1024 := (y 0).isLt
  have h1 : (y 1 : ℕ) < 1024 := (y 1).isLt
  blk_simp
  rw [after9_2]
  refine (congrArg _ (eta2 (m := 1024) (n := 1024) y)).trans ((out9_at _ _ _ _).trans ?_)
  simp only [mm, tr, idx9 t]
  refine Finset.sum_congr rfl fun k _ => congrArg₂ _ ?_ ?_
  · refine Eq.trans ?_ (hA ⟨t / 1 * 1024 + y 0, by omega⟩ k)
    blk_ext [iblk9, idx9 t]
  · refine Eq.trans ?_ (hB ⟨t % 1 * 1024 + y 1, by omega⟩ k)
    blk_ext [iblk9, idx9 t]

theorem arr10 (hA : ∀ (a : Fin 1024) (b : Fin 2048), (V c main_v12 : Vec Ideal S1024x2048 .bf16) (ix2 a b) = A a b)
    (hB : ∀ (a : Fin 2048) (b : Fin 2048), (V c main_v7_0 : Vec Ideal S2048x2048 .bf16) (ix2 a b) = B a b) :
    (dat10 V c).arrAt 2 cfg10.N = (fun i => mm 2048 A B (i 0) (i 1) : Vec Ideal S1024x2048 .bf16) := by
  refine (dat10 V c).arrAt_eq_of_covers 2 _ (by decide +kernel) fun t hf y => ?_
  have ht : (t : ℕ) < 2 := t.isLt
  have h0 : (y 0 : ℕ) < 1024 := (y 0).isLt
  have h1 : (y 1 : ℕ) < 1024 := (y 1).isLt
  blk_simp
  rw [after10_2]
  refine (congrArg _ (eta2 (m := 1024) (n := 1024) y)).trans ((out10_at _ _ _ _).trans ?_)
  simp only [mm, idx10 t]
  refine Finset.sum_congr rfl fun k _ => congrArg₂ _ ?_ ?_
  · refine Eq.trans ?_ (hA ⟨t / 2 * 1024 + y 0, by omega⟩ k)
    blk_ext [iblk10, idx10 t]
  · refine Eq.trans ?_ (hB k ⟨t % 2 * 1024 + y 1, by omega⟩)
    blk_ext [iblk10, idx10 t]

section
variable {P YA YB DU : ℕ → ℕ → EReal}
variable (hP : ∀ (a : Fin 2048) (b : Fin 9216), (V c main_arg5 : Vec Ideal S2048x9216 .f32) (ix2 a b) = P a b)
variable (hYA : ∀ (a b : Fin 2048), (V c main_v0 : Vec Ideal S2048x2048 .f32) (ix2 a b) = YA a b)
variable (hYB : ∀ (a b : Fin 2048), (V c main_v1 : Vec Ideal S2048x2048 .f32) (ix2 a b) = YB a b)
variable (hDU : ∀ (a b : Fin 2048), (V c main_v4 : Vec Ideal S2048x2048 .f32) (ix2 a b) = DU a b)

include hP hYA hYB in
theorem arr2 : (dat2 V c).arrAt 4 cfg2.N
    = (fun i => merge (P (i 0) (5120 + i 1)) (P (i 0) (7168 + i 1)) (YA (i 0) (i 1)) (YB (i 0) (i 1)) : Vec Ideal S2048x2048 .bf16) := by
  refine (dat2 V c).arrAt_eq_of_covers 4 _ (by decide +kernel) fun t hf y => ?_
  have ht : (t : ℕ) < 32 := t.isLt
  have h0 : (y 0 : ℕ) < 256 := (y 0).isLt
  have h1 : (y 1 : ℕ) < 512 := (y 1).isLt
  blk_simp
  rw [after2_4]
  refine (congrArg _ (eta2 (m := 256) (n := 512) y)).trans ((out2_at _ _ _ _ _ _).trans ?_)
  simp only [idx2 t]
  congr 1
  · refine Eq.trans ?_ ((hP ⟨t / 4 * 256 + y 0, by omega⟩ ⟨(10 + t % 4) * 512 + y 1, by omega⟩).trans (congrArg (P _) (by simp only; omega)))
    blk_ext [iblk2, idx2 t]
  · refine Eq.trans ?_ ((hP ⟨t / 4 * 256 + y 0, by omega⟩ ⟨(14 + t % 4) * 512 + y 1, by omega⟩).trans (congrArg (P _) (by simp only; omega)))
    blk_ext [iblk2, idx2 t]
  · refine Eq.trans ?_ (hYA ⟨t / 4 * 256 + y 0, by omega⟩ ⟨t % 4 * 512 + y 1, by omega⟩)
    blk_ext [iblk2, idx2 t]
  · refine Eq.trans ?_ (hYB ⟨t / 4 * 256 + y 0, by omega⟩ ⟨t % 4 * 512 + y 1, by omega⟩)
    blk_ext [iblk2, idx2 t]

include hP hDU in
theorem arr6_5 : (dat6 V c).arrAt 5 cfg6.N = (fun i => dbranch (P (i 0) (5120 + i 1)) (DU (i 0) (i 1)) : Vec Ideal S2048x2048 .bf16) := by
  refine (dat6 V c).arrAt_eq_of_covers 5 _ (by decide +kernel) fun t hf y => ?_
  have ht : (t : ℕ) < 32 := t.isLt
  have h0 : (y 0 : ℕ) < 256 := (y 0).isLt
  have h1 : (y 1 : ℕ) < 512 := (y 1).isLt
  blk_simp
  rw [after6_5]
  refine (congrArg _ (eta2 (m := 256) (n := 512) y)).trans ((out6_5_at _ _ _ _ _ _ _).trans ?_)
  simp only [idx6 t]
  congr 1
  · refine Eq.trans ?_ ((hP ⟨t / 4 * 256 + y 0, by omega⟩ ⟨(10 + t % 4) * 512 + y 1, by omega⟩).trans (congrArg (P _) (by simp only; omega)))
    blk_ext [iblk6, idx6 t]
  · refine Eq.trans ?_ (hDU ⟨t / 4 * 256 + y 0, by omega⟩ ⟨t % 4 * 512 + y 1, by omega⟩)
    blk_ext [iblk6, idx6 t]

include hP hDU in
theorem arr6_6 : (dat6 V c).arrAt 6 cfg6.N = (fun i => dbranch (P (i 0) (7168 + i 1)) (DU (i 0) (i 1)) : Vec Ideal S2048x2048 .bf16) := by
  refine (dat6 V c).arrAt_eq_of_covers 6 _ (by decide +kernel) fun t hf y => ?_
  have ht : (t : ℕ) < 32 := t.isLt
  have h0 : (y 0 : ℕ) < 256 := (y 0).isLt
  have h1 : (y 1 : ℕ) < 512 := (y 1).isLt
  blk_simp
  rw [after6_6]
  refine (congrArg _ (eta2 (m := 256) (n := 512) y)).trans ((out6_6_at _ _ _ _ _ _ _).trans ?_)
  simp only [idx6 t]
  congr 1
  · refine Eq.trans ?_ ((hP ⟨t / 4 * 256 + y 0, by omega⟩ ⟨(14 + t % 4) * 512 + y 1, by omega⟩).trans (congrArg (P _) (by simp only; omega)))
    blk_ext [iblk6, idx6 t]
  · refine Eq.trans ?_ (hDU ⟨t / 4 * 256 + y 0, by omega⟩ ⟨t % 4 * 512 + y 1, by omega⟩)
    blk_ext [iblk6, idx6 t]

include hP hYA hDU in
theorem arr6_7 : (dat6 V c).arrAt 7 cfg6.N = (fun i => dlogit (P (i 0) (5120 + i 1)) (YA (i 0) (i 1)) (DU (i 0) (i 1)) : Vec Ideal S2048x2048 .bf16) := by
  refine (dat6 V c).arrAt_eq_of_covers 7 _ (by decide +kernel) fun t hf y => ?_
  have ht : (t : ℕ) < 32 := t.isLt
  have h0 : (y 0 : ℕ) < 256 := (y 0).isLt
  have h1 : (y 1 : ℕ) < 512 := (y 1).isLt
  blk_simp
  rw [after6_7]
  refine (congrArg _ (eta2 (m := 256) (n := 512) y)).trans ((out6_7_at _ _ _ _ _ _ _).trans ?_)
  simp only [idx6 t]
  congr 1
  · refine Eq.trans ?_ ((hP ⟨t / 4 * 256 + y 0, by omega⟩ ⟨(10 + t % 4) * 512 + y 1, by omega⟩).trans (congrArg (P _) (by simp only; omega)))
    blk_ext [iblk6, idx6 t]
  · refine Eq.trans ?_ (hYA ⟨t / 4 * 256 + y 0, by omega⟩ ⟨t % 4 * 512 + y 1, by omega⟩)
    blk_ext [iblk6, idx6 t]
  · refine Eq.trans ?_ (hDU ⟨t / 4 * 256 + y 0, by omega⟩ ⟨t % 4 * 512 + y 1, by omega⟩)
    blk_ext [iblk6, idx6 t]

include hP hYB hDU in
theorem arr6_8 : (dat6 V c).arrAt 8 cfg6.N = (fun i => dlogit (P (i 0) (7168 + i 1)) (YB (i 0) (i 1)) (DU (i 0) (i 1)) : Vec Ideal S2048x2048 .bf16) := by
  refine (dat6 V c).arrAt_eq_of_covers 8 _ (by decide +kernel) fun t hf y => ?_
  have ht : (t : ℕ) < 32 := t.isLt
  have h0 : (y 0 : ℕ) < 256 := (y 0).isLt
  have h1 : (y 1 : ℕ) < 512 := (y 1).isLt
  blk_simp
  rw [after6_8]
  refine (congrArg _ (eta2 (m := 256) (n := 512) y)).trans ((out6_8_at _ _ _ _ _ _ _).trans ?_)
  simp only [idx6 t]
  congr 1
  · refine Eq.trans ?_ ((hP ⟨t / 4 * 256 + y 0, by omega⟩ ⟨(14 + t % 4) * 512 + y 1, by omega⟩).trans (congrArg (P _) (by simp only; omega)))
    blk_ext [iblk6, idx6 t]
  · refine Eq.trans ?_ (hYB ⟨t / 4 * 256 + y 0, by omega⟩ ⟨t % 4 * 512 + y 1, by omega⟩)
    blk_ext [iblk6, idx6 t]
  · refine Eq.trans ?_ (hDU ⟨t / 4 * 256 + y 0, by omega⟩ ⟨t % 4 * 512 + y 1, by omega⟩)
    blk_ext [iblk6, idx6 t]

end

end Cert.KernelMixIdeal.Mix
-- ==== Proof.Mix.Final.lean ====
module

public import proofs.«01_k».proof.Defs
public import proofs.«01_k».proof.Proof.Gen.ReferenceMixIdeal.Run
public import proofs.«01_k».proof.Proof.Mix.Run
public import proofs.«01_k».proof.Proof.Mix.Arr

@[expose] public section

/-! The merging gates' kernel and its reference leave the same product and the same gradients. -/

set_option maxRecDepth 16384

noncomputable section

namespace Cert.Mix

open Cert.Mat

/-- A branch through its output projection. -/
def yF (O W : ℕ → ℕ → EReal) : ℕ → ℕ → EReal := mm 1024 O W
/-- The two branches merged. -/
def uF (O Gd Wa Wb P : ℕ → ℕ → EReal) (i j : ℕ) : EReal := merge (P i (5120 + j)) (P i (7168 + j)) (yF O Wa i j) (yF Gd Wb i j)
/-- The merged branches' cotangent. -/
def duF (Wo G : ℕ → ℕ → EReal) : ℕ → ℕ → EReal := mm 2048 G (tr Wo)
/-- The gradient of the branch whose logits begin at column `n`. -/
def dyF (P Wo G : ℕ → ℕ → EReal) (n i j : ℕ) : EReal := dbranch (P i (n + j)) (duF Wo G i j)
/-- The gradient of the logits that begin at column `n`. -/
def dlF (O W P Wo G : ℕ → ℕ → EReal) (n i j : ℕ) : EReal := dlogit (P i (n + j)) (yF O W i j) (duF Wo G i j)

end Cert.Mix

namespace Cert.KernelMixIdeal.Mix

open Idealize.ShloMosaic Idealize.ShloMosaic.TcCoe Idealize.SL.Sem
open Cert.KernelMixIdeal Cert.KernelMixIdeal.Gen Cert.Mix Cert.Mat

variable (m : (ℓ : Loc nD τ sig) → Buf (Elt Ideal) ℓ) (ρ : Dev nD → PrngReg) (c : Dev nD)
variable {O Gd Wa Wb Wo P G : ℕ → ℕ → EReal}
variable (h0 : ∀ (a : Fin 2048) (b : Fin 1024), (m ((c.tc : Thread nD τ).loc main_arg0) : FVec Ideal S2048x1024 .bf16) (ix2 a b) = O a b)
variable (h1 : ∀ (a : Fin 2048) (b : Fin 1024), (m ((c.tc : Thread nD τ).loc main_arg1) : FVec Ideal S2048x1024 .bf16) (ix2 a b) = Gd a b)
variable (h2 : ∀ (a : Fin 1024) (b : Fin 2048), (m ((c.tc : Thread nD τ).loc main_arg2) : FVec Ideal S1024x2048 .bf16) (ix2 a b) = Wa a b)
variable (h3 : ∀ (a : Fin 1024) (b : Fin 2048), (m ((c.tc : Thread nD τ).loc main_arg3) : FVec Ideal S1024x2048 .bf16) (ix2 a b) = Wb a b)
variable (h4 : ∀ (a : Fin 2048) (b : Fin 2048), (m ((c.tc : Thread nD τ).loc main_arg4) : FVec Ideal S2048x2048 .bf16) (ix2 a b) = Wo a b)
variable (h5 : ∀ (a : Fin 2048) (b : Fin 9216), (m ((c.tc : Thread nD τ).loc main_arg5) : FVec Ideal S2048x9216 .f32) (ix2 a b) = P a b)
variable (h6 : ∀ (a : Fin 2048) (b : Fin 2048), (m ((c.tc : Thread nD τ).loc main_arg6) : FVec Ideal S2048x2048 .bf16) (ix2 a b) = G a b)

include h0 h2 in
theorem v0_eq : (W1 m ρ c main_v0 : FVec Ideal S2048x2048 .f32) = fun i => yF O Wa (i 0) (i 1) :=
  (W1_arr m ρ c 2).trans (arr0 (V0 m ρ) c h0 h2)

include h1 h3 in
theorem v1_eq : (W2 m ρ c main_v1 : FVec Ideal S2048x2048 .f32) = fun i => yF Gd Wb (i 0) (i 1) :=
  (W2_arr m ρ c 2).trans (arr1 (V1 m ρ) c (fun a b => (congrFun (W1_args m ρ c main_arg1 (by decide)) (ix2 a b)).trans (h1 a b)) (fun a b => (congrFun (W1_args m ρ c main_arg3 (by decide)) (ix2 a b)).trans (h3 a b)))

include h0 h1 h2 h3 h5 in
theorem v2_eq : (W3 m ρ c main_v2 : FVec Ideal S2048x2048 .bf16) = fun i => uF O Gd Wa Wb P (i 0) (i 1) :=
  (W3_arr m ρ c 4).trans (arr2 (V2 m ρ) c (fun a b => (congrFun (W2_args m ρ c main_arg5 (by decide)) (ix2 a b)).trans (h5 a b)) (fun a b => congrFun ((W2_of m ρ c main_v0 (by decide)).trans (v0_eq m ρ c h0 h2)) (ix2 a b)) (fun a b => congrFun (v1_eq m ρ c h1 h3) (ix2 a b)))

include h0 h1 h2 h3 h4 h5 in
theorem v3_eq : (W4 m ρ c main_v3 : FVec Ideal S2048x2048 .f32) = fun i => mm 2048 (uF O Gd Wa Wb P) Wo (i 0) (i 1) :=
  (W4_arr m ρ c 2).trans (arr3 (V3 m ρ) c (fun a b => congrFun (v2_eq m ρ c h0 h1 h2 h3 h5) (ix2 a b)) (fun a b => (congrFun (W3_args m ρ c main_arg4 (by decide)) (ix2 a b)).trans (h4 a b)))

include h4 h6 in
theorem v4_eq : (W5 m ρ c main_v4 : FVec Ideal S2048x2048 .f32) = fun i => duF Wo G (i 0) (i 1) :=
  (W5_arr m ρ c 2).trans (arr4 (V4 m ρ) c (fun a b => (congrFun (W4_args m ρ c main_arg6 (by decide)) (ix2 a b)).trans (h6 a b)) (fun a b => (congrFun (W4_args m ρ c main_arg4 (by decide)) (ix2 a b)).trans (h4 a b)))

theorem v5_eq : (W6 m ρ c main_v5 : FVec Ideal S2048x2048 .bf16)
    = transpose S2048x2048 [1, 0] (W5 m ρ c main_v2 : FVec Ideal S2048x2048 .bf16) transposes_S2048x2048_S2048x2048_1_0 := by
  simp only [W6, hostOps5]; after_results_simp <;> rfl

include h0 h1 h2 h3 h5 in
theorem v5_at (a : Fin 2048) (b : Fin 2048) : (W6 m ρ c main_v5 : FVec Ideal S2048x2048 .bf16) (ix2 a b) = tr (uF O Gd Wa Wb P) a b := by
  rw [v5_eq]
  have e (X : FVec Ideal S2048x2048 .bf16) : transpose S2048x2048 [1, 0] X transposes_S2048x2048_S2048x2048_1_0 (ix2 a b) = X (ix2 b a) := by
    pointwise
  exact (e _).trans (congrFun (((W5_of m ρ c main_v2 (by decide)).trans (W4_of m ρ c main_v2 (by decide))).trans (v2_eq m ρ c h0 h1 h2 h3 h5)) (ix2 b a))

theorem v9_eq : (W10 m ρ c main_v9 : FVec Ideal S1024x2048 .bf16)
    = transpose S1024x2048 [1, 0] (W9 m ρ c main_arg1 : FVec Ideal S2048x1024 .bf16) transposes_S2048x1024_S1024x2048_1_0 := by
  simp only [W10, hostOps8]; after_results_simp <;> rfl

include h1 in
theorem v9_at (a : Fin 1024) (b : Fin 2048) : (W10 m ρ c main_v9 : FVec Ideal S1024x2048 .bf16) (ix2 a b) = tr Gd a b := by
  rw [v9_eq]
  have e (X : FVec Ideal S2048x1024 .bf16) : transpose S1024x2048 [1, 0] X transposes_S2048x1024_S1024x2048_1_0 (ix2 a b) = X (ix2 b a) := by
    pointwise
  exact (e _).trans ((congrFun (W9_args m ρ c main_arg1 (by decide)) (ix2 b a)).trans (h1 b a))

theorem v12_eq : (W13 m ρ c main_v12 : FVec Ideal S1024x2048 .bf16)
    = transpose S1024x2048 [1, 0] (W12 m ρ c main_arg0 : FVec Ideal S2048x1024 .bf16) transposes_S2048x1024_S1024x2048_1_0 := by
  simp only [W13, hostOps10]; after_results_simp <;> rfl

include h0 in
theorem v12_at (a : Fin 1024) (b : Fin 2048) : (W13 m ρ c main_v12 : FVec Ideal S1024x2048 .bf16) (ix2 a b) = tr O a b := by
  rw [v12_eq]
  have e (X : FVec Ideal S2048x1024 .bf16) : transpose S1024x2048 [1, 0] X transposes_S2048x1024_S1024x2048_1_0 (ix2 a b) = X (ix2 b a) := by
    pointwise
  exact (e _).trans ((congrFun (W12_args m ρ c main_arg0 (by decide)) (ix2 b a)).trans (h0 b a))

include h0 h1 h2 h3 h5 h6 in
theorem v6_eq : (W7 m ρ c main_v6 : FVec Ideal S2048x2048 .bf16) = fun i => mm 2048 (tr (uF O Gd Wa Wb P)) G (i 0) (i 1) :=
  (W7_arr m ρ c 2).trans (arr5 (V6 m ρ) c (v5_at m ρ c h0 h1 h2 h3 h5) (fun a b => (congrFun (W6_args m ρ c main_arg6 (by decide)) (ix2 a b)).trans (h6 a b)))

include h4 h5 h6 in
theorem v70_eq : (W8 m ρ c main_v7_0 : FVec Ideal S2048x2048 .bf16) = fun i => dyF P Wo G 5120 (i 0) (i 1) :=
  (W8_arr m ρ c 5).trans (arr6_5 (V7 m ρ) c (fun a b => (congrFun (W7_args m ρ c main_arg5 (by decide)) (ix2 a b)).trans (h5 a b)) (fun a b => congrFun (((W7_of m ρ c main_v4 (by decide)).trans (W6_of m ρ c main_v4 (by decide))).trans (v4_eq m ρ c h4 h6)) (ix2 a b)))

include h4 h5 h6 in
theorem v71_eq : (W8 m ρ c main_v7_1 : FVec Ideal S2048x2048 .bf16) = fun i => dyF P Wo G 7168 (i 0) (i 1) :=
  (W8_arr m ρ c 6).trans (arr6_6 (V7 m ρ) c (fun a b => (congrFun (W7_args m ρ c main_arg5 (by decide)) (ix2 a b)).trans (h5 a b)) (fun a b => congrFun (((W7_of m ρ c main_v4 (by decide)).trans (W6_of m ρ c main_v4 (by decide))).trans (v4_eq m ρ c h4 h6)) (ix2 a b)))

include h0 h2 h4 h5 h6 in
theorem v72_eq : (W8 m ρ c main_v7_2 : FVec Ideal S2048x2048 .bf16) = fun i => dlF O Wa P Wo G 5120 (i 0) (i 1) :=
  (W8_arr m ρ c 7).trans (arr6_7 (V7 m ρ) c (fun a b => (congrFun (W7_args m ρ c main_arg5 (by decide)) (ix2 a b)).trans (h5 a b)) (fun a b => congrFun (((W7_of m ρ c main_v0 (by decide)).trans ((W6_of m ρ c main_v0 (by decide)).trans ((W5_of m ρ c main_v0 (by decide)).trans ((W4_of m ρ c main_v0 (by decide)).trans ((W3_of m ρ c main_v0 (by decide)).trans (W2_of m ρ c main_v0 (by decide))))))).trans (v0_eq m ρ c h0 h2)) (ix2 a b)) (fun a b => congrFun (((W7_of m ρ c main_v4 (by decide)).trans (W6_of m ρ c main_v4 (by decide))).trans (v4_eq m ρ c h4 h6)) (ix2 a b)))

include h1 h3 h4 h5 h6 in
theorem v73_eq : (W8 m ρ c main_v7_3 : FVec Ideal S2048x2048 .bf16) = fun i => dlF Gd Wb P Wo G 7168 (i 0) (i 1) :=
  (W8_arr m ρ c 8).trans (arr6_8 (V7 m ρ) c (fun a b => (congrFun (W7_args m ρ c main_arg5 (by decide)) (ix2 a b)).trans (h5 a b)) (fun a b => congrFun (((W7_of m ρ c main_v1 (by decide)).trans ((W6_of m ρ c main_v1 (by decide)).trans ((W5_of m ρ c main_v1 (by decide)).trans ((W4_of m ρ c main_v1 (by decide)).trans (W3_of m ρ c main_v1 (by decide)))))).trans (v1_eq m ρ c h1 h3)) (ix2 a b)) (fun a b => congrFun (((W7_of m ρ c main_v4 (by decide)).trans (W6_of m ρ c main_v4 (by decide))).trans (v4_eq m ρ c h4 h6)) (ix2 a b)))

include h3 h4 h5 h6 in
theorem v8_eq : (W9 m ρ c main_v8 : FVec Ideal S2048x1024 .f32) = fun i => mm 2048 (dyF P Wo G 7168) (tr Wb) (i 0) (i 1) :=
  (W9_arr m ρ c 2).trans (arr7 (V8 m ρ) c (fun a b => congrFun (v71_eq m ρ c h4 h5 h6) (ix2 a b)) (fun a b => (congrFun (W8_args m ρ c main_arg3 (by decide)) (ix2 a b)).trans (h3 a b)))

include h1 h4 h5 h6 in
theorem v10_eq : (W11 m ρ c main_v10 : FVec Ideal S1024x2048 .bf16) = fun i => mm 2048 (tr Gd) (dyF P Wo G 7168) (i 0) (i 1) :=
  (W11_arr m ρ c 2).trans (arr8 (V10 m ρ) c (v9_at m ρ c h1) (fun a b => congrFun (((W10_of m ρ c main_v7_1 (by decide)).trans (W9_of m ρ c main_v7_1 (by decide))).trans (v71_eq m ρ c h4 h5 h6)) (ix2 a b)))

include h2 h4 h5 h6 in
theorem v11_eq : (W12 m ρ c main_v11 : FVec Ideal S2048x1024 .f32) = fun i => mm 2048 (dyF P Wo G 5120) (tr Wa) (i 0) (i 1) :=
  (W12_arr m ρ c 2).trans (arr9 (V11 m ρ) c (fun a b => congrFun (((W11_of m ρ c main_v7_0 (by decide)).trans ((W10_of m ρ c main_v7_0 (by decide)).trans (W9_of m ρ c main_v7_0 (by decide)))).trans (v70_eq m ρ c h4 h5 h6)) (ix2 a b)) (fun a b => (congrFun (W11_args m ρ c main_arg2 (by decide)) (ix2 a b)).trans (h2 a b)))

include h0 h4 h5 h6 in
theorem v13_eq : (W14 m ρ c main_v13 : FVec Ideal S1024x2048 .bf16) = fun i => mm 2048 (tr O) (dyF P Wo G 5120) (i 0) (i 1) :=
  (W14_arr m ρ c 2).trans (arr10 (V13 m ρ) c (v12_at m ρ c h0) (fun a b => congrFun (((W13_of m ρ c main_v7_0 (by decide)).trans ((W12_of m ρ c main_v7_0 (by decide)).trans ((W11_of m ρ c main_v7_0 (by decide)).trans ((W10_of m ρ c main_v7_0 (by decide)).trans (W9_of m ρ c main_v7_0 (by decide)))))).trans (v70_eq m ρ c h4 h5 h6)) (ix2 a b)))

include h0 h1 h2 h3 h4 h5 in
theorem out0 : (W14 m ρ c main_v3 : FVec Ideal S2048x2048 .f32) = fun i => mm 2048 (uF O Gd Wa Wb P) Wo (i 0) (i 1) :=
  ((W14_of m ρ c main_v3 (by decide)).trans ((W13_of m ρ c main_v3 (by decide)).trans ((W12_of m ρ c main_v3 (by decide)).trans ((W11_of m ρ c main_v3 (by decide)).trans ((W10_of m ρ c main_v3 (by decide)).trans ((W9_of m ρ c main_v3 (by decide)).trans ((W8_of m ρ c main_v3 (by decide)).trans ((W7_of m ρ c main_v3 (by decide)).trans ((W6_of m ρ c main_v3 (by decide)).trans (W5_of m ρ c main_v3 (by decide))))))))))).trans (v3_eq m ρ c h0 h1 h2 h3 h4 h5)

include h2 h4 h5 h6 in
theorem out1 : (W14 m ρ c main_v11 : FVec Ideal S2048x1024 .f32) = fun i => mm 2048 (dyF P Wo G 5120) (tr Wa) (i 0) (i 1) :=
  ((W14_of m ρ c main_v11 (by decide)).trans (W13_of m ρ c main_v11 (by decide))).trans (v11_eq m ρ c h2 h4 h5 h6)

include h3 h4 h5 h6 in
theorem out2 : (W14 m ρ c main_v8 : FVec Ideal S2048x1024 .f32) = fun i => mm 2048 (dyF P Wo G 7168) (tr Wb) (i 0) (i 1) :=
  ((W14_of m ρ c main_v8 (by decide)).trans ((W13_of m ρ c main_v8 (by decide)).trans ((W12_of m ρ c main_v8 (by decide)).trans ((W11_of m ρ c main_v8 (by decide)).trans (W10_of m ρ c main_v8 (by decide)))))).trans (v8_eq m ρ c h3 h4 h5 h6)

include h0 h4 h5 h6 in
theorem out3 : (W14 m ρ c main_v13 : FVec Ideal S1024x2048 .bf16) = fun i => mm 2048 (tr O) (dyF P Wo G 5120) (i 0) (i 1) :=
  v13_eq m ρ c h0 h4 h5 h6

include h1 h4 h5 h6 in
theorem out4 : (W14 m ρ c main_v10 : FVec Ideal S1024x2048 .bf16) = fun i => mm 2048 (tr Gd) (dyF P Wo G 7168) (i 0) (i 1) :=
  ((W14_of m ρ c main_v10 (by decide)).trans ((W13_of m ρ c main_v10 (by decide)).trans (W12_of m ρ c main_v10 (by decide)))).trans (v10_eq m ρ c h1 h4 h5 h6)

include h0 h1 h2 h3 h5 h6 in
theorem out5 : (W14 m ρ c main_v6 : FVec Ideal S2048x2048 .bf16) = fun i => mm 2048 (tr (uF O Gd Wa Wb P)) G (i 0) (i 1) :=
  ((W14_of m ρ c main_v6 (by decide)).trans ((W13_of m ρ c main_v6 (by decide)).trans ((W12_of m ρ c main_v6 (by decide)).trans ((W11_of m ρ c main_v6 (by decide)).trans ((W10_of m ρ c main_v6 (by decide)).trans ((W9_of m ρ c main_v6 (by decide)).trans (W8_of m ρ c main_v6 (by decide)))))))).trans (v6_eq m ρ c h0 h1 h2 h3 h5 h6)

include h0 h2 h4 h5 h6 in
theorem out6 : (W14 m ρ c main_v7_2 : FVec Ideal S2048x2048 .bf16) = fun i => dlF O Wa P Wo G 5120 (i 0) (i 1) :=
  ((W14_of m ρ c main_v7_2 (by decide)).trans ((W13_of m ρ c main_v7_2 (by decide)).trans ((W12_of m ρ c main_v7_2 (by decide)).trans ((W11_of m ρ c main_v7_2 (by decide)).trans ((W10_of m ρ c main_v7_2 (by decide)).trans (W9_of m ρ c main_v7_2 (by decide))))))).trans (v72_eq m ρ c h0 h2 h4 h5 h6)

include h1 h3 h4 h5 h6 in
theorem out7 : (W14 m ρ c main_v7_3 : FVec Ideal S2048x2048 .bf16) = fun i => dlF Gd Wb P Wo G 7168 (i 0) (i 1) :=
  ((W14_of m ρ c main_v7_3 (by decide)).trans ((W13_of m ρ c main_v7_3 (by decide)).trans ((W12_of m ρ c main_v7_3 (by decide)).trans ((W11_of m ρ c main_v7_3 (by decide)).trans ((W10_of m ρ c main_v7_3 (by decide)).trans (W9_of m ρ c main_v7_3 (by decide))))))).trans (v73_eq m ρ c h1 h3 h4 h5 h6)

end Cert.KernelMixIdeal.Mix

namespace Cert.ReferenceMixIdeal.Mix

open Idealize.ShloMosaic Idealize.ShloMosaic.TcCoe Idealize.SL.Sem
open Cert.ReferenceMixIdeal Cert.ReferenceMixIdeal.Gen Cert.ReferenceMixIdeal.Value Cert.Mix Cert.Mat

/-- The reference's gates, from the logits that begin at column 5120. -/
def sA (X5 : FVec Ideal S2048x9216 .f32) : FVec Ideal S2048x2048 .f32 :=
  Host.divf (broadcastInDim S2048x2048 ![] bcast_S_S2048x2048 (constant S_ .f32 0x3F800000#32)) (addf (broadcastInDim S2048x2048 ![] bcast_S_S2048x2048 (constant S_ .f32 0x3F800000#32)) (Host.exp (Host.negf (extractStridedSlice S2048x2048 ![0, 5120] X5 slices_S2048x9216_S2048x2048_0_5120))))
/-- The reference's gates, from the logits that begin at column 7168. -/
def sB (X5 : FVec Ideal S2048x9216 .f32) : FVec Ideal S2048x2048 .f32 :=
  Host.divf (broadcastInDim S2048x2048 ![] bcast_S_S2048x2048 (constant S_ .f32 0x3F800000#32)) (addf (broadcastInDim S2048x2048 ![] bcast_S_S2048x2048 (constant S_ .f32 0x3F800000#32)) (Host.exp (Host.negf (extractStridedSlice S2048x2048 ![0, 7168] X5 slices_S2048x9216_S2048x2048_0_7168))))
/-- The reference's branch through its output projection. -/
def y (X : FVec Ideal S2048x1024 .bf16) (Y : FVec Ideal S1024x2048 .bf16) : FVec Ideal S2048x2048 .f32 :=
  Host.dotGeneral dot_S2048x1024_S1024x2048_S2048x2048_1_0_0_1_n_n none (extf .f32 X bitsLt_bf16_f32) (extf .f32 Y bitsLt_bf16_f32)
variable (X0 : FVec Ideal S2048x1024 .bf16)
variable (X1 : FVec Ideal S2048x1024 .bf16)
variable (X2 : FVec Ideal S1024x2048 .bf16)
variable (X3 : FVec Ideal S1024x2048 .bf16)
variable (X4 : FVec Ideal S2048x2048 .bf16)
variable (X5 : FVec Ideal S2048x9216 .f32)
variable (X6 : FVec Ideal S2048x2048 .bf16)
variable {O Gd Wa Wb Wo P G : ℕ → ℕ → EReal}
variable (h0 : ∀ a b, X0 (ix2 a b) = O a b)
variable (h1 : ∀ a b, X1 (ix2 a b) = Gd a b)
variable (h2 : ∀ a b, X2 (ix2 a b) = Wa a b)
variable (h3 : ∀ a b, X3 (ix2 a b) = Wb a b)
variable (h4 : ∀ a b, X4 (ix2 a b) = Wo a b)
variable (h5 : ∀ a b, X5 (ix2 a b) = P a b)
variable (h6 : ∀ a b, X6 (ix2 a b) = G a b)

/-- The reference's merged branches. -/
def u : FVec Ideal S2048x2048 .f32 := addf (mulf (sA X5) (y X0 X2)) (mulf (sB X5) (y X1 X3))
/-- The reference's cotangent of the merged branches. -/
def du : FVec Ideal S2048x2048 .f32 := Host.dotGeneral dot_S2048x2048_S2048x2048_S2048x2048_1_1_0_0_n_n none (extf .f32 X6 bitsLt_bf16_f32) (extf .f32 X4 bitsLt_bf16_f32)
/-- The reference's gradient of the first branch. -/
def dyA : FVec Ideal S2048x2048 .f32 := mulf (sA X5) (du X4 X6)
/-- The reference's gradient of the second branch. -/
def dyB : FVec Ideal S2048x2048 .f32 := mulf (sB X5) (du X4 X6)

include h5 in
theorem sA_at (a b : Fin 2048) : sA X5 (ix2 a b) = sg (P a (5120 + b)) := by
  have e : sA X5 (ix2 a b) = Ideal.div 1 (1 + Ideal.exp (-(X5 (ix2 a ⟨5120 + b, by omega⟩) : EReal))) := by
    pointwise [sA]
  rw [e, h5, sg, zero_sub]
include h5 in
theorem sB_at (a b : Fin 2048) : sB X5 (ix2 a b) = sg (P a (7168 + b)) := by
  have e : sB X5 (ix2 a b) = Ideal.div 1 (1 + Ideal.exp (-(X5 (ix2 a ⟨7168 + b, by omega⟩) : EReal))) := by
    pointwise [sB]
  rw [e, h5, sg, zero_sub]
theorem y_at {X : FVec Ideal S2048x1024 .bf16} {Y : FVec Ideal S1024x2048 .bf16} {A B : ℕ → ℕ → EReal}
    (hX : ∀ a b, X (ix2 a b) = A a b) (hY : ∀ a b, Y (ix2 a b) = B a b) (a b : Fin 2048) : y X Y (ix2 a b) = yF A B a b := by
  have e : y X Y (ix2 a b) = ∑ k : Fin 1024, (X (ix2 a k) * Y (ix2 k b) : EReal) := by pointwise [y]
  exact e.trans (Finset.sum_congr rfl fun k _ => congrArg₂ _ (hX a k) (hY k b))
include h4 h6 in
theorem du_at (a b : Fin 2048) : du X4 X6 (ix2 a b) = duF Wo G a b := by
  have e : du X4 X6 (ix2 a b) = ∑ k : Fin 2048, (X6 (ix2 a k) * X4 (ix2 b k) : EReal) := by pointwise [du]
  exact e.trans (Finset.sum_congr rfl fun k _ => congrArg₂ _ (h6 a k) (h4 b k))
include h0 h1 h2 h3 h5 in
theorem u_at (a b : Fin 2048) : u X0 X1 X2 X3 X5 (ix2 a b) = uF O Gd Wa Wb P a b := by
  have e : u X0 X1 X2 X3 X5 (ix2 a b) = (sA X5 (ix2 a b) * y X0 X2 (ix2 a b) + sB X5 (ix2 a b) * y X1 X3 (ix2 a b) : EReal) := by pointwise [u]
  rw [e, sA_at X5 h5, sB_at X5 h5, y_at h0 h2, y_at h1 h3]; rfl
include h4 h5 h6 in
theorem dyA_at (a b : Fin 2048) : dyA X4 X5 X6 (ix2 a b) = dyF P Wo G 5120 a b := by
  have e : dyA X4 X5 X6 (ix2 a b) = (sA X5 (ix2 a b) * du X4 X6 (ix2 a b) : EReal) := by pointwise [dyA]
  rw [e, sA_at X5 h5, du_at X4 X6 h4 h6, mul_comm]; rfl
include h4 h5 h6 in
theorem dyB_at (a b : Fin 2048) : dyB X4 X5 X6 (ix2 a b) = dyF P Wo G 7168 a b := by
  have e : dyB X4 X5 X6 (ix2 a b) = (sB X5 (ix2 a b) * du X4 X6 (ix2 a b) : EReal) := by pointwise [dyB]
  rw [e, sB_at X5 h5, du_at X4 X6 h4 h6, mul_comm]; rfl

/-- The reference's gradient of a branch's input, from the branch's. -/
def gradX (Y : FVec Ideal S2048x2048 .f32) (Z : FVec Ideal S1024x2048 .bf16) : FVec Ideal S2048x1024 .f32 :=
  Host.dotGeneral dot_S2048x2048_S1024x2048_S2048x1024_1_1_0_0_n_n none Y (extf .f32 Z bitsLt_bf16_f32)
/-- The reference's gradient of a branch's output projection, from the branch's. -/
def gradW (Y : FVec Ideal S2048x2048 .f32) (Z : FVec Ideal S2048x1024 .bf16) : FVec Ideal S1024x2048 .bf16 :=
  truncf .bf16 (transpose S1024x2048 [1, 0] (Host.dotGeneral dot_S2048x2048_S2048x1024_S2048x1024_0_0_1_1_n_n none Y
    (extf .f32 Z bitsLt_bf16_f32)) transposes_S2048x1024_S1024x2048_1_0) bitsLt_bf16_f32
/-- The reference's merged product. -/
def mixo (Y : FVec Ideal S2048x2048 .f32) (Z : FVec Ideal S2048x2048 .bf16) : FVec Ideal S2048x2048 .f32 :=
  Host.dotGeneral dot_S2048x2048_S2048x2048_S2048x2048_1_0_0_1_n_n none Y (extf .f32 Z bitsLt_bf16_f32)
/-- The reference's gradient of the merged product's weights. -/
def gradO (Y : FVec Ideal S2048x2048 .f32) (Z : FVec Ideal S2048x2048 .bf16) : FVec Ideal S2048x2048 .bf16 :=
  truncf .bf16 (transpose S2048x2048 [1, 0] (Host.dotGeneral dot_S2048x2048_S2048x2048_S2048x2048_0_0_1_1_n_n none
    (extf .f32 Z bitsLt_bf16_f32) Y) transposes_S2048x2048_S2048x2048_1_0) bitsLt_bf16_f32
/-- The reference's gradient of a gate's logits, from the cotangent, the branch and the gate. -/
def gradL (D Y S : FVec Ideal S2048x2048 .f32) : FVec Ideal S2048x2048 .bf16 :=
  truncf .bf16 (mulf (mulf D Y) (mulf S (subf (broadcastInDim S2048x2048 ![] bcast_S_S2048x2048 (constant S_ .f32 0x3F800000#32)) S))) bitsLt_bf16_f32

section
variable {Y : FVec Ideal S2048x2048 .f32} {A B : ℕ → ℕ → EReal} (hY : ∀ a b, Y (ix2 a b) = A a b)

include hY in
theorem gradX_eq {Z : FVec Ideal S1024x2048 .bf16} (hZ : ∀ a b, Z (ix2 a b) = B a b) :
    gradX Y Z = fun i => mm 2048 A (tr B) (i 0) (i 1) := by
  funext i
  have e (r : Fin 2048) (d : Fin 1024) : gradX Y Z (ix2 r d) = ∑ k : Fin 2048, (Y (ix2 r k) * Z (ix2 d k) : EReal) := by pointwise [gradX]
  exact (congrArg _ (eta2 (m := 2048) (n := 1024) i)).trans ((e (i 0) (i 1)).trans
    (Finset.sum_congr rfl fun k _ => congrArg₂ _ (hY (i 0) k) (hZ (i 1) k)))
include hY in
theorem gradW_eq {Z : FVec Ideal S2048x1024 .bf16} (hZ : ∀ a b, Z (ix2 a b) = B a b) :
    gradW Y Z = fun i => mm 2048 (tr B) A (i 0) (i 1) := by
  funext i
  have e (r : Fin 1024) (d : Fin 2048) : gradW Y Z (ix2 r d) = ∑ k : Fin 2048, (Y (ix2 k d) * Z (ix2 k r) : EReal) := by pointwise [gradW]
  exact (congrArg _ (eta2 (m := 1024) (n := 2048) i)).trans ((e (i 0) (i 1)).trans
    (Finset.sum_congr rfl fun k _ => (congrArg₂ _ (hY k (i 1)) (hZ k (i 0))).trans (mul_comm _ _)))
include hY in
theorem mixo_eq {Z : FVec Ideal S2048x2048 .bf16} (hZ : ∀ a b, Z (ix2 a b) = B a b) :
    mixo Y Z = fun i => mm 2048 A B (i 0) (i 1) := by
  funext i
  have e (r d : Fin 2048) : mixo Y Z (ix2 r d) = ∑ k : Fin 2048, (Y (ix2 r k) * Z (ix2 k d) : EReal) := by pointwise [mixo]
  exact (congrArg _ (eta2 (m := 2048) (n := 2048) i)).trans ((e (i 0) (i 1)).trans
    (Finset.sum_congr rfl fun k _ => congrArg₂ _ (hY (i 0) k) (hZ k (i 1))))
include hY in
theorem gradO_eq {Z : FVec Ideal S2048x2048 .bf16} (hZ : ∀ a b, Z (ix2 a b) = B a b) :
    gradO Y Z = fun i => mm 2048 (tr A) B (i 0) (i 1) := by
  funext i
  have e (r d : Fin 2048) : gradO Y Z (ix2 r d) = ∑ k : Fin 2048, (Z (ix2 k d) * Y (ix2 k r) : EReal) := by pointwise [gradO]
  exact (congrArg _ (eta2 (m := 2048) (n := 2048) i)).trans ((e (i 0) (i 1)).trans
    (Finset.sum_congr rfl fun k _ => (congrArg₂ _ (hZ k (i 1)) (hY k (i 0))).trans (mul_comm _ _)))
include hY in
theorem gradL_eq {D S : FVec Ideal S2048x2048 .f32} {L C : ℕ → ℕ → EReal} (hD : ∀ a b, D (ix2 a b) = C a b) (hS : ∀ a b, S (ix2 a b) = sg (L a b)) :
    gradL D Y S = fun i => dlogit (L (i 0) (i 1)) (A (i 0) (i 1)) (C (i 0) (i 1)) := by
  funext i
  have e (r d : Fin 2048) : gradL D Y S (ix2 r d)
      = dlogit (L r d) (A r d) (C r d) := by
    have e' : gradL D Y S (ix2 r d) = (D (ix2 r d) * Y (ix2 r d) * (S (ix2 r d) * (1 - S (ix2 r d))) : EReal) := by pointwise [gradL]
    rw [e', hD, hY, hS, dlogit, ← mul_assoc]
  exact (congrArg _ (eta2 (m := 2048) (n := 2048) i)).trans (e (i 0) (i 1))
end

include h0 h1 h2 h3 h4 h5 in
theorem r0_eq : mixo (u X0 X1 X2 X3 X5) X4 = fun i => mm 2048 (uF O Gd Wa Wb P) Wo (i 0) (i 1) :=
  mixo_eq (u_at X0 X1 X2 X3 X5 h0 h1 h2 h3 h5) h4
include h2 h4 h5 h6 in
theorem r1_eq : gradX (dyA X4 X5 X6) X2 = fun i => mm 2048 (dyF P Wo G 5120) (tr Wa) (i 0) (i 1) :=
  gradX_eq (dyA_at X4 X5 X6 h4 h5 h6) h2
include h3 h4 h5 h6 in
theorem r2_eq : gradX (dyB X4 X5 X6) X3 = fun i => mm 2048 (dyF P Wo G 7168) (tr Wb) (i 0) (i 1) :=
  gradX_eq (dyB_at X4 X5 X6 h4 h5 h6) h3
include h0 h4 h5 h6 in
theorem r3_eq : gradW (dyA X4 X5 X6) X0 = fun i => mm 2048 (tr O) (dyF P Wo G 5120) (i 0) (i 1) :=
  gradW_eq (dyA_at X4 X5 X6 h4 h5 h6) h0
include h1 h4 h5 h6 in
theorem r4_eq : gradW (dyB X4 X5 X6) X1 = fun i => mm 2048 (tr Gd) (dyF P Wo G 7168) (i 0) (i 1) :=
  gradW_eq (dyB_at X4 X5 X6 h4 h5 h6) h1
include h0 h1 h2 h3 h5 h6 in
theorem r5_eq : gradO (u X0 X1 X2 X3 X5) X6 = fun i => mm 2048 (tr (uF O Gd Wa Wb P)) G (i 0) (i 1) :=
  gradO_eq (u_at X0 X1 X2 X3 X5 h0 h1 h2 h3 h5) h6
include h0 h2 h4 h5 h6 in
theorem r6_eq : gradL (du X4 X6) (y X0 X2) (sA X5) = fun i => dlF O Wa P Wo G 5120 (i 0) (i 1) :=
  gradL_eq (L := fun i j => P i (5120 + j)) (y_at h0 h2) (du_at X4 X6 h4 h6) (sA_at X5 h5)
include h1 h3 h4 h5 h6 in
theorem r7_eq : gradL (du X4 X6) (y X1 X3) (sB X5) = fun i => dlF Gd Wb P Wo G 7168 (i 0) (i 1) :=
  gradL_eq (L := fun i j => P i (7168 + j)) (y_at h1 h3) (du_at X4 X6 h4 h6) (sB_at X5 h5)

end Cert.ReferenceMixIdeal.Mix

namespace Cert.Mix

open Idealize.ShloMosaic Idealize.ShloMosaic.TcCoe Idealize.SL.Sem
open Cert.Mat

theorem algebraic : Cert.algebraic_KernelMixIdeal_ReferenceMixIdeal := by
  intro m ρ m' ρ' _ hag
  let O (c : Dev Cert.KernelMixIdeal.nD) : ℕ → ℕ → EReal := valOf (m := 2048) (n := 1024) (m ((c.tc : Thread Cert.KernelMixIdeal.nD Cert.KernelMixIdeal.τ).loc Cert.KernelMixIdeal.main_arg0))
  let Gd (c : Dev Cert.KernelMixIdeal.nD) : ℕ → ℕ → EReal := valOf (m := 2048) (n := 1024) (m ((c.tc : Thread Cert.KernelMixIdeal.nD Cert.KernelMixIdeal.τ).loc Cert.KernelMixIdeal.main_arg1))
  let Wa (c : Dev Cert.KernelMixIdeal.nD) : ℕ → ℕ → EReal := valOf (m := 1024) (n := 2048) (m ((c.tc : Thread Cert.KernelMixIdeal.nD Cert.KernelMixIdeal.τ).loc Cert.KernelMixIdeal.main_arg2))
  let Wb (c : Dev Cert.KernelMixIdeal.nD) : ℕ → ℕ → EReal := valOf (m := 1024) (n := 2048) (m ((c.tc : Thread Cert.KernelMixIdeal.nD Cert.KernelMixIdeal.τ).loc Cert.KernelMixIdeal.main_arg3))
  let Wo (c : Dev Cert.KernelMixIdeal.nD) : ℕ → ℕ → EReal := valOf (m := 2048) (n := 2048) (m ((c.tc : Thread Cert.KernelMixIdeal.nD Cert.KernelMixIdeal.τ).loc Cert.KernelMixIdeal.main_arg4))
  let P (c : Dev Cert.KernelMixIdeal.nD) : ℕ → ℕ → EReal := valOf (m := 2048) (n := 9216) (m ((c.tc : Thread Cert.KernelMixIdeal.nD Cert.KernelMixIdeal.τ).loc Cert.KernelMixIdeal.main_arg5))
  let G (c : Dev Cert.KernelMixIdeal.nD) : ℕ → ℕ → EReal := valOf (m := 2048) (n := 2048) (m ((c.tc : Thread Cert.KernelMixIdeal.nD Cert.KernelMixIdeal.τ).loc Cert.KernelMixIdeal.main_arg6))
  have h0 := fun (c : Dev Cert.KernelMixIdeal.nD) => valOf_at (m := 2048) (n := 1024) (m ((c.tc : Thread Cert.KernelMixIdeal.nD Cert.KernelMixIdeal.τ).loc Cert.KernelMixIdeal.main_arg0))
  have h1 := fun (c : Dev Cert.KernelMixIdeal.nD) => valOf_at (m := 2048) (n := 1024) (m ((c.tc : Thread Cert.KernelMixIdeal.nD Cert.KernelMixIdeal.τ).loc Cert.KernelMixIdeal.main_arg1))
  have h2 := fun (c : Dev Cert.KernelMixIdeal.nD) => valOf_at (m := 1024) (n := 2048) (m ((c.tc : Thread Cert.KernelMixIdeal.nD Cert.KernelMixIdeal.τ).loc Cert.KernelMixIdeal.main_arg2))
  have h3 := fun (c : Dev Cert.KernelMixIdeal.nD) => valOf_at (m := 1024) (n := 2048) (m ((c.tc : Thread Cert.KernelMixIdeal.nD Cert.KernelMixIdeal.τ).loc Cert.KernelMixIdeal.main_arg3))
  have h4 := fun (c : Dev Cert.KernelMixIdeal.nD) => valOf_at (m := 2048) (n := 2048) (m ((c.tc : Thread Cert.KernelMixIdeal.nD Cert.KernelMixIdeal.τ).loc Cert.KernelMixIdeal.main_arg4))
  have h5 := fun (c : Dev Cert.KernelMixIdeal.nD) => valOf_at (m := 2048) (n := 9216) (m ((c.tc : Thread Cert.KernelMixIdeal.nD Cert.KernelMixIdeal.τ).loc Cert.KernelMixIdeal.main_arg5))
  have h6 := fun (c : Dev Cert.KernelMixIdeal.nD) => valOf_at (m := 2048) (n := 2048) (m ((c.tc : Thread Cert.KernelMixIdeal.nD Cert.KernelMixIdeal.τ).loc Cert.KernelMixIdeal.main_arg6))
  refine ⟨fun c => (fun i => mm 2048 (uF (O c) (Gd c) (Wa c) (Wb c) (P c)) (Wo c) (i 0) (i 1) : Vec Ideal Cert.KernelMixIdeal.S2048x2048 .f32),
    fun c => (fun i => mm 2048 (dyF (P c) (Wo c) (G c) 5120) (tr (Wa c)) (i 0) (i 1) : Vec Ideal Cert.KernelMixIdeal.S2048x1024 .f32),
    fun c => (fun i => mm 2048 (dyF (P c) (Wo c) (G c) 7168) (tr (Wb c)) (i 0) (i 1) : Vec Ideal Cert.KernelMixIdeal.S2048x1024 .f32),
    fun c => (fun i => mm 2048 (tr (O c)) (dyF (P c) (Wo c) (G c) 5120) (i 0) (i 1) : Vec Ideal Cert.KernelMixIdeal.S1024x2048 .bf16),
    fun c => (fun i => mm 2048 (tr (Gd c)) (dyF (P c) (Wo c) (G c) 7168) (i 0) (i 1) : Vec Ideal Cert.KernelMixIdeal.S1024x2048 .bf16),
    fun c => (fun i => mm 2048 (tr (uF (O c) (Gd c) (Wa c) (Wb c) (P c))) (G c) (i 0) (i 1) : Vec Ideal Cert.KernelMixIdeal.S2048x2048 .bf16),
    fun c => (fun i => dlF (O c) (Wa c) (P c) (Wo c) (G c) 5120 (i 0) (i 1) : Vec Ideal Cert.KernelMixIdeal.S2048x2048 .bf16),
    fun c => (fun i => dlF (Gd c) (Wb c) (P c) (Wo c) (G c) 7168 (i 0) (i 1) : Vec Ideal Cert.KernelMixIdeal.S2048x2048 .bf16),
    (θ_run _ _ _).mono (fun r h c => ?_) (Cert.KernelMixIdeal.Mix.run m ρ),
    (θ_run _ _ _).mono (fun r h c => ?_) (Cert.ReferenceMixIdeal.Value.run m' ρ')⟩
  · obtain ⟨e0, e1, e2, e3, e4, e5, e6, e7, ha⟩ := h c
    exact ⟨e0.trans (Cert.KernelMixIdeal.Mix.out0 m ρ c (h0 c) (h1 c) (h2 c) (h3 c) (h4 c) (h5 c)),
      e1.trans (Cert.KernelMixIdeal.Mix.out1 m ρ c (h2 c) (h4 c) (h5 c) (h6 c)),
      e2.trans (Cert.KernelMixIdeal.Mix.out2 m ρ c (h3 c) (h4 c) (h5 c) (h6 c)),
      e3.trans (Cert.KernelMixIdeal.Mix.out3 m ρ c (h0 c) (h4 c) (h5 c) (h6 c)),
      e4.trans (Cert.KernelMixIdeal.Mix.out4 m ρ c (h1 c) (h4 c) (h5 c) (h6 c)),
      e5.trans (Cert.KernelMixIdeal.Mix.out5 m ρ c (h0 c) (h1 c) (h2 c) (h3 c) (h5 c) (h6 c)),
      e6.trans (Cert.KernelMixIdeal.Mix.out6 m ρ c (h0 c) (h2 c) (h4 c) (h5 c) (h6 c)),
      e7.trans (Cert.KernelMixIdeal.Mix.out7 m ρ c (h1 c) (h3 c) (h4 c) (h5 c) (h6 c)), ha⟩
  · obtain ⟨e0, e1, e2, e3, e4, e5, e6, e7, ha⟩ := h c
    obtain ⟨a0, a1, a2, a3, a4, a5, a6⟩ := hag c
    have g0 := fun a b => (congrFun a0 (ix2 a b)).trans (h0 c a b)
    have g1 := fun a b => (congrFun a1 (ix2 a b)).trans (h1 c a b)
    have g2 := fun a b => (congrFun a2 (ix2 a b)).trans (h2 c a b)
    have g3 := fun a b => (congrFun a3 (ix2 a b)).trans (h3 c a b)
    have g4 := fun a b => (congrFun a4 (ix2 a b)).trans (h4 c a b)
    have g5 := fun a b => (congrFun a5 (ix2 a b)).trans (h5 c a b)
    have g6 := fun a b => (congrFun a6 (ix2 a b)).trans (h6 c a b)
    exact ⟨e0.trans (Cert.ReferenceMixIdeal.Mix.r0_eq _ _ _ _ _ _ g0 g1 g2 g3 g4 g5),
      e1.trans (Cert.ReferenceMixIdeal.Mix.r1_eq _ _ _ _ g2 g4 g5 g6),
      e2.trans (Cert.ReferenceMixIdeal.Mix.r2_eq _ _ _ _ g3 g4 g5 g6),
      e3.trans (Cert.ReferenceMixIdeal.Mix.r3_eq _ _ _ _ g0 g4 g5 g6),
      e4.trans (Cert.ReferenceMixIdeal.Mix.r4_eq _ _ _ _ g1 g4 g5 g6),
      e5.trans (Cert.ReferenceMixIdeal.Mix.r5_eq _ _ _ _ _ _ g0 g1 g2 g3 g5 g6),
      e6.trans (Cert.ReferenceMixIdeal.Mix.r6_eq _ _ _ _ _ g0 g2 g4 g5 g6),
      e7.trans (Cert.ReferenceMixIdeal.Mix.r7_eq _ _ _ _ _ g1 g3 g4 g5 g6), ha⟩

end Cert.Mix
-- ==== Proof.Up.Run.lean ====
module

public import proofs.«01_k».proof.Proof.Gen.KernelUpIdeal.Frame

@[expose] public section

/-! The run of the kernel with its results: the launch of the generated frame, with the outputs read as well. -/

set_option maxRecDepth 16384

noncomputable section

namespace Cert.KernelUpIdeal.Up

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelUpIdeal Cert.KernelUpIdeal.Gen

variable {F : FTy → Type} [FloatOps F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- The whole program runs, and ends with the calls' results, as the launch's fold leaves them, and the arguments as they were. -/
theorem run : θ_run defs (onTc (τ := τ) (main (F := F))) ⟨m, fun _ => 0, ρ⟩ (fun r => ∀ c : Dev nD,
      r.2.mem ((c.tc : Thread nD τ).loc main_v16) = W12 m ρ c main_v16
      ∧ r.2.mem ((c.tc : Thread nD τ).loc main_v19) = W12 m ρ c main_v19
      ∧ r.2.mem ((c.tc : Thread nD τ).loc main_v8) = W12 m ρ c main_v8
      ∧ r.2.mem ((c.tc : Thread nD τ).loc main_v22) = W12 m ρ c main_v22
      ∧ r.2.mem ((c.tc : Thread nD τ).loc main_v11) = W12 m ρ c main_v11
      ∧ r.2.mem ((c.tc : Thread nD τ).loc main_v25) = W12 m ρ c main_v25
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h _ => fun c =>
      ⟨h c _ (mem_uc main_v16 (by decide)),
       h c _ (mem_uc main_v19 (by decide)),
       h c _ (mem_uc main_v8 (by decide)),
       h c _ (mem_uc main_v22 (by decide)),
       h c _ (mem_uc main_v11 (by decide)),
       h c _ (mem_uc main_v25 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c)⟩)

end Cert.KernelUpIdeal.Up
-- ==== Proof.Up.Arr.lean ====
module

public import proofs.«01_k».proof.Proof.Gen.KernelUpIdeal.Frame
public import proofs.«01_k».proof.Proof.Mat

@[expose] public section

/-! The products of the latents with the heads' columns, block by block. -/

set_option maxRecDepth 16384

noncomputable section

open Idealize.ShloMosaic Idealize.ShloMosaic.TcCoe Idealize.SL.Sem
open Idealize.ShloMosaic.Pipeline (Dat)

namespace Cert.KernelUpIdeal.Up

open Cert.KernelUpIdeal Cert.KernelUpIdeal.Gen Cert.Mat

theorem out0_at (x0 : Vec Ideal S1024x512 .bf16) (x1 : Vec Ideal S512x1024 .bf16) (r : Fin 1024) (d : Fin 1024) :
    out0_2 x0 x1 (ix2 r d) = ∑ k : Fin 512, (x0 (ix2 r k) * x1 (ix2 k d) : EReal) := by
  frame_out; open_payloads; pointwise

theorem out1_at (x0 : Vec Ideal S1024x512 .bf16) (x1 : Vec Ideal S512x1024 .bf16) (r : Fin 1024) (d : Fin 1024) :
    out1_2 x0 x1 (ix2 r d) = ∑ k : Fin 512, (x0 (ix2 r k) * x1 (ix2 k d) : EReal) := by
  frame_out; open_payloads; pointwise

theorem out2_at (x0 : Vec Ideal S1024x2048 .bf16) (x1 : Vec Ideal S512x2048 .bf16) (r : Fin 1024) (d : Fin 512) :
    out2_2 x0 x1 (ix2 r d) = ∑ k : Fin 2048, (x0 (ix2 r k) * x1 (ix2 d k) : EReal) := by
  frame_out; open_payloads; pointwise

theorem out3_at (x0 : Vec Ideal S512x2048 .bf16) (x1 : Vec Ideal S2048x1024 .bf16) (r : Fin 512) (d : Fin 1024) :
    out3_2 x0 x1 (ix2 r d) = ∑ k : Fin 2048, (x0 (ix2 r k) * x1 (ix2 k d) : EReal) := by
  frame_out; open_payloads; pointwise

theorem out4_at (x0 : Vec Ideal S1024x2048 .bf16) (x1 : Vec Ideal S512x2048 .bf16) (r : Fin 1024) (d : Fin 512) :
    out4_2 x0 x1 (ix2 r d) = ∑ k : Fin 2048, (x0 (ix2 r k) * x1 (ix2 d k) : EReal) := by
  frame_out; open_payloads; pointwise

theorem out5_at (x0 : Vec Ideal S512x2048 .bf16) (x1 : Vec Ideal S2048x1024 .bf16) (r : Fin 512) (d : Fin 1024) :
    out5_2 x0 x1 (ix2 r d) = ∑ k : Fin 2048, (x0 (ix2 r k) * x1 (ix2 k d) : EReal) := by
  frame_out; open_payloads; pointwise

theorem idx0 : ∀ t : Fin grid0.N, (win0_0.index t 0 = t / 2 ∧ win0_0.index t 1 = 0) ∧ (win0_1.index t 0 = 0 ∧ win0_1.index t 1 = t % 2)
    ∧ (win0_2.index t 0 = t / 2 ∧ win0_2.index t 1 = t % 2) := by decide +kernel
theorem idx1 : ∀ t : Fin grid1.N, (win1_0.index t 0 = t / 2 ∧ win1_0.index t 1 = 0) ∧ (win1_1.index t 0 = 0 ∧ win1_1.index t 1 = t % 2)
    ∧ (win1_2.index t 0 = t / 2 ∧ win1_2.index t 1 = t % 2) := by decide +kernel
theorem idx2 : ∀ t : Fin grid2.N, (win2_0.index t 0 = t / 1 ∧ win2_0.index t 1 = 0) ∧ (win2_1.index t 0 = t % 1 ∧ win2_1.index t 1 = 0)
    ∧ (win2_2.index t 0 = t / 1 ∧ win2_2.index t 1 = t % 1) := by decide +kernel
theorem idx3 : ∀ t : Fin grid3.N, (win3_0.index t 0 = t / 2 ∧ win3_0.index t 1 = 0) ∧ (win3_1.index t 0 = 0 ∧ win3_1.index t 1 = t % 2)
    ∧ (win3_2.index t 0 = t / 2 ∧ win3_2.index t 1 = t % 2) := by decide +kernel
theorem idx4 : ∀ t : Fin grid4.N, (win4_0.index t 0 = t / 1 ∧ win4_0.index t 1 = 0) ∧ (win4_1.index t 0 = t % 1 ∧ win4_1.index t 1 = 0)
    ∧ (win4_2.index t 0 = t / 1 ∧ win4_2.index t 1 = t % 1) := by decide +kernel
theorem idx5 : ∀ t : Fin grid5.N, (win5_0.index t 0 = t / 2 ∧ win5_0.index t 1 = 0) ∧ (win5_1.index t 0 = 0 ∧ win5_1.index t 1 = t % 2)
    ∧ (win5_2.index t 0 = t / 2 ∧ win5_2.index t 1 = t % 2) := by decide +kernel

variable (V : (c : Dev nD) → (b : Ref sig .tc) → Buf (Elt Ideal) ((c : Thread nD τ).loc b)) (c : Dev nD)
variable {A B : ℕ → ℕ → EReal}

theorem arr0 (hA : ∀ (a : Fin 2048) (b : Fin 512), (V c main_arg0 : Vec Ideal S2048x512 .bf16) (ix2 a b) = A a b)
    (hB : ∀ (a : Fin 512) (b : Fin 2048), (V c main_v2 : Vec Ideal S512x2048 .bf16) (ix2 a b) = B a b) :
    (dat0 V c).arrAt 2 cfg0.N = (fun i => mm 512 A B (i 0) (i 1) : Vec Ideal S2048x2048 .f32) := by
  refine (dat0 V c).arrAt_eq_of_covers 2 _ (by decide +kernel) fun t hf y => ?_
  have ht : (t : ℕ) < 4 := t.isLt
  have h0 : (y 0 : ℕ) < 1024 := (y 0).isLt
  have h1 : (y 1 : ℕ) < 1024 := (y 1).isLt
  blk_simp
  rw [after0_2]
  refine (congrArg _ (eta2 (m := 1024) (n := 1024) y)).trans ((out0_at _ _ _ _).trans ?_)
  simp only [mm, idx0 t]
  refine Finset.sum_congr rfl fun k _ => congrArg₂ _ ?_ ?_
  · refine Eq.trans ?_ (hA ⟨t / 2 * 1024 + y 0, by omega⟩ k)
    blk_ext [iblk0, idx0 t]
  · refine Eq.trans ?_ (hB k ⟨t % 2 * 1024 + y 1, by omega⟩)
    blk_ext [iblk0, idx0 t]

theorem arr1 (hA : ∀ (a : Fin 2048) (b : Fin 512), (V c main_arg1 : Vec Ideal S2048x512 .bf16) (ix2 a b) = A a b)
    (hB : ∀ (a : Fin 512) (b : Fin 2048), (V c main_v5 : Vec Ideal S512x2048 .bf16) (ix2 a b) = B a b) :
    (dat1 V c).arrAt 2 cfg1.N = (fun i => mm 512 A B (i 0) (i 1) : Vec Ideal S2048x2048 .f32) := by
  refine (dat1 V c).arrAt_eq_of_covers 2 _ (by decide +kernel) fun t hf y => ?_
  have ht : (t : ℕ) < 4 := t.isLt
  have h0 : (y 0 : ℕ) < 1024 := (y 0).isLt
  have h1 : (y 1 : ℕ) < 1024 := (y 1).isLt
  blk_simp
  rw [after1_2]
  refine (congrArg _ (eta2 (m := 1024) (n := 1024) y)).trans ((out1_at _ _ _ _).trans ?_)
  simp only [mm, idx1 t]
  refine Finset.sum_congr rfl fun k _ => congrArg₂ _ ?_ ?_
  · refine Eq.trans ?_ (hA ⟨t / 2 * 1024 + y 0, by omega⟩ k)
    blk_ext [iblk1, idx1 t]
  · refine Eq.trans ?_ (hB k ⟨t % 2 * 1024 + y 1, by omega⟩)
    blk_ext [iblk1, idx1 t]

theorem arr2 (hA : ∀ (a : Fin 2048) (b : Fin 2048), (V c main_arg4 : Vec Ideal S2048x2048 .bf16) (ix2 a b) = A a b)
    (hB : ∀ (a : Fin 512) (b : Fin 2048), (V c main_v2 : Vec Ideal S512x2048 .bf16) (ix2 a b) = B a b) :
    (dat2 V c).arrAt 2 cfg2.N = (fun i => mm 2048 A (tr B) (i 0) (i 1) : Vec Ideal S2048x512 .f32) := by
  refine (dat2 V c).arrAt_eq_of_covers 2 _ (by decide +kernel) fun t hf y => ?_
  have ht : (t : ℕ) < 2 := t.isLt
  have h0 : (y 0 : ℕ) < 1024 := (y 0).isLt
  have h1 : (y 1 : ℕ) < 512 := (y 1).isLt
  blk_simp
  rw [after2_2]
  refine (congrArg _ (eta2 (m := 1024) (n := 512) y)).trans ((out2_at _ _ _ _).trans ?_)
  simp only [mm, tr, idx2 t]
  refine Finset.sum_congr rfl fun k _ => congrArg₂ _ ?_ ?_
  · refine Eq.trans ?_ (hA ⟨t / 1 * 1024 + y 0, by omega⟩ k)
    blk_ext [iblk2, idx2 t]
  · refine Eq.trans ?_ (hB ⟨t % 1 * 512 + y 1, by omega⟩ k)
    blk_ext [iblk2, idx2 t]

theorem arr3 (hA : ∀ (a : Fin 512) (b : Fin 2048), (V c main_v9 : Vec Ideal S512x2048 .bf16) (ix2 a b) = A a b)
    (hB : ∀ (a : Fin 2048) (b : Fin 2048), (V c main_arg4 : Vec Ideal S2048x2048 .bf16) (ix2 a b) = B a b) :
    (dat3 V c).arrAt 2 cfg3.N = (fun i => mm 2048 A B (i 0) (i 1) : Vec Ideal S512x2048 .bf16) := by
  refine (dat3 V c).arrAt_eq_of_covers 2 _ (by decide +kernel) fun t hf y => ?_
  have ht : (t : ℕ) < 2 := t.isLt
  have h0 : (y 0 : ℕ) < 512 := (y 0).isLt
  have h1 : (y 1 : ℕ) < 1024 := (y 1).isLt
  blk_simp
  rw [after3_2]
  refine (congrArg _ (eta2 (m := 512) (n := 1024) y)).trans ((out3_at _ _ _ _).trans ?_)
  simp only [mm, idx3 t]
  refine Finset.sum_congr rfl fun k _ => congrArg₂ _ ?_ ?_
  · refine Eq.trans ?_ (hA ⟨t / 2 * 512 + y 0, by omega⟩ k)
    blk_ext [iblk3, idx3 t]
  · refine Eq.trans ?_ (hB k ⟨t % 2 * 1024 + y 1, by omega⟩)
    blk_ext [iblk3, idx3 t]

theorem arr4 (hA : ∀ (a : Fin 2048) (b : Fin 2048), (V c main_arg5 : Vec Ideal S2048x2048 .bf16) (ix2 a b) = A a b)
    (hB : ∀ (a : Fin 512) (b : Fin 2048), (V c main_v5 : Vec Ideal S512x2048 .bf16) (ix2 a b) = B a b) :
    (dat4 V c).arrAt 2 cfg4.N = (fun i => mm 2048 A (tr B) (i 0) (i 1) : Vec Ideal S2048x512 .f32) := by
  refine (dat4 V c).arrAt_eq_of_covers 2 _ (by decide +kernel) fun t hf y => ?_
  have ht : (t : ℕ) < 2 := t.isLt
  have h0 : (y 0 : ℕ) < 1024 := (y 0).isLt
  have h1 : (y 1 : ℕ) < 512 := (y 1).isLt
  blk_simp
  rw [after4_2]
  refine (congrArg _ (eta2 (m := 1024) (n := 512) y)).trans ((out4_at _ _ _ _).trans ?_)
  simp only [mm, tr, idx4 t]
  refine Finset.sum_congr rfl fun k _ => congrArg₂ _ ?_ ?_
  · refine Eq.trans ?_ (hA ⟨t / 1 * 1024 + y 0, by omega⟩ k)
    blk_ext [iblk4, idx4 t]
  · refine Eq.trans ?_ (hB ⟨t % 1 * 512 + y 1, by omega⟩ k)
    blk_ext [iblk4, idx4 t]

theorem arr5 (hA : ∀ (a : Fin 512) (b : Fin 2048), (V c main_v12 : Vec Ideal S512x2048 .bf16) (ix2 a b) = A a b)
    (hB : ∀ (a : Fin 2048) (b : Fin 2048), (V c main_arg5 : Vec Ideal S2048x2048 .bf16) (ix2 a b) = B a b) :
    (dat5 V c).arrAt 2 cfg5.N = (fun i => mm 2048 A B (i 0) (i 1) : Vec Ideal S512x2048 .bf16) := by
  refine (dat5 V c).arrAt_eq_of_covers 2 _ (by decide +kernel) fun t hf y => ?_
  have ht : (t : ℕ) < 2 := t.isLt
  have h0 : (y 0 : ℕ) < 512 := (y 0).isLt
  have h1 : (y 1 : ℕ) < 1024 := (y 1).isLt
  blk_simp
  rw [after5_2]
  refine (congrArg _ (eta2 (m := 512) (n := 1024) y)).trans ((out5_at _ _ _ _).trans ?_)
  simp only [mm, idx5 t]
  refine Finset.sum_congr rfl fun k _ => congrArg₂ _ ?_ ?_
  · refine Eq.trans ?_ (hA ⟨t / 2 * 512 + y 0, by omega⟩ k)
    blk_ext [iblk5, idx5 t]
  · refine Eq.trans ?_ (hB k ⟨t % 2 * 1024 + y 1, by omega⟩)
    blk_ext [iblk5, idx5 t]

end Cert.KernelUpIdeal.Up
-- ==== Proof.Up.Cols.lean ====
module

public import proofs.«01_k».proof.Proof.Up.Arr

@[expose] public section

/-! The host's lay-out of the heads' columns, and sums over the columns laid out in terms of sums over the columns as given. -/

set_option maxRecDepth 16384

noncomputable section

open Idealize.ShloMosaic Idealize.ShloMosaic.TcCoe Idealize.SL.Sem

namespace Cert.Up

open Cert.Mat

/-- The column among those laid out, 256 to a head, of a column of queries, 192 to a head. -/
def uq (b : ℕ) : ℕ := b / 192 * 256 + b % 192
/-- The column among those laid out, all keys before all values, of a column of keys and values, head by head. -/
def ki (b : ℕ) : ℕ := b % 256 / 128 * 1024 + b / 256 * 128 + b % 128
/-- The column as given of a column laid out: the inverse of `ki`. -/
def pk (b : ℕ) : ℕ := b % 1024 / 128 * 256 + b / 1024 * 128 + b % 128
/-- The queries' columns laid out. -/
def layQ (W : ℕ → ℕ → EReal) (k b : ℕ) : EReal := if b % 256 < 192 then W k (b / 256 * 192 + b % 256) else 0
/-- The keys' and values' columns laid out. -/
def layK (W : ℕ → ℕ → EReal) (k b : ℕ) : EReal := W k (pk b)

theorem pk_ki {b : ℕ} (h : b < 2048) : pk (ki b) = b := by simp only [pk, ki]; omega
theorem ki_pk {b : ℕ} (h : b < 2048) : ki (pk b) = b := by simp only [pk, ki]; omega

theorem mm_layQ {K : ℕ} (A W : ℕ → ℕ → EReal) (a b : ℕ) : mm K A (layQ W) a (uq b) = mm K A W a b := by
  refine Finset.sum_congr rfl fun k _ => congrArg _ ?_
  rw [layQ, if_pos (by simp only [uq]; omega)]
  exact congrArg _ (by simp only [uq]; omega)

theorem mm_layK {K : ℕ} (A W : ℕ → ℕ → EReal) (a : ℕ) {b : ℕ} (h : b < 2048) : mm K A (layK W) a (ki b) = mm K A W a b := by
  refine Finset.sum_congr rfl fun k _ => congrArg _ ?_
  rw [layK, pk_ki h]

/-- A product over the queries' columns laid out: those of the fill give nothing. -/
theorem mm_trQ (D W : ℕ → ℕ → EReal) (a j : ℕ) : mm 2048 D (tr (layQ W)) a j = ∑ k : Fin 1536, D a (uq k) * W j k := by
  refine (Finset.sum_of_injOn (fun k : Fin 1536 => (⟨uq k, by simp only [uq]; omega⟩ : Fin 2048)) ?_ (fun _ _ => Finset.mem_coe.2 (Finset.mem_univ _)) ?_ ?_).symm
  · intro x _ y _ h
    have h' : uq x = uq y := congrArg Fin.val h
    simp only [uq] at h'
    exact Fin.ext (by omega)
  · intro k _ hk
    by_cases h : (k : ℕ) % 256 < 192
    · refine absurd ⟨⟨(k : ℕ) / 256 * 192 + (k : ℕ) % 256, by omega⟩, Finset.mem_coe.2 (Finset.mem_univ _), Fin.ext ?_⟩ hk
      simp only [uq]; omega
    · rw [tr, layQ, if_neg h, mul_zero]
  · intro k _
    refine congrArg _ ?_
    rw [tr, layQ, if_pos (by simp only [uq]; omega)]
    exact congrArg _ (by simp only [uq]; omega)

/-- A product over the keys' and values' columns laid out. -/
theorem mm_trK (D W : ℕ → ℕ → EReal) (a j : ℕ) : mm 2048 D (tr (layK W)) a j = ∑ k : Fin 2048, D a (ki k) * W j k := by
  refine Finset.sum_nbij' (fun k : Fin 2048 => (⟨pk k, by simp only [pk]; omega⟩ : Fin 2048)) (fun k : Fin 2048 => ⟨ki k, by simp only [ki]; omega⟩)
    (fun _ _ => Finset.mem_univ _) (fun _ _ => Finset.mem_univ _) (fun k _ => Fin.ext (ki_pk k.isLt)) (fun k _ => Fin.ext (pk_ki k.isLt)) ?_
  intro k _
  dsimp only
  rw [ki_pk k.isLt]; rfl

end Cert.Up

namespace Cert.KernelUpIdeal.Up

open Cert.KernelUpIdeal Cert.KernelUpIdeal.Gen Cert.Mat Cert.Up

/-- The queries' columns as the host lays them out. -/
def layq (X : FVec Ideal S512x1536 .bf16) : FVec Ideal S512x2048 .bf16 :=
  shapeCast S512x2048 (pad S512x8x256 ![0, 0, 0] ![0, 0, 64] ![0, 0, 0] (shapeCast S512x8x192 X shapeCasts_S512x1536_S512x8x192)
    (sitofp .bf16 (constantI S_ 32 0#32)) pads_S512x8x192_S512x8x256_000_000_0640 h_S_) shapeCasts_S512x8x256_S512x2048
/-- The keys' and values' columns as the host lays them out. -/
def layk (X : FVec Ideal S512x2048 .bf16) : FVec Ideal S512x2048 .bf16 :=
  shapeCast S512x2048 (transpose S512x2x8x128 [0, 2, 1, 3] (shapeCast S512x8x2x128 X shapeCasts_S512x2048_S512x8x2x128)
    transposes_S512x8x2x128_S512x2x8x128_0_2_1_3) shapeCasts_S512x2x8x128_S512x2048
/-- The products' query columns taken back. -/
def unq (X : FVec Ideal S2048x2048 .f32) : FVec Ideal S2048x1536 .f32 :=
  shapeCast S2048x1536 (extractStridedSlice S2048x8x192 ![0, 0, 0] (shapeCast S2048x8x256 X shapeCasts_S2048x2048_S2048x8x256)
    slices_S2048x8x256_S2048x8x192_0_0_0) shapeCasts_S2048x8x192_S2048x1536
/-- The products' columns of keys and values taken back. -/
def unk (X : FVec Ideal S2048x2048 .f32) : FVec Ideal S2048x2048 .f32 :=
  shapeCast S2048x2048 (transpose S2048x8x2x128 [0, 2, 1, 3] (shapeCast S2048x2x8x128 X shapeCasts_S2048x2048_S2048x2x8x128)
    transposes_S2048x2x8x128_S2048x8x2x128_0_2_1_3) shapeCasts_S2048x8x2x128_S2048x2048
/-- The gradient's query columns taken back. -/
def unqw (X : FVec Ideal S512x2048 .bf16) : FVec Ideal S512x1536 .bf16 :=
  shapeCast S512x1536 (extractStridedSlice S512x8x192 ![0, 0, 0] (shapeCast S512x8x256 X shapeCasts_S512x2048_S512x8x256)
    slices_S512x8x256_S512x8x192_0_0_0) shapeCasts_S512x8x192_S512x1536
/-- The gradient's columns of keys and values taken back. -/
def unkw (X : FVec Ideal S512x2048 .bf16) : FVec Ideal S512x2048 .bf16 :=
  shapeCast S512x2048 (transpose S512x8x2x128 [0, 2, 1, 3] (shapeCast S512x2x8x128 X shapeCasts_S512x2048_S512x2x8x128)
    transposes_S512x2x8x128_S512x8x2x128_0_2_1_3) shapeCasts_S512x8x2x128_S512x2048

section
variable {W : ℕ → ℕ → EReal}

theorem layq_at {X : FVec Ideal S512x1536 .bf16} (hX : ∀ a b, X (ix2 a b) = W a b) (a : Fin 512) (b : Fin 2048) : layq X (ix2 a b) = layQ W a b := by
  pointwise [layq]
  have e0 : (FloatOps.sitofp .bf16 0#32 : Ideal .bf16) = (0 : EReal) := by
    change (((0#32 : BitVec 32).toInt : ℝ) : EReal) = 0
    simp
  split_ifs with h
  · rw [hX, layQ, if_pos h.2]
  · rw [e0, layQ, if_neg (by omega)]
theorem layk_at {X : FVec Ideal S512x2048 .bf16} (hX : ∀ a b, X (ix2 a b) = W a b) (a : Fin 512) (b : Fin 2048) : layk X (ix2 a b) = layK W a b := by
  pointwise [layk]
  rw [hX]; exact congrArg _ (by simp only [pk]; omega)
theorem unq_at {X : FVec Ideal S2048x2048 .f32} (hX : ∀ a b, X (ix2 a b) = W a b) (a : Fin 2048) (b : Fin 1536) : unq X (ix2 a b) = W a (uq b) := by
  pointwise [unq]
  rw [hX]; exact congrArg _ (by simp only [uq])
theorem unk_at {X : FVec Ideal S2048x2048 .f32} (hX : ∀ a b, X (ix2 a b) = W a b) (a : Fin 2048) (b : Fin 2048) : unk X (ix2 a b) = W a (ki b) := by
  pointwise [unk]
  rw [hX]; exact congrArg _ (by simp only [ki]; omega)
theorem unqw_at {X : FVec Ideal S512x2048 .bf16} (hX : ∀ a b, X (ix2 a b) = W a b) (a : Fin 512) (b : Fin 1536) : unqw X (ix2 a b) = W a (uq b) := by
  pointwise [unqw]
  rw [hX]; exact congrArg _ (by simp only [uq])
theorem unkw_at {X : FVec Ideal S512x2048 .bf16} (hX : ∀ a b, X (ix2 a b) = W a b) (a : Fin 512) (b : Fin 2048) : unkw X (ix2 a b) = W a (ki b) := by
  pointwise [unkw]
  rw [hX]; exact congrArg _ (by simp only [ki]; omega)
end

variable (m : (ℓ : Loc nD τ sig) → Buf (Elt Ideal) ℓ) (ρ : Dev nD → PrngReg) (c : Dev nD)

/-- The fill of a head's columns. -/
def padq (X : FVec Ideal S512x8x192 .bf16) (n : IVec S_ 32) : FVec Ideal S512x8x256 .bf16 :=
  pad S512x8x256 ![0, 0, 0] ![0, 0, 64] ![0, 0, 0] X (sitofp .bf16 n) pads_S512x8x192_S512x8x256_000_000_0640 h_S_

theorem v0_eq : (W1 m ρ c main_v0 : FVec Ideal S512x8x192 .bf16) = shapeCast S512x8x192 (m ((c.tc : Thread nD τ).loc main_arg2) : FVec Ideal S512x1536 .bf16) shapeCasts_S512x1536_S512x8x192 := by
  simp only [W1, hostOps0]; after_results_simp <;> rfl
theorem c_eq : (W1 m ρ c main_c : IVec S_ 32) = constantI S_ 32 0#32 := by
  simp only [W1, hostOps0]; after_results_simp <;> rfl
theorem v1_eq : (W2 m ρ c main_v1 : FVec Ideal S512x8x256 .bf16) = padq (W1 m ρ c main_v0) (W1 m ρ c main_c) := by
  simp only [W2, hostOps0_1]; after_results_simp <;> rfl
theorem v2_eq : (W3 m ρ c main_v2 : FVec Ideal S512x2048 .bf16) = shapeCast S512x2048 (W2 m ρ c main_v1 : FVec Ideal S512x8x256 .bf16) shapeCasts_S512x8x256_S512x2048 := by
  simp only [W3, hostOps0_2]; after_results_simp <;> rfl
theorem v2_lay : (W3 m ρ c main_v2 : FVec Ideal S512x2048 .bf16) = layq (m ((c.tc : Thread nD τ).loc main_arg2)) := by
  rw [v2_eq, v1_eq, v0_eq, c_eq]; rfl
theorem v5_eq : (W3 m ρ c main_v5 : FVec Ideal S512x2048 .bf16) = layk (W2 m ρ c main_arg3) := by
  simp only [W3, hostOps0_2]; after_results_simp <;> rfl
theorem v5_lay : (W3 m ρ c main_v5 : FVec Ideal S512x2048 .bf16) = layk (m ((c.tc : Thread nD τ).loc main_arg3)) :=
  (v5_eq m ρ c).trans (congrArg layk (W2_args m ρ c main_arg3 (by decide)))
theorem v9_eq : (W7 m ρ c main_v9 : FVec Ideal S512x2048 .bf16)
    = transpose S512x2048 [1, 0] (W6 m ρ c main_arg0 : FVec Ideal S2048x512 .bf16) transposes_S2048x512_S512x2048_1_0 := by
  simp only [W7, hostOps3]; after_results_simp <;> rfl
theorem v12_eq : (W10 m ρ c main_v12 : FVec Ideal S512x2048 .bf16)
    = transpose S512x2048 [1, 0] (W9 m ρ c main_arg1 : FVec Ideal S2048x512 .bf16) transposes_S2048x512_S512x2048_1_0 := by
  simp only [W10, hostOps5]; after_results_simp <;> rfl
theorem turned (X : FVec Ideal S2048x512 .bf16) (a : Fin 512) (b : Fin 2048) :
    transpose S512x2048 [1, 0] X transposes_S2048x512_S512x2048_1_0 (ix2 a b) = X (ix2 b a) := by pointwise
theorem v16_eq : (W12 m ρ c main_v16 : FVec Ideal S2048x1536 .f32) = unq (W11 m ρ c main_v6) := by
  simp only [W12, hostOps6]; after_results_simp <;> rfl
theorem v19_eq : (W12 m ρ c main_v19 : FVec Ideal S2048x2048 .f32) = unk (W11 m ρ c main_v7) := by
  simp only [W12, hostOps6]; after_results_simp <;> rfl
theorem v22_eq : (W12 m ρ c main_v22 : FVec Ideal S512x1536 .bf16) = unqw (W11 m ρ c main_v10) := by
  simp only [W12, hostOps6]; after_results_simp <;> rfl
theorem v25_eq : (W12 m ρ c main_v25 : FVec Ideal S512x2048 .bf16) = unkw (W11 m ρ c main_v13) := by
  simp only [W12, hostOps6]; after_results_simp <;> rfl

end Cert.KernelUpIdeal.Up
-- ==== Proof.Up.Final.lean ====
module

public import proofs.«01_k».proof.Defs
public import proofs.«01_k».proof.Proof.Gen.ReferenceUpIdeal.Run
public import proofs.«01_k».proof.Proof.Up.Run
public import proofs.«01_k».proof.Proof.Up.Cols

@[expose] public section

/-! The kernel of the products with the heads' columns and its reference leave the same products and the same gradients. -/

set_option maxRecDepth 16384

noncomputable section

namespace Cert.KernelUpIdeal.Up

open Idealize.ShloMosaic Idealize.ShloMosaic.TcCoe Idealize.SL.Sem
open Cert.KernelUpIdeal Cert.KernelUpIdeal.Gen Cert.Up Cert.Mat

variable (m : (ℓ : Loc nD τ sig) → Buf (Elt Ideal) ℓ) (ρ : Dev nD → PrngReg) (c : Dev nD)
variable {A B Q K D E : ℕ → ℕ → EReal}
variable (h0 : ∀ (a : Fin 2048) (b : Fin 512), (m ((c.tc : Thread nD τ).loc main_arg0) : FVec Ideal S2048x512 .bf16) (ix2 a b) = A a b)
variable (h1 : ∀ (a : Fin 2048) (b : Fin 512), (m ((c.tc : Thread nD τ).loc main_arg1) : FVec Ideal S2048x512 .bf16) (ix2 a b) = B a b)
variable (h2 : ∀ (a : Fin 512) (b : Fin 1536), (m ((c.tc : Thread nD τ).loc main_arg2) : FVec Ideal S512x1536 .bf16) (ix2 a b) = Q a b)
variable (h3 : ∀ (a : Fin 512) (b : Fin 2048), (m ((c.tc : Thread nD τ).loc main_arg3) : FVec Ideal S512x2048 .bf16) (ix2 a b) = K a b)
variable (h4 : ∀ (a : Fin 2048) (b : Fin 2048), (m ((c.tc : Thread nD τ).loc main_arg4) : FVec Ideal S2048x2048 .bf16) (ix2 a b) = D a b)
variable (h5 : ∀ (a : Fin 2048) (b : Fin 2048), (m ((c.tc : Thread nD τ).loc main_arg5) : FVec Ideal S2048x2048 .bf16) (ix2 a b) = E a b)

include h2 in
theorem v2_at (a : Fin 512) (b : Fin 2048) : (W3 m ρ c main_v2 : FVec Ideal S512x2048 .bf16) (ix2 a b) = layQ Q a b :=
  (congrFun (v2_lay m ρ c) (ix2 a b)).trans (layq_at h2 a b)
include h3 in
theorem v5_at (a : Fin 512) (b : Fin 2048) : (W3 m ρ c main_v5 : FVec Ideal S512x2048 .bf16) (ix2 a b) = layK K a b :=
  (congrFun (v5_lay m ρ c) (ix2 a b)).trans (layk_at h3 a b)
include h0 in
theorem v9_at (a : Fin 512) (b : Fin 2048) : (W7 m ρ c main_v9 : FVec Ideal S512x2048 .bf16) (ix2 a b) = tr A a b :=
  (congrFun (v9_eq m ρ c) (ix2 a b)).trans ((turned _ a b).trans ((congrFun (W6_args m ρ c main_arg0 (by decide)) (ix2 b a)).trans (h0 b a)))
include h1 in
theorem v12_at (a : Fin 512) (b : Fin 2048) : (W10 m ρ c main_v12 : FVec Ideal S512x2048 .bf16) (ix2 a b) = tr B a b :=
  (congrFun (v12_eq m ρ c) (ix2 a b)).trans ((turned _ a b).trans ((congrFun (W9_args m ρ c main_arg1 (by decide)) (ix2 b a)).trans (h1 b a)))

include h0 h2 in
theorem v6_eq : (W4 m ρ c main_v6 : FVec Ideal S2048x2048 .f32) = fun i => mm 512 A (layQ Q) (i 0) (i 1) :=
  (W4_arr m ρ c 2).trans (arr0 (V3 m ρ) c (fun a b => (congrFun (W3_args m ρ c main_arg0 (by decide)) (ix2 a b)).trans (h0 a b)) (v2_at m ρ c h2))

include h1 h3 in
theorem v7_eq : (W5 m ρ c main_v7 : FVec Ideal S2048x2048 .f32) = fun i => mm 512 B (layK K) (i 0) (i 1) :=
  (W5_arr m ρ c 2).trans (arr1 (V4 m ρ) c (fun a b => (congrFun (W4_args m ρ c main_arg1 (by decide)) (ix2 a b)).trans (h1 a b)) (fun a b => (congrFun (W4_of m ρ c main_v5 (by decide)) (ix2 a b)).trans (v5_at m ρ c h3 a b)))

include h2 h4 in
theorem v8_eq : (W6 m ρ c main_v8 : FVec Ideal S2048x512 .f32) = fun i => mm 2048 D (tr (layQ Q)) (i 0) (i 1) :=
  (W6_arr m ρ c 2).trans (arr2 (V5 m ρ) c (fun a b => (congrFun (W5_args m ρ c main_arg4 (by decide)) (ix2 a b)).trans (h4 a b)) (fun a b => (congrFun ((W5_of m ρ c main_v2 (by decide)).trans (W4_of m ρ c main_v2 (by decide))) (ix2 a b)).trans (v2_at m ρ c h2 a b)))

include h0 h4 in
theorem v10_eq : (W8 m ρ c main_v10 : FVec Ideal S512x2048 .bf16) = fun i => mm 2048 (tr A) D (i 0) (i 1) :=
  (W8_arr m ρ c 2).trans (arr3 (V7 m ρ) c (v9_at m ρ c h0) (fun a b => (congrFun (W7_args m ρ c main_arg4 (by decide)) (ix2 a b)).trans (h4 a b)))

include h3 h5 in
theorem v11_eq : (W9 m ρ c main_v11 : FVec Ideal S2048x512 .f32) = fun i => mm 2048 E (tr (layK K)) (i 0) (i 1) :=
  (W9_arr m ρ c 2).trans (arr4 (V8 m ρ) c (fun a b => (congrFun (W8_args m ρ c main_arg5 (by decide)) (ix2 a b)).trans (h5 a b)) (fun a b => (congrFun ((W8_of m ρ c main_v5 (by decide)).trans ((W7_of m ρ c main_v5 (by decide)).trans ((W6_of m ρ c main_v5 (by decide)).trans ((W5_of m ρ c main_v5 (by decide)).trans (W4_of m ρ c main_v5 (by decide)))))) (ix2 a b)).trans (v5_at m ρ c h3 a b)))

include h1 h5 in
theorem v13_eq : (W11 m ρ c main_v13 : FVec Ideal S512x2048 .bf16) = fun i => mm 2048 (tr B) E (i 0) (i 1) :=
  (W11_arr m ρ c 2).trans (arr5 (V10 m ρ) c (v12_at m ρ c h1) (fun a b => (congrFun (W10_args m ρ c main_arg5 (by decide)) (ix2 a b)).trans (h5 a b)))

include h0 h2 in
theorem out0 : (W12 m ρ c main_v16 : FVec Ideal S2048x1536 .f32) = fun i => mm 512 A Q (i 0) (i 1) :=
  (v16_eq m ρ c).trans (funext fun i => (congrArg _ (eta2 (m := 2048) (n := 1536) i)).trans ((unq_at (W := mm 512 A (layQ Q))
    (fun a b => congrFun (((W11_of m ρ c main_v6 (by decide)).trans ((W10_of m ρ c main_v6 (by decide)).trans ((W9_of m ρ c main_v6 (by decide)).trans ((W8_of m ρ c main_v6 (by decide)).trans ((W7_of m ρ c main_v6 (by decide)).trans ((W6_of m ρ c main_v6 (by decide)).trans (W5_of m ρ c main_v6 (by decide)))))))).trans (v6_eq m ρ c h0 h2)) (ix2 a b)) (i 0) (i 1)).trans (mm_layQ A Q _ _)))

include h1 h3 in
theorem out1 : (W12 m ρ c main_v19 : FVec Ideal S2048x2048 .f32) = fun i => mm 512 B K (i 0) (i 1) :=
  (v19_eq m ρ c).trans (funext fun i => (congrArg _ (eta2 (m := 2048) (n := 2048) i)).trans ((unk_at (W := mm 512 B (layK K))
    (fun a b => congrFun (((W11_of m ρ c main_v7 (by decide)).trans ((W10_of m ρ c main_v7 (by decide)).trans ((W9_of m ρ c main_v7 (by decide)).trans ((W8_of m ρ c main_v7 (by decide)).trans ((W7_of m ρ c main_v7 (by decide)).trans (W6_of m ρ c main_v7 (by decide))))))).trans (v7_eq m ρ c h1 h3)) (ix2 a b)) (i 0) (i 1)).trans (mm_layK B K _ (i 1).isLt)))

include h2 h4 in
theorem out2 : (W12 m ρ c main_v8 : FVec Ideal S2048x512 .f32) = fun i => ∑ k : Fin 1536, D (i 0) (uq k) * Q (i 1) k :=
  (((W12_of m ρ c main_v8 (by decide)).trans ((W11_of m ρ c main_v8 (by decide)).trans ((W10_of m ρ c main_v8 (by decide)).trans ((W9_of m ρ c main_v8 (by decide)).trans ((W8_of m ρ c main_v8 (by decide)).trans (W7_of m ρ c main_v8 (by decide))))))).trans (v8_eq m ρ c h2 h4)).trans (funext fun i => mm_trQ D Q (i 0) (i 1))

include h0 h4 in
theorem out3 : (W12 m ρ c main_v22 : FVec Ideal S512x1536 .bf16) = fun i => mm 2048 (tr A) D (i 0) (uq (i 1)) :=
  (v22_eq m ρ c).trans (funext fun i => (congrArg _ (eta2 (m := 512) (n := 1536) i)).trans ((unqw_at (W := mm 2048 (tr A) D)
    (fun a b => congrFun (((W11_of m ρ c main_v10 (by decide)).trans ((W10_of m ρ c main_v10 (by decide)).trans (W9_of m ρ c main_v10 (by decide)))).trans (v10_eq m ρ c h0 h4)) (ix2 a b)) (i 0) (i 1)).trans (rfl)))

include h3 h5 in
theorem out4 : (W12 m ρ c main_v11 : FVec Ideal S2048x512 .f32) = fun i => ∑ k : Fin 2048, E (i 0) (ki k) * K (i 1) k :=
  (((W12_of m ρ c main_v11 (by decide)).trans ((W11_of m ρ c main_v11 (by decide)).trans (W10_of m ρ c main_v11 (by decide)))).trans (v11_eq m ρ c h3 h5)).trans (funext fun i => mm_trK E K (i 0) (i 1))

include h1 h5 in
theorem out5 : (W12 m ρ c main_v25 : FVec Ideal S512x2048 .bf16) = fun i => mm 2048 (tr B) E (i 0) (ki (i 1)) :=
  (v25_eq m ρ c).trans (funext fun i => (congrArg _ (eta2 (m := 512) (n := 2048) i)).trans ((unkw_at (W := mm 2048 (tr B) E)
    (fun a b => congrFun (v13_eq m ρ c h1 h5) (ix2 a b)) (i 0) (i 1)).trans (rfl)))

end Cert.KernelUpIdeal.Up

namespace Cert.ReferenceUpIdeal.Up

open Idealize.ShloMosaic Idealize.ShloMosaic.TcCoe Idealize.SL.Sem
open Cert.ReferenceUpIdeal Cert.ReferenceUpIdeal.Gen Cert.ReferenceUpIdeal.Value Cert.Up Cert.Mat

variable (X0 : FVec Ideal S2048x512 .bf16)
variable (X1 : FVec Ideal S2048x512 .bf16)
variable (X2 : FVec Ideal S512x1536 .bf16)
variable (X3 : FVec Ideal S512x2048 .bf16)
variable (X4 : FVec Ideal S2048x2048 .bf16)
variable (X5 : FVec Ideal S2048x2048 .bf16)
variable {A B Q K D E : ℕ → ℕ → EReal}
variable (h0 : ∀ a b, X0 (ix2 a b) = A a b)
variable (h1 : ∀ a b, X1 (ix2 a b) = B a b)
variable (h2 : ∀ a b, X2 (ix2 a b) = Q a b)
variable (h3 : ∀ a b, X3 (ix2 a b) = K a b)
variable (h4 : ∀ a b, X4 (ix2 a b) = D a b)
variable (h5 : ∀ a b, X5 (ix2 a b) = E a b)

/-- The reference's product of the queries. -/
def R0 : FVec Ideal S2048x1536 .f32 := Host.dotGeneral dot_S2048x512_S512x1536_S2048x1536_1_0_0_1_n_n none (extf .f32 X0 bitsLt_bf16_f32) (extf .f32 X2 bitsLt_bf16_f32)
include h0 h2 in
theorem R0_eq : R0 X0 X2 = fun i => mm 512 A Q (i 0) (i 1) := by
  funext i
  have e (a : Fin 2048) (b : Fin 1536) : R0 X0 X2 (ix2 a b) = ∑ k : Fin 512, (X0 (ix2 a k) * X2 (ix2 k b) : EReal) := by
    pointwise [R0]
  exact (congrArg _ (eta2 (m := 2048) (n := 1536) i)).trans ((e (i 0) (i 1)).trans
    (Finset.sum_congr rfl fun k _ => congrArg₂ _ (h0 (i 0) k) (h2 k (i 1))))

/-- The reference's product of keys and values. -/
def R1 : FVec Ideal S2048x2048 .f32 := Host.dotGeneral dot_S2048x512_S512x2048_S2048x2048_1_0_0_1_n_n none (extf .f32 X1 bitsLt_bf16_f32) (extf .f32 X3 bitsLt_bf16_f32)
include h1 h3 in
theorem R1_eq : R1 X1 X3 = fun i => mm 512 B K (i 0) (i 1) := by
  funext i
  have e (a : Fin 2048) (b : Fin 2048) : R1 X1 X3 (ix2 a b) = ∑ k : Fin 512, (X1 (ix2 a k) * X3 (ix2 k b) : EReal) := by
    pointwise [R1]
  exact (congrArg _ (eta2 (m := 2048) (n := 2048) i)).trans ((e (i 0) (i 1)).trans
    (Finset.sum_congr rfl fun k _ => congrArg₂ _ (h1 (i 0) k) (h3 k (i 1))))

/-- The reference's gradient of the queries' latents. -/
def R2 : FVec Ideal S2048x512 .f32 := Host.dotGeneral dot_S2048x1536_S512x1536_S2048x512_1_1_0_0_n_n none (shapeCast _ (extractStridedSlice S2048x8x192 ![0, 0, 0] (shapeCast _ (extf .f32 X4 bitsLt_bf16_f32) shapeCasts_S2048x2048_S2048x8x256) slices_S2048x8x256_S2048x8x192_0_0_0) shapeCasts_S2048x8x192_S2048x1536) (extf .f32 X2 bitsLt_bf16_f32)
include h2 h4 in
theorem R2_eq : R2 X2 X4 = fun i => ∑ k : Fin 1536, D (i 0) (uq k) * Q (i 1) k := by
  funext i
  have e (a : Fin 2048) (b : Fin 512) : R2 X2 X4 (ix2 a b) = ∑ k : Fin 1536, (X4 (ix2 a ⟨uq k, by simp only [uq]; omega⟩) * X2 (ix2 b k) : EReal) := by
    pointwise [R2]
    rfl
  exact (congrArg _ (eta2 (m := 2048) (n := 512) i)).trans ((e (i 0) (i 1)).trans
    (Finset.sum_congr rfl fun k _ => congrArg₂ _ (h4 (i 0) _) (h2 (i 1) k)))

/-- The reference's gradient of the queries' weights. -/
def R3 : FVec Ideal S512x1536 .bf16 := truncf .bf16 (transpose S512x1536 [1, 0] (Host.dotGeneral dot_S2048x1536_S2048x512_S1536x512_0_0_1_1_n_n none (shapeCast _ (extractStridedSlice S2048x8x192 ![0, 0, 0] (shapeCast _ (extf .f32 X4 bitsLt_bf16_f32) shapeCasts_S2048x2048_S2048x8x256) slices_S2048x8x256_S2048x8x192_0_0_0) shapeCasts_S2048x8x192_S2048x1536) (extf .f32 X0 bitsLt_bf16_f32)) transposes_S1536x512_S512x1536_1_0) bitsLt_bf16_f32
include h0 h4 in
theorem R3_eq : R3 X0 X4 = fun i => mm 2048 (tr A) D (i 0) (uq (i 1)) := by
  funext i
  have e (a : Fin 512) (b : Fin 1536) : R3 X0 X4 (ix2 a b) = ∑ k : Fin 2048, (X4 (ix2 k ⟨uq b, by simp only [uq]; omega⟩) * X0 (ix2 k a) : EReal) := by
    pointwise [R3]
    rfl
  exact (congrArg _ (eta2 (m := 512) (n := 1536) i)).trans ((e (i 0) (i 1)).trans
    (Finset.sum_congr rfl fun k _ => (congrArg₂ _ (h4 k _) (h0 k (i 0))).trans (mul_comm _ _)))

/-- The reference's gradient of the keys' and values' latents. -/
def R4 : FVec Ideal S2048x512 .f32 := Host.dotGeneral dot_S2048x2048_S512x2048_S2048x512_1_1_0_0_n_n none (shapeCast _ (transpose S2048x8x2x128 [0, 2, 1, 3] (shapeCast _ (extf .f32 X5 bitsLt_bf16_f32) shapeCasts_S2048x2048_S2048x2x8x128) transposes_S2048x2x8x128_S2048x8x2x128_0_2_1_3) shapeCasts_S2048x8x2x128_S2048x2048) (extf .f32 X3 bitsLt_bf16_f32)
include h3 h5 in
theorem R4_eq : R4 X3 X5 = fun i => ∑ k : Fin 2048, E (i 0) (ki k) * K (i 1) k := by
  funext i
  have e (a : Fin 2048) (b : Fin 512) : R4 X3 X5 (ix2 a b) = ∑ k : Fin 2048, (X5 (ix2 a ⟨ki k, by simp only [ki]; omega⟩) * X3 (ix2 b k) : EReal) := by
    pointwise [R4]
    refine Finset.sum_congr rfl fun k _ => congrArg₂ _ (congrArg (fun b => X5 (ix2 a b)) (Fin.ext ?_)) rfl
    simp only [ki]; omega
  exact (congrArg _ (eta2 (m := 2048) (n := 512) i)).trans ((e (i 0) (i 1)).trans
    (Finset.sum_congr rfl fun k _ => congrArg₂ _ (h5 (i 0) _) (h3 (i 1) k)))

/-- The reference's gradient of the keys' and values' weights. -/
def R5 : FVec Ideal S512x2048 .bf16 := truncf .bf16 (transpose S512x2048 [1, 0] (Host.dotGeneral dot_S2048x2048_S2048x512_S2048x512_0_0_1_1_n_n none (shapeCast _ (transpose S2048x8x2x128 [0, 2, 1, 3] (shapeCast _ (extf .f32 X5 bitsLt_bf16_f32) shapeCasts_S2048x2048_S2048x2x8x128) transposes_S2048x2x8x128_S2048x8x2x128_0_2_1_3) shapeCasts_S2048x8x2x128_S2048x2048) (extf .f32 X1 bitsLt_bf16_f32)) transposes_S2048x512_S512x2048_1_0) bitsLt_bf16_f32
include h1 h5 in
theorem R5_eq : R5 X1 X5 = fun i => mm 2048 (tr B) E (i 0) (ki (i 1)) := by
  funext i
  have e (a : Fin 512) (b : Fin 2048) : R5 X1 X5 (ix2 a b) = ∑ k : Fin 2048, (X5 (ix2 k ⟨ki b, by simp only [ki]; omega⟩) * X1 (ix2 k a) : EReal) := by
    pointwise [R5]
    refine Finset.sum_congr rfl fun k _ => congrArg₂ _ (congrArg (fun b => X5 (ix2 k b)) (Fin.ext ?_)) rfl
    simp only [ki]; omega
  exact (congrArg _ (eta2 (m := 512) (n := 2048) i)).trans ((e (i 0) (i 1)).trans
    (Finset.sum_congr rfl fun k _ => (congrArg₂ _ (h5 k _) (h1 k (i 0))).trans (mul_comm _ _)))

end Cert.ReferenceUpIdeal.Up

namespace Cert.Up

open Idealize.ShloMosaic Idealize.ShloMosaic.TcCoe Idealize.SL.Sem
open Cert.Up Cert.Mat

theorem algebraic : Cert.algebraic_KernelUpIdeal_ReferenceUpIdeal := by
  intro m ρ m' ρ' _ hag
  let A (c : Dev Cert.KernelUpIdeal.nD) : ℕ → ℕ → EReal := valOf (m := 2048) (n := 512) (m ((c.tc : Thread Cert.KernelUpIdeal.nD Cert.KernelUpIdeal.τ).loc Cert.KernelUpIdeal.main_arg0))
  let B (c : Dev Cert.KernelUpIdeal.nD) : ℕ → ℕ → EReal := valOf (m := 2048) (n := 512) (m ((c.tc : Thread Cert.KernelUpIdeal.nD Cert.KernelUpIdeal.τ).loc Cert.KernelUpIdeal.main_arg1))
  let Q (c : Dev Cert.KernelUpIdeal.nD) : ℕ → ℕ → EReal := valOf (m := 512) (n := 1536) (m ((c.tc : Thread Cert.KernelUpIdeal.nD Cert.KernelUpIdeal.τ).loc Cert.KernelUpIdeal.main_arg2))
  let K (c : Dev Cert.KernelUpIdeal.nD) : ℕ → ℕ → EReal := valOf (m := 512) (n := 2048) (m ((c.tc : Thread Cert.KernelUpIdeal.nD Cert.KernelUpIdeal.τ).loc Cert.KernelUpIdeal.main_arg3))
  let D (c : Dev Cert.KernelUpIdeal.nD) : ℕ → ℕ → EReal := valOf (m := 2048) (n := 2048) (m ((c.tc : Thread Cert.KernelUpIdeal.nD Cert.KernelUpIdeal.τ).loc Cert.KernelUpIdeal.main_arg4))
  let E (c : Dev Cert.KernelUpIdeal.nD) : ℕ → ℕ → EReal := valOf (m := 2048) (n := 2048) (m ((c.tc : Thread Cert.KernelUpIdeal.nD Cert.KernelUpIdeal.τ).loc Cert.KernelUpIdeal.main_arg5))
  have h0 := fun (c : Dev Cert.KernelUpIdeal.nD) => valOf_at (m := 2048) (n := 512) (m ((c.tc : Thread Cert.KernelUpIdeal.nD Cert.KernelUpIdeal.τ).loc Cert.KernelUpIdeal.main_arg0))
  have h1 := fun (c : Dev Cert.KernelUpIdeal.nD) => valOf_at (m := 2048) (n := 512) (m ((c.tc : Thread Cert.KernelUpIdeal.nD Cert.KernelUpIdeal.τ).loc Cert.KernelUpIdeal.main_arg1))
  have h2 := fun (c : Dev Cert.KernelUpIdeal.nD) => valOf_at (m := 512) (n := 1536) (m ((c.tc : Thread Cert.KernelUpIdeal.nD Cert.KernelUpIdeal.τ).loc Cert.KernelUpIdeal.main_arg2))
  have h3 := fun (c : Dev Cert.KernelUpIdeal.nD) => valOf_at (m := 512) (n := 2048) (m ((c.tc : Thread Cert.KernelUpIdeal.nD Cert.KernelUpIdeal.τ).loc Cert.KernelUpIdeal.main_arg3))
  have h4 := fun (c : Dev Cert.KernelUpIdeal.nD) => valOf_at (m := 2048) (n := 2048) (m ((c.tc : Thread Cert.KernelUpIdeal.nD Cert.KernelUpIdeal.τ).loc Cert.KernelUpIdeal.main_arg4))
  have h5 := fun (c : Dev Cert.KernelUpIdeal.nD) => valOf_at (m := 2048) (n := 2048) (m ((c.tc : Thread Cert.KernelUpIdeal.nD Cert.KernelUpIdeal.τ).loc Cert.KernelUpIdeal.main_arg5))
  refine ⟨fun c => (fun i => mm 512 (A c) (Q c) (i 0) (i 1) : Vec Ideal Cert.KernelUpIdeal.S2048x1536 .f32),
    fun c => (fun i => mm 512 (B c) (K c) (i 0) (i 1) : Vec Ideal Cert.KernelUpIdeal.S2048x2048 .f32),
    fun c => (fun i => ∑ k : Fin 1536, (D c) (i 0) (uq k) * (Q c) (i 1) k : Vec Ideal Cert.KernelUpIdeal.S2048x512 .f32),
    fun c => (fun i => mm 2048 (tr (A c)) (D c) (i 0) (uq (i 1)) : Vec Ideal Cert.KernelUpIdeal.S512x1536 .bf16),
    fun c => (fun i => ∑ k : Fin 2048, (E c) (i 0) (ki k) * (K c) (i 1) k : Vec Ideal Cert.KernelUpIdeal.S2048x512 .f32),
    fun c => (fun i => mm 2048 (tr (B c)) (E c) (i 0) (ki (i 1)) : Vec Ideal Cert.KernelUpIdeal.S512x2048 .bf16),
    (θ_run _ _ _).mono (fun r h c => ?_) (Cert.KernelUpIdeal.Up.run m ρ),
    (θ_run _ _ _).mono (fun r h c => ?_) (Cert.ReferenceUpIdeal.Value.run m' ρ')⟩
  · obtain ⟨e0, e1, e2, e3, e4, e5, ha⟩ := h c
    exact ⟨e0.trans (Cert.KernelUpIdeal.Up.out0 m ρ c (h0 c) (h2 c)),
      e1.trans (Cert.KernelUpIdeal.Up.out1 m ρ c (h1 c) (h3 c)),
      e2.trans (Cert.KernelUpIdeal.Up.out2 m ρ c (h2 c) (h4 c)),
      e3.trans (Cert.KernelUpIdeal.Up.out3 m ρ c (h0 c) (h4 c)),
      e4.trans (Cert.KernelUpIdeal.Up.out4 m ρ c (h3 c) (h5 c)),
      e5.trans (Cert.KernelUpIdeal.Up.out5 m ρ c (h1 c) (h5 c)), ha⟩
  · obtain ⟨e0, e1, e2, e3, e4, e5, ha⟩ := h c
    obtain ⟨a0, a1, a2, a3, a4, a5⟩ := hag c
    have g0 := fun a b => (congrFun a0 (ix2 a b)).trans (h0 c a b)
    have g1 := fun a b => (congrFun a1 (ix2 a b)).trans (h1 c a b)
    have g2 := fun a b => (congrFun a2 (ix2 a b)).trans (h2 c a b)
    have g3 := fun a b => (congrFun a3 (ix2 a b)).trans (h3 c a b)
    have g4 := fun a b => (congrFun a4 (ix2 a b)).trans (h4 c a b)
    have g5 := fun a b => (congrFun a5 (ix2 a b)).trans (h5 c a b)
    exact ⟨e0.trans (Cert.ReferenceUpIdeal.Up.R0_eq _ _ g0 g2),
      e1.trans (Cert.ReferenceUpIdeal.Up.R1_eq _ _ g1 g3),
      e2.trans (Cert.ReferenceUpIdeal.Up.R2_eq _ _ g2 g4),
      e3.trans (Cert.ReferenceUpIdeal.Up.R3_eq _ _ g0 g4),
      e4.trans (Cert.ReferenceUpIdeal.Up.R4_eq _ _ g3 g5),
      e5.trans (Cert.ReferenceUpIdeal.Up.R5_eq _ _ g1 g5), ha⟩

end Cert.Up
-- ==== Proof.Conv.Run.lean ====
module

public import proofs.«01_k».proof.Proof.Gen.KernelConvIdeal.Frame

@[expose] public section

/-! The run of the kernel with its results: the launch of the generated frame, with the outputs read as well. -/

set_option maxRecDepth 16384

noncomputable section

namespace Cert.KernelConvIdeal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelConvIdeal Cert.KernelConvIdeal.Gen

variable {F : FTy → Type} [FloatOps F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- The whole program runs, and ends with the calls' results, as the launch's fold leaves them, and the arguments as they were. -/
theorem run : θ_run defs (onTc (τ := τ) (main (F := F))) ⟨m, fun _ => 0, ρ⟩ (fun r => ∀ c : Dev nD,
      r.2.mem ((c.tc : Thread nD τ).loc main_v0) = W2 m ρ c main_v0
      ∧ r.2.mem ((c.tc : Thread nD τ).loc main_v1_0) = W2 m ρ c main_v1_0
      ∧ r.2.mem ((c.tc : Thread nD τ).loc main_v1_1) = W2 m ρ c main_v1_1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ => fun c =>
      ⟨h c _ (mem_uc main_v0 (by decide)),
       h c _ (mem_uc main_v1_0 (by decide)),
       h c _ (mem_uc main_v1_1 (by decide)),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c)⟩)

end Cert.KernelConvIdeal.Conv
-- ==== Proof.Conv.RefRun.lean ====
module

public import proofs.«01_k».proof.Proof.Gen.ReferenceConvIdeal
public import Idealize.ShloMosaic.Lib.StableHlo.Run

@[expose] public section

/-! The convolution's reference: its values by name, and its run, which leaves them in the results. -/

noncomputable section

namespace Cert.ReferenceConvIdeal.Conv

open Cert.ReferenceConvIdeal Cert.ReferenceConvIdeal.Gen Idealize.ShloMosaic Idealize.ShloMosaic.TcCoe Idealize.SL.Sem Idealize.ShloMosaic.StableHlo

variable {F : FTy → Type} [FloatOps F]

variable (X0 : FVec F S2048x9216 .f32) (X1 : FVec F S4x3072 .f32) (X2 : FVec F S2048x3072 .f32)

/-- The columns that are convolved. -/
def uT : FVec F S2048x3072 .f32 := extractStridedSlice S2048x3072 ![0, 1024] X0 slices_S2048x9216_S2048x3072_0_1024
/-- The columns, one row late. -/
def late1T (U : FVec F S2048x3072 .f32) : FVec F S2048x3072 .f32 := concatenate S2048x3072 0 [⟨S1x3072, (broadcastInDim S1x3072 ![] bcast_S_S1x3072 (constant S_ .f32 0x00000000#32))⟩, ⟨S2047x3072, (extractStridedSlice S2047x3072 ![0, 0] U slices_S2048x3072_S2047x3072_0_0)⟩] concatenates_S1x3072_S2047x3072_S2048x3072_d0
/-- The columns, two rows late. -/
def late2T (U : FVec F S2048x3072 .f32) : FVec F S2048x3072 .f32 := concatenate S2048x3072 0 [⟨S2x3072, (broadcastInDim S2x3072 ![] bcast_S_S2x3072 (constant S_ .f32 0x00000000#32))⟩, ⟨S2046x3072, (extractStridedSlice S2046x3072 ![0, 0] U slices_S2048x3072_S2046x3072_0_0)⟩] concatenates_S2x3072_S2046x3072_S2048x3072_d0
/-- The columns, three rows late. -/
def late3T (U : FVec F S2048x3072 .f32) : FVec F S2048x3072 .f32 := concatenate S2048x3072 0 [⟨S3x3072, (broadcastInDim S3x3072 ![] bcast_S_S3x3072 (constant S_ .f32 0x00000000#32))⟩, ⟨S2045x3072, (extractStridedSlice S2045x3072 ![0, 0] U slices_S2048x3072_S2045x3072_0_0)⟩] concatenates_S3x3072_S2045x3072_S2048x3072_d0
/-- Tap 0, for every row. -/
def w0T : FVec F S2048x3072 .f32 := broadcastInDim S2048x3072 ![0, 1] bcast_S1x3072_S2048x3072_0_1 (extractStridedSlice S1x3072 ![0, 0] X1 slices_S4x3072_S1x3072_0_0)
/-- Tap 1, for every row. -/
def w1T : FVec F S2048x3072 .f32 := broadcastInDim S2048x3072 ![0, 1] bcast_S1x3072_S2048x3072_0_1 (extractStridedSlice S1x3072 ![1, 0] X1 slices_S4x3072_S1x3072_1_0)
/-- Tap 2, for every row. -/
def w2T : FVec F S2048x3072 .f32 := broadcastInDim S2048x3072 ![0, 1] bcast_S1x3072_S2048x3072_0_1 (extractStridedSlice S1x3072 ![2, 0] X1 slices_S4x3072_S1x3072_2_0)
/-- Tap 3, for every row. -/
def w3T : FVec F S2048x3072 .f32 := broadcastInDim S2048x3072 ![0, 1] bcast_S1x3072_S2048x3072_0_1 (extractStridedSlice S1x3072 ![3, 0] X1 slices_S4x3072_S1x3072_3_0)
/-- The convolution. -/
def preT : FVec F S2048x3072 .f32 := addf (addf (addf (mulf (late3T (uT X0)) (w0T X1)) (mulf (late2T (uT X0)) (w1T X1))) (mulf (late1T (uT X0)) (w2T X1))) (mulf (uT X0) (w3T X1))
/-- The logistic. -/
def sgT (P : FVec F S2048x3072 .f32) : FVec F S2048x3072 .f32 := Host.divf (broadcastInDim S2048x3072 ![] bcast_S_S2048x3072 (constant S_ .f32 0x3F800000#32)) (addf (broadcastInDim S2048x3072 ![] bcast_S_S2048x3072 (constant S_ .f32 0x3F800000#32)) (Host.exp (Host.negf P)))
/-- The convolution's gradient. -/
def dpT (P S : FVec F S2048x3072 .f32) : FVec F S2048x3072 .f32 := addf (mulf X2 S) (mulf (mulf P X2) (mulf S (subf (broadcastInDim S2048x3072 ![] bcast_S_S2048x3072 (constant S_ .f32 0x3F800000#32)) S)))
/-- The columns' gradient. -/
def duT (Q : FVec F S2048x3072 .f32) : FVec F S2048x3072 .bf16 := truncf .bf16 (addf (addf (addf (mulf Q (w3T X1)) (pad S2048x3072 ![0, 0] ![1, 0] ![0, 0] (extractStridedSlice S2047x3072 ![1, 0] (mulf Q (w2T X1)) slices_S2048x3072_S2047x3072_1_0) (constant S_ .f32 0x00000000#32) pads_S2047x3072_S2048x3072_010_000 h_S_)) (pad S2048x3072 ![0, 0] ![2, 0] ![0, 0] (extractStridedSlice S2046x3072 ![2, 0] (mulf Q (w1T X1)) slices_S2048x3072_S2046x3072_2_0) (constant S_ .f32 0x00000000#32) pads_S2046x3072_S2048x3072_020_000 h_S_)) (pad S2048x3072 ![0, 0] ![3, 0] ![0, 0] (extractStridedSlice S2045x3072 ![3, 0] (mulf Q (w0T X1)) slices_S2048x3072_S2045x3072_3_0) (constant S_ .f32 0x00000000#32) pads_S2045x3072_S2048x3072_030_000 h_S_)) bitsLt_bf16_f32
/-- The taps' gradient, from the columns and from those that are late. -/
def dwT (Q U A B C : FVec F S2048x3072 .f32) : FVec F S4x3072 .f32 := addf (addf (addf (pad S4x3072 ![3, 0] ![0, 0] ![0, 0] (shapeCast S1x3072 (Host.reduceAdd (mulf U Q) (constant S_ .f32 0x00000000#32) reducesTo_S2048x3072_S3072_d0 h_S_) shapeCasts_S3072_S1x3072) (constant S_ .f32 0x00000000#32) pads_S1x3072_S4x3072_300_000 h_S_) (pad S4x3072 ![2, 0] ![1, 0] ![0, 0] (shapeCast S1x3072 (Host.reduceAdd (mulf A Q) (constant S_ .f32 0x00000000#32) reducesTo_S2048x3072_S3072_d0 h_S_) shapeCasts_S3072_S1x3072) (constant S_ .f32 0x00000000#32) pads_S1x3072_S4x3072_210_000 h_S_)) (pad S4x3072 ![1, 0] ![2, 0] ![0, 0] (shapeCast S1x3072 (Host.reduceAdd (mulf B Q) (constant S_ .f32 0x00000000#32) reducesTo_S2048x3072_S3072_d0 h_S_) shapeCasts_S3072_S1x3072) (constant S_ .f32 0x00000000#32) pads_S1x3072_S4x3072_120_000 h_S_)) (pad S4x3072 ![0, 0] ![3, 0] ![0, 0] (shapeCast S1x3072 (Host.reduceAdd (mulf C Q) (constant S_ .f32 0x00000000#32) reducesTo_S2048x3072_S3072_d0 h_S_) shapeCasts_S3072_S1x3072) (constant S_ .f32 0x00000000#32) pads_S1x3072_S4x3072_030_000 h_S_)

/-- The reference's convolution through its activation. -/
def yT : FVec F S2048x3072 .f32 := mulf (preT X0 X1) (sgT (preT X0 X1))
/-- The reference's gradient of the convolution. -/
def dprT : FVec F S2048x3072 .f32 := dpT X2 (preT X0 X1) (sgT (preT X0 X1))
/-- The reference's gradient of the taps. -/
def dwR : FVec F S4x3072 .f32 := dwT (dprT X0 X1 X2) (uT X0) (late1T (uT X0)) (late2T (uT X0)) (late3T (uT X0))

/-- The function of the operation that writes `main_v3`. -/
def fn_main_v3 : (⟨S3x3072, .f32⟩ : BufTy).Contents (Elt F) → (⟨S2045x3072, .f32⟩ : BufTy).Contents (Elt F) → (⟨S2048x3072, .f32⟩ : BufTy).Contents (Elt F) :=
  (fun a b => concatenate S2048x3072 0 [⟨S3x3072, a⟩, ⟨S2045x3072, b⟩] concatenates_S3x3072_S2045x3072_S2048x3072_d0)

/-- The function of the operation that writes `main_v10`. -/
def fn_main_v10 : (⟨S2x3072, .f32⟩ : BufTy).Contents (Elt F) → (⟨S2046x3072, .f32⟩ : BufTy).Contents (Elt F) → (⟨S2048x3072, .f32⟩ : BufTy).Contents (Elt F) :=
  (fun a b => concatenate S2048x3072 0 [⟨S2x3072, a⟩, ⟨S2046x3072, b⟩] concatenates_S2x3072_S2046x3072_S2048x3072_d0)

/-- The function of the operation that writes `main_v18`. -/
def fn_main_v18 : (⟨S1x3072, .f32⟩ : BufTy).Contents (Elt F) → (⟨S2047x3072, .f32⟩ : BufTy).Contents (Elt F) → (⟨S2048x3072, .f32⟩ : BufTy).Contents (Elt F) :=
  (fun a b => concatenate S2048x3072 0 [⟨S1x3072, a⟩, ⟨S2047x3072, b⟩] concatenates_S1x3072_S2047x3072_S2048x3072_d0)

/-- @main's 102 operations, in order (a called function's operations stand in its call's place, spelt `TRef.…`). -/
abbrev ops : List (HloOp τ sig (Elt F)) :=
  [ unary main_arg0 main_v0 ((extractStridedSlice S2048x3072 ![0, 1024] · slices_S2048x9216_S2048x3072_0_1024) : (⟨S2048x9216, .f32⟩ : BufTy).Contents (Elt F) → (⟨S2048x3072, .f32⟩ : BufTy).Contents (Elt F)),
    nullary main_cst (constant S_ .f32 0x00000000#32),
    unary main_cst main_v1 (broadcastInDim S3x3072 ![] bcast_S_S3x3072 : (⟨S_, .f32⟩ : BufTy).Contents (Elt F) → (⟨S3x3072, .f32⟩ : BufTy).Contents (Elt F)),
    unary main_v0 main_v2 ((extractStridedSlice S2045x3072 ![0, 0] · slices_S2048x3072_S2045x3072_0_0) : (⟨S2048x3072, .f32⟩ : BufTy).Contents (Elt F) → (⟨S2045x3072, .f32⟩ : BufTy).Contents (Elt F)),
    binary main_v1 main_v2 main_v3 (fn_main_v3 (F := F)),
    nullary main_cst_0 (constant S_ .f32 0x00000000#32),
    unary main_cst_0 main_v4 (broadcastInDim S3x3072 ![] bcast_S_S3x3072 : (⟨S_, .f32⟩ : BufTy).Contents (Elt F) → (⟨S3x3072, .f32⟩ : BufTy).Contents (Elt F)),
    unary main_arg1 main_v5 ((extractStridedSlice S1x3072 ![0, 0] · slices_S4x3072_S1x3072_0_0) : (⟨S4x3072, .f32⟩ : BufTy).Contents (Elt F) → (⟨S1x3072, .f32⟩ : BufTy).Contents (Elt F)),
    unary main_v5 main_v6 (broadcastInDim S2048x3072 ![0, 1] bcast_S1x3072_S2048x3072_0_1 : (⟨S1x3072, .f32⟩ : BufTy).Contents (Elt F) → (⟨S2048x3072, .f32⟩ : BufTy).Contents (Elt F)),
    binary main_v3 main_v6 main_v7 (mulf : (⟨S2048x3072, .f32⟩ : BufTy).Contents (Elt F) → (⟨S2048x3072, .f32⟩ : BufTy).Contents (Elt F) → (⟨S2048x3072, .f32⟩ : BufTy).Contents (Elt F)),
    nullary main_cst_1 (constant S_ .f32 0x00000000#32),
    unary main_cst_1 main_v8 (broadcastInDim S2x3072 ![] bcast_S_S2x3072 : (⟨S_, .f32⟩ : BufTy).Contents (Elt F) → (⟨S2x3072, .f32⟩ : BufTy).Contents (Elt F)),
    unary main_v0 main_v9 ((extractStridedSlice S2046x3072 ![0, 0] · slices_S2048x3072_S2046x3072_0_0) : (⟨S2048x3072, .f32⟩ : BufTy).Contents (Elt F) → (⟨S2046x3072, .f32⟩ : BufTy).Contents (Elt F)),
    binary main_v8 main_v9 main_v10 (fn_main_v10 (F := F)),
    nullary main_cst_2 (constant S_ .f32 0x00000000#32),
    unary main_cst_2 main_v11 (broadcastInDim S2x3072 ![] bcast_S_S2x3072 : (⟨S_, .f32⟩ : BufTy).Contents (Elt F) → (⟨S2x3072, .f32⟩ : BufTy).Contents (Elt F)),
    unary main_arg1 main_v12 ((extractStridedSlice S1x3072 ![1, 0] · slices_S4x3072_S1x3072_1_0) : (⟨S4x3072, .f32⟩ : BufTy).Contents (Elt F) → (⟨S1x3072, .f32⟩ : BufTy).Contents (Elt F)),
    unary main_v12 main_v13 (broadcastInDim S2048x3072 ![0, 1] bcast_S1x3072_S2048x3072_0_1 : (⟨S1x3072, .f32⟩ : BufTy).Contents (Elt F) → (⟨S2048x3072, .f32⟩ : BufTy).Contents (Elt F)),
    binary main_v10 main_v13 main_v14 (mulf : (⟨S2048x3072, .f32⟩ : BufTy).Contents (Elt F) → (⟨S2048x3072, .f32⟩ : BufTy).Contents (Elt F) → (⟨S2048x3072, .f32⟩ : BufTy).Contents (Elt F)),
    binary main_v7 main_v14 main_v15 (addf : (⟨S2048x3072, .f32⟩ : BufTy).Contents (Elt F) → (⟨S2048x3072, .f32⟩ : BufTy).Contents (Elt F) → (⟨S2048x3072, .f32⟩ : BufTy).Contents (Elt F)),
    nullary main_cst_3 (constant S_ .f32 0x00000000#32),
    unary main_cst_3 main_v16 (broadcastInDim S1x3072 ![] bcast_S_S1x3072 : (⟨S_, .f32⟩ : BufTy).Contents (Elt F) → (⟨S1x3072, .f32⟩ : BufTy).Contents (Elt F)),
    unary main_v0 main_v17 ((extractStridedSlice S2047x3072 ![0, 0] · slices_S2048x3072_S2047x3072_0_0) : (⟨S2048x3072, .f32⟩ : BufTy).Contents (Elt F) → (⟨S2047x3072, .f32⟩ : BufTy).Contents (Elt F)),
    binary main_v16 main_v17 main_v18 (fn_main_v18 (F := F)),
    nullary main_cst_4 (constant S_ .f32 0x00000000#32),
    unary main_cst_4 main_v19 (broadcastInDim S1x3072 ![] bcast_S_S1x3072 : (⟨S_, .f32⟩ : BufTy).Contents (Elt F) → (⟨S1x3072, .f32⟩ : BufTy).Contents (Elt F)),
    unary main_arg1 main_v20 ((extractStridedSlice S1x3072 ![2, 0] · slices_S4x3072_S1x3072_2_0) : (⟨S4x3072, .f32⟩ : BufTy).Contents (Elt F) → (⟨S1x3072, .f32⟩ : BufTy).Contents (Elt F)),
    unary main_v20 main_v21 (broadcastInDim S2048x3072 ![0, 1] bcast_S1x3072_S2048x3072_0_1 : (⟨S1x3072, .f32⟩ : BufTy).Contents (Elt F) → (⟨S2048x3072, .f32⟩ : BufTy).Contents (Elt F)),
    binary main_v18 main_v21 main_v22 (mulf : (⟨S2048x3072, .f32⟩ : BufTy).Contents (Elt F) → (⟨S2048x3072, .f32⟩ : BufTy).Contents (Elt F) → (⟨S2048x3072, .f32⟩ : BufTy).Contents (Elt F)),
    binary main_v15 main_v22 main_v23 (addf : (⟨S2048x3072, .f32⟩ : BufTy).Contents (Elt F) → (⟨S2048x3072, .f32⟩ : BufTy).Contents (Elt F) → (⟨S2048x3072, .f32⟩ : BufTy).Contents (Elt F)),
    unary main_arg1 main_v24 ((extractStridedSlice S1x3072 ![3, 0] · slices_S4x3072_S1x3072_3_0) : (⟨S4x3072, .f32⟩ : BufTy).Contents (Elt F) → (⟨S1x3072, .f32⟩ : BufTy).Contents (Elt F)),
    unary main_v24 main_v25 (broadcastInDim S2048x3072 ![0, 1] bcast_S1x3072_S2048x3072_0_1 : (⟨S1x3072, .f32⟩ : BufTy).Contents (Elt F) → (⟨S2048x3072, .f32⟩ : BufTy).Contents (Elt F)),
    binary main_v0 main_v25 main_v26 (mulf : (⟨S2048x3072, .f32⟩ : BufTy).Contents (Elt F) → (⟨S2048x3072, .f32⟩ : BufTy).Contents (Elt F) → (⟨S2048x3072, .f32⟩ : BufTy).Contents (Elt F)),
    binary main_v23 main_v26 main_v27 (addf : (⟨S2048x3072, .f32⟩ : BufTy).Contents (Elt F) → (⟨S2048x3072, .f32⟩ : BufTy).Contents (Elt F) → (⟨S2048x3072, .f32⟩ : BufTy).Contents (Elt F)),
    TRef.unary (TRef.of (T := ⟨S2048x3072, .f32⟩) main_v27) (TRef.of (T := ⟨S2048x3072, .f32⟩) main_call0_v0) Host.negf,
    TRef.unary (TRef.of (T := ⟨S2048x3072, .f32⟩) main_call0_v0) (TRef.of (T := ⟨S2048x3072, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S2048x3072, .f32⟩) main_call0_v2) (broadcastInDim S2048x3072 ![] bcast_S_S2048x3072),
    TRef.binary (TRef.of (T := ⟨S2048x3072, .f32⟩) main_call0_v2) (TRef.of (T := ⟨S2048x3072, .f32⟩) main_call0_v1) (TRef.of (T := ⟨S2048x3072, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S2048x3072, .f32⟩) main_call0_v4) (broadcastInDim S2048x3072 ![] bcast_S_S2048x3072),
    TRef.binary (TRef.of (T := ⟨S2048x3072, .f32⟩) main_call0_v4) (TRef.of (T := ⟨S2048x3072, .f32⟩) main_call0_v3) (TRef.of (T := ⟨S2048x3072, .f32⟩) main_v28_2) Host.divf,
    TRef.nullary (TRef.of (T := ⟨S_, .f32⟩) main_call0_cst_1) (constant S_ .f32 0x3F800000#32),
    TRef.unary (TRef.of (T := ⟨S_, .f32⟩) main_call0_cst_1) (TRef.of (T := ⟨S2048x3072, .f32⟩) main_call0_v6) (broadcastInDim S2048x3072 ![] bcast_S_S2048x3072),
    TRef.binary (TRef.of (T := ⟨S2048x3072, .f32⟩) main_call0_v6) (TRef.of (T := ⟨S2048x3072, .f32⟩) main_v28_2) (TRef.of (T := ⟨S2048x3072, .f32⟩) main_call0_v7) subf,
    TRef.binary (TRef.of (T := ⟨S2048x3072, .f32⟩) main_v28_2) (TRef.of (T := ⟨S2048x3072, .f32⟩) main_call0_v7) (TRef.of (T := ⟨S2048x3072, .f32⟩) main_v28_1) mulf,
    TRef.binary (TRef.of (T := ⟨S2048x3072, .f32⟩) main_v27) (TRef.of (T := ⟨S2048x3072, .f32⟩) main_v28_2) (TRef.of (T := ⟨S2048x3072, .f32⟩) main_v28_0) mulf,
    TRef.binary (TRef.of (T := ⟨S2048x3072, .f32⟩) main_v27) (TRef.of (T := ⟨S2048x3072, .f32⟩) main_arg2) (TRef.of (T := ⟨S2048x3072, .f32⟩) main_call1_v0) mulf,
    TRef.binary (TRef.of (T := ⟨S2048x3072, .f32⟩) main_arg2) (TRef.of (T := ⟨S2048x3072, .f32⟩) main_v28_2) (TRef.of (T := ⟨S2048x3072, .f32⟩) main_call1_v1) mulf,
    TRef.binary (TRef.of (T := ⟨S2048x3072, .f32⟩) main_call1_v0) (TRef.of (T := ⟨S2048x3072, .f32⟩) main_v28_1) (TRef.of (T := ⟨S2048x3072, .f32⟩) main_call1_v2) mulf,
    TRef.binary (TRef.of (T := ⟨S2048x3072, .f32⟩) main_call1_v1) (TRef.of (T := ⟨S2048x3072, .f32⟩) main_call1_v2) (TRef.of (T := ⟨S2048x3072, .f32⟩) main_v29) addf,
    binary main_v0 main_v29 main_v30 (mulf : (⟨S2048x3072, .f32⟩ : BufTy).Contents (Elt F) → (⟨S2048x3072, .f32⟩ : BufTy).Contents (Elt F) → (⟨S2048x3072, .f32⟩ : BufTy).Contents (Elt F)),
    nullary main_cst_5 (constant S_ .f32 0x00000000#32),
    binary main_v30 main_cst_5 main_v31 ((fun x v => Host.reduceAdd x v reducesTo_S2048x3072_S3072_d0 h_S_) : (⟨S2048x3072, .f32⟩ : BufTy).Contents (Elt F) → (⟨S_, .f32⟩ : BufTy).Contents (Elt F) → (⟨S3072, .f32⟩ : BufTy).Contents (Elt F)),
    reshape main_v31 main_v32 (rfl : (.f32 : EltTy) = .f32) shapeCasts_S3072_S1x3072,
    unary main_v24 main_v33 (broadcastInDim S2048x3072 ![0, 1] bcast_S1x3072_S2048x3072_0_1 : (⟨S1x3072, .f32⟩ : BufTy).Contents (Elt F) → (⟨S2048x3072, .f32⟩ : BufTy).Contents (Elt F)),
    binary main_v29 main_v33 main_v34 (mulf : (⟨S2048x3072, .f32⟩ : BufTy).Contents (Elt F) → (⟨S2048x3072, .f32⟩ : BufTy).Contents (Elt F) → (⟨S2048x3072, .f32⟩ : BufTy).Contents (Elt F)),
    nullary main_cst_6 (constant S_ .f32 0x00000000#32),
    binary main_v32 main_cst_6 main_v35 ((fun x v => pad S4x3072 ![3, 0] ![0, 0] ![0, 0] x v pads_S1x3072_S4x3072_300_000 h_S_) : (⟨S1x3072, .f32⟩ : BufTy).Contents (Elt F) → (⟨S_, .f32⟩ : BufTy).Contents (Elt F) → (⟨S4x3072, .f32⟩ : BufTy).Contents (Elt F)),
    binary main_v18 main_v29 main_v36 (mulf : (⟨S2048x3072, .f32⟩ : BufTy).Contents (Elt F) → (⟨S2048x3072, .f32⟩ : BufTy).Contents (Elt F) → (⟨S2048x3072, .f32⟩ : BufTy).Contents (Elt F)),
    nullary main_cst_7 (constant S_ .f32 0x00000000#32),
    binary main_v36 main_cst_7 main_v37 ((fun x v => Host.reduceAdd x v reducesTo_S2048x3072_S3072_d0 h_S_) : (⟨S2048x3072, .f32⟩ : BufTy).Contents (Elt F) → (⟨S_, .f32⟩ : BufTy).Contents (Elt F) → (⟨S3072, .f32⟩ : BufTy).Contents (Elt F)),
    reshape main_v37 main_v38 (rfl : (.f32 : EltTy) = .f32) shapeCasts_S3072_S1x3072,
    unary main_v20 main_v39 (broadcastInDim S2048x3072 ![0, 1] bcast_S1x3072_S2048x3072_0_1 : (⟨S1x3072, .f32⟩ : BufTy).Contents (Elt F) → (⟨S2048x3072, .f32⟩ : BufTy).Contents (Elt F)),
    binary main_v29 main_v39 main_v40 (mulf : (⟨S2048x3072, .f32⟩ : BufTy).Contents (Elt F) → (⟨S2048x3072, .f32⟩ : BufTy).Contents (Elt F) → (⟨S2048x3072, .f32⟩ : BufTy).Contents (Elt F)),
    nullary main_cst_8 (constant S_ .f32 0x00000000#32),
    binary main_v38 main_cst_8 main_v41 ((fun x v => pad S4x3072 ![2, 0] ![1, 0] ![0, 0] x v pads_S1x3072_S4x3072_210_000 h_S_) : (⟨S1x3072, .f32⟩ : BufTy).Contents (Elt F) → (⟨S_, .f32⟩ : BufTy).Contents (Elt F) → (⟨S4x3072, .f32⟩ : BufTy).Contents (Elt F)),
    binary main_v35 main_v41 main_v42 (addf : (⟨S4x3072, .f32⟩ : BufTy).Contents (Elt F) → (⟨S4x3072, .f32⟩ : BufTy).Contents (Elt F) → (⟨S4x3072, .f32⟩ : BufTy).Contents (Elt F)),
    unary main_v40 main_v43 ((extractStridedSlice S1x3072 ![0, 0] · slices_S2048x3072_S1x3072_0_0) : (⟨S2048x3072, .f32⟩ : BufTy).Contents (Elt F) → (⟨S1x3072, .f32⟩ : BufTy).Contents (Elt F)),
    unary main_v40 main_v44 ((extractStridedSlice S2047x3072 ![1, 0] · slices_S2048x3072_S2047x3072_1_0) : (⟨S2048x3072, .f32⟩ : BufTy).Contents (Elt F) → (⟨S2047x3072, .f32⟩ : BufTy).Contents (Elt F)),
    nullary main_cst_9 (constant S_ .f32 0x00000000#32),
    binary main_v44 main_cst_9 main_v45 ((fun x v => pad S2048x3072 ![0, 0] ![1, 0] ![0, 0] x v pads_S2047x3072_S2048x3072_010_000 h_S_) : (⟨S2047x3072, .f32⟩ : BufTy).Contents (Elt F) → (⟨S_, .f32⟩ : BufTy).Contents (Elt F) → (⟨S2048x3072, .f32⟩ : BufTy).Contents (Elt F)),
    binary main_v34 main_v45 main_v46 (addf : (⟨S2048x3072, .f32⟩ : BufTy).Contents (Elt F) → (⟨S2048x3072, .f32⟩ : BufTy).Contents (Elt F) → (⟨S2048x3072, .f32⟩ : BufTy).Contents (Elt F)),
    binary main_v10 main_v29 main_v47 (mulf : (⟨S2048x3072, .f32⟩ : BufTy).Contents (Elt F) → (⟨S2048x3072, .f32⟩ : BufTy).Contents (Elt F) → (⟨S2048x3072, .f32⟩ : BufTy).Contents (Elt F)),
    nullary main_cst_10 (constant S_ .f32 0x00000000#32),
    binary main_v47 main_cst_10 main_v48 ((fun x v => Host.reduceAdd x v reducesTo_S2048x3072_S3072_d0 h_S_) : (⟨S2048x3072, .f32⟩ : BufTy).Contents (Elt F) → (⟨S_, .f32⟩ : BufTy).Contents (Elt F) → (⟨S3072, .f32⟩ : BufTy).Contents (Elt F)),
    reshape main_v48 main_v49 (rfl : (.f32 : EltTy) = .f32) shapeCasts_S3072_S1x3072,
    unary main_v12 main_v50 (broadcastInDim S2048x3072 ![0, 1] bcast_S1x3072_S2048x3072_0_1 : (⟨S1x3072, .f32⟩ : BufTy).Contents (Elt F) → (⟨S2048x3072, .f32⟩ : BufTy).Contents (Elt F)),
    binary main_v29 main_v50 main_v51 (mulf : (⟨S2048x3072, .f32⟩ : BufTy).Contents (Elt F) → (⟨S2048x3072, .f32⟩ : BufTy).Contents (Elt F) → (⟨S2048x3072, .f32⟩ : BufTy).Contents (Elt F)),
    nullary main_cst_11 (constant S_ .f32 0x00000000#32),
    binary main_v49 main_cst_11 main_v52 ((fun x v => pad S4x3072 ![1, 0] ![2, 0] ![0, 0] x v pads_S1x3072_S4x3072_120_000 h_S_) : (⟨S1x3072, .f32⟩ : BufTy).Contents (Elt F) → (⟨S_, .f32⟩ : BufTy).Contents (Elt F) → (⟨S4x3072, .f32⟩ : BufTy).Contents (Elt F)),
    binary main_v42 main_v52 main_v53 (addf : (⟨S4x3072, .f32⟩ : BufTy).Contents (Elt F) → (⟨S4x3072, .f32⟩ : BufTy).Contents (Elt F) → (⟨S4x3072, .f32⟩ : BufTy).Contents (Elt F)),
    unary main_v51 main_v54 ((extractStridedSlice S2x3072 ![0, 0] · slices_S2048x3072_S2x3072_0_0) : (⟨S2048x3072, .f32⟩ : BufTy).Contents (Elt F) → (⟨S2x3072, .f32⟩ : BufTy).Contents (Elt F)),
    unary main_v51 main_v55 ((extractStridedSlice S2046x3072 ![2, 0] · slices_S2048x3072_S2046x3072_2_0) : (⟨S2048x3072, .f32⟩ : BufTy).Contents (Elt F) → (⟨S2046x3072, .f32⟩ : BufTy).Contents (Elt F)),
    nullary main_cst_12 (constant S_ .f32 0x00000000#32),
    binary main_v55 main_cst_12 main_v56 ((fun x v => pad S2048x3072 ![0, 0] ![2, 0] ![0, 0] x v pads_S2046x3072_S2048x3072_020_000 h_S_) : (⟨S2046x3072, .f32⟩ : BufTy).Contents (Elt F) → (⟨S_, .f32⟩ : BufTy).Contents (Elt F) → (⟨S2048x3072, .f32⟩ : BufTy).Contents (Elt F)),
    binary main_v46 main_v56 main_v57 (addf : (⟨S2048x3072, .f32⟩ : BufTy).Contents (Elt F) → (⟨S2048x3072, .f32⟩ : BufTy).Contents (Elt F) → (⟨S2048x3072, .f32⟩ : BufTy).Contents (Elt F)),
    binary main_v3 main_v29 main_v58 (mulf : (⟨S2048x3072, .f32⟩ : BufTy).Contents (Elt F) → (⟨S2048x3072, .f32⟩ : BufTy).Contents (Elt F) → (⟨S2048x3072, .f32⟩ : BufTy).Contents (Elt F)),
    nullary main_cst_13 (constant S_ .f32 0x00000000#32),
    binary main_v58 main_cst_13 main_v59 ((fun x v => Host.reduceAdd x v reducesTo_S2048x3072_S3072_d0 h_S_) : (⟨S2048x3072, .f32⟩ : BufTy).Contents (Elt F) → (⟨S_, .f32⟩ : BufTy).Contents (Elt F) → (⟨S3072, .f32⟩ : BufTy).Contents (Elt F)),
    reshape main_v59 main_v60 (rfl : (.f32 : EltTy) = .f32) shapeCasts_S3072_S1x3072,
    unary main_v5 main_v61 (broadcastInDim S2048x3072 ![0, 1] bcast_S1x3072_S2048x3072_0_1 : (⟨S1x3072, .f32⟩ : BufTy).Contents (Elt F) → (⟨S2048x3072, .f32⟩ : BufTy).Contents (Elt F)),
    binary main_v29 main_v61 main_v62 (mulf : (⟨S2048x3072, .f32⟩ : BufTy).Contents (Elt F) → (⟨S2048x3072, .f32⟩ : BufTy).Contents (Elt F) → (⟨S2048x3072, .f32⟩ : BufTy).Contents (Elt F)),
    nullary main_cst_14 (constant S_ .f32 0x00000000#32),
    binary main_v60 main_cst_14 main_v63 ((fun x v => pad S4x3072 ![0, 0] ![3, 0] ![0, 0] x v pads_S1x3072_S4x3072_030_000 h_S_) : (⟨S1x3072, .f32⟩ : BufTy).Contents (Elt F) → (⟨S_, .f32⟩ : BufTy).Contents (Elt F) → (⟨S4x3072, .f32⟩ : BufTy).Contents (Elt F)),
    binary main_v53 main_v63 main_v64 (addf : (⟨S4x3072, .f32⟩ : BufTy).Contents (Elt F) → (⟨S4x3072, .f32⟩ : BufTy).Contents (Elt F) → (⟨S4x3072, .f32⟩ : BufTy).Contents (Elt F)),
    unary main_v62 main_v65 ((extractStridedSlice S3x3072 ![0, 0] · slices_S2048x3072_S3x3072_0_0) : (⟨S2048x3072, .f32⟩ : BufTy).Contents (Elt F) → (⟨S3x3072, .f32⟩ : BufTy).Contents (Elt F)),
    unary main_v62 main_v66 ((extractStridedSlice S2045x3072 ![3, 0] · slices_S2048x3072_S2045x3072_3_0) : (⟨S2048x3072, .f32⟩ : BufTy).Contents (Elt F) → (⟨S2045x3072, .f32⟩ : BufTy).Contents (Elt F)),
    nullary main_cst_15 (constant S_ .f32 0x00000000#32),
    binary main_v66 main_cst_15 main_v67 ((fun x v => pad S2048x3072 ![0, 0] ![3, 0] ![0, 0] x v pads_S2045x3072_S2048x3072_030_000 h_S_) : (⟨S2045x3072, .f32⟩ : BufTy).Contents (Elt F) → (⟨S_, .f32⟩ : BufTy).Contents (Elt F) → (⟨S2048x3072, .f32⟩ : BufTy).Contents (Elt F)),
    binary main_v57 main_v67 main_v68 (addf : (⟨S2048x3072, .f32⟩ : BufTy).Contents (Elt F) → (⟨S2048x3072, .f32⟩ : BufTy).Contents (Elt F) → (⟨S2048x3072, .f32⟩ : BufTy).Contents (Elt F)),
    unary main_v68 main_v69 ((truncf .bf16 · bitsLt_bf16_f32) : (⟨S2048x3072, .f32⟩ : BufTy).Contents (Elt F) → (⟨S2048x3072, .bf16⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., nullary_bufs_sub .., unary_bufs_sub .., unary_bufs_sub .., binary_bufs_sub .., nullary_bufs_sub .., unary_bufs_sub .., unary_bufs_sub .., unary_bufs_sub .., binary_bufs_sub .., nullary_bufs_sub .., unary_bufs_sub .., unary_bufs_sub .., binary_bufs_sub .., nullary_bufs_sub .., unary_bufs_sub .., unary_bufs_sub .., unary_bufs_sub .., binary_bufs_sub .., binary_bufs_sub .., nullary_bufs_sub .., unary_bufs_sub .., unary_bufs_sub .., binary_bufs_sub .., nullary_bufs_sub .., unary_bufs_sub .., unary_bufs_sub .., unary_bufs_sub .., binary_bufs_sub .., binary_bufs_sub .., unary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., binary_bufs_sub .., binary_bufs_sub .., binary_bufs_sub .., binary_bufs_sub .., binary_bufs_sub .., binary_bufs_sub .., binary_bufs_sub .., nullary_bufs_sub .., binary_bufs_sub .., reshape_bufs_sub .., unary_bufs_sub .., binary_bufs_sub .., nullary_bufs_sub .., binary_bufs_sub .., binary_bufs_sub .., nullary_bufs_sub .., binary_bufs_sub .., reshape_bufs_sub .., unary_bufs_sub .., binary_bufs_sub .., nullary_bufs_sub .., binary_bufs_sub .., binary_bufs_sub .., unary_bufs_sub .., unary_bufs_sub .., nullary_bufs_sub .., binary_bufs_sub .., binary_bufs_sub .., binary_bufs_sub .., nullary_bufs_sub .., binary_bufs_sub .., reshape_bufs_sub .., unary_bufs_sub .., binary_bufs_sub .., nullary_bufs_sub .., binary_bufs_sub .., binary_bufs_sub .., unary_bufs_sub .., unary_bufs_sub .., nullary_bufs_sub .., binary_bufs_sub .., binary_bufs_sub .., binary_bufs_sub .., nullary_bufs_sub .., binary_bufs_sub .., reshape_bufs_sub .., unary_bufs_sub .., binary_bufs_sub .., nullary_bufs_sub .., binary_bufs_sub .., binary_bufs_sub .., unary_bufs_sub .., unary_bufs_sub .., nullary_bufs_sub .., binary_bufs_sub .., binary_bufs_sub .., unary_bufs_sub ..⟩

set_option maxRecDepth 8192 in
set_option maxHeartbeats 40800000 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v28_0) = yT (m ((c.tc : Thread nD τ).loc main_arg0)) (m ((c.tc : Thread nD τ).loc main_arg1))
      ∧ r.2.mem ((c.tc : Thread nD τ).loc main_v69) = duT (m ((c.tc : Thread nD τ).loc main_arg1)) (dprT (m ((c.tc : Thread nD τ).loc main_arg0)) (m ((c.tc : Thread nD τ).loc main_arg1)) (m ((c.tc : Thread nD τ).loc main_arg2)))
      ∧ r.2.mem ((c.tc : Thread nD τ).loc main_v64) = dwR (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v28_0).trans (by simp only [ops, TRef.binary, TRef.nullary, TRef.unary, TRef.toBuf, TRef.ofBuf, cast_eq]; after_results_simp <;> rfl ),
      (h c main_v69).trans (by simp only [ops, TRef.binary, TRef.nullary, TRef.unary, TRef.toBuf, TRef.ofBuf, cast_eq]; after_results_simp <;> rfl ),
      (h c main_v64).trans (by simp only [ops, TRef.binary, TRef.nullary, TRef.unary, TRef.toBuf, TRef.ofBuf, cast_eq]; after_results_simp <;> rfl ),
      (h c main_arg0).trans (by simp only [ops, TRef.binary, TRef.nullary, TRef.unary, TRef.toBuf, TRef.ofBuf, cast_eq]; after_results_simp <;> rfl),
      (h c main_arg1).trans (by simp only [ops, TRef.binary, TRef.nullary, TRef.unary, TRef.toBuf, TRef.ofBuf, cast_eq]; after_results_simp <;> rfl),
      (h c main_arg2).trans (by simp only [ops, TRef.binary, TRef.nullary, TRef.unary, TRef.toBuf, TRef.ofBuf, cast_eq]; after_results_simp <;> rfl)⟩)
    (run_seq scopedRefs_eq scopedSems_eq defs main (fun _ => ops) main_eq (fun _ => ops_sub) m ρ)

end Cert.ReferenceConvIdeal.Conv

end
-- ==== Proof.Conv.Arr.lean ====
module

public import proofs.«01_k».proof.Proof.Gen.KernelConvIdeal.Frame
public import proofs.«01_k».proof.Proof.Ffn.Arr

@[expose] public section

/-! The two calls of the convolution, each read over its whole array. -/

set_option maxRecDepth 16384

noncomputable section

open Idealize.ShloMosaic Idealize.ShloMosaic.TcCoe Idealize.SL.Sem
open Idealize.ShloMosaic.Pipeline (Dat)

namespace Cert.Conv

open Cert.Ffn

/-- A column delayed by `n` rows, zeros before it. -/
def late (n : ℕ) (u : ℕ → EReal) (i : ℕ) : EReal := if n ≤ i then u (i - n) else 0
/-- A column advanced by `n` of 2048 rows, zeros after it. -/
def early (n : ℕ) (u : ℕ → EReal) (i : ℕ) : EReal := if i < 2048 - n then u (i + n) else 0
/-- The convolution of a column with four taps. -/
def pre (u w : ℕ → EReal) (i : ℕ) : EReal := u i * w 3 + late 1 u i * w 2 + late 2 u i * w 1 + late 3 u i * w 0
/-- The convolution through `x * logistic x`. -/
def out (u w : ℕ → EReal) (i : ℕ) : EReal := pre u w i * sg (pre u w i)
/-- The gradient of the convolution, from the cotangent. -/
def dpre (u w g : ℕ → EReal) (i : ℕ) : EReal := g i * sg (pre u w i) * (1 + pre u w i * (1 - sg (pre u w i)))
/-- The gradient of the column, from the convolution's. -/
def du (p w : ℕ → EReal) (i : ℕ) : EReal := p i * w 3 + early 1 p i * w 2 + early 2 p i * w 1 + early 3 p i * w 0
/-- The gradient of a tap, from the convolution's. -/
def dw (p u : ℕ → EReal) (k : ℕ) : EReal := ∑ i : Fin 2048, p i * late (3 - k) u i

end Cert.Conv

namespace Cert.KernelConvIdeal.Conv

open Cert.KernelConvIdeal Cert.KernelConvIdeal.Gen Cert.Mat Cert.Ffn Cert.Conv

theorem ge1 : ∀ r : Fin 2048, IntOp.cmpi .sge (BitVec.ofNat 32 r) 1#32 = if 1 ≤ (r : ℕ) then 1#1 else 0#1 := by decide +kernel
theorem ge2 : ∀ r : Fin 2048, IntOp.cmpi .sge (BitVec.ofNat 32 r) 2#32 = if 2 ≤ (r : ℕ) then 1#1 else 0#1 := by decide +kernel
theorem ge3 : ∀ r : Fin 2048, IntOp.cmpi .sge (BitVec.ofNat 32 r) 3#32 = if 3 ≤ (r : ℕ) then 1#1 else 0#1 := by decide +kernel
theorem lt1 : ∀ r : Fin 2048, IntOp.cmpi .slt (BitVec.ofNat 32 r) 2047#32 = if (r : ℕ) < 2047 then 1#1 else 0#1 := by decide +kernel
theorem lt2 : ∀ r : Fin 2048, IntOp.cmpi .slt (BitVec.ofNat 32 r) 2046#32 = if (r : ℕ) < 2046 then 1#1 else 0#1 := by decide +kernel
theorem lt3 : ∀ r : Fin 2048, IntOp.cmpi .slt (BitVec.ofNat 32 r) 2045#32 = if (r : ℕ) < 2045 then 1#1 else 0#1 := by decide +kernel

variable {x0 : Vec Ideal S2048x256 .f32} {x1 : Vec Ideal S4x256 .f32} {x2 : Vec Ideal S2048x256 .f32} {u w g : ℕ → EReal} (d : Fin 256)
variable (hu : ∀ r : Fin 2048, x0 (ix2 r d) = u r) (hw : ∀ k : Fin 4, x1 (ix2 k d) = w k) (hg : ∀ r : Fin 2048, x2 (ix2 r d) = g r)

theorem late_sel {y : FVec Ideal S2048x256 .f32} {f : ℕ → EReal} (hy : ∀ r : Fin 2048, y (ix2 r d) = f r) (n : ℕ) (r : Fin 2048) (hn : n ≤ 2048) {h}
    {v : BitVec 1} (hv : v = if n ≤ (r : ℕ) then 1#1 else 0#1) (c : EReal) :
    Scalar.select v (y (ix2 ⟨(r + 2048 - n) % 2048, h⟩ d) * c : EReal) 0 = late n f r * c := by
  rw [hv, hy, late]
  by_cases hr : n ≤ (r : ℕ)
  · rw [if_pos hr, if_pos hr]
    exact congrArg (· * c) (congrArg f (by dsimp only; omega))
  · rw [if_neg hr, if_neg hr, zero_mul]; rfl

theorem early_sel {y : FVec Ideal S2048x256 .f32} {f : ℕ → EReal} (hy : ∀ r : Fin 2048, y (ix2 r d) = f r) (n : ℕ) (r : Fin 2048) (hn : n ≤ 2048) {h}
    {v : BitVec 1} (hv : v = if (r : ℕ) < 2048 - n then 1#1 else 0#1) (c : EReal) :
    Scalar.select v (y (ix2 ⟨(r + 2048 - (2048 - n)) % 2048, h⟩ d) * c : EReal) 0 = early n f r * c := by
  rw [hv, hy, early]
  by_cases hr : (r : ℕ) < 2048 - n
  · rw [if_pos hr, if_pos hr]
    exact congrArg (· * c) (congrArg f (by dsimp only; omega))
  · rw [if_neg hr, if_neg hr, zero_mul]; rfl

theorem sel_late {y : FVec Ideal S2048x256 .f32} {f : ℕ → EReal} (hy : ∀ r : Fin 2048, y (ix2 r d) = f r) (n : ℕ) (r : Fin 2048) (hn : n ≤ 2048) {h}
    {v : BitVec 1} (hv : v = if n ≤ (r : ℕ) then 1#1 else 0#1) (c : EReal) :
    Scalar.select v (c * y (ix2 ⟨(r + 2048 - n) % 2048, h⟩ d) : EReal) 0 = c * late n f r := by
  rw [mul_comm c (y _), late_sel d hy n r hn hv c, mul_comm]

include hu hw in
theorem pre_at (r : Fin 2048) : k1_pay12 x0 x1 x2 (ix2 r d) = pre u w r := by
  unfold k1_pay12 k1_pay1
  pointwise
  rw [late_sel d hu 1 r (by omega) (ge1 r), late_sel d hu 2 r (by omega) (ge2 r), late_sel d hu 3 r (by omega) (ge3 r), hu]
  simp only [hw]
  rfl
include hu hw hg in
theorem dpre_at (r : Fin 2048) : k1_pay14 x0 x1 x2 (ix2 r d) = dpre u w g r := by
  have e := pre_at (x2 := x2) d hu hw r
  unfold k1_pay14 k1_pay13 k1_pay3 k1_pay2
  unfold k1_pay12 at e ⊢
  generalize k1_pay1 (F := Ideal) _ _ _ _ _ = p at e ⊢
  pointwise
  rw [e, hg, dpre, sg]
include hu hw in
theorem out0_at (r : Fin 2048) : out0_2 x0 x1 (ix2 r d) = out u w r := by
  frame_out; open_payloads; pointwise
  rw [late_sel d hu 1 r (by omega) (ge1 r), late_sel d hu 2 r (by omega) (ge2 r), late_sel d hu 3 r (by omega) (ge3 r), hu]
  simp only [hw]
  rfl

/-- The store of the column's gradient, from the convolution's. -/
def duV (D : FVec Ideal S2048x256 .f32) (x1 : Vec Ideal S4x256 .f32) : FVec Ideal S2048x256 .bf16 :=
  k1_pay10 (iota .tc S2048x256 32 [0] iota_S2048x256_d0_w32) D
    (addf (mulf D (broadcastTo S2048x256 (View.ld x1 r1_1) broadcasts_S1x256_S2048x256))
      (mulf (select (cmpi .slt (iota .tc S2048x256 32 [0] iota_S2048x256_d0_w32) (broadcast S2048x256 2047#32))
        (dynamicRotate 0 2047#32 none D rotates_S2048x256_d0) (broadcast S2048x256 (Scalar.ofBits .f32 0x00000000#32)))
        (broadcastTo S2048x256 (View.ld x1 r1_2) broadcasts_S1x256_S2048x256)))
    (k1_pay7 (iota .tc S2048x256 32 [0] iota_S2048x256_d0_w32)) (View.ld x1 r1_3) (View.ld x1 r1_4)
include hw in
theorem duV_at {D : FVec Ideal S2048x256 .f32} {p : ℕ → EReal} (hD : ∀ r : Fin 2048, D (ix2 r d) = p r) (r : Fin 2048) :
    duV D x1 (ix2 r d) = du p w r := by
  unfold duV k1_pay10 k1_pay7
  pointwise
  rw [early_sel d hD 1 r (by omega) (lt1 r), early_sel d hD 2 r (by omega) (lt2 r), early_sel d hD 3 r (by omega) (lt3 r), hD]
  simp only [hw]
  rfl
include hu hw hg in
theorem out1_3_at (r : Fin 2048) : out1_3 x0 x1 x2 (ix2 r d) = du (dpre u w g) w r := by
  have e : out1_3 x0 x1 x2 = duV (k1_pay14 x0 x1 x2) x1 := by
    unfold out1_3
    exact View.canon_unit_zero (by ext a; fin_cases a <;> rfl) _ _
  rw [e]
  exact duV_at d hw (dpre_at d hu hw hg) r

/-- The newest tap's gradient row, from the convolution's gradient. -/
def tap3 (D : FVec Ideal S2048x256 .f32) (x0 : Vec Ideal S2048x256 .f32) : FVec Ideal S1x256 .f32 :=
  shapeCast S1x256 (multiReduction .add [0] S256 (mulf D (View.ld x0 r1_0)) 0x00000000#32 reduces_S2048x256_S256 (.inl rfl) rfl) shapeCasts_S256_S1x256
/-- The gradient row of the tap one row late. -/
def tap2 (D : FVec Ideal S2048x256 .f32) (x0 : Vec Ideal S2048x256 .f32) : FVec Ideal S1x256 .f32 :=
  shapeCast S1x256 (multiReduction .add [0] S256 (mulf D (select (cmpi .sge (iota .tc S2048x256 32 [0] iota_S2048x256_d0_w32) (broadcast S2048x256 1#32))
    (dynamicRotate 0 1#32 none (View.ld x0 r1_0) rotates_S2048x256_d0) (broadcast S2048x256 (Scalar.ofBits .f32 0x00000000#32))))
    0x00000000#32 reduces_S2048x256_S256 (.inl rfl) rfl) shapeCasts_S256_S1x256

section
variable {D : FVec Ideal S2048x256 .f32} {p : ℕ → EReal} (hD : ∀ r : Fin 2048, D (ix2 r d) = p r)
include hD hu
theorem tap3_at (j : Fin 1) : tap3 D x0 (ix2 j d) = dw p u 3 := by
  unfold tap3
  pointwise
  simp only [hD, hu]; rfl
theorem tap2_at (j : Fin 1) : tap2 D x0 (ix2 j d) = dw p u 2 := by
  unfold tap2
  pointwise
  refine Finset.sum_congr rfl fun r _ => ?_
  rw [sel_late d hu 1 r (by omega) (ge1 r), hD]
theorem tap1_at (j : Fin 1) : k1_pay8 (View.ld x0 r1_0) (iota .tc S2048x256 32 [0] iota_S2048x256_d0_w32) D (ix2 j d) = dw p u 1 := by
  unfold k1_pay8
  pointwise
  refine Finset.sum_congr rfl fun r _ => ?_
  rw [sel_late d hu 2 r (by omega) (ge2 r), hD]
theorem tap0_at (j : Fin 1) : k1_pay9 (View.ld x0 r1_0) (iota .tc S2048x256 32 [0] iota_S2048x256_d0_w32) D (ix2 j d) = dw p u 0 := by
  unfold k1_pay9
  pointwise
  refine Finset.sum_congr rfl fun r _ => ?_
  rw [sel_late d hu 3 r (by omega) (ge3 r), hD]
end

include hu hw hg in
theorem out1_4_at (k : Fin 4) : out1_4 x0 x1 x2 (ix2 k d) = dw (dpre u w g) u k := by
  have e := dpre_at d hu hw hg
  have e1 : out1_4 x0 x1 x2 = View.canon [⟨r1_4, k1_pay9 (View.ld x0 r1_0) (iota .tc S2048x256 32 [0] iota_S2048x256_d0_w32) (k1_pay14 x0 x1 x2)⟩,
     ⟨r1_3, k1_pay8 (View.ld x0 r1_0) (iota .tc S2048x256 32 [0] iota_S2048x256_d0_w32) (k1_pay14 x0 x1 x2)⟩,
     ⟨r1_2, tap2 (k1_pay14 x0 x1 x2) x0⟩, ⟨r1_1, tap3 (k1_pay14 x0 x1 x2) x0⟩] := rfl
  rw [e1]
  generalize k1_pay14 x0 x1 x2 = D at e ⊢
  have t0 := tap0_at d hu e
  have t1 := tap1_at d hu e
  have t2 := tap2_at d hu e
  have t3 := tap3_at d hu e
  generalize k1_pay9 (View.ld x0 r1_0) (iota .tc S2048x256 32 [0] iota_S2048x256_d0_w32) D = q0 at t0 ⊢
  generalize k1_pay8 (View.ld x0 r1_0) (iota .tc S2048x256 32 [0] iota_S2048x256_d0_w32) D = q1 at t1 ⊢
  generalize tap2 D x0 = q2 at t2 ⊢
  generalize tap3 D x0 = q3 at t3 ⊢
  canon_tiles x h
  all_goals rw [show x = ix2 (x 0) d from (eta2 (m := 1) (n := 256) x).trans (congrArg _ (Fin.ext h1.symm))]
  all_goals change (k : ℕ) = _ at h0
  · exact (t0 _).trans (congrArg (dw _ u) (by omega))
  · exact (t1 _).trans (congrArg (dw _ u) (by omega))
  · exact (t2 _).trans (congrArg (dw _ u) (by omega))
  · exact (t3 _).trans (congrArg (dw _ u) (by omega))

theorem idx0 : ∀ t : Fin grid0.N, (win0_0.index t 0 = 0 ∧ win0_0.index t 1 = 4 + t) ∧ (win0_1.index t 0 = 0 ∧ win0_1.index t 1 = t)
    ∧ (win0_2.index t 0 = 0 ∧ win0_2.index t 1 = t) := by decide +kernel
theorem idx1 : ∀ t : Fin grid1.N, (win1_0.index t 0 = 0 ∧ win1_0.index t 1 = 4 + t) ∧ (win1_1.index t 0 = 0 ∧ win1_1.index t 1 = t)
    ∧ (win1_2.index t 0 = 0 ∧ win1_2.index t 1 = t) ∧ (win1_3.index t 0 = 0 ∧ win1_3.index t 1 = t) ∧ (win1_4.index t 0 = 0 ∧ win1_4.index t 1 = t) := by decide +kernel

section
variable (V : (c : Dev nD) → (b : Ref sig .tc) → Buf (Elt Ideal) ((c : Thread nD τ).loc b)) (c : Dev nD)
variable {P C G : ℕ → ℕ → EReal}
variable (hP : ∀ (a : Fin 2048) (b : Fin 9216), (V c main_arg0 : Vec Ideal S2048x9216 .f32) (ix2 a b) = P a b)
variable (hC : ∀ (a : Fin 4) (b : Fin 3072), (V c main_arg1 : Vec Ideal S4x3072 .f32) (ix2 a b) = C a b)
variable (hG : ∀ (a : Fin 2048) (b : Fin 3072), (V c main_arg2 : Vec Ideal S2048x3072 .f32) (ix2 a b) = G a b)
include hP hC

theorem arr0 : (dat0 V c).arrAt 2 cfg0.N
    = (fun i => out (fun r => P r (1024 + i 1)) (fun k => C k (i 1)) (i 0) : Vec Ideal S2048x3072 .f32) := by
  refine (dat0 V c).arrAt_eq_of_covers 2 _ (by decide +kernel) fun t hf y => ?_
  have ht : (t : ℕ) < 12 := t.isLt
  have h0 : (y 0 : ℕ) < 2048 := (y 0).isLt
  have h1 : (y 1 : ℕ) < 256 := (y 1).isLt
  blk_simp
  rw [after0_2]
  refine (congrArg _ (eta2 (m := 2048) (n := 256) y)).trans ((out0_at (u := fun r => P r (1024 + (t * 256 + y 1))) (w := fun k => C k (t * 256 + y 1))
    (y 1) (fun r => ?_) (fun k => ?_) (y 0)).trans ?_)
  · refine Eq.trans ?_ (hP r ⟨1024 + (t * 256 + y 1), by omega⟩)
    blk_ext [iblk0, idx0 t]
  · refine Eq.trans ?_ (hC k ⟨t * 256 + y 1, by omega⟩)
    blk_ext [iblk0, idx0 t]
  · simp only [idx0 t, zero_mul, zero_add]

include hG
theorem arr1_3 : (dat1 V c).arrAt 3 cfg1.N = (fun i => du (dpre (fun r => P r (1024 + i 1)) (fun k => C k (i 1)) (fun r => G r (i 1)))
    (fun k => C k (i 1)) (i 0) : Vec Ideal S2048x3072 .bf16) := by
  refine (dat1 V c).arrAt_eq_of_covers 3 _ (by decide +kernel) fun t hf y => ?_
  have ht : (t : ℕ) < 12 := t.isLt
  have h0 : (y 0 : ℕ) < 2048 := (y 0).isLt
  have h1 : (y 1 : ℕ) < 256 := (y 1).isLt
  blk_simp
  rw [after1_3]
  refine (congrArg _ (eta2 (m := 2048) (n := 256) y)).trans ((out1_3_at (u := fun r => P r (1024 + (t * 256 + y 1))) (w := fun k => C k (t * 256 + y 1))
    (g := fun r => G r (t * 256 + y 1)) (y 1) (fun r => ?_) (fun k => ?_) (fun r => ?_) (y 0)).trans ?_)
  · refine Eq.trans ?_ (hP r ⟨1024 + (t * 256 + y 1), by omega⟩)
    blk_ext [iblk1, idx1 t]
  · refine Eq.trans ?_ (hC k ⟨t * 256 + y 1, by omega⟩)
    blk_ext [iblk1, idx1 t]
  · refine Eq.trans ?_ (hG r ⟨t * 256 + y 1, by omega⟩)
    blk_ext [iblk1, idx1 t]
  · simp only [idx1 t, zero_mul, zero_add]

theorem arr1_4 : (dat1 V c).arrAt 4 cfg1.N = (fun i => dw (dpre (fun r => P r (1024 + i 1)) (fun k => C k (i 1)) (fun r => G r (i 1)))
    (fun r => P r (1024 + i 1)) (i 0) : Vec Ideal S4x3072 .f32) := by
  refine (dat1 V c).arrAt_eq_of_covers 4 _ (by decide +kernel) fun t hf y => ?_
  have ht : (t : ℕ) < 12 := t.isLt
  have h0 : (y 0 : ℕ) < 4 := (y 0).isLt
  have h1 : (y 1 : ℕ) < 256 := (y 1).isLt
  blk_simp
  rw [after1_4]
  refine (congrArg _ (eta2 (m := 4) (n := 256) y)).trans ((out1_4_at (u := fun r => P r (1024 + (t * 256 + y 1))) (w := fun k => C k (t * 256 + y 1))
    (g := fun r => G r (t * 256 + y 1)) (y 1) (fun r => ?_) (fun k => ?_) (fun r => ?_) (y 0)).trans ?_)
  · refine Eq.trans ?_ (hP r ⟨1024 + (t * 256 + y 1), by omega⟩)
    blk_ext [iblk1, idx1 t]
  · refine Eq.trans ?_ (hC k ⟨t * 256 + y 1, by omega⟩)
    blk_ext [iblk1, idx1 t]
  · refine Eq.trans ?_ (hG r ⟨t * 256 + y 1, by omega⟩)
    blk_ext [iblk1, idx1 t]
  · simp only [idx1 t, zero_mul, zero_add]

end
end Cert.KernelConvIdeal.Conv
-- ==== Proof.Conv.Finite.lean ====
module

public import proofs.«01_k».proof.Proof.Gen.Pre_finite_conv
public import proofs.«01_k».proof.Proof.Attn.Finite
public import Idealize.ShloMosaic.Lib.Pipeline.ValueKit

@[expose] public section

/-! The precondition, read at an element: the cotangent holds real numbers. -/

noncomputable section

open Idealize.ShloMosaic

namespace Cert.Conv

open Cert.Pre_finite_conv
open Cert.Attn (real_of)

theorem real2 (x0 : FVec Ideal S2048x9216 .f32) (x1 : FVec Ideal S4x3072 .f32) (x2 : FVec Ideal S2048x3072 .f32)
    (h : fn x0 x1 x2 = fun _ => 1#1) (i : S2048x3072.Idx) : (((x2 i : EReal).toReal : ℝ) : EReal) = x2 i := by
  have h := congrFun h i
  simp only [fn] at h
  pointwise at h
  exact real_of _ h

end Cert.Conv
-- ==== Proof.Conv.Ref.lean ====
module

public import proofs.«01_k».proof.Proof.Conv.RefRun
public import proofs.«01_k».proof.Proof.Conv.Arr
public import proofs.«01_k».proof.Proof.Conv.Finite
public import proofs.«01_k».proof.Proof.Ffn.Ref

@[expose] public section

/-! The convolution's reference, read a column at a time. -/

set_option maxRecDepth 16384

noncomputable section

namespace Cert.Conv

open Idealize.ShloMosaic Cert.Ffn
open Cert.Attn (exp_coe)

/-- A logistic at minus infinity. -/
theorem sg_bot : sg ⊥ = 0 := by
  have e : Ideal.exp ⊤ = ⊤ := rfl
  have e1 : (1 : EReal) + ⊤ = ⊤ := EReal.coe_add_top 1
  simp [sg, e, e1, Ideal.div]
/-- A logistic at infinity. -/
theorem sg_top : sg ⊤ = 1 := by
  have e : Ideal.exp ⊥ = 0 := rfl
  simp [sg, e, Ideal.div]

/-- The two ways of writing the activation's derivative agree, the cotangent being real. -/
theorem dsilu_eq (g x : EReal) (hg : ∃ r : ℝ, g = r) : g * sg x + x * g * (sg x * (1 - sg x)) = g * sg x * (1 + x * (1 - sg x)) := by
  obtain ⟨g, rfl⟩ := hg
  induction x with
  | bot => simp [sg_bot]
  | top =>
    have e : (1 : EReal) - 1 = 0 := by rw [← EReal.coe_one, ← EReal.coe_sub, sub_self, EReal.coe_zero]
    simp [sg_top, e]
  | coe x =>
    obtain ⟨s, hs⟩ := sg_real x
    rw [hs]
    norm_cast
    ring

end Cert.Conv

namespace Cert.ReferenceConvIdeal.Conv

open Idealize.ShloMosaic Idealize.ShloMosaic.TcCoe
open Cert.ReferenceConvIdeal Cert.ReferenceConvIdeal.Gen Cert.Conv Cert.Ffn Cert.Mat

theorem col_lt (d : Fin 3072) : 1024 + (d : ℕ) < 9216 := by omega

variable (X0 : FVec Ideal S2048x9216 .f32) (X1 : FVec Ideal S4x3072 .f32) (X2 : FVec Ideal S2048x3072 .f32) (d : Fin 3072) {u w g : ℕ → EReal}
variable (hu : ∀ r : Fin 2048, X0 (ix2 r ⟨1024 + d, col_lt d⟩) = u r) (hw : ∀ k : Fin 4, X1 (ix2 k d) = w k) (hg : ∀ r : Fin 2048, X2 (ix2 r d) = g r)

include hu in
theorem u_at (r : Fin 2048) : uT X0 (ix2 r d) = u r := by
  pointwise [uT]
  exact hu r
section
variable {U : FVec Ideal S2048x3072 .f32} (hU : ∀ r : Fin 2048, U (ix2 r d) = u r)
include hU
theorem late1_at (r : Fin 2048) : late1T U (ix2 r d) = late 1 u r := by
  pointwise [late1T]
  by_cases h : (r : ℕ) < 1
  · rw [dif_pos h, late, if_neg (by omega)]
  · rw [dif_neg h]
    exact (hU ⟨r - 1, by omega⟩).trans (if_pos (by omega)).symm
theorem late2_at (r : Fin 2048) : late2T U (ix2 r d) = late 2 u r := by
  pointwise [late2T]
  by_cases h : (r : ℕ) < 2
  · rw [dif_pos h, late, if_neg (by omega)]
  · rw [dif_neg h]
    exact (hU ⟨r - 2, by omega⟩).trans (if_pos (by omega)).symm
theorem late3_at (r : Fin 2048) : late3T U (ix2 r d) = late 3 u r := by
  pointwise [late3T]
  by_cases h : (r : ℕ) < 3
  · rw [dif_pos h, late, if_neg (by omega)]
  · rw [dif_neg h]
    exact (hU ⟨r - 3, by omega⟩).trans (if_pos (by omega)).symm
end
include hw in
theorem w0_at (r : Fin 2048) : w0T X1 (ix2 r d) = w 0 := by
  pointwise [w0T]
  exact hw 0
include hw in
theorem w1_at (r : Fin 2048) : w1T X1 (ix2 r d) = w 1 := by
  pointwise [w1T]
  exact hw 1
include hw in
theorem w2_at (r : Fin 2048) : w2T X1 (ix2 r d) = w 2 := by
  pointwise [w2T]
  exact hw 2
include hw in
theorem w3_at (r : Fin 2048) : w3T X1 (ix2 r d) = w 3 := by
  pointwise [w3T]
  exact hw 3
include hu hw in
theorem pre_at (r : Fin 2048) : preT X0 X1 (ix2 r d) = pre u w r := by
  unfold preT
  pointwise
  rw [late1_at d (u_at X0 d hu), late2_at d (u_at X0 d hu), late3_at d (u_at X0 d hu), u_at X0 d hu, w0_at X1 d hw, w1_at X1 d hw, w2_at X1 d hw, w3_at X1 d hw, pre]
  ac_rfl
section
variable {P S Q U A B C : FVec Ideal S2048x3072 .f32} {p : ℕ → EReal}
theorem sg_at (r : Fin 2048) : sgT P (ix2 r d) = sg (P (ix2 r d)) := by
  pointwise [sgT, sg]
  rw [zero_sub]
theorem dp_at (r : Fin 2048) : dpT X2 P S (ix2 r d) = (X2 (ix2 r d) * S (ix2 r d) + P (ix2 r d) * X2 (ix2 r d) * (S (ix2 r d) * (1 - S (ix2 r d))) : EReal) := by
  pointwise [dpT]
theorem early_dif {W : FVec Ideal S2048x3072 .f32} {b : EReal} (hQ : ∀ r : Fin 2048, Q (ix2 r d) = p r) (hW : ∀ r : Fin 2048, W (ix2 r d) = b) (n k : ℕ)
    (hk : k = 2048 - n) (hn : n ≤ 2048) (r : Fin 2048) {i : (r : ℕ) < k → Fin 2048} (hi : ∀ h, (i h : ℕ) = n + r) :
    (if h : (r : ℕ) < k then Q (ix2 (i h) d) * W (ix2 (i h) d) else 0 : EReal) = early n p r * b := by
  subst hk
  by_cases h : (r : ℕ) < 2048 - n
  · rw [dif_pos h, early, if_pos h, hQ, hW, hi h, add_comm]
  · rw [dif_neg h, early, if_neg h, zero_mul]
include hw in
theorem du_at (hQ : ∀ r : Fin 2048, Q (ix2 r d) = p r) (r : Fin 2048) : duT X1 Q (ix2 r d) = du p w r := by
  pointwise [duT]
  rw [early_dif d hQ (w2_at X1 d hw) 1 2047 rfl (by omega) r (fun _ => rfl), early_dif d hQ (w1_at X1 d hw) 2 2046 rfl (by omega) r (fun _ => rfl),
    early_dif d hQ (w0_at X1 d hw) 3 2045 rfl (by omega) r (fun _ => rfl), hQ, w3_at X1 d hw, du]
theorem dw_at (hQ : ∀ r : Fin 2048, Q (ix2 r d) = p r) (hU : ∀ r : Fin 2048, U (ix2 r d) = u r) (hA : ∀ r : Fin 2048, A (ix2 r d) = late 1 u r)
    (hB : ∀ r : Fin 2048, B (ix2 r d) = late 2 u r) (hC : ∀ r : Fin 2048, C (ix2 r d) = late 3 u r) (k : Fin 4) : dwT Q U A B C (ix2 k d) = dw p u k := by
  pointwise [dwT]
  simp only [hQ, hU, hA, hB, hC, dw]
  obtain h | h | h | h : (k : ℕ) = 0 ∨ (k : ℕ) = 1 ∨ (k : ℕ) = 2 ∨ (k : ℕ) = 3 := by omega
  all_goals
    simp only [h]
    norm_num
    exact Finset.sum_congr rfl fun x _ => by simp [late, mul_comm]
end

section
variable (hr : ∀ r : Fin 2048, ∃ y : ℝ, X2 (ix2 r d) = (y : EReal))
include hu hw
theorem yT_at (r : Fin 2048) : yT X0 X1 (ix2 r d) = out u w r := by
  have e : yT X0 X1 (ix2 r d) = (preT X0 X1 (ix2 r d) * sgT (preT X0 X1) (ix2 r d) : EReal) := by
    unfold yT; pointwise
  rw [e, sg_at, pre_at X0 X1 d hu hw, out]
include hg hr
theorem dprT_at (r : Fin 2048) : dprT X0 X1 X2 (ix2 r d) = dpre u w g r := by
  obtain ⟨y, hy⟩ := hr r
  rw [dprT, dp_at, sg_at, pre_at X0 X1 d hu hw, dsilu_eq _ _ ⟨y, hy⟩, hg, dpre]
theorem duR_at (r : Fin 2048) : duT X1 (dprT X0 X1 X2) (ix2 r d) = du (dpre u w g) w r :=
  du_at X1 d hw (dprT_at X0 X1 X2 d hu hw hg hr) r
theorem dwR_at (k : Fin 4) : dwR X0 X1 X2 (ix2 k d) = dw (dpre u w g) u k :=
  dw_at d (dprT_at X0 X1 X2 d hu hw hg hr) (u_at X0 d hu) (late1_at d (u_at X0 d hu)) (late2_at d (u_at X0 d hu)) (late3_at d (u_at X0 d hu)) k
end
end Cert.ReferenceConvIdeal.Conv
-- ==== Proof.Conv.Final.lean ====
module

public import proofs.«01_k».proof.Defs
public import proofs.«01_k».proof.Proof.Conv.Run
public import proofs.«01_k».proof.Proof.Conv.Ref

@[expose] public section

/-! The convolution's kernel and its reference leave the same values and the same gradients. -/

set_option maxRecDepth 16384

noncomputable section

namespace Cert.KernelConvIdeal.Conv

open Idealize.ShloMosaic Idealize.ShloMosaic.TcCoe Idealize.SL.Sem
open Cert.KernelConvIdeal Cert.KernelConvIdeal.Gen Cert.Conv Cert.Mat

variable (m : (ℓ : Loc nD τ sig) → Buf (Elt Ideal) ℓ) (ρ : Dev nD → PrngReg) (c : Dev nD)
variable {P C G : ℕ → ℕ → EReal}
variable (h0 : ∀ (a : Fin 2048) (b : Fin 9216), (m ((c.tc : Thread nD τ).loc main_arg0) : FVec Ideal S2048x9216 .f32) (ix2 a b) = P a b)
variable (h1 : ∀ (a : Fin 4) (b : Fin 3072), (m ((c.tc : Thread nD τ).loc main_arg1) : FVec Ideal S4x3072 .f32) (ix2 a b) = C a b)
variable (h2 : ∀ (a : Fin 2048) (b : Fin 3072), (m ((c.tc : Thread nD τ).loc main_arg2) : FVec Ideal S2048x3072 .f32) (ix2 a b) = G a b)

include h0 h1
theorem out0 : (W2 m ρ c main_v0 : FVec Ideal S2048x3072 .f32) = fun i => out (fun r => P r (1024 + i 1)) (fun k => C k (i 1)) (i 0) :=
  (W2_of m ρ c main_v0 (by decide)).trans ((W1_arr m ρ c 2).trans (arr0 (V0 m ρ) c h0 h1))
include h2
theorem out1 : (W2 m ρ c main_v1_0 : FVec Ideal S2048x3072 .bf16)
    = fun i => du (dpre (fun r => P r (1024 + i 1)) (fun k => C k (i 1)) (fun r => G r (i 1))) (fun k => C k (i 1)) (i 0) :=
  (W2_arr m ρ c 3).trans (arr1_3 (V1 m ρ) c (fun a b => (congrFun (W1_args m ρ c main_arg0 (by decide)) (ix2 a b)).trans (h0 a b))
    (fun a b => (congrFun (W1_args m ρ c main_arg1 (by decide)) (ix2 a b)).trans (h1 a b))
    (fun a b => (congrFun (W1_args m ρ c main_arg2 (by decide)) (ix2 a b)).trans (h2 a b)))
theorem out2 : (W2 m ρ c main_v1_1 : FVec Ideal S4x3072 .f32)
    = fun i => dw (dpre (fun r => P r (1024 + i 1)) (fun k => C k (i 1)) (fun r => G r (i 1))) (fun r => P r (1024 + i 1)) (i 0) :=
  (W2_arr m ρ c 4).trans (arr1_4 (V1 m ρ) c (fun a b => (congrFun (W1_args m ρ c main_arg0 (by decide)) (ix2 a b)).trans (h0 a b))
    (fun a b => (congrFun (W1_args m ρ c main_arg1 (by decide)) (ix2 a b)).trans (h1 a b))
    (fun a b => (congrFun (W1_args m ρ c main_arg2 (by decide)) (ix2 a b)).trans (h2 a b)))

end Cert.KernelConvIdeal.Conv

namespace Cert.Conv

open Idealize.ShloMosaic Idealize.ShloMosaic.TcCoe Idealize.SL.Sem
open Cert.Mat

theorem algebraic : Cert.algebraic_KernelConvIdeal_ReferenceConvIdeal_pre_finite_conv := by
  intro m ρ m' ρ' hpre hag
  let P (c : Dev Cert.KernelConvIdeal.nD) : ℕ → ℕ → EReal := valOf (m := 2048) (n := 9216) (m ((c.tc : Thread Cert.KernelConvIdeal.nD Cert.KernelConvIdeal.τ).loc Cert.KernelConvIdeal.main_arg0))
  let C (c : Dev Cert.KernelConvIdeal.nD) : ℕ → ℕ → EReal := valOf (m := 4) (n := 3072) (m ((c.tc : Thread Cert.KernelConvIdeal.nD Cert.KernelConvIdeal.τ).loc Cert.KernelConvIdeal.main_arg1))
  let G (c : Dev Cert.KernelConvIdeal.nD) : ℕ → ℕ → EReal := valOf (m := 2048) (n := 3072) (m ((c.tc : Thread Cert.KernelConvIdeal.nD Cert.KernelConvIdeal.τ).loc Cert.KernelConvIdeal.main_arg2))
  have h0 := fun (c : Dev Cert.KernelConvIdeal.nD) => valOf_at (m := 2048) (n := 9216) (m ((c.tc : Thread Cert.KernelConvIdeal.nD Cert.KernelConvIdeal.τ).loc Cert.KernelConvIdeal.main_arg0))
  have h1 := fun (c : Dev Cert.KernelConvIdeal.nD) => valOf_at (m := 4) (n := 3072) (m ((c.tc : Thread Cert.KernelConvIdeal.nD Cert.KernelConvIdeal.τ).loc Cert.KernelConvIdeal.main_arg1))
  have h2 := fun (c : Dev Cert.KernelConvIdeal.nD) => valOf_at (m := 2048) (n := 3072) (m ((c.tc : Thread Cert.KernelConvIdeal.nD Cert.KernelConvIdeal.τ).loc Cert.KernelConvIdeal.main_arg2))
  have hr := fun (c : Dev Cert.KernelConvIdeal.nD) => real2 _ _ _ (hpre c)
  refine ⟨fun c => (fun i => out (fun r => P c r (1024 + i 1)) (fun k => C c k (i 1)) (i 0) : Vec Ideal Cert.KernelConvIdeal.S2048x3072 .f32),
    fun c => (fun i => du (dpre (fun r => P c r (1024 + i 1)) (fun k => C c k (i 1)) (fun r => G c r (i 1))) (fun k => C c k (i 1)) (i 0)
      : Vec Ideal Cert.KernelConvIdeal.S2048x3072 .bf16),
    fun c => (fun i => dw (dpre (fun r => P c r (1024 + i 1)) (fun k => C c k (i 1)) (fun r => G c r (i 1))) (fun r => P c r (1024 + i 1)) (i 0)
      : Vec Ideal Cert.KernelConvIdeal.S4x3072 .f32),
    (θ_run _ _ _).mono (fun r h c => ?_) (Cert.KernelConvIdeal.Conv.run m ρ),
    (θ_run _ _ _).mono (fun r h c => ?_) (Cert.ReferenceConvIdeal.Conv.run m' ρ')⟩
  · obtain ⟨e0, e1, e2, ha⟩ := h c
    exact ⟨e0.trans (Cert.KernelConvIdeal.Conv.out0 m ρ c (h0 c) (h1 c)), e1.trans (Cert.KernelConvIdeal.Conv.out1 m ρ c (h0 c) (h1 c) (h2 c)),
      e2.trans (Cert.KernelConvIdeal.Conv.out2 m ρ c (h0 c) (h1 c) (h2 c)), ha⟩
  · obtain ⟨e0, e1, e2, ha⟩ := h c
    obtain ⟨a0, a1, a2⟩ := hag c
    have g0 := fun a b => (congrFun a0 (ix2 a b)).trans (h0 c a b)
    have g1 := fun a b => (congrFun a1 (ix2 a b)).trans (h1 c a b)
    have g2 := fun a b => (congrFun a2 (ix2 a b)).trans (h2 c a b)
    have gr (a : Fin 2048) (b : Fin 3072) : ∃ y : ℝ, (m' ((c.tc : Thread Cert.ReferenceConvIdeal.nD Cert.ReferenceConvIdeal.τ).loc Cert.ReferenceConvIdeal.main_arg2)
        : FVec Ideal Cert.ReferenceConvIdeal.S2048x3072 .f32) (ix2 a b) = (y : EReal) := ⟨_, (congrFun a2 (ix2 a b)).trans (hr c (ix2 a b)).symm⟩
    refine ⟨e0.trans (funext fun i => ?_), e1.trans (funext fun i => ?_), e2.trans (funext fun i => ?_), ha⟩
    · exact (congrArg _ (eta2 (m := 2048) (n := 3072) i)).trans (Cert.ReferenceConvIdeal.Conv.yT_at _ _ (i 1) (u := fun r => P c r (1024 + i 1)) (w := fun k => C c k (i 1))
        (fun r => g0 r _) (fun k => g1 k _) (i 0))
    · exact (congrArg _ (eta2 (m := 2048) (n := 3072) i)).trans (Cert.ReferenceConvIdeal.Conv.duR_at _ _ _ (i 1) (u := fun r => P c r (1024 + i 1)) (w := fun k => C c k (i 1))
        (g := fun r => G c r (i 1)) (fun r => g0 r _) (fun k => g1 k _) (fun r => g2 r _) (fun r => gr r _) (i 0))
    · exact (congrArg _ (eta2 (m := 4) (n := 3072) i)).trans (Cert.ReferenceConvIdeal.Conv.dwR_at _ _ _ (i 1) (u := fun r => P c r (1024 + i 1)) (w := fun k => C c k (i 1))
        (g := fun r => G c r (i 1)) (fun r => g0 r _) (fun k => g1 k _) (fun r => g2 r _) (fun r => gr r _) (i 0))

end Cert.Conv
-- ==== Proof.Rows.lean ====
module

public import proofs.«01_k».proof.Proof.Mat

@[expose] public section

/-! A sum over rows that a kernel gathers block by block, the first block setting it and each later block adding to it. -/

noncomputable section

open Idealize.ShloMosaic

namespace Cert.Mat

/-- An index of an array of one row. -/
theorem row1 {n : ℕ} (y : (⟨2, ![1, n]⟩ : Shape).Idx) : y = ix2 0 (y 1) := by
  funext a
  fin_cases a
  · exact Fin.ext (by have h : (y 0 : ℕ) < 1 := (y 0).isLt; simpa using h)
  · rfl

/-- What has been gathered after block `t` is the sum over every row up to the end of that block. -/
theorem running {N T : ℕ} (s : (t : ℕ) → t < N → EReal) (f : ℕ → EReal)
    (first : ∀ h : 0 < N, s 0 h = ∑ k ∈ Finset.range T, f (0 * T + k))
    (next : ∀ t (h : t < N), t ≠ 0 → s t h = s (t - 1) (lt_of_le_of_lt (Nat.sub_le _ _) h) + ∑ k ∈ Finset.range T, f (t * T + k)) :
    ∀ t (h : t < N), s t h = ∑ k ∈ Finset.range ((t + 1) * T), f k := by
  intro t
  induction t with
  | zero =>
    intro h
    rw [first h, zero_add, one_mul]
    exact Finset.sum_congr rfl fun k _ => congrArg f (by omega)
  | succ t ih =>
    intro h
    rw [Nat.succ_mul (t + 1) T, Finset.sum_range_add, ← ih (Nat.lt_of_succ_lt h)]
    exact next _ h (Nat.succ_ne_zero t)

end Cert.Mat
-- ==== Proof.Norm.Def.lean ====
module

public import proofs.«01_k».proof.Proof.Rows

@[expose] public section

/-! Rows divided by their root mean square. -/

noncomputable section

namespace Cert.Norm

open Idealize.ShloMosaic

/-- The length of a row, as the programs write it. -/
def len : EReal := Ideal.ofBits .f32 1157627904#32
/-- What is added to a mean square. -/
def eps : EReal := Ideal.ofBits .f32 897988541#32
/-- The mean square of a row, and a little. -/
def ms (x : ℕ → EReal) : EReal := Ideal.div (∑ k : Fin 2048, x k * x k) len + eps
/-- One over the root of a row's mean square. -/
def rstd (x : ℕ → EReal) : EReal := Ideal.rsqrt (ms x)

theorem ms_congr {x : ℕ → EReal} (X : Fin 2048 → EReal) (h : ∀ k, X k = x k) :
    Ideal.div (∑ k : Fin 2048, X k * X k) (Ideal.ofBits .f32 1157627904#32) + Ideal.ofBits .f32 897988541#32 = ms x := by
  simp only [ms, len, eps, h]

theorem rstd_congr {x : ℕ → EReal} (X : Fin 2048 → EReal) (h : ∀ k, X k = x k) :
    Ideal.rsqrt (Ideal.div (∑ k : Fin 2048, X k * X k) (Ideal.ofBits .f32 1157627904#32) + Ideal.ofBits .f32 897988541#32) = rstd x :=
  congrArg _ (ms_congr X h)

/-- The same, of a row of a block. -/
def rs (X : Fin 2048 → EReal) : EReal :=
  Ideal.rsqrt (Ideal.div (∑ k : Fin 2048, X k * X k) (Ideal.ofBits .f32 1157627904#32) + Ideal.ofBits .f32 897988541#32)

theorem rs_congr {x : ℕ → EReal} {X : Fin 2048 → EReal} (h : ∀ k, X k = x k) : rs X = rstd x := rstd_congr X h

theorem rs_rstd (x : ℕ → EReal) : (rs fun j => x j) = rstd x := rfl

end Cert.Norm
-- ==== Proof.Norm.Real.lean ====
module

public import proofs.«01_k».proof.Proof.Norm.Def
public import proofs.«01_k».proof.Proof.Attn.Model

@[expose] public section

/-! Two ways of writing the gradient of a row divided by its root mean square. They agree on every extended real: a row of
real numbers has a positive root mean square, and a row with an infinity has an infinite one, whose inverse is zero. -/

noncomputable section

namespace Cert.Norm

open Idealize.ShloMosaic
open Cert.Attn (div_coe coe_sum)

theorem len_eq : len = ((2048 : ℝ) : EReal) := by
  rw [len]
  simp [Ideal.ofBits, Ideal.ieee, -EReal.coe_mul]; norm_num

theorem eps_pos : ∃ e : ℝ, 0 < e ∧ eps = (e : EReal) := by
  simp only [eps, Ideal.ofBits, Ideal.ieee]
  simp [-EReal.coe_mul]

/-- Minus one half, as the programs write it. -/
def mhalf : EReal := Ideal.ofBits .f32 3204448256#32

theorem mhalf_eq : mhalf = ((-(1 / 2) : ℝ) : EReal) := by
  rw [mhalf]
  simp [Ideal.ofBits, Ideal.ieee, -EReal.coe_mul, -EReal.coe_neg]; norm_num

theorem rsqrt_coe {x : ℝ} (h : 0 < x) : Ideal.rsqrt (x : EReal) = (((Real.sqrt x)⁻¹ : ℝ) : EReal) := by
  show (if x < 0 then ⊥ else if x = 0 then ⊤ else (((Real.sqrt x)⁻¹ : ℝ) : EReal)) = _
  rw [if_neg (not_lt.mpr h.le), if_neg h.ne']

/-- Dividing by a real number other than zero is multiplying by its inverse. -/
theorem div_real (x : EReal) {y : ℝ} (h : y ≠ 0) : Ideal.div x (y : EReal) = x * ((y⁻¹ : ℝ) : EReal) := by
  have : ((y : ℝ) : EReal) ≠ 0 := by exact_mod_cast h
  rw [Ideal.div, if_neg this, EReal.coe_inv]

theorem ms_real (x : ℕ → EReal) (u : Fin 2048 → ℝ) (hx : ∀ k : Fin 2048, x k = u k) : ∃ y : ℝ, 0 < y ∧ ms x = (y : EReal) := by
  obtain ⟨e, he, h⟩ := eps_pos
  refine ⟨(∑ k : Fin 2048, u k * u k) / 2048 + e, ?_, ?_⟩
  · have : 0 ≤ ∑ k : Fin 2048, u k * u k := Finset.sum_nonneg fun k _ => mul_self_nonneg _
    positivity
  · simp only [ms, h, hx, len_eq, ← EReal.coe_mul]
    rw [coe_sum, div_coe (by norm_num), EReal.coe_add]

theorem sq_nonneg (z : EReal) : 0 ≤ z * z := by
  rcases le_total 0 z with h | h
  · exact mul_nonneg h h
  · rw [← neg_mul_neg]
    exact mul_nonneg (EReal.neg_nonneg.mpr h) (EReal.neg_nonneg.mpr h)

theorem ms_top (x : ℕ → EReal) (k : Fin 2048) (h : x k = ⊤ ∨ x k = ⊥) : ms x = ⊤ := by
  obtain ⟨e, he, hs⟩ := eps_pos
  have hk : x k * x k = ⊤ := by rcases h with h | h <;> rw [h] <;> rfl
  have ht : ∑ k : Fin 2048, x k * x k = ⊤ :=
    top_le_iff.mp (hk ▸ Finset.single_le_sum (f := fun k : Fin 2048 => x k * x k) (fun i _ => sq_nonneg _) (Finset.mem_univ k))
  rw [ms, ht, len_eq, div_real _ (by norm_num), hs, EReal.top_mul_coe_of_pos (by norm_num)]
  rfl

theorem rstd_top {x : ℕ → EReal} (h : ms x = ⊤) : rstd x = 0 := by
  rw [rstd, h]
  rfl

/-- The gradient through the division, as the kernel writes it. -/
def dxK (x g : ℕ → EReal) (d : ℕ) : EReal :=
  rstd x * (g d - x d * rstd x * Ideal.div (∑ k : Fin 2048, g k * (x k * rstd x)) len)

/-- The mean square's share of the gradient, as the reference writes it. -/
def tail (x g : ℕ → EReal) : EReal := Ideal.div ((∑ k : Fin 2048, x k * g k) * (mhalf * Ideal.div (rstd x) (ms x))) len

/-- The gradient through the division, as the reference writes it. -/
def dxR (x g : ℕ → EReal) (d : ℕ) : EReal := g d * rstd x + x d * tail x g + tail x g * x d

/-- A positive real number may be taken out of a sum. -/
theorem sum_mul_real {n : ℕ} (f : Fin n → EReal) {r : ℝ} (h : 0 ≤ r) : ∑ k, f k * (r : EReal) = (∑ k, f k) * (r : EReal) := by
  have h0 : (0 : EReal) ≤ (r : EReal) := by exact_mod_cast h
  induction (Finset.univ : Finset (Fin n)) using Finset.induction_on with
  | empty => simp
  | insert a s ha ih => rw [Finset.sum_insert ha, Finset.sum_insert ha, ih, EReal.right_distrib_of_nonneg_of_ne_top h0 (EReal.coe_ne_top _)]

theorem dx_eq (x g : ℕ → EReal) (d : Fin 2048) : dxR x g d = dxK x g d := by
  by_cases hx : ∀ k : Fin 2048, x k ≠ ⊤ ∧ x k ≠ ⊥
  · have hu (k : Fin 2048) : x k = ((x k).toReal : ℝ) := (EReal.coe_toReal (hx k).1 (hx k).2).symm
    obtain ⟨y, hy, e⟩ := ms_real x (fun k => (x k).toReal) hu
    have hp : 0 < (Real.sqrt y)⁻¹ := inv_pos.mpr (Real.sqrt_pos.mpr hy)
    have hq : Real.sqrt y * Real.sqrt y = y := Real.mul_self_sqrt hy.le
    have h3 : (Real.sqrt y)⁻¹ * y⁻¹ = (Real.sqrt y)⁻¹ * (Real.sqrt y)⁻¹ * (Real.sqrt y)⁻¹ := by
      rw [mul_assoc, ← mul_inv (Real.sqrt y) (Real.sqrt y), hq]
    have hr : rstd x = (((Real.sqrt y)⁻¹ : ℝ) : EReal) := by rw [rstd, e, rsqrt_coe hy]
    have hS : ∑ k : Fin 2048, g k * (x k * rstd x) = (∑ k : Fin 2048, x k * g k) * rstd x := by
      rw [hr, ← sum_mul_real _ hp.le]
      exact Finset.sum_congr rfl fun k _ => by rw [mul_comm (x k) (g k), mul_assoc]
    rw [dxR, dxK, hS, tail, e]
    generalize ∑ k : Fin 2048, x k * g k = S
    rw [hr, hu d, len_eq, mhalf_eq, div_real _ hy.ne', div_real _ (by norm_num), div_real _ (by norm_num)]
    generalize (x d).toReal = u
    generalize (Real.sqrt y)⁻¹ = ρ at *
    rw [sub_eq_add_neg, EReal.left_distrib_of_nonneg_of_ne_top (by exact_mod_cast hp.le) (EReal.coe_ne_top _), add_assoc,
      mul_comm (g d), mul_comm (S * _ * _) (u : EReal)]
    refine congrArg _ ?_
    have h2 (z : EReal) : z + z = ((2 : ℝ) : EReal) * z := by
      have : ((2 : ℝ) : EReal) = 1 + 1 := by norm_cast
      rw [this, EReal.right_distrib_of_nonneg zero_le_one zero_le_one, one_mul]
    rw [h2]
    have hL : ((2 : ℝ) : EReal) * ((u : EReal) * (S * (((-(1 / 2) : ℝ) : EReal) * ((ρ : EReal) * ((y⁻¹ : ℝ) : EReal))) * (((2048 : ℝ)⁻¹ : ℝ) : EReal)))
        = S * ((2 * (u * (-(1 / 2) * (ρ * y⁻¹) * 2048⁻¹)) : ℝ) : EReal) := by
      simp only [EReal.coe_mul]
      ac_rfl
    have hR : (ρ : EReal) * -((u : EReal) * (ρ : EReal) * (S * (ρ : EReal) * (((2048 : ℝ)⁻¹ : ℝ) : EReal)))
        = S * ((-(ρ * (u * ρ * (ρ * 2048⁻¹))) : ℝ) : EReal) := by
      rw [EReal.coe_neg, mul_neg, mul_neg]
      simp only [EReal.coe_mul]
      refine congrArg _ ?_
      ac_rfl
    rw [hL, hR, h3]
    refine congrArg (fun z : ℝ => S * (z : EReal)) ?_
    ring
  · push Not at hx
    obtain ⟨k, hk⟩ := hx
    have h : ms x = ⊤ := ms_top x k (by by_cases h : x k = ⊤; exact .inl h; exact .inr (hk h))
    have hz : Ideal.div 0 ⊤ = 0 := by simp [Ideal.div]
    have hl (z : EReal) : Ideal.div (z * (mhalf * 0)) len = 0 := by rw [len_eq, div_real _ (by norm_num)]; simp
    rw [dxR, dxK, tail, rstd_top h, h, hz, hl]
    simp

end Cert.Norm
-- ==== Proof.Norm.El.lean ====
module

public import proofs.«01_k».proof.Defs
public import proofs.«01_k».proof.Proof.Gen.KernelNormIdeal.Value
public import proofs.«01_k».proof.Proof.Mat
public import proofs.«01_k».proof.Proof.Norm.Real

@[expose] public section

/-! The gradient of the norm, one block of rows at a time. -/

set_option maxRecDepth 16384

noncomputable section

open Idealize.ShloMosaic Idealize.ShloMosaic.TcCoe Idealize.SL.Sem
open Idealize.ShloMosaic.Pipeline (Dat)

namespace Cert.KernelNormIdeal.Final

open Cert.KernelNormIdeal Cert.KernelNormIdeal.Gen Cert.KernelNormIdeal.Value Cert.Mat Cert.Norm

/-- The gradient through the norm at one element of a block. -/
def dxB (x0 : Vec Ideal S256x2048 .f32) (x1 x2 : Vec Ideal S1x2048 .f32) (x3 : Vec Ideal S256x2048 .f32) (r : Fin 256) (d : Fin 2048) : EReal :=
  (rs fun j => x0 (ix2 r j)) * (x3 (ix2 r d) * (1 + x2 (ix2 0 d)) * x1 (ix2 0 d) - x0 (ix2 r d) * (rs fun j => x0 (ix2 r j))
    * Ideal.div (∑ k : Fin 2048, x3 (ix2 r k) * (1 + x2 (ix2 0 k)) * x1 (ix2 0 k) * (x0 (ix2 r k) * (rs fun j => x0 (ix2 r j))))
        (Ideal.ofBits .f32 1157627904#32))

section
variable (c : Dev nD) (i : grid0.Coords) (a1 : Memref sig .tc .vmem S256x2048 .f32) (h1 : a1.IsWhole) (a2 : Memref sig .tc .vmem S1x2048 .f32) (h2 : a2.IsWhole) (a3 : Memref sig .tc .vmem S1x2048 .f32) (h3 : a3.IsWhole) (a4 : Memref sig .tc .vmem S256x2048 .f32) (h4 : a4.IsWhole) (a5 : Memref sig .tc .vmem S256x2048 .f32) (h5 : a5.IsWhole) (a6 : Memref sig .tc .vmem S256x2048 .f32) (h6 : a6.IsWhole) (a7 : Memref sig .tc .vmem S1x2048 .f32) (h7 : a7.IsWhole) (a8 : Memref sig .tc .vmem S1x2048 .f32) (h8 : a8.IsWhole) (a9 : Memref sig .tc .vmem S1x2048 .f32) (h9 : a9.IsWhole)
  (x0 : Vec Ideal S256x2048 .f32) (x1 x2 : Vec Ideal S1x2048 .f32) (x3 x4 : Vec Ideal S256x2048 .f32) (xo6 xo7 xo8 : Vec Ideal S1x2048 .f32)
  (r : Fin 256) (d : Fin 2048)

theorem elA5 (p : cond0_0 i) : (out0_A_5 c i a1 h1 a2 h2 a3 h3 a4 h4 a5 h5 a6 h6 a7 h7 a8 h8 a9 h9 p x0 x1 x2 x3 x4 (ix2 r d) : EReal)
    = dxB x0 x1 x2 x3 r d + x4 (ix2 r d) := by
  frame_out; open_payloads; pointwise [rs, dxB]

theorem elA6 (p : cond0_0 i) : (out0_A_6 c i a1 h1 a2 h2 a3 h3 a4 h4 a5 h5 a6 h6 a7 h7 a8 h8 a9 h9 p x0 x1 x2 x3 x4 (ix2 0 d) : EReal)
    = ∑ k : Fin 256, (x3 (ix2 k d) * (1 + x2 (ix2 0 d)) * (x0 (ix2 k d) * rs fun j => x0 (ix2 k j)) : EReal) := by
  frame_out; open_payloads; pointwise [rs, dxB]

theorem elA7 (p : cond0_0 i) : (out0_A_7 c i a1 h1 a2 h2 a3 h3 a4 h4 a5 h5 a6 h6 a7 h7 a8 h8 a9 h9 p x0 x1 x2 x3 x4 (ix2 0 d) : EReal)
    = ∑ k : Fin 256, (x3 (ix2 k d) * (x0 (ix2 k d) * (rs fun j => x0 (ix2 k j)) * x1 (ix2 0 d)) : EReal) := by
  frame_out; open_payloads; pointwise [rs, dxB]

theorem elA8 (p : cond0_0 i) : (out0_A_8 c i a1 h1 a2 h2 a3 h3 a4 h4 a5 h5 a6 h6 a7 h7 a8 h8 a9 h9 p x0 x1 x2 x3 x4 (ix2 0 d) : EReal)
    = ∑ k : Fin 256, (x3 (ix2 k d) : EReal) := by
  frame_out; open_payloads; pointwise [rs, dxB]

theorem elB5 (p : ¬cond0_0 i) : (out0_B_5 c i a1 h1 a2 h2 a3 h3 a4 h4 a5 h5 a6 h6 a7 h7 a8 h8 a9 h9 p x0 x1 x2 x3 x4 xo6 xo7 xo8 (ix2 r d) : EReal)
    = dxB x0 x1 x2 x3 r d + x4 (ix2 r d) := by
  frame_out; open_payloads; pointwise [rs, dxB]

theorem elB6 (p : ¬cond0_0 i) : (out0_B_6 c i a1 h1 a2 h2 a3 h3 a4 h4 a5 h5 a6 h6 a7 h7 a8 h8 a9 h9 p x0 x1 x2 x3 x4 xo6 xo7 xo8 (ix2 0 d) : EReal)
    = xo6 (ix2 0 d) + ∑ k : Fin 256, (x3 (ix2 k d) * (1 + x2 (ix2 0 d)) * (x0 (ix2 k d) * rs fun j => x0 (ix2 k j)) : EReal) := by
  frame_out; open_payloads; pointwise [rs, dxB]

theorem elB7 (p : ¬cond0_0 i) : (out0_B_7 c i a1 h1 a2 h2 a3 h3 a4 h4 a5 h5 a6 h6 a7 h7 a8 h8 a9 h9 p x0 x1 x2 x3 x4 xo6 xo7 xo8 (ix2 0 d) : EReal)
    = xo7 (ix2 0 d) + ∑ k : Fin 256, (x3 (ix2 k d) * (x0 (ix2 k d) * (rs fun j => x0 (ix2 k j)) * x1 (ix2 0 d)) : EReal) := by
  frame_out; open_payloads; pointwise [rs, dxB]

theorem elB8 (p : ¬cond0_0 i) : (out0_B_8 c i a1 h1 a2 h2 a3 h3 a4 h4 a5 h5 a6 h6 a7 h7 a8 h8 a9 h9 p x0 x1 x2 x3 x4 xo6 xo7 xo8 (ix2 0 d) : EReal)
    = xo8 (ix2 0 d) + ∑ k : Fin 256, (x3 (ix2 k d) : EReal) := by
  frame_out; open_payloads; pointwise [rs, dxB]

end

end Cert.KernelNormIdeal.Final
-- ==== Proof.Norm.Arr.lean ====
module

public import proofs.«01_k».proof.Proof.Gen.ReferenceNormIdeal.Run
public import proofs.«01_k».proof.Proof.Norm.El

@[expose] public section

/-! The gradient of the norm: the kernel, which gathers the weights' gradients over the blocks of rows, against the reference. -/

set_option maxRecDepth 16384

noncomputable section

open Idealize.ShloMosaic Idealize.ShloMosaic.TcCoe Idealize.SL.Sem
open Idealize.ShloMosaic.Pipeline (Dat)

namespace Cert.Norm

variable (X W C H : ℕ → ℕ → EReal)

/-- What the row's division is given as its gradient. -/
def gIn (r d : ℕ) : EReal := H r d * (1 + C 0 d) * W 0 d
/-- The gradient of the weights, in one row. -/
def dwE (d k : ℕ) : EReal := H k d * (1 + C 0 d) * (X k d * rstd (X k))
/-- The gradient of the scales, in one row. -/
def dscE (d k : ℕ) : EReal := H k d * (X k d * rstd (X k) * W 0 d)
/-- The gradient of the shifts, in one row. -/
def dshE (d k : ℕ) : EReal := H k d

end Cert.Norm

namespace Cert.KernelNormIdeal.Final

open Cert.KernelNormIdeal Cert.KernelNormIdeal.Gen Cert.KernelNormIdeal.Value Cert.Mat Cert.Norm

theorem idx : ∀ t : Fin grid0.N, (win0_0.index t 0 = t ∧ win0_0.index t 1 = 0) ∧ (win0_1.index t 0 = 0 ∧ win0_1.index t 1 = 0)
    ∧ (win0_2.index t 0 = 0 ∧ win0_2.index t 1 = 0) ∧ (win0_3.index t 0 = t ∧ win0_3.index t 1 = 0)
    ∧ (win0_4.index t 0 = t ∧ win0_4.index t 1 = 0) ∧ (win0_5.index t 0 = t ∧ win0_5.index t 1 = 0)
    ∧ (win0_6.index t 0 = 0 ∧ win0_6.index t 1 = 0) ∧ (win0_7.index t 0 = 0 ∧ win0_7.index t 1 = 0)
    ∧ (win0_8.index t 0 = 0 ∧ win0_8.index t 1 = 0) := by
  decide +kernel

variable (m : (ℓ : Loc nD τ sig) → Buf (Elt Ideal) ℓ) (c : Dev nD)

section
variable {X W C H D : ℕ → ℕ → EReal}
variable (hX : ∀ (a b : Fin 2048), (m ((c.tc : Thread nD τ).loc main_arg0) : FVec Ideal S2048x2048 .f32) (ix2 a b) = X a b)
variable (hW : ∀ (a : Fin 1) (b : Fin 2048), (m ((c.tc : Thread nD τ).loc main_arg1) : FVec Ideal S1x2048 .f32) (ix2 a b) = W a b)
variable (hC : ∀ (a : Fin 1) (b : Fin 2048), (m ((c.tc : Thread nD τ).loc main_arg2) : FVec Ideal S1x2048 .f32) (ix2 a b) = C a b)
variable (hH : ∀ (a b : Fin 2048), (m ((c.tc : Thread nD τ).loc main_arg3) : FVec Ideal S2048x2048 .f32) (ix2 a b) = H a b)
variable (hD : ∀ (a b : Fin 2048), (m ((c.tc : Thread nD τ).loc main_arg4) : FVec Ideal S2048x2048 .f32) (ix2 a b) = D a b)

include hX in
theorem blkX (t : Fin cfg0.N) (x : Vec Ideal S256x2048 .f32) (e : iblk m c 0 t = x) (r : Fin 256) (d : Fin 2048) : x (ix2 r d) = X (t * 256 + r) d := by
  have ht : (t : ℕ) < 8 := lt_of_lt_of_eq t.isLt N_0
  subst e
  refine Eq.trans ?_ (hX ⟨t * 256 + r, by omega⟩ d)
  blk_ext [iblk, V, idx t]

include hW in
theorem blkW (t : Fin cfg0.N) (x : Vec Ideal S1x2048 .f32) (e : iblk m c 1 t = x) (d : Fin 2048) : x (ix2 0 d) = W 0 d := by
  subst e
  refine Eq.trans ?_ (hW 0 d)
  blk_ext [iblk, V, idx t]

include hC in
theorem blkC (t : Fin cfg0.N) (x : Vec Ideal S1x2048 .f32) (e : iblk m c 2 t = x) (d : Fin 2048) : x (ix2 0 d) = C 0 d := by
  subst e
  refine Eq.trans ?_ (hC 0 d)
  blk_ext [iblk, V, idx t]

include hH in
theorem blkH (t : Fin cfg0.N) (x : Vec Ideal S256x2048 .f32) (e : iblk m c 3 t = x) (r : Fin 256) (d : Fin 2048) : x (ix2 r d) = H (t * 256 + r) d := by
  have ht : (t : ℕ) < 8 := lt_of_lt_of_eq t.isLt N_0
  subst e
  refine Eq.trans ?_ (hH ⟨t * 256 + r, by omega⟩ d)
  blk_ext [iblk, V, idx t]

include hD in
theorem blkD (t : Fin cfg0.N) (x : Vec Ideal S256x2048 .f32) (e : iblk m c 4 t = x) (r : Fin 256) (d : Fin 2048) : x (ix2 r d) = D (t * 256 + r) d := by
  have ht : (t : ℕ) < 8 := lt_of_lt_of_eq t.isLt N_0
  subst e
  refine Eq.trans ?_ (hD ⟨t * 256 + r, by omega⟩ d)
  blk_ext [iblk, V, idx t]

include hX hW hC hH in
/-- The gradient through the norm in a block. -/
theorem dxB_eq (t : Fin cfg0.N) (x0 : Vec Ideal S256x2048 .f32) (e0 : iblk m c 0 t = x0) (x1 : Vec Ideal S1x2048 .f32) (e1 : iblk m c 1 t = x1)
    (x2 : Vec Ideal S1x2048 .f32) (e2 : iblk m c 2 t = x2) (x3 : Vec Ideal S256x2048 .f32) (e3 : iblk m c 3 t = x3) (r : Fin 256) (d : Fin 2048) :
    dxB x0 x1 x2 x3 r d = dxK (X (t * 256 + r)) (gIn W C H (t * 256 + r)) d := by
  simp only [dxB, dxK, gIn, len, rs_rstd, blkX m c hX t x0 e0, blkW m c hW t x1 e1, blkC m c hC t x2 e2, blkH m c hH t x3 e3]

include hX hC hH in
theorem part6 (t : Fin cfg0.N) (x0 : Vec Ideal S256x2048 .f32) (e0 : iblk m c 0 t = x0)
    (x2 : Vec Ideal S1x2048 .f32) (e2 : iblk m c 2 t = x2) (x3 : Vec Ideal S256x2048 .f32) (e3 : iblk m c 3 t = x3) (d : Fin 2048) :
    ∑ k : Fin 256, (x3 (ix2 k d) * (1 + x2 (ix2 0 d)) * (x0 (ix2 k d) * rs fun j => x0 (ix2 k j)) : EReal)
      = ∑ k ∈ Finset.range 256, dwE X C H d (t * 256 + k) := by
  simp only [Finset.sum_range, dwE, rs_rstd, blkX m c hX t x0 e0, blkC m c hC t x2 e2, blkH m c hH t x3 e3]

include hX hW hH in
theorem part7 (t : Fin cfg0.N) (x0 : Vec Ideal S256x2048 .f32) (e0 : iblk m c 0 t = x0)
    (x1 : Vec Ideal S1x2048 .f32) (e1 : iblk m c 1 t = x1) (x3 : Vec Ideal S256x2048 .f32) (e3 : iblk m c 3 t = x3) (d : Fin 2048) :
    ∑ k : Fin 256, (x3 (ix2 k d) * (x0 (ix2 k d) * (rs fun j => x0 (ix2 k j)) * x1 (ix2 0 d)) : EReal)
      = ∑ k ∈ Finset.range 256, dscE X W H d (t * 256 + k) := by
  simp only [Finset.sum_range, dscE, rs_rstd, blkX m c hX t x0 e0, blkW m c hW t x1 e1, blkH m c hH t x3 e3]

include hH in
theorem part8 (t : Fin cfg0.N) (x3 : Vec Ideal S256x2048 .f32) (e3 : iblk m c 3 t = x3) (d : Fin 2048) :
    ∑ k : Fin 256, (x3 (ix2 k d) : EReal) = ∑ k ∈ Finset.range 256, dshE H d (t * 256 + k) := by
  simp only [Finset.sum_range, dshE, blkH m c hH t x3 e3]

include hX hC hH in
theorem gathered6 (d : Fin 2048) : ∀ (t : ℕ) (h : t < cfg0.N), ((outsAt0 m c t h).2.1 (ix2 0 d) : EReal)
    = ∑ k ∈ Finset.range ((t + 1) * 256), dwE X C H d k := by
  refine running (fun t h => ((outsAt0 m c t h).2.1 (ix2 0 d) : EReal)) (dwE X C H d) (fun h => ?_) (fun t h h0 => ?_)
  · rw [outsAt0_A m c ⟨0, h⟩ rfl]
    dsimp only
    exact (elA6 _ _ _ _ _ _ _ _ _ _ _ _ _ _ _ _ _ _ _ _ _ _ _ _ _ _ _).trans (part6 m c hX hC hH ⟨0, h⟩ _ rfl _ rfl _ rfl d)
  · have ht : t < 8 := lt_of_lt_of_eq h N_0
    rw [outsAt0_B m c ⟨t, h⟩ (by dsimp only; omega)]
    dsimp only
    exact (elB6 _ _ _ _ _ _ _ _ _ _ _ _ _ _ _ _ _ _ _ _ _ _ _ _ _ _ _ _ _ _).trans (congrArg _ (part6 m c hX hC hH ⟨t, h⟩ _ rfl _ rfl _ rfl d))

include hX hC hH in
theorem arr6 : (dats m 0 c).arrAt 6 cfg0.N = (fun i => ∑ k ∈ Finset.range 2048, dwE X C H (i 1) k : Vec Ideal S1x2048 .f32) := by
  refine (dats m 0 c).arrAt_eq_of_covers 6 _ (by decide +kernel) fun t hf y => ?_
  have ht : (t : ℕ) < 8 := lt_of_lt_of_eq t.isLt N_0
  have hm : t.val % 8 = 7 := (flush0_6 t).mp hf
  have h7 : t.val = 7 := by omega
  have h1 : (y 1 : ℕ) < 2048 := (y 1).isLt
  blk_simp
  rw [after0_6]
  refine (congrArg _ (row1 (n := 2048) y)).trans ((gathered6 m c hX hC hH (y 1) t t.isLt).trans ?_)
  simp only [idx t, h7, zero_mul, zero_add]

include hX hW hH in
theorem gathered7 (d : Fin 2048) : ∀ (t : ℕ) (h : t < cfg0.N), ((outsAt0 m c t h).2.2.1 (ix2 0 d) : EReal)
    = ∑ k ∈ Finset.range ((t + 1) * 256), dscE X W H d k := by
  refine running (fun t h => ((outsAt0 m c t h).2.2.1 (ix2 0 d) : EReal)) (dscE X W H d) (fun h => ?_) (fun t h h0 => ?_)
  · rw [outsAt0_A m c ⟨0, h⟩ rfl]
    dsimp only
    exact (elA7 _ _ _ _ _ _ _ _ _ _ _ _ _ _ _ _ _ _ _ _ _ _ _ _ _ _ _).trans (part7 m c hX hW hH ⟨0, h⟩ _ rfl _ rfl _ rfl d)
  · have ht : t < 8 := lt_of_lt_of_eq h N_0
    rw [outsAt0_B m c ⟨t, h⟩ (by dsimp only; omega)]
    dsimp only
    exact (elB7 _ _ _ _ _ _ _ _ _ _ _ _ _ _ _ _ _ _ _ _ _ _ _ _ _ _ _ _ _ _).trans (congrArg _ (part7 m c hX hW hH ⟨t, h⟩ _ rfl _ rfl _ rfl d))

include hX hW hH in
theorem arr7 : (dats m 0 c).arrAt 7 cfg0.N = (fun i => ∑ k ∈ Finset.range 2048, dscE X W H (i 1) k : Vec Ideal S1x2048 .f32) := by
  refine (dats m 0 c).arrAt_eq_of_covers 7 _ (by decide +kernel) fun t hf y => ?_
  have ht : (t : ℕ) < 8 := lt_of_lt_of_eq t.isLt N_0
  have hm : t.val % 8 = 7 := (flush0_7 t).mp hf
  have h7 : t.val = 7 := by omega
  have h1 : (y 1 : ℕ) < 2048 := (y 1).isLt
  blk_simp
  rw [after0_7]
  refine (congrArg _ (row1 (n := 2048) y)).trans ((gathered7 m c hX hW hH (y 1) t t.isLt).trans ?_)
  simp only [idx t, h7, zero_mul, zero_add]

include hH in
theorem gathered8 (d : Fin 2048) : ∀ (t : ℕ) (h : t < cfg0.N), ((outsAt0 m c t h).2.2.2 (ix2 0 d) : EReal)
    = ∑ k ∈ Finset.range ((t + 1) * 256), dshE H d k := by
  refine running (fun t h => ((outsAt0 m c t h).2.2.2 (ix2 0 d) : EReal)) (dshE H d) (fun h => ?_) (fun t h h0 => ?_)
  · rw [outsAt0_A m c ⟨0, h⟩ rfl]
    dsimp only
    exact (elA8 _ _ _ _ _ _ _ _ _ _ _ _ _ _ _ _ _ _ _ _ _ _ _ _ _ _ _).trans (part8 m c hH ⟨0, h⟩ _ rfl d)
  · have ht : t < 8 := lt_of_lt_of_eq h N_0
    rw [outsAt0_B m c ⟨t, h⟩ (by dsimp only; omega)]
    dsimp only
    exact (elB8 _ _ _ _ _ _ _ _ _ _ _ _ _ _ _ _ _ _ _ _ _ _ _ _ _ _ _ _ _ _).trans (congrArg _ (part8 m c hH ⟨t, h⟩ _ rfl d))

include hH in
theorem arr8 : (dats m 0 c).arrAt 8 cfg0.N = (fun i => ∑ k ∈ Finset.range 2048, dshE H (i 1) k : Vec Ideal S1x2048 .f32) := by
  refine (dats m 0 c).arrAt_eq_of_covers 8 _ (by decide +kernel) fun t hf y => ?_
  have ht : (t : ℕ) < 8 := lt_of_lt_of_eq t.isLt N_0
  have hm : t.val % 8 = 7 := (flush0_8 t).mp hf
  have h7 : t.val = 7 := by omega
  have h1 : (y 1 : ℕ) < 2048 := (y 1).isLt
  blk_simp
  rw [after0_8]
  refine (congrArg _ (row1 (n := 2048) y)).trans ((gathered8 m c hH (y 1) t t.isLt).trans ?_)
  simp only [idx t, h7, zero_mul, zero_add]

include hX hW hC hH hD in
theorem through (t : Fin cfg0.N) (r : Fin 256) (d : Fin 2048) : ((outsAt0 m c t.val t.isLt).1 (ix2 r d) : EReal)
    = dxK (X (t * 256 + r)) (gIn W C H (t * 256 + r)) d + D (t * 256 + r) d := by
  by_cases h : t.val % 8 = 0
  · rw [outsAt0_A m c t h]
    dsimp only
    exact (elA5 _ _ _ _ _ _ _ _ _ _ _ _ _ _ _ _ _ _ _ _ _ _ _ _ _ _ _ _).trans (congrArg₂ _ (dxB_eq m c hX hW hC hH t _ rfl _ rfl _ rfl _ rfl r d) (blkD m c hD t _ rfl r d))
  · rw [outsAt0_B m c t h]
    dsimp only
    exact (elB5 _ _ _ _ _ _ _ _ _ _ _ _ _ _ _ _ _ _ _ _ _ _ _ _ _ _ _ _ _ _ _).trans (congrArg₂ _ (dxB_eq m c hX hW hC hH t _ rfl _ rfl _ rfl _ rfl r d) (blkD m c hD t _ rfl r d))

include hX hW hC hH hD in
theorem arr5 : (dats m 0 c).arrAt 5 cfg0.N
    = (fun i => dxK (X (i 0)) (gIn W C H (i 0)) (i 1) + D (i 0) (i 1) : Vec Ideal S2048x2048 .f32) := by
  refine (dats m 0 c).arrAt_eq_of_covers 5 _ (by decide +kernel) fun t _ y => ?_
  have ht : (t : ℕ) < 8 := lt_of_lt_of_eq t.isLt N_0
  have h0 : (y 0 : ℕ) < 256 := (y 0).isLt
  have h1 : (y 1 : ℕ) < 2048 := (y 1).isLt
  blk_simp
  rw [after0_5]
  refine (congrArg _ (eta2 (m := 256) (n := 2048) y)).trans ((through m c hX hW hC hH hD t (y 0) (y 1)).trans ?_)
  simp only [idx t, zero_mul, zero_add]

end

end Cert.KernelNormIdeal.Final
-- ==== Proof.Norm.Ref.lean ====
module

public import proofs.«01_k».proof.Proof.Norm.Arr

@[expose] public section

/-! The gradient of the norm, as the reference writes it. -/

set_option maxRecDepth 16384

noncomputable section

open Idealize.ShloMosaic

namespace Cert.ReferenceNormIdeal.Final

open Cert.ReferenceNormIdeal Cert.ReferenceNormIdeal.Gen Cert.ReferenceNormIdeal.Value Cert.Mat Cert.Norm

variable (x : FVec Ideal S2048x2048 .f32) (w s : FVec Ideal S1x2048 .f32) (h y : FVec Ideal S2048x2048 .f32)

/-- Each row's mean square, and a little. -/
def msV : FVec Ideal S2048x1 .f32 :=
  addf (Host.divf (broadcastInDim S2048x1 ![0] bcast_S2048_S2048x1_0 (Host.reduceAdd (mulf x x) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32))

/-- The cotangent times the scale. -/
def hs : FVec Ideal S2048x2048 .f32 :=
  mulf (shapeCast _ h shapeCasts_S2048x2048_S2048x2048) (broadcastInDim S2048x2048 ![0, 1] bcast_S1x2048_S2048x2048_0_1 (addf (broadcastInDim S1x2048 ![] bcast_S_S1x2048 (constant S_ .f32 0x3F800000#32)) s))

/-- The rows divided by their root mean square. -/
def xr : FVec Ideal S2048x2048 .f32 := mulf x (broadcastInDim S2048x2048 ![0, 1] bcast_S2048x1_S2048x2048_0_1 (Host.rsqrt (msV x)))

/-- The cotangent of the division. -/
def g : FVec Ideal S2048x2048 .f32 := mulf (hs s h) (broadcastInDim S2048x2048 ![0, 1] bcast_S1x2048_S2048x2048_0_1 w)

/-- The mean square's share, of each row. -/
def tl : FVec Ideal S2048 .f32 :=
  Host.reduceAdd (Host.divf (mulf (shapeCast _ (Host.reduceAdd (mulf x (g w s h)) (constant S_ .f32 0x00000000#32) reducesTo_S2048x2048_S2048_d1 h_S_) shapeCasts_S2048_S2048x1) (mulf (broadcastInDim S2048x1 ![] bcast_S_S2048x1 (constant S_ .f32 0xBF000000#32)) (Host.divf (Host.rsqrt (msV x)) (msV x)))) (broadcastInDim S2048x1 ![] bcast_S_S2048x1 (constant S_ .f32 0x45000000#32))) (constant S_ .f32 0x00000000#32) reducesTo_S2048x1_S2048_d1 h_S_

def dx : FVec Ideal S2048x2048 .f32 :=
  addf (addf (addf (mulf (g w s h) (broadcastInDim S2048x2048 ![0, 1] bcast_S2048x1_S2048x2048_0_1 (Host.rsqrt (msV x)))) (mulf x (broadcastInDim S2048x2048 ![0] bcast_S2048_S2048x2048_0 (tl x w s h)))) (mulf (broadcastInDim S2048x2048 ![0] bcast_S2048_S2048x2048_0 (tl x w s h)) x)) y

def dw : FVec Ideal S1x2048 .f32 :=
  shapeCast _ (Host.reduceAdd (mulf (xr x) (hs s h)) (constant S_ .f32 0x00000000#32) reducesTo_S2048x2048_S2048_d0 h_S_) shapeCasts_S2048_S1x2048

def dsc : FVec Ideal S1x2048 .f32 :=
  shapeCast _ (Host.reduceAdd (mulf (mulf (xr x) (broadcastInDim S2048x2048 ![0, 1] bcast_S1x2048_S2048x2048_0_1 w)) (shapeCast _ h shapeCasts_S2048x2048_S2048x2048)) (constant S_ .f32 0x00000000#32) reducesTo_S2048x2048_S2048_d0 h_S_) shapeCasts_S2048_S1x2048

def dsh : FVec Ideal S1x2048 .f32 :=
  shapeCast _ (Host.reduceAdd h (constant S_ .f32 0x00000000#32) reducesTo_S2048x2048_S2048_d0 h_S_) shapeCasts_S2048_S1x2048

section
variable {X W C H D : ℕ → ℕ → EReal}
variable (hX : ∀ a b, x (ix2 a b) = X a b) (hW : ∀ a b, w (ix2 a b) = W a b) (hC : ∀ a b, s (ix2 a b) = C a b)
  (hH : ∀ a b, h (ix2 a b) = H a b) (hD : ∀ a b, y (ix2 a b) = D a b)

include hX in
theorem ms_at (r : Fin 2048) (z : Fin 1) : (msV x (ix2 r z) : EReal) = ms (X r) := by
  have e : (msV x (ix2 r z) : EReal) = Ideal.div (∑ k : Fin 2048, x (ix2 r k) * x (ix2 r k)) (Ideal.ofBits .f32 1157627904#32) + Ideal.ofBits .f32 897988541#32 := by
    pointwise [msV]
  exact e.trans (ms_congr (fun k => x (ix2 r k)) fun k => hX r k)

include hX in
theorem xr_at (r d : Fin 2048) : (xr x (ix2 r d) : EReal) = X r d * rstd (X r) := by
  have e : (xr x (ix2 r d) : EReal) = x (ix2 r d) * Ideal.rsqrt (msV x (ix2 r 0)) := by pointwise [xr]
  rw [e, ms_at x hX, hX, rstd]

include hC hH in
theorem hs_at (r d : Fin 2048) : (hs s h (ix2 r d) : EReal) = H r d * (1 + C 0 d) := by
  have e : (hs s h (ix2 r d) : EReal) = h (ix2 r d) * (1 + s (ix2 0 d)) := by pointwise [hs]
  rw [e, hH, hC]
  rfl

include hW hC hH in
theorem g_at (r d : Fin 2048) : (g w s h (ix2 r d) : EReal) = gIn W C H r d := by
  have e : (g w s h (ix2 r d) : EReal) = hs s h (ix2 r d) * w (ix2 0 d) := by pointwise [g]
  rw [e, hs_at s h hC hH, hW]
  rfl

include hX hW hC hH in
theorem tl_at (r : Fin 2048) : (tl x w s h (ix1 r) : EReal) = tail (X r) (gIn W C H r) := by
  have e : (tl x w s h (ix1 r) : EReal) = Ideal.div ((∑ k : Fin 2048, x (ix2 r k) * g w s h (ix2 r k))
      * (Ideal.ofBits .f32 3204448256#32 * Ideal.div (Ideal.rsqrt (msV x (ix2 r 0))) (msV x (ix2 r 0)))) (Ideal.ofBits .f32 1157627904#32) := by
    pointwise [tl]
    exact Fin.sum_univ_one _
  rw [e, ms_at x hX, tail, rstd, mhalf, len]
  simp only [hX, g_at w s h hW hC hH]

include hX hW hC hH hD in
theorem dx_at : dx x w s h y = fun i => dxK (X (i 0)) (gIn W C H (i 0)) (i 1) + D (i 0) (i 1) := by
  funext i
  have e (r d : Fin 2048) : (dx x w s h y (ix2 r d) : EReal) = g w s h (ix2 r d) * Ideal.rsqrt (msV x (ix2 r 0)) + x (ix2 r d) * tl x w s h (ix1 r)
      + tl x w s h (ix1 r) * x (ix2 r d) + y (ix2 r d) := by pointwise [dx]
  have k (r d : Fin 2048) : (dx x w s h y (ix2 r d) : EReal) = dxK (X r) (gIn W C H r) d + D r d := by
    rw [e, tl_at x w s h hX hW hC hH, ms_at x hX, g_at w s h hW hC hH, hX, hD, ← dx_eq, dxR, rstd]
  exact (congrArg _ (eta2 (m := 2048) (n := 2048) i)).trans (k (i 0) (i 1))

include hX hC hH in
theorem dw_at : dw x s h = fun i => ∑ k ∈ Finset.range 2048, dwE X C H (i 1) k := by
  funext i
  have e (d : Fin 2048) : (dw x s h (ix2 0 d) : EReal) = ∑ k : Fin 2048, xr x (ix2 k d) * hs s h (ix2 k d) := by pointwise [dw]
  have k (d : Fin 2048) : (dw x s h (ix2 0 d) : EReal) = ∑ k ∈ Finset.range 2048, dwE X C H d k := by
    rw [e, Finset.sum_range]
    refine Finset.sum_congr rfl fun k _ => ?_
    rw [xr_at x hX, hs_at s h hC hH, dwE, mul_comm]
  exact (congrArg _ (row1 (n := 2048) i)).trans (k (i 1))

include hX hW hH in
theorem dsc_at : dsc x w h = fun i => ∑ k ∈ Finset.range 2048, dscE X W H (i 1) k := by
  funext i
  have e (d : Fin 2048) : (dsc x w h (ix2 0 d) : EReal) = ∑ k : Fin 2048, xr x (ix2 k d) * w (ix2 0 d) * h (ix2 k d) := by pointwise [dsc]
  have k (d : Fin 2048) : (dsc x w h (ix2 0 d) : EReal) = ∑ k ∈ Finset.range 2048, dscE X W H d k := by
    rw [e, Finset.sum_range]
    refine Finset.sum_congr rfl fun k _ => ?_
    rw [xr_at x hX, hW, hH, dscE, mul_comm, Fin.val_zero]
  exact (congrArg _ (row1 (n := 2048) i)).trans (k (i 1))

include hH in
theorem dsh_at : dsh h = fun i => ∑ k ∈ Finset.range 2048, dshE H (i 1) k := by
  funext i
  have e (d : Fin 2048) : (dsh h (ix2 0 d) : EReal) = ∑ k : Fin 2048, h (ix2 k d) := by pointwise [dsh]
  have k (d : Fin 2048) : (dsh h (ix2 0 d) : EReal) = ∑ k ∈ Finset.range 2048, dshE H d k := by
    rw [e, Finset.sum_range]
    refine Finset.sum_congr rfl fun k _ => ?_
    rw [hH, dshE]
  exact (congrArg _ (row1 (n := 2048) i)).trans (k (i 1))

end

end Cert.ReferenceNormIdeal.Final
-- ==== Proof.Norm.Final.lean ====
module

public import proofs.«01_k».proof.Proof.Norm.Ref

@[expose] public section

/-! The gradient of the norm: the kernel and the reference give the same arrays. -/

set_option maxRecDepth 16384

noncomputable section

open Idealize.ShloMosaic Idealize.ShloMosaic.TcCoe Idealize.SL.Sem

namespace Cert.Norm

open Cert.Mat Cert.KernelNormIdeal.Final

theorem algebraic : Cert.algebraic_KernelNormIdeal_ReferenceNormIdeal := by
  intro m ρ m' ρ' _ hag
  let X (c : Dev Cert.KernelNormIdeal.nD) : ℕ → ℕ → EReal :=
    valOf (m := 2048) (n := 2048) (m ((c.tc : Thread Cert.KernelNormIdeal.nD Cert.KernelNormIdeal.τ).loc Cert.KernelNormIdeal.main_arg0))
  let W (c : Dev Cert.KernelNormIdeal.nD) : ℕ → ℕ → EReal :=
    valOf (m := 1) (n := 2048) (m ((c.tc : Thread Cert.KernelNormIdeal.nD Cert.KernelNormIdeal.τ).loc Cert.KernelNormIdeal.main_arg1))
  let C (c : Dev Cert.KernelNormIdeal.nD) : ℕ → ℕ → EReal :=
    valOf (m := 1) (n := 2048) (m ((c.tc : Thread Cert.KernelNormIdeal.nD Cert.KernelNormIdeal.τ).loc Cert.KernelNormIdeal.main_arg2))
  let H (c : Dev Cert.KernelNormIdeal.nD) : ℕ → ℕ → EReal :=
    valOf (m := 2048) (n := 2048) (m ((c.tc : Thread Cert.KernelNormIdeal.nD Cert.KernelNormIdeal.τ).loc Cert.KernelNormIdeal.main_arg3))
  let D (c : Dev Cert.KernelNormIdeal.nD) : ℕ → ℕ → EReal :=
    valOf (m := 2048) (n := 2048) (m ((c.tc : Thread Cert.KernelNormIdeal.nD Cert.KernelNormIdeal.τ).loc Cert.KernelNormIdeal.main_arg4))
  have hX := fun (c : Dev Cert.KernelNormIdeal.nD) =>
    valOf_at (m := 2048) (n := 2048) (m ((c.tc : Thread Cert.KernelNormIdeal.nD Cert.KernelNormIdeal.τ).loc Cert.KernelNormIdeal.main_arg0))
  have hW := fun (c : Dev Cert.KernelNormIdeal.nD) =>
    valOf_at (m := 1) (n := 2048) (m ((c.tc : Thread Cert.KernelNormIdeal.nD Cert.KernelNormIdeal.τ).loc Cert.KernelNormIdeal.main_arg1))
  have hC := fun (c : Dev Cert.KernelNormIdeal.nD) =>
    valOf_at (m := 1) (n := 2048) (m ((c.tc : Thread Cert.KernelNormIdeal.nD Cert.KernelNormIdeal.τ).loc Cert.KernelNormIdeal.main_arg2))
  have hH := fun (c : Dev Cert.KernelNormIdeal.nD) =>
    valOf_at (m := 2048) (n := 2048) (m ((c.tc : Thread Cert.KernelNormIdeal.nD Cert.KernelNormIdeal.τ).loc Cert.KernelNormIdeal.main_arg3))
  have hD := fun (c : Dev Cert.KernelNormIdeal.nD) =>
    valOf_at (m := 2048) (n := 2048) (m ((c.tc : Thread Cert.KernelNormIdeal.nD Cert.KernelNormIdeal.τ).loc Cert.KernelNormIdeal.main_arg4))
  refine ⟨fun c => (fun i => dxK (X c (i 0)) (gIn (W c) (C c) (H c) (i 0)) (i 1) + D c (i 0) (i 1) : Vec Ideal Cert.KernelNormIdeal.S2048x2048 .f32),
    fun c => (fun i => ∑ k ∈ Finset.range 2048, dwE (X c) (C c) (H c) (i 1) k : Vec Ideal Cert.KernelNormIdeal.S1x2048 .f32),
    fun c => (fun i => ∑ k ∈ Finset.range 2048, dscE (X c) (W c) (H c) (i 1) k : Vec Ideal Cert.KernelNormIdeal.S1x2048 .f32),
    fun c => (fun i => ∑ k ∈ Finset.range 2048, dshE (H c) (i 1) k : Vec Ideal Cert.KernelNormIdeal.S1x2048 .f32),
    (θ_run _ _ _).mono (fun r h c => ?_) (Cert.KernelNormIdeal.Value.run_blocks m ρ), (θ_run _ _ _).mono (fun r h c => ?_) (Cert.ReferenceNormIdeal.Value.run m' ρ')⟩
  · obtain ⟨e0, e1, e2, e3, ha⟩ := h c
    exact ⟨e0.trans (arr5 m c (hX c) (hW c) (hC c) (hH c) (hD c)), e1.trans (arr6 m c (hX c) (hC c) (hH c)), e2.trans (arr7 m c (hX c) (hW c) (hH c)), e3.trans (arr8 m c (hH c)), ha⟩
  · obtain ⟨e0, e1, e2, e3, ha⟩ := h c
    obtain ⟨a0, a1, a2, a3, a4⟩ := hag c
    have g0 := fun a b => (congrFun a0 (ix2 a b)).trans (hX c a b)
    have g1 := fun a b => (congrFun a1 (ix2 a b)).trans (hW c a b)
    have g2 := fun a b => (congrFun a2 (ix2 a b)).trans (hC c a b)
    have g3 := fun a b => (congrFun a3 (ix2 a b)).trans (hH c a b)
    have g4 := fun a b => (congrFun a4 (ix2 a b)).trans (hD c a b)
    exact ⟨e0.trans (Cert.ReferenceNormIdeal.Final.dx_at _ _ _ _ _ g0 g1 g2 g3 g4),
      e1.trans (Cert.ReferenceNormIdeal.Final.dw_at _ _ _ g0 g2 g3),
      e2.trans (Cert.ReferenceNormIdeal.Final.dsc_at _ _ _ g0 g1 g3),
      e3.trans (Cert.ReferenceNormIdeal.Final.dsh_at _ g3), ha⟩

end Cert.Norm
-- ==== Proof.Rope.Model.lean ====
module

public import proofs.«01_k».proof.Defs
public import proofs.«01_k».proof.Proof.Mat

@[expose] public section

/-! The rotary embedding of heads of 256 columns: the first 128 columns stay, the last 128 are combined with two rotations of
    themselves under three tables of 128 lanes. -/

noncomputable section

namespace Cert.Rope

/-- One lane of the embedding: `x` under the first table, and its neighbours 32 lanes on and back under the others. -/
def lane (x t u v : ℕ → EReal) (j : ℕ) : EReal := x j * t j + x ((j + 128 - 96) % 128) * u j + x ((j + 128 - 32) % 128) * v j

/-- The transpose of `lane`. -/
def laneT (x t u v : ℕ → EReal) (j : ℕ) : EReal :=
  x j * t j + x ((j + 128 - 32) % 128) * u ((j + 128 - 32) % 128) + x ((j + 128 - 96) % 128) * v ((j + 128 - 96) % 128)

/-- The 128 lanes that begin at column `b`. -/
def from_ (X : ℕ → ℕ → EReal) (b a j : ℕ) : EReal := X a (b + j)

/-- Heads of 256 columns, the last half of each through `f`. -/
def heads (f : (ℕ → EReal) → (ℕ → EReal) → (ℕ → EReal) → (ℕ → EReal) → ℕ → EReal) (X T U V : ℕ → ℕ → EReal) (a c : ℕ) : EReal :=
  if c % 256 < 128 then X a c else f (from_ X (c / 128 * 128) a) (T a) (U a) (V a) (c % 128)

/-- The keys: each head's own 128 columns, and the same embedded lanes in every head. -/
def keys (K P T U V : ℕ → ℕ → EReal) (a c : ℕ) : EReal :=
  if c % 256 < 128 then K a (c / 256 * 128 + c % 128) else lane (P a) (T a) (U a) (V a) (c % 128)

/-- The gradient of the keys' own columns and of the values, side by side. -/
def keysB (D W : ℕ → ℕ → EReal) (a c : ℕ) : EReal := if c < 1024 then D a (c / 128 * 256 + c % 128) else W a (c - 1024)

/-- The eight heads' last halves added up. -/
def total (D : ℕ → ℕ → EReal) (a j : ℕ) : EReal :=
  D a (128 + j) + D a (384 + j) + D a (640 + j) + D a (896 + j) + D a (1152 + j) + D a (1408 + j) + D a (1664 + j) + D a (1920 + j)

/-- The tables: the cosine twice and zeros; -/
def tabC (C : ℕ → ℕ → EReal) (a j : ℕ) : EReal := if j < 64 then C a (j % 32) else 0
/-- the sine negated, and zeros; -/
def tabU (S : ℕ → ℕ → EReal) (a j : ℕ) : EReal := if j < 32 then -S a j else 0
/-- zeros, the sine, and zeros. -/
def tabV (S : ℕ → ℕ → EReal) (a j : ℕ) : EReal := if j < 32 then 0 else if j < 64 then S a (j - 32) else 0

end Cert.Rope
-- ==== Proof.Rope.Ref.lean ====
module

public import proofs.«01_k».proof.Proof.Gen.ReferenceRopeIdeal.Run
public import proofs.«01_k».proof.Proof.Rope.Model

@[expose] public section

/-! The reference's results as functions of its arguments, the cosine and the sine. -/

set_option maxRecDepth 16384

noncomputable section

open Idealize.ShloMosaic Idealize.ShloMosaic.TcCoe Idealize.SL.Sem

namespace Cert.ReferenceRopeIdeal.Rope

open Cert.ReferenceRopeIdeal Cert.ReferenceRopeIdeal.Gen Cert.Mat Cert.Rope

section
variable (cs sn : FVec Ideal S2048x32 .f32)

/-- A row of a table, for every head. -/
def bc (x : FVec Ideal S2048x32 .f32) : FVec Ideal S2048x8x32 .f32 :=
  broadcastInDim S2048x8x32 ![0, 1, 2] bcast_S2048x1x32_S2048x8x32_0_1_2 (broadcastInDim S2048x1x32 ![0, 2] bcast_S2048x32_S2048x1x32_0_2 x)

/-- The heads' columns 128 to 191. -/
def mid (X : FVec Ideal S2048x2048 .f32) : FVec Ideal S2048x8x64 .f32 :=
  extractStridedSlice S2048x8x64 ![0, 0, 128] (shapeCast S2048x8x256 X shapeCasts_S2048x2048_S2048x8x256) slices_S2048x8x256_S2048x8x64_0_0_128
def lo (X : FVec Ideal S2048x8x64 .f32) : FVec Ideal S2048x8x32 .f32 := extractStridedSlice S2048x8x32 ![0, 0, 0] X slices_S2048x8x64_S2048x8x32_0_0_0
def hi (X : FVec Ideal S2048x8x64 .f32) : FVec Ideal S2048x8x32 .f32 := extractStridedSlice S2048x8x32 ![0, 0, 32] X slices_S2048x8x64_S2048x8x32_0_0_32
/-- The heads' first 128 columns. -/
def own (X : FVec Ideal S2048x2048 .f32) : FVec Ideal S2048x8x128 .f32 :=
  extractStridedSlice S2048x8x128 ![0, 0, 0] (shapeCast S2048x8x256 X shapeCasts_S2048x2048_S2048x8x256) slices_S2048x8x256_S2048x8x128_0_0_0
def pack (A : FVec Ideal S2048x8x128 .f32) (B : FVec Ideal S2048x8x64 .f32) : FVec Ideal S2048x2048 .bf16 :=
  truncf .bf16 (shapeCast S2048x2048 (concatenate S2048x8x256 2 [⟨S2048x8x128, A⟩, ⟨S2048x8x64, B⟩,
    ⟨S2048x8x64, broadcastInDim S2048x8x64 ![] bcast_S_S2048x8x64 (constant S_ .f32 0x00000000#32)⟩] concatenates_S2048x8x128_S2048x8x64_S2048x8x64_S2048x8x256_d2) shapeCasts_S2048x8x256_S2048x2048) bitsLt_bf16_f32

/-- The embedded queries. -/
def qR (X : FVec Ideal S2048x2048 .f32) : FVec Ideal S2048x2048 .bf16 :=
  pack (own X) (concatenate S2048x8x64 2 [⟨S2048x8x32, subf (mulf (lo (mid X)) (bc cs)) (mulf (hi (mid X)) (bc sn))⟩,
    ⟨S2048x8x32, addf (mulf (hi (mid X)) (bc cs)) (mulf (lo (mid X)) (bc sn))⟩] concatenates_S2048x8x32_S2048x8x32_S2048x8x64_d2)

def plo (X : FVec Ideal S2048x64 .f32) : FVec Ideal S2048x32 .f32 := extractStridedSlice S2048x32 ![0, 0] X slices_S2048x64_S2048x32_0_0
def phi (X : FVec Ideal S2048x64 .f32) : FVec Ideal S2048x32 .f32 := extractStridedSlice S2048x32 ![0, 32] X slices_S2048x64_S2048x32_0_32
/-- The shared lanes of the keys. -/
def p64 (P : FVec Ideal S2048x128 .f32) : FVec Ideal S2048x64 .f32 := extractStridedSlice S2048x64 ![0, 0] P slices_S2048x128_S2048x64_0_0
def pe (P : FVec Ideal S2048x64 .f32) : FVec Ideal S2048x64 .f32 :=
  concatenate S2048x64 1 [⟨S2048x32, subf (mulf (plo P) cs) (mulf (phi P) sn)⟩, ⟨S2048x32, addf (mulf (phi P) cs) (mulf (plo P) sn)⟩] concatenates_S2048x32_S2048x32_S2048x64_d1

/-- The embedded keys. -/
def kR (K : FVec Ideal S2048x2048 .f32) (P : FVec Ideal S2048x128 .f32) : FVec Ideal S2048x2048 .bf16 :=
  pack (shapeCast S2048x8x128 (extractStridedSlice S2048x1024 ![0, 0] K slices_S2048x2048_S2048x1024_0_0) shapeCasts_S2048x1024_S2048x8x128)
    (broadcastInDim S2048x8x64 ![0, 1, 2] bcast_S2048x1x64_S2048x8x64_0_1_2 (broadcastInDim S2048x1x64 ![0, 2] bcast_S2048x64_S2048x1x64_0_2 (pe cs sn (p64 P))))

/-- The gradient of the queries. -/
def dqR (X : FVec Ideal S2048x2048 .f32) : FVec Ideal S2048x2048 .bf16 :=
  truncf .bf16 (shapeCast S2048x2048 (addf (pad S2048x8x256 ![0, 0, 0] ![0, 0, 128] ![0, 0, 0] (own X) (constant S_ .f32 0x00000000#32) pads_S2048x8x128_S2048x8x256_000_000_01280 h_S_)
    (pad S2048x8x256 ![0, 0, 128] ![0, 0, 64] ![0, 0, 0]
      (addf (pad S2048x8x64 ![0, 0, 32] ![0, 0, 0] ![0, 0, 0] (addf (mulf (hi (mid X)) (bc cs)) (mulf (Host.negf (lo (mid X))) (bc sn))) (constant S_ .f32 0x00000000#32) pads_S2048x8x32_S2048x8x64_000_000_3200 h_S_)
        (pad S2048x8x64 ![0, 0, 0] ![0, 0, 32] ![0, 0, 0] (addf (mulf (hi (mid X)) (bc sn)) (mulf (lo (mid X)) (bc cs))) (constant S_ .f32 0x00000000#32) pads_S2048x8x32_S2048x8x64_000_000_0320 h_S_))
      (constant S_ .f32 0x00000000#32) pads_S2048x8x64_S2048x8x256_000_000_128640 h_S_)) shapeCasts_S2048x8x256_S2048x2048) bitsLt_bf16_f32

/-- The gradient of the keys' own columns and of the values. -/
def dkvR (D : FVec Ideal S2048x2048 .f32) (W : FVec Ideal S2048x1024 .f32) : FVec Ideal S2048x2048 .bf16 :=
  truncf .bf16 (addf (pad S2048x2048 ![0, 1024] ![0, 0] ![0, 0] W (constant S_ .f32 0x00000000#32) pads_S2048x1024_S2048x2048_000_102400 h_S_)
    (pad S2048x2048 ![0, 0] ![0, 1024] ![0, 0] (shapeCast S2048x1024 (own D) shapeCasts_S2048x8x128_S2048x1024) (constant S_ .f32 0x00000000#32) pads_S2048x1024_S2048x2048_000_010240 h_S_)) bitsLt_bf16_f32

/-- The heads' gradients added up. -/
def sumR (D : FVec Ideal S2048x2048 .f32) : FVec Ideal S2048x64 .f32 :=
  Host.reduceAdd (broadcastInDim S2048x1x64 ![0, 2] bcast_S2048x64_S2048x1x64_0_2 (Host.reduceAdd (mid D) (constant S_ .f32 0x00000000#32) reducesTo_S2048x8x64_S2048x64_d1 h_S_))
    (constant S_ .f32 0x00000000#32) reducesTo_S2048x1x64_S2048x64_d1 h_S_

/-- The gradient of the shared lanes, from the sum over the heads. -/
def dpR (Y : FVec Ideal S2048x64 .f32) : FVec Ideal S2048x128 .f32 :=
  pad S2048x128 ![0, 0] ![0, 64] ![0, 0]
    (addf (pad S2048x64 ![0, 32] ![0, 0] ![0, 0] (addf (mulf (phi Y) cs) (mulf (Host.negf (plo Y)) sn)) (constant S_ .f32 0x00000000#32) pads_S2048x32_S2048x64_000_3200 h_S_)
      (pad S2048x64 ![0, 0] ![0, 32] ![0, 0] (addf (mulf (phi Y) sn) (mulf (plo Y) cs)) (constant S_ .f32 0x00000000#32) pads_S2048x32_S2048x64_000_0320 h_S_))
    (constant S_ .f32 0x00000000#32) pads_S2048x64_S2048x128_000_0640 h_S_
end

/-- The angles. -/
def angR (p : IVec S2048 32) : FVec Ideal S2048x32 .f32 :=
  mulf (broadcastInDim S2048x32 ![0, 1] bcast_S2048x1_S2048x32_0_1 (broadcastInDim S2048x1 ![0] bcast_S2048_S2048x1_0 (sitofp .f32 p)))
    (broadcastInDim S2048x32 ![0, 1] bcast_S1x32_S2048x32_0_1 (broadcastInDim S1x32 ![1] bcast_S32_S1x32_1
      (Host.divf (broadcastInDim S32 ![] bcast_S_S32 (constant S_ .f32 0x3F800000#32)) (Host.powf (broadcastInDim S32 ![] bcast_S_S32 (constant S_ .f32 0x461C4000#32))
        (Host.divf (addf (broadcastInDim S32 ![] bcast_S_S32 (constant S_ .f32 0x00000000#32)) (mulf (broadcastInDim S32 ![] bcast_S_S32 (constant S_ .f32 0x40000000#32)) (sitofp .f32 (iotaInDim S32 32 0))))
          (broadcastInDim S32 ![] bcast_S_S32 (constant S_ .f32 0x42800000#32)))))))

section
variable (m : (ℓ : Loc nD τ sig) → Buf (Elt Ideal) ℓ) (c : Dev nD)

theorem res0 : Value.res_main_v84 m c = qR (Host.cos (angR (m ((c.tc : Thread nD τ).loc main_arg3)))) (Host.sin (angR (m ((c.tc : Thread nD τ).loc main_arg3)))) (m ((c.tc : Thread nD τ).loc main_arg0)) := rfl
theorem res1 : Value.res_main_v85 m c = kR (Host.cos (angR (m ((c.tc : Thread nD τ).loc main_arg3)))) (Host.sin (angR (m ((c.tc : Thread nD τ).loc main_arg3)))) (m ((c.tc : Thread nD τ).loc main_arg1)) (m ((c.tc : Thread nD τ).loc main_arg2)) := rfl
theorem res2 : Value.res_main_v110 m c = dqR (Host.cos (angR (m ((c.tc : Thread nD τ).loc main_arg3)))) (Host.sin (angR (m ((c.tc : Thread nD τ).loc main_arg3)))) (m ((c.tc : Thread nD τ).loc main_arg4)) := rfl
theorem res4 : Value.res_main_v83 m c = dpR (Host.cos (angR (m ((c.tc : Thread nD τ).loc main_arg3)))) (Host.sin (angR (m ((c.tc : Thread nD τ).loc main_arg3)))) (sumR (m ((c.tc : Thread nD τ).loc main_arg5))) := rfl
end

section
variable {X : FVec Ideal S2048x2048 .f32} {XX : ℕ → ℕ → EReal} (hX : ∀ a b, X (ix2 a b) = XX a b)
include hX
theorem own_at (a : Fin 2048) (h : Fin 8) (e : Fin 128) : own X (ix3 a h e) = XX a (h * 256 + e) := by
  unfold own; pointwise
  exact hX _ _
theorem mid_at (a : Fin 2048) (h : Fin 8) (e : Fin 64) : mid X (ix3 a h e) = XX a (h * 256 + (128 + e)) := by
  unfold mid; pointwise
  exact hX _ _
end

theorem bc_at (x : FVec Ideal S2048x32 .f32) (a : Fin 2048) (h : Fin 8) (e : Fin 32) : bc x (ix3 a h e) = x (ix2 a e) := by
  unfold bc; pointwise
theorem lo_at (X : FVec Ideal S2048x8x64 .f32) (a : Fin 2048) (h : Fin 8) (e : Fin 32) : lo X (ix3 a h e) = X (ix3 a h ⟨e, by omega⟩) := by
  unfold lo; pointwise
  try simp
theorem hi_at (X : FVec Ideal S2048x8x64 .f32) (a : Fin 2048) (h : Fin 8) (e : Fin 32) : hi X (ix3 a h e) = X (ix3 a h ⟨32 + e, by omega⟩) := by
  unfold hi; pointwise
theorem plo_at (X : FVec Ideal S2048x64 .f32) (a : Fin 2048) (e : Fin 32) : plo X (ix2 a e) = X (ix2 a ⟨e, by omega⟩) := by
  unfold plo; pointwise
  try simp
theorem phi_at (X : FVec Ideal S2048x64 .f32) (a : Fin 2048) (e : Fin 32) : phi X (ix2 a e) = X (ix2 a ⟨32 + e, by omega⟩) := by
  unfold phi; pointwise
theorem pack_at (A : FVec Ideal S2048x8x128 .f32) (B : FVec Ideal S2048x8x64 .f32) (a : Fin 2048) (c : Fin 2048) :
    pack A B (ix2 a c) = if h : c.1 % 256 < 128 then A (ix3 a ⟨c / 256, by omega⟩ ⟨c % 256, h⟩)
      else if h : c.1 % 256 - 128 < 64 then B (ix3 a ⟨c / 256, by omega⟩ ⟨c % 256 - 128, h⟩) else 0 := by
  unfold pack; pointwise

/-- A lane turned with the three tables. -/
theorem lane_tab (x : ℕ → EReal) (C S : ℕ → ℕ → EReal) (a j : ℕ) (hj : j < 128) : lane x (tabC C a) (tabU S a) (tabV S a) j =
    if j < 32 then x j * C a j - x (j + 32) * S a j else if j < 64 then x j * C a (j - 32) + x (j - 32) * S a (j - 32) else 0 := by
  unfold lane tabC tabU tabV
  by_cases h1 : j < 32
  · rw [show (j + 128 - 96) % 128 = j + 32 by omega, show j % 32 = j by omega]
    simp only [h1, show j < 64 by omega, if_true, mul_zero, add_zero, mul_neg, sub_eq_add_neg]
  by_cases h2 : j < 64
  · rw [show (j + 128 - 32) % 128 = j - 32 by omega, show j % 32 = j - 32 by omega]
    simp only [h1, h2, if_true, if_false, mul_zero, add_zero]
  · simp only [h1, h2, if_false, mul_zero, add_zero]

/-- The gradient of a lane turned. -/
theorem laneT_tab (x : ℕ → EReal) (C S : ℕ → ℕ → EReal) (a j : ℕ) (hj : j < 128) : laneT x (tabC C a) (tabU S a) (tabV S a) j =
    if j < 32 then x (j + 32) * S a j + x j * C a j else if j < 64 then x j * C a (j - 32) + -x (j - 32) * S a (j - 32) else 0 := by
  unfold laneT tabC tabU tabV
  by_cases h1 : j < 32
  · rw [show (j + 128 - 32) % 128 = j + 96 by omega, show (j + 128 - 96) % 128 = j + 32 by omega, show j % 32 = j by omega]
    simp only [h1, show j < 64 by omega, show ¬ j + 96 < 32 by omega, show ¬ j + 32 < 32 by omega, show j + 32 < 64 by omega, if_true, if_false, mul_zero, add_zero, Nat.add_sub_cancel]
    rw [add_comm]
  by_cases h2 : j < 64
  · rw [show (j + 128 - 32) % 128 = j - 32 by omega, show (j + 128 - 96) % 128 = j + 32 by omega, show j % 32 = j - 32 by omega]
    simp only [h1, h2, show j - 32 < 32 by omega, show ¬ j + 32 < 32 by omega, show ¬ j + 32 < 64 by omega, if_true, if_false, mul_zero, add_zero, mul_neg, neg_mul]
  · rw [show (j + 128 - 32) % 128 = j - 32 by omega]
    simp only [h1, h2, show ¬ j - 32 < 32 by omega, if_false, mul_zero, add_zero, zero_add]
    by_cases h3 : (j + 128 - 96) % 128 < 32
    · simp only [h3, if_true, mul_zero]
    · simp only [h3, show ¬ (j + 128 - 96) % 128 < 64 by omega, if_false, mul_zero]

section
variable {cs sn : FVec Ideal S2048x32 .f32} {C S : ℕ → ℕ → EReal} (hc : ∀ a b, cs (ix2 a b) = C a b) (hs : ∀ a b, sn (ix2 a b) = S a b)

section
variable {X : FVec Ideal S2048x2048 .f32} {XX : ℕ → ℕ → EReal} (hX : ∀ a b, X (ix2 a b) = XX a b)
include hc hs hX

theorem qR_at (a c : Fin 2048) : qR cs sn X (ix2 a c) = heads lane XX (tabC C) (tabU S) (tabV S) a c := by
  have hcl := c.2
  unfold qR heads
  rw [pack_at]
  by_cases h1 : c.1 % 256 < 128
  · simp only [h1, dif_pos, if_true]
    rw [own_at hX]
    congr 1; dsimp only; omega
  · simp only [h1, dif_neg, if_false, not_false_eq_true]
    rw [lane_tab _ _ _ _ _ (by omega)]
    have e1 : c.1 % 128 = c.1 % 256 - 128 := by omega
    have e2 : c.1 / 128 * 128 = c.1 / 256 * 256 + 128 := by omega
    rw [e1, e2]
    generalize hj : c.1 % 256 - 128 = j
    simp only [from_]
    by_cases h2 : j < 64
    · simp only [h2, dif_pos]
      by_cases h3 : j < 32
      · simp only [h3, if_true]
        pointwise [lo_at, hi_at, mid_at hX, bc_at, hc, hs]
        rw [dif_pos h3, show c.1 / 256 * 256 + (128 + j) = c.1 / 256 * 256 + 128 + j by omega,
          show c.1 / 256 * 256 + (128 + (32 + j)) = c.1 / 256 * 256 + 128 + (j + 32) by omega]
      · simp only [h3, h2, if_true, if_false]
        pointwise [lo_at, hi_at, mid_at hX, bc_at, hc, hs]
        rw [dif_neg h3, show c.1 / 256 * 256 + (128 + (j - 32)) = c.1 / 256 * 256 + 128 + (j - 32) by omega,
          show c.1 / 256 * 256 + (128 + (32 + (j - 32))) = c.1 / 256 * 256 + 128 + j by omega]
    · simp only [h2, dif_neg, if_false, not_false_eq_true, show ¬ j < 32 by omega]

theorem dqR_at (a c : Fin 2048) : dqR cs sn X (ix2 a c) = heads laneT XX (tabC C) (tabU S) (tabV S) a c := by
  have hcl := c.2
  unfold dqR heads
  rw [laneT_tab _ _ _ _ _ (by omega)]
  pointwise [lo_at, hi_at, mid_at hX, bc_at, hc, hs, own_at hX]
  have e1 : c.1 / 256 < 8 := by omega
  by_cases h1 : c.1 % 256 < 128
  · simp only [h1, e1, show ¬ 128 ≤ c.1 % 256 by omega, true_and, false_and, dif_pos, dif_neg, not_false_eq_true, if_true, add_zero]
    exact congrArg (XX a) (by omega)
  have e2 : c.1 % 128 = c.1 % 256 - 128 := by omega
  have e3 : c.1 / 128 * 128 = c.1 / 256 * 256 + 128 := by omega
  have e4 : 128 ≤ c.1 % 256 := by omega
  rw [e2, e3]
  generalize hj : c.1 % 256 - 128 = j
  simp only [h1, e1, e4, from_, true_and, dif_neg, not_false_eq_true, if_false, zero_add]
  by_cases h3 : j < 32
  · simp only [h3, show j < 64 by omega, show ¬ 32 ≤ j by omega, false_and, dif_pos, dif_neg, not_false_eq_true, if_true, zero_add]
    rw [show c.1 / 256 * 256 + (128 + j) = c.1 / 256 * 256 + 128 + j by omega,
      show c.1 / 256 * 256 + (128 + (32 + j)) = c.1 / 256 * 256 + 128 + (j + 32) by omega]
  by_cases h2 : j < 64
  · simp only [h2, h3, show 32 ≤ j by omega, show j - 32 < 32 by omega, true_and, dif_pos, dif_neg, not_false_eq_true, if_true, if_false, add_zero]
    rw [show c.1 / 256 * 256 + (128 + (j - 32)) = c.1 / 256 * 256 + 128 + (j - 32) by omega,
      show c.1 / 256 * 256 + (128 + (32 + (j - 32))) = c.1 / 256 * 256 + 128 + j by omega]
  · simp only [h2, h3, dif_neg, not_false_eq_true, if_false]
end

section
variable {K : FVec Ideal S2048x2048 .f32} {KK : ℕ → ℕ → EReal} (hK : ∀ a b, K (ix2 a b) = KK a b)
  {P : FVec Ideal S2048x128 .f32} {PP : ℕ → ℕ → EReal} (hP : ∀ a b, P (ix2 a b) = PP a b)
include hc hs hP

theorem pe_at (a : Fin 2048) (j : Fin 64) : pe cs sn (p64 P) (ix2 a j) =
    if j.1 < 32 then PP a j * C a j - PP a (j + 32) * S a j else PP a j * C a (j - 32) + PP a (j - 32) * S a (j - 32) := by
  have hj := j.2
  unfold pe p64
  pointwise [plo_at, phi_at, hc, hs, hP]
  by_cases h3 : j.1 < 32
  · simp only [h3, dif_pos, if_true]
    rw [add_comm 32 j.1]
  · simp only [h3, dif_neg, not_false_eq_true, if_false]
    rw [show 32 + (j.1 - 32) = j.1 by omega]

include hK
theorem kR_at (a c : Fin 2048) : kR cs sn K P (ix2 a c) = keys KK PP (tabC C) (tabU S) (tabV S) a c := by
  have hcl := c.2
  unfold kR keys
  rw [pack_at]
  rw [lane_tab _ _ _ _ _ (by omega)]
  pointwise [pe_at hc hs hP, hK]
  by_cases h1 : c.1 % 256 < 128
  · simp only [h1, dif_pos, if_true]
    exact congrArg (KK a) (by omega)
  rw [show c.1 % 128 = c.1 % 256 - 128 by omega]
  generalize hj : c.1 % 256 - 128 = j
  simp only [h1, dif_neg, not_false_eq_true, if_false]
  by_cases h3 : j < 32
  · simp only [h3, show j < 64 by omega, dif_pos, if_true]
  by_cases h2 : j < 64
  · simp only [h2, h3, dif_pos, if_true, if_false]
  · simp only [h2, h3, dif_neg, not_false_eq_true, if_false]
end

theorem dkvR_at {D : FVec Ideal S2048x2048 .f32} {DD : ℕ → ℕ → EReal} (hD : ∀ a b, D (ix2 a b) = DD a b)
    {W : FVec Ideal S2048x1024 .f32} {WW : ℕ → ℕ → EReal} (hW : ∀ a b, W (ix2 a b) = WW a b) (a c : Fin 2048) :
    dkvR D W (ix2 a c) = keysB DD WW a c := by
  unfold dkvR keysB
  pointwise [own_at hD, hW]
  by_cases h1 : c.1 < 1024
  · simp only [h1, show ¬ 1024 ≤ c.1 by omega, false_and, dif_pos, dif_neg, not_false_eq_true, if_true, zero_add]
  · simp only [h1, show 1024 ≤ c.1 by omega, show c.1 - 1024 < 1024 by omega, true_and, dif_pos, dif_neg, not_false_eq_true, if_false, add_zero]

theorem sumR_at {D : FVec Ideal S2048x2048 .f32} {DD : ℕ → ℕ → EReal} (hD : ∀ a b, D (ix2 a b) = DD a b) (a : Fin 2048) (j : Fin 64) :
    sumR D (ix2 a j) = total DD a j := by
  unfold sumR total
  pointwise [mid_at hD]
  rw [Fin.sum_univ_one, Fin.sum_univ_eight]
  have e (k : ℕ) : k * 256 + (128 + j.1) = k * 256 + 128 + j.1 := (Nat.add_assoc _ _ _).symm
  simp only [e]
  rfl

include hc hs
theorem dpR_at {Y : FVec Ideal S2048x64 .f32} {YY : ℕ → ℕ → EReal} (hY : ∀ a b, Y (ix2 a b) = YY a b) (a : Fin 2048) (j : Fin 128) :
    dpR cs sn Y (ix2 a j) = laneT (YY a) (tabC C a) (tabU S a) (tabV S a) j := by
  rw [laneT_tab _ _ _ _ _ j.2]
  unfold dpR
  pointwise [plo_at, phi_at, hc, hs, hY]
  by_cases h3 : j.1 < 32
  · simp only [h3, show j.1 < 64 by omega, show ¬ 32 ≤ j.1 by omega, false_and, dif_pos, dif_neg, not_false_eq_true, if_true, zero_add, add_comm 32 j.1]
  by_cases h2 : j.1 < 64
  · simp only [h2, h3, show 32 ≤ j.1 by omega, show j.1 - 32 < 32 by omega, true_and, dif_pos, dif_neg, not_false_eq_true, if_true, if_false, add_zero]
    rw [show 32 + (j.1 - 32) = j.1 by omega]
  · simp only [h2, h3, dif_neg, not_false_eq_true, if_false]
end

end Cert.ReferenceRopeIdeal.Rope
-- ==== Proof.Rope.Run.lean ====
module

public import proofs.«01_k».proof.Proof.Gen.KernelRopeIdeal.Frame

@[expose] public section

/-! The run of the kernel with its results: the launch of the generated frame, with the outputs read as well. -/

set_option maxRecDepth 16384

noncomputable section

namespace Cert.KernelRopeIdeal.Rope

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelRopeIdeal Cert.KernelRopeIdeal.Gen

variable {F : FTy → Type} [FloatOps F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- The whole program runs, and ends with the calls' results, as the launch's fold leaves them, and the arguments as they were. -/
theorem run : θ_run defs (onTc (τ := τ) (main (F := F))) ⟨m, fun _ => 0, ρ⟩ (fun r => ∀ c : Dev nD,
      r.2.mem ((c.tc : Thread nD τ).loc main_v27) = W5 m ρ c main_v27
      ∧ r.2.mem ((c.tc : Thread nD τ).loc main_v28) = W5 m ρ c main_v28
      ∧ r.2.mem ((c.tc : Thread nD τ).loc main_v29) = W5 m ρ c main_v29
      ∧ r.2.mem ((c.tc : Thread nD τ).loc main_v30_0) = W5 m ρ c main_v30_0
      ∧ r.2.mem ((c.tc : Thread nD τ).loc main_v30_1) = W5 m ρ c main_v30_1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => fun c =>
      ⟨h c _ (mem_uc main_v27 (by decide)),
       h c _ (mem_uc main_v28 (by decide)),
       h c _ (mem_uc main_v29 (by decide)),
       h c _ (mem_uc main_v30_0 (by decide)),
       h c _ (mem_uc main_v30_1 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩)

end Cert.KernelRopeIdeal.Rope
-- ==== Proof.Rope.Blk.lean ====
module

public import proofs.«01_k».proof.Proof.Gen.KernelRopeIdeal.Frame
public import proofs.«01_k».proof.Proof.Rope.Model

@[expose] public section

/-! What each call leaves of one block of 256 rows. -/

set_option maxRecDepth 16384

noncomputable section

namespace Cert.KernelRopeIdeal.Rope

open Idealize.ShloMosaic Idealize.ShloMosaic.TcCoe Idealize.SL.Sem
open Cert.KernelRopeIdeal Cert.KernelRopeIdeal.Gen Cert.Mat Cert.Rope

/-- Stores that are blocks of `G` and cover an index leave `G` there. -/
theorem canon_of {S : Shape} {e : EltTy} (G : S.Idx → Elt Ideal e) {L : List (View.Piece (Elt Ideal) S e)} (h : View.PiecesOf G L) (y : S.Idx)
    (hc : ∃ p ∈ L, y ∈ p.1.set) : View.canon L y = G y :=
  (congrArg (fun L => View.canon L y) (List.append_nil L).symm).trans (View.canon_append_of_piecesOf G [] L h y hc)

section
variable (x1 x2 x3 : Vec Ideal S256x128 .f32) {X T U V : ℕ → ℕ → EReal}

theorem pay2_at (x : Vec Ideal S256x128 .f32) (r : Fin 256) (d : Fin 128) {Y : ℕ → EReal} (hx : ∀ k, x (ix2 r k) = Y k)
    (h1 : ∀ a b, x1 (ix2 a b) = T a b) (h2 : ∀ a b, x2 (ix2 a b) = U a b) (h3 : ∀ a b, x3 (ix2 a b) = V a b) :
    k0_pay2 x x1 x2 x3 (ix2 r d) = lane Y (T r) (U r) (V r) d := by
  open_payloads; pointwise
  simp only [hx, h1, h2, h3, lane]

theorem pay2T_at (x : Vec Ideal S256x128 .f32) (r : Fin 256) (d : Fin 128) {Y : ℕ → EReal} (hx : ∀ k, x (ix2 r k) = Y k)
    (h1 : ∀ a b, x1 (ix2 a b) = T a b) (h2 : ∀ a b, x2 (ix2 a b) = U a b) (h3 : ∀ a b, x3 (ix2 a b) = V a b) :
    k2_pay2 x x1 x2 x3 (ix2 r d) = laneT Y (T r) (U r) (V r) d := by
  open_payloads; pointwise
  simp only [hx, h1, h2, h3, laneT]

/-- A load of 128 columns, read at an index. -/
theorem ld_at {n : ℕ} (x : (⟨2, ![256, n]⟩ : Shape).Idx → EReal) (hx : ∀ a b, x (ix2 a b) = X a b) (b : ℕ) (inb) (r : Fin 256) (d : Fin 128) :
    x ((Rect.unit (s := ⟨2, ![256, n]⟩) ![0, b] S256x128.size inb).emb (ix2 r d)) = X r (b + d) := by
  have hd : b + (d : ℕ) < n := lt_of_lt_of_le (Nat.add_lt_add_left d.isLt b) (inb 1)
  refine Eq.trans (congrArg x ?_) (hx r ⟨b + d, hd⟩)
  funext a; apply Fin.ext; fin_cases a <;> simp [Rect.unit, Rect.emb]

/-- The index a store of 128 columns writes. -/
theorem emb_col {n : ℕ} (b : ℕ) (inb) (x : S256x128.Idx) :
    (((Rect.unit (s := ⟨2, ![256, n]⟩) ![0, b] S256x128.size inb).emb x 0 : Fin 256) : ℕ) = (x 0 : Fin 256)
      ∧ (((Rect.unit (s := ⟨2, ![256, n]⟩) ![0, b] S256x128.size inb).emb x 1 : Fin n) : ℕ) = b + (x 1 : Fin 128) := by
  constructor <;> simp [Rect.unit, Rect.emb]

theorem zero_offset : (![0, 0] : Fin 2 → ℕ) = fun _ => 0 := by funext a; fin_cases a <;> rfl

/-- The tables' loads are the whole tables. -/
theorem ld_tab (x : Vec Ideal S256x128 .f32) : View.ld x r0_2 = x := View.ld_unit_zero (S := S256x128) zero_offset _ x

variable (x0 : Vec Ideal S256x2048 .f32) (hx : ∀ a b, x0 (ix2 a b) = X a b)
variable (h1 : ∀ a b, x1 (ix2 a b) = T a b) (h2 : ∀ a b, x2 (ix2 a b) = U a b) (h3 : ∀ a b, x3 (ix2 a b) = V a b)

include hx in
theorem left (f) (b : ℕ) (inb) (hb : b % 256 = 0) (x : S256x128.Idx) :
    k0_pay1 (View.ld x0 (Rect.unit (s := S256x2048) ![0, b] S256x128.size inb)) x
      = (fun i : S256x2048.Idx => heads f X T U V (i 0) (i 1)) ((Rect.unit (s := S256x2048) ![0, b] S256x128.size inb).emb x) := by
  have h := (x 1).isLt
  have h' : (x 1 : ℕ) < 128 := h
  obtain ⟨e0, e1⟩ := emb_col (n := 2048) b inb x
  refine Eq.trans ?_ (Eq.symm (show heads f X T U V _ _ = _ from congrArg₂ _ e0 e1))
  rw [heads, if_pos (by omega)]
  exact (congrArg _ (eta2 (m := 256) (n := 128) x)).trans (ld_at (n := 2048) x0 hx b inb (x 0) (x 1))

include hx h1 h2 h3 in
theorem right (b : ℕ) (inb) (hb : b % 256 = 128) (x : S256x128.Idx) :
    k0_pay2 (View.ld x0 (Rect.unit (s := S256x2048) ![0, b] S256x128.size inb)) x1 x2 x3 x
      = (fun i : S256x2048.Idx => heads lane X T U V (i 0) (i 1)) ((Rect.unit (s := S256x2048) ![0, b] S256x128.size inb).emb x) := by
  have h := (x 1).isLt
  have h' : (x 1 : ℕ) < 128 := h
  obtain ⟨e0, e1⟩ := emb_col (n := 2048) b inb x
  refine Eq.trans ?_ (Eq.symm (show heads lane X T U V _ _ = _ from congrArg₂ _ e0 e1))
  rw [heads, if_neg (by omega), show (b + (x 1 : Fin 128)) / 128 * 128 = b by omega, show (b + ((x 1 : Fin 128) : ℕ)) % 128 = (x 1 : Fin 128) by omega]
  refine (congrArg _ (eta2 (m := 256) (n := 128) x)).trans ?_
  exact pay2_at x1 x2 x3 _ (x 0) (x 1) (fun k => ld_at (n := 2048) x0 hx b inb (x 0) k) h1 h2 h3

include hx h1 h2 h3 in
theorem rightT (b : ℕ) (inb) (hb : b % 256 = 128) (x : S256x128.Idx) :
    k2_pay2 (View.ld x0 (Rect.unit (s := S256x2048) ![0, b] S256x128.size inb)) x1 x2 x3 x
      = (fun i : S256x2048.Idx => heads laneT X T U V (i 0) (i 1)) ((Rect.unit (s := S256x2048) ![0, b] S256x128.size inb).emb x) := by
  have h := (x 1).isLt
  have h' : (x 1 : ℕ) < 128 := h
  obtain ⟨e0, e1⟩ := emb_col (n := 2048) b inb x
  refine Eq.trans ?_ (Eq.symm (show heads laneT X T U V _ _ = _ from congrArg₂ _ e0 e1))
  rw [heads, if_neg (by omega), show (b + (x 1 : Fin 128)) / 128 * 128 = b by omega, show (b + ((x 1 : Fin 128) : ℕ)) % 128 = (x 1 : Fin 128) by omega]
  refine (congrArg _ (eta2 (m := 256) (n := 128) x)).trans ?_
  exact pay2T_at x1 x2 x3 _ (x 0) (x 1) (fun k => ld_at (n := 2048) x0 hx b inb (x 0) k) h1 h2 h3

include hx h1 h2 h3 in
theorem out0_eq : out0_4 x0 x1 x2 x3 = fun i => heads lane X T U V (i 0) (i 1) := by
  unfold out0_4
  simp only [ld_tab]
  funext y
  refine canon_of (e := .bf16) (fun i : S256x2048.Idx => heads lane X T U V (i 0) (i 1)) ?_ y (cover0_4 (F := Ideal) _ _ _ _ _ _ _ _ _ _ _ _ _ _ _ _ y)
  have L := left (T := T) (U := U) (V := V) x0 hx lane
  have R := right x1 x2 x3 x0 hx h1 h2 h3
  refine ⟨R _ ?_ ?_, L _ ?_ ?_, R _ ?_ ?_, L _ ?_ ?_, R _ ?_ ?_, L _ ?_ ?_,
    R _ ?_ ?_, L _ ?_ ?_, R _ ?_ ?_, L _ ?_ ?_, R _ ?_ ?_, L _ ?_ ?_,
    R _ ?_ ?_, L _ ?_ ?_, R _ ?_ ?_, L _ ?_ ?_, trivial⟩ <;> decide

include hx h1 h2 h3 in
theorem out2_eq : out2_4 x0 x1 x2 x3 = fun i => heads laneT X T U V (i 0) (i 1) := by
  unfold out2_4
  simp only [ld_tab]
  funext y
  refine canon_of (e := .bf16) (fun i : S256x2048.Idx => heads laneT X T U V (i 0) (i 1)) ?_ y (cover2_4 (F := Ideal) _ _ _ _ _ _ _ _ _ _ _ _ _ _ _ _ y)
  have L := left (T := T) (U := U) (V := V) x0 hx laneT
  have R := rightT x1 x2 x3 x0 hx h1 h2 h3
  refine ⟨R _ ?_ ?_, L _ ?_ ?_, R _ ?_ ?_, L _ ?_ ?_, R _ ?_ ?_, L _ ?_ ?_,
    R _ ?_ ?_, L _ ?_ ?_, R _ ?_ ?_, L _ ?_ ?_, R _ ?_ ?_, L _ ?_ ?_,
    R _ ?_ ?_, L _ ?_ ?_, R _ ?_ ?_, L _ ?_ ?_, trivial⟩ <;> decide

theorem total_at (z1 z2 z3 z4 z5 z6 z7 z8 : Vec Ideal S256x128 .f32) (r : Fin 256) (d : Fin 128) :
    k3_pay11 (k3_pay6 z1 z2 z3 z4) z5 z6 z7 z8 (ix2 r d)
      = (z1 (ix2 r d) + z2 (ix2 r d) + z3 (ix2 r d) + z4 (ix2 r d) + z5 (ix2 r d) + z6 (ix2 r d) + z7 (ix2 r d) + z8 (ix2 r d) : EReal) := by
  open_payloads; pointwise

include hx h1 h2 h3 in
theorem out3_6_eq (c i m1 H1 m2 H2 m3 H3 m4 H4 m5 H5 m6 H6 m7 H7) (y1 : Vec Ideal S256x1024 .f32) :
    out3_A_6 (F := Ideal) c i m1 H1 m2 H2 m3 H3 m4 H4 m5 H5 m6 H6 m7 H7 x0 y1 x1 x2 x3
      = fun i => laneT (total X (i 0)) (T (i 0)) (U (i 0)) (V (i 0)) (i 1) := by
  frame_out
  funext y
  refine (congrArg _ (eta2 (m := 256) (n := 128) y)).trans ?_
  refine pay2T_at x1 x2 x3 (k3_pay11 (F := Ideal) _ _ _ _ _) (y 0) (y 1) (fun k => ?_) h1 h2 h3
  have l (b inb) : View.ld x0 (Rect.unit (s := S256x2048) ![0, b] ![256, 128] inb) (ix2 (y 0) k) = X (y 0 : Fin 256) (b + k) :=
    ld_at (n := 2048) x0 hx b inb (y 0) k
  refine (total_at _ _ _ _ _ _ _ _ (y 0) k).trans ?_
  simp only [total, l]

include hx in
theorem leftB (f : ℕ → ℕ → EReal) (b b' : ℕ) (inb inb') (hf : ∀ a j, j < 128 → f a (b' + j) = X a (b + j)) (x : S256x128.Idx) :
    k0_pay1 (View.ld x0 (Rect.unit (s := S256x2048) ![0, b] S256x128.size inb)) x
      = (fun i : S256x2048.Idx => f (i 0) (i 1)) ((Rect.unit (s := S256x2048) ![0, b'] S256x128.size inb').emb x) := by
  have h := (x 1).isLt
  have h' : (x 1 : ℕ) < 128 := h
  obtain ⟨e0, e1⟩ := emb_col (n := 2048) b' inb' x
  refine Eq.trans ?_ (Eq.symm (show f _ _ = _ from congrArg₂ _ e0 e1))
  rw [hf _ _ h']
  exact (congrArg _ (eta2 (m := 256) (n := 128) x)).trans (ld_at (n := 2048) x0 hx b inb (x 0) (x 1))

include hx in
theorem out3_5_eq (c i m1 H1 m2 H2 m3 H3 m4 H4 m5 H5 m6 H6 m7 H7) (y1 : Vec Ideal S256x1024 .f32) {W : ℕ → ℕ → EReal}
    (hy : ∀ a b, y1 (ix2 a b) = W a b) :
    out3_A_5 (F := Ideal) c i m1 H1 m2 H2 m3 H3 m4 H4 m5 H5 m6 H6 m7 H7 x0 y1 x1 x2 x3 = fun i => keysB X W (i 0) (i 1) := by
  frame_out
  funext y
  refine canon_of (e := .bf16) (fun i : S256x2048.Idx => keysB X W (i 0) (i 1)) ?_ y (View.cover_of_tiledBy _ ![256, 128] (by sl_kernel_rfl) y)
  have L := leftB x0 hx (keysB X W)
  refine ⟨fun x => ?_, L _ _ ?_ ?_ ?_, L _ _ ?_ ?_ ?_, L _ _ ?_ ?_ ?_, L _ _ ?_ ?_ ?_, L _ _ ?_ ?_ ?_, L _ _ ?_ ?_ ?_, L _ _ ?_ ?_ ?_, L _ _ ?_ ?_ ?_, trivial⟩
  · have e0 : (((Rect.unit (s := S256x2048) ![0, 1024] ![256, 1024] inb_S256x2048_S256x1024_0_1024).emb x 0 : Fin 256) : ℕ) = (x 0 : Fin 256) := by
      simp [Rect.unit, Rect.emb]
    have e1 : (((Rect.unit (s := S256x2048) ![0, 1024] ![256, 1024] inb_S256x2048_S256x1024_0_1024).emb x 1 : Fin 2048) : ℕ) = 1024 + (x 1 : Fin 1024) := by
      simp [Rect.unit, Rect.emb]
    refine Eq.trans ?_ (Eq.symm (show keysB X W _ _ = _ from congrArg₂ _ e0 e1))
    rw [keysB, if_neg (by omega), Nat.add_sub_cancel_left]
    exact (congrArg _ (eta2 (m := 256) (n := 1024) x)).trans (hy (x 0) (x 1))
  all_goals first | decide | skip
  all_goals
    intro a j hj
    rw [keysB, if_pos (by omega)]
    congr 1
    omega
end

section
variable (x0 : Vec Ideal S256x1024 .f32) (x1 x2 x3 x4 : Vec Ideal S256x128 .f32) {K P T U V : ℕ → ℕ → EReal}
variable (h0 : ∀ a b, x0 (ix2 a b) = K a b) (hp : ∀ a b, x1 (ix2 a b) = P a b)
variable (h1 : ∀ a b, x2 (ix2 a b) = T a b) (h2 : ∀ a b, x3 (ix2 a b) = U a b) (h3 : ∀ a b, x4 (ix2 a b) = V a b)

include h0 in
theorem leftK (b b' : ℕ) (inb inb') (hb : b' = 2 * b) (hd : b % 128 = 0) (x : S256x128.Idx) :
    k1_pay2 (View.ld x0 (Rect.unit (s := S256x1024) ![0, b] S256x128.size inb)) x
      = (fun i : S256x2048.Idx => keys K P T U V (i 0) (i 1)) ((Rect.unit (s := S256x2048) ![0, b'] S256x128.size inb').emb x) := by
  have h := (x 1).isLt
  have h' : (x 1 : ℕ) < 128 := h
  obtain ⟨e0, e1⟩ := emb_col (n := 2048) b' inb' x
  refine Eq.trans ?_ (Eq.symm (show keys K P T U V _ _ = _ from congrArg₂ _ e0 e1))
  rw [keys, if_pos (by omega), show (b' + (x 1 : Fin 128)) / 256 * 128 + (b' + (x 1 : Fin 128)) % 128 = b + (x 1 : Fin 128) by omega]
  exact (congrArg _ (eta2 (m := 256) (n := 128) x)).trans (ld_at (n := 1024) x0 h0 b inb (x 0) (x 1))

include hp h1 h2 h3 in
theorem rightK (b : ℕ) (inb) (hb : b % 256 = 128) (x : S256x128.Idx) :
    k1_pay1 x1 x2 x3 x4 x
      = (fun i : S256x2048.Idx => keys K P T U V (i 0) (i 1)) ((Rect.unit (s := S256x2048) ![0, b] S256x128.size inb).emb x) := by
  have h := (x 1).isLt
  have h' : (x 1 : ℕ) < 128 := h
  obtain ⟨e0, e1⟩ := emb_col (n := 2048) b inb x
  refine Eq.trans ?_ (Eq.symm (show keys K P T U V _ _ = _ from congrArg₂ _ e0 e1))
  rw [keys, if_neg (by omega), show (b + ((x 1 : Fin 128) : ℕ)) % 128 = (x 1 : Fin 128) by omega]
  refine (congrArg _ (eta2 (m := 256) (n := 128) x)).trans ?_
  exact pay2_at x2 x3 x4 x1 (x 0) (x 1) (fun k => hp (x 0) k) h1 h2 h3

include h0 hp h1 h2 h3 in
theorem out1_eq : out1_5 x0 x1 x2 x3 x4 = fun i => keys K P T U V (i 0) (i 1) := by
  unfold_out out1_5
  simp only [show ∀ x : Vec Ideal S256x128 .f32, View.ld x r1_0 = x from ld_tab]
  funext y
  refine canon_of (e := .bf16) (fun i : S256x2048.Idx => keys K P T U V (i 0) (i 1)) ?_ y (cover1_5 (F := Ideal) _ _ _ _ _ _ _ _ _ _ _ _ _ _ _ _ y)
  have L := leftK (P := P) (T := T) (U := U) (V := V) x0 h0
  have R := rightK x1 x2 x3 x4 (K := K) hp h1 h2 h3
  refine ⟨R _ ?_ ?_, L _ _ ?_ ?_ ?_ ?_, R _ ?_ ?_, L _ _ ?_ ?_ ?_ ?_,
    R _ ?_ ?_, L _ _ ?_ ?_ ?_ ?_, R _ ?_ ?_, L _ _ ?_ ?_ ?_ ?_,
    R _ ?_ ?_, L _ _ ?_ ?_ ?_ ?_, R _ ?_ ?_, L _ _ ?_ ?_ ?_ ?_,
    R _ ?_ ?_, L _ _ ?_ ?_ ?_ ?_, R _ ?_ ?_, L _ _ ?_ ?_ ?_ ?_, trivial⟩ <;> decide
end

end Cert.KernelRopeIdeal.Rope
-- ==== Proof.Rope.Arr.lean ====
module

public import proofs.«01_k».proof.Proof.Rope.Blk

@[expose] public section

/-! What each call leaves over its whole arrays. -/

set_option maxRecDepth 16384

noncomputable section

open Idealize.ShloMosaic Idealize.ShloMosaic.TcCoe Idealize.SL.Sem
open Idealize.ShloMosaic.Pipeline (Dat)

namespace Cert.KernelRopeIdeal.Rope

open Cert.KernelRopeIdeal Cert.KernelRopeIdeal.Gen Cert.Mat Cert.Rope

theorem idx0 : ∀ t : Fin grid0.N, (win0_0.index t 0 = t ∧ win0_0.index t 1 = 0)
    ∧ (win0_1.index t 0 = t ∧ win0_1.index t 1 = 0)
    ∧ (win0_2.index t 0 = t ∧ win0_2.index t 1 = 0)
    ∧ (win0_3.index t 0 = t ∧ win0_3.index t 1 = 0)
    ∧ (win0_4.index t 0 = t ∧ win0_4.index t 1 = 0) := by decide +kernel
theorem idx1 : ∀ t : Fin grid1.N, (win1_0.index t 0 = t ∧ win1_0.index t 1 = 0)
    ∧ (win1_1.index t 0 = t ∧ win1_1.index t 1 = 0)
    ∧ (win1_2.index t 0 = t ∧ win1_2.index t 1 = 0)
    ∧ (win1_3.index t 0 = t ∧ win1_3.index t 1 = 0)
    ∧ (win1_4.index t 0 = t ∧ win1_4.index t 1 = 0)
    ∧ (win1_5.index t 0 = t ∧ win1_5.index t 1 = 0) := by decide +kernel
theorem idx2 : ∀ t : Fin grid2.N, (win2_0.index t 0 = t ∧ win2_0.index t 1 = 0)
    ∧ (win2_1.index t 0 = t ∧ win2_1.index t 1 = 0)
    ∧ (win2_2.index t 0 = t ∧ win2_2.index t 1 = 0)
    ∧ (win2_3.index t 0 = t ∧ win2_3.index t 1 = 0)
    ∧ (win2_4.index t 0 = t ∧ win2_4.index t 1 = 0) := by decide +kernel
theorem idx3 : ∀ t : Fin grid3.N, (win3_0.index t 0 = t ∧ win3_0.index t 1 = 0)
    ∧ (win3_1.index t 0 = t ∧ win3_1.index t 1 = 0)
    ∧ (win3_2.index t 0 = t ∧ win3_2.index t 1 = 0)
    ∧ (win3_3.index t 0 = t ∧ win3_3.index t 1 = 0)
    ∧ (win3_4.index t 0 = t ∧ win3_4.index t 1 = 0)
    ∧ (win3_5.index t 0 = t ∧ win3_5.index t 1 = 0)
    ∧ (win3_6.index t 0 = t ∧ win3_6.index t 1 = 0) := by decide +kernel

section
variable (V : (c : Dev nD) → (b : Ref sig .tc) → Buf (Elt Ideal) ((c : Thread nD τ).loc b)) (c : Dev nD)
variable {X K P T U W : ℕ → ℕ → EReal}
variable (hT : ∀ a b, (V c main_v20 : Vec Ideal S2048x128 .f32) (ix2 a b) = T a b) (hU : ∀ a b, (V c main_v23 : Vec Ideal S2048x128 .f32) (ix2 a b) = U a b)
  (hW : ∀ a b, (V c main_v26 : Vec Ideal S2048x128 .f32) (ix2 a b) = W a b)

include hT hU hW in
theorem arr0 (hX : ∀ a b, (V c main_arg0 : Vec Ideal S2048x2048 .f32) (ix2 a b) = X a b) :
    (dat0 V c).arrAt 4 cfg0.N = (fun i => heads lane X T U W (i 0) (i 1) : Vec Ideal S2048x2048 .bf16) := by
  refine (dat0 V c).arrAt_eq_of_covers 4 _ (by decide +kernel) fun t hf y => ?_
  have ht : (t : ℕ) < 8 := t.isLt
  blk_simp
  have e0 (a : Fin 256) (b : Fin 2048) : (iblk0 V c 0 t : Vec Ideal (⟨2, ![256, 2048]⟩ : Shape) .f32) (ix2 a b) = (fun a => X (t * 256 + a)) a b := by
    refine Eq.trans ?_ (hX ⟨t * 256 + a, by omega⟩ b)
    blk_ext [iblk0, idx0 t]
  have e1 (a : Fin 256) (b : Fin 128) : (iblk0 V c 1 t : Vec Ideal (⟨2, ![256, 128]⟩ : Shape) .f32) (ix2 a b) = (fun a => T (t * 256 + a)) a b := by
    refine Eq.trans ?_ (hT ⟨t * 256 + a, by omega⟩ b)
    blk_ext [iblk0, idx0 t]
  have e2 (a : Fin 256) (b : Fin 128) : (iblk0 V c 2 t : Vec Ideal (⟨2, ![256, 128]⟩ : Shape) .f32) (ix2 a b) = (fun a => U (t * 256 + a)) a b := by
    refine Eq.trans ?_ (hU ⟨t * 256 + a, by omega⟩ b)
    blk_ext [iblk0, idx0 t]
  have e3 (a : Fin 256) (b : Fin 128) : (iblk0 V c 3 t : Vec Ideal (⟨2, ![256, 128]⟩ : Shape) .f32) (ix2 a b) = (fun a => W (t * 256 + a)) a b := by
    refine Eq.trans ?_ (hW ⟨t * 256 + a, by omega⟩ b)
    blk_ext [iblk0, idx0 t]
  rw [after0_4]
  refine (congrFun (out0_eq (X := fun a => X (t * 256 + a)) (T := fun a => T (t * 256 + a)) (U := fun a => U (t * 256 + a)) (V := fun a => W (t * 256 + a)) _ _ _ _ e0 e1 e2 e3) y).trans ?_
  simp only [idx0 t, zero_mul, zero_add]
  rfl

include hT hU hW in
theorem arr1 (hK : ∀ a b, (V c main_arg1 : Vec Ideal S2048x2048 .f32) (ix2 a b) = K a b) (hP : ∀ a b, (V c main_arg2 : Vec Ideal S2048x128 .f32) (ix2 a b) = P a b) :
    (dat1 V c).arrAt 5 cfg1.N = (fun i => keys K P T U W (i 0) (i 1) : Vec Ideal S2048x2048 .bf16) := by
  refine (dat1 V c).arrAt_eq_of_covers 5 _ (by decide +kernel) fun t hf y => ?_
  have ht : (t : ℕ) < 8 := t.isLt
  blk_simp
  have e0 (a : Fin 256) (b : Fin 1024) : (iblk1 V c 0 t : Vec Ideal (⟨2, ![256, 1024]⟩ : Shape) .f32) (ix2 a b) = (fun a => K (t * 256 + a)) a b := by
    refine Eq.trans ?_ (hK ⟨t * 256 + a, by omega⟩ ⟨b, by omega⟩)
    blk_ext [iblk1, idx1 t]
  have e1 (a : Fin 256) (b : Fin 128) : (iblk1 V c 1 t : Vec Ideal (⟨2, ![256, 128]⟩ : Shape) .f32) (ix2 a b) = (fun a => P (t * 256 + a)) a b := by
    refine Eq.trans ?_ (hP ⟨t * 256 + a, by omega⟩ b)
    blk_ext [iblk1, idx1 t]
  have e2 (a : Fin 256) (b : Fin 128) : (iblk1 V c 2 t : Vec Ideal (⟨2, ![256, 128]⟩ : Shape) .f32) (ix2 a b) = (fun a => T (t * 256 + a)) a b := by
    refine Eq.trans ?_ (hT ⟨t * 256 + a, by omega⟩ b)
    blk_ext [iblk1, idx1 t]
  have e3 (a : Fin 256) (b : Fin 128) : (iblk1 V c 3 t : Vec Ideal (⟨2, ![256, 128]⟩ : Shape) .f32) (ix2 a b) = (fun a => U (t * 256 + a)) a b := by
    refine Eq.trans ?_ (hU ⟨t * 256 + a, by omega⟩ b)
    blk_ext [iblk1, idx1 t]
  have e4 (a : Fin 256) (b : Fin 128) : (iblk1 V c 4 t : Vec Ideal (⟨2, ![256, 128]⟩ : Shape) .f32) (ix2 a b) = (fun a => W (t * 256 + a)) a b := by
    refine Eq.trans ?_ (hW ⟨t * 256 + a, by omega⟩ b)
    blk_ext [iblk1, idx1 t]
  rw [after1_5]
  refine (congrFun (out1_eq (K := fun a => K (t * 256 + a)) (P := fun a => P (t * 256 + a)) (T := fun a => T (t * 256 + a)) (U := fun a => U (t * 256 + a)) (V := fun a => W (t * 256 + a)) _ _ _ _ _ e0 e1 e2 e3 e4) y).trans ?_
  simp only [idx1 t, zero_mul, zero_add]
  rfl

include hT hU hW in
theorem arr2 (hX : ∀ a b, (V c main_arg4 : Vec Ideal S2048x2048 .f32) (ix2 a b) = X a b) :
    (dat2 V c).arrAt 4 cfg2.N = (fun i => heads laneT X T U W (i 0) (i 1) : Vec Ideal S2048x2048 .bf16) := by
  refine (dat2 V c).arrAt_eq_of_covers 4 _ (by decide +kernel) fun t hf y => ?_
  have ht : (t : ℕ) < 8 := t.isLt
  blk_simp
  have e0 (a : Fin 256) (b : Fin 2048) : (iblk2 V c 0 t : Vec Ideal (⟨2, ![256, 2048]⟩ : Shape) .f32) (ix2 a b) = (fun a => X (t * 256 + a)) a b := by
    refine Eq.trans ?_ (hX ⟨t * 256 + a, by omega⟩ b)
    blk_ext [iblk2, idx2 t]
  have e1 (a : Fin 256) (b : Fin 128) : (iblk2 V c 1 t : Vec Ideal (⟨2, ![256, 128]⟩ : Shape) .f32) (ix2 a b) = (fun a => T (t * 256 + a)) a b := by
    refine Eq.trans ?_ (hT ⟨t * 256 + a, by omega⟩ b)
    blk_ext [iblk2, idx2 t]
  have e2 (a : Fin 256) (b : Fin 128) : (iblk2 V c 2 t : Vec Ideal (⟨2, ![256, 128]⟩ : Shape) .f32) (ix2 a b) = (fun a => U (t * 256 + a)) a b := by
    refine Eq.trans ?_ (hU ⟨t * 256 + a, by omega⟩ b)
    blk_ext [iblk2, idx2 t]
  have e3 (a : Fin 256) (b : Fin 128) : (iblk2 V c 3 t : Vec Ideal (⟨2, ![256, 128]⟩ : Shape) .f32) (ix2 a b) = (fun a => W (t * 256 + a)) a b := by
    refine Eq.trans ?_ (hW ⟨t * 256 + a, by omega⟩ b)
    blk_ext [iblk2, idx2 t]
  rw [after2_4]
  refine (congrFun (out2_eq (X := fun a => X (t * 256 + a)) (T := fun a => T (t * 256 + a)) (U := fun a => U (t * 256 + a)) (V := fun a => W (t * 256 + a)) _ _ _ _ e0 e1 e2 e3) y).trans ?_
  simp only [idx2 t, zero_mul, zero_add]
  rfl

theorem arr3 (hX : ∀ a b, (V c main_arg5 : Vec Ideal S2048x2048 .f32) (ix2 a b) = X a b) (hK : ∀ a b, (V c main_arg6 : Vec Ideal S2048x1024 .f32) (ix2 a b) = K a b) :
    (dat3 V c).arrAt 5 cfg3.N = (fun i => keysB X K (i 0) (i 1) : Vec Ideal S2048x2048 .bf16) := by
  refine (dat3 V c).arrAt_eq_of_covers 5 _ (by decide +kernel) fun t hf y => ?_
  have ht : (t : ℕ) < 8 := t.isLt
  blk_simp
  have e0 (a : Fin 256) (b : Fin 2048) : (iblk3 V c 0 t : Vec Ideal (⟨2, ![256, 2048]⟩ : Shape) .f32) (ix2 a b) = (fun a => X (t * 256 + a)) a b := by
    refine Eq.trans ?_ (hX ⟨t * 256 + a, by omega⟩ b)
    blk_ext [iblk3, idx3 t]
  have e1 (a : Fin 256) (b : Fin 1024) : (iblk3 V c 1 t : Vec Ideal (⟨2, ![256, 1024]⟩ : Shape) .f32) (ix2 a b) = (fun a => K (t * 256 + a)) a b := by
    refine Eq.trans ?_ (hK ⟨t * 256 + a, by omega⟩ b)
    blk_ext [iblk3, idx3 t]
  rw [after3_5]; dsimp only [outsAt3]
  refine (congrFun (out3_5_eq (X := fun a => X (t * 256 + a)) (W := fun a => K (t * 256 + a)) _ _ _ _ e0 _ _ _ _ _ _ _ _ _ _ _ _ _ _ _ _ _ e1) y).trans ?_
  simp only [idx3 t, zero_mul, zero_add]
  rfl

include hT hU hW in
theorem arr3b (hX : ∀ a b, (V c main_arg5 : Vec Ideal S2048x2048 .f32) (ix2 a b) = X a b) (hK : ∀ a b, (V c main_arg6 : Vec Ideal S2048x1024 .f32) (ix2 a b) = K a b) :
    (dat3 V c).arrAt 6 cfg3.N = (fun i => laneT (total X (i 0)) (T (i 0)) (U (i 0)) (W (i 0)) (i 1) : Vec Ideal S2048x128 .f32) := by
  refine (dat3 V c).arrAt_eq_of_covers 6 _ (by decide +kernel) fun t hf y => ?_
  have ht : (t : ℕ) < 8 := t.isLt
  blk_simp
  have e0 (a : Fin 256) (b : Fin 2048) : (iblk3 V c 0 t : Vec Ideal (⟨2, ![256, 2048]⟩ : Shape) .f32) (ix2 a b) = (fun a => X (t * 256 + a)) a b := by
    refine Eq.trans ?_ (hX ⟨t * 256 + a, by omega⟩ b)
    blk_ext [iblk3, idx3 t]
  have e1 (a : Fin 256) (b : Fin 1024) : (iblk3 V c 1 t : Vec Ideal (⟨2, ![256, 1024]⟩ : Shape) .f32) (ix2 a b) = (fun a => K (t * 256 + a)) a b := by
    refine Eq.trans ?_ (hK ⟨t * 256 + a, by omega⟩ b)
    blk_ext [iblk3, idx3 t]
  have e2 (a : Fin 256) (b : Fin 128) : (iblk3 V c 2 t : Vec Ideal (⟨2, ![256, 128]⟩ : Shape) .f32) (ix2 a b) = (fun a => T (t * 256 + a)) a b := by
    refine Eq.trans ?_ (hT ⟨t * 256 + a, by omega⟩ b)
    blk_ext [iblk3, idx3 t]
  have e3 (a : Fin 256) (b : Fin 128) : (iblk3 V c 3 t : Vec Ideal (⟨2, ![256, 128]⟩ : Shape) .f32) (ix2 a b) = (fun a => U (t * 256 + a)) a b := by
    refine Eq.trans ?_ (hU ⟨t * 256 + a, by omega⟩ b)
    blk_ext [iblk3, idx3 t]
  have e4 (a : Fin 256) (b : Fin 128) : (iblk3 V c 4 t : Vec Ideal (⟨2, ![256, 128]⟩ : Shape) .f32) (ix2 a b) = (fun a => W (t * 256 + a)) a b := by
    refine Eq.trans ?_ (hW ⟨t * 256 + a, by omega⟩ b)
    blk_ext [iblk3, idx3 t]
  rw [after3_6]; dsimp only [outsAt3]
  refine (congrFun (out3_6_eq (X := fun a => X (t * 256 + a)) (T := fun a => T (t * 256 + a)) (U := fun a => U (t * 256 + a)) (V := fun a => W (t * 256 + a)) _ _ _ _ e0 e2 e3 e4 _ _ _ _ _ _ _ _ _ _ _ _ _ _ _ _ _) y).trans ?_
  simp only [idx3 t, zero_mul, zero_add]
  rfl

end

end Cert.KernelRopeIdeal.Rope
-- ==== Proof.Rope.Host.lean ====
module

public import proofs.«01_k».proof.Proof.Rope.Blk

@[expose] public section

/-! The three tables that the host prepares. -/

set_option maxRecDepth 16384

noncomputable section

open Idealize.ShloMosaic Idealize.ShloMosaic.TcCoe Idealize.SL.Sem

namespace Cert.KernelRopeIdeal.Rope

open Cert.KernelRopeIdeal Cert.KernelRopeIdeal.Gen Cert.Mat Cert.Rope

/-- The angles. -/
def angV (p : IVec S2048 32) : FVec Ideal S2048x32 .f32 :=
  mulf (broadcastInDim S2048x32 ![0, 1] bcast_S2048x1_S2048x32_0_1 (broadcastInDim S2048x1 ![0] bcast_S2048_S2048x1_0 (sitofp .f32 p)))
    (broadcastInDim S2048x32 ![0, 1] bcast_S1x32_S2048x32_0_1 (broadcastInDim S1x32 ![1] bcast_S32_S1x32_1
      (Host.divf (broadcastInDim S32 ![] bcast_S_S32 (constant S_ .f32 0x3F800000#32)) (Host.powf (broadcastInDim S32 ![] bcast_S_S32 (constant S_ .f32 0x461C4000#32))
        (Host.divf (addf (broadcastInDim S32 ![] bcast_S_S32 (constant S_ .f32 0x00000000#32)) (mulf (broadcastInDim S32 ![] bcast_S_S32 (constant S_ .f32 0x40000000#32)) (sitofp .f32 (iotaInDim S32 32 0))))
          (broadcastInDim S32 ![] bcast_S_S32 (constant S_ .f32 0x42800000#32)))))))

/-- The cosine twice, and zeros. -/
def tcV (x : FVec Ideal S2048x32 .f32) : FVec Ideal S2048x128 .f32 :=
  concatenate S2048x128 1 [⟨S2048x32, x⟩, ⟨S2048x32, x⟩, ⟨S2048x64, broadcastInDim S2048x64 ![] bcast_S_S2048x64 (constant S_ .f32 0x00000000#32)⟩] concatenates_S2048x32_S2048x32_S2048x64_S2048x128_d1
/-- The sine negated, and zeros. -/
def ts1V (x : FVec Ideal S2048x32 .f32) : FVec Ideal S2048x128 .f32 :=
  concatenate S2048x128 1 [⟨S2048x32, Host.negf x⟩, ⟨S2048x96, broadcastInDim S2048x96 ![] bcast_S_S2048x96 (constant S_ .f32 0x00000000#32)⟩] concatenates_S2048x32_S2048x96_S2048x128_d1
/-- Zeros, the sine, and zeros. -/
def ts2V (x : FVec Ideal S2048x32 .f32) : FVec Ideal S2048x128 .f32 :=
  concatenate S2048x128 1 [⟨S2048x32, broadcastInDim S2048x32 ![] bcast_S_S2048x32 (constant S_ .f32 0x00000000#32)⟩, ⟨S2048x32, x⟩, ⟨S2048x64, broadcastInDim S2048x64 ![] bcast_S_S2048x64 (constant S_ .f32 0x00000000#32)⟩] concatenates_S2048x32_S2048x32_S2048x64_S2048x128_d1

variable (m : (ℓ : Loc nD τ sig) → Buf (Elt Ideal) ℓ) (ρ : Dev nD → PrngReg) (c : Dev nD)

theorem v20_eq : (W1 m ρ c main_v20 : FVec Ideal S2048x128 .f32) = tcV (Host.cos (angV (m ((c.tc : Thread nD τ).loc main_arg3)))) := by
  simp only [W1, hostOps0]
  after_results_simp <;> rfl
theorem v23_eq : (W1 m ρ c main_v23 : FVec Ideal S2048x128 .f32) = ts1V (Host.sin (angV (m ((c.tc : Thread nD τ).loc main_arg3)))) := by
  simp only [W1, hostOps0]
  after_results_simp <;> rfl
theorem v26_eq : (W1 m ρ c main_v26 : FVec Ideal S2048x128 .f32) = ts2V (Host.sin (angV (m ((c.tc : Thread nD τ).loc main_arg3)))) := by
  simp only [W1, hostOps0]
  after_results_simp <;> rfl

section
variable (x : FVec Ideal S2048x32 .f32) {C : ℕ → ℕ → EReal} (h : ∀ a b, x (ix2 a b) = C a b)
include h

theorem tc_at (a : Fin 2048) (b : Fin 128) : tcV x (ix2 a b) = tabC C a b := by
  unfold tcV; pointwise
  have hb := b.2
  unfold tabC
  by_cases h1 : b.1 < 32
  · simp only [h1, show b.1 < 64 by omega, show b.1 % 32 = b.1 by omega, dif_pos, if_true, h]
  by_cases h2 : b.1 - 32 < 32
  · simp only [h1, h2, show b.1 < 64 by omega, show b.1 % 32 = b.1 - 32 by omega, dif_pos, dif_neg, not_false_eq_true, if_true, h]
  · simp only [h1, h2, show ¬ b.1 < 64 by omega, dif_neg, not_false_eq_true, if_false]
theorem ts1_at (a : Fin 2048) (b : Fin 128) : ts1V x (ix2 a b) = tabU C a b := by
  unfold ts1V; pointwise
  unfold tabU
  split_ifs
  · rw [h]
  · rfl
theorem ts2_at (a : Fin 2048) (b : Fin 128) : ts2V x (ix2 a b) = tabV C a b := by
  unfold ts2V; pointwise
  unfold tabV
  by_cases h1 : b.1 < 32
  · simp only [h1, dif_pos, if_true]
  by_cases h2 : b.1 - 32 < 32
  · simp only [h1, h2, show b.1 < 64 by omega, dif_pos, dif_neg, not_false_eq_true, if_true, if_false, h]
  · simp only [h1, h2, show ¬ b.1 < 64 by omega, dif_neg, not_false_eq_true, if_false]
end

end Cert.KernelRopeIdeal.Rope
-- ==== Proof.Rope.Final.lean ====
module

public import proofs.«01_k».proof.Defs
public import proofs.«01_k».proof.Proof.Rope.Ref
public import proofs.«01_k».proof.Proof.Rope.Run
public import proofs.«01_k».proof.Proof.Rope.Arr
public import proofs.«01_k».proof.Proof.Rope.Host

@[expose] public section

/-! The rotary embedding's kernels and their reference leave the same queries, keys and gradients. -/

set_option maxRecDepth 16384

noncomputable section

namespace Cert.KernelRopeIdeal.Rope

open Idealize.ShloMosaic Idealize.ShloMosaic.TcCoe Idealize.SL.Sem
open Cert.KernelRopeIdeal Cert.KernelRopeIdeal.Gen Cert.Rope Cert.Mat

variable (m : (ℓ : Loc nD τ sig) → Buf (Elt Ideal) ℓ) (ρ : Dev nD → PrngReg) (c : Dev nD)

/-- The cosine of the angles. -/
def cosOf : ℕ → ℕ → EReal := valOf (m := 2048) (n := 32) (Host.cos (angV (m ((c.tc : Thread nD τ).loc main_arg3))))
/-- The sine of the angles. -/
def sinOf : ℕ → ℕ → EReal := valOf (m := 2048) (n := 32) (Host.sin (angV (m ((c.tc : Thread nD τ).loc main_arg3))))

theorem t1 (a : Fin 2048) (b : Fin 128) : (V1 m ρ c main_v20 : FVec Ideal S2048x128 .f32) (ix2 a b) = tabC (cosOf m c) a b :=
  (congrFun (v20_eq m ρ c) _).trans (tc_at _ (valOf_at (m := 2048) (n := 32) _) a b)
theorem u1 (a : Fin 2048) (b : Fin 128) : (V1 m ρ c main_v23 : FVec Ideal S2048x128 .f32) (ix2 a b) = tabU (sinOf m c) a b :=
  (congrFun (v23_eq m ρ c) _).trans (ts1_at _ (valOf_at (m := 2048) (n := 32) _) a b)
theorem w1 (a : Fin 2048) (b : Fin 128) : (V1 m ρ c main_v26 : FVec Ideal S2048x128 .f32) (ix2 a b) = tabV (sinOf m c) a b :=
  (congrFun (v26_eq m ρ c) _).trans (ts2_at _ (valOf_at (m := 2048) (n := 32) _) a b)
theorem t2 (a : Fin 2048) (b : Fin 128) : (V2 m ρ c main_v20 : FVec Ideal S2048x128 .f32) (ix2 a b) = tabC (cosOf m c) a b :=
  (congrFun (W2_of m ρ c main_v20 (by decide)) _).trans (t1 m ρ c a b)
theorem u2 (a : Fin 2048) (b : Fin 128) : (V2 m ρ c main_v23 : FVec Ideal S2048x128 .f32) (ix2 a b) = tabU (sinOf m c) a b :=
  (congrFun (W2_of m ρ c main_v23 (by decide)) _).trans (u1 m ρ c a b)
theorem w2 (a : Fin 2048) (b : Fin 128) : (V2 m ρ c main_v26 : FVec Ideal S2048x128 .f32) (ix2 a b) = tabV (sinOf m c) a b :=
  (congrFun (W2_of m ρ c main_v26 (by decide)) _).trans (w1 m ρ c a b)
theorem t3 (a : Fin 2048) (b : Fin 128) : (V3 m ρ c main_v20 : FVec Ideal S2048x128 .f32) (ix2 a b) = tabC (cosOf m c) a b :=
  (congrFun (W3_of m ρ c main_v20 (by decide)) _).trans (t2 m ρ c a b)
theorem u3 (a : Fin 2048) (b : Fin 128) : (V3 m ρ c main_v23 : FVec Ideal S2048x128 .f32) (ix2 a b) = tabU (sinOf m c) a b :=
  (congrFun (W3_of m ρ c main_v23 (by decide)) _).trans (u2 m ρ c a b)
theorem w3 (a : Fin 2048) (b : Fin 128) : (V3 m ρ c main_v26 : FVec Ideal S2048x128 .f32) (ix2 a b) = tabV (sinOf m c) a b :=
  (congrFun (W3_of m ρ c main_v26 (by decide)) _).trans (w2 m ρ c a b)
theorem t4 (a : Fin 2048) (b : Fin 128) : (V4 m ρ c main_v20 : FVec Ideal S2048x128 .f32) (ix2 a b) = tabC (cosOf m c) a b :=
  (congrFun (W4_of m ρ c main_v20 (by decide)) _).trans (t3 m ρ c a b)
theorem u4 (a : Fin 2048) (b : Fin 128) : (V4 m ρ c main_v23 : FVec Ideal S2048x128 .f32) (ix2 a b) = tabU (sinOf m c) a b :=
  (congrFun (W4_of m ρ c main_v23 (by decide)) _).trans (u3 m ρ c a b)
theorem w4 (a : Fin 2048) (b : Fin 128) : (V4 m ρ c main_v26 : FVec Ideal S2048x128 .f32) (ix2 a b) = tabV (sinOf m c) a b :=
  (congrFun (W4_of m ρ c main_v26 (by decide)) _).trans (w3 m ρ c a b)

variable {X K P Q D E : ℕ → ℕ → EReal}
variable (hX : ∀ a b, (m ((c.tc : Thread nD τ).loc main_arg0) : FVec Ideal S2048x2048 .f32) (ix2 a b) = X a b)
variable (hK : ∀ a b, (m ((c.tc : Thread nD τ).loc main_arg1) : FVec Ideal S2048x2048 .f32) (ix2 a b) = K a b)
variable (hP : ∀ a b, (m ((c.tc : Thread nD τ).loc main_arg2) : FVec Ideal S2048x128 .f32) (ix2 a b) = P a b)
variable (hQ : ∀ a b, (m ((c.tc : Thread nD τ).loc main_arg4) : FVec Ideal S2048x2048 .f32) (ix2 a b) = Q a b)
variable (hD : ∀ a b, (m ((c.tc : Thread nD τ).loc main_arg5) : FVec Ideal S2048x2048 .f32) (ix2 a b) = D a b)
variable (hE : ∀ a b, (m ((c.tc : Thread nD τ).loc main_arg6) : FVec Ideal S2048x1024 .f32) (ix2 a b) = E a b)

include hX in
theorem out0 : (W5 m ρ c main_v27 : FVec Ideal S2048x2048 .bf16) = fun i => heads lane X (tabC (cosOf m c)) (tabU (sinOf m c)) (tabV (sinOf m c)) (i 0) (i 1) :=
  (W5_of m ρ c main_v27 (by decide)).trans <| (W4_of m ρ c main_v27 (by decide)).trans <| (W3_of m ρ c main_v27 (by decide)).trans <| (W2_arr m ρ c 4).trans (arr0 (V1 m ρ) c (t1 m ρ c) (u1 m ρ c) (w1 m ρ c) (fun a b => (congrFun (W1_args m ρ c main_arg0 (by decide)) (ix2 a b)).trans (hX a b)))
include hK hP in
theorem out1 : (W5 m ρ c main_v28 : FVec Ideal S2048x2048 .bf16) = fun i => keys K P (tabC (cosOf m c)) (tabU (sinOf m c)) (tabV (sinOf m c)) (i 0) (i 1) :=
  (W5_of m ρ c main_v28 (by decide)).trans <| (W4_of m ρ c main_v28 (by decide)).trans <| (W3_arr m ρ c 5).trans (arr1 (V2 m ρ) c (t2 m ρ c) (u2 m ρ c) (w2 m ρ c) (fun a b => (congrFun (W2_args m ρ c main_arg1 (by decide)) (ix2 a b)).trans (hK a b))
    (fun a b => (congrFun (W2_args m ρ c main_arg2 (by decide)) (ix2 a b)).trans (hP a b)))
include hQ in
theorem out2 : (W5 m ρ c main_v29 : FVec Ideal S2048x2048 .bf16) = fun i => heads laneT Q (tabC (cosOf m c)) (tabU (sinOf m c)) (tabV (sinOf m c)) (i 0) (i 1) :=
  (W5_of m ρ c main_v29 (by decide)).trans <| (W4_arr m ρ c 4).trans (arr2 (V3 m ρ) c (t3 m ρ c) (u3 m ρ c) (w3 m ρ c) (fun a b => (congrFun (W3_args m ρ c main_arg4 (by decide)) (ix2 a b)).trans (hQ a b)))
include hD hE in
theorem out3 : (W5 m ρ c main_v30_0 : FVec Ideal S2048x2048 .bf16) = fun i => keysB D E (i 0) (i 1) :=
  (W5_arr m ρ c 5).trans (arr3 (V4 m ρ) c (fun a b => (congrFun (W4_args m ρ c main_arg5 (by decide)) (ix2 a b)).trans (hD a b))
    (fun a b => (congrFun (W4_args m ρ c main_arg6 (by decide)) (ix2 a b)).trans (hE a b)))
include hD hE in
theorem out4 : (W5 m ρ c main_v30_1 : FVec Ideal S2048x128 .f32) = fun i => laneT (total D (i 0)) (tabC (cosOf m c) (i 0)) (tabU (sinOf m c) (i 0)) (tabV (sinOf m c) (i 0)) (i 1) :=
  (W5_arr m ρ c 6).trans (arr3b (V4 m ρ) c (t4 m ρ c) (u4 m ρ c) (w4 m ρ c) (fun a b => (congrFun (W4_args m ρ c main_arg5 (by decide)) (ix2 a b)).trans (hD a b))
    (fun a b => (congrFun (W4_args m ρ c main_arg6 (by decide)) (ix2 a b)).trans (hE a b)))

end Cert.KernelRopeIdeal.Rope

namespace Cert.Rope

open Idealize.ShloMosaic Idealize.ShloMosaic.TcCoe Idealize.SL.Sem
open Cert.Mat

/-- Two arrays that read the same at every pair of indices are the same. -/
theorem ext2 {p q : ℕ} {e : FTy} (x : FVec Ideal (⟨2, ![p, q]⟩ : Shape) e) (f : ℕ → ℕ → EReal) (h : ∀ a b, x (ix2 a b) = f a b) : x = fun i => f (i 0) (i 1) := by
  funext i
  exact (congrArg _ (eta2 (m := p) (n := q) i)).trans (h (i 0) (i 1))

open Cert.KernelRopeIdeal.Rope (cosOf sinOf) in
theorem algebraic : Cert.algebraic_KernelRopeIdeal_ReferenceRopeIdeal := by
  intro m ρ m' ρ' _ hag
  let X (c : Dev Cert.KernelRopeIdeal.nD) : ℕ → ℕ → EReal := valOf (m := 2048) (n := 2048) (m ((c.tc : Thread Cert.KernelRopeIdeal.nD Cert.KernelRopeIdeal.τ).loc Cert.KernelRopeIdeal.main_arg0))
  let K (c : Dev Cert.KernelRopeIdeal.nD) : ℕ → ℕ → EReal := valOf (m := 2048) (n := 2048) (m ((c.tc : Thread Cert.KernelRopeIdeal.nD Cert.KernelRopeIdeal.τ).loc Cert.KernelRopeIdeal.main_arg1))
  let P (c : Dev Cert.KernelRopeIdeal.nD) : ℕ → ℕ → EReal := valOf (m := 2048) (n := 128) (m ((c.tc : Thread Cert.KernelRopeIdeal.nD Cert.KernelRopeIdeal.τ).loc Cert.KernelRopeIdeal.main_arg2))
  let Q (c : Dev Cert.KernelRopeIdeal.nD) : ℕ → ℕ → EReal := valOf (m := 2048) (n := 2048) (m ((c.tc : Thread Cert.KernelRopeIdeal.nD Cert.KernelRopeIdeal.τ).loc Cert.KernelRopeIdeal.main_arg4))
  let D (c : Dev Cert.KernelRopeIdeal.nD) : ℕ → ℕ → EReal := valOf (m := 2048) (n := 2048) (m ((c.tc : Thread Cert.KernelRopeIdeal.nD Cert.KernelRopeIdeal.τ).loc Cert.KernelRopeIdeal.main_arg5))
  let E (c : Dev Cert.KernelRopeIdeal.nD) : ℕ → ℕ → EReal := valOf (m := 2048) (n := 1024) (m ((c.tc : Thread Cert.KernelRopeIdeal.nD Cert.KernelRopeIdeal.τ).loc Cert.KernelRopeIdeal.main_arg6))
  have hX := fun (c : Dev Cert.KernelRopeIdeal.nD) => valOf_at (m := 2048) (n := 2048) (m ((c.tc : Thread Cert.KernelRopeIdeal.nD Cert.KernelRopeIdeal.τ).loc Cert.KernelRopeIdeal.main_arg0))
  have hK := fun (c : Dev Cert.KernelRopeIdeal.nD) => valOf_at (m := 2048) (n := 2048) (m ((c.tc : Thread Cert.KernelRopeIdeal.nD Cert.KernelRopeIdeal.τ).loc Cert.KernelRopeIdeal.main_arg1))
  have hP := fun (c : Dev Cert.KernelRopeIdeal.nD) => valOf_at (m := 2048) (n := 128) (m ((c.tc : Thread Cert.KernelRopeIdeal.nD Cert.KernelRopeIdeal.τ).loc Cert.KernelRopeIdeal.main_arg2))
  have hQ := fun (c : Dev Cert.KernelRopeIdeal.nD) => valOf_at (m := 2048) (n := 2048) (m ((c.tc : Thread Cert.KernelRopeIdeal.nD Cert.KernelRopeIdeal.τ).loc Cert.KernelRopeIdeal.main_arg4))
  have hD := fun (c : Dev Cert.KernelRopeIdeal.nD) => valOf_at (m := 2048) (n := 2048) (m ((c.tc : Thread Cert.KernelRopeIdeal.nD Cert.KernelRopeIdeal.τ).loc Cert.KernelRopeIdeal.main_arg5))
  have hE := fun (c : Dev Cert.KernelRopeIdeal.nD) => valOf_at (m := 2048) (n := 1024) (m ((c.tc : Thread Cert.KernelRopeIdeal.nD Cert.KernelRopeIdeal.τ).loc Cert.KernelRopeIdeal.main_arg6))
  refine ⟨fun c => (fun i => heads lane (X c) (tabC (cosOf m c)) (tabU (sinOf m c)) (tabV (sinOf m c)) (i 0) (i 1) : Vec Ideal Cert.KernelRopeIdeal.S2048x2048 .bf16),
    fun c => (fun i => keys (K c) (P c) (tabC (cosOf m c)) (tabU (sinOf m c)) (tabV (sinOf m c)) (i 0) (i 1) : Vec Ideal Cert.KernelRopeIdeal.S2048x2048 .bf16),
    fun c => (fun i => heads laneT (Q c) (tabC (cosOf m c)) (tabU (sinOf m c)) (tabV (sinOf m c)) (i 0) (i 1) : Vec Ideal Cert.KernelRopeIdeal.S2048x2048 .bf16),
    fun c => (fun i => keysB (D c) (E c) (i 0) (i 1) : Vec Ideal Cert.KernelRopeIdeal.S2048x2048 .bf16),
    fun c => (fun i => laneT (total (D c) (i 0)) (tabC (cosOf m c) (i 0)) (tabU (sinOf m c) (i 0)) (tabV (sinOf m c) (i 0)) (i 1) : Vec Ideal Cert.KernelRopeIdeal.S2048x128 .f32),
    (θ_run _ _ _).mono (fun r h c => ?_) (Cert.KernelRopeIdeal.Rope.run m ρ),
    (θ_run _ _ _).mono (fun r h c => ?_) (Cert.ReferenceRopeIdeal.Value.run m' ρ')⟩
  · obtain ⟨e0, e1, e2, e3, e4, ha⟩ := h c
    exact ⟨e0.trans (Cert.KernelRopeIdeal.Rope.out0 m ρ c (hX c)), e1.trans (Cert.KernelRopeIdeal.Rope.out1 m ρ c (hK c) (hP c)),
      e2.trans (Cert.KernelRopeIdeal.Rope.out2 m ρ c (hQ c)), e3.trans (Cert.KernelRopeIdeal.Rope.out3 m ρ c (hD c) (hE c)),
      e4.trans (Cert.KernelRopeIdeal.Rope.out4 m ρ c (hD c) (hE c)), ha⟩
  · obtain ⟨e0, e1, e2, e3, e4, ha⟩ := h c
    obtain ⟨a0, a1, a2, a3, a4, a5, a6⟩ := hag c
    have ang : Cert.ReferenceRopeIdeal.Rope.angR (m' ((c.tc : Thread Cert.ReferenceRopeIdeal.nD Cert.ReferenceRopeIdeal.τ).loc Cert.ReferenceRopeIdeal.main_arg3))
        = Cert.KernelRopeIdeal.Rope.angV (m ((c.tc : Thread Cert.KernelRopeIdeal.nD Cert.KernelRopeIdeal.τ).loc Cert.KernelRopeIdeal.main_arg3)) := congrArg Cert.ReferenceRopeIdeal.Rope.angR a3
    have hc (a : Fin 2048) (b : Fin 32) := (congrFun (congrArg Host.cos ang) (ix2 a b)).trans (valOf_at (m := 2048) (n := 32) (Host.cos (Cert.KernelRopeIdeal.Rope.angV (m ((c.tc : Thread Cert.KernelRopeIdeal.nD Cert.KernelRopeIdeal.τ).loc Cert.KernelRopeIdeal.main_arg3)))) a b)
    have hs (a : Fin 2048) (b : Fin 32) := (congrFun (congrArg Host.sin ang) (ix2 a b)).trans (valOf_at (m := 2048) (n := 32) (Host.sin (Cert.KernelRopeIdeal.Rope.angV (m ((c.tc : Thread Cert.KernelRopeIdeal.nD Cert.KernelRopeIdeal.τ).loc Cert.KernelRopeIdeal.main_arg3)))) a b)
    have gX (a : Fin 2048) (b : Fin 2048) := (congrFun a0 (ix2 a b)).trans (hX c a b)
    have gK (a : Fin 2048) (b : Fin 2048) := (congrFun a1 (ix2 a b)).trans (hK c a b)
    have gP (a : Fin 2048) (b : Fin 128) := (congrFun a2 (ix2 a b)).trans (hP c a b)
    have gQ (a : Fin 2048) (b : Fin 2048) := (congrFun a4 (ix2 a b)).trans (hQ c a b)
    have gD (a : Fin 2048) (b : Fin 2048) := (congrFun a5 (ix2 a b)).trans (hD c a b)
    have gE (a : Fin 2048) (b : Fin 1024) := (congrFun a6 (ix2 a b)).trans (hE c a b)
    exact ⟨(e0.trans (Cert.ReferenceRopeIdeal.Rope.res0 m' c)).trans (ext2 _ _ (Cert.ReferenceRopeIdeal.Rope.qR_at hc hs gX)),
      (e1.trans (Cert.ReferenceRopeIdeal.Rope.res1 m' c)).trans (ext2 _ _ (Cert.ReferenceRopeIdeal.Rope.kR_at hc hs gK gP)),
      (e2.trans (Cert.ReferenceRopeIdeal.Rope.res2 m' c)).trans (ext2 _ _ (Cert.ReferenceRopeIdeal.Rope.dqR_at hc hs gQ)),
      e3.trans (ext2 _ _ (Cert.ReferenceRopeIdeal.Rope.dkvR_at gD gE)),
      (e4.trans (Cert.ReferenceRopeIdeal.Rope.res4 m' c)).trans (ext2 _ (fun a b => laneT (total (D c) a) (tabC (cosOf m c) a) (tabU (sinOf m c) a) (tabV (sinOf m c) a) b)
        (Cert.ReferenceRopeIdeal.Rope.dpR_at hc hs (Cert.ReferenceRopeIdeal.Rope.sumR_at gD))), ha⟩

end Cert.Rope
-- ==== Proof.Gates.Finite.lean ====
module

public import proofs.«01_k».proof.Proof.Gen.Pre_finite_gates
public import proofs.«01_k».proof.Proof.Attn.Finite
public import Idealize.ShloMosaic.Lib.Pipeline.ValueKit

@[expose] public section

/-! The precondition, read at an element: the logits, the two rows of parameters and the gates' cotangent hold real numbers. -/

noncomputable section

open Idealize.ShloMosaic

namespace Cert.Gates

open Cert.Pre_finite_gates
open Cert.Attn (real_of)

variable (x0 : FVec Ideal S2048x128 .f32) (x1 x2 : FVec Ideal S8 .f32) (x3 x4 : FVec Ideal S2048x128 .f32)

theorem real0 (h : (fn x0 x1 x2 x3 x4).1 = fun _ => 1#1) (i : S2048x128.Idx) : (((x0 i : EReal).toReal : ℝ) : EReal) = x0 i := by
  have h := congrFun h i
  simp only [fn, fn_part1] at h
  pointwise at h
  exact real_of _ h

theorem real1 (h : (fn x0 x1 x2 x3 x4).2.1 = fun _ => 1#1) (i : S8.Idx) : (((x1 i : EReal).toReal : ℝ) : EReal) = x1 i := by
  have h := congrFun h i
  simp only [fn, fn_part1] at h
  pointwise at h
  exact real_of _ h

theorem real2 (h : (fn x0 x1 x2 x3 x4).2.2.1 = fun _ => 1#1) (i : S8.Idx) : (((x2 i : EReal).toReal : ℝ) : EReal) = x2 i := by
  have h := congrFun h i
  simp only [fn, fn_part1] at h
  pointwise at h
  exact real_of _ h

theorem real3 (h : (fn x0 x1 x2 x3 x4).2.2.2 = fun _ => 1#1) (i : S2048x128.Idx) : (((x3 i : EReal).toReal : ℝ) : EReal) = x3 i := by
  have h := congrFun h i
  simp only [fn, fn_part1] at h
  pointwise at h
  exact real_of _ h

/-- A row's entries, by their number. -/
def rowOf (x : FVec Ideal S8 .f32) (n : ℕ) : ℝ := if h : n < 8 then (x (ix1 ⟨n, h⟩) : EReal).toReal else 0
theorem rowOf_at (x : FVec Ideal S8 .f32) (h : ∀ i, (((x i : EReal).toReal : ℝ) : EReal) = x i) (l : Fin 8) : x (ix1 l) = ((rowOf x l : ℝ) : EReal) := by
  rw [rowOf, dif_pos l.isLt]
  exact (h _).symm

end Cert.Gates
-- ==== Proof.Gates.Model.lean ====
module

public import proofs.«01_k».proof.Proof.Mat
public import proofs.«01_k».proof.Proof.Attn.Model

@[expose] public section

/-! Sums to the end of a chunk of 64 rows, and the same by six doublings. -/

noncomputable section

namespace Cert.Gates

/-- The sum of what follows in a row's chunk, itself counted. -/
def cs (y : ℕ → EReal) (r : ℕ) : EReal := ∑ j ∈ Finset.range 64, if r % 64 + j < 64 then y (r + j) else 0

/-- The sum of the next `n` rows of the chunk, itself counted. -/
def csN (n : ℕ) (y : ℕ → EReal) (r : ℕ) : EReal := ∑ j ∈ Finset.range n, if r % 64 + j < 64 then y (r + j) else 0

/-- One doubling: a row and the one `s` further on, where that one is in the chunk. -/
def dbl (s : ℕ) (y : ℕ → EReal) (r : ℕ) : EReal := y r + if r % 64 < 64 - s then y (r + s) else 0

theorem dbl_cs (s : ℕ) (hs : s < 64) (y : ℕ → EReal) : dbl s (csN s y) = csN (s + s) y := by
  funext r
  rw [dbl]
  simp only [csN]
  rw [Finset.sum_range_add]
  refine congrArg _ ?_
  by_cases h : r % 64 < 64 - s
  · rw [if_pos h]
    have e : (r + s) % 64 = r % 64 + s := by omega
    refine Finset.sum_congr rfl fun j _ => ?_
    rw [e, Nat.add_assoc, Nat.add_assoc]
  · rw [if_neg h]
    refine (Finset.sum_eq_zero fun j _ => if_neg ?_).symm
    omega

theorem cs_one (y : ℕ → EReal) : csN 1 y = y := by
  funext r
  rw [csN, Finset.sum_range_one]
  exact if_pos (Nat.mod_lt r (by norm_num))

theorem dbl_six (y : ℕ → EReal) : dbl 32 (dbl 16 (dbl 8 (dbl 4 (dbl 2 (dbl 1 y))))) = cs y := by
  have h1 := dbl_cs 1 (by norm_num) y
  rw [cs_one] at h1
  rw [h1, dbl_cs 2 (by norm_num), dbl_cs 4 (by norm_num), dbl_cs 8 (by norm_num), dbl_cs 16 (by norm_num), dbl_cs 32 (by norm_num)]
  rfl

end Cert.Gates
-- ==== Proof.Gates.Window.lean ====
module

public import proofs.«01_k».proof.Proof.Gen.ReferenceGatesIdeal.Run
public import proofs.«01_k».proof.Proof.Gates.Model

@[expose] public section

/-! The reference's sum over the rest of a chunk, as a window sum writes it. -/

set_option maxRecDepth 16384

noncomputable section

open Idealize.ShloMosaic

namespace Cert.ReferenceGatesIdeal.Final

open Cert.ReferenceGatesIdeal Cert.ReferenceGatesIdeal.Gen Cert.ReferenceGatesIdeal.Value Cert.Mat Cert.Gates

theorem coords : ∀ n : Fin (⟨3, ![1, 64, 1]⟩ : Shape).numel,
    (((⟨3, ![1, 64, 1]⟩ : Shape).rowMajor.symm n 0).val = 0 ∧ ((⟨3, ![1, 64, 1]⟩ : Shape).rowMajor.symm n 1).val = n.val
      ∧ ((⟨3, ![1, 64, 1]⟩ : Shape).rowMajor.symm n 2).val = 0) := by decide +kernel

theorem numel_eq : (⟨3, ![1, 64, 1]⟩ : Shape).numel = 64 := by decide +kernel

theorem foldl_add (n : ℕ) (f : Fin n → EReal) : (List.finRange n).foldl (fun r k => r + f k) 0 = ∑ k : Fin n, f k := by
  rw [Fin.sum_univ_def, List.sum_eq_foldl, List.foldl_map]

theorem win_at (x : FVec Ideal S32x64x8 .f32) (v : FVec Ideal S_ .f32) (hv : ∀ i, (v i : EReal) = 0) (a : Fin 32) (b : Fin 64) (l : Fin 8) (X : ℕ → EReal)
    (hX : ∀ j : Fin 64, x (ix3 a j l) = X j) :
    (Host.reduceWindowAdd ![1, 64, 1] ![1, 1, 1] ![0, 0, 0] ![0, 63, 0] x v reduceWindows_S32x64x8_S32x64x8_w1s1p0_0_w64s1p0_63_w1s1p0_0 h_S_ (ix3 a b l) : EReal)
      = ∑ j ∈ Finset.range 64, if (b : ℕ) + j < 64 then X (b + j) else 0 := by
  change Ideal.hostReduceWindowAdd ![1, 64, 1] ![1, 1, 1] ![0, 0, 0] ![0, 63, 0] reduceWindows_S32x64x8_S32x64x8_w1s1p0_0_w64s1p0_63_w1s1p0_0 x (v (Shape.Idx.first h_S_)) (ix3 a b l) = _
  rw [hv, Finset.sum_range]
  unfold Ideal.hostReduceWindowAdd Host.reduceWindow
  refine (foldl_add _ _).trans ?_
  refine Fintype.sum_equiv (finCongr numel_eq) _ _ fun n => ?_
  obtain ⟨c0, c1, c2⟩ := coords n
  have hn : n.val < 64 := lt_of_lt_of_eq n.isLt numel_eq
  dsimp only
  by_cases h : (b : ℕ) + n.val < 64
  · rw [dif_pos]
    · refine Eq.trans ?_ ((hX ⟨b + n.val, h⟩).trans (if_pos h).symm)
      refine congrArg x (funext fun k => Fin.ext ?_)
      fin_cases k <;> simp [ix3, c0, c1, c2]
    · intro k
      fin_cases k <;> simp [ix3, c0, c1, c2, h]
  · rw [dif_neg]
    · exact (if_neg h).symm
    · intro hh
      have := hh 1
      simp [ix3, c1] at this
      omega

end Cert.ReferenceGatesIdeal.Final
-- ==== Proof.Gates.El.lean ====
module

public import proofs.«01_k».proof.Defs
public import proofs.«01_k».proof.Proof.Gen.KernelGatesIdeal.Value
public import proofs.«01_k».proof.Proof.Gates.Model

@[expose] public section

/-! The gradient of the gates: what the kernel writes in each lane. -/

set_option maxRecDepth 16384

noncomputable section

open Idealize.ShloMosaic Idealize.ShloMosaic.TcCoe Idealize.SL.Sem
open Idealize.ShloMosaic.Pipeline (Dat)

namespace Cert.KernelGatesIdeal.Final

open Cert.KernelGatesIdeal Cert.KernelGatesIdeal.Gen Cert.KernelGatesIdeal.Value Cert.Gates

/-- A row's place in its chunk. -/
theorem pos (r : Fin 2048) (l : Fin 128) : k0_pay3 (ix2 r l) = BitVec.ofNat 32 (r % 64) := by
  unfold k0_pay3
  pointwise
  revert r
  decide +kernel

theorem lt_pos (n : ℕ) (hn : n ≤ 64) (r : Fin 2048) : IntOp.cmpi .slt (BitVec.ofNat 32 (r % 64)) (BitVec.ofNat 32 n) = if (r : ℕ) % 64 < n then 1#1 else 0#1 := by
  have : ∀ n : Fin 65, ∀ r : Fin 64, IntOp.cmpi .slt (BitVec.ofNat 32 r) (BitVec.ofNat 32 n) = if (r : ℕ) < n then 1#1 else 0#1 := by decide +kernel
  exact this ⟨n, by omega⟩ ⟨r % 64, Nat.mod_lt _ (by norm_num)⟩

theorem zero_eq : Ideal.ofBits .f32 0#32 = 0 := by simp [Ideal.ofBits, Ideal.ieee]

theorem is_g (r : Fin 2048) (l : Fin 128) : k0_pay1 (ix2 r l) = if 72 ≤ (l : ℕ) ∧ (l : ℕ) < 80 then 1#1 else 0#1 := by
  unfold k0_pay1
  pointwise
  revert l
  decide +kernel

theorem is_b (r : Fin 2048) (l : Fin 128) : k0_pay2 (ix2 r l) = if 64 ≤ (l : ℕ) ∧ (l : ℕ) < 72 then 1#1 else 0#1 := by
  unfold k0_pay2
  pointwise
  revert l
  decide +kernel

/-- One doubling. -/
theorem step (l : Fin 128) (y : FVec Ideal S2048x128 .f32) (f : ℕ → EReal) (hy : ∀ r : Fin 2048, y (ix2 r l) = f r) (s : ℕ) (h0 : 0 < s) (hs : s < 64)
    (sb n : BitVec 32) (hsb : sb.toNat = 2048 - s) (hn : n = BitVec.ofNat 32 (64 - s)) (r : Fin 2048) :
    (addf y (select (cmpi .slt k0_pay3 (broadcast S2048x128 n)) (dynamicRotate 0 sb none y rotates_S2048x128_d0)
      (broadcast S2048x128 (Scalar.ofBits .f32 0x00000000#32))) (ix2 r l) : EReal) = dbl s f r := by
  have e : dynamicRotate 0 sb none y rotates_S2048x128_d0 (ix2 r l) = y (ix2 ⟨(r + s) % 2048, Nat.mod_lt _ (by norm_num)⟩ l) := by
    unfold dynamicRotate
    refine congrArg y (funext fun b => ?_)
    fin_cases b
    · refine Fin.ext ?_
      show ((r : ℕ) + 2048 - (sb.toNat + 0) % 2048) % 2048 = ((r + s) % 2048 : ℕ)
      rw [hsb]
      omega
    · rfl
  have hc : cmpi .slt k0_pay3 (broadcast S2048x128 n) (ix2 r l) = if (r : ℕ) % 64 < 64 - s then 1#1 else 0#1 := by
    rw [cmpi_apply, pos]
    subst hn
    exact lt_pos (64 - s) (by omega) r
  change (y (ix2 r l) + Scalar.select (cmpi .slt k0_pay3 (broadcast S2048x128 n) (ix2 r l))
    (dynamicRotate 0 sb none y rotates_S2048x128_d0 (ix2 r l)) (Ideal.ofBits .f32 0#32) : EReal) = _
  rw [hc, e, hy, hy, dbl]
  refine congrArg (fun z : EReal => f r + z) ?_
  by_cases h : (r : ℕ) % 64 < 64 - s
  · rw [if_pos h, if_pos h]
    exact congrArg f (by dsimp only; omega)
  · rw [if_neg h, if_neg h]
    exact zero_eq

variable (x0 : Vec Ideal S2048x128 .f32) (x1 x2 : Vec Ideal S1x128 .f32) (x3 x4 x5 : Vec Ideal S2048x128 .f32)

/-- The cotangents summed up to the end of the chunk. -/
theorem acc (l : Fin 128) (hl : 72 ≤ (l : ℕ) ∧ (l : ℕ) < 80) (Y : ℕ → EReal) (hY : ∀ r : Fin 2048, x4 (ix2 r l) = Y r) (r : Fin 2048) :
    (k0_pay6 k0_pay3 (k0_pay4 x4) k0_pay5 (ix2 r l) : EReal) = cs Y r := by
  have h0 (r : Fin 2048) : (select k0_pay1 x4 (broadcast S2048x128 (Scalar.ofBits (F := Ideal) .f32 0x00000000#32)) (ix2 r l) : EReal) = Y r := by
    change Scalar.select (k0_pay1 (ix2 r l)) (x4 (ix2 r l)) _ = _
    rw [is_g, if_pos hl, ← hY]
    rfl
  have h1 := step l _ _ h0 1 (by norm_num) (by norm_num) 2047#32 63#32 rfl rfl
  have h2 := step l _ _ h1 2 (by norm_num) (by norm_num) 2046#32 62#32 rfl rfl
  have h3 := step l _ _ h2 4 (by norm_num) (by norm_num) 2044#32 60#32 rfl rfl
  have h4 := step l _ _ h3 8 (by norm_num) (by norm_num) 2040#32 56#32 rfl rfl
  have h5 := step l _ _ h4 16 (by norm_num) (by norm_num) 2032#32 48#32 rfl rfl
  have h6 := step l _ _ h5 32 (by norm_num) (by norm_num) 2016#32 32#32 rfl rfl
  rw [← dbl_six, ← h6 r]
  rfl

/-- The logistic function, as the kernel writes it. -/
def lg (z : EReal) : EReal := Ideal.div 1 (1 + Ideal.exp (0 - z))

theorem v76 (A : FVec Ideal S2048x128 .f32) (hA : k0_pay6 k0_pay3 (k0_pay4 x4) k0_pay5 = A) (r : Fin 2048) (l : Fin 128) :
    (k0_pay8 k0_pay3 (k0_pay4 x4) k0_pay5 x1 (ix2 r l) : EReal) = A (ix2 r l) * (0 - Ideal.exp (x1 (ix2 0 l))) := by
  unfold k0_pay8
  rw [hA]
  pointwise

theorem dz_at (B : FVec Ideal S2048x128 .f32) (r : Fin 2048) (l : Fin 128) :
    (k0_pay10 x0 k0_pay1 B (k0_pay9 x2) (ix2 r l) : EReal)
      = if 72 ≤ (l : ℕ) ∧ (l : ℕ) < 80 then B (ix2 r l) * lg (x0 (ix2 r l) + x2 (ix2 0 l)) else 0 := by
  have e : (k0_pay10 x0 k0_pay1 B (k0_pay9 x2) (ix2 r l) : EReal)
      = Scalar.select (k0_pay1 (ix2 r l)) (B (ix2 r l) * lg (x0 (ix2 r l) + x2 (ix2 0 l))) 0 := by
    unfold k0_pay10 k0_pay9
    pointwise [lg]
  rw [e, is_g]
  split <;> rfl

theorem da_at (A : FVec Ideal S2048x128 .f32) (l : Fin 128) : (k0_pay11 k0_pay1 A (k0_pay7 x3) (ix2 0 l) : EReal)
    = if 72 ≤ (l : ℕ) ∧ (l : ℕ) < 80 then ∑ r : Fin 2048, A (ix2 r l) * x3 (ix2 r l) else 0 := by
  have e : (k0_pay11 k0_pay1 A (k0_pay7 x3) (ix2 0 l) : EReal)
      = ∑ r : Fin 2048, Scalar.select (k0_pay1 (ix2 r l)) (A (ix2 r l) * x3 (ix2 r l)) 0 := by
    unfold k0_pay11 k0_pay7
    pointwise
  rw [e]
  simp only [is_g]
  split
  · rfl
  · exact Finset.sum_eq_zero fun _ _ => rfl

theorem ddt_at (B : FVec Ideal S2048x128 .f32) (l : Fin 128) : (k0_pay12 x0 k0_pay1 B (k0_pay9 x2) (ix2 0 l) : EReal)
    = if 72 ≤ (l : ℕ) ∧ (l : ℕ) < 80 then ∑ r : Fin 2048, B (ix2 r l) * lg (x0 (ix2 r l) + x2 (ix2 0 l)) else 0 := by
  have e : (k0_pay12 x0 k0_pay1 B (k0_pay9 x2) (ix2 0 l) : EReal) = ∑ r : Fin 2048, k0_pay10 x0 k0_pay1 B (k0_pay9 x2) (ix2 r l) := by
    unfold k0_pay12
    generalize k0_pay10 x0 k0_pay1 B (k0_pay9 x2) = Z
    pointwise
  rw [e]
  simp only [dz_at]
  split
  · rfl
  · exact Finset.sum_const_zero

theorem dp_at (B : FVec Ideal S2048x128 .f32) (r : Fin 2048) (l : Fin 128) :
    (k0_pay13 x0 (iota .tc S2048x128 32 [1] iota_S2048x128_d1_w32) k0_pay1 k0_pay2 (k0_pay7 x3) B (k0_pay9 x2) x4 x5 (ix2 r l) : EReal)
      = (if (l : ℕ) < 64 then x5 (ix2 r l) else 0)
        + (if 64 ≤ (l : ℕ) ∧ (l : ℕ) < 72 then x4 (ix2 r l) * x3 (ix2 r l) * (1 - x3 (ix2 r l)) else 0)
        + (if 72 ≤ (l : ℕ) ∧ (l : ℕ) < 80 then B (ix2 r l) * lg (x0 (ix2 r l) + x2 (ix2 0 l)) else 0) := by
  have e : (k0_pay13 x0 (iota .tc S2048x128 32 [1] iota_S2048x128_d1_w32) k0_pay1 k0_pay2 (k0_pay7 x3) B (k0_pay9 x2) x4 x5 (ix2 r l) : EReal)
      = Scalar.select (IntOp.cmpi .slt (BitVec.ofNat 32 l) 64#32) (x5 (ix2 r l)) 0
        + Scalar.select (k0_pay2 (ix2 r l)) (x4 (ix2 r l) * x3 (ix2 r l) * (1 - x3 (ix2 r l))) 0
        + k0_pay10 x0 k0_pay1 B (k0_pay9 x2) (ix2 r l) := by
    unfold k0_pay13 k0_pay7
    generalize k0_pay10 x0 k0_pay1 B (k0_pay9 x2) = Z
    pointwise
  have h : ∀ l : Fin 128, IntOp.cmpi .slt (BitVec.ofNat 32 l) 64#32 = if (l : ℕ) < 64 then 1#1 else 0#1 := by decide +kernel
  rw [e, is_b, h, dz_at]
  refine congrArg₂ (fun a b : EReal => a + b + _) ?_ ?_
  · split <;> rfl
  · split <;> rfl

end Cert.KernelGatesIdeal.Final
-- ==== Proof.Gates.Real.lean ====
module

public import proofs.«01_k».proof.Proof.Gates.El

@[expose] public section

/-! The gates' functions on real numbers: the softplus, its derivative, and the sum over the rest of a chunk. -/

noncomputable section

open Idealize.ShloMosaic

namespace Cert.Gates

open Cert.Attn (coe_sum exp_coe log_coe div_coe ite_coe_zero)
open Cert.KernelGatesIdeal.Final (lg)

/-- The logistic function. -/
def lgR (z : ℝ) : ℝ := 1 / (1 + Real.exp (-z))
/-- The softplus. -/
def spR (z : ℝ) : ℝ := Real.log (1 + Real.exp z)

theorem lg_coe (z : ℝ) : lg (z : EReal) = ((lgR z : ℝ) : EReal) := by
  have h : (1 : ℝ) + Real.exp (-z) ≠ 0 := (add_pos one_pos (Real.exp_pos _)).ne'
  rw [lg, lgR, ← div_coe h, EReal.coe_add, EReal.coe_one, zero_sub, ← EReal.coe_neg, exp_coe]

theorem sp_real (z : ℝ) : max z 0 + Real.log (1 + Real.exp (-max z (-z))) = spR z := by
  have hp (t : ℝ) : (0 : ℝ) < 1 + Real.exp t := add_pos one_pos (Real.exp_pos _)
  rcases le_total 0 z with h | h
  · rw [max_eq_left h, max_eq_left (by linarith), spR]
    have e : 1 + Real.exp z = Real.exp z * (1 + Real.exp (-z)) := by rw [mul_add, ← Real.exp_add]; simp [add_comm]
    rw [e, Real.log_mul (Real.exp_pos _).ne' (hp _).ne', Real.log_exp]
  · rw [max_eq_right h, max_eq_right (by linarith), neg_neg, zero_add, spR]

theorem sp_coe (z : ℝ) : max (z : EReal) 0 + Ideal.log1p (Ideal.exp (-max (z : EReal) (-(z : EReal)))) = ((spR z : ℝ) : EReal) := by
  have hp (t : ℝ) : (0 : ℝ) < 1 + Real.exp t := add_pos one_pos (Real.exp_pos _)
  have m1 : max (z : EReal) 0 = ((max z 0 : ℝ) : EReal) := (EReal.coe_strictMono.monotone.map_max (a := z) (b := 0)).symm
  have m2 : max (z : EReal) (-(z : EReal)) = ((max z (-z) : ℝ) : EReal) := (EReal.coe_strictMono.monotone.map_max (a := z) (b := -z)).symm
  rw [m1, m2, Ideal.log1p, ← EReal.coe_neg, exp_coe, ← EReal.coe_one, ← EReal.coe_add, log_coe (hp _), ← EReal.coe_add, sp_real]

/-- The derivative of the softplus, as the exponential of a difference. -/
theorem exp_sub_sp (z : ℝ) : Real.exp (z - spR z) = lgR z := by
  have hp (t : ℝ) : (0 : ℝ) < 1 + Real.exp t := add_pos one_pos (Real.exp_pos _)
  rw [spR, Real.exp_sub, Real.exp_log (hp _), lgR, div_eq_div_iff (hp _).ne' (hp _).ne', mul_add, ← Real.exp_add]
  simp [add_comm]

/-- The sum of what follows in a row's chunk, itself counted, of real numbers. -/
def csR (y : ℕ → ℝ) (r : ℕ) : ℝ := ∑ j ∈ Finset.range 64, if r % 64 + j < 64 then y (r + j) else 0

theorem cs_coe (y : ℕ → ℝ) (r : ℕ) : cs (fun k => ((y k : ℝ) : EReal)) r = ((csR y r : ℝ) : EReal) := by
  rw [cs, csR, ← coe_sum]
  exact Finset.sum_congr rfl fun j _ => ite_coe_zero _ _

section
variable (P : ℕ → ℕ → ℝ) (A T : ℕ → ℝ) (G : ℕ → ℕ → ℝ) (K : ℕ → ℕ → EReal)

/-- The gradient of a decay's logit. -/
def dzR (r l : ℕ) : ℝ := csR (fun k => G k l) r * (0 - Real.exp (A (l - 72))) * lgR (P r l + T (l - 72))
/-- What one row gives to the gradient of a decay's parameter. -/
def daR (r l : ℕ) : ℝ := csR (fun k => G k l) r * (-Real.exp (A (l - 72)) * spR (P r l + T (l - 72)))
/-- The gradient of the small projections: the shared key's, the write strengths' and the decays'. -/
def dpE (r l : ℕ) : EReal :=
  (if l < 64 then K r l else 0) + (if 64 ≤ l ∧ l < 72 then ((G r l * lgR (P r l) * (1 - lgR (P r l)) : ℝ) : EReal) else 0)
    + (if 72 ≤ l ∧ l < 80 then ((dzR P A T G r l : ℝ) : EReal) else 0)
/-- A gradient of parameters in lanes 72 to 79. -/
def laneE (f : ℕ → ℕ → ℝ) (l : ℕ) : EReal := if 72 ≤ l ∧ l < 80 then ((∑ r ∈ Finset.range 2048, f r l : ℝ) : EReal) else 0

end

end Cert.Gates
-- ==== Proof.Gates.Host.lean ====
module

public import proofs.«01_k».proof.Proof.Gates.Real

@[expose] public section

/-! The arrays that the gates' backward call is given: the gates as the forward pass saved them, and two rows of parameters. -/

set_option maxRecDepth 16384

noncomputable section

open Idealize.ShloMosaic Idealize.ShloMosaic.TcCoe Idealize.SL.Sem
open Idealize.ShloMosaic.Pipeline (Dat)

namespace Cert.KernelGatesIdeal.Final

open Cert.KernelGatesIdeal Cert.KernelGatesIdeal.Gen Cert.KernelGatesIdeal.Value Cert.Gates

variable (ps : FVec Ideal S2048x128 .f32) (a dt : FVec Ideal S8 .f32)

/-- The logits of the decays. -/
def zV : FVec Ideal S2048x8 .f32 :=
  addf (extractStridedSlice S2048x8 ![0, 72] ps slices_S2048x128_S2048x8_0_72) (broadcastInDim S2048x8 ![0, 1] bcast_S1x8_S2048x8_0_1 (broadcastInDim S1x8 ![1] bcast_S8_S1x8_1 dt))

/-- The softplus of an array. -/
def spV (z : FVec Ideal S2048x8 .f32) : FVec Ideal S2048x8 .f32 :=
  select (cmpf .une (subf z (broadcastInDim S2048x8 ![] bcast_S_S2048x8 (constant S_ .f32 0x00000000#32))) (subf z (broadcastInDim S2048x8 ![] bcast_S_S2048x8 (constant S_ .f32 0x00000000#32))))
    (addf z (broadcastInDim S2048x8 ![] bcast_S_S2048x8 (constant S_ .f32 0x00000000#32)))
    (addf (maximumf z (broadcastInDim S2048x8 ![] bcast_S_S2048x8 (constant S_ .f32 0x00000000#32)))
      (Host.log1p (Host.exp (Host.negf (Host.absf (subf z (broadcastInDim S2048x8 ![] bcast_S_S2048x8 (constant S_ .f32 0x00000000#32))))))))

/-- The logistic function of the write strengths' logits. -/
def betaV : FVec Ideal S2048x8 .f32 :=
  Host.divf (broadcastInDim S2048x8 ![] bcast_S_S2048x8 (constant S_ .f32 0x3F800000#32)) (addf (broadcastInDim S2048x8 ![] bcast_S_S2048x8 (constant S_ .f32 0x3F800000#32)) (Host.exp (Host.negf (extractStridedSlice S2048x8 ![0, 64] ps slices_S2048x128_S2048x8_0_64))))

/-- The gates. -/
def gatesV : FVec Ideal S2048x128 .f32 :=
  concatenate S2048x128 1 [⟨S2048x64, broadcastInDim S2048x64 ![] bcast_S_S2048x64 (constant S_ .f32 0x00000000#32)⟩, ⟨S2048x8, betaV ps⟩,
    ⟨S2048x8, mulf (broadcastInDim S2048x8 ![0, 1] bcast_S1x8_S2048x8_0_1 (broadcastInDim S1x8 ![1] bcast_S8_S1x8_1 (Host.negf (Host.exp a)))) (spV (zV ps dt))⟩,
    ⟨S2048x48, broadcastInDim S2048x48 ![] bcast_S_S2048x48 (constant S_ .f32 0x00000000#32)⟩] concatenates_S2048x64_S2048x8_S2048x8_S2048x48_S2048x128_d1

/-- A row of parameters laid out over the lanes. -/
def rowV (x : FVec Ideal S8 .f32) : FVec Ideal S1x128 .f32 :=
  pad S1x128 ![0, 72] ![0, 48] ![0, 0] (shapeCast S1x8 x shapeCasts_S8_S1x8) (sitofp .f32 (constantI S_ 32 0#32)) pads_S1x8_S1x128_000_72480 h_S_

variable (m : (ℓ : Loc nD τ sig) → Buf (Elt Ideal) ℓ) (c : Dev nD)

theorem v19_eq : (V m c main_v19 : FVec Ideal S2048x128 .f32)
    = gatesV (m ((c.tc : Thread nD τ).loc main_arg0)) (m ((c.tc : Thread nD τ).loc main_arg1)) (m ((c.tc : Thread nD τ).loc main_arg2)) := by
  simp only [V, hostOps0, hostOps0_1, hostOps0_2, hostOps0_3, hostOps0_4, hostOps0_5, List.flatten_cons, List.flatten_nil, List.append_nil, List.cons_append, List.nil_append]
  after_results_simp <;> rfl

theorem v21_eq : (V m c main_v21 : FVec Ideal S1x128 .f32) = rowV (m ((c.tc : Thread nD τ).loc main_arg1)) := by
  simp only [V, hostOps0, hostOps0_1, hostOps0_2, hostOps0_3, hostOps0_4, hostOps0_5, List.flatten_cons, List.flatten_nil, List.append_nil, List.cons_append, List.nil_append]
  after_results_simp <;> rfl

theorem v23_eq : (V m c main_v23 : FVec Ideal S1x128 .f32) = rowV (m ((c.tc : Thread nD τ).loc main_arg2)) := by
  simp only [V, hostOps0, hostOps0_1, hostOps0_2, hostOps0_3, hostOps0_4, hostOps0_5, List.flatten_cons, List.flatten_nil, List.append_nil, List.cons_append, List.nil_append]
  after_results_simp <;> rfl

section
variable {P : ℕ → ℕ → ℝ} {A T : ℕ → ℝ}
variable (hP : ∀ (r : Fin 2048) (l : Fin 128), ps (ix2 r l) = ((P r l : ℝ) : EReal)) (hA : ∀ l : Fin 8, a (ix1 l) = ((A l : ℝ) : EReal))
  (hT : ∀ l : Fin 8, dt (ix1 l) = ((T l : ℝ) : EReal))

theorem row_at (x : FVec Ideal S8 .f32) (X : ℕ → ℝ) (hX : ∀ l : Fin 8, x (ix1 l) = ((X l : ℝ) : EReal)) (l : Fin 128) (hl : 72 ≤ (l : ℕ) ∧ (l : ℕ) < 80) :
    (rowV x (ix2 0 l) : EReal) = ((X (l - 72) : ℝ) : EReal) := by
  obtain ⟨l1, l2⟩ := hl
  have e : (rowV x (ix2 0 l) : EReal) = if h : (l : ℕ) - 72 < 8 then x (ix1 ⟨l - 72, h⟩) else FloatOps.sitofp FTy.f32 0#32 := by
    pointwise [rowV]
    simp only [l1, true_and]
  rw [e, dif_pos (by omega : (l : ℕ) - 72 < 8), hX]

include hP in
theorem beta_at (r : Fin 2048) (l : Fin 128) (hl : 64 ≤ (l : ℕ) ∧ (l : ℕ) < 72) : (gatesV ps a dt (ix2 r l) : EReal) = ((lgR (P r l) : ℝ) : EReal) := by
  obtain ⟨l1, l2⟩ := hl
  have e : (gatesV ps a dt (ix2 r l) : EReal) = lg (ps (ix2 r l)) := by
    pointwise [gatesV, betaV, lg]
    rw [dif_neg (by omega : ¬ (l : ℕ) < 64), dif_pos (by omega : (l : ℕ) - 64 < 8), zero_sub]
    simp only [show 64 + ((l : ℕ) - 64) = l by omega, Fin.eta]
  rw [e, hP, lg_coe]

include hP hA hT in
theorem g_at (r : Fin 2048) (l : Fin 128) (hl : 72 ≤ (l : ℕ) ∧ (l : ℕ) < 80) :
    (gatesV ps a dt (ix2 r l) : EReal) = ((-Real.exp (A (l - 72)) * spR (P r l + T (l - 72)) : ℝ) : EReal) := by
  obtain ⟨l1, l2⟩ := hl
  have e : (gatesV ps a dt (ix2 r l) : EReal) = -Ideal.exp (a (ix1 ⟨l - 72, by omega⟩))
      * (max (ps (ix2 r l) + dt (ix1 ⟨l - 72, by omega⟩)) 0 + Ideal.log1p (Ideal.exp (-max (ps (ix2 r l) + dt (ix1 ⟨l - 72, by omega⟩)) (-(ps (ix2 r l) + dt (ix1 ⟨l - 72, by omega⟩)))))) := by
    pointwise [gatesV, spV, zV]
    rw [dif_neg (by omega : ¬ (l : ℕ) < 64), dif_neg (by omega : ¬ (l : ℕ) - 64 < 8), dif_pos (by omega : (l : ℕ) - 64 - 8 < 8)]
    simp only [show 72 + ((l : ℕ) - 64 - 8) = l by omega, show (l : ℕ) - 64 - 8 = l - 72 by omega]
    simp only [show 72 + ((l : ℕ) - 72) = l by omega, Fin.eta, ne_eq, not_true_eq_false, if_false]
    rfl
  rw [e, hA, hP, hT]
  dsimp only
  rw [← EReal.coe_add, sp_coe, Cert.Attn.exp_coe, ← EReal.coe_neg, ← EReal.coe_mul]

end

end Cert.KernelGatesIdeal.Final
-- ==== Proof.Gates.Arr.lean ====
module

public import proofs.«01_k».proof.Proof.Gates.Host
public import proofs.«01_k».proof.Proof.Rows

@[expose] public section

/-! The gradient of the gates: what the kernel's call leaves. -/

set_option maxRecDepth 16384

noncomputable section

open Idealize.ShloMosaic Idealize.ShloMosaic.TcCoe Idealize.SL.Sem
open Idealize.ShloMosaic.Pipeline (Dat)

namespace Cert.KernelGatesIdeal.Final

open Cert.KernelGatesIdeal Cert.KernelGatesIdeal.Gen Cert.KernelGatesIdeal.Value Cert.Mat Cert.Gates

theorem zero_offset : (![0, 0] : Fin 2 → ℕ) = fun _ => 0 := by funext a; fin_cases a <;> rfl
theorem ld_block (x : Vec Ideal S2048x128 .f32) : View.ld x r0_0 = x := View.ld_unit_zero (S := S2048x128) zero_offset _ x
theorem ld_row (x : Vec Ideal S1x128 .f32) : View.ld x r0_1 = x := View.ld_unit_zero (S := S1x128) zero_offset _ x

section
variable {P : ℕ → ℕ → ℝ} {A T : ℕ → ℝ} {G : ℕ → ℕ → ℝ} {K : ℕ → ℕ → EReal}
variable {x0 x3 x4 x5 : Vec Ideal S2048x128 .f32} {x1 x2 : Vec Ideal S1x128 .f32}
variable (h0 : ∀ (r : Fin 2048) (l : Fin 128), x0 (ix2 r l) = ((P r l : ℝ) : EReal))
  (h1 : ∀ l : Fin 128, 72 ≤ (l : ℕ) ∧ (l : ℕ) < 80 → x1 (ix2 0 l) = ((A (l - 72) : ℝ) : EReal))
  (h2 : ∀ l : Fin 128, 72 ≤ (l : ℕ) ∧ (l : ℕ) < 80 → x2 (ix2 0 l) = ((T (l - 72) : ℝ) : EReal))
  (h3b : ∀ (r : Fin 2048) (l : Fin 128), 64 ≤ (l : ℕ) ∧ (l : ℕ) < 72 → x3 (ix2 r l) = ((lgR (P r l) : ℝ) : EReal))
  (h3g : ∀ (r : Fin 2048) (l : Fin 128), 72 ≤ (l : ℕ) ∧ (l : ℕ) < 80 → x3 (ix2 r l) = ((-Real.exp (A (l - 72)) * spR (P r l + T (l - 72)) : ℝ) : EReal))
  (h4 : ∀ (r : Fin 2048) (l : Fin 128), x4 (ix2 r l) = ((G r l : ℝ) : EReal))
  (h5 : ∀ (r : Fin 2048) (l : Fin 128), x5 (ix2 r l) = K r l)

include h4 in
theorem acc_at (r : Fin 2048) (l : Fin 128) (hl : 72 ≤ (l : ℕ) ∧ (l : ℕ) < 80) :
    (k0_pay6 k0_pay3 (k0_pay4 x4) k0_pay5 (ix2 r l) : EReal) = ((csR (fun k => G k l) r : ℝ) : EReal) :=
  (acc x4 l hl (fun k => ((G k l : ℝ) : EReal)) (fun r => h4 r l) r).trans (cs_coe _ _)

include h0 h1 h2 h4 in
theorem dz_real (r : Fin 2048) (l : Fin 128) (hl : 72 ≤ (l : ℕ) ∧ (l : ℕ) < 80) :
    (k0_pay8 k0_pay3 (k0_pay4 x4) k0_pay5 x1 (ix2 r l) * lg (x0 (ix2 r l) + x2 (ix2 0 l)) : EReal) = ((dzR P A T G r l : ℝ) : EReal) := by
  rw [v76 x1 x4 _ rfl, acc_at h4 r l hl, h0, h1 l hl, h2 l hl, ← EReal.coe_add, lg_coe, Cert.Attn.exp_coe, dzR, ← EReal.coe_zero,
    ← EReal.coe_sub, ← EReal.coe_mul, ← EReal.coe_mul]

include h0 h1 h2 h3b h4 h5 in
theorem out6_at (r : Fin 2048) (l : Fin 128) : (out0_6 x0 x1 x2 x3 x4 x5 (ix2 r l) : EReal) = dpE P A T G K r l := by
  have e : out0_6 x0 x1 x2 x3 x4 x5 = k0_pay13 x0 (iota .tc S2048x128 32 [1] iota_S2048x128_d1_w32) k0_pay1 k0_pay2 (k0_pay7 x3)
      (k0_pay8 k0_pay3 (k0_pay4 x4) k0_pay5 x1) (k0_pay9 x2) x4 x5 := by
    unfold_out out0_6
    simp only [ld_block, ld_row]
    exact View.canon_unit_zero (S := S2048x128) zero_offset _ _
  rw [e, dp_at, dpE]
  refine congrArg₂ _ (congrArg₂ _ ?_ ?_) ?_
  · rw [h5]
  · refine if_ctx_congr Iff.rfl (fun h => ?_) fun _ => rfl
    rw [h4, h3b r l h, ← EReal.coe_one, ← EReal.coe_sub, ← EReal.coe_mul, ← EReal.coe_mul]
  · exact if_ctx_congr Iff.rfl (fun h => dz_real h0 h1 h2 h4 r l h) fun _ => rfl

include h3g h4 in
theorem out7_at (l : Fin 128) : (out0_7 x0 x1 x2 x3 x4 x5 (ix2 0 l) : EReal) = laneE (daR P A T G) l := by
  have e : out0_7 x0 x1 x2 x3 x4 x5 = k0_pay11 k0_pay1 (k0_pay6 k0_pay3 (k0_pay4 x4) k0_pay5) (k0_pay7 x3) := by
    unfold_out out0_7
    simp only [ld_block, ld_row]
    exact View.canon_unit_zero (S := S1x128) zero_offset _ _
  rw [e, da_at, laneE]
  refine if_ctx_congr Iff.rfl (fun h => ?_) fun _ => rfl
  rw [← Cert.Attn.coe_sum, Finset.sum_range]
  refine Finset.sum_congr rfl fun r _ => ?_
  rw [acc_at h4 r l h, h3g r l h, ← EReal.coe_mul, daR]

include h0 h1 h2 h4 in
theorem out8_at (l : Fin 128) : (out0_8 x0 x1 x2 x3 x4 x5 (ix2 0 l) : EReal) = laneE (dzR P A T G) l := by
  have e : out0_8 x0 x1 x2 x3 x4 x5 = k0_pay12 x0 k0_pay1 (k0_pay8 k0_pay3 (k0_pay4 x4) k0_pay5 x1) (k0_pay9 x2) := by
    unfold_out out0_8
    simp only [ld_block, ld_row]
    exact View.canon_unit_zero (S := S1x128) zero_offset _ _
  rw [e, ddt_at, laneE]
  refine if_ctx_congr Iff.rfl (fun h => ?_) fun _ => rfl
  rw [← Cert.Attn.coe_sum, Finset.sum_range]
  exact Finset.sum_congr rfl fun r _ => dz_real h0 h1 h2 h4 r l h

end

theorem idx : ∀ t : Fin grid0.N, (win0_0.index t 0 = 0 ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0)
    ∧ (win0_8.index t 0 = 0 ∧ win0_8.index t 1 = 0) := by
  decide +kernel

variable (m : (ℓ : Loc nD τ sig) → Buf (Elt Ideal) ℓ) (c : Dev nD)

section
variable {P : ℕ → ℕ → ℝ} {A T : ℕ → ℝ} {G : ℕ → ℕ → ℝ} {K : ℕ → ℕ → EReal}
variable (hP : ∀ (r : Fin 2048) (l : Fin 128), (m ((c.tc : Thread nD τ).loc main_arg0) : FVec Ideal S2048x128 .f32) (ix2 r l) = ((P r l : ℝ) : EReal))
variable (hA : ∀ l : Fin 8, (m ((c.tc : Thread nD τ).loc main_arg1) : FVec Ideal S8 .f32) (ix1 l) = ((A l : ℝ) : EReal))
variable (hT : ∀ l : Fin 8, (m ((c.tc : Thread nD τ).loc main_arg2) : FVec Ideal S8 .f32) (ix1 l) = ((T l : ℝ) : EReal))
variable (hG : ∀ (r : Fin 2048) (l : Fin 128), (m ((c.tc : Thread nD τ).loc main_arg3) : FVec Ideal S2048x128 .f32) (ix2 r l) = ((G r l : ℝ) : EReal))
variable (hK : ∀ (r : Fin 2048) (l : Fin 128), (m ((c.tc : Thread nD τ).loc main_arg4) : FVec Ideal S2048x128 .f32) (ix2 r l) = K r l)

include hP in
theorem blk0 (t : Fin cfg0.N) (x : Vec Ideal S2048x128 .f32) (e : iblk m c 0 t = x) (r : Fin 2048) (l : Fin 128) : x (ix2 r l) = ((P r l : ℝ) : EReal) := by
  subst e
  refine Eq.trans ?_ (hP r l)
  blk_ext [iblk, V, idx t]

include hA in
theorem blk1 (t : Fin cfg0.N) (x : Vec Ideal S1x128 .f32) (e : iblk m c 1 t = x) (l : Fin 128) (hl : 72 ≤ (l : ℕ) ∧ (l : ℕ) < 80) :
    x (ix2 0 l) = ((A (l - 72) : ℝ) : EReal) := by
  subst e
  refine Eq.trans ?_ ((congrFun (v21_eq m c) (ix2 0 l)).trans (row_at _ A hA l hl))
  blk_ext [iblk, idx t]

include hT in
theorem blk2 (t : Fin cfg0.N) (x : Vec Ideal S1x128 .f32) (e : iblk m c 2 t = x) (l : Fin 128) (hl : 72 ≤ (l : ℕ) ∧ (l : ℕ) < 80) :
    x (ix2 0 l) = ((T (l - 72) : ℝ) : EReal) := by
  subst e
  refine Eq.trans ?_ ((congrFun (v23_eq m c) (ix2 0 l)).trans (row_at _ T hT l hl))
  blk_ext [iblk, idx t]

include hP in
theorem blk3b (t : Fin cfg0.N) (x : Vec Ideal S2048x128 .f32) (e : iblk m c 3 t = x) (r : Fin 2048) (l : Fin 128) (hl : 64 ≤ (l : ℕ) ∧ (l : ℕ) < 72) :
    x (ix2 r l) = ((lgR (P r l) : ℝ) : EReal) := by
  subst e
  refine Eq.trans ?_ ((congrFun (v19_eq m c) (ix2 r l)).trans (beta_at _ _ _ hP r l hl))
  blk_ext [iblk, idx t]

include hP hA hT in
theorem blk3g (t : Fin cfg0.N) (x : Vec Ideal S2048x128 .f32) (e : iblk m c 3 t = x) (r : Fin 2048) (l : Fin 128) (hl : 72 ≤ (l : ℕ) ∧ (l : ℕ) < 80) :
    x (ix2 r l) = ((-Real.exp (A (l - 72)) * spR (P r l + T (l - 72)) : ℝ) : EReal) := by
  subst e
  refine Eq.trans ?_ ((congrFun (v19_eq m c) (ix2 r l)).trans (g_at _ _ _ hP hA hT r l hl))
  blk_ext [iblk, idx t]

include hG in
theorem blk4 (t : Fin cfg0.N) (x : Vec Ideal S2048x128 .f32) (e : iblk m c 4 t = x) (r : Fin 2048) (l : Fin 128) : x (ix2 r l) = ((G r l : ℝ) : EReal) := by
  subst e
  refine Eq.trans ?_ (hG r l)
  blk_ext [iblk, V, idx t]

include hK in
theorem blk5 (t : Fin cfg0.N) (x : Vec Ideal S2048x128 .f32) (e : iblk m c 5 t = x) (r : Fin 2048) (l : Fin 128) : x (ix2 r l) = K r l := by
  subst e
  refine Eq.trans ?_ (hK r l)
  blk_ext [iblk, V, idx t]

include hP hA hT hG hK in
theorem arr6 : (dats m 0 c).arrAt 6 cfg0.N = (fun i => dpE P A T G K (i 0) (i 1) : Vec Ideal S2048x128 .bf16) := by
  refine (dats m 0 c).arrAt_eq_of_covers 6 _ (by decide +kernel) fun t hf y => ?_
  have h0 : (y 0 : ℕ) < 2048 := (y 0).isLt
  have h1 : (y 1 : ℕ) < 128 := (y 1).isLt
  blk_simp
  rw [after0_6]
  refine (congrArg _ (eta2 (m := 2048) (n := 128) y)).trans ((out6_at (blk0 m c hP t _ rfl) (blk1 m c hA t _ rfl) (blk2 m c hT t _ rfl) (blk3b m c hP t _ rfl)
    (blk4 m c hG t _ rfl) (blk5 m c hK t _ rfl) (y 0) (y 1)).trans ?_)
  simp only [idx t, zero_mul, zero_add]

include hP hA hT hG in
theorem arr7 : (dats m 0 c).arrAt 7 cfg0.N = (fun i => laneE (daR P A T G) (i 1) : Vec Ideal S1x128 .f32) := by
  refine (dats m 0 c).arrAt_eq_of_covers 7 _ (by decide +kernel) fun t hf y => ?_
  have h1 : (y 1 : ℕ) < 128 := (y 1).isLt
  blk_simp
  rw [after0_7]
  refine (congrArg _ (row1 (n := 128) y)).trans ((out7_at (blk3g m c hP hA hT t _ rfl) (blk4 m c hG t _ rfl) (y 1)).trans ?_)
  simp only [idx t, zero_mul, zero_add]

include hP hA hT hG in
theorem arr8 : (dats m 0 c).arrAt 8 cfg0.N = (fun i => laneE (dzR P A T G) (i 1) : Vec Ideal S1x128 .f32) := by
  refine (dats m 0 c).arrAt_eq_of_covers 8 _ (by decide +kernel) fun t hf y => ?_
  have h1 : (y 1 : ℕ) < 128 := (y 1).isLt
  blk_simp
  rw [after0_8]
  refine (congrArg _ (row1 (n := 128) y)).trans ((out8_at (blk0 m c hP t _ rfl) (blk1 m c hA t _ rfl) (blk2 m c hT t _ rfl) (blk4 m c hG t _ rfl) (y 1)).trans ?_)
  simp only [idx t, zero_mul, zero_add]

end

end Cert.KernelGatesIdeal.Final
-- ==== Proof.Gates.Ref.lean ====
module

public import proofs.«01_k».proof.Proof.Gates.Window
public import proofs.«01_k».proof.Proof.Gates.Arr

@[expose] public section

/-! The gradient of the gates, as the reference writes it. -/

set_option maxRecDepth 16384

noncomputable section

open Idealize.ShloMosaic

namespace Cert.ReferenceGatesIdeal.Final

open Cert.ReferenceGatesIdeal Cert.ReferenceGatesIdeal.Gen Cert.ReferenceGatesIdeal.Value Cert.Mat Cert.Gates

variable (ps : FVec Ideal S2048x128 .f32) (a dt : FVec Ideal S8 .f32) (dg dk : FVec Ideal S2048x128 .f32)

/-- The decays' cotangent, summed up over the rest of each chunk, by chunks. -/
def cum3 : FVec Ideal S32x64x8 .f32 :=
  Host.reduceWindowAdd ![1, 64, 1] ![1, 1, 1] ![0, 0, 0] ![0, 63, 0] (shapeCast _ (extractStridedSlice S2048x8 ![0, 72] dg slices_S2048x128_S2048x8_0_72) shapeCasts_S2048x8_S32x64x8) (broadcastInDim S_ ![] bcast_S_S_ (constant S_ .f32 0x00000000#32)) reduceWindows_S32x64x8_S32x64x8_w1s1p0_0_w64s1p0_63_w1s1p0_0 h_S_

/-- The same, by rows. -/
def cum : FVec Ideal S2048x8 .f32 := shapeCast _ (cum3 dg) shapeCasts_S32x64x8_S2048x8

/-- The decays' logits. -/
def z : FVec Ideal S2048x8 .f32 :=
  addf (extractStridedSlice S2048x8 ![0, 72] ps slices_S2048x128_S2048x8_0_72) (broadcastInDim S2048x8 ![0, 1] bcast_S1x8_S2048x8_0_1 (broadcastInDim S1x8 ![1] bcast_S8_S1x8_1 dt))

/-- The softplus of an array. -/
def sp (z : FVec Ideal S2048x8 .f32) : FVec Ideal S2048x8 .f32 :=
  select (cmpf .une (subf z (broadcastInDim S2048x8 ![] bcast_S_S2048x8 (constant S_ .f32 0x00000000#32))) (subf z (broadcastInDim S2048x8 ![] bcast_S_S2048x8 (constant S_ .f32 0x00000000#32))))
    (addf z (broadcastInDim S2048x8 ![] bcast_S_S2048x8 (constant S_ .f32 0x00000000#32)))
    (addf (maximumf z (broadcastInDim S2048x8 ![] bcast_S_S2048x8 (constant S_ .f32 0x00000000#32)))
      (Host.log1p (Host.exp (Host.negf (Host.absf (subf z (broadcastInDim S2048x8 ![] bcast_S_S2048x8 (constant S_ .f32 0x00000000#32))))))))

/-- An array with zero in the place of an infinity. -/
def fin (y : FVec Ideal S2048x8 .f32) : FVec Ideal S2048x8 .f32 :=
  select (cmpf .oeq y (broadcastInDim S2048x8 ![] bcast_S_S2048x8 (constant S_ .f32 0x7F800000#32))) (broadcastInDim S2048x8 ![] bcast_S_S2048x8 (constant S_ .f32 0x00000000#32)) y

/-- The gradient of the decays' logits. -/
def dz : FVec Ideal S2048x8 .f32 :=
  mulf (mulf (broadcastInDim S2048x8 ![0, 1] bcast_S1x8_S2048x8_0_1 (broadcastInDim S1x8 ![1] bcast_S8_S1x8_1 (Host.negf (Host.exp a)))) (cum dg))
    (Host.exp (subf (fin (z ps dt)) (fin (sp (z ps dt)))))

/-- The write strengths. -/
def beta : FVec Ideal S2048x8 .f32 :=
  Host.divf (broadcastInDim S2048x8 ![] bcast_S_S2048x8 (constant S_ .f32 0x3F800000#32)) (addf (broadcastInDim S2048x8 ![] bcast_S_S2048x8 (constant S_ .f32 0x3F800000#32)) (Host.exp (Host.negf (extractStridedSlice S2048x8 ![0, 64] ps slices_S2048x128_S2048x8_0_64))))

/-- An array's first 64 columns among zeros. -/
def padK : FVec Ideal S2048x128 .f32 :=
  pad S2048x128 ![0, 0] ![0, 64] ![0, 0] (extractStridedSlice S2048x64 ![0, 0] dk slices_S2048x128_S2048x64_0_0) (constant S_ .f32 0x00000000#32) pads_S2048x64_S2048x128_000_0640 h_S_
/-- Eight columns among zeros, from the 72nd. -/
def pad72 (x : FVec Ideal S2048x8 .f32) : FVec Ideal S2048x128 .f32 :=
  pad S2048x128 ![0, 72] ![0, 48] ![0, 0] x (constant S_ .f32 0x00000000#32) pads_S2048x8_S2048x128_000_72480 h_S_
/-- Eight columns among zeros, from the 64th. -/
def pad64 (x : FVec Ideal S2048x8 .f32) : FVec Ideal S2048x128 .f32 :=
  pad S2048x128 ![0, 64] ![0, 56] ![0, 0] x (constant S_ .f32 0x00000000#32) pads_S2048x8_S2048x128_000_64560 h_S_

theorem padK_at (r : Fin 2048) (l : Fin 128) : (padK dk (ix2 r l) : EReal) = if (l : ℕ) < 64 then dk (ix2 r l) else 0 := by
  have e : (padK dk (ix2 r l) : EReal) = if h : (l : ℕ) < 64 then dk (ix2 r l) else 0 := by
    unfold padK
    pointwise
  exact e.trans dite_eq_ite
theorem pad72_at (x : FVec Ideal S2048x8 .f32) (f : ℕ → ℕ → EReal) (hf : ∀ (r : Fin 2048) (l : Fin 8), x (ix2 r l) = f r (l + 72)) (r : Fin 2048) (l : Fin 128) :
    (pad72 x (ix2 r l) : EReal) = if 72 ≤ (l : ℕ) ∧ (l : ℕ) < 80 then f r l else 0 := by
  have e : (pad72 x (ix2 r l) : EReal) = if h : 72 ≤ (l : ℕ) ∧ (l : ℕ) - 72 < 8 then x (ix2 r ⟨l - 72, h.2⟩) else 0 := by
    unfold pad72
    pointwise
  rw [e]
  by_cases h : 72 ≤ (l : ℕ) ∧ (l : ℕ) < 80
  · rw [dif_pos (by omega), if_pos h, hf]
    exact congrArg (f r) (by dsimp only; omega)
  · rw [dif_neg (by omega), if_neg h]
theorem pad64_at (x : FVec Ideal S2048x8 .f32) (f : ℕ → ℕ → EReal) (hf : ∀ (r : Fin 2048) (l : Fin 8), x (ix2 r l) = f r (l + 64)) (r : Fin 2048) (l : Fin 128) :
    (pad64 x (ix2 r l) : EReal) = if 64 ≤ (l : ℕ) ∧ (l : ℕ) < 72 then f r l else 0 := by
  have e : (pad64 x (ix2 r l) : EReal) = if h : 64 ≤ (l : ℕ) ∧ (l : ℕ) - 64 < 8 then x (ix2 r ⟨l - 64, h.2⟩) else 0 := by
    unfold pad64
    pointwise
  rw [e]
  by_cases h : 64 ≤ (l : ℕ) ∧ (l : ℕ) < 72
  · rw [dif_pos (by omega), if_pos h, hf]
    exact congrArg (f r) (by dsimp only; omega)
  · rw [dif_neg (by omega), if_neg h]

def dp : FVec Ideal S2048x128 .bf16 :=
  truncf .bf16 (addf (addf (pad S2048x128 ![0, 0] ![0, 64] ![0, 0] (extractStridedSlice S2048x64 ![0, 0] dk slices_S2048x128_S2048x64_0_0) (constant S_ .f32 0x00000000#32) pads_S2048x64_S2048x128_000_0640 h_S_) (pad S2048x128 ![0, 72] ![0, 48] ![0, 0] (dz ps a dt dg) (constant S_ .f32 0x00000000#32) pads_S2048x8_S2048x128_000_72480 h_S_)) (pad S2048x128 ![0, 64] ![0, 56] ![0, 0] (mulf (extractStridedSlice S2048x8 ![0, 64] dg slices_S2048x128_S2048x8_0_64) (mulf (beta ps) (subf (broadcastInDim S2048x8 ![] bcast_S_S2048x8 (constant S_ .f32 0x3F800000#32)) (beta ps)))) (constant S_ .f32 0x00000000#32) pads_S2048x8_S2048x128_000_64560 h_S_)) bitsLt_bf16_f32

/-- The sum over the rows. -/
def tot (x : FVec Ideal S2048x8 .f32) : FVec Ideal S8 .f32 :=
  Host.reduceAdd (shapeCast _ (Host.reduceAdd x (constant S_ .f32 0x00000000#32) reducesTo_S2048x8_S8_d0 h_S_) shapeCasts_S8_S1x8) (constant S_ .f32 0x00000000#32) reducesTo_S1x8_S8_d0 h_S_

/-- Eight numbers in lanes 72 to 79. -/
def lanes (x : FVec Ideal S8 .f32) : FVec Ideal S1x128 .f32 :=
  concatenate S1x128 1 [⟨S1x72, broadcastInDim S1x72 ![] bcast_S_S1x72 (constant S_ .f32 0x00000000#32)⟩, ⟨S1x8, shapeCast _ x shapeCasts_S8_S1x8⟩,
    ⟨S1x48, broadcastInDim S1x48 ![] bcast_S_S1x48 (constant S_ .f32 0x00000000#32)⟩] concatenates_S1x72_S1x8_S1x48_S1x128_d1

def da : FVec Ideal S1x128 .f32 := lanes (mulf (Host.negf (tot (mulf (cum dg) (sp (z ps dt))))) (Host.exp a))
def ddt : FVec Ideal S1x128 .f32 := lanes (tot (dz ps a dt dg))

theorem tot_at (x : FVec Ideal S2048x8 .f32) (f : ℕ → ℝ) (l : Fin 8) (hf : ∀ r : Fin 2048, x (ix2 r l) = ((f r : ℝ) : EReal)) :
    (tot x (ix1 l) : EReal) = ((∑ r ∈ Finset.range 2048, f r : ℝ) : EReal) := by
  have e : (tot x (ix1 l) : EReal) = ∑ r : Fin 2048, x (ix2 r l) := by
    pointwise [tot]
    exact Fin.sum_univ_one _
  rw [e, ← Cert.Attn.coe_sum, Finset.sum_range]
  exact Finset.sum_congr rfl fun r _ => hf r

theorem lanes_at (x : FVec Ideal S8 .f32) (f : ℕ → EReal) (hf : ∀ l : Fin 8, x (ix1 l) = f (l + 72)) (l : Fin 128) :
    (lanes x (ix2 0 l) : EReal) = if 72 ≤ (l : ℕ) ∧ (l : ℕ) < 80 then f l else 0 := by
  have e : (lanes x (ix2 0 l) : EReal) = if h : (l : ℕ) < 72 then 0 else if h : (l : ℕ) - 72 < 8 then x (ix1 ⟨l - 72, h⟩) else 0 := by
    pointwise [lanes]
  rw [e]
  by_cases h1 : (l : ℕ) < 72
  · rw [dif_pos h1, if_neg (by omega)]
  · rw [dif_neg h1]
    by_cases h2 : (l : ℕ) - 72 < 8
    · rw [dif_pos h2, if_pos (by omega), hf]
      exact congrArg f (by dsimp only; omega)
    · rw [dif_neg h2, if_neg (by omega)]

section
variable {P : ℕ → ℕ → ℝ} {A T : ℕ → ℝ} {G : ℕ → ℕ → ℝ} {K : ℕ → ℕ → EReal}
variable (hP : ∀ (r : Fin 2048) (l : Fin 128), ps (ix2 r l) = ((P r l : ℝ) : EReal)) (hA : ∀ l : Fin 8, a (ix1 l) = ((A l : ℝ) : EReal))
  (hT : ∀ l : Fin 8, dt (ix1 l) = ((T l : ℝ) : EReal)) (hG : ∀ (r : Fin 2048) (l : Fin 128), dg (ix2 r l) = ((G r l : ℝ) : EReal))
  (hK : ∀ (r : Fin 2048) (l : Fin 128), dk (ix2 r l) = K r l)

include hG in
theorem cum_at (r : Fin 2048) (l : Fin 8) : (cum dg (ix2 r l) : EReal) = ((csR (fun k => G k (l + 72)) r : ℝ) : EReal) := by
  rw [← cs_coe]
  have e : (cum dg (ix2 r l) : EReal) = cum3 dg (ix3 (⟨r / 64, by omega⟩ : Fin 32) (⟨r % 64, by omega⟩ : Fin 64) l) := by
    unfold cum
    generalize cum3 dg = w
    pointwise
  rw [e, cum3, win_at _ _ (fun i => by pointwise) _ _ _ (fun j => ((G (r / 64 * 64 + j) (l + 72) : ℝ) : EReal)) fun j => ?_]
  · unfold cs
    refine Finset.sum_congr rfl fun j _ => ?_
    dsimp only
    rw [show (r : ℕ) / 64 * 64 + (r % 64 + j) = r + j by omega]
  · pointwise
    refine Eq.trans ?_ (hG ⟨r / 64 * 64 + j, by omega⟩ ⟨l + 72, by omega⟩)
    simp only [Nat.add_comm]

include hP hT in
theorem z_at (r : Fin 2048) (l : Fin 8) : (z ps dt (ix2 r l) : EReal) = ((P r (l + 72) + T l : ℝ) : EReal) := by
  have e : (z ps dt (ix2 r l) : EReal) = ps (ix2 r ⟨l + 72, by omega⟩) + dt (ix1 l) := by
    pointwise [z]
    simp only [Nat.add_comm]
  rw [e, hP, hT, EReal.coe_add]

theorem sp_at (y : FVec Ideal S2048x8 .f32) (r : Fin 2048) (l : Fin 8) (Y : ℝ) (h : y (ix2 r l) = (Y : EReal)) : (sp y (ix2 r l) : EReal) = ((spR Y : ℝ) : EReal) := by
  rw [← sp_coe]
  pointwise [sp]
  simp only [h, ne_eq, not_true_eq_false, if_false]
  rfl

theorem top_eq : Ideal.ofBits .f32 2139095040#32 = ⊤ := by simp [Ideal.ofBits, Ideal.ieee]

theorem fin_at (y : FVec Ideal S2048x8 .f32) (r : Fin 2048) (l : Fin 8) (Y : ℝ) (h : y (ix2 r l) = (Y : EReal)) : (fin y (ix2 r l) : EReal) = (Y : EReal) := by
  pointwise [fin]
  rw [h, top_eq, if_neg (EReal.coe_ne_top Y)]

include hP hA hT hG in
theorem dz_at (r : Fin 2048) (l : Fin 8) : (dz ps a dt dg (ix2 r l) : EReal) = ((dzR P A T G r (l + 72) : ℝ) : EReal) := by
  have hz := z_at ps dt hP hT r l
  have e : (dz ps a dt dg (ix2 r l) : EReal) = -Ideal.exp (a (ix1 l)) * cum dg (ix2 r l)
      * Ideal.exp (fin (z ps dt) (ix2 r l) - fin (sp (z ps dt)) (ix2 r l)) := by
    unfold dz
    generalize fin (z ps dt) = u, fin (sp (z ps dt)) = v, cum dg = w
    pointwise
  rw [e, fin_at _ r l _ hz, fin_at _ r l _ (sp_at _ r l _ hz), cum_at dg hG, hA, ← EReal.coe_sub, Cert.Attn.exp_coe, Cert.Attn.exp_coe, exp_sub_sp,
    ← EReal.coe_neg, ← EReal.coe_mul, ← EReal.coe_mul, dzR, Nat.add_sub_cancel, zero_sub, mul_comm (-_)]

include hP in
theorem beta_at (r : Fin 2048) (l : Fin 8) : (beta ps (ix2 r l) : EReal) = ((lgR (P r (l + 64)) : ℝ) : EReal) := by
  have e : (beta ps (ix2 r l) : EReal) = Cert.KernelGatesIdeal.Final.lg (ps (ix2 r ⟨l + 64, by omega⟩)) := by
    pointwise [beta, Cert.KernelGatesIdeal.Final.lg]
    simp only [zero_sub, Nat.add_comm]
  rw [e, hP, lg_coe]

include hP hA hT hG hK in
theorem dp_at : dp ps a dt dg dk = (fun i => dpE P A T G K (i 0) (i 1) : Vec Ideal S2048x128 .bf16) := by
  have k (r : Fin 2048) (l : Fin 128) : (dp ps a dt dg dk (ix2 r l) : EReal) = dpE P A T G K r l := by
    have e : (dp ps a dt dg dk (ix2 r l) : EReal) = padK dk (ix2 r l) + pad72 (dz ps a dt dg) (ix2 r l)
        + pad64 (mulf (extractStridedSlice S2048x8 ![0, 64] dg slices_S2048x128_S2048x8_0_64) (mulf (beta ps) (subf (broadcastInDim S2048x8 ![] bcast_S_S2048x8 (constant S_ .f32 0x3F800000#32)) (beta ps)))) (ix2 r l) := rfl
    rw [e, dpE, add_right_comm, padK_at, hK,
      pad72_at _ (fun r l => ((dzR P A T G r l : ℝ) : EReal)) (dz_at ps a dt dg hP hA hT hG),
      pad64_at _ (fun r l => ((G r l * lgR (P r l) * (1 - lgR (P r l)) : ℝ) : EReal)) fun r l => ?_]
    have e : (mulf (extractStridedSlice S2048x8 ![0, 64] dg slices_S2048x128_S2048x8_0_64) (mulf (beta ps) (subf (broadcastInDim S2048x8 ![] bcast_S_S2048x8 (constant S_ .f32 0x3F800000#32)) (beta ps))) (ix2 r l) : EReal)
        = dg (ix2 r ⟨l + 64, by omega⟩) * (beta ps (ix2 r l) * (1 - beta ps (ix2 r l))) := by
      generalize beta ps = v
      pointwise
      simp only [Nat.add_comm]
    rw [e, hG, beta_at ps hP, ← EReal.coe_one, ← EReal.coe_sub, ← EReal.coe_mul, ← EReal.coe_mul, mul_assoc]
  funext i
  exact (congrArg _ (eta2 (m := 2048) (n := 128) i)).trans (k (i 0) (i 1))

include hP hA hT hG in
theorem da_at : da ps a dt dg = (fun i => laneE (daR P A T G) (i 1) : Vec Ideal S1x128 .f32) := by
  have k (l : Fin 128) : (da ps a dt dg (ix2 0 l) : EReal) = laneE (daR P A T G) l := by
    unfold da laneE
    refine lanes_at _ (fun l => ((∑ r ∈ Finset.range 2048, daR P A T G r l : ℝ) : EReal)) (fun h => ?_) l
    have t := tot_at (mulf (cum dg) (sp (z ps dt))) (fun r => csR (fun k => G k (h + 72)) r * spR (P r (h + 72) + T h)) h fun r => by
      refine (show (mulf (cum dg) (sp (z ps dt)) (ix2 r h) : EReal) = cum dg (ix2 r h) * sp (z ps dt) (ix2 r h) from rfl).trans ?_
      rw [cum_at dg hG, sp_at _ r h _ (z_at ps dt hP hT r h), ← EReal.coe_mul]
    refine (show _ = -(tot (mulf (cum dg) (sp (z ps dt))) (ix1 h) : EReal) * Ideal.exp (a (ix1 h)) from rfl).trans ?_
    rw [t, hA, Cert.Attn.exp_coe, ← EReal.coe_neg, ← EReal.coe_mul]
    refine congrArg _ ?_
    rw [← Finset.sum_neg_distrib, Finset.sum_mul]
    refine Finset.sum_congr rfl fun r _ => ?_
    rw [daR, Nat.add_sub_cancel]
    ring
  funext i
  exact (congrArg _ (row1 (n := 128) i)).trans (k (i 1))

include hP hA hT hG in
theorem ddt_at : ddt ps a dt dg = (fun i => laneE (dzR P A T G) (i 1) : Vec Ideal S1x128 .f32) := by
  have k (l : Fin 128) : (ddt ps a dt dg (ix2 0 l) : EReal) = laneE (dzR P A T G) l := by
    unfold ddt laneE
    exact lanes_at _ (fun l => ((∑ r ∈ Finset.range 2048, dzR P A T G r l : ℝ) : EReal))
      (fun h => tot_at _ _ h fun r => dz_at ps a dt dg hP hA hT hG r h) l
  funext i
  exact (congrArg _ (row1 (n := 128) i)).trans (k (i 1))

end

end Cert.ReferenceGatesIdeal.Final
-- ==== Proof.Gates.Final.lean ====
module

public import proofs.«01_k».proof.Proof.Gates.Finite
public import proofs.«01_k».proof.Proof.Gates.Ref
public import proofs.«01_k».proof.Proof.Attn.Final

@[expose] public section

/-! The gradient of the gates: the kernel and the reference give the same arrays. -/

set_option maxRecDepth 16384

noncomputable section

open Idealize.ShloMosaic Idealize.ShloMosaic.TcCoe Idealize.SL.Sem

namespace Cert.Gates

open Cert.Mat Cert.KernelGatesIdeal.Final

theorem algebraic : Cert.algebraic_KernelGatesIdeal_ReferenceGatesIdeal_pre_finite_gates := by
  intro m ρ m' ρ' hpre hag
  let P (c : Dev Cert.KernelGatesIdeal.nD) : ℕ → ℕ → ℝ := Cert.Attn.realOf (m := 2048) (n := 128) (m ((c.tc : Thread Cert.KernelGatesIdeal.nD Cert.KernelGatesIdeal.τ).loc Cert.KernelGatesIdeal.main_arg0))
  let A (c : Dev Cert.KernelGatesIdeal.nD) : ℕ → ℝ := rowOf (m ((c.tc : Thread Cert.KernelGatesIdeal.nD Cert.KernelGatesIdeal.τ).loc Cert.KernelGatesIdeal.main_arg1))
  let T (c : Dev Cert.KernelGatesIdeal.nD) : ℕ → ℝ := rowOf (m ((c.tc : Thread Cert.KernelGatesIdeal.nD Cert.KernelGatesIdeal.τ).loc Cert.KernelGatesIdeal.main_arg2))
  let G (c : Dev Cert.KernelGatesIdeal.nD) : ℕ → ℕ → ℝ := Cert.Attn.realOf (m := 2048) (n := 128) (m ((c.tc : Thread Cert.KernelGatesIdeal.nD Cert.KernelGatesIdeal.τ).loc Cert.KernelGatesIdeal.main_arg3))
  let D (c : Dev Cert.KernelGatesIdeal.nD) : ℕ → ℕ → EReal := valOf (m := 2048) (n := 128) (m ((c.tc : Thread Cert.KernelGatesIdeal.nD Cert.KernelGatesIdeal.τ).loc Cert.KernelGatesIdeal.main_arg4))
  have hP := fun c => Cert.Attn.realOf_at (m := 2048) (n := 128) (real0 _ _ _ _ _ (hpre c).1)
  have hA := fun c => rowOf_at _ (real1 _ _ _ _ _ (hpre c).2.1)
  have hT := fun c => rowOf_at _ (real2 _ _ _ _ _ (hpre c).2.2.1)
  have hG := fun c => Cert.Attn.realOf_at (m := 2048) (n := 128) (real3 _ _ _ _ _ (hpre c).2.2.2)
  have hD := fun (c : Dev Cert.KernelGatesIdeal.nD) => valOf_at (m := 2048) (n := 128) (m ((c.tc : Thread Cert.KernelGatesIdeal.nD Cert.KernelGatesIdeal.τ).loc Cert.KernelGatesIdeal.main_arg4))
  refine ⟨fun c => (fun i => dpE (P c) (A c) (T c) (G c) (D c) (i 0) (i 1) : Vec Ideal Cert.KernelGatesIdeal.S2048x128 .bf16),
    fun c => (fun i => laneE (daR (P c) (A c) (T c) (G c)) (i 1) : Vec Ideal Cert.KernelGatesIdeal.S1x128 .f32),
    fun c => (fun i => laneE (dzR (P c) (A c) (T c) (G c)) (i 1) : Vec Ideal Cert.KernelGatesIdeal.S1x128 .f32),
    (θ_run _ _ _).mono (fun r h c => ?_) (Cert.KernelGatesIdeal.Value.run_blocks m ρ), (θ_run _ _ _).mono (fun r h c => ?_) (Cert.ReferenceGatesIdeal.Value.run m' ρ')⟩
  · obtain ⟨e0, e1, e2, ha⟩ := h c
    exact ⟨e0.trans (arr6 m c (hP c) (hA c) (hT c) (hG c) (hD c)), e1.trans (arr7 m c (hP c) (hA c) (hT c) (hG c)),
      e2.trans (arr8 m c (hP c) (hA c) (hT c) (hG c)), ha⟩
  · obtain ⟨e0, e1, e2, ha⟩ := h c
    obtain ⟨a0, a1, a2, a3, a4⟩ := hag c
    have g0 := fun a b => (congrFun a0 (ix2 a b)).trans (hP c a b)
    have g1 := fun a => (congrFun a1 (ix1 a)).trans (hA c a)
    have g2 := fun a => (congrFun a2 (ix1 a)).trans (hT c a)
    have g3 := fun a b => (congrFun a3 (ix2 a b)).trans (hG c a b)
    have g4 := fun a b => (congrFun a4 (ix2 a b)).trans (hD c a b)
    exact ⟨e0.trans (Cert.ReferenceGatesIdeal.Final.dp_at _ _ _ _ _ g0 g1 g2 g3 g4),
      e1.trans (Cert.ReferenceGatesIdeal.Final.da_at _ _ _ _ g0 g1 g2 g3),
      e2.trans (Cert.ReferenceGatesIdeal.Final.ddt_at _ _ _ _ g0 g1 g2 g3), ha⟩

end Cert.Gates
-- ==== Proof.Res.Run.lean ====
module

public import proofs.«01_k».proof.Proof.Gen.KernelResIdeal.Frame

@[expose] public section

/-! The run of the kernel with its results: the launch of the generated frame, with the outputs read as well. -/

set_option maxRecDepth 16384

noncomputable section

namespace Cert.KernelResIdeal.Res

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelResIdeal Cert.KernelResIdeal.Gen

variable {F : FTy → Type} [FloatOps F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- The whole program runs, and ends with the calls' results, as the launch's fold leaves them, and the arguments as they were. -/
theorem run : θ_run defs (onTc (τ := τ) (main (F := F))) ⟨m, fun _ => 0, ρ⟩ (fun r => ∀ c : Dev nD,
      r.2.mem ((c.tc : Thread nD τ).loc main_v0) = W2 m ρ c main_v0
      ∧ r.2.mem ((c.tc : Thread nD τ).loc main_v1) = W2 m ρ c main_v1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ => fun c =>
      ⟨h c _ (mem_uc main_v0 (by decide)),
       h c _ (mem_uc main_v1 (by decide)),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c),
       (h c _ (mem_uc main_arg4 (by decide))).trans (W2_main_arg4 m ρ c),
       (h c _ (mem_uc main_arg5 (by decide))).trans (W2_main_arg5 m ρ c)⟩)

end Cert.KernelResIdeal.Res
-- ==== Proof.Res.Arr.lean ====
module

public import proofs.«01_k».proof.Defs
public import proofs.«01_k».proof.Proof.Gen.KernelResIdeal.Frame
public import proofs.«01_k».proof.Proof.Norm.Def

@[expose] public section

/-! A gated residual sum and the normalised, conditioned rows that follow it, read over whole arrays. -/

set_option maxRecDepth 16384

noncomputable section

open Idealize.ShloMosaic Idealize.ShloMosaic.TcCoe Idealize.SL.Sem
open Idealize.ShloMosaic.Pipeline (Dat)

namespace Cert.Res

/-- The gated residual sum. -/
def sum (X Y G : ℕ → ℕ → EReal) (a b : ℕ) : EReal := X a b + G 0 b * Y a b
/-- The rows normalised, scaled and shifted. -/
def normed (X W C S : ℕ → ℕ → EReal) (a b : ℕ) : EReal := X a b * Cert.Norm.rstd (X a) * W 0 b * (1 + C 0 b) + S 0 b

end Cert.Res

namespace Cert.KernelResIdeal.Res

open Cert.KernelResIdeal Cert.KernelResIdeal.Gen Cert.Mat Cert.Norm Cert.Res

theorem out0_at (x0 x1 : Vec Ideal S256x2048 .f32) (x2 : Vec Ideal S1x2048 .f32) (r : Fin 256) (d : Fin 2048) :
    out0_3 x0 x1 x2 (ix2 r d) = (x0 (ix2 r d) + x2 (ix2 0 d) * x1 (ix2 r d) : EReal) := by
  frame_out; open_payloads; pointwise

theorem out1_at (x0 : Vec Ideal S256x2048 .f32) (x1 x2 x3 : Vec Ideal S1x2048 .f32) (r : Fin 256) (d : Fin 2048)
    {x : ℕ → EReal} (hx : ∀ k, x0 (ix2 r k) = x k) :
    out1_4 x0 x1 x2 x3 (ix2 r d) = (x d * rstd x * x1 (ix2 0 d) * (1 + x2 (ix2 0 d)) + x3 (ix2 0 d) : EReal) := by
  frame_out; open_payloads; pointwise
  rw [rstd_congr (fun k => x0 (ix2 r k)) hx, hx]

theorem idx0 : ∀ t : Fin grid0.N, (win0_0.index t 0 = t ∧ win0_0.index t 1 = 0) ∧ (win0_1.index t 0 = t ∧ win0_1.index t 1 = 0)
    ∧ (win0_2.index t 0 = 0 ∧ win0_2.index t 1 = 0) ∧ (win0_3.index t 0 = t ∧ win0_3.index t 1 = 0) := by decide +kernel
theorem idx1 : ∀ t : Fin grid1.N, (win1_0.index t 0 = t ∧ win1_0.index t 1 = 0) ∧ (win1_1.index t 0 = 0 ∧ win1_1.index t 1 = 0)
    ∧ (win1_2.index t 0 = 0 ∧ win1_2.index t 1 = 0) ∧ (win1_3.index t 0 = 0 ∧ win1_3.index t 1 = 0)
    ∧ (win1_4.index t 0 = t ∧ win1_4.index t 1 = 0) := by decide +kernel

section
variable (V : (c : Dev nD) → (b : Ref sig .tc) → Buf (Elt Ideal) ((c : Thread nD τ).loc b)) (c : Dev nD)
variable {X Y G W C S : ℕ → ℕ → EReal}

theorem arr0 (hX : ∀ a b, (V c main_arg0 : Vec Ideal S2048x2048 .f32) (ix2 a b) = X a b)
    (hY : ∀ a b, (V c main_arg1 : Vec Ideal S2048x2048 .f32) (ix2 a b) = Y a b)
    (hG : ∀ a b, (V c main_arg2 : Vec Ideal S1x2048 .f32) (ix2 a b) = G a b) :
    (dat0 V c).arrAt 3 cfg0.N = (fun i => sum X Y G (i 0) (i 1) : Vec Ideal S2048x2048 .f32) := by
  refine (dat0 V c).arrAt_eq_of_covers 3 _ (by decide +kernel) fun t hf y => ?_
  have ht : (t : ℕ) < 8 := t.isLt
  have h0 : (y 0 : ℕ) < 256 := (y 0).isLt
  have h1 : (y 1 : ℕ) < 2048 := (y 1).isLt
  blk_simp
  rw [after0_3]
  refine (congrArg _ (eta2 (m := 256) (n := 2048) y)).trans ((out0_at _ _ _ (y 0) (y 1)).trans ?_)
  simp only [sum, idx0 t, zero_mul, zero_add]
  refine congrArg₂ _ ?_ (congrArg₂ _ ?_ ?_)
  · refine Eq.trans ?_ (hX ⟨t * 256 + y 0, by omega⟩ ⟨y 1, h1⟩)
    blk_ext [iblk0, idx0 t]
  · refine Eq.trans ?_ (hG 0 ⟨y 1, h1⟩)
    blk_ext [iblk0, idx0 t]
  · refine Eq.trans ?_ (hY ⟨t * 256 + y 0, by omega⟩ ⟨y 1, h1⟩)
    blk_ext [iblk0, idx0 t]

theorem arr1 (hX : ∀ a b, (V c main_v0 : Vec Ideal S2048x2048 .f32) (ix2 a b) = X a b)
    (hW : ∀ a b, (V c main_arg3 : Vec Ideal S1x2048 .f32) (ix2 a b) = W a b)
    (hC : ∀ a b, (V c main_arg4 : Vec Ideal S1x2048 .f32) (ix2 a b) = C a b)
    (hS : ∀ a b, (V c main_arg5 : Vec Ideal S1x2048 .f32) (ix2 a b) = S a b) :
    (dat1 V c).arrAt 4 cfg1.N = (fun i => normed X W C S (i 0) (i 1) : Vec Ideal S2048x2048 .bf16) := by
  refine (dat1 V c).arrAt_eq_of_covers 4 _ (by decide +kernel) fun t hf y => ?_
  have ht : (t : ℕ) < 8 := t.isLt
  have h0 : (y 0 : ℕ) < 256 := (y 0).isLt
  have h1 : (y 1 : ℕ) < 2048 := (y 1).isLt
  blk_simp
  rw [after1_4]
  refine (congrArg _ (eta2 (m := 256) (n := 2048) y)).trans ((out1_at _ _ _ _ (y 0) (y 1) (x := X (t * 256 + y 0)) fun k => ?_).trans ?_)
  · refine Eq.trans ?_ (hX ⟨t * 256 + y 0, by omega⟩ k)
    blk_ext [iblk1, idx1 t]
  simp only [normed, idx1 t, zero_mul, zero_add]
  refine congrArg₂ _ (congrArg₂ _ (congrArg _ ?_) (congrArg _ ?_)) ?_
  · refine Eq.trans ?_ (hW 0 ⟨y 1, h1⟩)
    blk_ext [iblk1, idx1 t]
  · refine Eq.trans ?_ (hC 0 ⟨y 1, h1⟩)
    blk_ext [iblk1, idx1 t]
  · refine Eq.trans ?_ (hS 0 ⟨y 1, h1⟩)
    blk_ext [iblk1, idx1 t]

end

end Cert.KernelResIdeal.Res
-- ==== Proof.Res.Final.lean ====
module

public import proofs.«01_k».proof.Defs
public import proofs.«01_k».proof.Proof.Gen.ReferenceResIdeal.Run
public import proofs.«01_k».proof.Proof.Res.Run
public import proofs.«01_k».proof.Proof.Res.Arr

@[expose] public section

/-! The residual sum's kernel and its reference leave the same sum and the same normalised rows. -/

set_option maxRecDepth 16384

noncomputable section

namespace Cert.KernelResIdeal.Res

open Idealize.ShloMosaic Idealize.ShloMosaic.TcCoe Idealize.SL.Sem
open Cert.KernelResIdeal Cert.KernelResIdeal.Gen Cert.Res Cert.Mat

variable (m : (ℓ : Loc nD τ sig) → Buf (Elt Ideal) ℓ) (ρ : Dev nD → PrngReg) (c : Dev nD)
variable {X Y G W C S : ℕ → ℕ → EReal}
variable (h0 : ∀ a b, (m ((c.tc : Thread nD τ).loc main_arg0) : FVec Ideal S2048x2048 .f32) (ix2 a b) = X a b)
variable (h1 : ∀ a b, (m ((c.tc : Thread nD τ).loc main_arg1) : FVec Ideal S2048x2048 .f32) (ix2 a b) = Y a b)
variable (h2 : ∀ a b, (m ((c.tc : Thread nD τ).loc main_arg2) : FVec Ideal S1x2048 .f32) (ix2 a b) = G a b)
variable (h3 : ∀ a b, (m ((c.tc : Thread nD τ).loc main_arg3) : FVec Ideal S1x2048 .f32) (ix2 a b) = W a b)
variable (h4 : ∀ a b, (m ((c.tc : Thread nD τ).loc main_arg4) : FVec Ideal S1x2048 .f32) (ix2 a b) = C a b)
variable (h5 : ∀ a b, (m ((c.tc : Thread nD τ).loc main_arg5) : FVec Ideal S1x2048 .f32) (ix2 a b) = S a b)

include h0 h1 h2
theorem sum_eq : (W1 m ρ c main_v0 : FVec Ideal S2048x2048 .f32) = fun i => sum X Y G (i 0) (i 1) :=
  (W1_arr m ρ c 3).trans (arr0 (V0 m ρ) c h0 h1 h2)
theorem out0 : (W2 m ρ c main_v0 : FVec Ideal S2048x2048 .f32) = fun i => sum X Y G (i 0) (i 1) :=
  (W2_of m ρ c main_v0 (by decide)).trans (sum_eq m ρ c h0 h1 h2)
include h3 h4 h5
theorem out1 : (W2 m ρ c main_v1 : FVec Ideal S2048x2048 .bf16) = fun i => normed (sum X Y G) W C S (i 0) (i 1) :=
  (W2_arr m ρ c 4).trans (arr1 (V1 m ρ) c (fun a b => congrFun (sum_eq m ρ c h0 h1 h2) (ix2 a b))
    (fun a b => (congrFun (W1_args m ρ c main_arg3 (by decide)) (ix2 a b)).trans (h3 a b))
    (fun a b => (congrFun (W1_args m ρ c main_arg4 (by decide)) (ix2 a b)).trans (h4 a b))
    (fun a b => (congrFun (W1_args m ρ c main_arg5 (by decide)) (ix2 a b)).trans (h5 a b)))

end Cert.KernelResIdeal.Res

namespace Cert.ReferenceResIdeal.Res

open Idealize.ShloMosaic Idealize.ShloMosaic.TcCoe Idealize.SL.Sem
open Cert.ReferenceResIdeal Cert.ReferenceResIdeal.Gen Cert.Res Cert.Norm Cert.Mat

/-- The reference's residual sum. -/
def sumR (X0 X1 : FVec Ideal S2048x2048 .f32) (X2 : FVec Ideal S1x2048 .f32) : FVec Ideal S2048x2048 .f32 :=
  addf X0 (mulf (broadcastInDim S2048x2048 ![0, 1] bcast_S1x2048_S2048x2048_0_1 X2) X1)

/-- The reference's normalised rows. -/
def normR (N : FVec Ideal S2048x2048 .f32) (X3 X4 X5 : FVec Ideal S1x2048 .f32) : FVec Ideal S2048x2048 .bf16 :=
  truncf .bf16 (addf (mulf (mulf (mulf N (broadcastInDim S2048x2048 ![0, 1] bcast_S2048x1_S2048x2048_0_1 (Host.rsqrt (addf (Host.divf (broadcastInDim S2048x1 ![0] bcast_S2048_S2048x1_0 (Host.reduceAdd (mulf N N) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 X3)) (broadcastInDim S2048x2048 ![0, 1] bcast_S1x2048_S2048x2048_0_1 (addf (broadcastInDim S1x2048 ![] bcast_S_S1x2048 (constant S_ .f32 0x3F800000#32)) X4))) (broadcastInDim S2048x2048 ![0, 1] bcast_S1x2048_S2048x2048_0_1 X5)) bitsLt_bf16_f32

variable {X Y G W C S : ℕ → ℕ → EReal}

theorem sumR_eq (X0 X1 : FVec Ideal S2048x2048 .f32) (X2 : FVec Ideal S1x2048 .f32) (h0 : ∀ a b, X0 (ix2 a b) = X a b)
    (h1 : ∀ a b, X1 (ix2 a b) = Y a b) (h2 : ∀ a b, X2 (ix2 a b) = G a b) : sumR X0 X1 X2 = fun i => sum X Y G (i 0) (i 1) := by
  funext i
  have e (r d : Fin 2048) : sumR X0 X1 X2 (ix2 r d) = (X0 (ix2 r d) + X2 (ix2 0 d) * X1 (ix2 r d) : EReal) := by
    pointwise [sumR]
  exact (congrArg _ (eta2 (m := 2048) (n := 2048) i)).trans ((e (i 0) (i 1)).trans (congrArg₂ _ (h0 _ _) (congrArg₂ _ (h2 0 (i 1)) (h1 _ _))))

theorem normR_eq (N : FVec Ideal S2048x2048 .f32) (X3 X4 X5 : FVec Ideal S1x2048 .f32) (h : ∀ a b, N (ix2 a b) = X a b)
    (h3 : ∀ a b, X3 (ix2 a b) = W a b) (h4 : ∀ a b, X4 (ix2 a b) = C a b) (h5 : ∀ a b, X5 (ix2 a b) = S a b) :
    normR N X3 X4 X5 = fun i => normed X W C S (i 0) (i 1) := by
  funext i
  have e (r d : Fin 2048) : normR N X3 X4 X5 (ix2 r d) = normed X W C S r d := by
    pointwise [normR]
    rw [rstd_congr (fun k => N (ix2 r k)) (h r), h, h3, h4, h5]
    rfl
  exact (congrArg _ (eta2 (m := 2048) (n := 2048) i)).trans (e (i 0) (i 1))

end Cert.ReferenceResIdeal.Res

namespace Cert.Res

open Idealize.ShloMosaic Idealize.ShloMosaic.TcCoe Idealize.SL.Sem
open Cert.Mat

theorem algebraic : Cert.algebraic_KernelResIdeal_ReferenceResIdeal := by
  intro m ρ m' ρ' _ hag
  let X (c : Dev Cert.KernelResIdeal.nD) : ℕ → ℕ → EReal := valOf (m := 2048) (n := 2048) (m ((c.tc : Thread Cert.KernelResIdeal.nD Cert.KernelResIdeal.τ).loc Cert.KernelResIdeal.main_arg0))
  let Y (c : Dev Cert.KernelResIdeal.nD) : ℕ → ℕ → EReal := valOf (m := 2048) (n := 2048) (m ((c.tc : Thread Cert.KernelResIdeal.nD Cert.KernelResIdeal.τ).loc Cert.KernelResIdeal.main_arg1))
  let G (c : Dev Cert.KernelResIdeal.nD) : ℕ → ℕ → EReal := valOf (m := 1) (n := 2048) (m ((c.tc : Thread Cert.KernelResIdeal.nD Cert.KernelResIdeal.τ).loc Cert.KernelResIdeal.main_arg2))
  let W (c : Dev Cert.KernelResIdeal.nD) : ℕ → ℕ → EReal := valOf (m := 1) (n := 2048) (m ((c.tc : Thread Cert.KernelResIdeal.nD Cert.KernelResIdeal.τ).loc Cert.KernelResIdeal.main_arg3))
  let C (c : Dev Cert.KernelResIdeal.nD) : ℕ → ℕ → EReal := valOf (m := 1) (n := 2048) (m ((c.tc : Thread Cert.KernelResIdeal.nD Cert.KernelResIdeal.τ).loc Cert.KernelResIdeal.main_arg4))
  let S (c : Dev Cert.KernelResIdeal.nD) : ℕ → ℕ → EReal := valOf (m := 1) (n := 2048) (m ((c.tc : Thread Cert.KernelResIdeal.nD Cert.KernelResIdeal.τ).loc Cert.KernelResIdeal.main_arg5))
  have h0 := fun (c : Dev Cert.KernelResIdeal.nD) => valOf_at (m := 2048) (n := 2048) (m ((c.tc : Thread Cert.KernelResIdeal.nD Cert.KernelResIdeal.τ).loc Cert.KernelResIdeal.main_arg0))
  have h1 := fun (c : Dev Cert.KernelResIdeal.nD) => valOf_at (m := 2048) (n := 2048) (m ((c.tc : Thread Cert.KernelResIdeal.nD Cert.KernelResIdeal.τ).loc Cert.KernelResIdeal.main_arg1))
  have h2 := fun (c : Dev Cert.KernelResIdeal.nD) => valOf_at (m := 1) (n := 2048) (m ((c.tc : Thread Cert.KernelResIdeal.nD Cert.KernelResIdeal.τ).loc Cert.KernelResIdeal.main_arg2))
  have h3 := fun (c : Dev Cert.KernelResIdeal.nD) => valOf_at (m := 1) (n := 2048) (m ((c.tc : Thread Cert.KernelResIdeal.nD Cert.KernelResIdeal.τ).loc Cert.KernelResIdeal.main_arg3))
  have h4 := fun (c : Dev Cert.KernelResIdeal.nD) => valOf_at (m := 1) (n := 2048) (m ((c.tc : Thread Cert.KernelResIdeal.nD Cert.KernelResIdeal.τ).loc Cert.KernelResIdeal.main_arg4))
  have h5 := fun (c : Dev Cert.KernelResIdeal.nD) => valOf_at (m := 1) (n := 2048) (m ((c.tc : Thread Cert.KernelResIdeal.nD Cert.KernelResIdeal.τ).loc Cert.KernelResIdeal.main_arg5))
  refine ⟨fun c => (fun i => sum (X c) (Y c) (G c) (i 0) (i 1) : Vec Ideal Cert.KernelResIdeal.S2048x2048 .f32),
    fun c => (fun i => normed (sum (X c) (Y c) (G c)) (W c) (C c) (S c) (i 0) (i 1) : Vec Ideal Cert.KernelResIdeal.S2048x2048 .bf16),
    (θ_run _ _ _).mono (fun r h c => ?_) (Cert.KernelResIdeal.Res.run m ρ),
    (θ_run _ _ _).mono (fun r h c => ?_) (Cert.ReferenceResIdeal.Value.run m' ρ')⟩
  · obtain ⟨e0, e1, ha⟩ := h c
    exact ⟨e0.trans (Cert.KernelResIdeal.Res.out0 m ρ c (h0 c) (h1 c) (h2 c)),
      e1.trans (Cert.KernelResIdeal.Res.out1 m ρ c (h0 c) (h1 c) (h2 c) (h3 c) (h4 c) (h5 c)), ha⟩
  · obtain ⟨e0, e1, ha⟩ := h c
    obtain ⟨a0, a1, a2, a3, a4, a5⟩ := hag c
    have g := Cert.ReferenceResIdeal.Res.sumR_eq _ _ _ (fun a b => (congrFun a0 (ix2 a b)).trans (h0 c a b))
      (fun a b => (congrFun a1 (ix2 a b)).trans (h1 c a b)) (fun a b => (congrFun a2 (ix2 a b)).trans (h2 c a b))
    exact ⟨e0.trans g, e1.trans (Cert.ReferenceResIdeal.Res.normR_eq _ _ _ _ (fun a b => congrFun g (ix2 a b)) (fun a b => (congrFun a3 (ix2 a b)).trans (h3 c a b))
      (fun a b => (congrFun a4 (ix2 a b)).trans (h4 c a b)) (fun a b => (congrFun a5 (ix2 a b)).trans (h5 c a b))), ha⟩

end Cert.Res
-- ==== Proof.ResB.Final.lean ====
module

public import proofs.«01_k».proof.Defs
public import proofs.«01_k».proof.Proof.Gen.KernelResBIdeal.Value
public import proofs.«01_k».proof.Proof.Gen.ReferenceResBIdeal.Run
public import proofs.«01_k».proof.Proof.Mat
public import proofs.«01_k».proof.Proof.Rows

@[expose] public section

/-! The gradient of a gated residual sum: the gate's gradient, gathered over the blocks of rows, and the branch's. -/

set_option maxRecDepth 16384

noncomputable section

open Idealize.ShloMosaic Idealize.ShloMosaic.TcCoe Idealize.SL.Sem
open Idealize.ShloMosaic.Pipeline (Dat)

namespace Cert.ResB

/-- The gate's gradient in column `d`. -/
def gateG (A B : ℕ → ℕ → EReal) (d : ℕ) : EReal := ∑ k ∈ Finset.range 2048, A k d * B k d

end Cert.ResB

namespace Cert.KernelResBIdeal.Final

open Cert.KernelResBIdeal Cert.KernelResBIdeal.Gen Cert.KernelResBIdeal.Value Cert.Mat Cert.ResB

section
variable (c : Dev nD) (i : grid0.Coords) (a1 : Memref sig .tc .vmem S256x2048 .f32) (h1 : a1.IsWhole) (a2 : Memref sig .tc .vmem S256x2048 .f32)
  (h2 : a2.IsWhole) (a3 : Memref sig .tc .vmem S1x2048 .f32) (h3 : a3.IsWhole) (a4 : Memref sig .tc .vmem S1x2048 .f32) (h4 : a4.IsWhole)
  (a5 : Memref sig .tc .vmem S256x2048 .bf16) (h5 : a5.IsWhole)
  (x0 x1 : Vec Ideal S256x2048 .f32) (x2 xo : Vec Ideal S1x2048 .f32) (r : Fin 256) (d : Fin 2048)

theorem gateA_at (p : cond0_0 i) : out0_A_3 c i a1 h1 a2 h2 a3 h3 a4 h4 a5 h5 p x0 x1 x2 (ix2 0 d)
    = ∑ k : Fin 256, (x0 (ix2 k d) * x1 (ix2 k d) : EReal) := by
  frame_out; open_payloads; pointwise

theorem gateB_at (p : ¬cond0_0 i) : out0_B_3 c i a1 h1 a2 h2 a3 h3 a4 h4 a5 h5 p x0 x1 x2 xo (ix2 0 d)
    = (xo (ix2 0 d) + ∑ k : Fin 256, (x0 (ix2 k d) * x1 (ix2 k d) : EReal) : EReal) := by
  frame_out; open_payloads; pointwise

theorem branchA_at (p : cond0_0 i) : out0_A_4 c i a1 h1 a2 h2 a3 h3 a4 h4 a5 h5 p x0 x1 x2 (ix2 r d)
    = (x0 (ix2 r d) * x2 (ix2 0 d) : EReal) := by
  frame_out; open_payloads; pointwise

theorem branchB_at (p : ¬cond0_0 i) : out0_B_4 c i a1 h1 a2 h2 a3 h3 a4 h4 a5 h5 p x0 x1 x2 xo (ix2 r d)
    = (x0 (ix2 r d) * x2 (ix2 0 d) : EReal) := by
  frame_out; open_payloads; pointwise

end

theorem idx : ∀ t : Fin grid0.N, (win0_0.index t 0 = t ∧ win0_0.index t 1 = 0) ∧ (win0_1.index t 0 = t ∧ win0_1.index t 1 = 0)
    ∧ (win0_2.index t 0 = 0 ∧ win0_2.index t 1 = 0) ∧ (win0_3.index t 0 = 0 ∧ win0_3.index t 1 = 0)
    ∧ (win0_4.index t 0 = t ∧ win0_4.index t 1 = 0) := by
  decide +kernel

variable (m : (ℓ : Loc nD τ sig) → Buf (Elt Ideal) ℓ) (c : Dev nD)

section
variable {A B G : ℕ → ℕ → EReal}
variable (hA : ∀ (a b : Fin 2048), (m ((c.tc : Thread nD τ).loc main_arg0) : FVec Ideal S2048x2048 .f32) (ix2 a b) = A a b)
variable (hB : ∀ (a b : Fin 2048), (m ((c.tc : Thread nD τ).loc main_arg1) : FVec Ideal S2048x2048 .f32) (ix2 a b) = B a b)
variable (hG : ∀ (a : Fin 1) (b : Fin 2048), (m ((c.tc : Thread nD τ).loc main_arg2) : FVec Ideal S1x2048 .f32) (ix2 a b) = G a b)

include hA in
theorem blkA (t : Fin cfg0.N) (x0 : Vec Ideal S256x2048 .f32) (e0 : iblk m c 0 t = x0) (r : Fin 256) (d : Fin 2048) :
    x0 (ix2 r d) = A (t * 256 + r) d := by
  have ht : (t : ℕ) < 8 := lt_of_lt_of_eq t.isLt N_0
  subst e0
  refine Eq.trans ?_ (hA ⟨t * 256 + r, by omega⟩ d)
  blk_ext [iblk, V, idx t]

include hB in
theorem blkB (t : Fin cfg0.N) (x0 : Vec Ideal S256x2048 .f32) (e0 : iblk m c 1 t = x0) (r : Fin 256) (d : Fin 2048) :
    x0 (ix2 r d) = B (t * 256 + r) d := by
  have ht : (t : ℕ) < 8 := lt_of_lt_of_eq t.isLt N_0
  subst e0
  refine Eq.trans ?_ (hB ⟨t * 256 + r, by omega⟩ d)
  blk_ext [iblk, V, idx t]

include hG in
theorem blkG (t : Fin cfg0.N) (x0 : Vec Ideal S1x2048 .f32) (e0 : iblk m c 2 t = x0) (d : Fin 2048) : x0 (ix2 0 d) = G 0 d := by
  subst e0
  refine Eq.trans ?_ (hG 0 d)
  blk_ext [iblk, V, idx t]

/-- The part of the gate's gradient that one block of rows adds. -/
theorem part (t : Fin cfg0.N) (x0 x1 : Vec Ideal S256x2048 .f32) (e0 : iblk m c 0 t = x0) (e1 : iblk m c 1 t = x1) (d : Fin 2048)
    (hA : ∀ (a b : Fin 2048), (m ((c.tc : Thread nD τ).loc main_arg0) : FVec Ideal S2048x2048 .f32) (ix2 a b) = A a b)
    (hB : ∀ (a b : Fin 2048), (m ((c.tc : Thread nD τ).loc main_arg1) : FVec Ideal S2048x2048 .f32) (ix2 a b) = B a b) :
    ∑ k : Fin 256, (x0 (ix2 k d) * x1 (ix2 k d) : EReal) = ∑ k ∈ Finset.range 256, A (t * 256 + k) d * B (t * 256 + k) d := by
  rw [Finset.sum_range]
  exact Finset.sum_congr rfl fun k _ => congrArg₂ _ (blkA m c hA t x0 e0 k d) (blkB m c hB t x1 e1 k d)

include hA hB in
theorem gathered (d : Fin 2048) : ∀ (t : ℕ) (h : t < cfg0.N), ((outsAt0 m c t h).1 (ix2 0 d) : EReal)
    = ∑ k ∈ Finset.range ((t + 1) * 256), A k d * B k d := by
  refine running (fun t h => ((outsAt0 m c t h).1 (ix2 0 d) : EReal)) (fun k => A k d * B k d) (fun h => ?_) (fun t h h0 => ?_)
  · rw [outsAt0_A m c ⟨0, h⟩ rfl]
    dsimp only
    exact (gateA_at _ _ _ _ _ _ _ _ _ _ _ _ _ _ _ _ _).trans (part m c ⟨0, h⟩ _ _ rfl rfl d hA hB)
  · have ht : t < 8 := lt_of_lt_of_eq h N_0
    rw [outsAt0_B m c ⟨t, h⟩ (by dsimp only; omega)]
    dsimp only
    exact (gateB_at _ _ _ _ _ _ _ _ _ _ _ _ _ _ _ _ _ _).trans (congrArg _ (part m c ⟨t, h⟩ _ _ rfl rfl d hA hB))

include hA hB in
theorem arr3 : (dats m 0 c).arrAt 3 cfg0.N = (fun i => gateG A B (i 1) : Vec Ideal S1x2048 .f32) := by
  refine (dats m 0 c).arrAt_eq_of_covers 3 _ (by decide +kernel) fun t hf y => ?_
  have ht : (t : ℕ) < 8 := lt_of_lt_of_eq t.isLt N_0
  have hm : t.val % 8 = 7 := (flush0_3 t).mp hf
  have h7 : t.val = 7 := by omega
  have h1 : (y 1 : ℕ) < 2048 := (y 1).isLt
  blk_simp
  rw [after0_3]
  refine (congrArg _ (row1 (n := 2048) y)).trans ((gathered m c hA hB (y 1) t t.isLt).trans ?_)
  simp only [gateG, idx t, h7, zero_mul, zero_add]

include hA hG in
theorem branch (t : Fin cfg0.N) (r : Fin 256) (d : Fin 2048) : ((outsAt0 m c t.val t.isLt).2 (ix2 r d) : EReal) = A (t * 256 + r) d * G 0 d := by
  by_cases h : t.val % 8 = 0
  · rw [outsAt0_A m c t h]
    dsimp only
    exact (branchA_at _ _ _ _ _ _ _ _ _ _ _ _ _ _ _ _ _ _).trans (congrArg₂ _ (blkA m c hA t _ rfl r d) (blkG m c hG t _ rfl d))
  · rw [outsAt0_B m c t h]
    dsimp only
    exact (branchB_at _ _ _ _ _ _ _ _ _ _ _ _ _ _ _ _ _ _ _).trans (congrArg₂ _ (blkA m c hA t _ rfl r d) (blkG m c hG t _ rfl d))

include hA hG in
theorem arr4 : (dats m 0 c).arrAt 4 cfg0.N = (fun i => A (i 0) (i 1) * G 0 (i 1) : Vec Ideal S2048x2048 .bf16) := by
  refine (dats m 0 c).arrAt_eq_of_covers 4 _ (by decide +kernel) fun t _ y => ?_
  have ht : (t : ℕ) < 8 := lt_of_lt_of_eq t.isLt N_0
  have h0 : (y 0 : ℕ) < 256 := (y 0).isLt
  have h1 : (y 1 : ℕ) < 2048 := (y 1).isLt
  blk_simp
  rw [after0_4]
  refine (congrArg _ (eta2 (m := 256) (n := 2048) y)).trans ((branch m c hA hG t (y 0) (y 1)).trans ?_)
  simp only [idx t, zero_mul, zero_add]

end

end Cert.KernelResBIdeal.Final

namespace Cert.ReferenceResBIdeal.Final

open Cert.ReferenceResBIdeal Cert.ReferenceResBIdeal.Gen Cert.ReferenceResBIdeal.Value Cert.Mat Cert.ResB

variable (X Y : FVec Ideal S2048x2048 .f32) (Z : FVec Ideal S1x2048 .f32)

/-- The reference's gradient of the gate. -/
def gate : FVec Ideal S1x2048 .f32 :=
  shapeCast _ (Host.reduceAdd (mulf X Y) (constant S_ .f32 0x00000000#32) reducesTo_S2048x2048_S2048_d0 h_S_) shapeCasts_S2048_S1x2048

/-- The reference's gradient of the branch. -/
def branch : FVec Ideal S2048x2048 .bf16 :=
  truncf .bf16 (mulf (broadcastInDim S2048x2048 ![0, 1] bcast_S1x2048_S2048x2048_0_1 Z) X) bitsLt_bf16_f32

theorem gate_eq {A B : ℕ → ℕ → EReal} (hA : ∀ a b, X (ix2 a b) = A a b) (hB : ∀ a b, Y (ix2 a b) = B a b) :
    gate X Y = fun i => gateG A B (i 1) := by
  funext i
  have e (d : Fin 2048) : gate X Y (ix2 0 d) = ∑ k : Fin 2048, (X (ix2 k d) * Y (ix2 k d) : EReal) := by
    pointwise [gate]
  refine (congrArg _ (row1 (n := 2048) i)).trans ((e (i 1)).trans ?_)
  rw [gateG, Finset.sum_range]
  exact Finset.sum_congr rfl fun k _ => congrArg₂ _ (hA k (i 1)) (hB k (i 1))

theorem branch_eq {A G : ℕ → ℕ → EReal} (hA : ∀ a b, X (ix2 a b) = A a b) (hG : ∀ a b, Z (ix2 a b) = G a b) :
    branch X Z = fun i => A (i 0) (i 1) * G 0 (i 1) := by
  funext i
  have e (r d : Fin 2048) : branch X Z (ix2 r d) = (Z (ix2 0 d) * X (ix2 r d) : EReal) := by
    pointwise [branch]
  refine (congrArg _ (eta2 (m := 2048) (n := 2048) i)).trans ((e (i 0) (i 1)).trans ?_)
  rw [mul_comm]
  exact congrArg₂ _ (hA (i 0) (i 1)) (hG 0 (i 1))

end Cert.ReferenceResBIdeal.Final

namespace Cert.ResB

open Cert.Mat Cert.KernelResBIdeal.Final

theorem algebraic : Cert.algebraic_KernelResBIdeal_ReferenceResBIdeal := by
  intro m ρ m' ρ' _ hag
  let A (c : Dev Cert.KernelResBIdeal.nD) : ℕ → ℕ → EReal :=
    valOf (m := 2048) (n := 2048) (m ((c.tc : Thread Cert.KernelResBIdeal.nD Cert.KernelResBIdeal.τ).loc Cert.KernelResBIdeal.main_arg0))
  let B (c : Dev Cert.KernelResBIdeal.nD) : ℕ → ℕ → EReal :=
    valOf (m := 2048) (n := 2048) (m ((c.tc : Thread Cert.KernelResBIdeal.nD Cert.KernelResBIdeal.τ).loc Cert.KernelResBIdeal.main_arg1))
  let G (c : Dev Cert.KernelResBIdeal.nD) : ℕ → ℕ → EReal :=
    valOf (m := 1) (n := 2048) (m ((c.tc : Thread Cert.KernelResBIdeal.nD Cert.KernelResBIdeal.τ).loc Cert.KernelResBIdeal.main_arg2))
  have hA := fun (c : Dev Cert.KernelResBIdeal.nD) =>
    valOf_at (m := 2048) (n := 2048) (m ((c.tc : Thread Cert.KernelResBIdeal.nD Cert.KernelResBIdeal.τ).loc Cert.KernelResBIdeal.main_arg0))
  have hB := fun (c : Dev Cert.KernelResBIdeal.nD) =>
    valOf_at (m := 2048) (n := 2048) (m ((c.tc : Thread Cert.KernelResBIdeal.nD Cert.KernelResBIdeal.τ).loc Cert.KernelResBIdeal.main_arg1))
  have hG := fun (c : Dev Cert.KernelResBIdeal.nD) =>
    valOf_at (m := 1) (n := 2048) (m ((c.tc : Thread Cert.KernelResBIdeal.nD Cert.KernelResBIdeal.τ).loc Cert.KernelResBIdeal.main_arg2))
  refine ⟨fun c => (fun i => gateG (A c) (B c) (i 1) : Vec Ideal Cert.KernelResBIdeal.S1x2048 .f32),
    fun c => (fun i => A c (i 0) (i 1) * G c 0 (i 1) : Vec Ideal Cert.KernelResBIdeal.S2048x2048 .bf16), (θ_run _ _ _).mono (fun r h c => ?_) (Cert.KernelResBIdeal.Value.run_blocks m ρ),
    (θ_run _ _ _).mono (fun r h c => ?_) (Cert.ReferenceResBIdeal.Value.run m' ρ')⟩
  · obtain ⟨e0, e1, ha⟩ := h c
    exact ⟨e0.trans (arr3 m c (hA c) (hB c)), e1.trans (arr4 m c (hA c) (hG c)), ha⟩
  · obtain ⟨e0, e1, ha⟩ := h c
    obtain ⟨a0, a1, a2⟩ := hag c
    have g0 := fun a b => (congrFun a0 (ix2 a b)).trans (hA c a b)
    have g1 := fun a b => (congrFun a1 (ix2 a b)).trans (hB c a b)
    have g2 := fun a b => (congrFun a2 (ix2 a b)).trans (hG c a b)
    exact ⟨e0.trans (Cert.ReferenceResBIdeal.Final.gate_eq _ _ g0 g1), e1.trans (Cert.ReferenceResBIdeal.Final.branch_eq _ _ g0 g2), ha⟩

end Cert.ResB
-- ==== Proof.Loss.El.lean ====
module

public import proofs.«01_k».proof.Defs
public import proofs.«01_k».proof.Proof.Gen.KernelLossIdeal.Value
public import proofs.«01_k».proof.Proof.Mat
public import proofs.«01_k».proof.Proof.Norm.Real

@[expose] public section

/-! The last norm, the loss and their gradients, one block of rows at a time. -/

set_option maxRecDepth 16384

noncomputable section

open Idealize.ShloMosaic Idealize.ShloMosaic.TcCoe Idealize.SL.Sem
open Idealize.ShloMosaic.Pipeline (Dat)

namespace Cert.KernelLossIdeal.Final

open Cert.KernelLossIdeal Cert.KernelLossIdeal.Gen Cert.KernelLossIdeal.Value Cert.Mat Cert.Norm

/-- The error at one element of a block. -/
def er (x0 : Vec Ideal S256x2048 .f32) (x1 : Vec Ideal S1x2048 .f32) (x2 : Vec Ideal S256x2048 .f32) (r : Fin 256) (d : Fin 2048) : EReal :=
  x0 (ix2 r d) * (rs fun j => x0 (ix2 r j)) * x1 (ix2 0 d) - x2 (ix2 r d)

variable (c : Dev nD) (i : grid0.Coords)
  (a1 : Memref sig .tc .vmem S256x2048 .f32) (h1 : a1.IsWhole)
  (a2 : Memref sig .tc .vmem S1x2048 .f32) (h2 : a2.IsWhole)
  (a3 : Memref sig .tc .vmem S256x2048 .f32) (h3 : a3.IsWhole)
  (a4 : Memref sig .tc .vmem S1x128 .f32) (h4 : a4.IsWhole)
  (a5 : Memref sig .tc .vmem S256x2048 .f32) (h5 : a5.IsWhole)
  (a6 : Memref sig .tc .vmem S1x2048 .f32) (h6 : a6.IsWhole)
  (x0 : Vec Ideal S256x2048 .f32) (x1 : Vec Ideal S1x2048 .f32) (x2 : Vec Ideal S256x2048 .f32) (xo3 : Vec Ideal S1x128 .f32) (xo5 : Vec Ideal S1x2048 .f32)

theorem elA3 (p : cond0_0 i) (d : Fin 128) : (out0_A_3 c i a1 h1 a2 h2 a3 h3 a4 h4 a5 h5 a6 h6 p x0 x1 x2 (ix2 0 d) : EReal)
    = Ideal.ofBits .f32 1056964608#32 * ∑ k : Fin 256, Ideal.div (∑ j : Fin 2048, er x0 x1 x2 k j * er x0 x1 x2 k j) (Ideal.ofBits .f32 1157627904#32) := by
  frame_out; open_payloads; pointwise [rs, er]

theorem elA4 (p : cond0_0 i) (r : Fin 256) (d : Fin 2048) : (out0_A_4 c i a1 h1 a2 h2 a3 h3 a4 h4 a5 h5 a6 h6 p x0 x1 x2 (ix2 r d) : EReal)
    = (rs fun j => x0 (ix2 r j)) * (er x0 x1 x2 r d * Ideal.ofBits .f32 973078528#32 * x1 (ix2 0 d) - x0 (ix2 r d) * (rs fun j => x0 (ix2 r j))
      * Ideal.div (∑ k : Fin 2048, er x0 x1 x2 r k * Ideal.ofBits .f32 973078528#32 * x1 (ix2 0 k) * (x0 (ix2 r k) * rs fun j => x0 (ix2 r j))) (Ideal.ofBits .f32 1157627904#32)) := by
  frame_out; open_payloads; pointwise [rs, er]

theorem elA5 (p : cond0_0 i) (d : Fin 2048) : (out0_A_5 c i a1 h1 a2 h2 a3 h3 a4 h4 a5 h5 a6 h6 p x0 x1 x2 (ix2 0 d) : EReal)
    = ∑ k : Fin 256, er x0 x1 x2 k d * Ideal.ofBits .f32 973078528#32 * (x0 (ix2 k d) * rs fun j => x0 (ix2 k j)) := by
  frame_out; open_payloads; pointwise [rs, er]

theorem elB3 (p : ¬cond0_0 i) (d : Fin 128) : (out0_B_3 c i a1 h1 a2 h2 a3 h3 a4 h4 a5 h5 a6 h6 p x0 x1 x2 xo3 xo5 (ix2 0 d) : EReal)
    = xo3 (ix2 0 d) + Ideal.ofBits .f32 1056964608#32 * ∑ k : Fin 256, Ideal.div (∑ j : Fin 2048, er x0 x1 x2 k j * er x0 x1 x2 k j) (Ideal.ofBits .f32 1157627904#32) := by
  frame_out; open_payloads; pointwise [rs, er]

theorem elB4 (p : ¬cond0_0 i) (r : Fin 256) (d : Fin 2048) : (out0_B_4 c i a1 h1 a2 h2 a3 h3 a4 h4 a5 h5 a6 h6 p x0 x1 x2 xo3 xo5 (ix2 r d) : EReal)
    = (rs fun j => x0 (ix2 r j)) * (er x0 x1 x2 r d * Ideal.ofBits .f32 973078528#32 * x1 (ix2 0 d) - x0 (ix2 r d) * (rs fun j => x0 (ix2 r j))
      * Ideal.div (∑ k : Fin 2048, er x0 x1 x2 r k * Ideal.ofBits .f32 973078528#32 * x1 (ix2 0 k) * (x0 (ix2 r k) * rs fun j => x0 (ix2 r j))) (Ideal.ofBits .f32 1157627904#32)) := by
  frame_out; open_payloads; pointwise [rs, er]

theorem elB5 (p : ¬cond0_0 i) (d : Fin 2048) : (out0_B_5 c i a1 h1 a2 h2 a3 h3 a4 h4 a5 h5 a6 h6 p x0 x1 x2 xo3 xo5 (ix2 0 d) : EReal)
    = xo5 (ix2 0 d) + ∑ k : Fin 256, er x0 x1 x2 k d * Ideal.ofBits .f32 973078528#32 * (x0 (ix2 k d) * rs fun j => x0 (ix2 k j)) := by
  frame_out; open_payloads; pointwise [rs, er]

end Cert.KernelLossIdeal.Final
-- ==== Proof.Loss.Arr.lean ====
module

public import proofs.«01_k».proof.Proof.Gen.ReferenceLossIdeal.Run
public import proofs.«01_k».proof.Proof.Loss.El

@[expose] public section

/-! The loss head: the kernel gathers the loss and the weights' gradient over the blocks of rows. -/

set_option maxRecDepth 16384

noncomputable section

open Idealize.ShloMosaic Idealize.ShloMosaic.TcCoe Idealize.SL.Sem
open Idealize.ShloMosaic.Pipeline (Dat)

namespace Cert.Loss

open Cert.Norm

variable (X W Y : ℕ → ℕ → EReal)

/-- One half, as the programs write it. -/
def half : EReal := Ideal.ofBits .f32 1056964608#32
/-- One over the length of a row, as the programs write it. -/
def ilen : EReal := Ideal.ofBits .f32 973078528#32
/-- The error. -/
def err (r d : ℕ) : EReal := X r d * rstd (X r) * W 0 d - Y r d
/-- Half the mean square error of a row. -/
def lossE (r : ℕ) : EReal := half * Ideal.div (∑ j : Fin 2048, err X W Y r j * err X W Y r j) len
/-- What the row's division is given as its gradient. -/
def gIn (r d : ℕ) : EReal := err X W Y r d * ilen * W 0 d
/-- The gradient of the weights, in one row. -/
def dwE (d r : ℕ) : EReal := err X W Y r d * ilen * (X r d * rstd (X r))

theorem half_eq : half = ((1 / 2 : ℝ) : EReal) := by
  rw [half]
  simp [Ideal.ofBits, Ideal.ieee, -EReal.coe_mul]; norm_num

theorem ilen_eq : ilen = ((1 / 2048 : ℝ) : EReal) := by
  rw [ilen]
  simp [Ideal.ofBits, Ideal.ieee, -EReal.coe_mul]; norm_num

theorem half_sum {n : ℕ} (f : Fin n → EReal) : half * ∑ k, f k = ∑ k, half * f k := by
  rw [mul_comm, half_eq, ← sum_mul_real f (by norm_num)]
  exact Finset.sum_congr rfl fun k _ => mul_comm _ _

end Cert.Loss

namespace Cert.KernelLossIdeal.Final

open Cert.KernelLossIdeal Cert.KernelLossIdeal.Gen Cert.KernelLossIdeal.Value Cert.Mat Cert.Norm Cert.Loss

theorem idx : ∀ t : Fin grid0.N, (win0_0.index t 0 = t ∧ win0_0.index t 1 = 0) ∧ (win0_1.index t 0 = 0 ∧ win0_1.index t 1 = 0)
    ∧ (win0_2.index t 0 = t ∧ win0_2.index t 1 = 0) ∧ (win0_3.index t 0 = 0 ∧ win0_3.index t 1 = 0)
    ∧ (win0_4.index t 0 = t ∧ win0_4.index t 1 = 0) ∧ (win0_5.index t 0 = 0 ∧ win0_5.index t 1 = 0) := by
  decide +kernel

variable (m : (ℓ : Loc nD τ sig) → Buf (Elt Ideal) ℓ) (c : Dev nD)

section
variable {X W Y : ℕ → ℕ → EReal}
variable (hX : ∀ (a b : Fin 2048), (m ((c.tc : Thread nD τ).loc main_arg0) : FVec Ideal S2048x2048 .f32) (ix2 a b) = X a b)
variable (hW : ∀ (a : Fin 1) (b : Fin 2048), (m ((c.tc : Thread nD τ).loc main_arg1) : FVec Ideal S1x2048 .f32) (ix2 a b) = W a b)
variable (hY : ∀ (a b : Fin 2048), (m ((c.tc : Thread nD τ).loc main_arg2) : FVec Ideal S2048x2048 .f32) (ix2 a b) = Y a b)

include hX in
theorem blkX (t : Fin cfg0.N) (x : Vec Ideal S256x2048 .f32) (e : iblk m c 0 t = x) (r : Fin 256) (d : Fin 2048) : x (ix2 r d) = X (t * 256 + r) d := by
  have ht : (t : ℕ) < 8 := lt_of_lt_of_eq t.isLt N_0
  subst e
  refine Eq.trans ?_ (hX ⟨t * 256 + r, by omega⟩ d)
  blk_ext [iblk, V, idx t]

include hW in
theorem blkW (t : Fin cfg0.N) (x : Vec Ideal S1x2048 .f32) (e : iblk m c 1 t = x) (d : Fin 2048) : x (ix2 0 d) = W 0 d := by
  subst e
  refine Eq.trans ?_ (hW 0 d)
  blk_ext [iblk, V, idx t]

include hY in
theorem blkY (t : Fin cfg0.N) (x : Vec Ideal S256x2048 .f32) (e : iblk m c 2 t = x) (r : Fin 256) (d : Fin 2048) : x (ix2 r d) = Y (t * 256 + r) d := by
  have ht : (t : ℕ) < 8 := lt_of_lt_of_eq t.isLt N_0
  subst e
  refine Eq.trans ?_ (hY ⟨t * 256 + r, by omega⟩ d)
  blk_ext [iblk, V, idx t]

include hX hW hY in
theorem er_eq (t : Fin cfg0.N) (x0 : Vec Ideal S256x2048 .f32) (e0 : iblk m c 0 t = x0) (x1 : Vec Ideal S1x2048 .f32) (e1 : iblk m c 1 t = x1)
    (x2 : Vec Ideal S256x2048 .f32) (e2 : iblk m c 2 t = x2) (r : Fin 256) (d : Fin 2048) : er x0 x1 x2 r d = err X W Y (t * 256 + r) d := by
  simp only [er, err, rs_rstd, blkX m c hX t x0 e0, blkW m c hW t x1 e1, blkY m c hY t x2 e2]

include hX hW hY in
theorem part3 (t : Fin cfg0.N) (x0 : Vec Ideal S256x2048 .f32) (e0 : iblk m c 0 t = x0) (x1 : Vec Ideal S1x2048 .f32) (e1 : iblk m c 1 t = x1)
    (x2 : Vec Ideal S256x2048 .f32) (e2 : iblk m c 2 t = x2) :
    Ideal.ofBits .f32 1056964608#32 * ∑ k : Fin 256, Ideal.div (∑ j : Fin 2048, er x0 x1 x2 k j * er x0 x1 x2 k j) (Ideal.ofBits .f32 1157627904#32)
      = ∑ k ∈ Finset.range 256, lossE X W Y (t * 256 + k) := by
  refine (half_sum _).trans ?_
  simp only [Finset.sum_range, lossE, len, er_eq m c hX hW hY t x0 e0 x1 e1 x2 e2]

include hX hW hY in
theorem dx_eq (t : Fin cfg0.N) (x0 : Vec Ideal S256x2048 .f32) (e0 : iblk m c 0 t = x0) (x1 : Vec Ideal S1x2048 .f32) (e1 : iblk m c 1 t = x1)
    (x2 : Vec Ideal S256x2048 .f32) (e2 : iblk m c 2 t = x2) (r : Fin 256) (d : Fin 2048) : (rs fun j => x0 (ix2 r j)) * (er x0 x1 x2 r d * Ideal.ofBits .f32 973078528#32 * x1 (ix2 0 d) - x0 (ix2 r d) * (rs fun j => x0 (ix2 r j))
      * Ideal.div (∑ k : Fin 2048, er x0 x1 x2 r k * Ideal.ofBits .f32 973078528#32 * x1 (ix2 0 k) * (x0 (ix2 r k) * rs fun j => x0 (ix2 r j))) (Ideal.ofBits .f32 1157627904#32))
      = dxK (X (t * 256 + r)) (Cert.Loss.gIn X W Y (t * 256 + r)) d := by
  simp only [dxK, Cert.Loss.gIn, ilen, len, rs_rstd, er_eq m c hX hW hY t x0 e0 x1 e1 x2 e2, blkX m c hX t x0 e0, blkW m c hW t x1 e1]

include hX hW hY in
theorem part5 (t : Fin cfg0.N) (x0 : Vec Ideal S256x2048 .f32) (e0 : iblk m c 0 t = x0) (x1 : Vec Ideal S1x2048 .f32) (e1 : iblk m c 1 t = x1)
    (x2 : Vec Ideal S256x2048 .f32) (e2 : iblk m c 2 t = x2) (d : Fin 2048) : ∑ k : Fin 256, er x0 x1 x2 k d * Ideal.ofBits .f32 973078528#32 * (x0 (ix2 k d) * rs fun j => x0 (ix2 k j))
      = ∑ k ∈ Finset.range 256, Cert.Loss.dwE X W Y d (t * 256 + k) := by
  simp only [Finset.sum_range, Cert.Loss.dwE, ilen, rs_rstd, er_eq m c hX hW hY t x0 e0 x1 e1 x2 e2, blkX m c hX t x0 e0]

include hX hW hY in
theorem gathered3 (d : Fin 128) : ∀ (t : ℕ) (h : t < cfg0.N), ((outsAt0 m c t h).1 (ix2 0 d) : EReal)
    = ∑ k ∈ Finset.range ((t + 1) * 256), lossE X W Y k := by
  refine running (fun t h => ((outsAt0 m c t h).1 (ix2 0 d) : EReal)) (lossE X W Y) (fun h => ?_) (fun t h h0 => ?_)
  · rw [outsAt0_A m c ⟨0, h⟩ rfl]
    dsimp only
    exact (elA3 _ _ _ _ _ _ _ _ _ _ _ _ _ _ _ _ _ _ _).trans (part3 m c hX hW hY ⟨0, h⟩ _ rfl _ rfl _ rfl)
  · have ht : t < 8 := lt_of_lt_of_eq h N_0
    rw [outsAt0_B m c ⟨t, h⟩ (by dsimp only; omega)]
    dsimp only
    exact (elB3 _ _ _ _ _ _ _ _ _ _ _ _ _ _ _ _ _ _ _ _ _).trans (congrArg _ (part3 m c hX hW hY ⟨t, h⟩ _ rfl _ rfl _ rfl))

include hX hW hY in
theorem arr3 : (dats m 0 c).arrAt 3 cfg0.N = (fun _ => ∑ k ∈ Finset.range 2048, lossE X W Y k : Vec Ideal S1x128 .f32) := by
  refine (dats m 0 c).arrAt_eq_of_covers 3 _ (by decide +kernel) fun t hf y => ?_
  have ht : (t : ℕ) < 8 := lt_of_lt_of_eq t.isLt N_0
  have hm : t.val % 8 = 7 := (flush0_3 t).mp hf
  have h7 : t.val = 7 := by omega
  have h1 : (y 1 : ℕ) < 128 := (y 1).isLt
  blk_simp
  rw [after0_3]
  refine (congrArg _ (row1 (n := 128) y)).trans ((gathered3 m c hX hW hY (y 1) t t.isLt).trans ?_)
  simp only [idx t, h7, zero_mul, zero_add]

include hX hW hY in
theorem gathered5 (d : Fin 2048) : ∀ (t : ℕ) (h : t < cfg0.N), ((outsAt0 m c t h).2.2 (ix2 0 d) : EReal)
    = ∑ k ∈ Finset.range ((t + 1) * 256), Cert.Loss.dwE X W Y d k := by
  refine running (fun t h => ((outsAt0 m c t h).2.2 (ix2 0 d) : EReal)) (Cert.Loss.dwE X W Y d) (fun h => ?_) (fun t h h0 => ?_)
  · rw [outsAt0_A m c ⟨0, h⟩ rfl]
    dsimp only
    exact (elA5 _ _ _ _ _ _ _ _ _ _ _ _ _ _ _ _ _ _ _).trans (part5 m c hX hW hY ⟨0, h⟩ _ rfl _ rfl _ rfl d)
  · have ht : t < 8 := lt_of_lt_of_eq h N_0
    rw [outsAt0_B m c ⟨t, h⟩ (by dsimp only; omega)]
    dsimp only
    exact (elB5 _ _ _ _ _ _ _ _ _ _ _ _ _ _ _ _ _ _ _ _ _).trans (congrArg _ (part5 m c hX hW hY ⟨t, h⟩ _ rfl _ rfl _ rfl d))

include hX hW hY in
theorem arr5 : (dats m 0 c).arrAt 5 cfg0.N = (fun i => ∑ k ∈ Finset.range 2048, Cert.Loss.dwE X W Y (i 1) k : Vec Ideal S1x2048 .f32) := by
  refine (dats m 0 c).arrAt_eq_of_covers 5 _ (by decide +kernel) fun t hf y => ?_
  have ht : (t : ℕ) < 8 := lt_of_lt_of_eq t.isLt N_0
  have hm : t.val % 8 = 7 := (flush0_5 t).mp hf
  have h7 : t.val = 7 := by omega
  have h1 : (y 1 : ℕ) < 2048 := (y 1).isLt
  blk_simp
  rw [after0_5]
  refine (congrArg _ (row1 (n := 2048) y)).trans ((gathered5 m c hX hW hY (y 1) t t.isLt).trans ?_)
  simp only [idx t, h7, zero_mul, zero_add]

include hX hW hY in
theorem through (t : Fin cfg0.N) (r : Fin 256) (d : Fin 2048) : ((outsAt0 m c t.val t.isLt).2.1 (ix2 r d) : EReal)
    = dxK (X (t * 256 + r)) (Cert.Loss.gIn X W Y (t * 256 + r)) d := by
  by_cases h : t.val % 8 = 0
  · rw [outsAt0_A m c t h]
    dsimp only
    exact (elA4 _ _ _ _ _ _ _ _ _ _ _ _ _ _ _ _ _ _ _ _).trans (dx_eq m c hX hW hY t _ rfl _ rfl _ rfl r d)
  · rw [outsAt0_B m c t h]
    dsimp only
    exact (elB4 _ _ _ _ _ _ _ _ _ _ _ _ _ _ _ _ _ _ _ _ _ _).trans (dx_eq m c hX hW hY t _ rfl _ rfl _ rfl r d)

include hX hW hY in
theorem arr4 : (dats m 0 c).arrAt 4 cfg0.N = (fun i => dxK (X (i 0)) (Cert.Loss.gIn X W Y (i 0)) (i 1) : Vec Ideal S2048x2048 .f32) := by
  refine (dats m 0 c).arrAt_eq_of_covers 4 _ (by decide +kernel) fun t _ y => ?_
  have ht : (t : ℕ) < 8 := lt_of_lt_of_eq t.isLt N_0
  have h0 : (y 0 : ℕ) < 256 := (y 0).isLt
  have h1 : (y 1 : ℕ) < 2048 := (y 1).isLt
  blk_simp
  rw [after0_4]
  refine (congrArg _ (eta2 (m := 256) (n := 2048) y)).trans ((through m c hX hW hY t (y 0) (y 1)).trans ?_)
  simp only [idx t, zero_mul, zero_add]

end

end Cert.KernelLossIdeal.Final
-- ==== Proof.Loss.Ref.lean ====
module

public import proofs.«01_k».proof.Proof.Loss.Arr

@[expose] public section

/-! The loss head, as the reference writes it. -/

set_option maxRecDepth 16384

noncomputable section

open Idealize.ShloMosaic

namespace Cert.ReferenceLossIdeal.Final

open Cert.ReferenceLossIdeal Cert.ReferenceLossIdeal.Gen Cert.ReferenceLossIdeal.Value Cert.Mat Cert.Loss
open Cert.Norm (ms rstd len tail mhalf dxK dxR ms_congr div_real len_eq)

variable (x : FVec Ideal S2048x2048 .f32) (w : FVec Ideal S1x2048 .f32) (y : FVec Ideal S2048x2048 .f32)

/-- Each row's mean square, and a little. -/
def msV : FVec Ideal S2048x1 .f32 :=
  addf (Host.divf (broadcastInDim S2048x1 ![0] bcast_S2048_S2048x1_0 (Host.reduceAdd (mulf x x) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32))

/-- The rows divided by their root mean square. -/
def xr : FVec Ideal S2048x2048 .f32 := mulf x (broadcastInDim S2048x2048 ![0, 1] bcast_S2048x1_S2048x2048_0_1 (Host.rsqrt (msV x)))

/-- The error. -/
def er : FVec Ideal S2048x2048 .f32 := subf (mulf (xr x) (broadcastInDim S2048x2048 ![0, 1] bcast_S1x2048_S2048x2048_0_1 w)) y

/-- The loss's gradient with respect to the norm's output. -/
def dy : FVec Ideal S2048x2048 .f32 :=
  mulf (broadcastInDim S2048x2048 ![0] bcast_S2048_S2048x2048_0 (Host.divf (broadcastInDim S2048 ![] bcast_S_S2048 (mulf (constant S_ .f32 0x3F000000#32) (constant S_ .f32 0x3F800000#32))) (broadcastInDim S2048 ![] bcast_S_S2048 (constant S_ .f32 0x45000000#32)))) (mulf (broadcastInDim S2048x2048 ![] bcast_S_S2048x2048 (constant S_ .f32 0x40000000#32)) (er x w y))

/-- The cotangent of the division. -/
def g : FVec Ideal S2048x2048 .f32 := mulf (dy x w y) (broadcastInDim S2048x2048 ![0, 1] bcast_S1x2048_S2048x2048_0_1 w)

/-- The mean square's share, of each row. -/
def tl : FVec Ideal S2048 .f32 :=
  Host.reduceAdd (Host.divf (mulf (shapeCast _ (Host.reduceAdd (mulf x (g x w y)) (constant S_ .f32 0x00000000#32) reducesTo_S2048x2048_S2048_d1 h_S_) shapeCasts_S2048_S2048x1) (mulf (broadcastInDim S2048x1 ![] bcast_S_S2048x1 (constant S_ .f32 0xBF000000#32)) (Host.divf (Host.rsqrt (msV x)) (msV x)))) (broadcastInDim S2048x1 ![] bcast_S_S2048x1 (constant S_ .f32 0x45000000#32))) (constant S_ .f32 0x00000000#32) reducesTo_S2048x1_S2048_d1 h_S_

def dx : FVec Ideal S2048x2048 .f32 :=
  addf (addf (mulf (g x w y) (broadcastInDim S2048x2048 ![0, 1] bcast_S2048x1_S2048x2048_0_1 (Host.rsqrt (msV x)))) (mulf x (broadcastInDim S2048x2048 ![0] bcast_S2048_S2048x2048_0 (tl x w y)))) (mulf (broadcastInDim S2048x2048 ![0] bcast_S2048_S2048x2048_0 (tl x w y)) x)

def dw : FVec Ideal S1x2048 .f32 :=
  shapeCast _ (Host.reduceAdd (mulf (xr x) (dy x w y)) (constant S_ .f32 0x00000000#32) reducesTo_S2048x2048_S2048_d0 h_S_) shapeCasts_S2048_S1x2048

def loss : FVec Ideal S1x128 .f32 :=
  broadcastInDim S1x128 ![] bcast_S_S1x128 (mulf (constant S_ .f32 0x3F000000#32) (Host.reduceAdd (Host.divf (Host.reduceAdd (mulf (er x w y) (er x w y)) (constant S_ .f32 0x00000000#32) reducesTo_S2048x2048_S2048_d1 h_S_) (broadcastInDim S2048 ![] bcast_S_S2048 (constant S_ .f32 0x45000000#32))) (constant S_ .f32 0x00000000#32) reducesTo_S2048_S_d0 h_S_))

section
variable {X W Y : ℕ → ℕ → EReal}
variable (hX : ∀ a b, x (ix2 a b) = X a b) (hW : ∀ a b, w (ix2 a b) = W a b) (hY : ∀ a b, y (ix2 a b) = Y a b)

include hX in
theorem ms_at (r : Fin 2048) (z : Fin 1) : (msV x (ix2 r z) : EReal) = ms (X r) := by
  have e : (msV x (ix2 r z) : EReal) = Ideal.div (∑ k : Fin 2048, x (ix2 r k) * x (ix2 r k)) (Ideal.ofBits .f32 1157627904#32) + Ideal.ofBits .f32 897988541#32 := by
    pointwise [msV]
  exact e.trans (ms_congr (fun k => x (ix2 r k)) fun k => hX r k)

include hX in
theorem xr_at (r d : Fin 2048) : (xr x (ix2 r d) : EReal) = X r d * rstd (X r) := by
  have e : (xr x (ix2 r d) : EReal) = x (ix2 r d) * Ideal.rsqrt (msV x (ix2 r 0)) := by pointwise [xr]
  rw [e, ms_at x hX, hX, rstd]

include hX hW hY in
theorem er_at (r d : Fin 2048) : (er x w y (ix2 r d) : EReal) = err X W Y r d := by
  have e : (er x w y (ix2 r d) : EReal) = xr x (ix2 r d) * w (ix2 0 d) - y (ix2 r d) := by pointwise [er]
  rw [e, xr_at x hX, hW, hY]
  rfl

theorem two_eq : Ideal.ofBits .f32 1073741824#32 = ((2 : ℝ) : EReal) := by
  simp [Ideal.ofBits, Ideal.ieee, -EReal.coe_mul]; norm_num

include hX hW hY in
theorem dy_at (r d : Fin 2048) : (dy x w y (ix2 r d) : EReal) = err X W Y r d * ilen := by
  have e : (dy x w y (ix2 r d) : EReal) = Ideal.div (Ideal.ofBits .f32 1056964608#32 * 1) (Ideal.ofBits .f32 1157627904#32)
      * (Ideal.ofBits .f32 1073741824#32 * er x w y (ix2 r d)) := by pointwise [dy]
  have h1 : Ideal.div (Ideal.ofBits .f32 1056964608#32 * 1) (Ideal.ofBits .f32 1157627904#32) = ((1 / 2 / 2048 : ℝ) : EReal) := by
    rw [mul_one]
    refine (congrArg₂ Ideal.div half_eq len_eq).trans ?_
    exact Cert.Attn.div_coe (by norm_num)
  rw [e, er_at x w y hX hW hY, h1, two_eq, ilen_eq, ← mul_assoc, ← EReal.coe_mul, mul_comm]
  refine congrArg (fun z : ℝ => err X W Y r d * (z : EReal)) ?_
  norm_num

include hX hW hY in
theorem g_at (r d : Fin 2048) : (g x w y (ix2 r d) : EReal) = gIn X W Y r d := by
  have e : (g x w y (ix2 r d) : EReal) = dy x w y (ix2 r d) * w (ix2 0 d) := by pointwise [g]
  rw [e, dy_at x w y hX hW hY, hW]
  rfl

include hX hW hY in
theorem tl_at (r : Fin 2048) : (tl x w y (ix1 r) : EReal) = tail (X r) (gIn X W Y r) := by
  have e : (tl x w y (ix1 r) : EReal) = Ideal.div ((∑ k : Fin 2048, x (ix2 r k) * g x w y (ix2 r k))
      * (Ideal.ofBits .f32 3204448256#32 * Ideal.div (Ideal.rsqrt (msV x (ix2 r 0))) (msV x (ix2 r 0)))) (Ideal.ofBits .f32 1157627904#32) := by
    pointwise [tl]
    exact Fin.sum_univ_one _
  rw [e, ms_at x hX, tail, rstd, mhalf, len]
  simp only [hX, g_at x w y hX hW hY]

include hX hW hY in
theorem dx_at : dx x w y = fun i => dxK (X (i 0)) (gIn X W Y (i 0)) (i 1) := by
  funext i
  have e (r d : Fin 2048) : (dx x w y (ix2 r d) : EReal) = g x w y (ix2 r d) * Ideal.rsqrt (msV x (ix2 r 0)) + x (ix2 r d) * tl x w y (ix1 r)
      + tl x w y (ix1 r) * x (ix2 r d) := by pointwise [dx]
  have k (r d : Fin 2048) : (dx x w y (ix2 r d) : EReal) = dxK (X r) (gIn X W Y r) d := by
    rw [e, tl_at x w y hX hW hY, ms_at x hX, g_at x w y hX hW hY, hX, ← Cert.Norm.dx_eq, dxR, rstd]
  exact (congrArg _ (eta2 (m := 2048) (n := 2048) i)).trans (k (i 0) (i 1))

include hX hW hY in
theorem dw_at : dw x w y = fun i => ∑ k ∈ Finset.range 2048, dwE X W Y (i 1) k := by
  funext i
  have e (d : Fin 2048) : (dw x w y (ix2 0 d) : EReal) = ∑ k : Fin 2048, xr x (ix2 k d) * dy x w y (ix2 k d) := by pointwise [dw]
  have k (d : Fin 2048) : (dw x w y (ix2 0 d) : EReal) = ∑ k ∈ Finset.range 2048, dwE X W Y d k := by
    rw [e, Finset.sum_range]
    refine Finset.sum_congr rfl fun k _ => ?_
    rw [xr_at x hX, dy_at x w y hX hW hY, dwE, mul_comm]
  exact (congrArg _ (row1 (n := 2048) i)).trans (k (i 1))

include hX hW hY in
theorem loss_at : loss x w y = fun _ => ∑ k ∈ Finset.range 2048, lossE X W Y k := by
  funext i
  have e (d : Fin 128) : (loss x w y (ix2 0 d) : EReal) = half * ∑ k : Fin 2048, Ideal.div (∑ j : Fin 2048, er x w y (ix2 k j) * er x w y (ix2 k j)) len := by
    pointwise [loss, half, len]
  have k (d : Fin 128) : (loss x w y (ix2 0 d) : EReal) = ∑ k ∈ Finset.range 2048, lossE X W Y k := by
    rw [e, Finset.sum_range, half_sum]
    refine Finset.sum_congr rfl fun k _ => ?_
    simp only [lossE, er_at x w y hX hW hY]
  exact (congrArg _ (row1 (n := 128) i)).trans (k (i 1))

end

end Cert.ReferenceLossIdeal.Final
-- ==== Proof.Loss.Final.lean ====
module

public import proofs.«01_k».proof.Proof.Loss.Ref

@[expose] public section

/-! The loss head: the kernel and the reference give the same arrays. -/

set_option maxRecDepth 16384

noncomputable section

open Idealize.ShloMosaic Idealize.ShloMosaic.TcCoe Idealize.SL.Sem

namespace Cert.Loss

open Cert.Mat Cert.KernelLossIdeal.Final

theorem algebraic : Cert.algebraic_KernelLossIdeal_ReferenceLossIdeal := by
  intro m ρ m' ρ' _ hag
  let X (c : Dev Cert.KernelLossIdeal.nD) : ℕ → ℕ → EReal :=
    valOf (m := 2048) (n := 2048) (m ((c.tc : Thread Cert.KernelLossIdeal.nD Cert.KernelLossIdeal.τ).loc Cert.KernelLossIdeal.main_arg0))
  let W (c : Dev Cert.KernelLossIdeal.nD) : ℕ → ℕ → EReal :=
    valOf (m := 1) (n := 2048) (m ((c.tc : Thread Cert.KernelLossIdeal.nD Cert.KernelLossIdeal.τ).loc Cert.KernelLossIdeal.main_arg1))
  let Y (c : Dev Cert.KernelLossIdeal.nD) : ℕ → ℕ → EReal :=
    valOf (m := 2048) (n := 2048) (m ((c.tc : Thread Cert.KernelLossIdeal.nD Cert.KernelLossIdeal.τ).loc Cert.KernelLossIdeal.main_arg2))
  have hX := fun (c : Dev Cert.KernelLossIdeal.nD) =>
    valOf_at (m := 2048) (n := 2048) (m ((c.tc : Thread Cert.KernelLossIdeal.nD Cert.KernelLossIdeal.τ).loc Cert.KernelLossIdeal.main_arg0))
  have hW := fun (c : Dev Cert.KernelLossIdeal.nD) =>
    valOf_at (m := 1) (n := 2048) (m ((c.tc : Thread Cert.KernelLossIdeal.nD Cert.KernelLossIdeal.τ).loc Cert.KernelLossIdeal.main_arg1))
  have hY := fun (c : Dev Cert.KernelLossIdeal.nD) =>
    valOf_at (m := 2048) (n := 2048) (m ((c.tc : Thread Cert.KernelLossIdeal.nD Cert.KernelLossIdeal.τ).loc Cert.KernelLossIdeal.main_arg2))
  refine ⟨fun c => (fun _ => ∑ k ∈ Finset.range 2048, lossE (X c) (W c) (Y c) k : Vec Ideal Cert.KernelLossIdeal.S1x128 .f32),
    fun c => (fun i => Cert.Norm.dxK (X c (i 0)) (gIn (X c) (W c) (Y c) (i 0)) (i 1) : Vec Ideal Cert.KernelLossIdeal.S2048x2048 .f32),
    fun c => (fun i => ∑ k ∈ Finset.range 2048, dwE (X c) (W c) (Y c) (i 1) k : Vec Ideal Cert.KernelLossIdeal.S1x2048 .f32),
    (θ_run _ _ _).mono (fun r h c => ?_) (Cert.KernelLossIdeal.Value.run_blocks m ρ), (θ_run _ _ _).mono (fun r h c => ?_) (Cert.ReferenceLossIdeal.Value.run m' ρ')⟩
  · obtain ⟨e0, e1, e2, ha⟩ := h c
    exact ⟨e0.trans (arr3 m c (hX c) (hW c) (hY c)), e1.trans (arr4 m c (hX c) (hW c) (hY c)), e2.trans (arr5 m c (hX c) (hW c) (hY c)), ha⟩
  · obtain ⟨e0, e1, e2, ha⟩ := h c
    obtain ⟨a0, a1, a2⟩ := hag c
    have g0 := fun a b => (congrFun a0 (ix2 a b)).trans (hX c a b)
    have g1 := fun a b => (congrFun a1 (ix2 a b)).trans (hW c a b)
    have g2 := fun a b => (congrFun a2 (ix2 a b)).trans (hY c a b)
    exact ⟨e0.trans (Cert.ReferenceLossIdeal.Final.loss_at _ _ _ g0 g1 g2),
      e1.trans (Cert.ReferenceLossIdeal.Final.dx_at _ _ _ g0 g1 g2),
      e2.trans (Cert.ReferenceLossIdeal.Final.dw_at _ _ _ g0 g1 g2), ha⟩

end Cert.Loss
-- ==== Proof.Ada.Run.lean ====
module

public import proofs.«01_k».proof.Proof.Gen.KernelAdaIdeal.Frame

@[expose] public section

/-! The run of the kernel with its results: the launch of the generated frame, with the outputs read as well. -/

set_option maxRecDepth 16384

noncomputable section

namespace Cert.KernelAdaIdeal.Ada

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelAdaIdeal Cert.KernelAdaIdeal.Gen

variable {F : FTy → Type} [FloatOps F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- The whole program runs, and ends with the calls' results, as the launch's fold leaves them, and the arguments as they were. -/
theorem run : θ_run defs (onTc (τ := τ) (main (F := F))) ⟨m, fun _ => 0, ρ⟩ (fun r => ∀ c : Dev nD,
      r.2.mem ((c.tc : Thread nD τ).loc main_v7) = W10 m ρ c main_v7
      ∧ r.2.mem ((c.tc : Thread nD τ).loc main_v12) = W10 m ρ c main_v12
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h _ => fun c =>
      ⟨h c _ (mem_uc main_v7 (by decide)),
       h c _ (mem_uc main_v12 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c)⟩)

end Cert.KernelAdaIdeal.Ada
-- ==== Proof.Ada.Arr.lean ====
module

public import proofs.«01_k».proof.Proof.Gen.KernelAdaIdeal.Frame
public import proofs.«01_k».proof.Proof.Mat

@[expose] public section

/-! The conditioning's calls, each over its whole arrays. -/

set_option maxRecDepth 16384

noncomputable section

open Idealize.ShloMosaic Idealize.ShloMosaic.TcCoe Idealize.SL.Sem
open Idealize.ShloMosaic.Pipeline (Dat)

namespace Cert.Ada

/-- `x` through its logistic. -/
def silu (x : EReal) : EReal := x * Ideal.div 1 (1 + Ideal.exp (-x))

end Cert.Ada

namespace Cert.KernelAdaIdeal.Ada

open Cert.KernelAdaIdeal Cert.KernelAdaIdeal.Gen Cert.Ada Cert.Mat

theorem out0_at (x0 : Vec Ideal S16x2048 .f32) (r : Fin 16) (d : Fin 2048) : out0_1 x0 (ix2 r d) = silu (x0 (ix2 r d)) := by
  frame_out; open_payloads; pointwise [silu]
  try rw [zero_sub]

theorem out1_at (x0 : Vec Ideal S16x2048 .f32) (x1 : Vec Ideal S1x2048x1024 .f32) (x2 : Vec Ideal S16x1024 .f32) (r : Fin 16) (d : Fin 1024) :
    out1_3 x0 x1 x2 (ix2 r d) = ((∑ k : Fin 2048, (x0 (ix2 r k) * x1 (ix3 0 k d) : EReal)) + x2 (ix2 r d) : EReal) := by
  frame_out; open_payloads; pointwise

theorem out2_at (x0 : Vec Ideal S1024x128 .f32) (x1 : Vec Ideal S128x1024 .f32) (r : Fin 1024) (d : Fin 1024) :
    out2_2 x0 x1 (ix2 r d) = ∑ k : Fin 128, (x0 (ix2 r k) * x1 (ix2 k d) : EReal) := by
  frame_out; open_payloads; pointwise

theorem idx0 : ∀ t : Fin grid0.N, (win0_0.index t 0 = 0 ∧ win0_0.index t 1 = 0) ∧ (win0_1.index t 0 = 0 ∧ win0_1.index t 1 = 0) := by decide +kernel
theorem idx1 : ∀ t : Fin grid1.N, (win1_0.index t 0 = 0 ∧ win1_0.index t 1 = 0) ∧ (win1_1.index t 0 = 1 ∧ win1_1.index t 1 = 0 ∧ win1_1.index t 2 = t)
    ∧ (win1_2.index t 0 = 0 ∧ win1_2.index t 1 = t) ∧ (win1_3.index t 0 = 0 ∧ win1_3.index t 1 = t) := by decide +kernel
theorem idx2 : ∀ t : Fin grid2.N, (win2_0.index t 0 = t / 3 ∧ win2_0.index t 1 = 0) ∧ (win2_1.index t 0 = 0 ∧ win2_1.index t 1 = t % 3)
    ∧ (win2_2.index t 0 = t / 3 ∧ win2_2.index t 1 = t % 3) := by decide +kernel

variable (V : (c : Dev nD) → (b : Ref sig .tc) → Buf (Elt Ideal) ((c : Thread nD τ).loc b)) (c : Dev nD)
variable {A B C : ℕ → ℕ → EReal}

theorem arr0 (hA : ∀ (a : Fin 16) (b : Fin 2048), (V c main_v0 : Vec Ideal S16x2048 .f32) (ix2 a b) = A a b) :
    (dat0 V c).arrAt 1 cfg0.N = (fun i => silu (A (i 0) (i 1)) : Vec Ideal S16x2048 .f32) := by
  refine (dat0 V c).arrAt_eq_of_covers 1 _ (by decide +kernel) fun t hf y => ?_
  have h0 : (y 0 : ℕ) < 16 := (y 0).isLt
  have h1 : (y 1 : ℕ) < 2048 := (y 1).isLt
  blk_simp
  rw [after0_1]
  refine (congrArg _ (eta2 (m := 16) (n := 2048) y)).trans ((out0_at _ _ _).trans ?_)
  simp only [idx0 t]
  refine congrArg silu (Eq.trans ?_ (hA ⟨0 * 16 + y 0, by omega⟩ ⟨0 * 2048 + y 1, by omega⟩))
  blk_ext [iblk0, idx0 t]

theorem arr1 (hA : ∀ (a : Fin 16) (b : Fin 2048), (V c main_v1 : Vec Ideal S16x2048 .f32) (ix2 a b) = A a b)
    (hB : ∀ (a : Fin 2048) (b : Fin 3072), (V c main_arg1 : Vec Ideal S2x2048x3072 .f32) (ix3 1 a b) = B a b)
    (hC : ∀ (a : Fin 16) (b : Fin 3072), (V c main_v5 : Vec Ideal S16x3072 .f32) (ix2 a b) = C a b) :
    (dat1 V c).arrAt 3 cfg1.N = (fun i => mm 2048 A B (i 0) (i 1) + C (i 0) (i 1) : Vec Ideal S16x3072 .f32) := by
  refine (dat1 V c).arrAt_eq_of_covers 3 _ (by decide +kernel) fun t hf y => ?_
  have ht : (t : ℕ) < 3 := t.isLt
  have h0 : (y 0 : ℕ) < 16 := (y 0).isLt
  have h1 : (y 1 : ℕ) < 1024 := (y 1).isLt
  blk_simp
  rw [after1_3]
  refine (congrArg _ (eta2 (m := 16) (n := 1024) y)).trans ((out1_at _ _ _ _ _).trans ?_)
  simp only [mm, idx1 t]
  refine congrArg₂ _ (Finset.sum_congr rfl fun k _ => congrArg₂ _ ?_ ?_) ?_
  · refine Eq.trans ?_ (hA ⟨0 * 16 + y 0, by omega⟩ k)
    blk_ext [iblk1, idx1 t]
  · refine Eq.trans ?_ (hB k ⟨t * 1024 + y 1, by omega⟩)
    blk_ext [iblk1, idx1 t]
  · refine Eq.trans ?_ (hC ⟨0 * 16 + y 0, by omega⟩ ⟨t * 1024 + y 1, by omega⟩)
    blk_ext [iblk1, idx1 t]

theorem arr2 (hA : ∀ (a : Fin 2048) (b : Fin 128), (V c main_v10 : Vec Ideal S2048x128 .f32) (ix2 a b) = A a b)
    (hB : ∀ (a : Fin 128) (b : Fin 3072), (V c main_v11 : Vec Ideal S128x3072 .f32) (ix2 a b) = B a b) :
    (dat2 V c).arrAt 2 cfg2.N = (fun i => mm 128 A B (i 0) (i 1) : Vec Ideal S2048x3072 .f32) := by
  refine (dat2 V c).arrAt_eq_of_covers 2 _ (by decide +kernel) fun t hf y => ?_
  have ht : (t : ℕ) < 6 := t.isLt
  have h0 : (y 0 : ℕ) < 1024 := (y 0).isLt
  have h1 : (y 1 : ℕ) < 1024 := (y 1).isLt
  blk_simp
  rw [after2_2]
  refine (congrArg _ (eta2 (m := 1024) (n := 1024) y)).trans ((out2_at _ _ _ _).trans ?_)
  simp only [mm, idx2 t]
  refine Finset.sum_congr rfl fun k _ => congrArg₂ _ ?_ ?_
  · refine Eq.trans ?_ (hA ⟨t / 3 * 1024 + y 0, by omega⟩ k)
    blk_ext [iblk2, idx2 t]
  · refine Eq.trans ?_ (hB k ⟨t % 3 * 1024 + y 1, by omega⟩)
    blk_ext [iblk2, idx2 t]

end Cert.KernelAdaIdeal.Ada
-- ==== Proof.Ada.Host.lean ====
module

public import proofs.«01_k».proof.Proof.Ada.Arr

@[expose] public section

/-! What the host prepares for the conditioning's calls. -/

set_option maxRecDepth 16384

noncomputable section

open Idealize.ShloMosaic Idealize.ShloMosaic.TcCoe Idealize.SL.Sem

namespace Cert.KernelAdaIdeal.Ada

open Cert.KernelAdaIdeal Cert.KernelAdaIdeal.Gen Cert.Ada Cert.Mat

/-- A zero made from an integer. -/
def zeroI : FVec Ideal S_ .f32 := sitofp .f32 (constantI S_ 32 0#32)
theorem zeroI_at (i : S_.Idx) : zeroI i = 0 := by
  unfold zeroI; pointwise
  change (((0#32 : BitVec 32).toInt : ℝ) : EReal) = 0
  simp

def padC (X : FVec Ideal S8x2048 .f32) (z : FVec Ideal S_ .f32) : FVec Ideal S16x2048 .f32 :=
  pad S16x2048 ![0, 0] ![8, 0] ![0, 0] X z pads_S8x2048_S16x2048_080_000 h_S_
def bias (X : FVec Ideal S2x3072 .f32) : FVec Ideal S16x3072 .f32 :=
  broadcastInDim S16x3072 ![0, 1] bcast_S1x3072_S16x3072_0_1 (broadcastInDim S1x3072 ![1] bcast_S3072_S1x3072_1
    (shapeCast S3072 (extractStridedSlice S1x3072 ![1, 0] X slices_S2x3072_S1x3072_1_0) shapeCasts_S1x3072_S3072))
def turn (X : FVec Ideal S16x2048 .f32) : FVec Ideal S2048x8 .f32 :=
  transpose S2048x8 [1, 0] (extractStridedSlice S8x2048 ![0, 0] X slices_S16x2048_S8x2048_0_0) transposes_S8x2048_S2048x8_1_0
def padT (X : FVec Ideal S2048x8 .f32) (z : FVec Ideal S_ .f32) : FVec Ideal S2048x128 .f32 :=
  pad S2048x128 ![0, 0] ![0, 120] ![0, 0] X z pads_S2048x8_S2048x128_000_01200 h_S_
def padD (X : FVec Ideal S8x3072 .f32) (z : FVec Ideal S_ .f32) : FVec Ideal S128x3072 .f32 :=
  pad S128x3072 ![0, 0] ![120, 0] ![0, 0] X z pads_S8x3072_S128x3072_01200_000 h_S_
/-- The first eight rows. -/
def first (X : FVec Ideal S16x3072 .f32) : FVec Ideal S8x3072 .f32 := extractStridedSlice S8x3072 ![0, 0] X slices_S16x3072_S8x3072_0_0

variable (m : (ℓ : Loc nD τ sig) → Buf (Elt Ideal) ℓ) (ρ : Dev nD → PrngReg) (c : Dev nD)

theorem c_eq : (W1 m ρ c main_c : IVec S_ 32) = constantI S_ 32 0#32 := by
  simp only [W1, hostOps0]; after_results_simp <;> rfl
theorem v0_eq : (W2 m ρ c main_v0 : FVec Ideal S16x2048 .f32) = padC (W1 m ρ c main_arg0) (sitofp .f32 (W1 m ρ c main_c : IVec S_ 32)) := by
  simp only [W2, hostOps0_1]; after_results_simp <;> rfl
theorem v5_eq : (W4 m ρ c main_v5 : FVec Ideal S16x3072 .f32) = bias (W3 m ρ c main_arg2) := by
  simp only [W4, hostOps1]; after_results_simp <;> rfl
theorem v7_eq : (W6 m ρ c main_v7 : FVec Ideal S8x3072 .f32) = first (W5 m ρ c main_v6) := by
  simp only [W6, hostOps2]; after_results_simp <;> rfl
theorem v9_eq : (W6 m ρ c main_v9 : FVec Ideal S2048x8 .f32) = turn (W5 m ρ c main_v1) := by
  simp only [W6, hostOps2]; after_results_simp <;> rfl
theorem c0_eq : (W6 m ρ c main_c_0 : IVec S_ 32) = constantI S_ 32 0#32 := by
  simp only [W6, hostOps2]; after_results_simp <;> rfl
theorem v10_eq : (W7 m ρ c main_v10 : FVec Ideal S2048x128 .f32) = padT (W6 m ρ c main_v9) (sitofp .f32 (W6 m ρ c main_c_0 : IVec S_ 32)) := by
  simp only [W7, hostOps2_1]; after_results_simp <;> rfl
theorem c1_eq : (W8 m ρ c main_c_1 : IVec S_ 32) = constantI S_ 32 0#32 := by
  simp only [W8, hostOps2_2]; after_results_simp <;> rfl
theorem v11_eq : (W9 m ρ c main_v11 : FVec Ideal S128x3072 .f32) = padD (W8 m ρ c main_arg3) (sitofp .f32 (W8 m ρ c main_c_1 : IVec S_ 32)) := by
  simp only [W9, hostOps2_3]; after_results_simp <;> rfl

theorem v0_pad : (W2 m ρ c main_v0 : FVec Ideal S16x2048 .f32) = padC (m ((c.tc : Thread nD τ).loc main_arg0)) zeroI := by
  rw [v0_eq, c_eq]
  exact congrArg (fun X => padC X zeroI) (W1_args m ρ c main_arg0 (by decide))
theorem v5_bias : (W4 m ρ c main_v5 : FVec Ideal S16x3072 .f32) = bias (m ((c.tc : Thread nD τ).loc main_arg2)) :=
  (v5_eq m ρ c).trans (congrArg bias (W3_args m ρ c main_arg2 (by decide)))
theorem v10_pad : (W7 m ρ c main_v10 : FVec Ideal S2048x128 .f32) = padT (turn (W5 m ρ c main_v1)) zeroI := by
  rw [v10_eq, c0_eq, v9_eq]; rfl
theorem v11_pad : (W9 m ρ c main_v11 : FVec Ideal S128x3072 .f32) = padD (m ((c.tc : Thread nD τ).loc main_arg3)) zeroI := by
  rw [v11_eq, c1_eq]
  exact congrArg (fun X => padD X zeroI) (W8_args m ρ c main_arg3 (by decide))

variable {A : ℕ → ℕ → EReal}
theorem padC_at {X : FVec Ideal S8x2048 .f32} (h : ∀ a b, X (ix2 a b) = A a b) (a : Fin 16) (b : Fin 2048) :
    padC X zeroI (ix2 a b) = if a.1 < 8 then A a b else 0 := by
  unfold padC; pointwise [h, zeroI_at]
  split_ifs <;> rfl
theorem bias_at {X : FVec Ideal S2x3072 .f32} (h : ∀ a b, X (ix2 a b) = A a b) (a : Fin 16) (b : Fin 3072) : bias X (ix2 a b) = A 1 b := by
  unfold bias; pointwise [h]
theorem turn_at {X : FVec Ideal S16x2048 .f32} (h : ∀ a b, X (ix2 a b) = A a b) (a : Fin 2048) (b : Fin 8) : turn X (ix2 a b) = A b a := by
  unfold turn; pointwise [h]
theorem padT_at {X : FVec Ideal S2048x8 .f32} (h : ∀ a b, X (ix2 a b) = A b a) (a : Fin 2048) (b : Fin 128) :
    padT X zeroI (ix2 a b) = if b.1 < 8 then A b a else 0 := by
  unfold padT; pointwise [h, zeroI_at]
  split_ifs <;> rfl
theorem padD_at {X : FVec Ideal S8x3072 .f32} (h : ∀ a b, X (ix2 a b) = A a b) (a : Fin 128) (b : Fin 3072) :
    padD X zeroI (ix2 a b) = if a.1 < 8 then A a b else 0 := by
  unfold padD; pointwise [h, zeroI_at]
  split_ifs <;> rfl
theorem first_at {X : FVec Ideal S16x3072 .f32} (h : ∀ a b, X (ix2 a b) = A a b) (a : Fin 8) (b : Fin 3072) : first X (ix2 a b) = A a b := by
  unfold first; pointwise [h]

end Cert.KernelAdaIdeal.Ada
-- ==== Proof.Ada.Final.lean ====
module

public import proofs.«01_k».proof.Defs
public import proofs.«01_k».proof.Proof.Gen.ReferenceAdaIdeal.Run
public import proofs.«01_k».proof.Proof.Ada.Run
public import proofs.«01_k».proof.Proof.Ada.Host

@[expose] public section

/-! The conditioning's kernels and their reference leave the same modulation and the same gradient of the weights. -/

set_option maxRecDepth 16384

noncomputable section

namespace Cert.Ada

open Idealize.ShloMosaic Idealize.ShloMosaic.TcCoe Idealize.SL.Sem
open Cert.Mat

/-- The modulation: the conditioning through its logistic, times the weights, plus the bias. -/
def modOf (C W B : ℕ → ℕ → EReal) (i j : ℕ) : EReal := mm 2048 (fun a k => silu (C a k)) W i j + B 1 j
/-- The gradient of the weights. -/
def gradOf (C D : ℕ → ℕ → EReal) (i j : ℕ) : EReal := ∑ e : Fin 8, silu (C e i) * D e j

/-- A sum of 128 terms of which those past the eighth vanish. -/
theorem sum_first (f g : ℕ → EReal) :
    (∑ k : Fin 128, (if k.1 < 8 then f k else 0) * (if k.1 < 8 then g k else 0) : EReal) = ∑ k : Fin 8, f k * g k := by
  rw [Fin.sum_univ_eq_sum_range (fun k => (if k < 8 then f k else 0) * (if k < 8 then g k else 0)) 128,
    Fin.sum_univ_eq_sum_range (fun k => f k * g k) 8]
  refine (Finset.sum_subset (Finset.range_mono (by omega)) fun k _ hk => ?_).symm.trans (Finset.sum_congr rfl fun k hk => ?_)
  · rw [if_neg (by simpa using hk), zero_mul]
  · rw [if_pos (by simpa using hk), if_pos (by simpa using hk)]

/-- Two arrays that read the same at every pair of indices are the same. -/
theorem ext2 {p q : ℕ} {e : FTy} (x : FVec Ideal (⟨2, ![p, q]⟩ : Shape) e) (f : ℕ → ℕ → EReal) (h : ∀ a b, x (ix2 a b) = f a b) : x = fun i => f (i 0) (i 1) := by
  funext i
  exact (congrArg _ (eta2 (m := p) (n := q) i)).trans (h (i 0) (i 1))

end Cert.Ada

namespace Cert.KernelAdaIdeal.Ada

open Idealize.ShloMosaic Idealize.ShloMosaic.TcCoe Idealize.SL.Sem
open Cert.KernelAdaIdeal Cert.KernelAdaIdeal.Gen Cert.Ada Cert.Mat

variable (m : (ℓ : Loc nD τ sig) → Buf (Elt Ideal) ℓ) (ρ : Dev nD → PrngReg) (c : Dev nD)
variable {C W B D : ℕ → ℕ → EReal}
variable (hC : ∀ a b, (m ((c.tc : Thread nD τ).loc main_arg0) : FVec Ideal S8x2048 .f32) (ix2 a b) = C a b)
variable (hW : ∀ (a : Fin 2048) (b : Fin 3072), (m ((c.tc : Thread nD τ).loc main_arg1) : FVec Ideal S2x2048x3072 .f32) (ix3 1 a b) = W a b)
variable (hB : ∀ a b, (m ((c.tc : Thread nD τ).loc main_arg2) : FVec Ideal S2x3072 .f32) (ix2 a b) = B a b)
variable (hD : ∀ a b, (m ((c.tc : Thread nD τ).loc main_arg3) : FVec Ideal S8x3072 .f32) (ix2 a b) = D a b)

include hC in
theorem act : (W3 m ρ c main_v1 : FVec Ideal S16x2048 .f32) = fun i => silu (if (i 0).1 < 8 then C (i 0) (i 1) else 0) :=
  (W3_arr m ρ c 1).trans (arr0 (A := fun a b => if a < 8 then C a b else 0) (V2 m ρ) c (fun a b => (congrFun (v0_pad m ρ c) (ix2 a b)).trans (padC_at hC a b)))

include hC in
theorem act4 (a : Fin 16) (b : Fin 2048) : (W4 m ρ c main_v1 : FVec Ideal S16x2048 .f32) (ix2 a b) = silu (if a.1 < 8 then C a b else 0) :=
  (congrFun (W4_of m ρ c main_v1 (by decide)) (ix2 a b)).trans (congrFun (act m ρ c hC) (ix2 a b))

include hC hW hB in
theorem wide : (W5 m ρ c main_v6 : FVec Ideal S16x3072 .f32) = fun i => mm 2048 (fun a b => silu (if a < 8 then C a b else 0)) W (i 0) (i 1) + B 1 (i 1) :=
  (W5_arr m ρ c 3).trans (arr1 (A := fun a b => silu (if a < 8 then C a b else 0)) (C := fun _ b => B 1 b) (V4 m ρ) c (act4 m ρ c hC)
    (fun a b => (congrFun (W4_args m ρ c main_arg1 (by decide)) (ix3 1 a b)).trans (hW a b))
    (fun a b => (congrFun (v5_bias m ρ c) (ix2 a b)).trans (bias_at hB a b)))

include hC hW hB in
theorem out0 : (W10 m ρ c main_v7 : FVec Ideal S8x3072 .f32) = fun i => modOf C W B (i 0) (i 1) := by
  refine ((W10_of m ρ c main_v7 (by decide)).trans <| (W9_of m ρ c main_v7 (by decide)).trans <| (W8_of m ρ c main_v7 (by decide)).trans <|
    (W7_of m ρ c main_v7 (by decide)).trans (v7_eq m ρ c)).trans (ext2 _ (modOf C W B) fun a b => ?_)
  refine (first_at (A := fun i j => mm 2048 (fun a b => silu (if a < 8 then C a b else 0)) W i j + B 1 j)
    (fun a b => congrFun (wide m ρ c hC hW hB) (ix2 a b)) a b).trans ?_
  simp only [modOf, mm, if_pos a.isLt]

include hC in
theorem turned (a : Fin 2048) (b : Fin 128) : (W9 m ρ c main_v10 : FVec Ideal S2048x128 .f32) (ix2 a b) = if b.1 < 8 then silu (C b a) else 0 := by
  refine (congrFun ((W9_of m ρ c main_v10 (by decide)).trans <| (W8_of m ρ c main_v10 (by decide)).trans (v10_pad m ρ c)) (ix2 a b)).trans
    ((padT_at (A := fun a b => silu (if a < 8 then C a b else 0)) (fun a b => turn_at (A := fun a b => silu (if a < 8 then C a b else 0))
      (fun a b => (congrFun (W5_of m ρ c main_v1 (by decide)) (ix2 a b)).trans (act4 m ρ c hC a b)) a b) a b).trans ?_)
  split_ifs <;> rfl

include hC hD in
theorem out1 : (W10 m ρ c main_v12 : FVec Ideal S2048x3072 .f32) = fun i => gradOf C D (i 0) (i 1) :=
  ((W10_arr m ρ c 2).trans (arr2 (A := fun a b => if b < 8 then silu (C b a) else 0) (B := fun a b => if a < 8 then D a b else 0) (V9 m ρ) c (turned m ρ c hC)
    (fun a b => (congrFun (v11_pad m ρ c) (ix2 a b)).trans (padD_at hD a b)))).trans
    (funext fun i => sum_first (fun k => silu (C k (i 0))) (fun k => D k (i 1)))

end Cert.KernelAdaIdeal.Ada

namespace Cert.ReferenceAdaIdeal.Ada

open Idealize.ShloMosaic Idealize.ShloMosaic.TcCoe Idealize.SL.Sem
open Cert.ReferenceAdaIdeal Cert.ReferenceAdaIdeal.Gen Cert.Ada Cert.Mat

/-- The conditioning through its logistic. -/
def siluR (X : FVec Ideal S8x2048 .f32) : FVec Ideal S8x2048 .f32 :=
  mulf X (Host.divf (broadcastInDim S8x2048 ![] bcast_S_S8x2048 (constant S_ .f32 0x3F800000#32))
    (addf (broadcastInDim S8x2048 ![] bcast_S_S8x2048 (constant S_ .f32 0x3F800000#32)) (Host.exp (Host.negf X))))
def modR (X : FVec Ideal S8x2048 .f32) (Y : FVec Ideal S2x2048x3072 .f32) (Z : FVec Ideal S2x3072 .f32) : FVec Ideal S8x3072 .f32 :=
  addf (Host.dotGeneral dot_S8x2048_S2048x3072_S8x3072_1_0_0_1_n_n none X
      (shapeCast S2048x3072 (extractStridedSlice S1x2048x3072 ![1, 0, 0] Y slices_S2x2048x3072_S1x2048x3072_1_0_0) shapeCasts_S1x2048x3072_S2048x3072))
    (broadcastInDim S8x3072 ![0, 1] bcast_S1x3072_S8x3072_0_1 (broadcastInDim S1x3072 ![1] bcast_S3072_S1x3072_1
      (shapeCast S3072 (extractStridedSlice S1x3072 ![1, 0] Z slices_S2x3072_S1x3072_1_0) shapeCasts_S1x3072_S3072)))
def gradR (X : FVec Ideal S8x2048 .f32) (Y : FVec Ideal S8x3072 .f32) : FVec Ideal S2048x3072 .f32 :=
  transpose S2048x3072 [1, 0] (Host.dotGeneral dot_S8x3072_S8x2048_S3072x2048_0_0_1_1_n_n none Y X) transposes_S3072x2048_S2048x3072_1_0

variable {C W B D : ℕ → ℕ → EReal} {X : FVec Ideal S8x2048 .f32}

theorem siluR_at (h : ∀ a b, X (ix2 a b) = C a b) (a : Fin 8) (b : Fin 2048) : siluR X (ix2 a b) = silu (C a b) := by
  unfold siluR; pointwise [h, silu]
theorem modR_at {Y : FVec Ideal S2x2048x3072 .f32} {Z : FVec Ideal S2x3072 .f32} (h : ∀ a b, X (ix2 a b) = silu (C a b))
    (hY : ∀ (a : Fin 2048) (b : Fin 3072), Y (ix3 1 a b) = W a b) (hZ : ∀ a b, Z (ix2 a b) = B a b) (a : Fin 8) (b : Fin 3072) : modR X Y Z (ix2 a b) = modOf C W B a b := by
  unfold modR; pointwise [h, hY, hZ, modOf, mm]
theorem gradR_at {Y : FVec Ideal S8x3072 .f32} (h : ∀ a b, X (ix2 a b) = silu (C a b)) (hY : ∀ a b, Y (ix2 a b) = D a b) (a : Fin 2048) (b : Fin 3072) :
    gradR X Y (ix2 a b) = gradOf C D a b := by
  unfold gradR; pointwise [h, hY, gradOf]
  exact Finset.sum_congr rfl fun k _ => mul_comm _ _

end Cert.ReferenceAdaIdeal.Ada

namespace Cert.Ada

open Idealize.ShloMosaic Idealize.ShloMosaic.TcCoe Idealize.SL.Sem
open Cert.Mat

/-- The second layer of the weights, by row and column. -/
def layer (X : FVec Ideal (⟨3, ![2, 2048, 3072]⟩ : Shape) .f32) (a b : ℕ) : EReal := valOf (m := 2048) (n := 3072) (fun i => X (ix3 1 (i 0) (i 1))) a b
theorem layer_at (X : FVec Ideal (⟨3, ![2, 2048, 3072]⟩ : Shape) .f32) (a : Fin 2048) (b : Fin 3072) : X (ix3 1 a b) = layer X a b :=
  valOf_at (m := 2048) (n := 3072) (fun i => X (ix3 1 (i 0) (i 1))) a b

theorem algebraic : Cert.algebraic_KernelAdaIdeal_ReferenceAdaIdeal := by
  intro m ρ m' ρ' _ hag
  let C (c : Dev Cert.KernelAdaIdeal.nD) : ℕ → ℕ → EReal := valOf (m := 8) (n := 2048) (m ((c.tc : Thread Cert.KernelAdaIdeal.nD Cert.KernelAdaIdeal.τ).loc Cert.KernelAdaIdeal.main_arg0))
  let W (c : Dev Cert.KernelAdaIdeal.nD) : ℕ → ℕ → EReal := layer (m ((c.tc : Thread Cert.KernelAdaIdeal.nD Cert.KernelAdaIdeal.τ).loc Cert.KernelAdaIdeal.main_arg1))
  let B (c : Dev Cert.KernelAdaIdeal.nD) : ℕ → ℕ → EReal := valOf (m := 2) (n := 3072) (m ((c.tc : Thread Cert.KernelAdaIdeal.nD Cert.KernelAdaIdeal.τ).loc Cert.KernelAdaIdeal.main_arg2))
  let D (c : Dev Cert.KernelAdaIdeal.nD) : ℕ → ℕ → EReal := valOf (m := 8) (n := 3072) (m ((c.tc : Thread Cert.KernelAdaIdeal.nD Cert.KernelAdaIdeal.τ).loc Cert.KernelAdaIdeal.main_arg3))
  have hC := fun (c : Dev Cert.KernelAdaIdeal.nD) => valOf_at (m := 8) (n := 2048) (m ((c.tc : Thread Cert.KernelAdaIdeal.nD Cert.KernelAdaIdeal.τ).loc Cert.KernelAdaIdeal.main_arg0))
  have hW := fun (c : Dev Cert.KernelAdaIdeal.nD) => layer_at (m ((c.tc : Thread Cert.KernelAdaIdeal.nD Cert.KernelAdaIdeal.τ).loc Cert.KernelAdaIdeal.main_arg1))
  have hB := fun (c : Dev Cert.KernelAdaIdeal.nD) => valOf_at (m := 2) (n := 3072) (m ((c.tc : Thread Cert.KernelAdaIdeal.nD Cert.KernelAdaIdeal.τ).loc Cert.KernelAdaIdeal.main_arg2))
  have hD := fun (c : Dev Cert.KernelAdaIdeal.nD) => valOf_at (m := 8) (n := 3072) (m ((c.tc : Thread Cert.KernelAdaIdeal.nD Cert.KernelAdaIdeal.τ).loc Cert.KernelAdaIdeal.main_arg3))
  refine ⟨fun c => (fun i => modOf (C c) (W c) (B c) (i 0) (i 1) : Vec Ideal Cert.KernelAdaIdeal.S8x3072 .f32),
    fun c => (fun i => gradOf (C c) (D c) (i 0) (i 1) : Vec Ideal Cert.KernelAdaIdeal.S2048x3072 .f32),
    (θ_run _ _ _).mono (fun r h c => ?_) (Cert.KernelAdaIdeal.Ada.run m ρ),
    (θ_run _ _ _).mono (fun r h c => ?_) (Cert.ReferenceAdaIdeal.Value.run m' ρ')⟩
  · obtain ⟨e0, e1, ha⟩ := h c
    exact ⟨e0.trans (Cert.KernelAdaIdeal.Ada.out0 m ρ c (hC c) (hW c) (hB c)), e1.trans (Cert.KernelAdaIdeal.Ada.out1 m ρ c (hC c) (hD c)), ha⟩
  · obtain ⟨e0, e1, ha⟩ := h c
    obtain ⟨a0, a1, a2, a3⟩ := hag c
    have gC := Cert.ReferenceAdaIdeal.Ada.siluR_at (fun (a : Fin 8) (b : Fin 2048) => (congrFun a0 (ix2 a b)).trans (hC c a b))
    exact ⟨e0.trans (ext2 _ (modOf (C c) (W c) (B c)) (Cert.ReferenceAdaIdeal.Ada.modR_at gC
        (fun (a : Fin 2048) (b : Fin 3072) => (congrFun a1 (ix3 1 a b)).trans (hW c a b)) (fun (a : Fin 2) (b : Fin 3072) => (congrFun a2 (ix2 a b)).trans (hB c a b)))),
      e1.trans (ext2 _ (gradOf (C c) (D c)) (Cert.ReferenceAdaIdeal.Ada.gradR_at gC (fun (a : Fin 8) (b : Fin 3072) => (congrFun a3 (ix2 a b)).trans (hD c a b)))), ha⟩

end Cert.Ada
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelFfn
public import proofs.«01_k».proof.Proof.Gen.KernelFfn.Skeleton
public import proofs.«01_k».proof.Proof.Gen.KernelFfn.Launch
public import proofs.«01_k».proof.Proof.Gen.KernelFfn.Points
public import proofs.«01_k».proof.Proof.Gen.KernelFfn.Frame
public import proofs.«01_k».proof.Proof.Gen.KernelFfnIdeal
public import proofs.«01_k».proof.Proof.Gen.KernelFfnIdeal.Skeleton
public import proofs.«01_k».proof.Proof.Gen.KernelFfnIdeal.Launch
public import proofs.«01_k».proof.Proof.Gen.KernelFfnIdeal.Points
public import proofs.«01_k».proof.Proof.Gen.KernelFfnIdeal.Frame
public import proofs.«01_k».proof.Proof.Gen.ReferenceFfnIdeal
public import proofs.«01_k».proof.Proof.Gen.ReferenceFfnIdeal.Run
public import proofs.«01_k».proof.Proof.Gen.KernelFfnX
public import proofs.«01_k».proof.Proof.Gen.KernelFfnX.Skeleton
public import proofs.«01_k».proof.Proof.Gen.KernelFfnX.Launch
public import proofs.«01_k».proof.Proof.Gen.KernelFfnX.Points
public import proofs.«01_k».proof.Proof.Gen.KernelFfnX.Frame
public import proofs.«01_k».proof.Proof.Gen.KernelFfnXIdeal
public import proofs.«01_k».proof.Proof.Gen.KernelFfnXIdeal.Skeleton
public import proofs.«01_k».proof.Proof.Gen.KernelFfnXIdeal.Launch
public import proofs.«01_k».proof.Proof.Gen.KernelFfnXIdeal.Points
public import proofs.«01_k».proof.Proof.Gen.KernelFfnXIdeal.Frame
public import proofs.«01_k».proof.Proof.Gen.KernelFfnXIdeal.Value
public import proofs.«01_k».proof.Proof.Gen.ReferenceFfnXIdeal
public import proofs.«01_k».proof.Proof.Gen.ReferenceFfnXIdeal.Run
public import proofs.«01_k».proof.Proof.Gen.KernelFfnDown
public import proofs.«01_k».proof.Proof.Gen.KernelFfnDown.Skeleton
public import proofs.«01_k».proof.Proof.Gen.KernelFfnDown.Launch
public import proofs.«01_k».proof.Proof.Gen.KernelFfnDown.Points
public import proofs.«01_k».proof.Proof.Gen.KernelFfnDown.Frame
public import proofs.«01_k».proof.Proof.Gen.KernelFfnDownIdeal
public import proofs.«01_k».proof.Proof.Gen.KernelFfnDownIdeal.Skeleton
public import proofs.«01_k».proof.Proof.Gen.KernelFfnDownIdeal.Launch
public import proofs.«01_k».proof.Proof.Gen.KernelFfnDownIdeal.Points
public import proofs.«01_k».proof.Proof.Gen.KernelFfnDownIdeal.Frame
public import proofs.«01_k».proof.Proof.Gen.KernelFfnDownIdeal.Value
public import proofs.«01_k».proof.Proof.Gen.ReferenceFfnDownIdeal
public import proofs.«01_k».proof.Proof.Gen.ReferenceFfnDownIdeal.Run
public import proofs.«01_k».proof.Proof.Gen.KernelIn
public import proofs.«01_k».proof.Proof.Gen.KernelIn.Skeleton
public import proofs.«01_k».proof.Proof.Gen.KernelIn.Launch
public import proofs.«01_k».proof.Proof.Gen.KernelIn.Points
public import proofs.«01_k».proof.Proof.Gen.KernelIn.Frame
public import proofs.«01_k».proof.Proof.Gen.KernelInIdeal
public import proofs.«01_k».proof.Proof.Gen.KernelInIdeal.Skeleton
public import proofs.«01_k».proof.Proof.Gen.KernelInIdeal.Launch
public import proofs.«01_k».proof.Proof.Gen.KernelInIdeal.Points
public import proofs.«01_k».proof.Proof.Gen.KernelInIdeal.Frame
public import proofs.«01_k».proof.Proof.Gen.ReferenceInIdeal
public import proofs.«01_k».proof.Proof.Gen.ReferenceInIdeal.Run
public import proofs.«01_k».proof.Proof.Gen.KernelInX
public import proofs.«01_k».proof.Proof.Gen.KernelInX.Skeleton
public import proofs.«01_k».proof.Proof.Gen.KernelInX.Launch
public import proofs.«01_k».proof.Proof.Gen.KernelInX.Points
public import proofs.«01_k».proof.Proof.Gen.KernelInX.Frame
public import proofs.«01_k».proof.Proof.Gen.KernelInXIdeal
public import proofs.«01_k».proof.Proof.Gen.KernelInXIdeal.Skeleton
public import proofs.«01_k».proof.Proof.Gen.KernelInXIdeal.Launch
public import proofs.«01_k».proof.Proof.Gen.KernelInXIdeal.Points
public import proofs.«01_k».proof.Proof.Gen.KernelInXIdeal.Frame
public import proofs.«01_k».proof.Proof.Gen.KernelInXIdeal.Value
public import proofs.«01_k».proof.Proof.Gen.ReferenceInXIdeal
public import proofs.«01_k».proof.Proof.Gen.ReferenceInXIdeal.Run
public import proofs.«01_k».proof.Proof.Gen.KernelMix
public import proofs.«01_k».proof.Proof.Gen.KernelMix.Skeleton
public import proofs.«01_k».proof.Proof.Gen.KernelMix.Launch
public import proofs.«01_k».proof.Proof.Gen.KernelMix.Points
public import proofs.«01_k».proof.Proof.Gen.KernelMix.Frame
public import proofs.«01_k».proof.Proof.Gen.KernelMixIdeal
public import proofs.«01_k».proof.Proof.Gen.KernelMixIdeal.Skeleton
public import proofs.«01_k».proof.Proof.Gen.KernelMixIdeal.Launch
public import proofs.«01_k».proof.Proof.Gen.KernelMixIdeal.Points
public import proofs.«01_k».proof.Proof.Gen.KernelMixIdeal.Frame
public import proofs.«01_k».proof.Proof.Gen.ReferenceMixIdeal
public import proofs.«01_k».proof.Proof.Gen.ReferenceMixIdeal.Run
public import proofs.«01_k».proof.Proof.Gen.KernelUp
public import proofs.«01_k».proof.Proof.Gen.KernelUp.Skeleton
public import proofs.«01_k».proof.Proof.Gen.KernelUp.Launch
public import proofs.«01_k».proof.Proof.Gen.KernelUp.Points
public import proofs.«01_k».proof.Proof.Gen.KernelUp.Frame
public import proofs.«01_k».proof.Proof.Gen.KernelUpIdeal
public import proofs.«01_k».proof.Proof.Gen.KernelUpIdeal.Skeleton
public import proofs.«01_k».proof.Proof.Gen.KernelUpIdeal.Launch
public import proofs.«01_k».proof.Proof.Gen.KernelUpIdeal.Points
public import proofs.«01_k».proof.Proof.Gen.KernelUpIdeal.Frame
public import proofs.«01_k».proof.Proof.Gen.ReferenceUpIdeal
public import proofs.«01_k».proof.Proof.Gen.ReferenceUpIdeal.Run
public import proofs.«01_k».proof.Proof.Gen.KernelConv
public import proofs.«01_k».proof.Proof.Gen.KernelConv.Skeleton
public import proofs.«01_k».proof.Proof.Gen.KernelConv.Launch
public import proofs.«01_k».proof.Proof.Gen.KernelConv.Points
public import proofs.«01_k».proof.Proof.Gen.KernelConv.Frame
public import proofs.«01_k».proof.Proof.Gen.KernelConvIdeal
public import proofs.«01_k».proof.Proof.Gen.KernelConvIdeal.Skeleton
public import proofs.«01_k».proof.Proof.Gen.KernelConvIdeal.Launch
public import proofs.«01_k».proof.Proof.Gen.KernelConvIdeal.Points
public import proofs.«01_k».proof.Proof.Gen.KernelConvIdeal.Frame
public import proofs.«01_k».proof.Proof.Gen.ReferenceConvIdeal
public import proofs.«01_k».proof.Proof.Gen.KernelNorm
public import proofs.«01_k».proof.Proof.Gen.KernelNorm.Skeleton
public import proofs.«01_k».proof.Proof.Gen.KernelNorm.Launch
public import proofs.«01_k».proof.Proof.Gen.KernelNorm.Points
public import proofs.«01_k».proof.Proof.Gen.KernelNorm.Frame
public import proofs.«01_k».proof.Proof.Gen.KernelNormIdeal
public import proofs.«01_k».proof.Proof.Gen.KernelNormIdeal.Skeleton
public import proofs.«01_k».proof.Proof.Gen.KernelNormIdeal.Launch
public import proofs.«01_k».proof.Proof.Gen.KernelNormIdeal.Points
public import proofs.«01_k».proof.Proof.Gen.KernelNormIdeal.Frame
public import proofs.«01_k».proof.Proof.Gen.KernelNormIdeal.Value
public import proofs.«01_k».proof.Proof.Gen.ReferenceNormIdeal
public import proofs.«01_k».proof.Proof.Gen.ReferenceNormIdeal.Run
public import proofs.«01_k».proof.Proof.Gen.KernelRope
public import proofs.«01_k».proof.Proof.Gen.KernelRope.Skeleton
public import proofs.«01_k».proof.Proof.Gen.KernelRope.Launch
public import proofs.«01_k».proof.Proof.Gen.KernelRope.Points
public import proofs.«01_k».proof.Proof.Gen.KernelRope.Frame
public import proofs.«01_k».proof.Proof.Gen.KernelRopeIdeal
public import proofs.«01_k».proof.Proof.Gen.KernelRopeIdeal.Skeleton
public import proofs.«01_k».proof.Proof.Gen.KernelRopeIdeal.Launch
public import proofs.«01_k».proof.Proof.Gen.KernelRopeIdeal.Points
public import proofs.«01_k».proof.Proof.Gen.KernelRopeIdeal.Frame
public import proofs.«01_k».proof.Proof.Gen.ReferenceRopeIdeal
public import proofs.«01_k».proof.Proof.Gen.ReferenceRopeIdeal.Run
public import proofs.«01_k».proof.Proof.Gen.KernelGates
public import proofs.«01_k».proof.Proof.Gen.KernelGates.Skeleton
public import proofs.«01_k».proof.Proof.Gen.KernelGates.Launch
public import proofs.«01_k».proof.Proof.Gen.KernelGates.Points
public import proofs.«01_k».proof.Proof.Gen.KernelGates.Frame
public import proofs.«01_k».proof.Proof.Gen.KernelGatesIdeal
public import proofs.«01_k».proof.Proof.Gen.KernelGatesIdeal.Skeleton
public import proofs.«01_k».proof.Proof.Gen.KernelGatesIdeal.Launch
public import proofs.«01_k».proof.Proof.Gen.KernelGatesIdeal.Points
public import proofs.«01_k».proof.Proof.Gen.KernelGatesIdeal.Frame
public import proofs.«01_k».proof.Proof.Gen.KernelGatesIdeal.Value
public import proofs.«01_k».proof.Proof.Gen.ReferenceGatesIdeal
public import proofs.«01_k».proof.Proof.Gen.ReferenceGatesIdeal.Run
public import proofs.«01_k».proof.Proof.Gen.KernelRes
public import proofs.«01_k».proof.Proof.Gen.KernelRes.Skeleton
public import proofs.«01_k».proof.Proof.Gen.KernelRes.Launch
public import proofs.«01_k».proof.Proof.Gen.KernelRes.Points
public import proofs.«01_k».proof.Proof.Gen.KernelRes.Frame
public import proofs.«01_k».proof.Proof.Gen.KernelResIdeal
public import proofs.«01_k».proof.Proof.Gen.KernelResIdeal.Skeleton
public import proofs.«01_k».proof.Proof.Gen.KernelResIdeal.Launch
public import proofs.«01_k».proof.Proof.Gen.KernelResIdeal.Points
public import proofs.«01_k».proof.Proof.Gen.KernelResIdeal.Frame
public import proofs.«01_k».proof.Proof.Gen.ReferenceResIdeal
public import proofs.«01_k».proof.Proof.Gen.ReferenceResIdeal.Run
public import proofs.«01_k».proof.Proof.Gen.KernelResB
public import proofs.«01_k».proof.Proof.Gen.KernelResB.Skeleton
public import proofs.«01_k».proof.Proof.Gen.KernelResB.Launch
public import proofs.«01_k».proof.Proof.Gen.KernelResB.Points
public import proofs.«01_k».proof.Proof.Gen.KernelResB.Frame
public import proofs.«01_k».proof.Proof.Gen.KernelResBIdeal
public import proofs.«01_k».proof.Proof.Gen.KernelResBIdeal.Skeleton
public import proofs.«01_k».proof.Proof.Gen.KernelResBIdeal.Launch
public import proofs.«01_k».proof.Proof.Gen.KernelResBIdeal.Points
public import proofs.«01_k».proof.Proof.Gen.KernelResBIdeal.Frame
public import proofs.«01_k».proof.Proof.Gen.KernelResBIdeal.Value
public import proofs.«01_k».proof.Proof.Gen.ReferenceResBIdeal
public import proofs.«01_k».proof.Proof.Gen.ReferenceResBIdeal.Run
public import proofs.«01_k».proof.Proof.Gen.KernelLoss
public import proofs.«01_k».proof.Proof.Gen.KernelLoss.Skeleton
public import proofs.«01_k».proof.Proof.Gen.KernelLoss.Launch
public import proofs.«01_k».proof.Proof.Gen.KernelLoss.Points
public import proofs.«01_k».proof.Proof.Gen.KernelLoss.Frame
public import proofs.«01_k».proof.Proof.Gen.KernelLossIdeal
public import proofs.«01_k».proof.Proof.Gen.KernelLossIdeal.Skeleton
public import proofs.«01_k».proof.Proof.Gen.KernelLossIdeal.Launch
public import proofs.«01_k».proof.Proof.Gen.KernelLossIdeal.Points
public import proofs.«01_k».proof.Proof.Gen.KernelLossIdeal.Frame
public import proofs.«01_k».proof.Proof.Gen.KernelLossIdeal.Value
public import proofs.«01_k».proof.Proof.Gen.ReferenceLossIdeal
public import proofs.«01_k».proof.Proof.Gen.ReferenceLossIdeal.Run
public import proofs.«01_k».proof.Proof.Gen.KernelAda
public import proofs.«01_k».proof.Proof.Gen.KernelAda.Skeleton
public import proofs.«01_k».proof.Proof.Gen.KernelAda.Launch
public import proofs.«01_k».proof.Proof.Gen.KernelAda.Points
public import proofs.«01_k».proof.Proof.Gen.KernelAda.Frame
public import proofs.«01_k».proof.Proof.Gen.KernelAdaIdeal
public import proofs.«01_k».proof.Proof.Gen.KernelAdaIdeal.Skeleton
public import proofs.«01_k».proof.Proof.Gen.KernelAdaIdeal.Launch
public import proofs.«01_k».proof.Proof.Gen.KernelAdaIdeal.Points
public import proofs.«01_k».proof.Proof.Gen.KernelAdaIdeal.Frame
public import proofs.«01_k».proof.Proof.Gen.ReferenceAdaIdeal
public import proofs.«01_k».proof.Proof.Gen.ReferenceAdaIdeal.Run
public import proofs.«01_k».proof.Proof.Gen.Pre_finite
public import proofs.«01_k».proof.Proof.Gen.Pre_finite_ffn
public import proofs.«01_k».proof.Proof.Gen.Pre_finite_conv
public import proofs.«01_k».proof.Proof.Gen.Pre_finite_gates
public import proofs.«01_k».proof.Proof.Attn.Final
public import proofs.«01_k».proof.Proof.Ffn.Final
public import proofs.«01_k».proof.Proof.FfnX.Arr
public import proofs.«01_k».proof.Proof.FfnDown.Arr
public import proofs.«01_k».proof.Proof.In.Final
public import proofs.«01_k».proof.Proof.InX.Arr
public import proofs.«01_k».proof.Proof.Mix.Final
public import proofs.«01_k».proof.Proof.Up.Final
public import proofs.«01_k».proof.Proof.Conv.Final
public import proofs.«01_k».proof.Proof.Norm.Final
public import proofs.«01_k».proof.Proof.Rope.Final
public import proofs.«01_k».proof.Proof.Gates.Final
public import proofs.«01_k».proof.Proof.Res.Final
public import proofs.«01_k».proof.Proof.ResB.Final
public import proofs.«01_k».proof.Proof.Loss.Final
public import proofs.«01_k».proof.Proof.Ada.Final
public import Idealize.ShloMosaic.Adequacy
public import Idealize.ShloMosaic.Init

@[expose] public section

noncomputable section

namespace Cert.Proof

open Idealize.ShloMosaic Idealize.SL.Sem Cert.Kernel

/-- This reference leaves its arguments as they were. -/
theorem frame_ReferenceIdeal : Cert.quiescent_ReferenceIdeal := fun m ρ _ => (θ_run Cert.ReferenceIdeal.defs _ _).mono (fun r h => ⟨fun c => (h c).2.2.2.2,
    Idealize.ShloMosaic.sem_eq_zero_of_no_sems (by decide) r.2⟩) (Cert.ReferenceIdeal.Value.run m ρ)

/-- This reference leaves its arguments as they were. -/
theorem frame_ReferenceFfnIdeal : Cert.quiescent_ReferenceFfnIdeal := fun m ρ _ => (θ_run Cert.ReferenceFfnIdeal.defs _ _).mono (fun r h => ⟨fun c => (h c).2.2.2.2,
    Idealize.ShloMosaic.sem_eq_zero_of_no_sems (by decide) r.2⟩) (Cert.ReferenceFfnIdeal.Value.run m ρ)

/-- This reference leaves its arguments as they were. -/
theorem frame_ReferenceFfnXIdeal : Cert.quiescent_ReferenceFfnXIdeal := fun m ρ _ => (θ_run Cert.ReferenceFfnXIdeal.defs _ _).mono (fun r h => ⟨fun c => (h c).2,
    Idealize.ShloMosaic.sem_eq_zero_of_no_sems (by decide) r.2⟩) (Cert.ReferenceFfnXIdeal.Value.run m ρ)

/-- This reference leaves its arguments as they were. -/
theorem frame_ReferenceFfnDownIdeal : Cert.quiescent_ReferenceFfnDownIdeal := fun m ρ _ => (θ_run Cert.ReferenceFfnDownIdeal.defs _ _).mono (fun r h => ⟨fun c => (h c).2,
    Idealize.ShloMosaic.sem_eq_zero_of_no_sems (by decide) r.2⟩) (Cert.ReferenceFfnDownIdeal.Value.run m ρ)

/-- This reference leaves its arguments as they were. -/
theorem frame_ReferenceInIdeal : Cert.quiescent_ReferenceInIdeal := fun m ρ _ => (θ_run Cert.ReferenceInIdeal.defs _ _).mono (fun r h => ⟨fun c => (h c).2.2.2,
    Idealize.ShloMosaic.sem_eq_zero_of_no_sems (by decide) r.2⟩) (Cert.ReferenceInIdeal.Value.run m ρ)

/-- This reference leaves its arguments as they were. -/
theorem frame_ReferenceInXIdeal : Cert.quiescent_ReferenceInXIdeal := fun m ρ _ => (θ_run Cert.ReferenceInXIdeal.defs _ _).mono (fun r h => ⟨fun c => (h c).2,
    Idealize.ShloMosaic.sem_eq_zero_of_no_sems (by decide) r.2⟩) (Cert.ReferenceInXIdeal.Value.run m ρ)

/-- This reference leaves its arguments as they were. -/
theorem frame_ReferenceMixIdeal : Cert.quiescent_ReferenceMixIdeal := fun m ρ _ => (θ_run Cert.ReferenceMixIdeal.defs _ _).mono (fun r h => ⟨fun c => (h c).2.2.2.2.2.2.2.2,
    Idealize.ShloMosaic.sem_eq_zero_of_no_sems (by decide) r.2⟩) (Cert.ReferenceMixIdeal.Value.run m ρ)

/-- This reference leaves its arguments as they were. -/
theorem frame_ReferenceUpIdeal : Cert.quiescent_ReferenceUpIdeal := fun m ρ _ => (θ_run Cert.ReferenceUpIdeal.defs _ _).mono (fun r h => ⟨fun c => (h c).2.2.2.2.2.2,
    Idealize.ShloMosaic.sem_eq_zero_of_no_sems (by decide) r.2⟩) (Cert.ReferenceUpIdeal.Value.run m ρ)

/-- This reference leaves its arguments as they were. -/
theorem frame_ReferenceConvIdeal : Cert.quiescent_ReferenceConvIdeal := fun m ρ _ => (θ_run Cert.ReferenceConvIdeal.defs _ _).mono (fun r h => ⟨fun c => (h c).2.2.2,
    Idealize.ShloMosaic.sem_eq_zero_of_no_sems (by decide) r.2⟩) (Cert.ReferenceConvIdeal.Conv.run m ρ)

/-- This reference leaves its arguments as they were. -/
theorem frame_ReferenceNormIdeal : Cert.quiescent_ReferenceNormIdeal := fun m ρ _ => (θ_run Cert.ReferenceNormIdeal.defs _ _).mono (fun r h => ⟨fun c => (h c).2.2.2.2,
    Idealize.ShloMosaic.sem_eq_zero_of_no_sems (by decide) r.2⟩) (Cert.ReferenceNormIdeal.Value.run m ρ)

/-- This reference leaves its arguments as they were. -/
theorem frame_ReferenceRopeIdeal : Cert.quiescent_ReferenceRopeIdeal := fun m ρ _ => (θ_run Cert.ReferenceRopeIdeal.defs _ _).mono (fun r h => ⟨fun c => (h c).2.2.2.2.2,
    Idealize.ShloMosaic.sem_eq_zero_of_no_sems (by decide) r.2⟩) (Cert.ReferenceRopeIdeal.Value.run m ρ)

/-- This reference leaves its arguments as they were. -/
theorem frame_ReferenceGatesIdeal : Cert.quiescent_ReferenceGatesIdeal := fun m ρ _ => (θ_run Cert.ReferenceGatesIdeal.defs _ _).mono (fun r h => ⟨fun c => (h c).2.2.2,
    Idealize.ShloMosaic.sem_eq_zero_of_no_sems (by decide) r.2⟩) (Cert.ReferenceGatesIdeal.Value.run m ρ)

/-- This reference leaves its arguments as they were. -/
theorem frame_ReferenceResIdeal : Cert.quiescent_ReferenceResIdeal := fun m ρ _ => (θ_run Cert.ReferenceResIdeal.defs _ _).mono (fun r h => ⟨fun c => (h c).2.2,
    Idealize.ShloMosaic.sem_eq_zero_of_no_sems (by decide) r.2⟩) (Cert.ReferenceResIdeal.Value.run m ρ)

/-- This reference leaves its arguments as they were. -/
theorem frame_ReferenceResBIdeal : Cert.quiescent_ReferenceResBIdeal := fun m ρ _ => (θ_run Cert.ReferenceResBIdeal.defs _ _).mono (fun r h => ⟨fun c => (h c).2.2,
    Idealize.ShloMosaic.sem_eq_zero_of_no_sems (by decide) r.2⟩) (Cert.ReferenceResBIdeal.Value.run m ρ)

/-- This reference leaves its arguments as they were. -/
theorem frame_ReferenceLossIdeal : Cert.quiescent_ReferenceLossIdeal := fun m ρ _ => (θ_run Cert.ReferenceLossIdeal.defs _ _).mono (fun r h => ⟨fun c => (h c).2.2.2,
    Idealize.ShloMosaic.sem_eq_zero_of_no_sems (by decide) r.2⟩) (Cert.ReferenceLossIdeal.Value.run m ρ)

/-- This reference leaves its arguments as they were. -/
theorem frame_ReferenceAdaIdeal : Cert.quiescent_ReferenceAdaIdeal := fun m ρ _ => (θ_run Cert.ReferenceAdaIdeal.defs _ _).mono (fun r h => ⟨fun c => (h c).2.2,
    Idealize.ShloMosaic.sem_eq_zero_of_no_sems (by decide) r.2⟩) (Cert.ReferenceAdaIdeal.Value.run m ρ)

theorem claim : Cert.Claim := ⟨Cert.Kernel.Gen.facts, Cert.KernelIdeal.Gen.facts, Cert.ReferenceIdeal.Gen.facts, Cert.KernelFfn.Gen.facts, Cert.KernelFfnIdeal.Gen.facts, Cert.ReferenceFfnIdeal.Gen.facts, Cert.KernelFfnX.Gen.facts, Cert.KernelFfnXIdeal.Gen.facts, Cert.ReferenceFfnXIdeal.Gen.facts, Cert.KernelFfnDown.Gen.facts, Cert.KernelFfnDownIdeal.Gen.facts, Cert.ReferenceFfnDownIdeal.Gen.facts, Cert.KernelIn.Gen.facts, Cert.KernelInIdeal.Gen.facts, Cert.ReferenceInIdeal.Gen.facts, Cert.KernelInX.Gen.facts, Cert.KernelInXIdeal.Gen.facts, Cert.ReferenceInXIdeal.Gen.facts, Cert.KernelMix.Gen.facts, Cert.KernelMixIdeal.Gen.facts, Cert.ReferenceMixIdeal.Gen.facts, Cert.KernelUp.Gen.facts, Cert.KernelUpIdeal.Gen.facts, Cert.ReferenceUpIdeal.Gen.facts, Cert.KernelConv.Gen.facts, Cert.KernelConvIdeal.Gen.facts, Cert.ReferenceConvIdeal.Gen.facts, Cert.KernelNorm.Gen.facts, Cert.KernelNormIdeal.Gen.facts, Cert.ReferenceNormIdeal.Gen.facts, Cert.KernelRope.Gen.facts, Cert.KernelRopeIdeal.Gen.facts, Cert.ReferenceRopeIdeal.Gen.facts, Cert.KernelGates.Gen.facts, Cert.KernelGatesIdeal.Gen.facts, Cert.ReferenceGatesIdeal.Gen.facts, Cert.KernelRes.Gen.facts, Cert.KernelResIdeal.Gen.facts, Cert.ReferenceResIdeal.Gen.facts, Cert.KernelResB.Gen.facts, Cert.KernelResBIdeal.Gen.facts, Cert.ReferenceResBIdeal.Gen.facts, Cert.KernelLoss.Gen.facts, Cert.KernelLossIdeal.Gen.facts, Cert.ReferenceLossIdeal.Gen.facts, Cert.KernelAda.Gen.facts, Cert.KernelAdaIdeal.Gen.facts, Cert.ReferenceAdaIdeal.Gen.facts, Cert.Pre_finite.Gen.facts, Cert.Pre_finite_ffn.Gen.facts, Cert.Pre_finite_conv.Gen.facts, Cert.Pre_finite_gates.Gen.facts,
  fun m ρ _ => Cert.Kernel.Gen.frame m ρ,
  fun m ρ _ => Cert.KernelIdeal.Gen.frame m ρ,
  fun m ρ _ => Cert.KernelIdeal.Gen.frame m ρ,
  frame_ReferenceIdeal,
  fun m ρ _ => frame_ReferenceIdeal m ρ trivial,
  fun m ρ _ => Cert.KernelFfn.Gen.frame m ρ,
  fun m ρ _ => Cert.KernelFfnIdeal.Gen.frame m ρ,
  fun m ρ _ => Cert.KernelFfnIdeal.Gen.frame m ρ,
  frame_ReferenceFfnIdeal,
  fun m ρ _ => frame_ReferenceFfnIdeal m ρ trivial,
  fun m ρ _ => Cert.KernelFfnX.Gen.frame m ρ,
  fun m ρ _ => Cert.KernelFfnXIdeal.Gen.frame m ρ,
  frame_ReferenceFfnXIdeal,
  fun m ρ _ => Cert.KernelFfnDown.Gen.frame m ρ,
  fun m ρ _ => Cert.KernelFfnDownIdeal.Gen.frame m ρ,
  frame_ReferenceFfnDownIdeal,
  fun m ρ _ => Cert.KernelIn.Gen.frame m ρ,
  fun m ρ _ => Cert.KernelInIdeal.Gen.frame m ρ,
  frame_ReferenceInIdeal,
  fun m ρ _ => Cert.KernelInX.Gen.frame m ρ,
  fun m ρ _ => Cert.KernelInXIdeal.Gen.frame m ρ,
  frame_ReferenceInXIdeal,
  fun m ρ _ => Cert.KernelMix.Gen.frame m ρ,
  fun m ρ _ => Cert.KernelMixIdeal.Gen.frame m ρ,
  frame_ReferenceMixIdeal,
  fun m ρ _ => Cert.KernelUp.Gen.frame m ρ,
  fun m ρ _ => Cert.KernelUpIdeal.Gen.frame m ρ,
  frame_ReferenceUpIdeal,
  fun m ρ _ => Cert.KernelConv.Gen.frame m ρ,
  fun m ρ _ => Cert.KernelConvIdeal.Gen.frame m ρ,
  fun m ρ _ => Cert.KernelConvIdeal.Gen.frame m ρ,
  frame_ReferenceConvIdeal,
  fun m ρ _ => frame_ReferenceConvIdeal m ρ trivial,
  fun m ρ _ => Cert.KernelNorm.Gen.frame m ρ,
  fun m ρ _ => Cert.KernelNormIdeal.Gen.frame m ρ,
  frame_ReferenceNormIdeal,
  fun m ρ _ => Cert.KernelRope.Gen.frame m ρ,
  fun m ρ _ => Cert.KernelRopeIdeal.Gen.frame m ρ,
  frame_ReferenceRopeIdeal,
  fun m ρ _ => Cert.KernelGates.Gen.frame m ρ,
  fun m ρ _ => Cert.KernelGatesIdeal.Gen.frame m ρ,
  fun m ρ _ => Cert.KernelGatesIdeal.Gen.frame m ρ,
  frame_ReferenceGatesIdeal,
  fun m ρ _ => frame_ReferenceGatesIdeal m ρ trivial,
  fun m ρ _ => Cert.KernelRes.Gen.frame m ρ,
  fun m ρ _ => Cert.KernelResIdeal.Gen.frame m ρ,
  frame_ReferenceResIdeal,
  fun m ρ _ => Cert.KernelResB.Gen.frame m ρ,
  fun m ρ _ => Cert.KernelResBIdeal.Gen.frame m ρ,
  frame_ReferenceResBIdeal,
  fun m ρ _ => Cert.KernelLoss.Gen.frame m ρ,
  fun m ρ _ => Cert.KernelLossIdeal.Gen.frame m ρ,
  frame_ReferenceLossIdeal,
  fun m ρ _ => Cert.KernelAda.Gen.frame m ρ,
  fun m ρ _ => Cert.KernelAdaIdeal.Gen.frame m ρ,
  frame_ReferenceAdaIdeal,
  trivial,
  Cert.Attn.algebraic,
  trivial,
  Cert.Ffn.algebraic,
  trivial,
  Cert.KernelFfnXIdeal.X.algebraic,
  trivial,
  Cert.KernelFfnDownIdeal.Down.algebraic,
  trivial,
  Cert.In.algebraic,
  trivial,
  Cert.KernelInXIdeal.X.algebraic,
  trivial,
  Cert.Mix.algebraic,
  trivial,
  Cert.Up.algebraic,
  trivial,
  Cert.Conv.algebraic,
  trivial,
  Cert.Norm.algebraic,
  trivial,
  Cert.Rope.algebraic,
  trivial,
  Cert.Gates.algebraic,
  trivial,
  Cert.Res.algebraic,
  trivial,
  Cert.ResB.algebraic,
  trivial,
  Cert.Loss.algebraic,
  trivial,
  Cert.Ada.algebraic⟩

end Cert.Proof

end
